-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))).1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))).2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))).2.2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))).2.2.2 = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))).1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))).2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))).2.2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))).2.2.2 = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_v11) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v87_0)) (v1 : (c : Dev Cert.Kernel19Ideal.nD) → Buf (Elt Ideal) ((c.tc : Thread Cert.Kernel19Ideal.nD Cert.Kernel19Ideal.τ).loc Cert.Kernel19Ideal.main_v87_1)) (v2 : (c : Dev Cert.Kernel19Ideal.nD) → Buf (Elt Ideal) ((c.tc : Thread Cert.Kernel19Ideal.nD Cert.Kernel19Ideal.τ).loc Cert.Kernel19Ideal.main_v87_2)) (v3 : (c : Dev Cert.Kernel19Ideal.nD) → Buf (Elt Ideal) ((c.tc : Thread Cert.Kernel19Ideal.nD Cert.Kernel19Ideal.τ).loc Cert.Kernel19Ideal.main_v87_3)) (v4 : (c : Dev Cert.Kernel19Ideal.nD) → Buf (Elt Ideal) ((c.tc : Thread Cert.Kernel19Ideal.nD Cert.Kernel19Ideal.τ).loc Cert.Kernel19Ideal.main_v87_4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v87_0) = v0 c
          ∧ r.2.mem ((c.tc : Thread Cert.Kernel19Ideal.nD Cert.Kernel19Ideal.τ).loc Cert.Kernel19Ideal.main_v87_1) = v1 c
          ∧ r.2.mem ((c.tc : Thread Cert.Kernel19Ideal.nD Cert.Kernel19Ideal.τ).loc Cert.Kernel19Ideal.main_v87_2) = v2 c
          ∧ r.2.mem ((c.tc : Thread Cert.Kernel19Ideal.nD Cert.Kernel19Ideal.τ).loc Cert.Kernel19Ideal.main_v87_3) = v3 c
          ∧ r.2.mem ((c.tc : Thread Cert.Kernel19Ideal.nD Cert.Kernel19Ideal.τ).loc Cert.Kernel19Ideal.main_v87_4) = v4 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v114) = v0 c
          ∧ r.2.mem ((c.tc : Thread Cert.Reference19Ideal.nD Cert.Reference19Ideal.τ).loc Cert.Reference19Ideal.main_v115) = v1 c
          ∧ r.2.mem ((c.tc : Thread Cert.Reference19Ideal.nD Cert.Reference19Ideal.τ).loc Cert.Reference19Ideal.main_v116) = v2 c
          ∧ r.2.mem ((c.tc : Thread Cert.Reference19Ideal.nD Cert.Reference19Ideal.τ).loc Cert.Reference19Ideal.main_v104) = v3 c
          ∧ r.2.mem ((c.tc : Thread Cert.Reference19Ideal.nD Cert.Reference19Ideal.τ).loc Cert.Reference19Ideal.main_v102) = v4 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v31) = v0 c
          ∧ r.2.mem ((c.tc : Thread Cert.Reference20Ideal.nD Cert.Reference20Ideal.τ).loc Cert.Reference20Ideal.main_v32) = v1 c
          ∧ r.2.mem ((c.tc : Thread Cert.Reference20Ideal.nD Cert.Reference20Ideal.τ).loc Cert.Reference20Ideal.main_v33) = v2 c
          ∧ r.2.mem ((c.tc : Thread Cert.Reference20Ideal.nD Cert.Reference20Ideal.τ).loc Cert.Reference20Ideal.main_v34) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v12) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v11) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts) (hPre_finite7 : Cert.Pre_finite7.Facts) (hPre_finite19 : Cert.Pre_finite19.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite19 (hKernel19Ideal := hKernel19Ideal) (hReference19Ideal := hReference19Ideal) (hPre_finite19 := hPre_finite19)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S2048x6144 : Shape := ⟨2, ![2048, 6144]⟩
abbrev S2048x1024 : Shape := ⟨2, ![2048, 1024]⟩
abbrev S_ : Shape := ⟨0, ![]⟩

class Facts : Prop where
  bcast_S_S2048x6144 : S_.BroadcastsInDim S2048x6144 (![] : Fin 0 → Fin S2048x6144.rank)
  bcast_S_S2048x1024 : S_.BroadcastsInDim S2048x1024 (![] : Fin 0 → Fin S2048x1024.rank)

variable [Facts]

def fn {F : FTy → Type} [FloatOps F] (main_arg0 : FVec F S2048x6144 .bf16) (main_arg1 : FVec F S2048x1024 .bf16) : IVec S2048x6144 1 × IVec S2048x1024 1 :=
  let main_v0 : FVec F S2048x6144 .bf16 := Host.absf main_arg0
  let main_cst : FVec F S_ .bf16 := constant S_ .bf16 0x7F80#16
  let main_v1 : FVec F S2048x6144 .bf16 := broadcastInDim S2048x6144 ![] bcast_S_S2048x6144 main_cst
  let main_v2 : IVec S2048x6144 1 := cmpf .olt main_v0 main_v1
  let main_v3 : FVec F S2048x1024 .bf16 := Host.absf main_arg1
  let main_cst_0 : FVec F S_ .bf16 := constant S_ .bf16 0x7F80#16
  let main_v4 : FVec F S2048x1024 .bf16 := broadcastInDim S2048x1024 ![] bcast_S_S2048x1024 main_cst_0
  let main_v5 : IVec S2048x1024 1 := cmpf .olt main_v3 main_v4
  (main_v2, main_v5)
-- ==== Pre_finite19.lean ====
abbrev S2048x6144 : Shape := ⟨2, ![2048, 6144]⟩
abbrev S8x2048x1 : Shape := ⟨3, ![8, 2048, 1]⟩
abbrev S8x1x2048 : Shape := ⟨3, ![8, 1, 2048]⟩
abbrev S2048x1024 : Shape := ⟨2, ![2048, 1024]⟩
abbrev S_ : Shape := ⟨0, ![]⟩

class Facts : Prop where
  bcast_S_S2048x6144 : S_.BroadcastsInDim S2048x6144 (![] : Fin 0 → Fin S2048x6144.rank)
  bcast_S_S8x2048x1 : S_.BroadcastsInDim S8x2048x1 (![] : Fin 0 → Fin S8x2048x1.rank)
  bcast_S_S8x1x2048 : S_.BroadcastsInDim S8x1x2048 (![] : Fin 0 → Fin S8x1x2048.rank)
  bcast_S_S2048x1024 : S_.BroadcastsInDim S2048x1024 (![] : Fin 0 → Fin S2048x1024.rank)

variable [Facts]

def fn {F : FTy → Type} [FloatOps F] (main_arg0 : FVec F S2048x6144 .bf16) (main_arg1 : FVec F S8x2048x1 .f32) (main_arg2 : FVec F S8x1x2048 .f32) (main_arg3 : FVec F S2048x1024 .bf16) : IVec S2048x6144 1 × IVec S8x2048x1 1 × IVec S8x1x2048 1 × IVec S2048x1024 1 :=
  let main_v0 : FVec F S2048x6144 .bf16 := Host.absf main_arg0
  let main_cst : FVec F S_ .bf16 := constant S_ .bf16 0x7F80#16
  let main_v1 : FVec F S2048x6144 .bf16 := broadcastInDim S2048x6144 ![] bcast_S_S2048x6144 main_cst
  let main_v2 : IVec S2048x6144 1 := cmpf .olt main_v0 main_v1
  let main_v3 : FVec F S8x2048x1 .f32 := Host.absf main_arg1
  let main_cst_0 : FVec F S_ .f32 := constant S_ .f32 0x7F800000#32
  let main_v4 : FVec F S8x2048x1 .f32 := broadcastInDim S8x2048x1 ![] bcast_S_S8x2048x1 main_cst_0
  let main_v5 : IVec S8x2048x1 1 := cmpf .olt main_v3 main_v4
  let main_v6 : FVec F S8x1x2048 .f32 := Host.absf main_arg2
  let main_cst_1 : FVec F S_ .f32 := constant S_ .f32 0x7F800000#32
  let main_v7 : FVec F S8x1x2048 .f32 := broadcastInDim S8x1x2048 ![] bcast_S_S8x1x2048 main_cst_1
  let main_v8 : IVec S8x1x2048 1 := cmpf .olt main_v6 main_v7
  let main_v9 : FVec F S2048x1024 .bf16 := Host.absf main_arg3
  let main_cst_2 : FVec F S_ .bf16 := constant S_ .bf16 0x7F80#16
  let main_v10 : FVec F S2048x1024 .bf16 := broadcastInDim S2048x1024 ![] bcast_S_S2048x1024 main_cst_2
  let main_v11 : IVec S2048x1024 1 := cmpf .olt main_v9 main_v10
  (main_v2, main_v5, main_v8, main_v11)
-- ==== Pre_finite7.lean ====
abbrev S2048x2048 : Shape := ⟨2, ![2048, 2048]⟩
abbrev S5632x2048 : Shape := ⟨2, ![5632, 2048]⟩
abbrev S2048x11264 : Shape := ⟨2, ![2048, 11264]⟩
abbrev S_ : Shape := ⟨0, ![]⟩

class Facts : Prop where
  bcast_S_S2048x2048 : S_.BroadcastsInDim S2048x2048 (![] : Fin 0 → Fin S2048x2048.rank)
  bcast_S_S5632x2048 : S_.BroadcastsInDim S5632x2048 (![] : Fin 0 → Fin S5632x2048.rank)
  bcast_S_S2048x11264 : S_.BroadcastsInDim S2048x11264 (![] : Fin 0 → Fin S2048x11264.rank)

variable [Facts]

def fn {F : FTy → Type} [FloatOps F] (main_arg0 : FVec F S2048x2048 .bf16) (main_arg1 : FVec F S5632x2048 .bf16) (main_arg2 : FVec F S2048x11264 .f32) : IVec S2048x2048 1 × IVec S5632x2048 1 × IVec S2048x11264 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  let main_v3 : FVec F S5632x2048 .bf16 := Host.absf main_arg1
  let main_cst_0 : FVec F S_ .bf16 := constant S_ .bf16 0x7F80#16
  let main_v4 : FVec F S5632x2048 .bf16 := broadcastInDim S5632x2048 ![] bcast_S_S5632x2048 main_cst_0
  let main_v5 : IVec S5632x2048 1 := cmpf .olt main_v3 main_v4
  let main_v6 : FVec F S2048x11264 .f32 := Host.absf main_arg2
  let main_cst_1 : FVec F S_ .f32 := constant S_ .f32 0x7F800000#32
  let main_v7 : FVec F S2048x11264 .f32 := broadcastInDim S2048x11264 ![] bcast_S_S2048x11264 main_cst_1
  let main_v8 : IVec S2048x11264 1 := cmpf .olt main_v6 main_v7
  (main_v2, main_v5, main_v8)
-- ==== Kernel.lean ====
abbrev S2048x6144 : Shape := ⟨2, ![2048, 6144]⟩
abbrev S2048x1024 : Shape := ⟨2, ![2048, 1024]⟩
abbrev S2048x2048 : Shape := ⟨2, ![2048, 2048]⟩
abbrev S1x2048x1024 : Shape := ⟨3, ![1, 2048, 1024]⟩
abbrev S1x2048x8x128 : Shape := ⟨4, ![1, 2048, 8, 128]⟩
abbrev S1x8x2048x128 : Shape := ⟨4, ![1, 8, 2048, 128]⟩
abbrev S1x8x2048x2048 : Shape := ⟨4, ![1, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S8x2048x2048 : Shape := ⟨3, ![8, 2048, 2048]⟩
abbrev S8x2048x3 : Shape := ⟨3, ![8, 2048, 3]⟩
abbrev S8x2048x4 : Shape := ⟨3, ![8, 2048, 4]⟩
abbrev S8x4x2048 : Shape := ⟨3, ![8, 4, 2048]⟩
abbrev S8x4x2048x1 : Shape := ⟨4, ![8, 4, 2048, 1]⟩
abbrev S8x4x2048x128 : Shape := ⟨4, ![8, 4, 2048, 128]⟩
abbrev S512x128 : Shape := ⟨2, ![512, 128]⟩
abbrev S2048x128 : Shape := ⟨2, ![2048, 128]⟩
abbrev S1x4x512x128 : Shape := ⟨4, ![1, 4, 512, 128]⟩
abbrev S512x512 : Shape := ⟨2, ![512, 512]⟩
abbrev S512x1 : Shape := ⟨2, ![512, 1]⟩
abbrev S1x1x512x1 : Shape := ⟨4, ![1, 1, 512, 1]⟩
abbrev S512 : Shape := ⟨1, ![512]⟩

abbrev nBuf : Space → Nat
  | .hbm => 59
  | .vmem => 18
  | .smem => 0
  | _ => 0

abbrev bufTy : (tb : Table) → Fin (tcTables nBuf tb) → BufTy
  | .hbm, ⟨0, _⟩ => ⟨S2048x6144, .bf16⟩
  | .hbm, ⟨1, _⟩ => ⟨S2048x1024, .bf16⟩
  | .hbm, ⟨2, _⟩ => ⟨S2048x6144, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S1x2048x1024, .f32⟩
  | .hbm, ⟨7, _⟩ => ⟨S1x2048x8x128, .f32⟩
  | .hbm, ⟨8, _⟩ => ⟨S1x8x2048x128, .f32⟩
  | .hbm, ⟨9, _⟩ => ⟨S1x2048x1024, .f32⟩
  | .hbm, ⟨10, _⟩ => ⟨S1x2048x8x128, .f32⟩
  | .hbm, ⟨11, _⟩ => ⟨S1x8x2048x128, .f32⟩
  | .hbm, ⟨12, _⟩ => ⟨S1x8x2048x2048, .f32⟩
  | .hbm, ⟨13, _⟩ => ⟨S_, .f32⟩
  | .hbm, ⟨14, _⟩ => ⟨S1x8x2048x2048, .f32⟩
  | .hbm, ⟨15, _⟩ => ⟨S1x8x2048x2048, .f32⟩
  | .hbm, ⟨16, _⟩ => ⟨S2048, .i32⟩
  | .hbm, ⟨17, _⟩ => ⟨S1x2048, .i32⟩
  | .hbm, ⟨18, _⟩ => ⟨S2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S1x8x2048x2048, .f32⟩
  | .hbm, ⟨24, _⟩ => ⟨S1x8x2048x2048, .f32⟩
  | .hbm, ⟨25, _⟩ => ⟨S_, .f32⟩
  | .hbm, ⟨26, _⟩ => ⟨S1x8x2048x2048, .f32⟩
  | .hbm, ⟨27, _⟩ => ⟨S1x8x2048x2048, .f32⟩
  | .hbm, ⟨28, _⟩ => ⟨S1x8x2048x2048, .f32⟩
  | .hbm, ⟨29, _⟩ => ⟨S1x8x2048x2048, .f32⟩
  | .hbm, ⟨30, _⟩ => ⟨S1x8x2048x2048, .i1⟩
  | .hbm, ⟨31, _⟩ => ⟨S1x8x2048x2048, .f32⟩
  | .hbm, ⟨32, _⟩ => ⟨S1x8x2048x2048, .f32⟩
  | .hbm, ⟨33, _⟩ => ⟨S1x8x2048x2048, .f32⟩
  | .hbm, ⟨34, _⟩ => ⟨S1x8x2048x2048, .f32⟩
  | .hbm, ⟨35, _⟩ => ⟨S1x8x2048x2048, .f32⟩
  | .hbm, ⟨36, _⟩ => ⟨S1x8x2048x2048, .f32⟩
  | .hbm, ⟨37, _⟩ => ⟨S1x8x2048x2048, .f32⟩
  | .hbm, ⟨38, _⟩ => ⟨S1x8x2048x2048, .f32⟩
  | .hbm, ⟨39, _⟩ => ⟨S1x8x2048x2048, .f32⟩
  | .hbm, ⟨40, _⟩ => ⟨S_, .f32⟩
  | .hbm, ⟨41, _⟩ => ⟨S_, .f32⟩
  | .hbm, ⟨42, _⟩ => ⟨S1x8x2048x2048, .i1⟩
  | .hbm, ⟨43, _⟩ => ⟨S1x8x2048x2048, .f32⟩
  | .hbm, ⟨44, _⟩ => ⟨S1x8x2048x2048, .f32⟩
  | .hbm, ⟨45, _⟩ => ⟨S_, .f32⟩
  | .hbm, ⟨46, _⟩ => ⟨S_, .f32⟩
  | .hbm, ⟨47, _⟩ => ⟨S1x8x2048x2048, .f32⟩
  | .hbm, ⟨48, _⟩ => ⟨S8x2048x2048, .f32⟩
  | .hbm, ⟨49, _⟩ => ⟨S8x2048x3, .f32⟩
  | .hbm, ⟨50, _⟩ => ⟨S_, .i32⟩
  | .hbm, ⟨51, _⟩ => ⟨S_, .f32⟩
  | .hbm, ⟨52, _⟩ => ⟨S8x2048x4, .f32⟩
  | .hbm, ⟨53, _⟩ => ⟨S8x4x2048, .f32⟩
  | .hbm, ⟨54, _⟩ => ⟨S8x4x2048x1, .f32⟩
  | .hbm, ⟨55, _⟩ => ⟨S8x4x2048x128, .f32⟩
  | .hbm, ⟨56, _⟩ => ⟨S2048x1024, .bf16⟩
  | .hbm, ⟨57, _⟩ => ⟨S2048x1024, .bf16⟩
  | .hbm, ⟨58, _⟩ => ⟨S2048x1024, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | .local _ .vmem, ⟨7, _⟩ => ⟨S512x128, .bf16⟩
  | .local _ .vmem, ⟨8, _⟩ => ⟨S1x4x512x128, .f32⟩
  | .local _ .vmem, ⟨9, _⟩ => ⟨S1x4x512x128, .f32⟩
  | .local _ .vmem, ⟨10, _⟩ => ⟨S512x128, .bf16⟩
  | .local _ .vmem, ⟨11, _⟩ => ⟨S512x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .f32⟩
  | .local _ .vmem, ⟨17, _⟩ => ⟨S2048x128, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v21 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v22 : Ref sig .tc := ⟨.hbm, 44, rfl⟩
abbrev main_call2_cst : Ref sig .tc := ⟨.hbm, 45, rfl⟩
abbrev main_call2_v0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c : Ref sig .tc := ⟨.hbm, 50, rfl⟩
abbrev main_call3_v0 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30_0 : Ref sig .tc := ⟨.hbm, 56, rfl⟩
abbrev main_v30_1 : Ref sig .tc := ⟨.hbm, 57, rfl⟩
abbrev main_v30_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_9 : BitVec 32 := 0#32
  let arg1 : BitVec 32 := BitVec.ofNat 32 (i 1).val
  let v22 : BitVec 32 := Scalar.subi arg1 c0_i32_9
  let c1_i32 : BitVec 32 := 1#32
  let v24 : BitVec 32 := Scalar.divsi v22 c1_i32
  let v25 : BitVec 32 := Scalar.muli v24 c1_i32
  let v26 : BitVec 32 := Scalar.addi c0_i32_9 v25
  let c1_i32_10 : BitVec 32 := 1#32
  ⟨c0_i32_9, v26, c1_i32_10⟩
def k0_mult1 (i : grid0.Coords) (k0_t1 : Fin (k0_t1_loop i).trips) : BitVec 32 :=
  let c0_i32_9 : BitVec 32 := 0#32
  let c1_i32_10 : BitVec 32 := 1#32
  let arg12 : BitVec 32 := Scf.iv c0_i32_9 c1_i32_10 k0_t1
  let c512_i32_47 : BitVec 32 := 512#32
  let v123 : BitVec 32 := Scalar.muli arg12 c512_i32_47
  v123
def k0_off1 (i : grid0.Coords) (k0_t1 : Fin (k0_t1_loop i).trips) : Fin 2 → Nat :=
  let c0_i32_9 : BitVec 32 := 0#32
  let c1_i32_10 : BitVec 32 := 1#32
  let arg12 : BitVec 32 := Scf.iv c0_i32_9 c1_i32_10 k0_t1
  let c512_i32_47 : BitVec 32 := 512#32
  let v123 : BitVec 32 := Scalar.muli arg12 c512_i32_47
  let v124 : BitVec 32 := v123
  let v125 : Index := Scalar.indexCast v124
  let c0_48 : Index := 0#32
  ![v125.toNat, 0]
def k0_off2 (i : grid0.Coords) (k0_t1 : Fin (k0_t1_loop i).trips) : Fin 4 → Nat :=
  let c0_60 : Index := 0#32
  let c0_i32_9 : BitVec 32 := 0#32
  let c1_i32_10 : BitVec 32 := 1#32
  let arg12 : BitVec 32 := Scf.iv c0_i32_9 c1_i32_10 k0_t1
  let v153 : Index := Scalar.indexCast arg12
  let c0_61 : Index := 0#32
  let c0_62 : Index := 0#32
  ![0, v153.toNat, 0, 0]
@[reducible] def k0_t2_loop (i : grid0.Coords) : Scf.Loop 32 :=
  let c0_i32_9 : BitVec 32 := 0#32
  let arg1 : BitVec 32 := BitVec.ofNat 32 (i 1).val
  let v22 : BitVec 32 := Scalar.subi arg1 c0_i32_9
  let c1_i32 : BitVec 32 := 1#32
  let v24 : BitVec 32 := Scalar.divsi v22 c1_i32
  let v25 : BitVec 32 := Scalar.muli v24 c1_i32
  let v26 : BitVec 32 := Scalar.addi c0_i32_9 v25
  let v23 : BitVec 32 := Scalar.addi c0_i32_9 v22
  let c1_i32_11 : BitVec 32 := 1#32
  ⟨v26, v23, c1_i32_11⟩
def k0_mult2 (i : grid0.Coords) (k0_t2 : Fin (k0_t2_loop i).trips) : BitVec 32 :=
  let c0_i32_9 : BitVec 32 := 0#32
  let arg1 : BitVec 32 := BitVec.ofNat 32 (i 1).val
  let v22 : BitVec 32 := Scalar.subi arg1 c0_i32_9
  let c1_i32 : BitVec 32 := 1#32
  let v24 : BitVec 32 := Scalar.divsi v22 c1_i32
  let v25 : BitVec 32 := Scalar.muli v24 c1_i32
  let v26 : BitVec 32 := Scalar.addi c0_i32_9 v25
  let c1_i32_11 : BitVec 32 := 1#32
  let arg12 : BitVec 32 := Scf.iv v26 c1_i32_11 k0_t2
  let c512_i32_47 : BitVec 32 := 512#32
  let v123 : BitVec 32 := Scalar.muli arg12 c512_i32_47
  v123
def k0_off3 (i : grid0.Coords) (k0_t2 : Fin (k0_t2_loop i).trips) : Fin 2 → Nat :=
  let c0_i32_9 : BitVec 32 := 0#32
  let arg1 : BitVec 32 := BitVec.ofNat 32 (i 1).val
  let v22 : BitVec 32 := Scalar.subi arg1 c0_i32_9
  let c1_i32 : BitVec 32 := 1#32
  let v24 : BitVec 32 := Scalar.divsi v22 c1_i32
  let v25 : BitVec 32 := Scalar.muli v24 c1_i32
  let v26 : BitVec 32 := Scalar.addi c0_i32_9 v25
  let c1_i32_11 : BitVec 32 := 1#32
  let arg12 : BitVec 32 := Scf.iv v26 c1_i32_11 k0_t2
  let c512_i32_47 : BitVec 32 := 512#32
  let v123 : BitVec 32 := Scalar.muli arg12 c512_i32_47
  let v124 : BitVec 32 := v123
  let v125 : Index := Scalar.indexCast v124
  let c0_48 : Index := 0#32
  ![v125.toNat, 0]
def k0_off4 (i : grid0.Coords) (k0_t2 : Fin (k0_t2_loop i).trips) : Fin 4 → Nat :=
  let c0_60 : Index := 0#32
  let c0_i32_9 : BitVec 32 := 0#32
  let arg1 : BitVec 32 := BitVec.ofNat 32 (i 1).val
  let v22 : BitVec 32 := Scalar.subi arg1 c0_i32_9
  let c1_i32 : BitVec 32 := 1#32
  let v24 : BitVec 32 := Scalar.divsi v22 c1_i32
  let v25 : BitVec 32 := Scalar.muli v24 c1_i32
  let v26 : BitVec 32 := Scalar.addi c0_i32_9 v25
  let c1_i32_11 : BitVec 32 := 1#32
  let arg12 : BitVec 32 := Scf.iv v26 c1_i32_11 k0_t2
  let v153 : Index := Scalar.indexCast arg12
  let c0_61 : Index := 0#32
  let c0_62 : Index := 0#32
  ![0, v153.toNat, 0, 0]
def k0_mult3 (i : grid0.Coords) : BitVec 32 :=
  let arg1 : BitVec 32 := BitVec.ofNat 32 (i 1).val
  let c512_i32 : BitVec 32 := 512#32
  let v29 : BitVec 32 := Scalar.muli arg1 c512_i32
  v29
def k0_off5 (i : grid0.Coords) : Fin 2 → Nat :=
  let arg1 : BitVec 32 := BitVec.ofNat 32 (i 1).val
  let c512_i32 : BitVec 32 := 512#32
  let v29 : BitVec 32 := Scalar.muli arg1 c512_i32
  let v30 : BitVec 32 := v29
  let v31 : Index := Scalar.indexCast v30
  let c0_12 : Index := 0#32
  ![v31.toNat, 0]
def k0_off6 (i : grid0.Coords) : Fin 4 → Nat :=
  let c0_26 : Index := 0#32
  let arg1 : BitVec 32 := BitVec.ofNat 32 (i 1).val
  let v63 : Index := Scalar.indexCast arg1
  let c0_27 : Index := 0#32
  let c0_28 : Index := 0#32
  ![0, v63.toNat, 0, 0]
def k0_cond2 (i : grid0.Coords) : BitVec 1 :=
  let arg1 : BitVec 32 := BitVec.ofNat 32 (i 1).val
  let c3_i32 : BitVec 32 := 3#32
  let v120 : BitVec 1 := Scalar.cmpi .eq arg1 c3_i32
  let v121 : BitVec 32 := Scalar.extui v120
  let c0_i32_46 : BitVec 32 := 0#32
  let v122 : BitVec 1 := Scalar.cmpi .ne v121 c0_i32_46
  v122

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2048x6144 : Shape := ⟨2, ![2048, 6144]⟩
abbrev S2048x1024 : Shape := ⟨2, ![2048, 1024]⟩
abbrev S2048x3072 : Shape := ⟨2, ![2048, 3072]⟩
abbrev S1x2048x1024 : Shape := ⟨3, ![1, 2048, 1024]⟩
abbrev S1x2048x8x128 : Shape := ⟨4, ![1, 2048, 8, 128]⟩
abbrev S1x8x2048x128 : Shape := ⟨4, ![1, 8, 2048, 128]⟩
abbrev S1x8x2048x2048 : Shape := ⟨4, ![1, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x8x128x2048 : Shape := ⟨4, ![1, 8, 128, 2048]⟩

abbrev nBuf : Space → Nat
  | .hbm => 195
  | .vmem => 0
  | .smem => 0
  | _ => 0

abbrev hbmTy0_0 (i : Nat) : BufTy := match i % 128 with
  | 0 => ⟨S2048x6144, .bf16⟩
  | 1 => ⟨S2048x1024, .bf16⟩
  | 2 => ⟨S2048x6144, .f32⟩
  | 3 => ⟨S2048x3072, .f32⟩
  | 4 => ⟨S2048x1024, .f32⟩
  | 5 => ⟨S2048x1024, .f32⟩
  | 6 => ⟨S2048x1024, .f32⟩
  | 7 => ⟨S1x2048x1024, .f32⟩
  | 8 => ⟨S1x2048x8x128, .f32⟩
  | 9 => ⟨S1x8x2048x128, .f32⟩
  | 10 => ⟨S1x2048x1024, .f32⟩
  | 11 => ⟨S1x2048x8x128, .f32⟩
  | 12 => ⟨S1x8x2048x128, .f32⟩
  | 13 => ⟨S1x2048x1024, .f32⟩
  | 14 => ⟨S1x2048x8x128, .f32⟩
  | 15 => ⟨S1x8x2048x128, .f32⟩
  | 16 => ⟨S1x8x2048x2048, .f32⟩
  | 17 => ⟨S_, .f32⟩
  | 18 => ⟨S1x8x2048x2048, .f32⟩
  | 19 => ⟨S1x8x2048x2048, .f32⟩
  | 20 => ⟨S2048, .i32⟩
  | 21 => ⟨S1x2048, .i32⟩
  | 22 => ⟨S2048, .i32⟩
  | 23 => ⟨S2048x1, .i32⟩
  | 24 => ⟨S2048x2048, .i32⟩
  | 25 => ⟨S2048x2048, .i32⟩
  | 26 => ⟨S2048x2048, .i1⟩
  | 27 => ⟨S1x8x2048x2048, .f32⟩
  | 28 => ⟨S1x8x2048x2048, .f32⟩
  | 29 => ⟨S_, .f32⟩
  | 30 => ⟨S1x8x2048x2048, .f32⟩
  | 31 => ⟨S1x8x2048x2048, .f32⟩
  | 32 => ⟨S1x8x2048x2048, .f32⟩
  | 33 => ⟨S1x8x2048x2048, .f32⟩
  | 34 => ⟨S1x8x2048x2048, .i1⟩
  | 35 => ⟨S1x8x2048x2048, .f32⟩
  | 36 => ⟨S1x8x2048x2048, .f32⟩
  | 37 => ⟨S1x8x2048x2048, .f32⟩
  | 38 => ⟨S1x8x2048x2048, .f32⟩
  | 39 => ⟨S1x8x2048x2048, .f32⟩
  | 40 => ⟨S1x8x2048x2048, .f32⟩
  | 41 => ⟨S1x8x2048x2048, .f32⟩
  | 42 => ⟨S1x8x2048x2048, .f32⟩
  | 43 => ⟨S_, .f32⟩
  | 44 => ⟨S1x8x2048x2048, .f32⟩
  | 45 => ⟨S1x8x2048x2048, .i1⟩
  | 46 => ⟨S_, .f32⟩
  | 47 => ⟨S1x8x2048x2048, .f32⟩
  | 48 => ⟨S1x8x2048x2048, .f32⟩
  | 49 => ⟨S_, .f32⟩
  | 50 => ⟨S1x8x2048x2048, .f32⟩
  | 51 => ⟨S1x8x2048x2048, .i1⟩
  | 52 => ⟨S_, .f32⟩
  | 53 => ⟨S1x8x2048x2048, .f32⟩
  | 54 => ⟨S1x8x2048x2048, .f32⟩
  | 55 => ⟨S1x8x2048x2048, .f32⟩
  | 56 => ⟨S1x8x2048x2048, .f32⟩
  | 57 => ⟨S_, .f32⟩
  | 58 => ⟨S_, .f32⟩
  | 59 => ⟨S_, .i1⟩
  | 60 => ⟨S_, .f32⟩
  | 61 => ⟨S_, .f32⟩
  | 62 => ⟨S_, .f32⟩
  | 63 => ⟨S_, .f32⟩
  | 64 => ⟨S1x8x2048x2048, .f32⟩
  | 65 => ⟨S1x8x2048x2048, .i1⟩
  | 66 => ⟨S_, .f32⟩
  | 67 => ⟨S1x8x2048x2048, .f32⟩
  | 68 => ⟨S1x8x2048x2048, .f32⟩
  | 69 => ⟨S1x8x2048x2048, .f32⟩
  | 70 => ⟨S1x8x2048x2048, .f32⟩
  | 71 => ⟨S1x8x2048x2048, .f32⟩
  | 72 => ⟨S_, .f32⟩
  | 73 => ⟨S1x8x2048x2048, .f32⟩
  | 74 => ⟨S1x8x2048x2048, .f32⟩
  | 75 => ⟨S1x8x2048x2048, .f32⟩
  | 76 => ⟨S_, .f32⟩
  | 77 => ⟨S_, .f32⟩
  | 78 => ⟨S1x8x2048x2048, .i1⟩
  | 79 => ⟨S1x8x2048x2048, .f32⟩
  | 80 => ⟨S1x8x2048x2048, .f32⟩
  | 81 => ⟨S_, .f32⟩
  | 82 => ⟨S1x8x2048x2048, .f32⟩
  | 83 => ⟨S_, .f32⟩
  | 84 => ⟨S_, .f32⟩
  | 85 => ⟨S1x8x2048x2048, .f32⟩
  | 86 => ⟨S1x8x2048x2048, .f32⟩
  | 87 => ⟨S1x8x2048x2048, .f32⟩
  | 88 => ⟨S_, .f32⟩
  | 89 => ⟨S1x8x2048x2048, .f32⟩
  | 90 => ⟨S1x8x2048x2048, .f32⟩
  | 91 => ⟨S1x8x2048x2048, .f32⟩
  | 92 => ⟨S1x8x2048x2048, .f32⟩
  | 93 => ⟨S1x8x2048x2048, .i1⟩
  | 94 => ⟨S1x8x2048x2048, .f32⟩
  | 95 => ⟨S1x8x2048x2048, .f32⟩
  | 96 => ⟨S1x8x2048x2048, .f32⟩
  | 97 => ⟨S1x8x2048x2048, .f32⟩
  | 98 => ⟨S1x8x2048x2048, .f32⟩
  | 99 => ⟨S1x8x2048x2048, .f32⟩
  | 100 => ⟨S1x8x2048x2048, .f32⟩
  | 101 => ⟨S1x8x2048x2048, .f32⟩
  | 102 => ⟨S_, .f32⟩
  | 103 => ⟨S1x8x2048x2048, .f32⟩
  | 104 => ⟨S1x8x2048x2048, .i1⟩
  | 105 => ⟨S_, .f32⟩
  | 106 => ⟨S1x8x2048x2048, .f32⟩
  | 107 => ⟨S1x8x2048x2048, .f32⟩
  | 108 => ⟨S_, .f32⟩
  | 109 => ⟨S1x8x2048x2048, .f32⟩
  | 110 => ⟨S1x8x2048x2048, .i1⟩
  | 111 => ⟨S_, .f32⟩
  | 112 => ⟨S1x8x2048x2048, .f32⟩
  | 113 => ⟨S1x8x2048x2048, .f32⟩
  | 114 => ⟨S1x8x2048x2048, .f32⟩
  | 115 => ⟨S1x8x2048x2048, .f32⟩
  | 116 => ⟨S_, .f32⟩
  | 117 => ⟨S_, .f32⟩
  | 118 => ⟨S_, .i1⟩
  | 119 => ⟨S_, .f32⟩
  | 120 => ⟨S_, .f32⟩
  | 121 => ⟨S_, .f32⟩
  | 122 => ⟨S_, .f32⟩
  | 123 => ⟨S1x8x2048x2048, .f32⟩
  | 124 => ⟨S1x8x2048x2048, .i1⟩
  | 125 => ⟨S_, .f32⟩
  | 126 => ⟨S1x8x2048x2048, .f32⟩
  | 127 => ⟨S1x8x2048x2048, .f32⟩
  | _ => ⟨S2048x6144, .bf16⟩

abbrev hbmTy0_1 (i : Nat) : BufTy := match i % 128 with
  | 0 => ⟨S1x8x2048x2048, .f32⟩
  | 1 => ⟨S1x8x2048x2048, .f32⟩
  | 2 => ⟨S1x8x2048x2048, .f32⟩
  | 3 => ⟨S_, .f32⟩
  | 4 => ⟨S1x8x2048x2048, .f32⟩
  | 5 => ⟨S1x8x2048x2048, .f32⟩
  | 6 => ⟨S1x8x2048x2048, .f32⟩
  | 7 => ⟨S1x8x2048x2048, .f32⟩
  | 8 => ⟨S1x8x2048x2048, .f32⟩
  | 9 => ⟨S_, .f32⟩
  | 10 => ⟨S_, .f32⟩
  | 11 => ⟨S1x8x2048x2048, .i1⟩
  | 12 => ⟨S1x8x2048x2048, .f32⟩
  | 13 => ⟨S1x8x2048x2048, .f32⟩
  | 14 => ⟨S_, .f32⟩
  | 15 => ⟨S1x8x2048x2048, .f32⟩
  | 16 => ⟨S1x8x2048x128, .f32⟩
  | 17 => ⟨S1x2048x8x128, .f32⟩
  | 18 => ⟨S1x2048x1024, .f32⟩
  | 19 => ⟨S2048x1024, .f32⟩
  | 20 => ⟨S2048x1024, .f32⟩
  | 21 => ⟨S1x2048x1024, .f32⟩
  | 22 => ⟨S1x2048x8x128, .f32⟩
  | 23 => ⟨S1x8x2048x128, .f32⟩
  | 24 => ⟨S1x8x128x2048, .f32⟩
  | 25 => ⟨S1x8x2048x128, .f32⟩
  | 26 => ⟨S1x8x2048x2048, .f32⟩
  | 27 => ⟨S_, .f32⟩
  | 28 => ⟨S1x8x2048x2048, .f32⟩
  | 29 => ⟨S1x8x2048x2048, .f32⟩
  | 30 => ⟨S1x8x2048x2048, .f32⟩
  | 31 => ⟨S1x8x2048x2048, .f32⟩
  | 32 => ⟨S1x8x2048x2048, .f32⟩
  | 33 => ⟨S1x8x2048x2048, .f32⟩
  | 34 => ⟨S1x8x2048x2048, .f32⟩
  | 35 => ⟨S_, .f32⟩
  | 36 => ⟨S_, .f32⟩
  | 37 => ⟨S1x8x2048x2048, .f32⟩
  | 38 => ⟨S1x8x2048x2048, .f32⟩
  | 39 => ⟨S_, .f32⟩
  | 40 => ⟨S1x8x2048x2048, .f32⟩
  | 41 => ⟨S1x8x2048x2048, .f32⟩
  | 42 => ⟨S1x8x2048x2048, .f32⟩
  | 43 => ⟨S1x8x2048x2048, .f32⟩
  | 44 => ⟨S1x8x2048x2048, .f32⟩
  | 45 => ⟨S1x8x2048x2048, .f32⟩
  | 46 => ⟨S1x8x2048x2048, .f32⟩
  | 47 => ⟨S_, .f32⟩
  | 48 => ⟨S1x8x2048x2048, .f32⟩
  | 49 => ⟨S1x8x2048x2048, .f32⟩
  | 50 => ⟨S1x8x2048x128, .f32⟩
  | 51 => ⟨S1x8x2048x128, .f32⟩
  | 52 => ⟨S1x2048x8x128, .f32⟩
  | 53 => ⟨S1x2048x1024, .f32⟩
  | 54 => ⟨S_, .f32⟩
  | 55 => ⟨S2048x1024, .f32⟩
  | 56 => ⟨S1x2048x8x128, .f32⟩
  | 57 => ⟨S1x2048x1024, .f32⟩
  | 58 => ⟨S_, .f32⟩
  | 59 => ⟨S2048x1024, .f32⟩
  | 60 => ⟨S1x2048x8x128, .f32⟩
  | 61 => ⟨S1x2048x1024, .f32⟩
  | 62 => ⟨S_, .f32⟩
  | 63 => ⟨S2048x1024, .f32⟩
  | 64 => ⟨S2048x1024, .bf16⟩
  | 65 => ⟨S2048x1024, .bf16⟩
  | 66 => ⟨S2048x1024, .bf16⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1_0 : Ref sig .tc := ⟨.hbm, 42, rfl⟩
abbrev main_call0_call0_cst_0 : Ref sig .tc := ⟨.hbm, 43, rfl⟩
abbrev main_call0_call0_v13 : Ref sig .tc := ⟨.hbm, 44, rfl⟩
abbrev main_call0_call0_v14 : Ref sig .tc := ⟨.hbm, 45, rfl⟩
abbrev main_call0_call0_cst_1 : Ref sig .tc := ⟨.hbm, 46, rfl⟩
abbrev main_call0_call0_v15 : Ref sig .tc := ⟨.hbm, 47, rfl⟩
abbrev main_call0_call0_v16 : Ref sig .tc := ⟨.hbm, 48, rfl⟩
abbrev main_call0_call0_cst_2 : Ref sig .tc := ⟨.hbm, 49, rfl⟩
abbrev main_call0_call0_v17 : Ref sig .tc := ⟨.hbm, 50, rfl⟩
abbrev main_call0_call0_v18 : Ref sig .tc := ⟨.hbm, 51, rfl⟩
abbrev main_call0_call0_cst_3 : Ref sig .tc := ⟨.hbm, 52, rfl⟩
abbrev main_call0_call0_v19 : Ref sig .tc := ⟨.hbm, 53, rfl⟩
abbrev main_call0_call0_v20 : Ref sig .tc := ⟨.hbm, 54, rfl⟩
abbrev main_call0_call0_v21 : Ref sig .tc := ⟨.hbm, 55, rfl⟩
abbrev main_v25_1 : Ref sig .tc := ⟨.hbm, 56, rfl⟩
abbrev main_call0_call0_cst_4 : Ref sig .tc := ⟨.hbm, 57, rfl⟩
abbrev main_call0_call0_cst_5 : Ref sig .tc := ⟨.hbm, 58, rfl⟩
abbrev main_call0_call0_v23 : Ref sig .tc := ⟨.hbm, 59, rfl⟩
abbrev main_call0_call0_cst_6 : Ref sig .tc := ⟨.hbm, 60, rfl⟩
abbrev main_call0_call0_cst_7 : Ref sig .tc := ⟨.hbm, 61, rfl⟩
abbrev main_call0_call0_v24 : Ref sig .tc := ⟨.hbm, 62, rfl⟩
abbrev main_call0_call0_cst_8 : Ref sig .tc := ⟨.hbm, 63, rfl⟩
abbrev main_call0_call0_v25 : Ref sig .tc := ⟨.hbm, 64, rfl⟩
abbrev main_call0_call0_v26 : Ref sig .tc := ⟨.hbm, 65, rfl⟩
abbrev main_call0_call0_cst_9 : Ref sig .tc := ⟨.hbm, 66, rfl⟩
abbrev main_call0_call0_v27 : Ref sig .tc := ⟨.hbm, 67, rfl⟩
abbrev main_call0_call0_v28 : Ref sig .tc := ⟨.hbm, 68, rfl⟩
abbrev main_call0_call0_v29 : Ref sig .tc := ⟨.hbm, 69, rfl⟩
abbrev main_call0_call0_v30 : Ref sig .tc := ⟨.hbm, 70, rfl⟩
abbrev main_call0_call0_v31 : Ref sig .tc := ⟨.hbm, 71, rfl⟩
abbrev main_call0_call0_cst_10 : Ref sig .tc := ⟨.hbm, 72, rfl⟩
abbrev main_call0_call0_v32 : Ref sig .tc := ⟨.hbm, 73, rfl⟩
abbrev main_v25_2 : Ref sig .tc := ⟨.hbm, 74, rfl⟩
abbrev main_v25_0 : Ref sig .tc := ⟨.hbm, 75, rfl⟩
abbrev main_cst_0 : Ref sig .tc := ⟨.hbm, 76, rfl⟩
abbrev main_call1_v0 : Ref sig .tc := ⟨.hbm, 77, rfl⟩
abbrev main_v26_1 : Ref sig .tc := ⟨.hbm, 78, rfl⟩
abbrev main_call1_v2 : Ref sig .tc := ⟨.hbm, 79, rfl⟩
abbrev main_v26_0 : Ref sig .tc := ⟨.hbm, 80, rfl⟩
abbrev main_call1_cst : Ref sig .tc := ⟨.hbm, 81, rfl⟩
abbrev main_v26_2 : Ref sig .tc := ⟨.hbm, 82, rfl⟩
abbrev main_call2_cst : Ref sig .tc := ⟨.hbm, 83, rfl⟩
abbrev main_call2_v0 : Ref sig .tc := ⟨.hbm, 84, rfl⟩
abbrev main_v27 : Ref sig .tc := ⟨.hbm, 85, rfl⟩
abbrev main_v28 : Ref sig .tc := ⟨.hbm, 86, rfl⟩
abbrev main_call3_v0 : Ref sig .tc := ⟨.hbm, 87, rfl⟩
abbrev main_call3_call0_cst : Ref sig .tc := ⟨.hbm, 88, rfl⟩
abbrev main_call3_call0_v0 : Ref sig .tc := ⟨.hbm, 89, rfl⟩
abbrev main_call3_call0_v1 : Ref sig .tc := ⟨.hbm, 90, rfl⟩
abbrev main_call3_call0_v2 : Ref sig .tc := ⟨.hbm, 91, rfl⟩
abbrev main_call3_call0_v3 : Ref sig .tc := ⟨.hbm, 92, rfl⟩
abbrev main_call3_call0_v4 : Ref sig .tc := ⟨.hbm, 93, rfl⟩
abbrev main_call3_call0_v5 : Ref sig .tc := ⟨.hbm, 94, rfl⟩
abbrev main_call3_call0_v6 : Ref sig .tc := ⟨.hbm, 95, rfl⟩
abbrev main_call3_call0_v7 : Ref sig .tc := ⟨.hbm, 96, rfl⟩
abbrev main_call3_call0_v8 : Ref sig .tc := ⟨.hbm, 97, rfl⟩
abbrev main_call3_call0_v9 : Ref sig .tc := ⟨.hbm, 98, rfl⟩
abbrev main_call3_call0_v10 : Ref sig .tc := ⟨.hbm, 99, rfl⟩
abbrev main_call3_call0_v11 : Ref sig .tc := ⟨.hbm, 100, rfl⟩
abbrev main_call3_v1_0 : Ref sig .tc := ⟨.hbm, 101, rfl⟩
abbrev main_call3_call0_cst_0 : Ref sig .tc := ⟨.hbm, 102, rfl⟩
abbrev main_call3_call0_v13 : Ref sig .tc := ⟨.hbm, 103, rfl⟩
abbrev main_call3_call0_v14 : Ref sig .tc := ⟨.hbm, 104, rfl⟩
abbrev main_call3_call0_cst_1 : Ref sig .tc := ⟨.hbm, 105, rfl⟩
abbrev main_call3_call0_v15 : Ref sig .tc := ⟨.hbm, 106, rfl⟩
abbrev main_call3_call0_v16 : Ref sig .tc := ⟨.hbm, 107, rfl⟩
abbrev main_call3_call0_cst_2 : Ref sig .tc := ⟨.hbm, 108, rfl⟩
abbrev main_call3_call0_v17 : Ref sig .tc := ⟨.hbm, 109, rfl⟩
abbrev main_call3_call0_v18 : Ref sig .tc := ⟨.hbm, 110, rfl⟩
abbrev main_call3_call0_cst_3 : Ref sig .tc := ⟨.hbm, 111, rfl⟩
abbrev main_call3_call0_v19 : Ref sig .tc := ⟨.hbm, 112, rfl⟩
abbrev main_call3_call0_v20 : Ref sig .tc := ⟨.hbm, 113, rfl⟩
abbrev main_call3_call0_v21 : Ref sig .tc := ⟨.hbm, 114, rfl⟩
abbrev main_v29_1 : Ref sig .tc := ⟨.hbm, 115, rfl⟩
abbrev main_call3_call0_cst_4 : Ref sig .tc := ⟨.hbm, 116, rfl⟩
abbrev main_call3_call0_cst_5 : Ref sig .tc := ⟨.hbm, 117, rfl⟩
abbrev main_call3_call0_v23 : Ref sig .tc := ⟨.hbm, 118, rfl⟩
abbrev main_call3_call0_cst_6 : Ref sig .tc := ⟨.hbm, 119, rfl⟩
abbrev main_call3_call0_cst_7 : Ref sig .tc := ⟨.hbm, 120, rfl⟩
abbrev main_call3_call0_v24 : Ref sig .tc := ⟨.hbm, 121, rfl⟩
abbrev main_call3_call0_cst_8 : Ref sig .tc := ⟨.hbm, 122, rfl⟩
abbrev main_call3_call0_v25 : Ref sig .tc := ⟨.hbm, 123, rfl⟩
abbrev main_call3_call0_v26 : Ref sig .tc := ⟨.hbm, 124, rfl⟩
abbrev main_call3_call0_cst_9 : Ref sig .tc := ⟨.hbm, 125, rfl⟩
abbrev main_call3_call0_v27 : Ref sig .tc := ⟨.hbm, 126, rfl⟩
abbrev main_call3_call0_v28 : Ref sig .tc := ⟨.hbm, 127, rfl⟩
abbrev main_call3_call0_v29 : Ref sig .tc := ⟨.hbm, 128, rfl⟩
abbrev main_call3_call0_v30 : Ref sig .tc := ⟨.hbm, 129, rfl⟩
abbrev main_call3_call0_v31 : Ref sig .tc := ⟨.hbm, 130, rfl⟩
abbrev main_call3_call0_cst_10 : Ref sig .tc := ⟨.hbm, 131, rfl⟩
abbrev main_call3_call0_v32 : Ref sig .tc := ⟨.hbm, 132, rfl⟩
abbrev main_v29_2 : Ref sig .tc := ⟨.hbm, 133, rfl⟩
abbrev main_v29_0 : Ref sig .tc := ⟨.hbm, 134, rfl⟩
abbrev main_v30 : Ref sig .tc := ⟨.hbm, 135, rfl⟩
abbrev main_v31 : Ref sig .tc := ⟨.hbm, 136, rfl⟩
abbrev main_cst_1 : Ref sig .tc := ⟨.hbm, 137, rfl⟩
abbrev main_call4_v0 : Ref sig .tc := ⟨.hbm, 138, rfl⟩
abbrev main_v32_1 : Ref sig .tc := ⟨.hbm, 139, rfl⟩
abbrev main_call4_v2 : Ref sig .tc := ⟨.hbm, 140, rfl⟩
abbrev main_v32_0 : Ref sig .tc := ⟨.hbm, 141, rfl⟩
abbrev main_call4_cst : Ref sig .tc := ⟨.hbm, 142, rfl⟩
abbrev main_v32_2 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_v43 : Ref sig .tc := ⟨.hbm, 154, rfl⟩
abbrev main_call5_cst : Ref sig .tc := ⟨.hbm, 155, rfl⟩
abbrev main_call5_v0 : Ref sig .tc := ⟨.hbm, 156, rfl⟩
abbrev main_v44 : Ref sig .tc := ⟨.hbm, 157, rfl⟩
abbrev main_v45 : Ref sig .tc := ⟨.hbm, 158, rfl⟩
abbrev main_call6_v0 : Ref sig .tc := ⟨.hbm, 159, rfl⟩
abbrev main_call6_v1 : Ref sig .tc := ⟨.hbm, 160, rfl⟩
abbrev main_v46 : Ref sig .tc := ⟨.hbm, 161, rfl⟩
abbrev main_v47 : Ref sig .tc := ⟨.hbm, 162, rfl⟩
abbrev main_call7_cst : Ref sig .tc := ⟨.hbm, 163, rfl⟩
abbrev main_call7_v0 : Ref sig .tc := ⟨.hbm, 164, rfl⟩
abbrev main_v48 : Ref sig .tc := ⟨.hbm, 165, rfl⟩
abbrev main_v49 : Ref sig .tc := ⟨.hbm, 166, rfl⟩
abbrev main_call8_cst : Ref sig .tc := ⟨.hbm, 167, rfl⟩
abbrev main_call8_v0 : Ref sig .tc := ⟨.hbm, 168, rfl⟩
abbrev main_v50 : Ref sig .tc := ⟨.hbm, 169, rfl⟩
abbrev main_call9_v0 : Ref sig .tc := ⟨.hbm, 170, rfl⟩
abbrev main_call9_v1 : Ref sig .tc := ⟨.hbm, 171, rfl⟩
abbrev main_v51 : Ref sig .tc := ⟨.hbm, 172, rfl⟩
abbrev main_v52 : Ref sig .tc := ⟨.hbm, 173, rfl⟩
abbrev main_v53 : Ref sig .tc := ⟨.hbm, 174, rfl⟩
abbrev main_cst_2 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_cst_3 : Ref sig .tc := ⟨.hbm, 182, rfl⟩
abbrev main_v60 : Ref sig .tc := ⟨.hbm, 183, rfl⟩
abbrev main_v61 : Ref sig .tc := ⟨.hbm, 184, rfl⟩
abbrev main_v62 : Ref sig .tc := ⟨.hbm, 185, rfl⟩
abbrev main_cst_4 : Ref sig .tc := ⟨.hbm, 186, rfl⟩
abbrev main_v63 : Ref sig .tc := ⟨.hbm, 187, rfl⟩
abbrev main_v64 : Ref sig .tc := ⟨.hbm, 188, rfl⟩
abbrev main_v65 : Ref sig .tc := ⟨.hbm, 189, rfl⟩
abbrev main_cst_5 : Ref sig .tc := ⟨.hbm, 190, rfl⟩
abbrev main_v66 : Ref sig .tc := ⟨.hbm, 191, rfl⟩
abbrev main_v67 : Ref sig .tc := ⟨.hbm, 192, rfl⟩
abbrev main_v68 : Ref sig .tc := ⟨.hbm, 193, rfl⟩
abbrev main_v69 : Ref sig .tc := ⟨.hbm, 194, rfl⟩

abbrev nD : Nat := 1
abbrev τ : Topo := Topo.v7x

variable {F : FTy → Type} [FloatOps F]
-- ==== Kernel2.lean ====
abbrev S2048x10752 : Shape := ⟨2, ![2048, 10752]⟩
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x10752, .bf16⟩
  | .hbm, ⟨1, _⟩ => ⟨S2048x10752, .bf16⟩
  | .hbm, ⟨2, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x2048, .f32⟩
  | _, _ => ⟨S2048x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 21], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference2Ideal.lean ====
abbrev S2048x10752 : Shape := ⟨2, ![2048, 10752]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x10752, .bf16⟩
  | .hbm, ⟨1, _⟩ => ⟨S2048x10752, .bf16⟩
  | .hbm, ⟨2, _⟩ => ⟨S2048x10752, .f32⟩
  | .hbm, ⟨3, _⟩ => ⟨S2048x10752, .f32⟩
  | .hbm, ⟨4, _⟩ => ⟨S_, .f32⟩
  | .hbm, ⟨5, _⟩ => ⟨S2048x2048, .f32⟩
  | .hbm, ⟨6, _⟩ => ⟨S2048x10752, .f32⟩
  | .hbm, ⟨7, _⟩ => ⟨S2048x2048, .f32⟩
  | _, _ => ⟨S2048x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S2048x2048 : Shape := ⟨2, ![2048, 2048]⟩
abbrev S2048x10752 : Shape := ⟨2, ![2048, 10752]⟩
abbrev S512x2048 : Shape := ⟨2, ![512, 2048]⟩
abbrev S512x1792 : Shape := ⟨2, ![512, 1792]⟩
abbrev S2048x1792 : Shape := ⟨2, ![2048, 1792]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x10752, .bf16⟩
  | .hbm, ⟨2, _⟩ => ⟨S2048x10752, .bf16⟩
  | .local _ .vmem, ⟨0, _⟩ => ⟨S512x2048, .bf16⟩
  | .local _ .vmem, ⟨1, _⟩ => ⟨S512x2048, .bf16⟩
  | .local _ .vmem, ⟨2, _⟩ => ⟨S512x1792, .bf16⟩
  | .local _ .vmem, ⟨3, _⟩ => ⟨S512x1792, .bf16⟩
  | .local _ .vmem, ⟨4, _⟩ => ⟨S2048x1792, .bf16⟩
  | .local _ .vmem, ⟨5, _⟩ => ⟨S2048x1792, .bf16⟩
  | .local _ .vmem, ⟨6, _⟩ => ⟨S2048x1792, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x2048 : Shape := ⟨2, ![2048, 2048]⟩
abbrev S2048x10752 : Shape := ⟨2, ![2048, 10752]⟩
abbrev S_ : Shape := ⟨0, ![]⟩
abbrev S10752x2048 : Shape := ⟨2, ![10752, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10752, .bf16⟩
  | .hbm, ⟨2, _⟩ => ⟨S2048x2048, .f32⟩
  | .hbm, ⟨3, _⟩ => ⟨S2048x10752, .f32⟩
  | .hbm, ⟨4, _⟩ => ⟨S_, .f32⟩
  | .hbm, ⟨5, _⟩ => ⟨S2048x10752, .f32⟩
  | .hbm, ⟨6, _⟩ => ⟨S2048x10752, .f32⟩
  | .hbm, ⟨7, _⟩ => ⟨S10752x2048, .f32⟩
  | .hbm, ⟨8, _⟩ => ⟨S2048x10752, .f32⟩
  | .hbm, ⟨9, _⟩ => ⟨S2048x10752, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2048x5632 : Shape := ⟨2, ![2048, 5632]⟩
abbrev S2048x2048 : Shape := ⟨2, ![2048, 2048]⟩
abbrev S5632x2048 : Shape := ⟨2, ![5632, 2048]⟩
abbrev S512x1408 : Shape := ⟨2, ![512, 1408]⟩
abbrev S512x2048 : Shape := ⟨2, ![512, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S512x1408, .bf16⟩
  | .local _ .vmem, ⟨1, _⟩ => ⟨S512x1408, .bf16⟩
  | .local _ .vmem, ⟨2, _⟩ => ⟨S512x2048, .bf16⟩
  | .local _ .vmem, ⟨3, _⟩ => ⟨S512x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2048x5632, .f32⟩
  | .hbm, ⟨3, _⟩ => ⟨S2048x2048, .f32⟩
  | .hbm, ⟨4, _⟩ => ⟨S_, .f32⟩
  | .hbm, ⟨5, _⟩ => ⟨S5632x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x2048 : Shape := ⟨2, ![2048, 2048]⟩
abbrev S2048x11264 : Shape := ⟨2, ![2048, 11264]⟩
abbrev S4x2048x2816 : Shape := ⟨3, ![4, 2048, 2816]⟩
abbrev S512x2048 : Shape := ⟨2, ![512, 2048]⟩
abbrev S512x1408 : Shape := ⟨2, ![512, 1408]⟩
abbrev S1x2048x1408 : Shape := ⟨3, ![1, 2048, 1408]⟩
abbrev S2048x1408 : Shape := ⟨2, ![2048, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S4x2048x2816, .bf16⟩
  | .hbm, ⟨3, _⟩ => ⟨S4x2048x2816, .bf16⟩
  | .local _ .vmem, ⟨0, _⟩ => ⟨S512x2048, .bf16⟩
  | .local _ .vmem, ⟨1, _⟩ => ⟨S512x2048, .bf16⟩
  | .local _ .vmem, ⟨2, _⟩ => ⟨S512x1408, .bf16⟩
  | .local _ .vmem, ⟨3, _⟩ => ⟨S512x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2048x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  ![v16.toNat, arg0.toNat, v27.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x2048 : Shape := ⟨2, ![2048, 2048]⟩
abbrev S2048x11264 : Shape := ⟨2, ![2048, 11264]⟩
abbrev S4x2048x2816 : Shape := ⟨3, ![4, 2048, 2816]⟩
abbrev S_ : Shape := ⟨0, ![]⟩
abbrev S2048x4x2816 : Shape := ⟨3, ![2048, 4, 2816]⟩
abbrev S11264x2048 : Shape := ⟨2, ![11264, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S4x2048x2816, .bf16⟩
  | .hbm, ⟨3, _⟩ => ⟨S_, .f32⟩
  | .hbm, ⟨4, _⟩ => ⟨S4x2048x2816, .f32⟩
  | .hbm, ⟨5, _⟩ => ⟨S2048x2048, .f32⟩
  | .hbm, ⟨6, _⟩ => ⟨S2048x4x2816, .f32⟩
  | .hbm, ⟨7, _⟩ => ⟨S2048x11264, .f32⟩
  | .hbm, ⟨8, _⟩ => ⟨S2048x11264, .f32⟩
  | .hbm, ⟨9, _⟩ => ⟨S2048x11264, .f32⟩
  | .hbm, ⟨10, _⟩ => ⟨S11264x2048, .f32⟩
  | .hbm, ⟨11, _⟩ => ⟨S2048x11264, .f32⟩
  | .hbm, ⟨12, _⟩ => ⟨S2048x4x2816, .f32⟩
  | .hbm, ⟨13, _⟩ => ⟨S4x2048x2816, .f32⟩
  | .hbm, ⟨14, _⟩ => ⟨S4x2048x2816, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel6.lean ====
abbrev S2048x11264 : Shape := ⟨2, ![2048, 11264]⟩
abbrev S4x2048x2816 : Shape := ⟨3, ![4, 2048, 2816]⟩
abbrev S2048x2048 : Shape := ⟨2, ![2048, 2048]⟩
abbrev S2048x1408 : Shape := ⟨2, ![2048, 1408]⟩
abbrev S1x1024x1408 : Shape := ⟨3, ![1, 1024, 1408]⟩
abbrev S2048x1024 : Shape := ⟨2, ![2048, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x11264, .bf16⟩
  | .hbm, ⟨1, _⟩ => ⟨S4x2048x2816, .bf16⟩
  | .hbm, ⟨2, _⟩ => ⟨S2048x2048, .f32⟩
  | .local _ .vmem, ⟨0, _⟩ => ⟨S2048x1408, .bf16⟩
  | .local _ .vmem, ⟨1, _⟩ => ⟨S2048x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1024, .f32⟩
  | .local _ .vmem, ⟨5, _⟩ => ⟨S2048x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  ![v16.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x11264 : Shape := ⟨2, ![2048, 11264]⟩
abbrev S4x2048x2816 : Shape := ⟨3, ![4, 2048, 2816]⟩
abbrev S_ : Shape := ⟨0, ![]⟩
abbrev S2048x2048 : Shape := ⟨2, ![2048, 2048]⟩
abbrev S2048x4x2816 : Shape := ⟨3, ![2048, 4, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S4x2048x2816, .bf16⟩
  | .hbm, ⟨2, _⟩ => ⟨S_, .f32⟩
  | .hbm, ⟨3, _⟩ => ⟨S2048x2048, .f32⟩
  | .hbm, ⟨4, _⟩ => ⟨S4x2048x2816, .f32⟩
  | .hbm, ⟨5, _⟩ => ⟨S2048x4x2816, .f32⟩
  | .hbm, ⟨6, _⟩ => ⟨S2048x11264, .f32⟩
  | .hbm, ⟨7, _⟩ => ⟨S2048x11264, .f32⟩
  | .hbm, ⟨8, _⟩ => ⟨S2048x11264, .f32⟩
  | .hbm, ⟨9, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x2048 : Shape := ⟨2, ![2048, 2048]⟩
abbrev S5632x2048 : Shape := ⟨2, ![5632, 2048]⟩
abbrev S2048x11264 : Shape := ⟨2, ![2048, 11264]⟩
abbrev S1024x512 : Shape := ⟨2, ![1024, 512]⟩
abbrev S1408x512 : Shape := ⟨2, ![1408, 512]⟩
abbrev S1024x2816 : Shape := ⟨2, ![1024, 2816]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x11264, .f32⟩
  | .hbm, ⟨3, _⟩ => ⟨S2048x11264, .bf16⟩
  | .local _ .vmem, ⟨0, _⟩ => ⟨S1024x512, .bf16⟩
  | .local _ .vmem, ⟨1, _⟩ => ⟨S1024x512, .bf16⟩
  | .local _ .vmem, ⟨2, _⟩ => ⟨S1408x512, .bf16⟩
  | .local _ .vmem, ⟨3, _⟩ => ⟨S1408x512, .bf16⟩
  | .local _ .vmem, ⟨4, _⟩ => ⟨S1024x2816, .f32⟩
  | .local _ .vmem, ⟨5, _⟩ => ⟨S1024x2816, .f32⟩
  | .local _ .vmem, ⟨6, _⟩ => ⟨S1024x2816, .bf16⟩
  | .local _ .vmem, ⟨7, _⟩ => ⟨S1024x2816, .bf16⟩
  | .local _ .vmem, ⟨8, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2048x2048 : Shape := ⟨2, ![2048, 2048]⟩
abbrev S5632x2048 : Shape := ⟨2, ![5632, 2048]⟩
abbrev S2048x11264 : Shape := ⟨2, ![2048, 11264]⟩
abbrev S2048x4x2816 : Shape := ⟨3, ![2048, 4, 2816]⟩
abbrev S2048x4x1408 : Shape := ⟨3, ![2048, 4, 1408]⟩
abbrev S_ : Shape := ⟨0, ![]⟩
abbrev S2048x5632 : Shape := ⟨2, ![2048, 5632]⟩

abbrev nBuf : Space → Nat
  | .hbm => 35
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x11264, .f32⟩
  | .hbm, ⟨3, _⟩ => ⟨S2048x4x2816, .f32⟩
  | .hbm, ⟨4, _⟩ => ⟨S2048x4x1408, .f32⟩
  | .hbm, ⟨5, _⟩ => ⟨S2048x4x1408, .f32⟩
  | .hbm, ⟨6, _⟩ => ⟨S2048x4x1408, .f32⟩
  | .hbm, ⟨7, _⟩ => ⟨S2048x4x1408, .f32⟩
  | .hbm, ⟨8, _⟩ => ⟨S_, .f32⟩
  | .hbm, ⟨9, _⟩ => ⟨S2048x4x1408, .f32⟩
  | .hbm, ⟨10, _⟩ => ⟨S2048x4x1408, .f32⟩
  | .hbm, ⟨11, _⟩ => ⟨S_, .f32⟩
  | .hbm, ⟨12, _⟩ => ⟨S2048x4x1408, .f32⟩
  | .hbm, ⟨13, _⟩ => ⟨S2048x4x1408, .f32⟩
  | .hbm, ⟨14, _⟩ => ⟨S_, .f32⟩
  | .hbm, ⟨15, _⟩ => ⟨S2048x4x1408, .f32⟩
  | .hbm, ⟨16, _⟩ => ⟨S2048x4x1408, .f32⟩
  | .hbm, ⟨17, _⟩ => ⟨S2048x4x1408, .f32⟩
  | .hbm, ⟨18, _⟩ => ⟨S2048x4x1408, .f32⟩
  | .hbm, ⟨19, _⟩ => ⟨S2048x4x1408, .f32⟩
  | .hbm, ⟨20, _⟩ => ⟨S2048x5632, .f32⟩
  | .hbm, ⟨21, _⟩ => ⟨S5632x2048, .f32⟩
  | .hbm, ⟨22, _⟩ => ⟨S2048x2048, .f32⟩
  | .hbm, ⟨23, _⟩ => ⟨S2048x2048, .f32⟩
  | .hbm, ⟨24, _⟩ => ⟨S2048x5632, .f32⟩
  | .hbm, ⟨25, _⟩ => ⟨S2048x4x1408, .f32⟩
  | .hbm, ⟨26, _⟩ => ⟨S2048x4x1408, .f32⟩
  | .hbm, ⟨27, _⟩ => ⟨S2048x4x1408, .f32⟩
  | .hbm, ⟨28, _⟩ => ⟨S2048x4x1408, .f32⟩
  | .hbm, ⟨29, _⟩ => ⟨S2048x4x1408, .f32⟩
  | .hbm, ⟨30, _⟩ => ⟨S2048x4x1408, .f32⟩
  | .hbm, ⟨31, _⟩ => ⟨S2048x4x1408, .f32⟩
  | .hbm, ⟨32, _⟩ => ⟨S2048x4x2816, .f32⟩
  | .hbm, ⟨33, _⟩ => ⟨S2048x11264, .f32⟩
  | .hbm, ⟨34, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]
-- ==== Kernel8.lean ====
abbrev S2048x2048 : Shape := ⟨2, ![2048, 2048]⟩
abbrev S4x2048x2816 : Shape := ⟨3, ![4, 2048, 2816]⟩
abbrev S2048x11264 : Shape := ⟨2, ![2048, 11264]⟩
abbrev S2048x5632 : Shape := ⟨2, ![2048, 5632]⟩
abbrev S1024x512 : Shape := ⟨2, ![1024, 512]⟩
abbrev S1x512x2816 : Shape := ⟨3, ![1, 512, 2816]⟩
abbrev S1024x2816 : Shape := ⟨2, ![1024, 2816]⟩
abbrev S1024x1408 : Shape := ⟨2, ![1024, 1408]⟩
abbrev S512x2816 : Shape := ⟨2, ![512, 2816]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x11264, .f32⟩
  | .hbm, ⟨3, _⟩ => ⟨S2048x5632, .bf16⟩
  | .local _ .vmem, ⟨0, _⟩ => ⟨S1024x512, .bf16⟩
  | .local _ .vmem, ⟨1, _⟩ => ⟨S1024x512, .bf16⟩
  | .local _ .vmem, ⟨2, _⟩ => ⟨S1x512x2816, .bf16⟩
  | .local _ .vmem, ⟨3, _⟩ => ⟨S1x512x2816, .bf16⟩
  | .local _ .vmem, ⟨4, _⟩ => ⟨S1024x2816, .f32⟩
  | .local _ .vmem, ⟨5, _⟩ => ⟨S1024x2816, .f32⟩
  | .local _ .vmem, ⟨6, _⟩ => ⟨S1024x1408, .bf16⟩
  | .local _ .vmem, ⟨7, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S2048x2048 : Shape := ⟨2, ![2048, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S2048x4x1408 : Shape := ⟨3, ![2048, 4, 1408]⟩
abbrev S_ : Shape := ⟨0, ![]⟩
abbrev S2048x5632 : Shape := ⟨2, ![2048, 5632]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x2048, .f32⟩
  | .hbm, ⟨3, _⟩ => ⟨S4x2048x2816, .f32⟩
  | .hbm, ⟨4, _⟩ => ⟨S2048x4x2816, .f32⟩
  | .hbm, ⟨5, _⟩ => ⟨S2048x11264, .f32⟩
  | .hbm, ⟨6, _⟩ => ⟨S2048x11264, .f32⟩
  | .hbm, ⟨7, _⟩ => ⟨S2048x4x2816, .f32⟩
  | .hbm, ⟨8, _⟩ => ⟨S2048x4x1408, .f32⟩
  | .hbm, ⟨9, _⟩ => ⟨S2048x4x1408, .f32⟩
  | .hbm, ⟨10, _⟩ => ⟨S2048x4x1408, .f32⟩
  | .hbm, ⟨11, _⟩ => ⟨S2048x4x1408, .f32⟩
  | .hbm, ⟨12, _⟩ => ⟨S_, .f32⟩
  | .hbm, ⟨13, _⟩ => ⟨S2048x4x1408, .f32⟩
  | .hbm, ⟨14, _⟩ => ⟨S2048x4x1408, .f32⟩
  | .hbm, ⟨15, _⟩ => ⟨S_, .f32⟩
  | .hbm, ⟨16, _⟩ => ⟨S2048x4x1408, .f32⟩
  | .hbm, ⟨17, _⟩ => ⟨S2048x4x1408, .f32⟩
  | .hbm, ⟨18, _⟩ => ⟨S2048x4x1408, .f32⟩
  | .hbm, ⟨19, _⟩ => ⟨S2048x4x1408, .f32⟩
  | .hbm, ⟨20, _⟩ => ⟨S2048x5632, .f32⟩
  | .hbm, ⟨21, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel9.lean ====
abbrev S2048x5632 : Shape := ⟨2, ![2048, 5632]⟩
abbrev S5632x2048 : Shape := ⟨2, ![5632, 2048]⟩
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S2048x2048 : Shape := ⟨2, ![2048, 2048]⟩
abbrev S2048x10752 : Shape := ⟨2, ![2048, 10752]⟩
abbrev S2048x6144 : Shape := ⟨2, ![2048, 6144]⟩
abbrev S2048x512 : Shape := ⟨2, ![2048, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x10752, .bf16⟩
  | .hbm, ⟨2, _⟩ => ⟨S2048x6144, .bf16⟩
  | .local _ .vmem, ⟨0, _⟩ => ⟨S2048x512, .bf16⟩
  | .local _ .vmem, ⟨1, _⟩ => ⟨S2048x512, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S2048x10752 : Shape := ⟨2, ![2048, 10752]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10752, .bf16⟩
  | .hbm, ⟨2, _⟩ => ⟨S2048x2048, .f32⟩
  | .hbm, ⟨3, _⟩ => ⟨S2048x6144, .bf16⟩
  | .hbm, ⟨4, _⟩ => ⟨S2048x6144, .f32⟩
  | .hbm, ⟨5, _⟩ => ⟨S2048x6144, .f32⟩
  | .hbm, ⟨6, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S2048x2048 : Shape := ⟨2, ![2048, 2048]⟩
abbrev S2048x10752 : Shape := ⟨2, ![2048, 10752]⟩
abbrev S2048x4608 : Shape := ⟨2, ![2048, 4608]⟩
abbrev S2048x512 : Shape := ⟨2, ![2048, 512]⟩
abbrev S512x1536 : Shape := ⟨2, ![512, 1536]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x10752, .bf16⟩
  | .hbm, ⟨2, _⟩ => ⟨S2048x4608, .f32⟩
  | .local _ .vmem, ⟨0, _⟩ => ⟨S2048x512, .bf16⟩
  | .local _ .vmem, ⟨1, _⟩ => ⟨S2048x512, .bf16⟩
  | .local _ .vmem, ⟨2, _⟩ => ⟨S512x1536, .bf16⟩
  | .local _ .vmem, ⟨3, _⟩ => ⟨S512x1536, .bf16⟩
  | .local _ .vmem, ⟨4, _⟩ => ⟨S2048x1536, .f32⟩
  | .local _ .vmem, ⟨5, _⟩ => ⟨S2048x1536, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S2048x10752 : Shape := ⟨2, ![2048, 10752]⟩
abbrev S2048x4608 : Shape := ⟨2, ![2048, 4608]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10752, .bf16⟩
  | .hbm, ⟨2, _⟩ => ⟨S2048x2048, .f32⟩
  | .hbm, ⟨3, _⟩ => ⟨S2048x4608, .bf16⟩
  | .hbm, ⟨4, _⟩ => ⟨S2048x4608, .f32⟩
  | .hbm, ⟨5, _⟩ => ⟨S2048x4608, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S2048x2048 : Shape := ⟨2, ![2048, 2048]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S2048x2048 : Shape := ⟨2, ![2048, 2048]⟩
abbrev S4x1024x1024 : Shape := ⟨3, ![4, 1024, 1024]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x1024x1024, .bf16⟩
  | .hbm, ⟨2, _⟩ => ⟨S2048x1024, .bf16⟩
  | .local _ .vmem, ⟨0, _⟩ => ⟨S2048x512, .bf16⟩
  | .local _ .vmem, ⟨1, _⟩ => ⟨S2048x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x1024, .bf16⟩
  | .local _ .vmem, ⟨5, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S2048x2048 : Shape := ⟨2, ![2048, 2048]⟩
abbrev S4x1024x1024 : Shape := ⟨3, ![4, 1024, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S_ : Shape := ⟨0, ![]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1024x1024, .bf16⟩
  | .hbm, ⟨2, _⟩ => ⟨S4x1024x512, .bf16⟩
  | .hbm, ⟨3, _⟩ => ⟨S1024x4x512, .bf16⟩
  | .hbm, ⟨4, _⟩ => ⟨S1024x2048, .bf16⟩
  | .hbm, ⟨5, _⟩ => ⟨S1024x2048, .f32⟩
  | .hbm, ⟨6, _⟩ => ⟨S2048x2048, .f32⟩
  | .hbm, ⟨7, _⟩ => ⟨S_, .f32⟩
  | .hbm, ⟨8, _⟩ => ⟨S2048x1024, .f32⟩
  | .hbm, ⟨9, _⟩ => ⟨S2048x2048, .f32⟩
  | .hbm, ⟨10, _⟩ => ⟨S2048x1024, .f32⟩
  | .hbm, ⟨11, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel16.lean ====
abbrev S2048x2048 : Shape := ⟨2, ![2048, 2048]⟩
abbrev S4x1024x1024 : Shape := ⟨3, ![4, 1024, 1024]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x1024x1024, .bf16⟩
  | .hbm, ⟨2, _⟩ => ⟨S2048x1024, .bf16⟩
  | .local _ .vmem, ⟨0, _⟩ => ⟨S2048x512, .bf16⟩
  | .local _ .vmem, ⟨1, _⟩ => ⟨S2048x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x1024, .bf16⟩
  | .local _ .vmem, ⟨5, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.addi c1_i32_11 v26
  let c0_i32_12 : BitVec 32 := 0#32
  ![v16.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S2048x2048 : Shape := ⟨2, ![2048, 2048]⟩
abbrev S4x1024x1024 : Shape := ⟨3, ![4, 1024, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S_ : Shape := ⟨0, ![]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1024x1024, .bf16⟩
  | .hbm, ⟨2, _⟩ => ⟨S4x1024x512, .bf16⟩
  | .hbm, ⟨3, _⟩ => ⟨S1024x4x512, .bf16⟩
  | .hbm, ⟨4, _⟩ => ⟨S1024x2048, .bf16⟩
  | .hbm, ⟨5, _⟩ => ⟨S1024x2048, .f32⟩
  | .hbm, ⟨6, _⟩ => ⟨S2048x2048, .f32⟩
  | .hbm, ⟨7, _⟩ => ⟨S_, .f32⟩
  | .hbm, ⟨8, _⟩ => ⟨S2048x1024, .f32⟩
  | .hbm, ⟨9, _⟩ => ⟨S2048x2048, .f32⟩
  | .hbm, ⟨10, _⟩ => ⟨S2048x1024, .f32⟩
  | .hbm, ⟨11, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel17.lean ====
abbrev S2048x1024 : Shape := ⟨2, ![2048, 1024]⟩
abbrev S4x1024x1024 : Shape := ⟨3, ![4, 1024, 1024]⟩
abbrev S2048x2048 : Shape := ⟨2, ![2048, 2048]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4x1024x1024, .bf16⟩
  | .hbm, ⟨2, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S1x512x512, .bf16⟩
  | .local _ .vmem, ⟨3, _⟩ => ⟨S1x512x512, .bf16⟩
  | .local _ .vmem, ⟨4, _⟩ => ⟨S2048x512, .f32⟩
  | .local _ .vmem, ⟨5, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x1024 : Shape := ⟨2, ![2048, 1024]⟩
abbrev S4x1024x1024 : Shape := ⟨3, ![4, 1024, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1024, .bf16⟩
  | .hbm, ⟨2, _⟩ => ⟨S2048x1024, .f32⟩
  | .hbm, ⟨3, _⟩ => ⟨S4x1024x512, .bf16⟩
  | .hbm, ⟨4, _⟩ => ⟨S1024x4x512, .bf16⟩
  | .hbm, ⟨5, _⟩ => ⟨S1024x2048, .bf16⟩
  | .hbm, ⟨6, _⟩ => ⟨S1024x2048, .f32⟩
  | .hbm, ⟨7, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel18.lean ====
abbrev S2048x1024 : Shape := ⟨2, ![2048, 1024]⟩
abbrev S4x1024x1024 : Shape := ⟨3, ![4, 1024, 1024]⟩
abbrev S2048x2048 : Shape := ⟨2, ![2048, 2048]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4x1024x1024, .bf16⟩
  | .hbm, ⟨2, _⟩ => ⟨S2048x2048, .f32⟩
  | .local _ .vmem, ⟨0, _⟩ => ⟨S2048x512, .f32⟩
  | .local _ .vmem, ⟨1, _⟩ => ⟨S2048x512, .f32⟩
  | .local _ .vmem, ⟨2, _⟩ => ⟨S1x512x512, .bf16⟩
  | .local _ .vmem, ⟨3, _⟩ => ⟨S1x512x512, .bf16⟩
  | .local _ .vmem, ⟨4, _⟩ => ⟨S2048x512, .f32⟩
  | .local _ .vmem, ⟨5, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.addi c1_i32_11 v26
  let c0_i32_12 : BitVec 32 := 0#32
  ![v16.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x1024 : Shape := ⟨2, ![2048, 1024]⟩
abbrev S4x1024x1024 : Shape := ⟨3, ![4, 1024, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x1024x1024, .bf16⟩
  | .hbm, ⟨2, _⟩ => ⟨S4x1024x512, .bf16⟩
  | .hbm, ⟨3, _⟩ => ⟨S1024x4x512, .bf16⟩
  | .hbm, ⟨4, _⟩ => ⟨S1024x2048, .bf16⟩
  | .hbm, ⟨5, _⟩ => ⟨S1024x2048, .f32⟩
  | .hbm, ⟨6, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel19.lean ====
abbrev S2048x6144 : Shape := ⟨2, ![2048, 6144]⟩
abbrev S8x2048x1 : Shape := ⟨3, ![8, 2048, 1]⟩
abbrev S8x1x2048 : Shape := ⟨3, ![8, 1, 2048]⟩
abbrev S2048x1024 : Shape := ⟨2, ![2048, 1024]⟩
abbrev S2048x3072 : Shape := ⟨2, ![2048, 3072]⟩
abbrev S1x2048x1024 : Shape := ⟨3, ![1, 2048, 1024]⟩
abbrev S1x2048x8x128 : Shape := ⟨4, ![1, 2048, 8, 128]⟩
abbrev S1x8x2048x128 : Shape := ⟨4, ![1, 8, 2048, 128]⟩
abbrev S8x2048 : Shape := ⟨2, ![8, 2048]⟩
abbrev S1x8x2048 : Shape := ⟨3, ![1, 8, 2048]⟩
abbrev S1x8x2048x2048 : Shape := ⟨4, ![1, 8, 2048, 2048]⟩
abbrev S_ : Shape := ⟨0, ![]⟩
abbrev S1x8x2048x1 : Shape := ⟨4, ![1, 8, 2048, 1]⟩
abbrev S1x8x1x2048 : Shape := ⟨4, ![1, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S512x128 : Shape := ⟨2, ![512, 128]⟩
abbrev S2048x128 : Shape := ⟨2, ![2048, 128]⟩
abbrev S1x512x1 : Shape := ⟨3, ![1, 512, 1]⟩
abbrev S1x1x2048 : Shape := ⟨3, ![1, 1, 2048]⟩
abbrev S512x512 : Shape := ⟨2, ![512, 512]⟩
abbrev S512x1 : Shape := ⟨2, ![512, 1]⟩
abbrev S512 : Shape := ⟨1, ![512]⟩
abbrev S1x1x512 : Shape := ⟨3, ![1, 1, 512]⟩
abbrev S1x512 : Shape := ⟨2, ![1, 512]⟩

abbrev nBuf : Space → Nat
  | .hbm => 111
  | .vmem => 29
  | .smem => 0
  | _ => 0

abbrev bufTy : (tb : Table) → Fin (tcTables nBuf tb) → BufTy
  | .hbm, ⟨0, _⟩ => ⟨S2048x6144, .bf16⟩
  | .hbm, ⟨1, _⟩ => ⟨S8x2048x1, .f32⟩
  | .hbm, ⟨2, _⟩ => ⟨S8x1x2048, .f32⟩
  | .hbm, ⟨3, _⟩ => ⟨S2048x1024, .bf16⟩
  | .hbm, ⟨4, _⟩ => ⟨S2048x3072, .bf16⟩
  | .hbm, ⟨5, _⟩ => ⟨S2048x3072, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1x2048x1024, .f32⟩
  | .hbm, ⟨10, _⟩ => ⟨S1x2048x8x128, .f32⟩
  | .hbm, ⟨11, _⟩ => ⟨S1x8x2048x128, .f32⟩
  | .hbm, ⟨12, _⟩ => ⟨S1x2048x1024, .f32⟩
  | .hbm, ⟨13, _⟩ => ⟨S1x2048x8x128, .f32⟩
  | .hbm, ⟨14, _⟩ => ⟨S1x8x2048x128, .f32⟩
  | .hbm, ⟨15, _⟩ => ⟨S8x2048, .f32⟩
  | .hbm, ⟨16, _⟩ => ⟨S1x8x2048, .f32⟩
  | .hbm, ⟨17, _⟩ => ⟨S8x2048, .f32⟩
  | .hbm, ⟨18, _⟩ => ⟨S1x8x2048, .f32⟩
  | .hbm, ⟨19, _⟩ => ⟨S1x8x2048x2048, .f32⟩
  | .hbm, ⟨20, _⟩ => ⟨S_, .f32⟩
  | .hbm, ⟨21, _⟩ => ⟨S1x8x2048x2048, .f32⟩
  | .hbm, ⟨22, _⟩ => ⟨S1x8x2048x2048, .f32⟩
  | .hbm, ⟨23, _⟩ => ⟨S1x8x2048x1, .f32⟩
  | .hbm, ⟨24, _⟩ => ⟨S1x8x2048x2048, .f32⟩
  | .hbm, ⟨25, _⟩ => ⟨S1x8x2048x2048, .f32⟩
  | .hbm, ⟨26, _⟩ => ⟨S1x8x1x2048, .f32⟩
  | .hbm, ⟨27, _⟩ => ⟨S1x8x2048x2048, .f32⟩
  | .hbm, ⟨28, _⟩ => ⟨S1x8x2048x2048, .f32⟩
  | .hbm, ⟨29, _⟩ => ⟨S2048, .i32⟩
  | .hbm, ⟨30, _⟩ => ⟨S1x2048, .i32⟩
  | .hbm, ⟨31, _⟩ => ⟨S2048, .i32⟩
  | .hbm, ⟨32, _⟩ => ⟨S2048x1, .i32⟩
  | .hbm, ⟨33, _⟩ => ⟨S2048x2048, .i32⟩
  | .hbm, ⟨34, _⟩ => ⟨S2048x2048, .i32⟩
  | .hbm, ⟨35, _⟩ => ⟨S2048x2048, .i1⟩
  | .hbm, ⟨36, _⟩ => ⟨S_, .f32⟩
  | .hbm, ⟨37, _⟩ => ⟨S_, .f32⟩
  | .hbm, ⟨38, _⟩ => ⟨S1x8x2048x2048, .i1⟩
  | .hbm, ⟨39, _⟩ => ⟨S1x8x2048x2048, .f32⟩
  | .hbm, ⟨40, _⟩ => ⟨S1x8x2048x2048, .f32⟩
  | .hbm, ⟨41, _⟩ => ⟨S_, .f32⟩
  | .hbm, ⟨42, _⟩ => ⟨S1x8x2048, .f32⟩
  | .hbm, ⟨43, _⟩ => ⟨S1x8x2048x1, .f32⟩
  | .hbm, ⟨44, _⟩ => ⟨S1x8x2048x2048, .f32⟩
  | .hbm, ⟨45, _⟩ => ⟨S1x8x2048x2048, .f32⟩
  | .hbm, ⟨46, _⟩ => ⟨S1x8x2048x2048, .f32⟩
  | .hbm, ⟨47, _⟩ => ⟨S_, .f32⟩
  | .hbm, ⟨48, _⟩ => ⟨S1x8x2048, .f32⟩
  | .hbm, ⟨49, _⟩ => ⟨S1x8x2048x1, .f32⟩
  | .hbm, ⟨50, _⟩ => ⟨S1x8x2048x1, .f32⟩
  | .hbm, ⟨51, _⟩ => ⟨S1x8x2048x1, .f32⟩
  | .hbm, ⟨52, _⟩ => ⟨S1x2048x1024, .f32⟩
  | .hbm, ⟨53, _⟩ => ⟨S1x2048x8x128, .f32⟩
  | .hbm, ⟨54, _⟩ => ⟨S1x8x2048x128, .f32⟩
  | .hbm, ⟨55, _⟩ => ⟨S1x2048x1024, .f32⟩
  | .hbm, ⟨56, _⟩ => ⟨S1x2048x8x128, .f32⟩
  | .hbm, ⟨57, _⟩ => ⟨S1x8x2048x128, .f32⟩
  | .hbm, ⟨58, _⟩ => ⟨S1x2048x1024, .f32⟩
  | .hbm, ⟨59, _⟩ => ⟨S1x2048x8x128, .f32⟩
  | .hbm, ⟨60, _⟩ => ⟨S1x8x2048x128, .f32⟩
  | .hbm, ⟨61, _⟩ => ⟨S8x2048, .f32⟩
  | .hbm, ⟨62, _⟩ => ⟨S1x8x2048, .f32⟩
  | .hbm, ⟨63, _⟩ => ⟨S8x2048, .f32⟩
  | .hbm, ⟨64, _⟩ => ⟨S1x8x2048, .f32⟩
  | .hbm, ⟨65, _⟩ => ⟨S1x8x2048x2048, .f32⟩
  | .hbm, ⟨66, _⟩ => ⟨S_, .f32⟩
  | .hbm, ⟨67, _⟩ => ⟨S1x8x2048x2048, .f32⟩
  | .hbm, ⟨68, _⟩ => ⟨S1x8x2048x2048, .f32⟩
  | .hbm, ⟨69, _⟩ => ⟨S1x8x2048x1, .f32⟩
  | .hbm, ⟨70, _⟩ => ⟨S1x8x2048x2048, .f32⟩
  | .hbm, ⟨71, _⟩ => ⟨S1x8x2048x2048, .f32⟩
  | .hbm, ⟨72, _⟩ => ⟨S1x8x1x2048, .f32⟩
  | .hbm, ⟨73, _⟩ => ⟨S1x8x2048x2048, .f32⟩
  | .hbm, ⟨74, _⟩ => ⟨S1x8x2048x2048, .f32⟩
  | .hbm, ⟨75, _⟩ => ⟨S2048, .i32⟩
  | .hbm, ⟨76, _⟩ => ⟨S1x2048, .i32⟩
  | .hbm, ⟨77, _⟩ => ⟨S2048, .i32⟩
  | .hbm, ⟨78, _⟩ => ⟨S2048x1, .i32⟩
  | .hbm, ⟨79, _⟩ => ⟨S2048x2048, .i32⟩
  | .hbm, ⟨80, _⟩ => ⟨S2048x2048, .i32⟩
  | .hbm, ⟨81, _⟩ => ⟨S2048x2048, .i1⟩
  | .hbm, ⟨82, _⟩ => ⟨S_, .f32⟩
  | .hbm, ⟨83, _⟩ => ⟨S_, .f32⟩
  | .hbm, ⟨84, _⟩ => ⟨S1x8x2048x2048, .i1⟩
  | .hbm, ⟨85, _⟩ => ⟨S1x8x2048x2048, .f32⟩
  | .hbm, ⟨86, _⟩ => ⟨S1x8x2048x2048, .f32⟩
  | .hbm, ⟨87, _⟩ => ⟨S_, .f32⟩
  | .hbm, ⟨88, _⟩ => ⟨S1x8x2048, .f32⟩
  | .hbm, ⟨89, _⟩ => ⟨S_, .f32⟩
  | .hbm, ⟨90, _⟩ => ⟨S1x8x2048, .f32⟩
  | .hbm, ⟨91, _⟩ => ⟨S1x8x2048, .f32⟩
  | .hbm, ⟨92, _⟩ => ⟨S1x8x2048x1, .f32⟩
  | .hbm, ⟨93, _⟩ => ⟨S1x8x2048x2048, .f32⟩
  | .hbm, ⟨94, _⟩ => ⟨S1x8x2048x2048, .f32⟩
  | .hbm, ⟨95, _⟩ => ⟨S1x8x2048x2048, .f32⟩
  | .hbm, ⟨96, _⟩ => ⟨S_, .f32⟩
  | .hbm, ⟨97, _⟩ => ⟨S1x8x2048, .f32⟩
  | .hbm, ⟨98, _⟩ => ⟨S1x8x2048x1, .f32⟩
  | .hbm, ⟨99, _⟩ => ⟨S1x8x2048x2048, .f32⟩
  | .hbm, ⟨100, _⟩ => ⟨S1x8x2048x2048, .f32⟩
  | .hbm, ⟨101, _⟩ => ⟨S1x8x2048x128, .f32⟩
  | .hbm, ⟨102, _⟩ => ⟨S1x2048x8x128, .f32⟩
  | .hbm, ⟨103, _⟩ => ⟨S1x2048x1024, .f32⟩
  | .hbm, ⟨104, _⟩ => ⟨S2048x1024, .f32⟩
  | .hbm, ⟨105, _⟩ => ⟨S8x2048x1, .f32⟩
  | .hbm, ⟨106, _⟩ => ⟨S2048x1024, .bf16⟩
  | .hbm, ⟨107, _⟩ => ⟨S2048x1024, .bf16⟩
  | .hbm, ⟨108, _⟩ => ⟨S2048x1024, .bf16⟩
  | .hbm, ⟨109, _⟩ => ⟨S8x2048x1, .f32⟩
  | .hbm, ⟨110, _⟩ => ⟨S8x1x2048, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x512x1, .f32⟩
  | .local _ .vmem, ⟨7, _⟩ => ⟨S1x512x1, .f32⟩
  | .local _ .vmem, ⟨8, _⟩ => ⟨S1x1x2048, .f32⟩
  | .local _ .vmem, ⟨9, _⟩ => ⟨S1x1x2048, .f32⟩
  | .local _ .vmem, ⟨10, _⟩ => ⟨S512x128, .f32⟩
  | .local _ .vmem, ⟨11, _⟩ => ⟨S512x128, .f32⟩
  | .local _ .vmem, ⟨12, _⟩ => ⟨S512x128, .bf16⟩
  | .local _ .vmem, ⟨13, _⟩ => ⟨S512x128, .bf16⟩
  | .local _ .vmem, ⟨14, _⟩ => ⟨S1x512x1, .f32⟩
  | .local _ .vmem, ⟨15, _⟩ => ⟨S1x512x1, .f32⟩
  | .local _ .vmem, ⟨16, _⟩ => ⟨S512x128, .bf16⟩
  | .local _ .vmem, ⟨17, _⟩ => ⟨S512x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S1x512x1, .f32⟩
  | .local _ .vmem, ⟨23, _⟩ => ⟨S1x512x1, .f32⟩
  | .local _ .vmem, ⟨24, _⟩ => ⟨S1x1x2048, .f32⟩
  | .local _ .vmem, ⟨25, _⟩ => ⟨S1x1x2048, .f32⟩
  | .local _ .vmem, ⟨26, _⟩ => ⟨S2048x128, .f32⟩
  | .local _ .vmem, ⟨27, _⟩ => ⟨S2048x128, .f32⟩
  | .local _ .vmem, ⟨28, _⟩ => ⟨S1x2048, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_0 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_3 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_4 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v70 : Ref sig .tc := ⟨.hbm, 86, rfl⟩
abbrev main_cst_5 : Ref sig .tc := ⟨.hbm, 87, rfl⟩
abbrev main_v71 : Ref sig .tc := ⟨.hbm, 88, rfl⟩
abbrev main_cst_6 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_7 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87_0 : Ref sig .tc := ⟨.hbm, 106, rfl⟩
abbrev main_v87_1 : Ref sig .tc := ⟨.hbm, 107, rfl⟩
abbrev main_v87_2 : Ref sig .tc := ⟨.hbm, 108, rfl⟩
abbrev main_v87_3 : Ref sig .tc := ⟨.hbm, 109, rfl⟩
abbrev main_v87_4 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_14 : BitVec 32 := 0#32
  let arg1 : BitVec 32 := BitVec.ofNat 32 (i 1).val
  let v20 : BitVec 32 := Scalar.subi arg1 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let c1_i32_15 : BitVec 32 := 1#32
  ⟨c0_i32_14, v24, c1_i32_15⟩
def k0_mult1 (i : grid0.Coords) (k0_t1 : Fin (k0_t1_loop i).trips) : BitVec 32 :=
  let c0_i32_14 : BitVec 32 := 0#32
  let c1_i32_15 : BitVec 32 := 1#32
  let arg18 : BitVec 32 := Scf.iv c0_i32_14 c1_i32_15 k0_t1
  let c512_i32_48 : BitVec 32 := 512#32
  let v104 : BitVec 32 := Scalar.muli arg18 c512_i32_48
  v104
def k0_off1 (i : grid0.Coords) (k0_t1 : Fin (k0_t1_loop i).trips) : Fin 2 → Nat :=
  let c0_i32_14 : BitVec 32 := 0#32
  let c1_i32_15 : BitVec 32 := 1#32
  let arg18 : BitVec 32 := Scf.iv c0_i32_14 c1_i32_15 k0_t1
  let c512_i32_48 : BitVec 32 := 512#32
  let v104 : BitVec 32 := Scalar.muli arg18 c512_i32_48
  let v105 : BitVec 32 := v104
  let v106 : Index := Scalar.indexCast v105
  let c0_49 : Index := 0#32
  ![v106.toNat, 0]
def k0_off2 (i : grid0.Coords) (k0_t1 : Fin (k0_t1_loop i).trips) : Fin 3 → Nat :=
  let c0_51 : Index := 0#32
  let c0_52 : Index := 0#32
  let c0_i32_14 : BitVec 32 := 0#32
  let c1_i32_15 : BitVec 32 := 1#32
  let arg18 : BitVec 32 := Scf.iv c0_i32_14 c1_i32_15 k0_t1
  let c512_i32_48 : BitVec 32 := 512#32
  let v104 : BitVec 32 := Scalar.muli arg18 c512_i32_48
  let v105 : BitVec 32 := v104
  let v110 : Index := Scalar.indexCast v105
  ![0, 0, v110.toNat]
def k0_off3 (i : grid0.Coords) (k0_t1 : Fin (k0_t1_loop i).trips) : Fin 2 → Nat :=
  let c0_69 : Index := 0#32
  let c0_i32_14 : BitVec 32 := 0#32
  let c1_i32_15 : BitVec 32 := 1#32
  let arg18 : BitVec 32 := Scf.iv c0_i32_14 c1_i32_15 k0_t1
  let c512_i32_48 : BitVec 32 := 512#32
  let v104 : BitVec 32 := Scalar.muli arg18 c512_i32_48
  let v105 : BitVec 32 := v104
  let v160 : Index := Scalar.indexCast v105
  ![0, v160.toNat]
@[reducible] def k0_t2_loop (i : grid0.Coords) : Scf.Loop 32 :=
  let c0_i32_14 : BitVec 32 := 0#32
  let arg1 : BitVec 32 := BitVec.ofNat 32 (i 1).val
  let v20 : BitVec 32 := Scalar.subi arg1 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let v21 : BitVec 32 := Scalar.addi c0_i32_14 v20
  let c1_i32_16 : BitVec 32 := 1#32
  ⟨v24, v21, c1_i32_16⟩
def k0_mult2 (i : grid0.Coords) (k0_t2 : Fin (k0_t2_loop i).trips) : BitVec 32 :=
  let c0_i32_14 : BitVec 32 := 0#32
  let arg1 : BitVec 32 := BitVec.ofNat 32 (i 1).val
  let v20 : BitVec 32 := Scalar.subi arg1 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let c1_i32_16 : BitVec 32 := 1#32
  let arg18 : BitVec 32 := Scf.iv v24 c1_i32_16 k0_t2
  let c512_i32_48 : BitVec 32 := 512#32
  let v104 : BitVec 32 := Scalar.muli arg18 c512_i32_48
  v104
def k0_off4 (i : grid0.Coords) (k0_t2 : Fin (k0_t2_loop i).trips) : Fin 2 → Nat :=
  let c0_i32_14 : BitVec 32 := 0#32
  let arg1 : BitVec 32 := BitVec.ofNat 32 (i 1).val
  let v20 : BitVec 32 := Scalar.subi arg1 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let c1_i32_16 : BitVec 32 := 1#32
  let arg18 : BitVec 32 := Scf.iv v24 c1_i32_16 k0_t2
  let c512_i32_48 : BitVec 32 := 512#32
  let v104 : BitVec 32 := Scalar.muli arg18 c512_i32_48
  let v105 : BitVec 32 := v104
  let v106 : Index := Scalar.indexCast v105
  let c0_49 : Index := 0#32
  ![v106.toNat, 0]
def k0_off5 (i : grid0.Coords) (k0_t2 : Fin (k0_t2_loop i).trips) : Fin 3 → Nat :=
  let c0_51 : Index := 0#32
  let c0_52 : Index := 0#32
  let c0_i32_14 : BitVec 32 := 0#32
  let arg1 : BitVec 32 := BitVec.ofNat 32 (i 1).val
  let v20 : BitVec 32 := Scalar.subi arg1 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let c1_i32_16 : BitVec 32 := 1#32
  let arg18 : BitVec 32 := Scf.iv v24 c1_i32_16 k0_t2
  let c512_i32_48 : BitVec 32 := 512#32
  let v104 : BitVec 32 := Scalar.muli arg18 c512_i32_48
  let v105 : BitVec 32 := v104
  let v110 : Index := Scalar.indexCast v105
  ![0, 0, v110.toNat]
def k0_off6 (i : grid0.Coords) (k0_t2 : Fin (k0_t2_loop i).trips) : Fin 2 → Nat :=
  let c0_69 : Index := 0#32
  let c0_i32_14 : BitVec 32 := 0#32
  let arg1 : BitVec 32 := BitVec.ofNat 32 (i 1).val
  let v20 : BitVec 32 := Scalar.subi arg1 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let c1_i32_16 : BitVec 32 := 1#32
  let arg18 : BitVec 32 := Scf.iv v24 c1_i32_16 k0_t2
  let c512_i32_48 : BitVec 32 := 512#32
  let v104 : BitVec 32 := Scalar.muli arg18 c512_i32_48
  let v105 : BitVec 32 := v104
  let v160 : Index := Scalar.indexCast v105
  ![0, v160.toNat]
def k0_mult3 (i : grid0.Coords) : BitVec 32 :=
  let arg1 : BitVec 32 := BitVec.ofNat 32 (i 1).val
  let c512_i32 : BitVec 32 := 512#32
  let v27 : BitVec 32 := Scalar.muli arg1 c512_i32
  v27
def k0_off7 (i : grid0.Coords) : Fin 2 → Nat :=
  let arg1 : BitVec 32 := BitVec.ofNat 32 (i 1).val
  let c512_i32 : BitVec 32 := 512#32
  let v27 : BitVec 32 := Scalar.muli arg1 c512_i32
  let v28 : BitVec 32 := v27
  let v29 : Index := Scalar.indexCast v28
  let c0_17 : Index := 0#32
  ![v29.toNat, 0]
def k0_off8 (i : grid0.Coords) : Fin 3 → Nat :=
  let c0_19 : Index := 0#32
  let c0_20 : Index := 0#32
  let arg1 : BitVec 32 := BitVec.ofNat 32 (i 1).val
  let c512_i32 : BitVec 32 := 512#32
  let v27 : BitVec 32 := Scalar.muli arg1 c512_i32
  let v28 : BitVec 32 := v27
  let v33 : Index := Scalar.indexCast v28
  ![0, 0, v33.toNat]
def k0_off9 (i : grid0.Coords) : Fin 2 → Nat :=
  let c0_40 : Index := 0#32
  let arg1 : BitVec 32 := BitVec.ofNat 32 (i 1).val
  let c512_i32 : BitVec 32 := 512#32
  let v27 : BitVec 32 := Scalar.muli arg1 c512_i32
  let v28 : BitVec 32 := v27
  let v89 : Index := Scalar.indexCast v28
  ![0, v89.toNat]
def k0_cond2 (i : grid0.Coords) : BitVec 1 :=
  let arg1 : BitVec 32 := BitVec.ofNat 32 (i 1).val
  let c3_i32 : BitVec 32 := 3#32
  let v101 : BitVec 1 := Scalar.cmpi .eq arg1 c3_i32
  let v102 : BitVec 32 := Scalar.extui v101
  let c0_i32_47 : BitVec 32 := 0#32
  let v103 : BitVec 1 := Scalar.cmpi .ne v102 c0_i32_47
  v103

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference19Ideal.lean ====
abbrev S2048x6144 : Shape := ⟨2, ![2048, 6144]⟩
abbrev S8x2048x1 : Shape := ⟨3, ![8, 2048, 1]⟩
abbrev S8x1x2048 : Shape := ⟨3, ![8, 1, 2048]⟩
abbrev S2048x1024 : Shape := ⟨2, ![2048, 1024]⟩
abbrev S2048x3072 : Shape := ⟨2, ![2048, 3072]⟩
abbrev S1x2048x1024 : Shape := ⟨3, ![1, 2048, 1024]⟩
abbrev S1x2048x8x128 : Shape := ⟨4, ![1, 2048, 8, 128]⟩
abbrev S1x8x2048x128 : Shape := ⟨4, ![1, 8, 2048, 128]⟩
abbrev S8x2048 : Shape := ⟨2, ![8, 2048]⟩
abbrev S1x8x2048 : Shape := ⟨3, ![1, 8, 2048]⟩
abbrev S1x8x2048x2048 : Shape := ⟨4, ![1, 8, 2048, 2048]⟩
abbrev S_ : Shape := ⟨0, ![]⟩
abbrev S1x8x2048x1 : Shape := ⟨4, ![1, 8, 2048, 1]⟩
abbrev S1x8x1x2048 : Shape := ⟨4, ![1, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x8x128x2048 : Shape := ⟨4, ![1, 8, 128, 2048]⟩

abbrev nBuf : Space → Nat
  | .hbm => 152
  | .vmem => 0
  | .smem => 0
  | _ => 0

abbrev hbmTy0_0 (i : Nat) : BufTy := match i % 128 with
  | 0 => ⟨S2048x6144, .bf16⟩
  | 1 => ⟨S8x2048x1, .f32⟩
  | 2 => ⟨S8x1x2048, .f32⟩
  | 3 => ⟨S2048x1024, .bf16⟩
  | 4 => ⟨S2048x3072, .bf16⟩
  | 5 => ⟨S2048x3072, .f32⟩
  | 6 => ⟨S2048x1024, .f32⟩
  | 7 => ⟨S2048x1024, .f32⟩
  | 8 => ⟨S2048x1024, .f32⟩
  | 9 => ⟨S1x2048x1024, .f32⟩
  | 10 => ⟨S1x2048x8x128, .f32⟩
  | 11 => ⟨S1x8x2048x128, .f32⟩
  | 12 => ⟨S1x2048x1024, .f32⟩
  | 13 => ⟨S1x2048x8x128, .f32⟩
  | 14 => ⟨S1x8x2048x128, .f32⟩
  | 15 => ⟨S1x2048x1024, .f32⟩
  | 16 => ⟨S1x2048x8x128, .f32⟩
  | 17 => ⟨S1x8x2048x128, .f32⟩
  | 18 => ⟨S8x2048, .f32⟩
  | 19 => ⟨S1x8x2048, .f32⟩
  | 20 => ⟨S8x2048, .f32⟩
  | 21 => ⟨S1x8x2048, .f32⟩
  | 22 => ⟨S1x8x2048x2048, .f32⟩
  | 23 => ⟨S_, .f32⟩
  | 24 => ⟨S1x8x2048x2048, .f32⟩
  | 25 => ⟨S1x8x2048x2048, .f32⟩
  | 26 => ⟨S1x8x2048x1, .f32⟩
  | 27 => ⟨S1x8x2048x2048, .f32⟩
  | 28 => ⟨S1x8x2048x2048, .f32⟩
  | 29 => ⟨S1x8x1x2048, .f32⟩
  | 30 => ⟨S1x8x2048x2048, .f32⟩
  | 31 => ⟨S1x8x2048x2048, .f32⟩
  | 32 => ⟨S2048, .i32⟩
  | 33 => ⟨S1x2048, .i32⟩
  | 34 => ⟨S2048, .i32⟩
  | 35 => ⟨S2048x1, .i32⟩
  | 36 => ⟨S2048x2048, .i32⟩
  | 37 => ⟨S2048x2048, .i32⟩
  | 38 => ⟨S2048x2048, .i1⟩
  | 39 => ⟨S_, .f32⟩
  | 40 => ⟨S_, .f32⟩
  | 41 => ⟨S1x8x2048x2048, .i1⟩
  | 42 => ⟨S1x8x2048x2048, .f32⟩
  | 43 => ⟨S1x8x2048x2048, .f32⟩
  | 44 => ⟨S_, .f32⟩
  | 45 => ⟨S1x8x2048x2048, .f32⟩
  | 46 => ⟨S_, .f32⟩
  | 47 => ⟨S1x8x2048, .f32⟩
  | 48 => ⟨S1x8x2048x1, .f32⟩
  | 49 => ⟨S1x8x2048x2048, .f32⟩
  | 50 => ⟨S1x8x2048x2048, .i1⟩
  | 51 => ⟨S1x8x2048x2048, .f32⟩
  | 52 => ⟨S_, .f32⟩
  | 53 => ⟨S1x8x2048, .f32⟩
  | 54 => ⟨S_, .f32⟩
  | 55 => ⟨S1x8x2048, .f32⟩
  | 56 => ⟨S1x8x2048, .f32⟩
  | 57 => ⟨S_, .f32⟩
  | 58 => ⟨S1x8x2048, .f32⟩
  | 59 => ⟨S1x8x2048, .i1⟩
  | 60 => ⟨S_, .f32⟩
  | 61 => ⟨S1x8x2048, .f32⟩
  | 62 => ⟨S1x8x2048, .i1⟩
  | 63 => ⟨S_, .f32⟩
  | 64 => ⟨S1x8x2048, .f32⟩
  | 65 => ⟨S_, .f32⟩
  | 66 => ⟨S1x8x2048, .f32⟩
  | 67 => ⟨S_, .f32⟩
  | 68 => ⟨S1x8x2048, .f32⟩
  | 69 => ⟨S1x8x2048, .f32⟩
  | 70 => ⟨S1x8x2048, .f32⟩
  | 71 => ⟨S1x8x2048x1, .f32⟩
  | 72 => ⟨S1x8x2048x2048, .f32⟩
  | 73 => ⟨S1x8x2048x2048, .f32⟩
  | 74 => ⟨S1x8x2048x2048, .f32⟩
  | 75 => ⟨S_, .f32⟩
  | 76 => ⟨S1x8x2048, .f32⟩
  | 77 => ⟨S1x8x2048x1, .f32⟩
  | 78 => ⟨S1x8x2048x2048, .f32⟩
  | 79 => ⟨S1x8x2048x2048, .f32⟩
  | 80 => ⟨S1x8x2048x1, .f32⟩
  | 81 => ⟨S_, .f32⟩
  | 82 => ⟨S1x8x2048x1, .f32⟩
  | 83 => ⟨S1x8x2048x1, .f32⟩
  | 84 => ⟨S1x8x2048x128, .f32⟩
  | 85 => ⟨S1x2048x8x128, .f32⟩
  | 86 => ⟨S1x2048x1024, .f32⟩
  | 87 => ⟨S2048x1024, .f32⟩
  | 88 => ⟨S2048x1024, .f32⟩
  | 89 => ⟨S1x2048x1024, .f32⟩
  | 90 => ⟨S1x2048x8x128, .f32⟩
  | 91 => ⟨S1x8x2048x128, .f32⟩
  | 92 => ⟨S1x8x128x2048, .f32⟩
  | 93 => ⟨S1x8x2048x128, .f32⟩
  | 94 => ⟨S1x8x2048x2048, .f32⟩
  | 95 => ⟨S1x8x2048x2048, .f32⟩
  | 96 => ⟨S1x8x2048x2048, .f32⟩
  | 97 => ⟨S1x8x2048x2048, .f32⟩
  | 98 => ⟨S_, .f32⟩
  | 99 => ⟨S1x8x2048, .f32⟩
  | 100 => ⟨S1x8x2048x1, .f32⟩
  | 101 => ⟨S1x8x2048x1, .f32⟩
  | 102 => ⟨S1x8x2048x2048, .f32⟩
  | 103 => ⟨S1x8x2048x2048, .f32⟩
  | 104 => ⟨S_, .f32⟩
  | 105 => ⟨S8x2048, .f32⟩
  | 106 => ⟨S1x8x2048, .f32⟩
  | 107 => ⟨S1x8x2048x2048, .f32⟩
  | 108 => ⟨S1x8x2048x2048, .f32⟩
  | 109 => ⟨S1x8x2048x2048, .f32⟩
  | 110 => ⟨S_, .f32⟩
  | 111 => ⟨S1x8x2048x2048, .f32⟩
  | 112 => ⟨S1x8x2048x2048, .f32⟩
  | 113 => ⟨S1x8x2048x2048, .f32⟩
  | 114 => ⟨S_, .f32⟩
  | 115 => ⟨S1x8x2048, .f32⟩
  | 116 => ⟨S1x8x1x2048, .f32⟩
  | 117 => ⟨S_, .f32⟩
  | 118 => ⟨S8x2048, .f32⟩
  | 119 => ⟨S1x8x2048, .f32⟩
  | 120 => ⟨S_, .f32⟩
  | 121 => ⟨S1x8x2048, .f32⟩
  | 122 => ⟨S1x8x2048x1, .f32⟩
  | 123 => ⟨S_, .f32⟩
  | 124 => ⟨S8x2048, .f32⟩
  | 125 => ⟨S1x8x2048, .f32⟩
  | 126 => ⟨S_, .f32⟩
  | 127 => ⟨S1x8x2048x2048, .f32⟩
  | _ => ⟨S2048x6144, .bf16⟩

abbrev hbmTy0_1 (i : Nat) : BufTy := match i % 128 with
  | 0 => ⟨S1x8x2048x2048, .f32⟩
  | 1 => ⟨S1x8x2048x128, .f32⟩
  | 2 => ⟨S1x8x2048x128, .f32⟩
  | 3 => ⟨S_, .f32⟩
  | 4 => ⟨S8x2048, .f32⟩
  | 5 => ⟨S8x1x2048, .f32⟩
  | 6 => ⟨S_, .f32⟩
  | 7 => ⟨S8x2048, .f32⟩
  | 8 => ⟨S8x2048x1, .f32⟩
  | 9 => ⟨S1x2048x8x128, .f32⟩
  | 10 => ⟨S1x2048x1024, .f32⟩
  | 11 => ⟨S_, .f32⟩
  | 12 => ⟨S2048x1024, .f32⟩
  | 13 => ⟨S1x2048x8x128, .f32⟩
  | 14 => ⟨S1x2048x1024, .f32⟩
  | 15 => ⟨S_, .f32⟩
  | 16 => ⟨S2048x1024, .f32⟩
  | 17 => ⟨S1x2048x8x128, .f32⟩
  | 18 => ⟨S1x2048x1024, .f32⟩
  | 19 => ⟨S_, .f32⟩
  | 20 => ⟨S2048x1024, .f32⟩
  | 21 => ⟨S2048x1024, .bf16⟩
  | 22 => ⟨S2048x1024, .bf16⟩
  | 23 => ⟨S2048x1024, .bf16⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_0 : Ref sig .tc := ⟨.hbm, 39, rfl⟩
abbrev main_call0_v0 : Ref sig .tc := ⟨.hbm, 40, rfl⟩
abbrev main_v34_1 : Ref sig .tc := ⟨.hbm, 41, rfl⟩
abbrev main_call0_v2 : Ref sig .tc := ⟨.hbm, 42, rfl⟩
abbrev main_v34_0 : Ref sig .tc := ⟨.hbm, 43, rfl⟩
abbrev main_call0_cst : Ref sig .tc := ⟨.hbm, 44, rfl⟩
abbrev main_v34_2 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_11 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_12 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_call1_cst : Ref sig .tc := ⟨.hbm, 110, rfl⟩
abbrev main_call1_v0 : Ref sig .tc := ⟨.hbm, 111, rfl⟩
abbrev main_v87 : Ref sig .tc := ⟨.hbm, 112, rfl⟩
abbrev main_v88 : Ref sig .tc := ⟨.hbm, 113, rfl⟩
abbrev main_cst_13 : Ref sig .tc := ⟨.hbm, 114, rfl⟩
abbrev main_v89 : Ref sig .tc := ⟨.hbm, 115, rfl⟩
abbrev main_v90 : Ref sig .tc := ⟨.hbm, 116, rfl⟩
abbrev main_cst_14 : Ref sig .tc := ⟨.hbm, 117, rfl⟩
abbrev main_v91 : Ref sig .tc := ⟨.hbm, 118, rfl⟩
abbrev main_v92 : Ref sig .tc := ⟨.hbm, 119, rfl⟩
abbrev main_cst_15 : Ref sig .tc := ⟨.hbm, 120, rfl⟩
abbrev main_v93 : Ref sig .tc := ⟨.hbm, 121, rfl⟩
abbrev main_v94 : Ref sig .tc := ⟨.hbm, 122, rfl⟩
abbrev main_cst_16 : Ref sig .tc := ⟨.hbm, 123, rfl⟩
abbrev main_v95 : Ref sig .tc := ⟨.hbm, 124, rfl⟩
abbrev main_v96 : Ref sig .tc := ⟨.hbm, 125, rfl⟩
abbrev main_cst_17 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_18 : Ref sig .tc := ⟨.hbm, 131, rfl⟩
abbrev main_v101 : Ref sig .tc := ⟨.hbm, 132, rfl⟩
abbrev main_v102 : Ref sig .tc := ⟨.hbm, 133, rfl⟩
abbrev main_cst_19 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_20 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_21 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_22 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩

abbrev nD : Nat := 1
abbrev τ : Topo := Topo.v7x

variable {F : FTy → Type} [FloatOps F]
-- ==== Kernel20.lean ====
abbrev S2048x2048 : Shape := ⟨2, ![2048, 2048]⟩
abbrev S2048x4608 : Shape := ⟨2, ![2048, 4608]⟩
abbrev S256x512 : Shape := ⟨2, ![256, 512]⟩

abbrev nBuf : Space → Nat
  | .hbm => 8
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x4608, .f32⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference20Ideal.lean ====
abbrev S2048x2048 : Shape := ⟨2, ![2048, 2048]⟩
abbrev S2048x4608 : Shape := ⟨2, ![2048, 4608]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x4608, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .bf16⟩
  | .hbm, ⟨42, _⟩ => ⟨S2048x2048, .bf16⟩
  | .hbm, ⟨43, _⟩ => ⟨S2048x2048, .bf16⟩
  | .hbm, ⟨44, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel21.lean ====
abbrev S2048x1024 : Shape := ⟨2, ![2048, 1024]⟩
abbrev S2048x2048 : Shape := ⟨2, ![2048, 2048]⟩
abbrev S4x1024x1024 : Shape := ⟨3, ![4, 1024, 1024]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S4x1024x1024, .bf16⟩
  | .hbm, ⟨3, _⟩ => ⟨S4x1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, arg0.toNat, v27.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2048x1024 : Shape := ⟨2, ![2048, 1024]⟩
abbrev S2048x2048 : Shape := ⟨2, ![2048, 2048]⟩
abbrev S4x1024x1024 : Shape := ⟨3, ![4, 1024, 1024]⟩
abbrev S_ : Shape := ⟨0, ![]⟩
abbrev S4x1024x512 : Shape := ⟨3, ![4, 1024, 512]⟩
abbrev S1024x4x512 : Shape := ⟨3, ![1024, 4, 512]⟩
abbrev S1024x2048 : Shape := ⟨2, ![1024, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S4x1024x1024, .bf16⟩
  | .hbm, ⟨3, _⟩ => ⟨S_, .f32⟩
  | .hbm, ⟨4, _⟩ => ⟨S4x1024x512, .f32⟩
  | .hbm, ⟨5, _⟩ => ⟨S2048x1024, .f32⟩
  | .hbm, ⟨6, _⟩ => ⟨S1024x4x512, .f32⟩
  | .hbm, ⟨7, _⟩ => ⟨S1024x2048, .f32⟩
  | .hbm, ⟨8, _⟩ => ⟨S2048x2048, .f32⟩
  | .hbm, ⟨9, _⟩ => ⟨S2048x2048, .f32⟩
  | .hbm, ⟨10, _⟩ => ⟨S2048x1024, .f32⟩
  | .hbm, ⟨11, _⟩ => ⟨S1024x2048, .f32⟩
  | .hbm, ⟨12, _⟩ => ⟨S1024x4x512, .f32⟩
  | .hbm, ⟨13, _⟩ => ⟨S4x1024x512, .f32⟩
  | .hbm, ⟨14, _⟩ => ⟨S4x1024x512, .bf16⟩
  | .hbm, ⟨15, _⟩ => ⟨S4x1024x512, .bf16⟩
  | .hbm, ⟨16, _⟩ => ⟨S4x1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel22.lean ====
abbrev S2048x1024 : Shape := ⟨2, ![2048, 1024]⟩
abbrev S2048x2048 : Shape := ⟨2, ![2048, 2048]⟩
abbrev S4x1024x1024 : Shape := ⟨3, ![4, 1024, 1024]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x2048, .bf16⟩
  | .hbm, ⟨2, _⟩ => ⟨S4x1024x1024, .bf16⟩
  | .hbm, ⟨3, _⟩ => ⟨S4x1024x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.addi c1_i32_11 v26
  let c0_i32_12 : BitVec 32 := 0#32
  ![v16.toNat, arg0.toNat, v27.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S2048x1024 : Shape := ⟨2, ![2048, 1024]⟩
abbrev S2048x2048 : Shape := ⟨2, ![2048, 2048]⟩
abbrev S4x1024x1024 : Shape := ⟨3, ![4, 1024, 1024]⟩
abbrev S4x1024x512 : Shape := ⟨3, ![4, 1024, 512]⟩
abbrev S_ : Shape := ⟨0, ![]⟩
abbrev S1024x4x512 : Shape := ⟨3, ![1024, 4, 512]⟩
abbrev S1024x2048 : Shape := ⟨2, ![1024, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .bf16⟩
  | .hbm, ⟨2, _⟩ => ⟨S4x1024x1024, .bf16⟩
  | .hbm, ⟨3, _⟩ => ⟨S4x1024x512, .bf16⟩
  | .hbm, ⟨4, _⟩ => ⟨S_, .f32⟩
  | .hbm, ⟨5, _⟩ => ⟨S4x1024x512, .f32⟩
  | .hbm, ⟨6, _⟩ => ⟨S1024x4x512, .f32⟩
  | .hbm, ⟨7, _⟩ => ⟨S1024x2048, .f32⟩
  | .hbm, ⟨8, _⟩ => ⟨S2048x2048, .f32⟩
  | .hbm, ⟨9, _⟩ => ⟨S2048x2048, .f32⟩
  | .hbm, ⟨10, _⟩ => ⟨S2048x1024, .f32⟩
  | .hbm, ⟨11, _⟩ => ⟨S1024x2048, .f32⟩
  | .hbm, ⟨12, _⟩ => ⟨S1024x4x512, .f32⟩
  | .hbm, ⟨13, _⟩ => ⟨S4x1024x512, .f32⟩
  | .hbm, ⟨14, _⟩ => ⟨S4x1024x512, .bf16⟩
  | .hbm, ⟨15, _⟩ => ⟨S4x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Mm.Sums.lean ====
/-
  What the tiled products share: an array read at natural coordinates, the product of two blocks read at an entry, and the
  sum a run of grid points leaves in its accumulator.
-/
module

public import Idealize.ShloMosaic.Lib.IdealHost
public import Idealize.ShloMosaic.Lib.MatmulPlain
public import Idealize.ShloMosaic.Lib.Pipeline.Value
public import Idealize.ShloMosaic.Lib.Pipeline.ValueKit.Acc

@[expose] public section

noncomputable section

namespace Cert.Mm

open Idealize.ShloMosaic Idealize.ShloMosaic.ValueIdx
open Finset (range)

/-- A matrix as a function of two natural numbers. -/
theorem exists_nat2 {m n : ℕ} (a : (⟨2, ![m, n]⟩ : Shape).Idx → EReal) : ∃ f : ℕ → ℕ → EReal, ∀ i, a i = f (i 0).val (i 1).val := by
  refine ⟨fun r c => if h : r < m ∧ c < n then a (ix2 ⟨r, h.1⟩ ⟨c, h.2⟩) else 0, fun i => ?_⟩
  have h0 : (i 0).val < m := (i 0).isLt
  have h1 : (i 1).val < n := (i 1).isLt
  refine Eq.symm ?_
  beta_reduce
  rw [dif_pos ⟨h0, h1⟩]
  exact congrArg a (eq_ix2 i).symm

/-- A stack of matrices as a function of three natural numbers. -/
theorem exists_nat3 {l m n : ℕ} (a : (⟨3, ![l, m, n]⟩ : Shape).Idx → EReal) :
    ∃ f : ℕ → ℕ → ℕ → EReal, ∀ i, a i = f (i 0).val (i 1).val (i 2).val := by
  refine ⟨fun q r c => if h : q < l ∧ r < m ∧ c < n then a (ix3 ⟨q, h.1⟩ ⟨r, h.2.1⟩ ⟨c, h.2.2⟩) else 0, fun i => ?_⟩
  have h0 : (i 0).val < l := (i 0).isLt
  have h1 : (i 1).val < m := (i 1).isLt
  have h2 : (i 2).val < n := (i 2).isLt
  refine Eq.symm ?_
  beta_reduce
  rw [dif_pos ⟨h0, h1, h2⟩]
  exact congrArg a (eq_ix3 i).symm

/-- A product contracting the rows of both operands. -/
def byRows (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- An entry of a product of two blocks, added to an accumulator: the three layouts of the operands. -/
theorem entry_nn {M K N : ℕ} {φ ψ : FTy} (x : FVec Ideal ⟨2, ![M, K]⟩ φ) (y : FVec Ideal ⟨2, ![K, N]⟩ ψ) (r : Fin M) (c : Fin N) :
    FloatOps.matmul (DotDims.plain M K N) none x y (constant ⟨2, ![M, N]⟩ .f32 0x00000000#32) (ix2 r c)
      = ∑ k : Fin K, x (ix2 r k) * y (ix2 k c) := by
  rw [Ideal.matmul_plain_apply]
  show Ideal.ofBits .f32 0x00000000#32 + _ = _
  rw [Ideal.ofBits_zero_f32, zero_add]

theorem entry_nt {M K N : ℕ} {φ ψ : FTy} (x : FVec Ideal ⟨2, ![M, K]⟩ φ) (y : FVec Ideal ⟨2, ![N, K]⟩ ψ) (r : Fin M) (c : Fin N) :
    FloatOps.matmul (DotDims.transposedRhs M K N) none x y (constant ⟨2, ![M, N]⟩ .f32 0x00000000#32) (ix2 r c)
      = ∑ k : Fin K, x (ix2 r k) * y (ix2 c k) := by
  rw [Ideal.matmul_transposedRhs_apply]
  show Ideal.ofBits .f32 0x00000000#32 + _ = _
  rw [Ideal.ofBits_zero_f32, zero_add]

theorem entry_tn {M K N : ℕ} {φ ψ : FTy} (x : FVec Ideal ⟨2, ![K, M]⟩ φ) (y : FVec Ideal ⟨2, ![K, N]⟩ ψ) (r : Fin M) (c : Fin N) :
    FloatOps.matmul (byRows M K N) none x y (constant ⟨2, ![M, N]⟩ .f32 0x00000000#32) (ix2 r c)
      = ∑ k : Fin K, x (ix2 k r) * y (ix2 k c) := by
  rw [Ideal.matmul_constant_zero_apply, ← Equiv.sum_comp (contrEquiv1 (byRows M K N) K rfl rfl).symm]
  refine Finset.sum_congr rfl fun k _ => ?_
  have hk := contrEquiv1_symm_val (byRows M K N) K rfl rfl k
  have hx : (byRows M K N).lhsIdx (ix2 r c) ((contrEquiv1 (byRows M K N) K rfl rfl).symm k) = ix2 k r := funext fun a => Fin.ext (by
    match a with
    | ⟨0, _⟩ => exact hk
    | ⟨1, _⟩ => rfl)
  have hy : (byRows M K N).rhsIdx (ix2 r c) ((contrEquiv1 (byRows M K N) K rfl rfl).symm k) = ix2 k c := funext fun a => Fin.ext (by
    match a with
    | ⟨0, _⟩ => exact hk
    | ⟨1, _⟩ => rfl)
  exact congrArg₂ (fun u v : EReal => u * v) (congrArg x hx) (congrArg y hy)

/-- A stack of one matrix, read as the matrix. -/
theorem unstack {m n : ℕ} (x : (⟨3, ![1, m, n]⟩ : Shape).Idx → EReal) (h : (⟨3, ![1, m, n]⟩ : Shape).ShapeCasts ⟨2, ![m, n]⟩) (r : Fin m) (c : Fin n) :
    shapeCast ⟨2, ![m, n]⟩ x h (ix2 r c) = x (ix3 0 r c) := by
  refine (shapeCast_dropUnit_apply ![m, n] x h (ix2 r c)).trans (congrArg x ?_)
  funext a
  match a with
  | ⟨0, _⟩ => rfl
  | ⟨1, _⟩ => rfl
  | ⟨2, _⟩ => rfl

/-- A matrix read as a stack of one. -/
theorem stacked {m n : ℕ} (x : (⟨2, ![m, n]⟩ : Shape).Idx → EReal) (h : (⟨2, ![m, n]⟩ : Shape).ShapeCasts ⟨3, ![1, m, n]⟩) (r : Fin m) (c : Fin n) :
    shapeCast ⟨3, ![1, m, n]⟩ x h (ix3 0 r c) = x (ix2 r c) := by
  refine (shapeCast_addUnit_apply ![m, n] x h (ix3 0 r c)).trans (congrArg x ?_)
  funext a
  match a with
  | ⟨0, _⟩ => rfl
  | ⟨1, _⟩ => rfl

/-- The last point of a run of `J` points, each adding `L` terms to what the point before left, holds all the terms. -/
theorem run_sum {N : ℕ} {ι : Type} (f : (n : ℕ) → n < N → ι → EReal) (J L : ℕ) (hJ : 0 < J) (X : ℕ → ι → ℕ → EReal)
    (h0 : ∀ t : Fin N, t.val % J = 0 → ∀ j, f t.val t.isLt j = ∑ l ∈ range L, X (t.val / J) j (t.val % J * L + l))
    (hs : ∀ t : Fin N, ¬t.val % J = 0 → ∀ j, f t.val t.isLt j
      = f (t.val - 1) (Nat.lt_of_le_of_lt (Nat.sub_le _ _) t.isLt) j + ∑ l ∈ range L, X (t.val / J) j (t.val % J * L + l))
    (q n : ℕ) (hq : n = J * q + (J - 1)) (hn : n < N) (j : ι) : f n hn j = ∑ k ∈ range (J * L), X q j k := by
  have hmod : n % J = J - 1 := by rw [hq, Nat.mul_add_mod]; exact Nat.mod_eq_of_lt (Nat.sub_lt hJ Nat.one_pos)
  have hdiv : n / J = q := by
    rw [hq, Nat.mul_add_div hJ, Nat.div_eq_of_lt (Nat.sub_lt hJ Nat.one_pos), Nat.add_zero]
  have h := Pipeline.eq_sum_of_reset_step_apply_divmod f J (fun _ => 0) (fun q s j => ∑ l ∈ range L, X q j (s * L + l))
    (fun t ht j => (h0 t ht j).trans (zero_add _).symm) hs ⟨n, hn⟩ j
  rw [zero_add] at h
  refine h.trans ?_
  show ∑ k ∈ range (n % J + 1), ∑ l ∈ range L, X (n / J) j (k * L + l) = _
  rw [hmod, hdiv, Nat.sub_add_cancel hJ, Finset.sum_range_range_mul_add J L (X q j)]

theorem congr3 (B : ℕ → ℕ → ℕ → EReal) {a b c a' b' c' : ℕ} (ha : a = a') (hb : b = b') (hc : c = c') : B a b c = B a' b' c' := by
  rw [ha, hb, hc]

theorem accAt_congr {N : ℕ} {α : Type} (f : (n : ℕ) → n < N → α) (g : (n : ℕ) → n < N → α → α) {b j b' j' : ℕ} (hb : b = b') (hj : j = j')
    (h : b + j < N) (h' : b' + j' < N) : Pipeline.accAt f g b j h = Pipeline.accAt f g b' j' h' := by
  subst hb
  subst hj
  rfl

/-- A product of two matrices in tiles. The points run over the blocks of the result, row by row, and `J` points in a row
    over the terms of one block: if each point adds the product of its two blocks, the last point of a run holds the entries
    of the whole product. -/
theorem tiled {N tm tn tk : ℕ} (J NJ : ℕ) (hJ : 0 < J) (a b : ℕ → ℕ → EReal) (X : Fin N → Fin tm → Fin tk → EReal) (Y : Fin N → Fin tn → Fin tk → EReal)
    (out : (n : ℕ) → n < N → Fin tm → Fin tn → EReal)
    (hX : ∀ t r k, X t r k = a (tm * (t.val / J / NJ) + r.val) (t.val % J * tk + k.val))
    (hY : ∀ t j k, Y t j k = b (tn * (t.val / J % NJ) + j.val) (t.val % J * tk + k.val))
    (first : ∀ t : Fin N, t.val % J = 0 → ∀ r j, out t.val t.isLt r j = ∑ k : Fin tk, X t r k * Y t j k)
    (next : ∀ t : Fin N, ¬t.val % J = 0 → ∀ r j, out t.val t.isLt r j
      = out (t.val - 1) (Nat.lt_of_le_of_lt (Nat.sub_le _ _) t.isLt) r j + ∑ k : Fin tk, X t r k * Y t j k)
    (q n : ℕ) (hq : n = J * q + (J - 1)) (h : n < N) (r : Fin tm) (j : Fin tn) :
    out n h r j = ∑ k ∈ range (J * tk), a (tm * (q / NJ) + r.val) k * b (tn * (q % NJ) + j.val) k := by
  have e : ∀ (t : Fin N) (r : Fin tm) (j : Fin tn), ∑ k : Fin tk, X t r k * Y t j k
      = ∑ k ∈ range tk, a (tm * (t.val / J / NJ) + r.val) (t.val % J * tk + k) * b (tn * (t.val / J % NJ) + j.val) (t.val % J * tk + k) := by
    intro t r j
    rw [Finset.sum_range]
    exact Finset.sum_congr rfl fun k _ => congrArg₂ (fun u v : EReal => u * v) (hX t r k) (hY t j k)
  exact run_sum (fun n h (p : Fin tm × Fin tn) => out n h p.1 p.2) J tk hJ
    (fun q p k => a (tm * (q / NJ) + p.1.val) k * b (tn * (q % NJ) + p.2.val) k)
    (fun t ht p => (first t ht p.1 p.2).trans (e t p.1 p.2))
    (fun t ht p => (next t ht p.1 p.2).trans (congrArg _ (e t p.1 p.2))) q n hq h (r, j)

/-- The product's entry `(i, j)` is held by the last point of the run of its block. -/
theorem tiled_at {N tm tn tk : ℕ} (J NJ : ℕ) (hJ : 0 < J) (hm : 0 < tm) (hn : 0 < tn) (a b : ℕ → ℕ → EReal) (X : Fin N → Fin tm → Fin tk → EReal)
    (Y : Fin N → Fin tn → Fin tk → EReal) (out : (n : ℕ) → n < N → Fin tm → Fin tn → EReal)
    (hX : ∀ t r k, X t r k = a (tm * (t.val / J / NJ) + r.val) (t.val % J * tk + k.val))
    (hY : ∀ t j k, Y t j k = b (tn * (t.val / J % NJ) + j.val) (t.val % J * tk + k.val))
    (first : ∀ t : Fin N, t.val % J = 0 → ∀ r j, out t.val t.isLt r j = ∑ k : Fin tk, X t r k * Y t j k)
    (next : ∀ t : Fin N, ¬t.val % J = 0 → ∀ r j, out t.val t.isLt r j
      = out (t.val - 1) (Nat.lt_of_le_of_lt (Nat.sub_le _ _) t.isLt) r j + ∑ k : Fin tk, X t r k * Y t j k)
    (i j : ℕ) (hj : j < tn * NJ) (h : J * (NJ * (i / tm) + j / tn) + (J - 1) < N) :
    out _ h ⟨i % tm, Nat.mod_lt _ hm⟩ ⟨j % tn, Nat.mod_lt _ hn⟩ = ∑ k ∈ range (J * tk), a i k * b j k := by
  have hq : j / tn < NJ := Nat.div_lt_of_lt_mul hj
  rw [tiled J NJ hJ a b X Y out hX hY first next (NJ * (i / tm) + j / tn) _ rfl h _ _,
    Nat.mul_add_div (Nat.zero_lt_of_lt hq), Nat.div_eq_of_lt hq, Nat.mul_add_mod, Nat.mod_eq_of_lt hq, Nat.add_zero]
  show ∑ k ∈ range (J * tk), a (tm * (i / tm) + i % tm) k * b (tn * (j / tn) + j % tn) k = _
  rw [Nat.div_add_mod, Nat.div_add_mod]

/-- The logistic function as both programs write it: one over one and the exponential of the negative. -/
def sig (g : EReal) : EReal := Ideal.div 1 (1 + Ideal.exp (-g))

/-- The gated activation. -/
def act (g u : EReal) : EReal := g * sig g * u

theorem sig_kernel (g : EReal) :
    Ideal.div (Ideal.ofBits .f32 0x3F800000#32) (Ideal.ofBits .f32 0x3F800000#32 + Ideal.exp (Ideal.ofBits .f32 0x00000000#32 - g)) = sig g := by
  rw [Ideal.ofBits_one_f32, Ideal.ofBits_zero_f32, sub_eq_add_neg, zero_add, sig]

theorem sig_host (g : EReal) :
    Ideal.div (Ideal.ofBits .f32 0x3F800000#32) (Ideal.ofBits .f32 0x3F800000#32 + Ideal.exp (-g)) = sig g := by
  rw [Ideal.ofBits_one_f32, sig]

/-- The half of a block's columns that starts at column `o`. -/
theorem half (Z : (⟨2, ![1024, 2816]⟩ : Shape).Idx → EReal) (o : ℕ) (ho : o + 1408 ≤ 2816) (inb : ∀ a, ![0, o] a + ![1024, 1408] a ≤ (⟨2, ![1024, 2816]⟩ : Shape).size a) (r : Fin 1024) (j : Fin 1408) :
    View.ld (Val := Elt Ideal) (e' := .f32) Z (Rect.unit (s := ⟨2, ![1024, 2816]⟩) ![0, o] ![1024, 1408] inb) (ix2 r j) = Z (ix2 r ⟨o + j.val, by have := j.isLt; omega⟩) := by
  refine congrArg Z (funext fun a => Fin.ext ?_)
  match a with
  | ⟨0, _⟩ => show 0 + 1 * r.val = r.val; omega
  | ⟨1, _⟩ => show o + 1 * j.val = o + j.val; omega

/-- A value whose magnitude is below infinity is a real number. -/
theorem real_of_lt {s : Shape} {φ : FTy} (v : FVec Ideal s φ) (t : FVec Ideal s φ) (ht : ∀ i, (t i : EReal) = ⊤)
    (h : cmpf .olt (Host.absf v) t = fun _ => 1#1) (i : s.Idx) : v i = ((EReal.toReal (v i) : ℝ) : EReal) := by
  have hi := congrFun h i
  have hc : Ideal.cmp .olt (max (v i : EReal) (-(v i : EReal))) (t i : EReal) = 1#1 := hi
  rw [ht] at hc
  have hlt : max (v i : EReal) (-(v i : EReal)) < ⊤ := by
    by_contra hn
    simp [Ideal.cmp, hn] at hc
  obtain ⟨h1, h2⟩ := max_lt_iff.mp hlt
  refine (EReal.coe_toReal h1.ne fun hb => ?_).symm
  rw [hb] at h2
  simp at h2

theorem inf_bf16 : Ideal.ofBits .bf16 0x7F80#16 = ⊤ := by simp [Ideal.ofBits, Ideal.ieee]

theorem inf_f32 : Ideal.ofBits .f32 0x7F800000#32 = ⊤ := by simp [Ideal.ofBits, Ideal.ieee]

/-- A matrix of real numbers as a real function of two natural numbers. -/
theorem exists_real2 {m n : ℕ} (a : (⟨2, ![m, n]⟩ : Shape).Idx → EReal) (h : ∀ i, a i = ((EReal.toReal (a i) : ℝ) : EReal)) :
    ∃ f : ℕ → ℕ → ℝ, ∀ i, a i = (f (i 0).val (i 1).val : EReal) := by
  obtain ⟨f, hf⟩ := exists_nat2 a
  refine ⟨fun r c => (f r c).toReal, fun i => ?_⟩
  rw [h i, hf i]

theorem sig_real (g : ℝ) : ∃ s : ℝ, sig (g : EReal) = (s : EReal) := by
  have hp : (1 + Real.exp (-g) : ℝ) ≠ 0 := (add_pos one_pos (Real.exp_pos _)).ne'
  have he : (1 : EReal) + Ideal.exp (-(g : EReal)) = ((1 + Real.exp (-g) : ℝ) : EReal) := by
    rw [← EReal.coe_neg]
    show ((1 : ℝ) : EReal) + ((Real.exp (-g) : ℝ) : EReal) = _
    rw [← EReal.coe_add]
  refine ⟨(1 + Real.exp (-g))⁻¹, ?_⟩
  unfold sig Ideal.div
  rw [he, if_neg (by exact_mod_cast hp), one_mul, EReal.coe_inv]

/-- The gradient of the gated activation in its gate. -/
def dgate (d g u : EReal) : EReal := d * u * (sig g * (1 + g * (1 - sig g)))

/-- The gradient of the gated activation in its other factor. -/
def dup (d g : EReal) : EReal := d * (g * sig g)

/-- The product rule gives the same gate gradient over real numbers. -/
theorem dgate_eq (d g u : ℝ) :
    (d : EReal) * u * sig g + (g : EReal) * ((d : EReal) * u) * (sig g * (1 - sig g)) = dgate d g u := by
  obtain ⟨s, hs⟩ := sig_real g
  unfold dgate
  rw [hs]
  have h1 : (1 : EReal) = ((1 : ℝ) : EReal) := rfl
  rw [h1]
  simp only [← EReal.coe_mul, ← EReal.coe_sub, ← EReal.coe_add]
  congr 1
  ring

end Cert.Mm

end
-- ==== Proof.Sb.Spec.lean ====
/-
  The gradient of stick-breaking attention of one head over the reals: the mathematics both programs are compared to.
  `q k v o` are one head's queries, keys, values and the cotangent of its output, by row and column. No program is named.
-/
module

public import Mathlib.Analysis.SpecialFunctions.Log.Basic
public import Mathlib.Algebra.BigOperators.Intervals
public import Mathlib.Data.EReal.Operations

@[expose] public section

noncomputable section

namespace Cert.Stick

open Finset

/-- `log (1 + e^{-|z|})`. -/
def l1p (z : ℝ) : ℝ := Real.log (1 + Real.exp (-|z|))
/-- `log (1 + e^z)`, in the form that does not overflow. -/
def lsp (z : ℝ) : ℝ := max z 0 + l1p z

/-- `e^{-softplus z} + e^{z - softplus z} = 1`. -/
theorem exp_lsp (z : ℝ) : Real.exp (lsp z) = 1 + Real.exp z := by
  unfold lsp l1p
  have hp : (0 : ℝ) < 1 + Real.exp (-|z|) := by positivity
  rw [Real.exp_add, Real.exp_log hp]
  rcases le_total 0 z with h | h
  · rw [max_eq_left h, abs_of_nonneg h, mul_add, ← Real.exp_add]; simp [add_comm]
  · rw [max_eq_right h, abs_of_nonpos h]; simp

theorem lsp_neg (z : ℝ) : -lsp (-z) = min z 0 - l1p z := by
  unfold lsp l1p
  rw [abs_neg]
  have : max (-z) 0 = -min z 0 := by
    rcases le_total 0 z with h | h
    · rw [max_eq_right (by linarith), min_eq_right h]; simp
    · rw [max_eq_left (by linarith), min_eq_left h]
  rw [this]; ring

theorem lsp_neg' (z : ℝ) : lsp (-z) = lsp z - z := by
  unfold lsp l1p
  rw [abs_neg]
  rcases le_total 0 z with h | h
  · rw [max_eq_right (by linarith), max_eq_left h]; ring
  · rw [max_eq_left (by linarith), max_eq_right h]; ring

theorem exp_sub_lsp (z : ℝ) : Real.exp (z - lsp z) = 1 - Real.exp (-lsp z) := by
  have h := exp_lsp z
  have hp : (0 : ℝ) < Real.exp (lsp z) := Real.exp_pos _
  rw [Real.exp_sub, Real.exp_neg]
  field_simp
  linarith

theorem exp_neg_sub_lsp (z : ℝ) : Real.exp (-z - lsp (-z)) = Real.exp (-lsp z) := by
  rw [lsp_neg']; congr 1; ring

section
variable (sc : ℝ) (q k v o : ℕ → ℕ → ℝ)

/-- The scaled score of query row `t` and key row `s`. -/
def z (t s : ℕ) : ℝ := (∑ d ∈ range 128, q t d * k s d) * sc
/-- The log of what a stick keeps at `s`: zero outside the strict lower triangle. -/
def lk (t s : ℕ) : ℝ := if s < t then -lsp (z sc q k t s) else 0
/-- The attention weight. -/
def w (t s : ℕ) : ℝ :=
  if s < t then Real.exp ((min (z sc q k t s) 0 - l1p (z sc q k t s)) + ∑ x ∈ Ico (s + 1) 2048, lk sc q k t x) else 0
/-- The cotangent of the weight. -/
def dw (t s : ℕ) : ℝ := ∑ d ∈ range 128, o t d * v s d
/-- The weight times its cotangent. -/
def e (t s : ℕ) : ℝ := dw v o t s * w sc q k t s
/-- The score's cotangent. -/
def dz (t s : ℕ) : ℝ :=
  if s < t then
    (e sc q k v o t s * Real.exp (lk sc q k t s)
      - (∑ x ∈ range s, e sc q k v o t x) * (1 - Real.exp (lk sc q k t s))) * sc
  else 0
/-- The queries' cotangent over the first `n` key rows. -/
def dq (n t d : ℕ) : ℝ := ∑ s ∈ range n, dz sc q k v o t s * k s d
/-- The keys' cotangent over the first `n` query rows. -/
def dk (n s d : ℕ) : ℝ := ∑ t ∈ range n, dz sc q k v o t s * q t d
/-- The values' cotangent over the first `n` query rows. -/
def dv (n s d : ℕ) : ℝ := ∑ t ∈ range n, w sc q k t s * o t d

variable {sc q k v o}

/-- A query row sees no later key, so a sum over query rows may start at any row up to the key's. -/
theorem dz_of_le {t s : ℕ} (h : t ≤ s) : dz sc q k v o t s = 0 := if_neg (by omega)
theorem w_of_le {t s : ℕ} (h : t ≤ s) : w sc q k t s = 0 := if_neg (by omega)
theorem e_of_le {t s : ℕ} (h : t ≤ s) : e sc q k v o t s = 0 := by unfold e; rw [w_of_le h, mul_zero]
end

/-! ## Sums by tiles of 512 -/

theorem sum_tile (f : ℕ → ℝ) (n : ℕ) :
    ∑ x ∈ range (512 * (n + 1)), f x = ∑ x ∈ range (512 * n), f x + ∑ c : Fin 512, f (512 * n + c.val) := by
  rw [Nat.mul_succ, sum_range_add, ← Fin.sum_univ_eq_sum_range (fun c => f (512 * n + c)) 512]

/-- The part of a suffix sum that lies in the tile, and what the later tiles hold. -/
theorem suffix_tile (f : ℕ → ℝ) (n : ℕ) (hn : n < 4) (c : Fin 512) :
    (∑ x : Fin 512, f (512 * n + x.val) * (if c.val < x.val then 1 else 0)) + ∑ x ∈ Ico (512 * (n + 1)) 2048, f x
      = ∑ x ∈ Ico (512 * n + c.val + 1) 2048, f x := by
  have hc := c.isLt
  rw [← sum_Ico_consecutive f (by omega : 512 * n + c.val + 1 ≤ 512 * (n + 1)) (by omega)]
  congr 1
  rw [Fin.sum_univ_eq_sum_range (fun x => f (512 * n + x) * (if c.val < x then 1 else 0)) 512]
  have h : Ico (512 * n + c.val + 1) (512 * (n + 1)) = (Ico (c.val + 1) 512).map (addLeftEmbedding (512 * n)) := by
    rw [map_add_left_Ico]; congr 1 <;> omega
  have h' : Ico (c.val + 1) 512 = (range 512).filter (fun x => c.val < x) := by
    ext x; simp only [mem_filter, mem_range, mem_Ico]; omega
  rw [h, sum_map, h', sum_filter]
  exact sum_congr rfl fun x _ => by split <;> simp

/-- The part of a prefix sum that lies in the tile, and what the earlier tiles hold. -/
theorem prefix_tile (f : ℕ → ℝ) (n : ℕ) (c : Fin 512) :
    (∑ x : Fin 512, f (512 * n + x.val) * (if x.val < c.val then 1 else 0)) + ∑ x ∈ range (512 * n), f x
      = ∑ x ∈ range (512 * n + c.val), f x := by
  have hc := c.isLt
  rw [sum_range_add, add_comm]
  congr 1
  rw [Fin.sum_univ_eq_sum_range (fun x => f (512 * n + x) * (if x < c.val then 1 else 0)) 512]
  have h : range c.val = (range 512).filter (fun x => x < c.val) := by ext x; simp; omega
  rw [h, sum_filter]
  exact sum_congr rfl fun x _ => by split <;> simp

/-! ## Sums of reals among the extended reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [sum_insert h, sum_insert h, ih, EReal.coe_add]

/-- A contraction of two arrays whose elements are reals. -/
theorem coe_sum_mul {n : ℕ} (f g : Fin n → EReal) (a b : Fin n → ℝ) (hf : ∀ i, f i = (a i : EReal)) (hg : ∀ i, g i = (b i : EReal)) :
    ∑ i, f i * g i = ((∑ i, a i * b i : ℝ) : EReal) := by
  rw [← coe_sum]
  exact sum_congr rfl fun i _ => by rw [hf, hg, EReal.coe_mul]

end Cert.Stick
-- ==== Proof.Sb.Cumsum.lean ====
/-
  The host's running sums along the last axis of a four-dimensional array, read at an index: over reals, the window sum
  padded above is the suffix sum, and the one padded below is the prefix sum.
-/
module

public import proofs.«01_k».proof.Proof.Sb.Spec
public import Idealize.ShloMosaic.Lib.ValueIdx
public import Idealize.ShloMosaic.PureOps.Ideal.Laws

@[expose] public section

noncomputable section

namespace Cert.Stick

open Idealize.ShloMosaic Idealize.ShloMosaic.ValueIdx Finset

/-- A left fold of additions over all positions is the start plus the sum. -/
theorem fold_add_sum {M : ℕ} (g : Fin M → EReal) (v : EReal) :
    (List.finRange M).foldl (fun r n => r + g n) v = v + ∑ n, g n := by
  have h : ∀ (l : List (Fin M)) (v : EReal), l.foldl (fun r n => r + g n) v = v + (l.map g).sum := by
    intro l
    induction l with
    | nil => intro v; simp
    | cons a l ih => intro v; rw [List.foldl_cons, ih, List.map_cons, List.sum_cons, add_assoc]
  rw [h, ← List.ofFn_eq_map, List.sum_ofFn]

/-- The window spanning the last axis only: its positions are those of that axis. -/
def lastAxis (N : ℕ) : Fin N ≃ Fin (⟨4, ![1, 1, 1, N]⟩ : Shape).numel where
  toFun w := (⟨4, ![1, 1, 1, N]⟩ : Shape).rowMajor (ix4 (0 : Fin 1) (0 : Fin 1) (0 : Fin 1) w)
  invFun n := ((⟨4, ![1, 1, 1, N]⟩ : Shape).rowMajor.symm n) 3
  left_inv w := (congrFun ((⟨4, ![1, 1, 1, N]⟩ : Shape).rowMajor.symm_apply_apply (ix4 (0 : Fin 1) (0 : Fin 1) (0 : Fin 1) w)) 3).trans rfl
  right_inv n := by
    refine ((⟨4, ![1, 1, 1, N]⟩ : Shape).rowMajor.eq_symm_apply).mp ?_
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- The host's window sum along the last axis, padded `L` below: the sum over the window's positions, those outside the
    array contributing nothing. -/
theorem window_sum {B T N L U : ℕ} (x : (⟨4, ![1, B, T, N]⟩ : Shape).Idx → EReal) {u : Shape} (init : u.Idx → EReal)
    (h : (⟨4, ![1, B, T, N]⟩ : Shape).ReduceWindows (![1, 1, 1, N] : Fin 4 → ℕ) ![1, 1, 1, 1] ![0, 0, 0, L] ![0, 0, 0, U] ⟨4, ![1, B, T, N]⟩)
    (hu : 0 < u.numel) (hi : init (Shape.Idx.first hu) = 0) (b : Fin B) (t : Fin T) (s : Fin N) (f : ℕ → ℝ)
    (hf : ∀ s' : Fin N, x (ix4 0 b t s') = (f s'.val : EReal)) :
    Host.reduceWindowAdd (F := Ideal) (φ := .f32) ![1, 1, 1, N] ![1, 1, 1, 1] ![0, 0, 0, L] ![0, 0, 0, U] x init h hu (ix4 0 b t s)
      = ((∑ w ∈ range N, if L ≤ s.val + w ∧ s.val + w - L < N then f (s.val + w - L) else 0 : ℝ) : EReal) := by
  show Host.reduceWindow (· + ·) _ _ _ _ x (fun _ : (⟨0, ![]⟩ : Shape).Idx => init (Shape.Idx.first hu)) h (by decide) (ix4 0 b t s) = _
  unfold Host.reduceWindow
  rw [hi]
  dsimp only
  refine (fold_add_sum (M := (⟨4, ![1, 1, 1, N]⟩ : Shape).numel) _ 0).trans ?_
  rw [zero_add, ← Equiv.sum_comp (lastAxis N), ← Fin.sum_univ_eq_sum_range (fun w => if L ≤ s.val + w ∧ s.val + w - L < N then f (s.val + w - L) else 0) N, ← coe_sum]
  refine sum_congr rfl fun w _ => ?_
  have e : (⟨4, ![1, 1, 1, N]⟩ : Shape).rowMajor.symm (lastAxis N w) = ix4 (0 : Fin 1) (0 : Fin 1) (0 : Fin 1) w := Equiv.symm_apply_apply _ _
  split
  · next hin =>
    have h3 := hin 3
    change L ≤ s.val * 1 + ((⟨4, ![1, 1, 1, N]⟩ : Shape).rowMajor.symm (lastAxis N w) 3).val
      ∧ s.val * 1 + ((⟨4, ![1, 1, 1, N]⟩ : Shape).rowMajor.symm (lastAxis N w) 3).val - L < N at h3
    rw [e] at h3
    change L ≤ s.val * 1 + w.val ∧ s.val * 1 + w.val - L < N at h3
    rw [mul_one] at h3
    rw [if_pos h3]
    refine Eq.trans (congrArg x (funext fun a => Fin.ext ?_)) (hf ⟨s.val + w.val - L, h3.2⟩)
    show _ * _ + ((⟨4, ![1, 1, 1, N]⟩ : Shape).rowMajor.symm (lastAxis N w) a).val - _ = _
    rw [e]
    match a with
    | ⟨0, _⟩ => show 0 * 1 + 0 - 0 = 0; rfl
    | ⟨1, _⟩ => show b.val * 1 + 0 - 0 = b.val; omega
    | ⟨2, _⟩ => show t.val * 1 + 0 - 0 = t.val; omega
    | ⟨3, _⟩ => show s.val * 1 + w.val - L = s.val + w.val - L; omega
  · next hin =>
    rw [if_neg]
    · rfl
    · intro h3
      refine hin fun a => ?_
      show _ ≤ _ * _ + ((⟨4, ![1, 1, 1, N]⟩ : Shape).rowMajor.symm (lastAxis N w) a).val ∧ _ * _ + ((⟨4, ![1, 1, 1, N]⟩ : Shape).rowMajor.symm (lastAxis N w) a).val - _ < _
      rw [e]
      match a with
      | ⟨0, _⟩ => show 0 ≤ 0 * 1 + 0 ∧ 0 * 1 + 0 - 0 < 1; omega
      | ⟨1, _⟩ => show 0 ≤ b.val * 1 + 0 ∧ b.val * 1 + 0 - 0 < B; omega
      | ⟨2, _⟩ => show 0 ≤ t.val * 1 + 0 ∧ t.val * 1 + 0 - 0 < T; omega
      | ⟨3, _⟩ => show L ≤ s.val * 1 + w.val ∧ s.val * 1 + w.val - L < N; omega

/-- Padded above: the suffix sum. -/
theorem window_suffix {N : ℕ} (f : ℕ → ℝ) (s : Fin N) :
    (∑ w ∈ range N, if 0 ≤ s.val + w ∧ s.val + w - 0 < N then f (s.val + w - 0) else 0) = ∑ w ∈ Ico s.val N, f w := by
  rw [← sum_filter, sum_Ico_eq_sum_range]
  refine sum_congr (Finset.ext fun w => ?_) fun w _ => rfl
  rw [mem_filter, mem_range, mem_range]
  have := s.isLt
  omega

/-- Padded below: the prefix sum, the element itself included. -/
theorem window_prefix {N : ℕ} (f : ℕ → ℝ) (s : Fin N) :
    (∑ w ∈ range N, if N - 1 ≤ s.val + w ∧ s.val + w - (N - 1) < N then f (s.val + w - (N - 1)) else 0) = ∑ w ∈ range (s.val + 1), f w := by
  have hs := s.isLt
  rw [← sum_filter]
  refine sum_bij (fun w _ => s.val + w - (N - 1)) (fun w hw => ?_) (fun w hw w' hw' e => ?_) (fun w hw => ?_) (fun w hw => rfl)
  · rw [mem_filter, mem_range] at hw; rw [mem_range]; omega
  · rw [mem_filter, mem_range] at hw hw'
    change s.val + w - (N - 1) = s.val + w' - (N - 1) at e
    omega
  · rw [mem_range] at hw
    exact ⟨w + (N - 1) - s.val, by rw [mem_filter, mem_range]; omega, by show s.val + (w + (N - 1) - s.val) - (N - 1) = w; omega⟩

end Cert.Stick
-- ==== Proof.Sb.Heads.lean ====
/-
  What both programs share: one head's columns of a two-dimensional array as reals, and the scalar functions the host
  computes element by element (the log-sigmoid with its tests for infinities), at reals.
-/
module

public import proofs.«01_k».proof.Proof.Sb.Spec
public import Idealize.ShloMosaic.Lib.ValueIdx
public import Idealize.ShloMosaic.PureOps.Ideal.Laws

@[expose] public section

noncomputable section

namespace Cert.Stick

open Idealize.ShloMosaic Idealize.ShloMosaic.ValueIdx

/-- Head `h`'s 128 columns of an array, those counted from column `base`. -/
def head {n : ℕ} [NeZero n] (x : (⟨2, ![2048, n]⟩ : Shape).Idx → EReal) (base h : ℕ) (t d : ℕ) : ℝ :=
  (x (ix2 (Fin.ofNat 2048 t) (Fin.ofNat n (base + 128 * h + d)))).toReal

/-- An element of a real array is the head's element at its row and column. -/
theorem head_eq {n : ℕ} [NeZero n] (x : (⟨2, ![2048, n]⟩ : Shape).Idx → EReal) (hx : ∀ i, x i = ((x i).toReal : EReal))
    (i : (⟨2, ![2048, n]⟩ : Shape).Idx) {base h t d : ℕ} (h0 : (i 0).val = t) (h1 : (i 1).val = base + 128 * h + d) :
    x i = ((head x base h t d : ℝ) : EReal) := by
  rw [hx i]
  unfold head
  congr 3
  funext a
  match a with
  | ⟨0, _⟩ => exact Fin.ext (by show (i 0).val = t % 2048; rw [← h0, Nat.mod_eq_of_lt (show (i 0).val < 2048 from (i 0).isLt)])
  | ⟨1, _⟩ => exact Fin.ext (by show (i 1).val = (base + 128 * h + d) % n; rw [← h1, Nat.mod_eq_of_lt (show (i 1).val < n from (i 1).isLt)])

theorem select_ofBool {α : Type} (P : Prop) [Decidable P] (a b : α) : Scalar.select (BitVec.ofBool (decide P)) a b = if P then a else b := by
  unfold Scalar.select
  by_cases h : P <;> simp [h]

theorem ofBits_inf : Ideal.ofBits .f32 0x7F800000#32 = ⊤ := by simp [Ideal.ofBits, Ideal.ieee]

/-- The host's softplus at a real. -/
theorem softplus_coe (x : ℝ) :
    Scalar.select (Ideal.cmp .une ((x : EReal) - 0) ((x : EReal) - 0)) ((x : EReal) + 0)
      (max (x : EReal) 0 + Ideal.log1p (Ideal.exp (-(max ((x : EReal) - 0) (-((x : EReal) - 0)))))) = ((lsp x : ℝ) : EReal) := by
  have h : max (x : EReal) (-(x : EReal)) = ((|x| : ℝ) : EReal) := by
    rw [← EReal.coe_neg]; exact (EReal.coe_strictMono.monotone.map_max (a := x) (b := -x)).symm
  unfold Ideal.cmp
  rw [select_ofBool, if_neg (by simp), sub_zero, h, ← EReal.coe_neg, Ideal.exp_coe, ← EReal.coe_zero, ← EReal.coe_strictMono.monotone.map_max]
  show _ + Ideal.log (1 + _) = _
  rw [← EReal.coe_one, ← EReal.coe_add, Ideal.log_coe, if_neg (by have := Real.exp_pos (-|x|); linarith), ← EReal.coe_add]
  rfl

/-- The derivative of the host's softplus at reals: no infinity to test for. -/
theorem residual_coe (x y : ℝ) :
    Ideal.exp (Scalar.select (Ideal.cmp .oeq (x : EReal) ⊤) 0 (x : EReal) - Scalar.select (Ideal.cmp .oeq (y : EReal) ⊤) 0 (y : EReal))
      = ((Real.exp (x - y) : ℝ) : EReal) := by
  unfold Ideal.cmp
  rw [select_ofBool, select_ofBool, if_neg (EReal.coe_ne_top x), if_neg (EReal.coe_ne_top y), ← EReal.coe_sub, Ideal.exp_coe]

end Cert.Stick
-- ==== Proof.Sb.Tile.lean ====
/-
  One key tile of the kernel's body, read at an index: what each named value of the region computes, over the reals, from
  blocks whose elements are the reals of one head (`Stick`'s `q k v o`), query tile `I` and key tile `J`. First the tiles
  below the diagonal (the counted loop's region), then the diagonal tile with its mask; both come to the same functions.
-/
module

public import proofs.«01_k».proof.Proof.Gen.KernelIdeal.Skeleton
public import proofs.«01_k».proof.Proof.Sb.Spec
public import Idealize.ShloMosaic.Lib.MatmulPlain
public import Idealize.ShloMosaic.Lib.ValueIdx
public import Idealize.ShloMosaic.Lib.WordCmp
public import Idealize.ShloMosaic.Lib.Pipeline.Value

@[expose] public section

noncomputable section

namespace Cert.KernelIdeal.Tile

open Cert.KernelIdeal Cert.KernelIdeal.Gen Cert.Stick
open Idealize.ShloMosaic Idealize.ShloMosaic.ValueIdx Idealize.SL.Sem

/-- The literal `128^{-1/2}` the scores are scaled by. -/
def sc : ℝ := (Ideal.ofBits .f32 0x3DB504F3#32).toReal

theorem ofBits_sc : Ideal.ofBits .f32 0x3DB504F3#32 = ((sc : ℝ) : EReal) := by
  unfold sc
  simp [Ideal.ofBits, Ideal.ieee]
  rw [← EReal.coe_mul, EReal.toReal_coe]
theorem ofBits_one : Ideal.ofBits .f32 0x3F800000#32 = ((1 : ℝ) : EReal) := by
  simp [Ideal.ofBits, Ideal.ieee]
  rw [← EReal.coe_mul]; norm_num

/-- `Aᵀ B` at an index. -/
theorem matmul_lhsT (lhs : FVec Ideal S512x512 .bf16) (rhs : FVec Ideal S512x128 .bf16) (acc : FVec Ideal S512x128 .f32)
    (r : Fin 512) (d : Fin 128) :
    FloatOps.matmul dot_S512x512_S512x128_S512x128_0_0_1_1_n_n none lhs rhs acc (ix2 r d)
      = acc (ix2 r d) + ∑ x : Fin 512, lhs (ix2 x r) * rhs (ix2 x d) := by
  rw [Ideal.matmul_apply, ← Equiv.sum_comp (contrEquiv1 dot_S512x512_S512x128_S512x128_0_0_1_1_n_n 512 rfl rfl).symm]
  refine congrArg (acc (ix2 r d) + ·) (Finset.sum_congr rfl fun k _ => ?_)
  have hk := contrEquiv1_symm_val dot_S512x512_S512x128_S512x128_0_0_1_1_n_n 512 rfl rfl k
  congr 1
  · congr 1; funext a; apply Fin.ext
    match a with
    | ⟨0, _⟩ => exact hk
    | ⟨1, _⟩ => rfl
  · congr 1; funext a; apply Fin.ext
    match a with
    | ⟨0, _⟩ => exact hk
    | ⟨1, _⟩ => rfl

/-- The reals of the scores' pipeline, lifted: `log (1 + e^{-|z|})`. -/
theorem l1p_coe (x : ℝ) : Ideal.log (((1 : ℝ) : EReal) + Ideal.exp (0 - max (x : EReal) (-(x : EReal)))) = ((l1p x : ℝ) : EReal) := by
  have h : max (x : EReal) (-(x : EReal)) = ((|x| : ℝ) : EReal) := by
    rw [← EReal.coe_neg]; exact (EReal.coe_strictMono.monotone.map_max (a := x) (b := -x)).symm
  rw [h, zero_sub, ← EReal.coe_neg, Ideal.exp_coe, ← EReal.coe_add, Ideal.log_coe, if_neg (by have := Real.exp_pos (-|x|); linarith)]
  rfl

variable {q k v o : ℕ → ℕ → ℝ} {I J : ℕ}
variable (v18 v19 v126 v128 : Vec Ideal S512x128 .bf16) (v154 : Vec Ideal S1x1x512x1 .f32)

theorem pay5_eq (hq : ∀ r d, v18 (ix2 r d) = ((q (512 * I + r.val) d.val : ℝ) : EReal))
    (hk : ∀ r d, v126 (ix2 r d) = ((k (512 * J + r.val) d.val : ℝ) : EReal)) (r c : Fin 512) :
    k0_pay5 v18 v126 (ix2 r c) = ((z sc q k (512 * I + r.val) (512 * J + c.val) : ℝ) : EReal) := by
  have h : k0_pay5 v18 v126 (ix2 r c)
      = FloatOps.matmul (DotDims.transposedRhs 512 128 512) none v18 v126 (constant (F := Ideal) S512x512 .f32 0x00000000#32) (ix2 r c)
        * Ideal.ofBits .f32 0x3DB504F3#32 := rfl
  rw [h, Ideal.matmul_transposedRhs_apply, ofBits_sc]
  show (Ideal.ofBits .f32 0x00000000#32 + _) * _ = _
  rw [Ideal.ofBits_zero_f32, zero_add, coe_sum_mul _ _ _ _ (fun x => hq r x) (fun x => hk c x), ← EReal.coe_mul,
    Fin.sum_univ_eq_sum_range (fun x => q (512 * I + r.val) x * k (512 * J + c.val) x) 128]
  rfl

theorem pay6_eq (hq : ∀ r d, v18 (ix2 r d) = ((q (512 * I + r.val) d.val : ℝ) : EReal))
    (hk : ∀ r d, v126 (ix2 r d) = ((k (512 * J + r.val) d.val : ℝ) : EReal)) (r c : Fin 512) :
    k0_pay6 v18 v126 (ix2 r c) = ((l1p (z sc q k (512 * I + r.val) (512 * J + c.val)) : ℝ) : EReal) := by
  have h : k0_pay6 v18 v126 (ix2 r c) = Ideal.log (Ideal.ofBits .f32 0x3F800000#32
      + Ideal.exp (Ideal.ofBits .f32 0x00000000#32 - max (k0_pay5 v18 v126 (ix2 r c)) (-(k0_pay5 v18 v126 (ix2 r c))))) := rfl
  rw [h, ofBits_one, Ideal.ofBits_zero_f32, pay5_eq v18 v126 hq hk, l1p_coe]

/-! ## The two triangular masks and the diagonal's mask -/

theorem ite_ofBool {α : Type} (P : Prop) [Decidable P] (a b : α) : Scalar.select (BitVec.ofBool (decide P)) a b = if P then a else b := by
  unfold Scalar.select
  by_cases h : P <;> simp [h]

theorem pay19_eq (r c : Fin 512) : k0_pay19 (F := Ideal) (ix2 r c) = (((if c.val < r.val then 1 else 0 : ℝ)) : EReal) := by
  have hr := r.isLt
  have hc := c.isLt
  have h : k0_pay19 (F := Ideal) (ix2 r c) = Scalar.select (IntOp.cmpi .sgt
      (iota .tc S512x512 32 [0] iota_S512x512_d0_w32 (ix2 r c))
      (iota .tc S512x512 32 [1] iota_S512x512_d1_w32 (ix2 r c)))
      (Ideal.ofBits .f32 0x3F800000#32) (Ideal.ofBits .f32 0x00000000#32) := rfl
  rw [h, iota_single_apply, iota_single_apply]
  show Scalar.select (IntOp.cmpi .sgt (BitVec.ofNat 32 r.val) (BitVec.ofNat 32 c.val)) _ _ = _
  rw [WordCmp.cmpi_sgt_ofNat (by simp; omega) (by simp; omega), ite_ofBool, ofBits_one, Ideal.ofBits_zero_f32]
  split <;> rfl

theorem pay20_eq (r c : Fin 512) : k0_pay20 (F := Ideal) (ix2 r c) = (((if r.val < c.val then 1 else 0 : ℝ)) : EReal) := by
  have hr := r.isLt
  have hc := c.isLt
  have h : k0_pay20 (F := Ideal) (ix2 r c) = Scalar.select (IntOp.cmpi .slt
      (iota .tc S512x512 32 [0] iota_S512x512_d0_w32 (ix2 r c))
      (iota .tc S512x512 32 [1] iota_S512x512_d1_w32 (ix2 r c)))
      (Ideal.ofBits .f32 0x3F800000#32) (Ideal.ofBits .f32 0x00000000#32) := rfl
  rw [h, iota_single_apply, iota_single_apply]
  show Scalar.select (IntOp.cmpi .slt (BitVec.ofNat 32 r.val) (BitVec.ofNat 32 c.val)) _ _ = _
  rw [WordCmp.cmpi_slt_ofNat (by simp; omega) (by simp; omega), ite_ofBool, ofBits_one, Ideal.ofBits_zero_f32]
  split <;> rfl

theorem pay39_eq (r c : Fin 512) : k0_pay39 k0_pay21 (ix2 r c) = BitVec.ofBool (decide (c.val < r.val)) := by
  have hr := r.isLt
  have hc := c.isLt
  have h : k0_pay39 k0_pay21 (ix2 r c) = IntOp.cmpi .slt ((iota .tc S512x512 32 [1] iota_S512x512_d1_w32 (ix2 r c)) - (iota .tc S512x512 32 [0] iota_S512x512_d0_w32 (ix2 r c))) 0#32 := rfl
  rw [h, iota_single_apply, iota_single_apply, WordCmp.cmpi_slt_eq]
  show BitVec.ofBool (decide ((BitVec.ofNat 32 c.val - BitVec.ofNat 32 r.val).toInt < (0#32).toInt)) = _
  congr 2
  rw [BitVec.toInt_eq_toNat_cond, BitVec.toNat_sub]
  simp only [BitVec.toNat_ofNat, BitVec.toInt_zero, eq_iff_iff]
  rw [Nat.mod_eq_of_lt (by omega : c.val < 2 ^ 32), Nat.mod_eq_of_lt (by omega : r.val < 2 ^ 32)]
  split <;> omega

/-! ## The products with the masks: an exact split in two halves is the whole and nothing -/

theorem matmul_zero_plain {K N : ℕ} (lhs : FVec Ideal ⟨2, ![512, K]⟩ .bf16) (rhs : FVec Ideal ⟨2, ![K, N]⟩ .bf16)
    (a : Fin 512 → Fin K → ℝ) (b : Fin K → Fin N → ℝ) (ha : ∀ r x, lhs (ix2 r x) = (a r x : EReal)) (hb : ∀ x c, rhs (ix2 x c) = (b x c : EReal))
    (r : Fin 512) (c : Fin N) :
    FloatOps.matmul (DotDims.plain 512 K N) none lhs rhs (constant (F := Ideal) ⟨2, ![512, N]⟩ .f32 0x00000000#32) (ix2 r c)
      = ((∑ x, a r x * b x c : ℝ) : EReal) := by
  rw [Ideal.matmul_plain_apply]
  show (Ideal.ofBits .f32 0x00000000#32 + _) = _
  rw [Ideal.ofBits_zero_f32, zero_add, coe_sum_mul _ _ _ _ (fun x => ha r x) (fun x => hb x c)]

/-- The half an f32 array is split off into. -/
abbrev hi (L : FVec Ideal S512x512 .f32) : FVec Ideal S512x512 .bf16 := truncf .bf16 L bitsLt_bf16_f32
/-- And the half that is left. -/
abbrev lo (L : FVec Ideal S512x512 .f32) : FVec Ideal S512x512 .bf16 := truncf .bf16 (subf L (extf .f32 (hi L) bitsLt_bf16_f32)) bitsLt_bf16_f32

theorem split_matmul (L : FVec Ideal S512x512 .f32) (M : FVec Ideal S512x512 .bf16) (a b : Fin 512 → Fin 512 → ℝ)
    (ha : ∀ r x, L (ix2 r x) = (a r x : EReal)) (hb : ∀ x c, M (ix2 x c) = (b x c : EReal)) (r c : Fin 512) :
    FloatOps.matmul (DotDims.plain 512 512 512) none (lo L) M (constant (F := Ideal) S512x512 .f32 0x00000000#32) (ix2 r c)
      + FloatOps.matmul (DotDims.plain 512 512 512) none (hi L) M (constant (F := Ideal) S512x512 .f32 0x00000000#32) (ix2 r c)
      = ((∑ x, a r x * b x c : ℝ) : EReal) := by
  rw [matmul_zero_plain (hi L) M a b ha hb, matmul_zero_plain (lo L) M (fun _ _ => 0) b
    (fun r x => by show L (ix2 r x) - L (ix2 r x) = _; rw [ha, ← EReal.coe_sub, sub_self]) hb, ← EReal.coe_add]
  simp

theorem bcol_eq (x : FVec Ideal S512x1 .f32) (r c : Fin 512) :
    broadcastTo S512x512 x broadcasts_S512x1_S512x512 (ix2 r c) = x (ix2 r 0) := by
  refine broadcastTo_apply _ _ _ _ fun a => ?_
  match a with
  | ⟨0, _⟩ => rfl
  | ⟨1, _⟩ => rfl

theorem runs_eq (r : Fin 512) : shapeCast S512x1 v154 shapeCasts_S1x1x512x1_S512x1 (ix2 r 0) = v154 (ix4 0 0 r 0) := by
  refine shapeCast_apply _ _ _ _ ?_
  rw [Shape.rowMajor_val_four, Shape.rowMajor_val_two]
  show ((0 * 1 + 0) * 512 + r.val) * 1 + 0 = r.val * 1 + 0
  omega

/-! ## A tile below the diagonal (`J < I`): every pair of rows is in the triangle -/

section Low
variable (hJI : J < I) (hI : I < 4)
  (hq : ∀ r d, v18 (ix2 r d) = ((q (512 * I + r.val) d.val : ℝ) : EReal))
  (ho : ∀ r d, v19 (ix2 r d) = ((o (512 * I + r.val) d.val : ℝ) : EReal))
  (hk : ∀ r d, v126 (ix2 r d) = ((k (512 * J + r.val) d.val : ℝ) : EReal))
  (hv : ∀ r d, v128 (ix2 r d) = ((v (512 * J + r.val) d.val : ℝ) : EReal))
  (hruns : ∀ r, v154 (ix4 0 0 r 0) = ((∑ x ∈ Finset.Ico (512 * (J + 1)) 2048, lk sc q k (512 * I + r.val) x : ℝ) : EReal))
include hJI hq hk

theorem pay7_eq (r c : Fin 512) : k0_pay7 v18 v126 (ix2 r c) = ((lk sc q k (512 * I + r.val) (512 * J + c.val) : ℝ) : EReal) := by
  have hc := c.isLt
  have h : k0_pay7 v18 v126 (ix2 r c) = (Ideal.ofBits .f32 0x00000000#32 - max (k0_pay5 v18 v126 (ix2 r c)) (Ideal.ofBits .f32 0x00000000#32))
      - k0_pay6 v18 v126 (ix2 r c) := rfl
  rw [h, Ideal.ofBits_zero_f32, pay5_eq v18 v126 hq hk, pay6_eq v18 v126 hq hk]
  unfold lk
  rw [if_pos (by omega), ← EReal.coe_zero, ← EReal.coe_strictMono.monotone.map_max, ← EReal.coe_sub, ← EReal.coe_sub]
  unfold lsp
  congr 1; ring

include hI hruns in
theorem pay8_eq (r c : Fin 512) : k0_pay8 k0_pay19 v18 v126 v154 (ix2 r c) = ((w sc q k (512 * I + r.val) (512 * J + c.val) : ℝ) : EReal) := by
  have hc := c.isLt
  have h : k0_pay8 k0_pay19 v18 v126 v154 (ix2 r c)
      = Ideal.exp ((min (k0_pay5 v18 v126 (ix2 r c)) (Ideal.ofBits .f32 0x00000000#32) - k0_pay6 v18 v126 (ix2 r c))
        + ((FloatOps.matmul (DotDims.plain 512 512 512) none (lo (k0_pay7 v18 v126)) k0_pay19
              (constant (F := Ideal) S512x512 .f32 0x00000000#32) (ix2 r c)
            + FloatOps.matmul (DotDims.plain 512 512 512) none (hi (k0_pay7 v18 v126)) k0_pay19
              (constant (F := Ideal) S512x512 .f32 0x00000000#32) (ix2 r c))
          + broadcastTo S512x512 (shapeCast S512x1 v154 shapeCasts_S1x1x512x1_S512x1) broadcasts_S512x1_S512x512 (ix2 r c))) := rfl
  rw [h, bcol_eq, runs_eq, hruns, split_matmul (k0_pay7 v18 v126) k0_pay19 _ _ (fun r x => pay7_eq v18 v126 hJI hq hk r x) pay19_eq,
    ← EReal.coe_add, suffix_tile _ J (by omega) c, pay5_eq v18 v126 hq hk, pay6_eq v18 v126 hq hk, Ideal.ofBits_zero_f32, ← EReal.coe_zero,
    ← EReal.coe_strictMono.monotone.map_min, ← EReal.coe_sub, ← EReal.coe_add, Ideal.exp_coe]
  unfold w
  rw [if_pos (by omega)]
end Low

/-- The weights' cotangents at a tile. -/
theorem pay9_eq (ho : ∀ r d, v19 (ix2 r d) = ((o (512 * I + r.val) d.val : ℝ) : EReal))
    (hv : ∀ r d, v128 (ix2 r d) = ((v (512 * J + r.val) d.val : ℝ) : EReal)) (r c : Fin 512) :
    k0_pay9 v19 v128 (ix2 r c) = ((dw v o (512 * I + r.val) (512 * J + c.val) : ℝ) : EReal) := by
  have h : k0_pay9 v19 v128 (ix2 r c)
      = FloatOps.matmul (DotDims.transposedRhs 512 128 512) none v19 v128 (constant (F := Ideal) S512x512 .f32 0x00000000#32) (ix2 r c) := rfl
  rw [h, Ideal.matmul_transposedRhs_apply]
  show (Ideal.ofBits .f32 0x00000000#32 + _) = _
  rw [Ideal.ofBits_zero_f32, zero_add, coe_sum_mul _ _ _ _ (fun x => ho r x) (fun x => hv c x),
    Fin.sum_univ_eq_sum_range (fun x => o (512 * I + r.val) x * v (512 * J + c.val) x) 128]
  rfl

/-! ## From the weights to the score's cotangent and the three products -/

section Grad
variable (a13 : FVec Ideal S512x1 .f32) (a14 : FVec Ideal S512x128 .f32) (v145 v162 v163 : FVec Ideal S512x512 .f32)
  (h13 : ∀ r, a13 (ix2 r 0) = ((∑ x ∈ Finset.range (512 * J), e sc q k v o (512 * I + r.val) x : ℝ) : EReal))
  (hlk : ∀ r c, v145 (ix2 r c) = ((lk sc q k (512 * I + r.val) (512 * J + c.val) : ℝ) : EReal))
  (hw : ∀ r c, v162 (ix2 r c) = ((w sc q k (512 * I + r.val) (512 * J + c.val) : ℝ) : EReal))
  (hdw : ∀ r c, v163 (ix2 r c) = ((dw v o (512 * I + r.val) (512 * J + c.val) : ℝ) : EReal))
include hw hdw

theorem pay24_eq (r c : Fin 512) : k0_pay24 v162 v163 (ix2 r c) = ((e sc q k v o (512 * I + r.val) (512 * J + c.val) : ℝ) : EReal) := by
  have h : k0_pay24 v162 v163 (ix2 r c) = v163 (ix2 r c) * v162 (ix2 r c) := rfl
  rw [h, hw, hdw, ← EReal.coe_mul]; rfl

omit hw hdw in
include h13 hlk in
/-- What every tile's cotangent is before the mask. -/
theorem dz_core (E : FVec Ideal S512x512 .f32) (hE : ∀ r c, E (ix2 r c) = ((e sc q k v o (512 * I + r.val) (512 * J + c.val) : ℝ) : EReal))
    (r c : Fin 512) :
    E (ix2 r c) * Ideal.exp (v145 (ix2 r c))
      - ((FloatOps.matmul (DotDims.plain 512 512 512) none (lo E) k0_pay20
              (constant (F := Ideal) S512x512 .f32 0x00000000#32) (ix2 r c)
            + FloatOps.matmul (DotDims.plain 512 512 512) none (hi E) k0_pay20
              (constant (F := Ideal) S512x512 .f32 0x00000000#32) (ix2 r c))
          + broadcastTo S512x512 a13 broadcasts_S512x1_S512x512 (ix2 r c))
        * (Ideal.ofBits .f32 0x3F800000#32 - Ideal.exp (v145 (ix2 r c)))
      = ((e sc q k v o (512 * I + r.val) (512 * J + c.val) * Real.exp (lk sc q k (512 * I + r.val) (512 * J + c.val))
          - (∑ x ∈ Finset.range (512 * J + c.val), e sc q k v o (512 * I + r.val) x)
            * (1 - Real.exp (lk sc q k (512 * I + r.val) (512 * J + c.val))) : ℝ) : EReal) := by
  rw [bcol_eq, h13, split_matmul E k0_pay20 _ _ (fun r x => hE r x) pay20_eq, ← EReal.coe_add, prefix_tile _ J c, hE, hlk, Ideal.exp_coe,
    ofBits_one, ← EReal.coe_sub, ← EReal.coe_mul, ← EReal.coe_mul, ← EReal.coe_sub]

include h13 hlk in
theorem pay25_eq (hJI : J < I) (r c : Fin 512) :
    k0_pay25 a13 v145 v162 v163 (ix2 r c) = ((dz sc q k v o (512 * I + r.val) (512 * J + c.val) : ℝ) : EReal) := by
  have hc := c.isLt
  have h := dz_core a13 v145 h13 hlk (k0_pay24 v162 v163) (pay24_eq v162 v163 hw hdw) r c
  have h' : k0_pay25 a13 v145 v162 v163 (ix2 r c) = (k0_pay24 v162 v163 (ix2 r c) * Ideal.exp (v145 (ix2 r c))
      - ((FloatOps.matmul (DotDims.plain 512 512 512) none (lo (k0_pay24 v162 v163)) k0_pay20
              (constant (F := Ideal) S512x512 .f32 0x00000000#32) (ix2 r c)
            + FloatOps.matmul (DotDims.plain 512 512 512) none (hi (k0_pay24 v162 v163)) k0_pay20
              (constant (F := Ideal) S512x512 .f32 0x00000000#32) (ix2 r c))
          + broadcastTo S512x512 a13 broadcasts_S512x1_S512x512 (ix2 r c))
        * (Ideal.ofBits .f32 0x3F800000#32 - Ideal.exp (v145 (ix2 r c)))) * Ideal.ofBits .f32 0x3DB504F3#32 := rfl
  rw [h', h, ofBits_sc, ← EReal.coe_mul]
  unfold dz
  rw [if_pos (by omega)]

theorem pay27_eq (h13 : ∀ r, a13 (ix2 r 0) = ((∑ x ∈ Finset.range (512 * J), e sc q k v o (512 * I + r.val) x : ℝ) : EReal)) (r : Fin 512) :
    k0_pay27 a13 v162 v163 (ix2 r 0) = ((∑ x ∈ Finset.range (512 * (J + 1)), e sc q k v o (512 * I + r.val) x : ℝ) : EReal) := by
  have h : k0_pay27 a13 v162 v163 (ix2 r 0) = a13 (ix2 r 0)
      + shapeCast S512x1 (multiReduction .add [1] S512 (k0_pay24 v162 v163) 0x00000000#32 reduces_S512x512_S512 (.inl rfl) rfl)
          shapeCasts_S512_S512x1 (ix2 r 0) := rfl
  rw [h, shapeCast_apply _ _ _ (ix1 r) (by
    rw [Shape.rowMajor_val_one, Shape.rowMajor_val_two]
    show r.val = r.val * 1 + 0
    omega), h13, sum_tile, EReal.coe_add]
  congr 1
  refine (Ideal.multiReduction_add_single (a := (1 : Fin S512x512.rank)) (k0_pay24 v162 v163) 0x00000000#32 reduces_S512x512_S512 (.inl rfl) rfl (ix1 r)).trans ?_
  show (∑ x : Fin 512, k0_pay24 v162 v163 (reduces_S512x512_S512.lift (ix1 r) x)) = _
  rw [← coe_sum]
  refine Finset.sum_congr rfl fun x _ => ?_
  have hx : reduces_S512x512_S512.lift (ix1 r) x = ix2 r x := by
    funext a; apply Fin.ext
    match a with
    | ⟨0, _⟩ => rfl
    | ⟨1, _⟩ => rfl
  rw [hx, pay24_eq v162 v163 hw hdw]
include h13 hlk in
theorem pay26_eq (hJI : J < I) (v126 : Vec Ideal S512x128 .bf16)
    (hk : ∀ r d, v126 (ix2 r d) = ((k (512 * J + r.val) d.val : ℝ) : EReal))
    (h14 : ∀ r d, a14 (ix2 r d) = ((dq sc q k v o (512 * J) (512 * I + r.val) d.val : ℝ) : EReal)) (r : Fin 512) (d : Fin 128) :
    k0_pay26 a13 a14 v126 v145 v162 v163 (ix2 r d) = ((dq sc q k v o (512 * (J + 1)) (512 * I + r.val) d.val : ℝ) : EReal) := by
  have h : k0_pay26 a13 a14 v126 v145 v162 v163 (ix2 r d) = a14 (ix2 r d)
      + FloatOps.matmul (DotDims.plain 512 512 128) none (k0_pay25 a13 v145 v162 v163) v126 (constant (F := Ideal) S512x128 .f32 0x00000000#32) (ix2 r d) := rfl
  rw [h, matmul_zero_plain _ v126 _ _ (fun r x => pay25_eq a13 v145 v162 v163 h13 hlk hw hdw hJI r x) hk, h14, ← EReal.coe_add]
  unfold dq
  rw [sum_tile]

include h13 hlk in
theorem pay28_eq (hJI : J < I) (v194 : Vec Ideal S512x128 .f32) (g : ℝ) (c : Fin 512) (d : Fin 128)
    (hq : ∀ r d, v18 (ix2 r d) = ((q (512 * I + r.val) d.val : ℝ) : EReal)) (hg : v194 (ix2 c d) = (g : EReal)) :
    k0_pay28 v18 a13 k0_pay3 v145 v162 v163 v194 (ix2 c d)
      = ((g + ∑ r : Fin 512, dz sc q k v o (512 * I + r.val) (512 * J + c.val) * q (512 * I + r.val) d.val : ℝ) : EReal) := by
  have h : k0_pay28 v18 a13 k0_pay3 v145 v162 v163 v194 = shapeCast S512x128 (addf v194 (addf (k0_pay3 (F := Ideal))
      (FloatOps.matmul dot_S512x512_S512x128_S512x128_0_0_1_1_n_n none (k0_pay25 a13 v145 v162 v163) v18 (constant (F := Ideal) S512x128 .f32 0x00000000#32))))
      shapeCasts_S512x128_S512x128 := rfl
  rw [h, shapeCast_self]
  show v194 (ix2 c d) + (Ideal.ofBits .f32 0x00000000#32 + FloatOps.matmul dot_S512x512_S512x128_S512x128_0_0_1_1_n_n none (k0_pay25 a13 v145 v162 v163) v18
    (constant (F := Ideal) S512x128 .f32 0x00000000#32) (ix2 c d)) = _
  rw [matmul_lhsT]
  show _ + (Ideal.ofBits .f32 0x00000000#32 + (Ideal.ofBits .f32 0x00000000#32 + _)) = _
  rw [Ideal.ofBits_zero_f32, zero_add, zero_add, hg,
    coe_sum_mul _ _ _ _ (fun x => pay25_eq a13 v145 v162 v163 h13 hlk hw hdw hJI x c) (fun x => hq x d), ← EReal.coe_add]

omit hdw in
theorem pay29_eq (v201 : Vec Ideal S512x128 .f32) (g : ℝ) (c : Fin 512) (d : Fin 128)
    (ho : ∀ r d, v19 (ix2 r d) = ((o (512 * I + r.val) d.val : ℝ) : EReal)) (hg : v201 (ix2 c d) = (g : EReal)) :
    k0_pay29 v19 k0_pay4 v162 v201 (ix2 c d)
      = ((g + ∑ r : Fin 512, w sc q k (512 * I + r.val) (512 * J + c.val) * o (512 * I + r.val) d.val : ℝ) : EReal) := by
  have h : k0_pay29 v19 k0_pay4 v162 v201 = shapeCast S512x128 (addf v201 (addf (k0_pay4 (F := Ideal))
      (FloatOps.matmul dot_S512x512_S512x128_S512x128_0_0_1_1_n_n none (hi v162) v19 (constant (F := Ideal) S512x128 .f32 0x00000000#32))))
      shapeCasts_S512x128_S512x128 := rfl
  rw [h, shapeCast_self]
  show v201 (ix2 c d) + (Ideal.ofBits .f32 0x00000000#32 + FloatOps.matmul dot_S512x512_S512x128_S512x128_0_0_1_1_n_n none (hi v162) v19
    (constant (F := Ideal) S512x128 .f32 0x00000000#32) (ix2 c d)) = _
  rw [matmul_lhsT]
  show _ + (Ideal.ofBits .f32 0x00000000#32 + (Ideal.ofBits .f32 0x00000000#32 + _)) = _
  rw [Ideal.ofBits_zero_f32, zero_add, zero_add, hg,
    coe_sum_mul (fun x => hi v162 (ix2 x c)) _ _ _ (fun x => hw x c) (fun x => ho x d), ← EReal.coe_add]

end Grad

/-! ## The diagonal tile (`J = I`) -/

section Diag
variable (v32 v34 : Vec Ideal S512x128 .bf16) (v64 : Vec Ideal S1x1x512x1 .f32)
  (hq : ∀ r d, v18 (ix2 r d) = ((q (512 * I + r.val) d.val : ℝ) : EReal))
  (ho : ∀ r d, v19 (ix2 r d) = ((o (512 * I + r.val) d.val : ℝ) : EReal))
  (hk : ∀ r d, v32 (ix2 r d) = ((k (512 * I + r.val) d.val : ℝ) : EReal))
  (hv : ∀ r d, v34 (ix2 r d) = ((v (512 * I + r.val) d.val : ℝ) : EReal))
  (hruns : ∀ r, v64 (ix4 0 0 r 0) = ((∑ x ∈ Finset.Ico (512 * (I + 1)) 2048, lk sc q k (512 * I + r.val) x : ℝ) : EReal))
include hq hk

theorem pay41_eq (r c : Fin 512) : k0_pay41 k0_pay21 v18 v32 (ix2 r c) = ((lk sc q k (512 * I + r.val) (512 * I + c.val) : ℝ) : EReal) := by
  have h : k0_pay41 k0_pay21 v18 v32 (ix2 r c) = Scalar.select (k0_pay39 k0_pay21 (ix2 r c))
      ((Ideal.ofBits .f32 0x00000000#32 - max (k0_pay5 v18 v32 (ix2 r c)) (Ideal.ofBits .f32 0x00000000#32)) - k0_pay6 v18 v32 (ix2 r c))
      (Ideal.ofBits .f32 0x00000000#32) := rfl
  rw [h, pay39_eq, ite_ofBool, Ideal.ofBits_zero_f32, pay5_eq v18 v32 hq hk, pay6_eq v18 v32 hq hk]
  unfold lk
  by_cases hcr : c.val < r.val
  · rw [if_pos hcr, if_pos (by omega), ← EReal.coe_zero, ← EReal.coe_strictMono.monotone.map_max, ← EReal.coe_sub, ← EReal.coe_sub]
    unfold lsp
    congr 1; ring
  · rw [if_neg hcr, if_neg (by omega), EReal.coe_zero]

include hruns in
theorem pay42_eq (hI : I < 4) (r c : Fin 512) :
    k0_pay42 k0_pay19 k0_pay21 v18 v32 v64 (ix2 r c) = ((w sc q k (512 * I + r.val) (512 * I + c.val) : ℝ) : EReal) := by
  have h : k0_pay42 k0_pay19 k0_pay21 v18 v32 v64 (ix2 r c)
      = Scalar.select (k0_pay39 k0_pay21 (ix2 r c)) (Ideal.exp ((min (k0_pay5 v18 v32 (ix2 r c)) (Ideal.ofBits .f32 0x00000000#32) - k0_pay6 v18 v32 (ix2 r c))
        + ((FloatOps.matmul (DotDims.plain 512 512 512) none (lo (k0_pay41 k0_pay21 v18 v32)) k0_pay19
              (constant (F := Ideal) S512x512 .f32 0x00000000#32) (ix2 r c)
            + FloatOps.matmul (DotDims.plain 512 512 512) none (hi (k0_pay41 k0_pay21 v18 v32)) k0_pay19
              (constant (F := Ideal) S512x512 .f32 0x00000000#32) (ix2 r c))
          + broadcastTo S512x512 (shapeCast S512x1 v64 shapeCasts_S1x1x512x1_S512x1) broadcasts_S512x1_S512x512 (ix2 r c))))
          (Ideal.ofBits .f32 0x00000000#32) := rfl
  rw [h, bcol_eq, runs_eq, hruns, split_matmul (k0_pay41 k0_pay21 v18 v32) k0_pay19 _ _ (fun r x => pay41_eq v18 v32 hq hk r x) pay19_eq,
    ← EReal.coe_add, suffix_tile _ I (by omega) c, pay5_eq v18 v32 hq hk, pay6_eq v18 v32 hq hk, Ideal.ofBits_zero_f32, ← EReal.coe_zero,
    ← EReal.coe_strictMono.monotone.map_min, ← EReal.coe_sub, ← EReal.coe_add, Ideal.exp_coe, pay39_eq, ite_ofBool]
  unfold w
  by_cases hcr : c.val < r.val
  · rw [if_pos hcr, if_pos (by omega)]
  · rw [if_neg hcr, if_neg (by omega)]

include hruns ho hv in
theorem pay43_eq (hI : I < 4) (r c : Fin 512) :
    k0_pay43 k0_pay19 k0_pay21 v18 v19 v32 v34 v64 (ix2 r c) = ((e sc q k v o (512 * I + r.val) (512 * I + c.val) : ℝ) : EReal) := by
  have h : k0_pay43 k0_pay19 k0_pay21 v18 v19 v32 v34 v64 (ix2 r c) = k0_pay9 v19 v34 (ix2 r c) * k0_pay42 k0_pay19 k0_pay21 v18 v32 v64 (ix2 r c) := rfl
  rw [h, pay9_eq v19 v34 ho hv, pay42_eq v18 v32 v64 hq hk hruns hI, ← EReal.coe_mul]; rfl
end Diag

section DiagGrad
variable (a13 : FVec Ideal S512x1 .f32) (a14 : FVec Ideal S512x128 .f32) (v55 v76 : FVec Ideal S512x512 .f32)
  (h13 : ∀ r, a13 (ix2 r 0) = ((∑ x ∈ Finset.range (512 * I), e sc q k v o (512 * I + r.val) x : ℝ) : EReal))
  (hlk : ∀ r c, v55 (ix2 r c) = ((lk sc q k (512 * I + r.val) (512 * I + c.val) : ℝ) : EReal))
  (hE : ∀ r c, v76 (ix2 r c) = ((e sc q k v o (512 * I + r.val) (512 * I + c.val) : ℝ) : EReal))
include h13 hlk hE

theorem pay46_eq (r c : Fin 512) :
    k0_pay46 k0_pay20 a13 (k0_pay39 k0_pay21) v55 v76 (hi v76) (subf v76 (extf .f32 (hi v76) bitsLt_bf16_f32)) (ix2 r c)
      = ((dz sc q k v o (512 * I + r.val) (512 * I + c.val) : ℝ) : EReal) := by
  have h' : k0_pay46 k0_pay20 a13 (k0_pay39 k0_pay21) v55 v76 (hi v76) (subf v76 (extf .f32 (hi v76) bitsLt_bf16_f32)) (ix2 r c)
      = Scalar.select (k0_pay39 k0_pay21 (ix2 r c)) (v76 (ix2 r c) * Ideal.exp (v55 (ix2 r c))
      - ((FloatOps.matmul (DotDims.plain 512 512 512) none (lo v76) k0_pay20
              (constant (F := Ideal) S512x512 .f32 0x00000000#32) (ix2 r c)
            + FloatOps.matmul (DotDims.plain 512 512 512) none (hi v76) k0_pay20
              (constant (F := Ideal) S512x512 .f32 0x00000000#32) (ix2 r c))
          + broadcastTo S512x512 a13 broadcasts_S512x1_S512x512 (ix2 r c))
        * (Ideal.ofBits .f32 0x3F800000#32 - Ideal.exp (v55 (ix2 r c)))) (Ideal.ofBits .f32 0x00000000#32) * Ideal.ofBits .f32 0x3DB504F3#32 := rfl
  rw [h', dz_core a13 v55 h13 hlk v76 hE r c, ofBits_sc, pay39_eq, ite_ofBool, Ideal.ofBits_zero_f32]
  unfold dz
  by_cases hcr : c.val < r.val
  · rw [if_pos hcr, if_pos (by omega), ← EReal.coe_mul]
  · rw [if_neg hcr, if_neg (by omega), zero_mul, EReal.coe_zero]

theorem pay47_eq (v105 : Vec Ideal S512x128 .f32) (g : ℝ) (c : Fin 512) (d : Fin 128)
    (hq : ∀ r d, v18 (ix2 r d) = ((q (512 * I + r.val) d.val : ℝ) : EReal)) (hg : v105 (ix2 c d) = (g : EReal)) :
    k0_pay47 k0_pay20 v18 a13 k0_pay36 (k0_pay39 k0_pay21) v55 v76 (hi v76) (subf v76 (extf .f32 (hi v76) bitsLt_bf16_f32)) v105 (ix2 c d)
      = ((g + ∑ r : Fin 512, dz sc q k v o (512 * I + r.val) (512 * I + c.val) * q (512 * I + r.val) d.val : ℝ) : EReal) := by
  let D := k0_pay46 k0_pay20 a13 (k0_pay39 k0_pay21) v55 v76 (hi v76) (subf v76 (extf .f32 (hi v76) bitsLt_bf16_f32))
  have h : k0_pay47 k0_pay20 v18 a13 k0_pay36 (k0_pay39 k0_pay21) v55 v76 (hi v76) (subf v76 (extf .f32 (hi v76) bitsLt_bf16_f32)) v105
    = shapeCast S512x128 (addf v105 (addf (k0_pay36 (F := Ideal))
      (FloatOps.matmul dot_S512x512_S512x128_S512x128_0_0_1_1_n_n none D v18 (constant (F := Ideal) S512x128 .f32 0x00000000#32))))
      shapeCasts_S512x128_S512x128 := rfl
  rw [h, shapeCast_self]
  show v105 (ix2 c d) + (Ideal.ofBits .f32 0x00000000#32 + FloatOps.matmul dot_S512x512_S512x128_S512x128_0_0_1_1_n_n none D v18
    (constant (F := Ideal) S512x128 .f32 0x00000000#32) (ix2 c d)) = _
  rw [matmul_lhsT]
  show _ + (Ideal.ofBits .f32 0x00000000#32 + (Ideal.ofBits .f32 0x00000000#32 + _)) = _
  rw [Ideal.ofBits_zero_f32, zero_add, zero_add, hg,
    coe_sum_mul _ _ _ _ (fun x => pay46_eq a13 v55 v76 h13 hlk hE x c) (fun x => hq x d), ← EReal.coe_add]

theorem pay49_eq (v32 : Vec Ideal S512x128 .bf16) (hk : ∀ r d, v32 (ix2 r d) = ((k (512 * I + r.val) d.val : ℝ) : EReal))
    (h14 : ∀ r d, a14 (ix2 r d) = ((dq sc q k v o (512 * I) (512 * I + r.val) d.val : ℝ) : EReal)) (r : Fin 512) (d : Fin 128) :
    k0_pay49 k0_pay20 a13 a14 v32 (k0_pay39 k0_pay21) v55 v76 (hi v76) (subf v76 (extf .f32 (hi v76) bitsLt_bf16_f32)) (ix2 r d)
      = ((dq sc q k v o (512 * (I + 1)) (512 * I + r.val) d.val : ℝ) : EReal) := by
  let D := k0_pay46 k0_pay20 a13 (k0_pay39 k0_pay21) v55 v76 (hi v76) (subf v76 (extf .f32 (hi v76) bitsLt_bf16_f32))
  have h : k0_pay49 k0_pay20 a13 a14 v32 (k0_pay39 k0_pay21) v55 v76 (hi v76) (subf v76 (extf .f32 (hi v76) bitsLt_bf16_f32)) (ix2 r d)
      = a14 (ix2 r d)
      + FloatOps.matmul (DotDims.plain 512 512 128) none D v32 (constant (F := Ideal) S512x128 .f32 0x00000000#32) (ix2 r d) := rfl
  rw [h, matmul_zero_plain D v32 _ _ (fun r x => pay46_eq a13 v55 v76 h13 hlk hE r x) hk, h14, ← EReal.coe_add]
  unfold dq
  rw [sum_tile]
end DiagGrad

theorem pay48_eq (v74 : FVec Ideal S512x512 .f32) (v112 : Vec Ideal S512x128 .f32) (g : ℝ) (c : Fin 512) (d : Fin 128)
    (hw : ∀ r c, v74 (ix2 r c) = ((w sc q k (512 * I + r.val) (512 * I + c.val) : ℝ) : EReal))
    (ho : ∀ r d, v19 (ix2 r d) = ((o (512 * I + r.val) d.val : ℝ) : EReal)) (hg : v112 (ix2 c d) = (g : EReal)) :
    k0_pay48 v19 (k0_pay37 (Scalar.ofBits .f32 0x00000000#32)) v74 v112 (ix2 c d)
      = ((g + ∑ r : Fin 512, w sc q k (512 * I + r.val) (512 * I + c.val) * o (512 * I + r.val) d.val : ℝ) : EReal) :=
  pay29_eq v19 v74 hw v112 g c d ho hg

end Cert.KernelIdeal.Tile
-- ==== Proof.Sb.Ref.lean ====
/-
  The reference read at an index: over arrays of reals its intermediate values are the functions of `Stick`, head by head,
  and its three results are the cotangents of the queries, keys and values.
-/
module

public import proofs.«01_k».proof.Proof.Gen.ReferenceIdeal.Read
public import proofs.«01_k».proof.Proof.Sb.Cumsum
public import proofs.«01_k».proof.Proof.Sb.Heads
public import proofs.«01_k».proof.Proof.Sb.Tile

@[expose] public section

noncomputable section

namespace Cert.ReferenceIdeal.Sb

open Cert.ReferenceIdeal Cert.ReferenceIdeal.Gen Cert.ReferenceIdeal.Read Cert.Stick
open Idealize.ShloMosaic Idealize.ShloMosaic.ValueIdx Idealize.SL.Sem
open Cert.KernelIdeal.Tile (sc ofBits_sc)

variable (x0 : (⟨S2048x6144, .bf16⟩ : BufTy).Contents (Elt Ideal)) (x1 : (⟨S2048x1024, .bf16⟩ : BufTy).Contents (Elt Ideal))
variable (h0 : ∀ i, x0 i = ((EReal.toReal (x0 i) : ℝ) : EReal)) (h1 : ∀ i, x1 i = ((EReal.toReal (x1 i) : ℝ) : EReal))

/-- The four arrays of head `h`. -/
abbrev Q (h : ℕ) : ℕ → ℕ → ℝ := head (n := 6144) x0 0 h
abbrev K (h : ℕ) : ℕ → ℕ → ℝ := head (n := 6144) x0 1024 h
abbrev W (h : ℕ) : ℕ → ℕ → ℝ := head (n := 6144) x0 2048 h
abbrev O (h : ℕ) : ℕ → ℕ → ℝ := head (n := 1024) x1 0 h

section
include h0

theorem q_eq (h : Fin 8) (t : Fin 2048) (d : Fin 128) : val_main_v7 (F := Ideal) x0 (ix4 0 h t d) = ((Q x0 h t d : ℝ) : EReal) := by
  have hh := h.isLt; have ht := t.isLt; have hd := d.isLt
  rw [val_main_v7_apply, val_main_v6_apply, val_main_v5_apply, val_main_v2_apply, val_main_v1_apply, val_main_v0_apply]
  refine head_eq (n := 6144) x0 h0 _ ?_ ?_
  · show (((0 * 2048 + t.val) * 8 + h.val) * 128 + d.val) / 1024 % 2048 = t.val; omega
  · show (((0 * 2048 + t.val) * 8 + h.val) * 128 + d.val) % 1024 = 0 + 128 * h.val + d.val; omega

theorem k_eq (h : Fin 8) (t : Fin 2048) (d : Fin 128) : val_main_v10 (F := Ideal) x0 (ix4 0 h t d) = ((K x0 h t d : ℝ) : EReal) := by
  have hh := h.isLt; have ht := t.isLt; have hd := d.isLt
  rw [val_main_v10_apply, val_main_v9_apply, val_main_v8_apply, val_main_v3_apply, val_main_v1_apply, val_main_v0_apply]
  refine head_eq (n := 6144) x0 h0 _ ?_ ?_
  · show (((0 * 2048 + t.val) * 8 + h.val) * 128 + d.val) / 1024 % 2048 = t.val; omega
  · show 1024 + (((0 * 2048 + t.val) * 8 + h.val) * 128 + d.val) % 1024 = 1024 + 128 * h.val + d.val; omega

theorem v_eq (h : Fin 8) (t : Fin 2048) (d : Fin 128) : val_main_v13 (F := Ideal) x0 (ix4 0 h t d) = ((W x0 h t d : ℝ) : EReal) := by
  have hh := h.isLt; have ht := t.isLt; have hd := d.isLt
  rw [val_main_v13_apply, val_main_v12_apply, val_main_v11_apply, val_main_v4_apply, val_main_v1_apply, val_main_v0_apply]
  refine head_eq (n := 6144) x0 h0 _ ?_ ?_
  · show (((0 * 2048 + t.val) * 8 + h.val) * 128 + d.val) / 1024 % 2048 = t.val; omega
  · show 2048 + (((0 * 2048 + t.val) * 8 + h.val) * 128 + d.val) % 1024 = 2048 + 128 * h.val + d.val; omega

theorem z_eq (h : Fin 8) (t s : Fin 2048) : val_main_v16 (F := Ideal) x0 (ix4 0 h t s) = ((z sc (Q x0 h) (K x0 h) t s : ℝ) : EReal) := by
  rw [val_main_v16_apply, val_main_v14_apply, val_main_v15_apply]
  show _ * Ideal.ofBits .f32 0x3DB504F3#32 = _
  rw [ofBits_sc, coe_sum_mul _ _ (fun d => Q x0 h t d) (fun d => K x0 h s d) (fun d => ?_) (fun d => ?_), ← EReal.coe_mul,
    Fin.sum_univ_eq_sum_range (fun d => Q x0 h t d * K x0 h s d) 128]
  · rfl
  · exact (congrArg _ (funext fun a => match a with | ⟨0, _⟩ => rfl | ⟨1, _⟩ => rfl | ⟨2, _⟩ => rfl | ⟨3, _⟩ => rfl)).trans (q_eq x0 h0 h t d)
  · exact (congrArg _ (funext fun a => match a with | ⟨0, _⟩ => rfl | ⟨1, _⟩ => rfl | ⟨2, _⟩ => rfl | ⟨3, _⟩ => rfl)).trans (k_eq x0 h0 h s d)
end

theorem mask_eq (t s : Fin 2048) (i : S2048x2048.Idx) (e0 : (i 0).val = t.val) (e1 : (i 1).val = s.val) :
    val_main_v23 (F := Ideal) i = BitVec.ofBool (decide (s.val < t.val)) := by
  have ht := t.isLt; have hs := s.isLt
  rw [val_main_v23_apply, val_main_v21_apply, val_main_v22_apply, val_main_v18_apply, val_main_v20_apply]
  show IntOp.cmpi .slt (BitVec.ofNat 32 (i 1).val) (BitVec.ofNat 32 (i 0).val) = _
  rw [e0, e1, WordCmp.cmpi_slt_ofNat (by simp; omega) (by simp; omega)]

section
include h0

/-- The softplus of the score. -/
theorem sp25_eq (h : Fin 8) (t s : Fin 2048) :
    val_main_call0_v1_0 (F := Ideal) x0 (ix4 0 h t s) = ((lsp (z sc (Q x0 h) (K x0 h) t s) : ℝ) : EReal) := by
  simp only [val_main_call0_v1_0_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_call0_cst_apply, val_main_call0_v0_apply, val_main_v24_apply, z_eq x0 h0]
  refine Eq.trans ?_ (softplus_coe _)
  simp only [Ideal.hostNegf_def, neg_neg]
  simp [Ideal.cmpf_def]
  rfl

/-- The softplus of the negated score. -/
theorem sp29_eq (h : Fin 8) (t s : Fin 2048) :
    val_main_call3_v1_0 (F := Ideal) x0 (ix4 0 h t s) = ((lsp (-z sc (Q x0 h) (K x0 h) t s) : ℝ) : EReal) := by
  simp only [val_main_call3_v1_0_apply, val_main_call3_call0_v4_apply, val_main_call3_call0_v6_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v0_apply, val_main_call3_call0_v2_apply,
    val_main_call3_call0_v5_apply, val_main_call3_call0_cst_apply, val_main_call3_v0_apply, z_eq x0 h0]
  refine Eq.trans ?_ (softplus_coe _)
  simp [Ideal.cmpf_def, Ideal.absf_def]

/-- The derivative kept of the softplus of the score. -/
theorem res25_eq (h : Fin 8) (t s : Fin 2048) :
    val_main_v25_1 (F := Ideal) x0 (ix4 0 h t s)
      = ((Real.exp (z sc (Q x0 h) (K x0 h) t s - lsp (z sc (Q x0 h) (K x0 h) t s)) : ℝ) : EReal) := by
  simp only [val_main_v25_1_apply, val_main_call0_call0_v21_apply, val_main_call0_call0_v20_apply, val_main_call0_call0_v18_apply,
    val_main_call0_call0_v16_apply, val_main_call0_call0_v14_apply, val_main_call0_call0_v13_apply, val_main_call0_call0_v15_apply,
    val_main_call0_call0_v17_apply, val_main_call0_call0_v19_apply, val_main_call0_call0_cst_0_apply, val_main_call0_call0_cst_1_apply,
    val_main_call0_call0_cst_2_apply, val_main_call0_call0_cst_3_apply, val_main_call0_v0_apply, val_main_v24_apply, z_eq x0 h0, sp25_eq x0 h0]
  refine Eq.trans ?_ (residual_coe _ _)
  simp only [Ideal.hostNegf_def, neg_neg]
  rw [← ofBits_inf]
  simp [Ideal.cmpf_def]

/-- The derivative kept of the softplus of the negated score. -/
theorem res29_eq (h : Fin 8) (t s : Fin 2048) :
    val_main_v29_1 (F := Ideal) x0 (ix4 0 h t s)
      = ((Real.exp (-z sc (Q x0 h) (K x0 h) t s - lsp (-z sc (Q x0 h) (K x0 h) t s)) : ℝ) : EReal) := by
  simp only [val_main_v29_1_apply, val_main_call3_call0_v21_apply, val_main_call3_call0_v20_apply, val_main_call3_call0_v18_apply,
    val_main_call3_call0_v16_apply, val_main_call3_call0_v14_apply, val_main_call3_call0_v13_apply, val_main_call3_call0_v15_apply,
    val_main_call3_call0_v17_apply, val_main_call3_call0_v19_apply, val_main_call3_call0_cst_0_apply, val_main_call3_call0_cst_1_apply,
    val_main_call3_call0_cst_2_apply, val_main_call3_call0_cst_3_apply, val_main_call3_v0_apply, z_eq x0 h0, sp29_eq x0 h0]
  refine Eq.trans ?_ (residual_coe _ _)
  rw [← ofBits_inf]
  simp [Ideal.cmpf_def]

theorem lk_eq (h : Fin 8) (t s : Fin 2048) :
    val_main_v26_0 (F := Ideal) x0 (ix4 0 h t s) = ((lk sc (Q x0 h) (K x0 h) t s : ℝ) : EReal) := by
  rw [val_main_v26_0_apply, val_main_v26_1_apply, mask_eq t s _ rfl rfl, val_main_v25_0_apply, sp25_eq x0 h0, val_main_call1_v2_apply, select_ofBool]
  show (if _ then -_ else Ideal.ofBits .f32 0x00000000#32) = _
  rw [Ideal.ofBits_zero_f32]
  unfold lk
  split <;> simp

theorem run_eq (h : Fin 8) (t s : Fin 2048) :
    val_main_v27 (F := Ideal) x0 (ix4 0 h t s) = ((∑ x ∈ Finset.Ico s.val 2048, lk sc (Q x0 h) (K x0 h) t x : ℝ) : EReal) := by
  refine (window_sum (B := 8) (T := 2048) (N := 2048) (L := 0) (U := 2047) (val_main_v26_0 (F := Ideal) x0) (val_main_call2_v0 (F := Ideal)) _ h_S_ ?_
    h t s (fun x => lk sc (Q x0 h) (K x0 h) t x) (fun s' => lk_eq x0 h0 h t s')).trans ?_
  · rw [val_main_call2_v0_apply]
    exact Ideal.ofBits_zero_f32
  · rw [window_suffix]

theorem w31_eq (h : Fin 8) (t s : Fin 2048) :
    val_main_v31 (F := Ideal) x0 (ix4 0 h t s)
      = ((Real.exp ((min (z sc (Q x0 h) (K x0 h) t s) 0 - l1p (z sc (Q x0 h) (K x0 h) t s))
          + ∑ x ∈ Finset.Ico (s.val + 1) 2048, lk sc (Q x0 h) (K x0 h) t x) : ℝ) : EReal) := by
  have hs := s.isLt
  rw [val_main_v31_apply, val_main_v30_apply, val_main_v29_0_apply, val_main_v28_apply, sp29_eq x0 h0, run_eq x0 h0, lk_eq x0 h0]
  rw [Ideal.hostUnary_exp_def, Ideal.addf_def, Ideal.hostNegf_def, Ideal.subf_def, Ideal.negf_def, ← EReal.coe_neg, ← EReal.coe_sub, ← EReal.coe_add, Ideal.exp_coe, lsp_neg, Finset.sum_eq_sum_Ico_succ_bot hs, add_sub_cancel_left]

theorem w_eq (h : Fin 8) (t s : Fin 2048) :
    val_main_v32_0 (F := Ideal) x0 (ix4 0 h t s) = ((w sc (Q x0 h) (K x0 h) t s : ℝ) : EReal) := by
  rw [val_main_v32_0_apply, val_main_v32_1_apply, mask_eq t s _ rfl rfl, w31_eq x0 h0, val_main_call4_v2_apply, select_ofBool]
  show (if _ then _ else Ideal.ofBits .f32 0x00000000#32) = _
  rw [Ideal.ofBits_zero_f32]
  unfold w
  split <;> rfl
end

section
include h1
theorem o_eq (h : Fin 8) (t : Fin 2048) (d : Fin 128) : val_main_v40 (F := Ideal) x1 (ix4 0 h t d) = ((O x1 h t d : ℝ) : EReal) := by
  have hh := h.isLt; have ht := t.isLt; have hd := d.isLt
  rw [val_main_v40_apply, val_main_v39_apply, val_main_v38_apply, val_main_v37_apply]
  refine head_eq (n := 1024) x1 h1 _ ?_ ?_
  · show (((0 * 2048 + t.val) * 8 + h.val) * 128 + d.val) / 1024 % 2048 = t.val; omega
  · show (((0 * 2048 + t.val) * 8 + h.val) * 128 + d.val) % 1024 = 0 + 128 * h.val + d.val; omega
end

section
include h0 h1

theorem dw_eq (h : Fin 8) (t s : Fin 2048) :
    val_main_v43 (F := Ideal) x0 x1 (ix4 0 h t s) = ((dw (W x0 h) (O x1 h) t s : ℝ) : EReal) := by
  rw [val_main_v43_apply, coe_sum_mul _ _ (fun d => O x1 h t d) (fun d => W x0 h s d) (fun d => ?_) (fun d => ?_),
    Fin.sum_univ_eq_sum_range (fun d => O x1 h t d * W x0 h s d) 128]
  · rfl
  · exact (congrArg _ (funext fun a => match a with | ⟨0, _⟩ => rfl | ⟨1, _⟩ => rfl | ⟨2, _⟩ => rfl | ⟨3, _⟩ => rfl)).trans (o_eq x1 h1 h t d)
  · exact (congrArg _ (funext fun a => match a with | ⟨0, _⟩ => rfl | ⟨1, _⟩ => rfl | ⟨2, _⟩ => rfl | ⟨3, _⟩ => rfl)).trans (v_eq x0 h0 h s d)

theorem e_eq (h : Fin 8) (t s : Fin 2048) :
    val_main_v45 (F := Ideal) x0 x1 (ix4 0 h t s) = ((e sc (Q x0 h) (K x0 h) (W x0 h) (O x1 h) t s : ℝ) : EReal) := by
  rw [val_main_v45_apply, val_main_v44_apply, val_main_v32_1_apply, mask_eq t s _ rfl rfl, dw_eq x0 x1 h0 h1, w31_eq x0 h0, val_main_call5_v0_apply, select_ofBool]
  show (if _ then _ else Ideal.ofBits .f32 0x00000000#32) * _ = _
  rw [Ideal.ofBits_zero_f32]
  unfold e w
  split
  · rw [← EReal.coe_mul]
  · rw [zero_mul, mul_zero]; rfl

theorem pre_eq (h : Fin 8) (t s : Fin 2048) :
    val_main_v49 (F := Ideal) x0 x1 (ix4 0 h t s)
      = ((∑ x ∈ Finset.range s.val, e sc (Q x0 h) (K x0 h) (W x0 h) (O x1 h) t x : ℝ) : EReal) := by
  have hw : val_main_v48 (F := Ideal) x0 x1 (ix4 0 h t s)
      = ((∑ x ∈ Finset.range (s.val + 1), e sc (Q x0 h) (K x0 h) (W x0 h) (O x1 h) t x : ℝ) : EReal) := by
    refine (window_sum (B := 8) (T := 2048) (N := 2048) (L := 2047) (U := 0) (val_main_v45 (F := Ideal) x0 x1) (val_main_call7_v0 (F := Ideal)) _ h_S_ ?_
      h t s (fun x => e sc (Q x0 h) (K x0 h) (W x0 h) (O x1 h) t x) (fun s' => e_eq x0 x1 h0 h1 h t s')).trans ?_
    · rw [val_main_call7_v0_apply]
      exact Ideal.ofBits_zero_f32
    · exact congrArg _ (window_prefix (N := 2048) _ s)
  rw [val_main_v49_apply, val_main_v47_apply, hw, e_eq x0 x1 h0 h1]
  rw [Ideal.addf_def, Ideal.hostNegf_def, Ideal.negf_def, ← EReal.coe_neg, ← EReal.coe_add, Finset.sum_range_succ, add_comm, add_neg_cancel_right]

theorem dz_eq (h : Fin 8) (t s : Fin 2048) :
    val_main_v55 (F := Ideal) x0 x1 (ix4 0 h t s) = ((dz sc (Q x0 h) (K x0 h) (W x0 h) (O x1 h) t s : ℝ) : EReal) := by
  rw [val_main_v55_apply, val_main_v53_apply, val_main_v46_apply, val_main_call6_v1_apply, val_main_call6_v0_apply, val_main_v52_apply,
    val_main_v51_apply, val_main_call9_v1_apply, val_main_call9_v0_apply, val_main_v50_apply, val_main_v26_1_apply, mask_eq t s _ rfl rfl,
    val_main_call8_v0_apply, val_main_v54_apply, e_eq x0 x1 h0 h1, pre_eq x0 x1 h0 h1, res25_eq x0 h0, res29_eq x0 h0, select_ofBool]
  rw [val_main_cst_2_apply, val_main_call8_cst_apply, exp_neg_sub_lsp, exp_sub_lsp]
  simp only [Ideal.hostNegf_def, Ideal.negf_def, Ideal.mulf_def, Ideal.addf_def, Ideal.ofBits_def, Ideal.ofBits_zero_f32, ofBits_sc]
  unfold dz lk
  split
  · simp only [← EReal.coe_neg, ← EReal.coe_mul, ← EReal.coe_add]
    congr 1; ring
  · next hst =>
    rw [e_of_le (by omega), ← EReal.coe_zero]
    simp only [← EReal.coe_neg, ← EReal.coe_mul, ← EReal.coe_add]
    congr 1; ring

/-- The three cotangents in the heads' layout. -/
theorem dk_eq (h : Fin 8) (s : Fin 2048) (d : Fin 128) :
    val_main_v56 (F := Ideal) x0 x1 (ix4 0 h s d) = ((dk sc (Q x0 h) (K x0 h) (W x0 h) (O x1 h) 2048 s d : ℝ) : EReal) := by
  rw [val_main_v56_apply, coe_sum_mul _ _ (fun t => dz sc (Q x0 h) (K x0 h) (W x0 h) (O x1 h) t s) (fun t => Q x0 h t d) (fun t => ?_) (fun t => ?_),
    Fin.sum_univ_eq_sum_range (fun t => dz sc (Q x0 h) (K x0 h) (W x0 h) (O x1 h) t s * Q x0 h t d) 2048]
  · rfl
  · exact (congrArg _ (funext fun a => match a with | ⟨0, _⟩ => rfl | ⟨1, _⟩ => rfl | ⟨2, _⟩ => rfl | ⟨3, _⟩ => rfl)).trans (dz_eq x0 x1 h0 h1 h t s)
  · exact (congrArg _ (funext fun a => match a with | ⟨0, _⟩ => rfl | ⟨1, _⟩ => rfl | ⟨2, _⟩ => rfl | ⟨3, _⟩ => rfl)).trans (q_eq x0 h0 h t d)

theorem dq_eq (h : Fin 8) (t : Fin 2048) (d : Fin 128) :
    val_main_v57 (F := Ideal) x0 x1 (ix4 0 h t d) = ((dq sc (Q x0 h) (K x0 h) (W x0 h) (O x1 h) 2048 t d : ℝ) : EReal) := by
  rw [val_main_v57_apply, coe_sum_mul _ _ (fun s => dz sc (Q x0 h) (K x0 h) (W x0 h) (O x1 h) t s) (fun s => K x0 h s d) (fun s => ?_) (fun s => ?_),
    Fin.sum_univ_eq_sum_range (fun s => dz sc (Q x0 h) (K x0 h) (W x0 h) (O x1 h) t s * K x0 h s d) 2048]
  · rfl
  · exact (congrArg _ (funext fun a => match a with | ⟨0, _⟩ => rfl | ⟨1, _⟩ => rfl | ⟨2, _⟩ => rfl | ⟨3, _⟩ => rfl)).trans (dz_eq x0 x1 h0 h1 h t s)
  · exact (congrArg _ (funext fun a => match a with | ⟨0, _⟩ => rfl | ⟨1, _⟩ => rfl | ⟨2, _⟩ => rfl | ⟨3, _⟩ => rfl)).trans (k_eq x0 h0 h s d)

theorem dv_eq (h : Fin 8) (s : Fin 2048) (d : Fin 128) :
    val_main_v42 (F := Ideal) x0 x1 (ix4 0 h s d) = ((dv sc (Q x0 h) (K x0 h) (O x1 h) 2048 s d : ℝ) : EReal) := by
  rw [val_main_v42_apply, val_main_v41_apply, coe_sum_mul _ _ (fun t => O x1 h t d) (fun t => w sc (Q x0 h) (K x0 h) t s) (fun t => ?_) (fun t => ?_),
    Fin.sum_univ_eq_sum_range (fun t => O x1 h t d * w sc (Q x0 h) (K x0 h) t s) 2048]
  · unfold dv
    exact congrArg _ (Finset.sum_congr rfl fun t _ => mul_comm _ _)
  · exact (congrArg _ (funext fun a => match a with | ⟨0, _⟩ => rfl | ⟨1, _⟩ => rfl | ⟨2, _⟩ => rfl | ⟨3, _⟩ => rfl)).trans (o_eq x1 h1 h t d)
  · exact (congrArg _ (funext fun a => match a with | ⟨0, _⟩ => rfl | ⟨1, _⟩ => rfl | ⟨2, _⟩ => rfl | ⟨3, _⟩ => rfl)).trans (w_eq x0 h0 h t s)

/-- The three results: row `t`, column `128 h + d`. -/
theorem out_dq (i : S2048x1024.Idx) :
    val_main_v67 (F := Ideal) x0 x1 i = ((dq sc (Q x0 ((i 1).val / 128)) (K x0 ((i 1).val / 128)) (W x0 ((i 1).val / 128)) (O x1 ((i 1).val / 128)) 2048 (i 0).val ((i 1).val % 128) : ℝ) : EReal) := by
  have hi0 : (i 0).val < 2048 := (i 0).isLt
  have hi1 : (i 1).val < 1024 := (i 1).isLt
  rw [val_main_v67_apply, val_main_v66_apply]
  show Ideal.ofBits .f32 0x00000000#32 + _ = _
  rw [Ideal.ofBits_zero_f32, zero_add, Fin.sum_univ_one, val_main_v65_apply, val_main_v64_apply]
  refine (congrArg _ (funext fun a => Fin.ext ?_)).trans (dq_eq x0 x1 h0 h1 ⟨(i 1).val / 128, by omega⟩ ⟨(i 0).val, hi0⟩ ⟨(i 1).val % 128, by omega⟩)
  match a with
  | ⟨0, _⟩ => rfl
  | ⟨1, _⟩ => show ((0 * 2048 + (i 0).val) * 1024 + (i 1).val) / 128 % 8 = (i 1).val / 128; omega
  | ⟨2, _⟩ => show ((0 * 2048 + (i 0).val) * 1024 + (i 1).val) / 1024 % 2048 = (i 0).val; omega
  | ⟨3, _⟩ => show ((0 * 2048 + (i 0).val) * 1024 + (i 1).val) % 128 = (i 1).val % 128; omega

theorem out_dk (i : S2048x1024.Idx) :
    val_main_v68 (F := Ideal) x0 x1 i = ((dk sc (Q x0 ((i 1).val / 128)) (K x0 ((i 1).val / 128)) (W x0 ((i 1).val / 128)) (O x1 ((i 1).val / 128)) 2048 (i 0).val ((i 1).val % 128) : ℝ) : EReal) := by
  have hi0 : (i 0).val < 2048 := (i 0).isLt
  have hi1 : (i 1).val < 1024 := (i 1).isLt
  rw [val_main_v68_apply, val_main_v63_apply]
  show Ideal.ofBits .f32 0x00000000#32 + _ = _
  rw [Ideal.ofBits_zero_f32, zero_add, Fin.sum_univ_one, val_main_v62_apply, val_main_v61_apply]
  refine (congrArg _ (funext fun a => Fin.ext ?_)).trans (dk_eq x0 x1 h0 h1 ⟨(i 1).val / 128, by omega⟩ ⟨(i 0).val, hi0⟩ ⟨(i 1).val % 128, by omega⟩)
  match a with
  | ⟨0, _⟩ => rfl
  | ⟨1, _⟩ => show ((0 * 2048 + (i 0).val) * 1024 + (i 1).val) / 128 % 8 = (i 1).val / 128; omega
  | ⟨2, _⟩ => show ((0 * 2048 + (i 0).val) * 1024 + (i 1).val) / 1024 % 2048 = (i 0).val; omega
  | ⟨3, _⟩ => show ((0 * 2048 + (i 0).val) * 1024 + (i 1).val) % 128 = (i 1).val % 128; omega

theorem out_dv (i : S2048x1024.Idx) :
    val_main_v69 (F := Ideal) x0 x1 i = ((dv sc (Q x0 ((i 1).val / 128)) (K x0 ((i 1).val / 128)) (O x1 ((i 1).val / 128)) 2048 (i 0).val ((i 1).val % 128) : ℝ) : EReal) := by
  have hi0 : (i 0).val < 2048 := (i 0).isLt
  have hi1 : (i 1).val < 1024 := (i 1).isLt
  rw [val_main_v69_apply, val_main_v60_apply]
  show Ideal.ofBits .f32 0x00000000#32 + _ = _
  rw [Ideal.ofBits_zero_f32, zero_add, Fin.sum_univ_one, val_main_v59_apply, val_main_v58_apply]
  refine (congrArg _ (funext fun a => Fin.ext ?_)).trans (dv_eq x0 x1 h0 h1 ⟨(i 1).val / 128, by omega⟩ ⟨(i 0).val, hi0⟩ ⟨(i 1).val % 128, by omega⟩)
  match a with
  | ⟨0, _⟩ => rfl
  | ⟨1, _⟩ => show ((0 * 2048 + (i 0).val) * 1024 + (i 1).val) / 128 % 8 = (i 1).val / 128; omega
  | ⟨2, _⟩ => show ((0 * 2048 + (i 0).val) * 1024 + (i 1).val) / 1024 % 2048 = (i 0).val; omega
  | ⟨3, _⟩ => show ((0 * 2048 + (i 0).val) * 1024 + (i 1).val) % 128 = (i 1).val % 128; omega
end

end Cert.ReferenceIdeal.Sb
-- ==== Proof.Sb.Runs.lean ====
/-
  The array of running sums handed to the kernel, read at an index: for each head and query, the sum of the log-keeps
  over the keys after each tile of 512.
-/
module

public import proofs.«01_k».proof.Proof.Sb.Ref
public import proofs.«01_k».proof.Proof.Gen.KernelIdeal.Value
public import Idealize.ShloMosaic.Lib.Claim
public import Idealize.ShloMosaic.Lib.KernelVsHost

@[expose] public section

noncomputable section

namespace Cert.KernelIdeal.Sb

open Cert.KernelIdeal Cert.KernelIdeal.Gen Cert.Stick
open Idealize.ShloMosaic Idealize.ShloMosaic.TcCoe Idealize.ShloMosaic.ValueIdx Idealize.SL.Sem Idealize.ShloMosaic.StableHlo
open Cert.ReferenceIdeal.Read
open Cert.ReferenceIdeal.Sb (Q K)
open Cert.KernelIdeal.Tile (sc)

abbrev Arg := FVec Ideal S2048x6144 .bf16
abbrev Heads := FVec Ideal S1x8x2048x128 .f32
abbrev Sq := FVec Ideal S1x8x2048x2048 .f32

/-- The columns of one of the arrays, as heads. -/
def heads (o : Fin 2 → ℕ) (h : S2048x2048.Slices o S2048x1024) (x : Arg) : Heads :=
  transpose S1x8x2048x128 [0, 2, 1, 3]
    (shapeCast S1x2048x8x128 (broadcastInDim S1x2048x1024 ![1, 2] bcast_S2048x1024_S1x2048x1024_1_2
      (extractStridedSlice S2048x1024 o (extractStridedSlice S2048x2048 ![0, 0] (extf .f32 x bitsLt_bf16_f32 : FVec Ideal S2048x6144 .f32)
        slices_S2048x6144_S2048x2048_0_0) h)) shapeCasts_S1x2048x1024_S1x2048x8x128)
    transposes_S1x2048x8x128_S1x8x2048x128_0_2_1_3

/-- A constant everywhere. -/
def splat (b : BitVec 32) : Sq := broadcastInDim S1x8x2048x2048 ![] bcast_S_S1x8x2048x2048 (constant S_ .f32 b : FVec Ideal S_ .f32)

def scores (q k : Heads) : Sq :=
  mulf (Host.dotGeneral dot_S1x8x2048x128_S1x8x2048x128_S1x8x2048x2048_3_3_2_2_01_01 none q k : Sq) (splat 0x3DB504F3#32)

def logSig (x : Sq) : Sq :=
  Host.negf (select (cmpf .une (subf x (splat 0#32) : Sq) (subf x (splat 0#32) : Sq) : IVec S1x8x2048x2048 1) (addf x (splat 0#32) : Sq)
    (addf (maximumf x (splat 0#32) : Sq) (Host.log1p (Host.exp (Host.negf (Host.absf (subf x (splat 0#32) : Sq) : Sq) : Sq) : Sq)) : Sq) : Sq)

/-- The mask before it is spread over the heads. -/
def mask : IVec S2048x2048 1 :=
  cmpi .slt
    (broadcastInDim S2048x2048 ![0, 1] bcast_S1x2048_S2048x2048_0_1 (broadcastInDim S1x2048 ![1] bcast_S2048_S1x2048_1 (iotaInDim S2048 32 0 : IVec S2048 32) : IVec S1x2048 32) : IVec S2048x2048 32)
    (broadcastInDim S2048x2048 ![0, 1] bcast_S2048x1_S2048x2048_0_1 (broadcastInDim S2048x1 ![0] bcast_S2048_S2048x1_0 (iotaInDim S2048 32 0 : IVec S2048 32) : IVec S2048x1 32) : IVec S2048x2048 32)

def suffixes (q k : Heads) : Sq :=
  Host.reduceWindowAdd ![1, 1, 1, 2048] ![1, 1, 1, 1] ![0, 0, 0, 0] ![0, 0, 0, 2047]
    (select (broadcastInDim S1x8x2048x2048 ![2, 3] bcast_S2048x2048_S1x8x2048x2048_2_3 mask : IVec S1x8x2048x2048 1) (logSig (Host.negf (Host.negf (scores q k) : Sq))) (splat 0#32))
    (broadcastInDim S_ ![] bcast_S_S_ (constant S_ .f32 0#32 : FVec Ideal S_ .f32) : FVec Ideal S_ .f32)
    reduceWindows_S1x8x2048x2048_S1x8x2048x2048_w1s1p0_0_w1s1p0_0_w1s1p0_0_w2048s1p0_2047 h_S_

/-- The sums at the tiles' ends: every 512th, a zero after the last. -/
def tails (x : Sq) : FVec Ideal S8x2048x4 .f32 :=
  pad S8x2048x4 ![0, 0, 0] ![0, 0, 1] ![0, 0, 0]
    (Host.slice S8x2048x3 ![0, 0, 512] ![1, 1, 512] (shapeCast S8x2048x2048 x shapeCasts_S1x8x2048x2048_S8x2048x2048) slicesBy_S8x2048x2048_S8x2048x3_0s1_0s1_512s512 : FVec Ideal S8x2048x3 .f32)
    (sitofp .f32 (constantI S_ 32 0#32 : IVec S_ 32) : FVec Ideal S_ .f32) pads_S8x2048x3_S8x2048x4_000_000_010 h_S_

def lanes (x : FVec Ideal S8x2048x4 .f32) : FVec Ideal S8x4x2048x128 .f32 :=
  broadcastInDim S8x4x2048x128 ![0, 1, 2, 3] bcast_S8x4x2048x1_S8x4x2048x128_0_1_2_3
    (broadcastInDim S8x4x2048x1 ![0, 1, 2] bcast_S8x4x2048_S8x4x2048x1_0_1_2
      (transpose S8x4x2048 [0, 2, 1] x transposes_S8x2048x4_S8x4x2048_0_2_1 : FVec Ideal S8x4x2048 .f32) : FVec Ideal S8x4x2048x1 .f32)

/-! The host lines in stretches, each over any contents. -/

section
variable (f : Valuation τ sig (Elt Ideal))

theorem at_v20 : after hostOps0 f (Proc.devRef .tc main_v20)
    = (Host.negf (scores (heads ![0, 0] slices_S2048x2048_S2048x1024_0_0 (f (Proc.devRef .tc main_arg0))) (heads ![0, 1024] slices_S2048x2048_S2048x1024_0_1024 (f (Proc.devRef .tc main_arg0)))) : Sq) := by
  after_results
  rfl

theorem at_v19 : after hostOps0 f (Proc.devRef .tc main_v19) = mask := by
  after_results
  rfl

theorem at_v21 : after hostOps0_1 f (Proc.devRef .tc main_v21) = logSig (Host.negf (f (Proc.devRef .tc main_v20) : Sq) : Sq) := by
  after_results
  simp only [TRef.ofBuf_toBuf]
  rfl
theorem keep_v19 : after hostOps0_1 f (Proc.devRef .tc main_v19) = f (Proc.devRef .tc main_v19) := by
  after_results

theorem at_cst : after hostOps0_2 f (Proc.devRef .tc main_cst_0) = (constant S_ .f32 0#32 : FVec Ideal S_ .f32) := by
  after_results
theorem keep_v19' : after hostOps0_2 f (Proc.devRef .tc main_v19) = f (Proc.devRef .tc main_v19) := by
  after_results
theorem keep_v21 : after hostOps0_2 f (Proc.devRef .tc main_v21) = f (Proc.devRef .tc main_v21) := by
  after_results

theorem at_v22 : after hostOps0_3 f (Proc.devRef .tc main_v22)
    = (select (broadcastInDim S1x8x2048x2048 ![2, 3] bcast_S2048x2048_S1x8x2048x2048_2_3 (f (Proc.devRef .tc main_v19) : IVec S2048x2048 1) : IVec S1x8x2048x2048 1)
        (f (Proc.devRef .tc main_v21) : Sq) (broadcastInDim S1x8x2048x2048 ![] bcast_S_S1x8x2048x2048 (f (Proc.devRef .tc main_cst_0) : FVec Ideal S_ .f32) : Sq) : Sq) := by
  after_results
  simp only [TRef.ofBuf_toBuf]
  rfl

theorem at_v23 : after hostOps0_4 f (Proc.devRef .tc main_v23)
    = (Host.reduceWindowAdd ![1, 1, 1, 2048] ![1, 1, 1, 1] ![0, 0, 0, 0] ![0, 0, 0, 2047] (f (Proc.devRef .tc main_v22) : Sq)
        (broadcastInDim S_ ![] bcast_S_S_ (constant S_ .f32 0#32 : FVec Ideal S_ .f32) : FVec Ideal S_ .f32)
        reduceWindows_S1x8x2048x2048_S1x8x2048x2048_w1s1p0_0_w1s1p0_0_w1s1p0_0_w2048s1p0_2047 h_S_ : Sq) := by
  after_results
  simp only [TRef.ofBuf_toBuf]
  rfl

theorem at_v25 : after hostOps0_5 f (Proc.devRef .tc main_v25)
    = (Host.slice S8x2048x3 ![0, 0, 512] ![1, 1, 512] (shapeCast S8x2048x2048 (f (Proc.devRef .tc main_v23) : Sq) shapeCasts_S1x8x2048x2048_S8x2048x2048) slicesBy_S8x2048x2048_S8x2048x3_0s1_0s1_512s512 : FVec Ideal S8x2048x3 .f32) := by
  after_results
  rfl
theorem at_c : after hostOps0_5 f (Proc.devRef .tc main_c) = (constantI S_ 32 0#32 : IVec S_ 32) := by
  after_results

theorem at_v26 : after hostOps0_6 f (Proc.devRef .tc main_v26)
    = (pad S8x2048x4 ![0, 0, 0] ![0, 0, 1] ![0, 0, 0] (f (Proc.devRef .tc main_v25) : FVec Ideal S8x2048x3 .f32)
        (sitofp .f32 (f (Proc.devRef .tc main_c) : IVec S_ 32) : FVec Ideal S_ .f32) pads_S8x2048x3_S8x2048x4_000_000_010 h_S_ : FVec Ideal S8x2048x4 .f32) := by
  after_results
  simp only [TRef.ofBuf_toBuf]
  rfl

theorem at_v29 : after hostOps0_7 f (Proc.devRef .tc main_v29) = lanes (f (Proc.devRef .tc main_v26)) := by
  after_results
  rfl
end

variable (m : (ℓ : Loc nD τ sig) → Buf (Elt Ideal) ℓ) (c : Dev nD)

theorem V_runs (a : Arg) (ha : m ((c : Thread nD τ).loc main_arg0) = a) :
    V m c main_v29 = lanes (tails (suffixes (heads ![0, 0] slices_S2048x2048_S2048x1024_0_0 a) (heads ![0, 1024] slices_S2048x2048_S2048x1024_0_1024 a))) := by
  have ha' : m (c, Proc.devRef (τ := τ) .tc main_arg0) = a := ha
  unfold V
  simp only [List.flatten_cons, List.flatten_nil, List.append_nil, StableHlo.after_append]
  rw [at_v29, at_v26, at_v25, at_c, at_v23, at_v22, at_cst, keep_v21, keep_v19', keep_v19, at_v21, at_v20, at_v19, ha']
  rfl

/-! The same operations as the reference's. -/

theorem q_slice (y : FVec Ideal S2048x6144 .f32) :
    extractStridedSlice S2048x1024 ![0, 0] (extractStridedSlice S2048x2048 ![0, 0] y slices_S2048x6144_S2048x2048_0_0) slices_S2048x2048_S2048x1024_0_0
      = extractStridedSlice S2048x1024 ![0, 0] (extractStridedSlice Cert.ReferenceIdeal.S2048x3072 ![0, 0] y Cert.ReferenceIdeal.Gen.slices_S2048x6144_S2048x3072_0_0) Cert.ReferenceIdeal.Gen.slices_S2048x3072_S2048x1024_0_0 := by
  funext i
  refine congrArg y (funext fun a => Fin.ext ?_)
  match a with
  | ⟨0, _⟩ => rfl
  | ⟨1, _⟩ => rfl

theorem k_slice (y : FVec Ideal S2048x6144 .f32) :
    extractStridedSlice S2048x1024 ![0, 1024] (extractStridedSlice S2048x2048 ![0, 0] y slices_S2048x6144_S2048x2048_0_0) slices_S2048x2048_S2048x1024_0_1024
      = extractStridedSlice S2048x1024 ![0, 1024] (extractStridedSlice Cert.ReferenceIdeal.S2048x3072 ![0, 0] y Cert.ReferenceIdeal.Gen.slices_S2048x6144_S2048x3072_0_0) Cert.ReferenceIdeal.Gen.slices_S2048x3072_S2048x1024_0_1024 := by
  funext i
  refine congrArg y (funext fun a => Fin.ext ?_)
  match a with
  | ⟨0, _⟩ => rfl
  | ⟨1, _⟩ => rfl

theorem q_heads (a : Arg) : heads ![0, 0] slices_S2048x2048_S2048x1024_0_0 a = val_main_v7 (F := Ideal) a := by
  unfold heads
  rw [q_slice]
  rfl

theorem k_heads (a : Arg) : heads ![0, 1024] slices_S2048x2048_S2048x1024_0_1024 a = val_main_v10 (F := Ideal) a := by
  unfold heads
  rw [k_slice]
  rfl

theorem z_same (a : Arg) : scores (val_main_v7 (F := Ideal) a) (val_main_v10 (F := Ideal) a) = val_main_v16 (F := Ideal) a := by
  unfold val_main_v16 val_main_v14
  generalize val_main_v7 (F := Ideal) a = x
  generalize val_main_v10 (F := Ideal) a = y
  rfl

theorem lsg_same (a : Arg) : logSig (Host.negf (Host.negf (val_main_v16 (F := Ideal) a : Sq) : Sq) : Sq) = val_main_v25_0 (F := Ideal) a := by
  unfold val_main_v25_0 val_main_call0_v1_0 val_main_call0_call0_v4 val_main_call0_call0_v6 val_main_call0_call0_v11 val_main_call0_call0_v1 val_main_call0_call0_v10 val_main_call0_call0_v9 val_main_call0_call0_v8 val_main_call0_call0_v7 val_main_call0_call0_v3 val_main_call0_v0 val_main_v24
  generalize val_main_v16 (F := Ideal) a = y
  rfl

theorem mask_same : mask = val_main_v23 (F := Ideal) := rfl

theorem suffixes_same (a : Arg) : suffixes (val_main_v7 (F := Ideal) a) (val_main_v10 (F := Ideal) a) = val_main_v27 (F := Ideal) a := by
  unfold suffixes
  rw [z_same, lsg_same, mask_same]
  rfl

theorem tails_inside (x : Sq) (h : Fin 8) (t : Fin 2048) (j : Fin 4) (hj : j.val < 3) (s : Fin 2048) (hs : s.val = 512 * (j.val + 1)) :
    tails x (ix3 h t j) = x (ix4 0 h t s) := by
  have hh := h.isLt; have ht := t.isLt
  unfold tails
  refine (pad_apply_of_inside _ _ _ _ _ _ _ _ (ix3 h t ⟨j.val, hj⟩) fun a => ?_).trans ?_
  · match a with
    | ⟨0, _⟩ => show h.val = 0 + h.val * (0 + 1); omega
    | ⟨1, _⟩ => show t.val = 0 + t.val * (0 + 1); omega
    | ⟨2, _⟩ => show j.val = 0 + j.val * (0 + 1); omega
  · show shapeCast S8x2048x2048 x shapeCasts_S1x8x2048x2048_S8x2048x2048 _ = _
    refine shapeCast_apply x shapeCasts_S1x8x2048x2048_S8x2048x2048 _ (ix4 0 h t s) ?_
    rw [Shape.rowMajor_val_three, Shape.rowMajor_val_four]
    show ((0 * 8 + h.val) * 2048 + t.val) * 2048 + s.val = ((0 + 1 * h.val) * 2048 + (0 + 1 * t.val)) * 2048 + (512 + 512 * j.val)
    omega

theorem tails_end (x : Sq) (h : Fin 8) (t : Fin 2048) : tails x (ix3 h t 3) = 0 := by
  unfold tails
  refine (pad_apply_of_not_inside _ _ _ _ _ _ _ _ (2 : Fin 3) ?_).trans ?_
  · rintro ⟨-, -, hx⟩
    exact absurd (show (3 - 0) / (0 + 1) < 3 from hx) (by decide)
  · show (((0 : ℤ) : ℝ) : EReal) = 0
    simp

theorem lanes_at (x : FVec Ideal S8x2048x4 .f32) (h : Fin 8) (j : Fin 4) (t : Fin 2048) (l : Fin 128) : lanes x (ix4 h j t l) = x (ix3 h t j) := by
  unfold lanes
  rw [broadcastInDim_apply _ _ _ (ix4 h j t l) (ix4 h j t 0) (fun a => match a with | ⟨0, _⟩ => rfl | ⟨1, _⟩ => rfl | ⟨2, _⟩ => rfl | ⟨3, _⟩ => rfl),
    broadcastInDim_apply _ _ _ (ix4 h j t 0) (ix3 h j t) (fun a => match a with | ⟨0, _⟩ => rfl | ⟨1, _⟩ => rfl | ⟨2, _⟩ => rfl)]
  exact transpose_apply [0, 2, 1] x _ (ix3 h j t) (ix3 h t j) (fun b => match b with | ⟨0, _⟩ => rfl | ⟨1, _⟩ => rfl | ⟨2, _⟩ => rfl)

/-- The running sums at the region's entry. -/
theorem V_runs_at (a : Arg) (ha : m ((c : Thread nD τ).loc main_arg0) = a) (h0 : ∀ i, a i = ((EReal.toReal (a i) : ℝ) : EReal))
    (h : Fin 8) (j : Fin 4) (t : Fin 2048) (l : Fin 128) :
    (V m c main_v29 : FVec Ideal S8x4x2048x128 .f32) (ix4 h j t l) = ((∑ x ∈ Finset.Ico (512 * (j.val + 1)) 2048, lk sc (Q a h) (K a h) t x : ℝ) : EReal) := by
  rw [V_runs m c a ha, lanes_at, q_heads, k_heads, suffixes_same]
  by_cases hj : j.val < 3
  · rw [tails_inside _ h t j hj ⟨512 * (j.val + 1), by omega⟩ rfl]
    exact Cert.ReferenceIdeal.Sb.run_eq a h0 h t _
  · have e : j = 3 := Fin.ext (by have := j.isLt; show j.val = 3; omega)
    subst e
    rw [tails_end]
    simp

end Cert.KernelIdeal.Sb
-- ==== Proof.Sb.Blocks.lean ====
/-
  The blocks the kernel reads at a grid point, as arrays of one head: 512 queries and output cotangents, all the keys and
  values, and the running sums of the query tile.
-/
module

public import proofs.«01_k».proof.Proof.Sb.Runs

@[expose] public section

set_option maxRecDepth 16384

noncomputable section

namespace Cert.KernelIdeal.Sb

open Cert.KernelIdeal Cert.KernelIdeal.Gen Cert.Stick
open Idealize.ShloMosaic Idealize.ShloMosaic.TcCoe Idealize.ShloMosaic.ValueIdx Idealize.SL.Sem Idealize.ShloMosaic.StableHlo
open Cert.ReferenceIdeal.Sb (Q K W O)
open Cert.KernelIdeal.Tile (sc)

theorem idx0 : ∀ t : Fin grid0.N, win0_0.index t (0 : Fin 2) = t.val % 4 ∧ win0_0.index t (1 : Fin 2) = t.val / 4 := by decide +kernel
theorem idx1 : ∀ t : Fin grid0.N, win0_1.index t (0 : Fin 2) = 0 ∧ win0_1.index t (1 : Fin 2) = 8 + t.val / 4 := by decide +kernel
theorem idx2 : ∀ t : Fin grid0.N, win0_2.index t (0 : Fin 2) = 0 ∧ win0_2.index t (1 : Fin 2) = 16 + t.val / 4 := by decide +kernel
theorem idx3 : ∀ t : Fin grid0.N, win0_3.index t (0 : Fin 2) = t.val % 4 ∧ win0_3.index t (1 : Fin 2) = t.val / 4 := by decide +kernel
theorem idx4 : ∀ t : Fin grid0.N, win0_4.index t (0 : Fin 4) = t.val / 4 ∧ win0_4.index t (1 : Fin 4) = 0
    ∧ win0_4.index t (2 : Fin 4) = t.val % 4 ∧ win0_4.index t (3 : Fin 4) = 0 := by decide +kernel
theorem coord1 (t : Fin cfg0.N) : (grid0.coords t 1).val = t.val % 4 := by
  have e1 : (grid0.coords t 1).val = t.val / 1 % 4 := Pipeline.Grid.coords_val t 1 (by decide) rfl
  omega

variable (m : (ℓ : Loc nD τ sig) → Buf (Elt Ideal) ℓ) (c : Dev nD)
variable (a : Arg) (ha : m ((c : Thread nD τ).loc main_arg0) = a) (h0 : ∀ i, a i = ((EReal.toReal (a i) : ℝ) : EReal))
variable (b : FVec Ideal S2048x1024 .bf16) (hb : m ((c : Thread nD τ).loc main_arg1) = b) (h1 : ∀ i, b i = ((EReal.toReal (b i) : ℝ) : EReal))

section
include ha h0

theorem block0 (t : Fin cfg0.N) (r : Fin 512) (d : Fin 128) :
    (iblk m c 0 t : S512x128.Idx → EReal) (ix2 r d) = ((Q a (t.val / 4) (512 * (grid0.coords t 1).val + r.val) d.val : ℝ) : EReal) := by
  unfold iblk
  rw [View.read_apply]
  show V m c main_arg0 _ = _
  rw [V_main_arg0, ha, coord1]
  refine head_eq (n := 6144) a h0 _ ?_ ?_
  · show win0_0.index t (0 : Fin 2) * 512 + 1 * r.val = _
    rw [(idx0 t).1]; omega
  · show win0_0.index t (1 : Fin 2) * 128 + 1 * d.val = _
    rw [(idx0 t).2]; omega

theorem block1 (t : Fin cfg0.N) (s : Fin 2048) (d : Fin 128) :
    (iblk m c 1 t : S2048x128.Idx → EReal) (ix2 s d) = ((K a (t.val / 4) s.val d.val : ℝ) : EReal) := by
  unfold iblk
  rw [View.read_apply]
  show V m c main_arg0 _ = _
  rw [V_main_arg0, ha]
  refine head_eq (n := 6144) a h0 _ ?_ ?_
  · show win0_1.index t (0 : Fin 2) * 2048 + 1 * s.val = _
    rw [(idx1 t).1]; omega
  · show win0_1.index t (1 : Fin 2) * 128 + 1 * d.val = _
    rw [(idx1 t).2]; omega

theorem block2 (t : Fin cfg0.N) (s : Fin 2048) (d : Fin 128) :
    (iblk m c 2 t : S2048x128.Idx → EReal) (ix2 s d) = ((W a (t.val / 4) s.val d.val : ℝ) : EReal) := by
  unfold iblk
  rw [View.read_apply]
  show V m c main_arg0 _ = _
  rw [V_main_arg0, ha]
  refine head_eq (n := 6144) a h0 _ ?_ ?_
  · show win0_2.index t (0 : Fin 2) * 2048 + 1 * s.val = _
    rw [(idx2 t).1]; omega
  · show win0_2.index t (1 : Fin 2) * 128 + 1 * d.val = _
    rw [(idx2 t).2]; omega

theorem block4 (t : Fin cfg0.N) (j : Fin 4) (r : Fin 512) :
    (iblk m c 4 t : S1x4x512x128.Idx → EReal) (ix4 0 j r 0)
      = ((∑ x ∈ Finset.Ico (512 * (j.val + 1)) 2048, lk sc (Q a (t.val / 4)) (K a (t.val / 4)) (512 * (grid0.coords t 1).val + r.val) x : ℝ) : EReal) := by
  have ht : t.val < 32 := Nat.lt_of_lt_of_eq t.isLt N_0
  have hr := r.isLt
  unfold iblk
  rw [View.read_apply]
  show (V m c main_v29 : FVec Ideal S8x4x2048x128 .f32) _ = _
  rw [coord1]
  refine Eq.trans (congrArg _ (funext fun x => Fin.ext ?_)) (V_runs_at m c a ha h0 ⟨t.val / 4, by omega⟩ j ⟨512 * (t.val % 4) + r.val, by omega⟩ 0)
  match x with
  | ⟨0, _⟩ => show win0_4.index t (0 : Fin 4) * 1 + 1 * 0 = t.val / 4; rw [(idx4 t).1]; omega
  | ⟨1, _⟩ => show win0_4.index t (1 : Fin 4) * 4 + 1 * j.val = j.val; rw [(idx4 t).2.1]; omega
  | ⟨2, _⟩ => show win0_4.index t (2 : Fin 4) * 512 + 1 * r.val = 512 * (t.val % 4) + r.val; rw [(idx4 t).2.2.1]; omega
  | ⟨3, _⟩ => show win0_4.index t (3 : Fin 4) * 128 + 1 * 0 = 0; rw [(idx4 t).2.2.2]
end

section
include hb h1

theorem block3 (t : Fin cfg0.N) (r : Fin 512) (d : Fin 128) :
    (iblk m c 3 t : S512x128.Idx → EReal) (ix2 r d) = ((O b (t.val / 4) (512 * (grid0.coords t 1).val + r.val) d.val : ℝ) : EReal) := by
  unfold iblk
  rw [View.read_apply]
  show V m c main_arg1 _ = _
  rw [V_main_arg1, hb, coord1]
  refine head_eq (n := 1024) b h1 _ ?_ ?_
  · show win0_3.index t (0 : Fin 2) * 512 + 1 * r.val = _
    rw [(idx3 t).1]; omega
  · show win0_3.index t (1 : Fin 2) * 128 + 1 * d.val = _
    rw [(idx3 t).2]; omega
end

end Cert.KernelIdeal.Sb
-- ==== Proof.Sb.Loop.lean ====
/-
  The counted loop over the key tiles below the diagonal, and the places it reads and writes: before trip `n` the carried
  pair is the running prefix sum of the cotangents and the query gradient of the keys before `512 n`, and the two
  accumulators hold, in the rows before `512 n`, the key and value gradients of the query rows up to this tile's last, in the
  other rows those up to the tile's first.
-/
module

public import proofs.«01_k».proof.Proof.Gen.KernelIdeal.Loops
public import proofs.«01_k».proof.Proof.Sb.Tile
public import Idealize.ShloMosaic.Lib.WritesUnit
public import Idealize.ShloMosaic.Lib.Pipeline.ValueKit.Tiles

@[expose] public section

noncomputable section

namespace Cert.KernelIdeal.Tile

open Cert.KernelIdeal Cert.KernelIdeal.Gen Cert.Stick
open Idealize.ShloMosaic Idealize.ShloMosaic.ValueIdx Idealize.SL.Sem

/-! ## Words -/

theorem t1_trips (i : grid0.Coords) : (k0_t1_loop i).trips = (i 1).val := by
  have h : ∀ j : Fin 4, Scf.trips (0#32) (Scalar.addi (0#32) (Scalar.muli (Scalar.divsi (Scalar.subi (BitVec.ofNat 32 j.val) 0#32) 1#32) 1#32)) 1#32 = j.val := by
    decide
  exact h (i 1)

theorem t2_trips (i : grid0.Coords) : (k0_t2_loop i).trips = 0 := by
  have h : ∀ j : Fin 4, Scf.trips (Scalar.addi (0#32) (Scalar.muli (Scalar.divsi (Scalar.subi (BitVec.ofNat 32 j.val) 0#32) 1#32) 1#32)) (Scalar.addi (0#32) (Scalar.subi (BitVec.ofNat 32 j.val) 0#32)) 1#32 = 0 := by
    decide
  exact h (i 1)

theorem lt_four (i : grid0.Coords) (n : Fin (k0_t1_loop i).trips) : n.val < 4 := by
  have h := n.isLt.trans_eq (t1_trips i)
  have : (i 1).val < 4 := (i 1).isLt
  omega

theorem off1_eq (i : grid0.Coords) (n : Fin (k0_t1_loop i).trips) : k0_off1 i n = ![512 * n.val, 0] := by
  have h : ∀ j : Fin 4, ![(Scalar.indexCast (Scalar.muli (Scf.iv 0#32 1#32 j.val) 512#32)).toNat, 0] = (![512 * j.val, 0] : Fin 2 → ℕ) := by decide
  exact h ⟨n.val, lt_four i n⟩

theorem off2_eq (i : grid0.Coords) (n : Fin (k0_t1_loop i).trips) : k0_off2 i n = ![0, n.val, 0, 0] := by
  have h : ∀ j : Fin 4, ![0, (Scalar.indexCast (Scf.iv 0#32 1#32 j.val)).toNat, 0, 0] = (![0, j.val, 0, 0] : Fin 4 → ℕ) := by decide
  exact h ⟨n.val, lt_four i n⟩

theorem off5_eq (i : grid0.Coords) : k0_off5 i = ![512 * (i 1).val, 0] := by
  have h : ∀ j : Fin 4, ![(Scalar.indexCast (Scalar.muli (BitVec.ofNat 32 j.val) 512#32)).toNat, 0] = (![512 * j.val, 0] : Fin 2 → ℕ) := by decide
  exact h (i 1)

theorem off6_eq (i : grid0.Coords) : k0_off6 i = ![0, (i 1).val, 0, 0] := by
  have h : ∀ j : Fin 4, ![0, (Scalar.indexCast (BitVec.ofNat 32 j.val)).toNat, 0, 0] = (![0, j.val, 0, 0] : Fin 4 → ℕ) := by decide
  exact h (i 1)

/-! ## Blocks of the buffers -/

theorem block_read {e : EltTy} (M : Memref sig .tc .vmem S2048x128 e) (off : Fin 2 → ℕ) (inb : ∀ a, off a + S512x128.size a ≤ S2048x128.size a)
    (n : ℕ) (hn : n < 4) (hoff : off = ![512 * n, 0]) (X : BufTy.Contents (Elt Ideal) M.view.ty) (r : Fin 512) (d : Fin 128) :
    View.readAt (Elt Ideal) M.view (Rect.unit (s := S2048x128) off S512x128.size inb).toLoadRect X (ix2 r d)
      = M.view.read (Elt Ideal) X (ix2 ⟨512 * n + r.val, by omega⟩ d) := by
  subst hoff
  refine View.ld_unit_apply_of (M.view.read (Elt Ideal) X) _ _ inb (ix2 r d) _ fun a => ?_
  match a with
  | ⟨0, _⟩ => rfl
  | ⟨1, _⟩ => exact (Nat.zero_add _).symm

theorem runs_read (M : Memref sig .tc .vmem S1x4x512x128 .f32) (off : Fin 4 → ℕ) (inb : ∀ a, off a + S1x1x512x1.size a ≤ S1x4x512x128.size a)
    (n : ℕ) (hn : n < 4) (hoff : off = ![0, n, 0, 0]) (X : BufTy.Contents (Elt Ideal) M.view.ty) (r : Fin 512) :
    View.readAt (Elt Ideal) M.view (Rect.unit (s := S1x4x512x128) off S1x1x512x1.size inb).toLoadRect X (ix4 0 0 r 0)
      = M.view.read (Elt Ideal) X (ix4 0 ⟨n, hn⟩ r 0) := by
  subst hoff
  refine View.ld_unit_apply_of (M.view.read (Elt Ideal) X) _ _ inb (ix4 0 0 r 0) _ fun a => ?_
  match a with
  | ⟨0, _⟩ => rfl
  | ⟨1, _⟩ => rfl
  | ⟨2, _⟩ => exact (Nat.zero_add _).symm
  | ⟨3, _⟩ => rfl

/-- One 512-row store over a buffer, read at an index: the tile's payload inside, what was there outside. -/
theorem put_read (M : Memref sig .tc .vmem S2048x128 .f32) (off : Fin 2 → ℕ) (inb : ∀ a, off a + (![512, 128] : Fin 2 → ℕ) a ≤ S2048x128.size a)
    (n : ℕ) (hn : n < 4) (hoff : off = ![512 * n, 0]) (G : BufTy.Contents (Elt Ideal) M.view.ty) (L : List (View.Piece (Elt Ideal) S2048x128 .f32))
    (P : FVec Ideal S512x128 .f32) (s : Fin 2048) (d : Fin 128) (f g h : ℝ)
    (hout : M.view.read (Elt Ideal) (M.view.writes (Elt Ideal) G L) (ix2 s d) = (f : EReal))
    (hin : ∀ c : Fin 512, s.val = 512 * n + c.val → P (ix2 c d) = (g : EReal))
    (hg : 512 * n ≤ s.val → s.val < 512 * n + 512 → g = h)
    (hf : (s.val < 512 * n ∨ 512 * n + 512 ≤ s.val) → f = h) :
    M.view.read (Elt Ideal) (M.view.writes (Elt Ideal) G ((⟨Rect.unit (s := S2048x128) off ![512, 128] inb, P⟩ : View.Piece (Elt Ideal) S2048x128 .f32) :: L)) (ix2 s d) = (h : EReal) := by
  by_cases hs : 512 * n ≤ s.val ∧ s.val < 512 * n + 512
  · rw [← hg hs.1 hs.2, ← hin ⟨s.val - 512 * n, by omega⟩ (by show s.val = 512 * n + (s.val - 512 * n); omega)]
    exact View.read_writes_cons_rows_of_mem (d := ![2048, 128]) M.view G inb P L (ix2 s d) (ix2 ⟨s.val - 512 * n, by omega⟩ d) hoff
      (by show s.val = 512 * n + (s.val - 512 * n); omega) rfl
  · have hs' : s.val < 512 * n ∨ 512 * n + 512 ≤ s.val := by omega
    rw [← hf hs', ← hout]
    exact View.read_writes_cons_rows_of_not_mem (d := ![2048, 128]) M.view G inb P L (ix2 s d) hoff rfl hs'

/-! ## The loop -/

section Loop
variable (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S1x4x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole)
  (v18 v19 : Vec Ideal S512x128 .bf16) (X3 : BufTy.Contents (Elt Ideal) arg3.view.ty) (X4 : BufTy.Contents (Elt Ideal) arg4.view.ty)
  (X6 : BufTy.Contents (Elt Ideal) arg6.view.ty) (G10 : BufTy.Contents (Elt Ideal) arg10.view.ty) (G11 : BufTy.Contents (Elt Ideal) arg11.view.ty)
  {q k v o : ℕ → ℕ → ℝ}

/-- The invariant before trip `n`. -/
structure LoopInv (n : ℕ) (S : (FVec Ideal S512x1 .f32 × FVec Ideal S512x128 .f32) × List (View.Piece (Elt Ideal) S2048x128 .f32) × List (View.Piece (Elt Ideal) S2048x128 .f32)) : Prop where
  run : ∀ r : Fin 512, S.1.1 (ix2 r 0) = ((∑ x ∈ Finset.range (512 * n), e sc q k v o (512 * (i 1).val + r.val) x : ℝ) : EReal)
  dq : ∀ (r : Fin 512) (d : Fin 128), S.1.2 (ix2 r d) = ((dq sc q k v o (512 * n) (512 * (i 1).val + r.val) d.val : ℝ) : EReal)
  dk : ∀ (s : Fin 2048) (d : Fin 128), arg10.view.read (Elt Ideal) (arg10.view.writes (Elt Ideal) G10 S.2.1) (ix2 s d)
    = (((if s.val < 512 * n then dk sc q k v o (512 * ((i 1).val + 1)) s.val d.val else dk sc q k v o (512 * (i 1).val) s.val d.val) : ℝ) : EReal)
  dv : ∀ (s : Fin 2048) (d : Fin 128), arg11.view.read (Elt Ideal) (arg11.view.writes (Elt Ideal) G11 S.2.2) (ix2 s d)
    = (((if s.val < 512 * n then dv sc q k o (512 * ((i 1).val + 1)) s.val d.val else dv sc q k o (512 * (i 1).val) s.val d.val) : ℝ) : EReal)

variable
  (hq : ∀ (r : Fin 512) (d : Fin 128), v18 (ix2 r d) = ((q (512 * (i 1).val + r.val) d.val : ℝ) : EReal))
  (ho : ∀ (r : Fin 512) (d : Fin 128), v19 (ix2 r d) = ((o (512 * (i 1).val + r.val) d.val : ℝ) : EReal))
  (hk : ∀ (s : Fin 2048) (d : Fin 128), arg3.view.read (Elt Ideal) X3 (ix2 s d) = ((k s.val d.val : ℝ) : EReal))
  (hv : ∀ (s : Fin 2048) (d : Fin 128), arg4.view.read (Elt Ideal) X4 (ix2 s d) = ((v s.val d.val : ℝ) : EReal))
  (hr : ∀ (j : Fin 4) (r : Fin 512), arg6.view.read (Elt Ideal) X6 (ix4 0 j r 0)
    = ((∑ x ∈ Finset.Ico (512 * (j.val + 1)) 2048, lk sc q k (512 * (i 1).val + r.val) x : ℝ) : EReal))

set_option maxRecDepth 16384 in
include hq ho hk hv hr in
theorem loop_step (n : Fin (k0_t1_loop i).trips)
    (S : (FVec Ideal S512x1 .f32 × FVec Ideal S512x128 .f32) × List (View.Piece (Elt Ideal) S2048x128 .f32) × List (View.Piece (Elt Ideal) S2048x128 .f32))
    (h : LoopInv (q := q) (k := k) (v := v) (o := o) i arg10 arg11 G10 G11 n.val S) :
    LoopInv (q := q) (k := k) (v := v) (o := o) i arg10 arg11 G10 G11 (n.val + 1)
      (tripR_k0_t1 (F := Ideal) Variants.none c none i arg2 harg2 arg3 harg3 arg4 harg4 arg5 harg5 arg6 harg6 arg7 harg7 arg8 harg8 arg9 harg9 arg10 harg10 arg11 harg11 v18 v19 X3 X4 X6 n S.1 (arg10.view.writes (Elt Ideal) G10 S.2.1) (arg11.view.writes (Elt Ideal) G11 S.2.2),
       (tripL_k0_t1 (F := Ideal) Variants.none c none i arg2 harg2 arg3 harg3 arg4 harg4 arg5 harg5 arg6 harg6 arg7 harg7 arg8 harg8 arg9 harg9 arg10 harg10 arg11 harg11 v18 v19 X3 X4 X6 n S.1 (arg10.view.writes (Elt Ideal) G10 S.2.1) (arg11.view.writes (Elt Ideal) G11 S.2.2)).1 ++ S.2.1,
       (tripL_k0_t1 (F := Ideal) Variants.none c none i arg2 harg2 arg3 harg3 arg4 harg4 arg5 harg5 arg6 harg6 arg7 harg7 arg8 harg8 arg9 harg9 arg10 harg10 arg11 harg11 v18 v19 X3 X4 X6 n S.1 (arg10.view.writes (Elt Ideal) G10 S.2.1) (arg11.view.writes (Elt Ideal) G11 S.2.2)).2 ++ S.2.2) := by
  have hn4 := lt_four i n
  have hnI : n.val < (i 1).val := n.isLt.trans_eq (t1_trips i)
  have hI : (i 1).val < 4 := (i 1).isLt
  have hK : ∀ (r : Fin 512) (d : Fin 128), View.readAt (Elt Ideal) arg3.view (Rect.unit (s := S2048x128) (k0_off1 i n) S512x128.size (k0_off1_inb i n)).toLoadRect X3 (ix2 r d)
      = ((k (512 * n.val + r.val) d.val : ℝ) : EReal) := fun r d => by
    rw [block_read arg3 _ _ n.val hn4 (off1_eq i n)]; exact hk _ d
  have hV : ∀ (r : Fin 512) (d : Fin 128), View.readAt (Elt Ideal) arg4.view (Rect.unit (s := S2048x128) (k0_off1 i n) S512x128.size (k0_off1_inb i n)).toLoadRect X4 (ix2 r d)
      = ((v (512 * n.val + r.val) d.val : ℝ) : EReal) := fun r d => by
    rw [block_read arg4 _ _ n.val hn4 (off1_eq i n)]; exact hv _ d
  have hR : ∀ r : Fin 512, View.readAt (Elt Ideal) arg6.view (Rect.unit (s := S1x4x512x128) (k0_off2 i n) S1x1x512x1.size (k0_off2_inb i n)).toLoadRect X6 (ix4 0 0 r 0)
      = ((∑ x ∈ Finset.Ico (512 * (n.val + 1)) 2048, lk sc q k (512 * (i 1).val + r.val) x : ℝ) : EReal) := fun r => by
    rw [runs_read arg6 _ _ n.val hn4 (off2_eq i n)]; exact hr _ r
  have hLK := pay7_eq v18 _ hnI hq hK
  have hW := pay8_eq v18 _ _ hnI hI hq hK hR
  have hDW := pay9_eq v19 _ ho hV
  constructor
  · intro r
    have := pay27_eq (v := v) (o := o) S.1.1 _ _ hW hDW h.run r
    delta tripR_k0_t1 trip_k0_t1
    exact this
  · intro r d
    have := pay26_eq (v := v) (o := o) S.1.1 S.1.2 _ _ _ h.run hLK hW hDW hnI _ hK h.dq r d
    delta tripR_k0_t1 trip_k0_t1
    exact this
  · intro s d
    delta tripL_k0_t1 trip_k0_t1
    refine put_read arg10 (k0_off1 i n) _ n.val hn4 (off1_eq i n) G10 S.2.1 (k0_pay28 v18 S.1.1 k0_pay3 _ _ _ _) s d _ (dk sc q k v o (512 * (i 1).val) s.val d.val + ∑ r : Fin 512, dz sc q k v o (512 * (i 1).val + r.val) s.val * q (512 * (i 1).val + r.val) d.val) _ (h.dk s d) (fun c' hc' => ?_) ?_ ?_
    · rw [hc']
      refine pay28_eq (v := v) (o := o) v18 S.1.1 _ _ _ h.run hLK hW hDW hnI _ _ c' d hq ?_
      rw [block_read arg10 _ _ n.val hn4 (off1_eq i n)]
      refine (h.dk _ d).trans ?_
      rw [if_neg (by show ¬ 512 * n.val + c'.val < 512 * n.val; omega)]
    · intro h1 h2
      rw [if_pos (by omega)]
      unfold dk
      rw [sum_tile]
    · intro h1
      by_cases h2 : s.val < 512 * n.val
      · rw [if_pos h2, if_pos (by omega)]
      · rw [if_neg h2, if_neg (by omega)]
  · intro s d
    delta tripL_k0_t1 trip_k0_t1
    refine put_read arg11 (k0_off1 i n) _ n.val hn4 (off1_eq i n) G11 S.2.2 (k0_pay29 v19 k0_pay4 _ _) s d _ (dv sc q k o (512 * (i 1).val) s.val d.val + ∑ r : Fin 512, w sc q k (512 * (i 1).val + r.val) s.val * o (512 * (i 1).val + r.val) d.val) _ (h.dv s d) (fun c' hc' => ?_) ?_ ?_
    · rw [hc']
      refine pay29_eq v19 _ hW _ _ c' d ho ?_
      rw [block_read arg11 _ _ n.val hn4 (off1_eq i n)]
      refine (h.dv _ d).trans ?_
      rw [if_neg (by show ¬ 512 * n.val + c'.val < 512 * n.val; omega)]
    · intro h1 h2
      rw [if_pos (by omega)]
      unfold dv
      rw [sum_tile]
    · intro h1
      by_cases h2 : s.val < 512 * n.val
      · rw [if_pos h2, if_pos (by omega)]
      · rw [if_neg h2, if_neg (by omega)]

include hq ho hk hv hr in
theorem loop_inv
    (h10 : ∀ (s : Fin 2048) (d : Fin 128), arg10.view.read (Elt Ideal) G10 (ix2 s d) = ((dk sc q k v o (512 * (i 1).val) s.val d.val : ℝ) : EReal))
    (h11 : ∀ (s : Fin 2048) (d : Fin 128), arg11.view.read (Elt Ideal) G11 (ix2 s d) = ((dv sc q k o (512 * (i 1).val) s.val d.val : ℝ) : EReal))
    (n : ℕ) (hn : n ≤ (i 1).val) :
    LoopInv (q := q) (k := k) (v := v) (o := o) i arg10 arg11 G10 G11 n
      (st_k0_t1 (F := Ideal) Variants.none c none i arg2 harg2 arg3 harg3 arg4 harg4 arg5 harg5 arg6 harg6 arg7 harg7 arg8 harg8 arg9 harg9 arg10 harg10 arg11 harg11 v18 v19 X3 X4 X6 G10 G11 (k0_pay22, k0_pay23) n) := by
  induction n with
  | zero =>
    constructor
    · intro r
      show Ideal.ofBits .f32 0x00000000#32 = _
      rw [Ideal.ofBits_zero_f32]; simp
    · intro r d
      show Ideal.ofBits .f32 0x00000000#32 = _
      rw [Ideal.ofBits_zero_f32]; simp [dq]
    · intro s d
      exact (h10 s d).trans (by simp)
    · intro s d
      exact (h11 s d).trans (by simp)
  | succ n ih =>
    have hlt : n < (k0_t1_loop i).trips := by rw [t1_trips]; omega
    have := loop_step c i arg2 harg2 arg3 harg3 arg4 harg4 arg5 harg5 arg6 harg6 arg7 harg7 arg8 harg8 arg9 harg9 arg10 harg10 arg11 harg11 v18 v19 X3 X4 X6 G10 G11 hq ho hk hv hr ⟨n, hlt⟩ _ (ih (by omega))
    have e := st_k0_t1_succ (F := Ideal) Variants.none c none i arg2 harg2 arg3 harg3 arg4 harg4 arg5 harg5 arg6 harg6 arg7 harg7 arg8 harg8 arg9 harg9 arg10 harg10 arg11 harg11 v18 v19 X3 X4 X6 G10 G11 (k0_pay22, k0_pay23) ⟨n, hlt⟩
    exact e ▸ this
end Loop

end Cert.KernelIdeal.Tile
-- ==== Proof.Sb.Case.lean ====
/-
  A grid point's body: the counted loop, then the diagonal tile, in the three cases of the grid (a head's first query tile,
  which zeroes the accumulators; a middle one; the last, which also stores the key and value gradients). Each leaves the
  query gradient of its own rows and, in the accumulators, the key and value gradients of the query rows so far.
-/
module

public import proofs.«01_k».proof.Proof.Gen.KernelIdeal.Frame
public import proofs.«01_k».proof.Proof.Sb.Loop

@[expose] public section

noncomputable section

namespace Cert.KernelIdeal.Tile

open Cert.KernelIdeal Cert.KernelIdeal.Gen Cert.Stick
open Idealize.ShloMosaic Idealize.ShloMosaic.ValueIdx Idealize.ShloMosaic.Tactic Idealize.SL.Sem

theorem hz2 : (![0, 0] : Fin 2 → ℕ) = fun _ => 0 := funext fun a => by fin_cases a <;> rfl

/-- A whole memref whose contents read `x`, read through the whole rectangle. -/
theorem tile_read (M : Memref sig .tc .vmem S512x128 .bf16) (hM : M.IsWhole) (inb : ∀ a, (![0, 0] : Fin 2 → ℕ) a + S512x128.size a ≤ S512x128.size a)
    (x : Vec Ideal S512x128 .bf16) :
    View.readAt (Elt Ideal) M.view (Rect.unit (s := S512x128) ![0, 0] S512x128.size inb).toLoadRect (hM.unread x) = x := by
  rw [View.readAt_eq_ld, hM.read_unread, View.ld_unit_zero (S := S512x128) hz2]

theorem acc_read (M : Memref sig .tc .vmem S2048x128 .f32) (inb : ∀ a, (![0, 0] : Fin 2 → ℕ) a + S2048x128.size a ≤ S2048x128.size a)
    (X : BufTy.Contents (Elt Ideal) M.view.ty) :
    View.readAt (Elt Ideal) M.view (Rect.unit (s := S2048x128) ![0, 0] S2048x128.size inb).toLoadRect X = M.view.read (Elt Ideal) X := by
  rw [View.readAt_eq_ld, View.ld_unit_zero (S := S2048x128) hz2]

/-- A whole store, read back. -/
theorem store_read {s : Shape} {e : EltTy} {κ : Kind} {sp : Space} (M : View sig κ sp s e) (off : Fin s.rank → ℕ) (inb : ∀ a, off a + s.size a ≤ s.size a)
    (hoff : off = fun _ => 0) (f : BufTy.Contents (Elt Ideal) M.ty) (L : List (View.Piece (Elt Ideal) s e)) (P : s.Idx → Elt Ideal e) (y : s.Idx) :
    M.read (Elt Ideal) (M.writes (Elt Ideal) f ((⟨Rect.unit (s := s) off s.size inb, P⟩ : View.Piece (Elt Ideal) s e) :: L)) y = P y :=
  View.read_writes_cons_unit_of_mem M f inb P L y y hoff fun a => (Nat.zero_add _).symm

section Fin
variable (i : grid0.Coords) (arg3 arg4 : Memref sig .tc .vmem S2048x128 .bf16) (arg6 : Memref sig .tc .vmem S1x4x512x128 .f32)
  (arg10 arg11 : Memref sig .tc .vmem S2048x128 .f32)
  (v18 v19 : Vec Ideal S512x128 .bf16) (X3 : BufTy.Contents (Elt Ideal) arg3.view.ty) (X4 : BufTy.Contents (Elt Ideal) arg4.view.ty)
  (X6 : BufTy.Contents (Elt Ideal) arg6.view.ty) (G10 : BufTy.Contents (Elt Ideal) arg10.view.ty) (G11 : BufTy.Contents (Elt Ideal) arg11.view.ty)
  {q k v o : ℕ → ℕ → ℝ}
  (off5 : Fin 2 → ℕ) (inb5 : ∀ a, off5 a + (![512, 128] : Fin 2 → ℕ) a ≤ S2048x128.size a) (hoff5 : off5 = ![512 * (i 1).val, 0])
  (off6 : Fin 4 → ℕ) (inb6 : ∀ a, off6 a + (![1, 1, 512, 1] : Fin 4 → ℕ) a ≤ S1x4x512x128.size a) (hoff6 : off6 = ![0, (i 1).val, 0, 0])
  (S : (FVec Ideal S512x1 .f32 × FVec Ideal S512x128 .f32) × List (View.Piece (Elt Ideal) S2048x128 .f32) × List (View.Piece (Elt Ideal) S2048x128 .f32))
  (hS : LoopInv (q := q) (k := k) (v := v) (o := o) i arg10 arg11 G10 G11 (i 1).val S)
  (hq : ∀ (r : Fin 512) (d : Fin 128), v18 (ix2 r d) = ((q (512 * (i 1).val + r.val) d.val : ℝ) : EReal))
  (ho : ∀ (r : Fin 512) (d : Fin 128), v19 (ix2 r d) = ((o (512 * (i 1).val + r.val) d.val : ℝ) : EReal))
  (hk : ∀ (s : Fin 2048) (d : Fin 128), arg3.view.read (Elt Ideal) X3 (ix2 s d) = ((k s.val d.val : ℝ) : EReal))
  (hv : ∀ (s : Fin 2048) (d : Fin 128), arg4.view.read (Elt Ideal) X4 (ix2 s d) = ((v s.val d.val : ℝ) : EReal))
  (hr : ∀ (j : Fin 4) (r : Fin 512), arg6.view.read (Elt Ideal) X6 (ix4 0 j r 0)
    = ((∑ x ∈ Finset.Ico (512 * (j.val + 1)) 2048, lk sc q k (512 * (i 1).val + r.val) x : ℝ) : EReal))

include hoff5 hk in
theorem kk_eq (r : Fin 512) (d : Fin 128) : (View.readAt (Elt Ideal) arg3.view (Rect.unit (s := S2048x128) off5 ![512, 128] inb5).toLoadRect X3) (ix2 r d) = ((k (512 * (i 1).val + r.val) d.val : ℝ) : EReal) := by
  have h := block_read arg3 off5 inb5 (i 1).val (i 1).isLt hoff5 X3 r d
  exact h.trans (hk _ d)
include hoff5 hv in
theorem vv_eq (r : Fin 512) (d : Fin 128) : (View.readAt (Elt Ideal) arg4.view (Rect.unit (s := S2048x128) off5 ![512, 128] inb5).toLoadRect X4) (ix2 r d) = ((v (512 * (i 1).val + r.val) d.val : ℝ) : EReal) := by
  have h := block_read arg4 off5 inb5 (i 1).val (i 1).isLt hoff5 X4 r d
  exact h.trans (hv _ d)
include hoff6 hr in
theorem rr_eq (r : Fin 512) : (View.readAt (Elt Ideal) arg6.view (Rect.unit (s := S1x4x512x128) off6 ![1, 1, 512, 1] inb6).toLoadRect X6) (ix4 0 0 r 0)
    = ((∑ x ∈ Finset.Ico (512 * ((i 1).val + 1)) 2048, lk sc q k (512 * (i 1).val + r.val) x : ℝ) : EReal) := by
  have h := runs_read arg6 off6 inb6 (i 1).val (i 1).isLt hoff6 X6 r
  exact h.trans (hr _ r)

include hoff5 hoff6 hS hq ho hk hv hr

/-- The query gradient stored. -/
theorem fin_dq (r : Fin 512) (d : Fin 128) :
    k0_pay49 k0_pay20 S.1.1 S.1.2 (View.readAt (Elt Ideal) arg3.view (Rect.unit (s := S2048x128) off5 ![512, 128] inb5).toLoadRect X3) (k0_pay39 k0_pay21) (k0_pay41 k0_pay21 v18 (View.readAt (Elt Ideal) arg3.view (Rect.unit (s := S2048x128) off5 ![512, 128] inb5).toLoadRect X3)) (k0_pay43 k0_pay19 k0_pay21 v18 v19 (View.readAt (Elt Ideal) arg3.view (Rect.unit (s := S2048x128) off5 ![512, 128] inb5).toLoadRect X3) (View.readAt (Elt Ideal) arg4.view (Rect.unit (s := S2048x128) off5 ![512, 128] inb5).toLoadRect X4) (View.readAt (Elt Ideal) arg6.view (Rect.unit (s := S1x4x512x128) off6 ![1, 1, 512, 1] inb6).toLoadRect X6)) (k0_pay44 k0_pay19 k0_pay21 v18 v19 (View.readAt (Elt Ideal) arg3.view (Rect.unit (s := S2048x128) off5 ![512, 128] inb5).toLoadRect X3) (View.readAt (Elt Ideal) arg4.view (Rect.unit (s := S2048x128) off5 ![512, 128] inb5).toLoadRect X4) (View.readAt (Elt Ideal) arg6.view (Rect.unit (s := S1x4x512x128) off6 ![1, 1, 512, 1] inb6).toLoadRect X6)) (k0_pay45 k0_pay19 k0_pay21 v18 v19 (View.readAt (Elt Ideal) arg3.view (Rect.unit (s := S2048x128) off5 ![512, 128] inb5).toLoadRect X3) (View.readAt (Elt Ideal) arg4.view (Rect.unit (s := S2048x128) off5 ![512, 128] inb5).toLoadRect X4) (View.readAt (Elt Ideal) arg6.view (Rect.unit (s := S1x4x512x128) off6 ![1, 1, 512, 1] inb6).toLoadRect X6)) (ix2 r d)
      = ((dq sc q k v o (512 * ((i 1).val + 1)) (512 * (i 1).val + r.val) d.val : ℝ) : EReal) := by
  have hK := kk_eq i arg3 X3 off5 inb5 hoff5 hk
  have hV := vv_eq i arg4 X4 off5 inb5 hoff5 hv
  have hR := rr_eq i arg6 X6 off6 inb6 hoff6 hr
  have hI : (i 1).val < 4 := (i 1).isLt
  exact pay49_eq S.1.1 S.1.2 _ _ hS.run (pay41_eq v18 _ hq hK) (pay43_eq v18 v19 _ _ _ hq ho hK hV hR hI) _ hK hS.dq r d

/-- The key gradients' accumulator. -/
theorem fin_dk (s : Fin 2048) (d : Fin 128) :
    arg10.view.read (Elt Ideal) (arg10.view.writes (Elt Ideal) G10 ((⟨Rect.unit (s := S2048x128) off5 ![512, 128] inb5,
        k0_pay47 k0_pay20 v18 S.1.1 k0_pay36 (k0_pay39 k0_pay21) (k0_pay41 k0_pay21 v18 (View.readAt (Elt Ideal) arg3.view (Rect.unit (s := S2048x128) off5 ![512, 128] inb5).toLoadRect X3)) (k0_pay43 k0_pay19 k0_pay21 v18 v19 (View.readAt (Elt Ideal) arg3.view (Rect.unit (s := S2048x128) off5 ![512, 128] inb5).toLoadRect X3) (View.readAt (Elt Ideal) arg4.view (Rect.unit (s := S2048x128) off5 ![512, 128] inb5).toLoadRect X4) (View.readAt (Elt Ideal) arg6.view (Rect.unit (s := S1x4x512x128) off6 ![1, 1, 512, 1] inb6).toLoadRect X6)) (k0_pay44 k0_pay19 k0_pay21 v18 v19 (View.readAt (Elt Ideal) arg3.view (Rect.unit (s := S2048x128) off5 ![512, 128] inb5).toLoadRect X3) (View.readAt (Elt Ideal) arg4.view (Rect.unit (s := S2048x128) off5 ![512, 128] inb5).toLoadRect X4) (View.readAt (Elt Ideal) arg6.view (Rect.unit (s := S1x4x512x128) off6 ![1, 1, 512, 1] inb6).toLoadRect X6)) (k0_pay45 k0_pay19 k0_pay21 v18 v19 (View.readAt (Elt Ideal) arg3.view (Rect.unit (s := S2048x128) off5 ![512, 128] inb5).toLoadRect X3) (View.readAt (Elt Ideal) arg4.view (Rect.unit (s := S2048x128) off5 ![512, 128] inb5).toLoadRect X4) (View.readAt (Elt Ideal) arg6.view (Rect.unit (s := S1x4x512x128) off6 ![1, 1, 512, 1] inb6).toLoadRect X6)) (View.readAt (Elt Ideal) arg10.view (Rect.unit (s := S2048x128) off5 ![512, 128] inb5).toLoadRect (arg10.view.writes (Elt Ideal) G10 S.2.1))⟩ : View.Piece (Elt Ideal) S2048x128 .f32) :: S.2.1)) (ix2 s d)
      = ((dk sc q k v o (512 * ((i 1).val + 1)) s.val d.val : ℝ) : EReal) := by
  have hK := kk_eq i arg3 X3 off5 inb5 hoff5 hk
  have hV := vv_eq i arg4 X4 off5 inb5 hoff5 hv
  have hR := rr_eq i arg6 X6 off6 inb6 hoff6 hr
  have hI : (i 1).val < 4 := (i 1).isLt
  refine put_read arg10 off5 inb5 (i 1).val hI hoff5 G10 S.2.1 _ s d _ (dk sc q k v o (512 * (i 1).val) s.val d.val + ∑ r : Fin 512, dz sc q k v o (512 * (i 1).val + r.val) s.val * q (512 * (i 1).val + r.val) d.val) _ (hS.dk s d) (fun c' hc' => ?_) ?_ ?_
  · rw [hc']
    refine pay47_eq v18 S.1.1 _ _ hS.run (pay41_eq v18 _ hq hK) (pay43_eq v18 v19 _ _ _ hq ho hK hV hR hI) _ _ c' d hq ?_
    have h := block_read arg10 off5 inb5 (i 1).val hI hoff5 (arg10.view.writes (Elt Ideal) G10 S.2.1) c' d
    refine h.trans ((hS.dk _ d).trans ?_)
    rw [if_neg (by show ¬ 512 * (i 1).val + c'.val < 512 * (i 1).val; omega)]
  · intro h1 h2
    unfold dk
    rw [sum_tile]
  · intro h1
    by_cases h2 : s.val < 512 * (i 1).val
    · rw [if_pos h2]
    · rw [if_neg h2]
      unfold dk
      rw [sum_tile]
      refine (add_eq_left.mpr (Finset.sum_eq_zero fun x _ => ?_)).symm
      rw [dz_of_le (by omega), zero_mul]

/-- The value gradients' accumulator. -/
theorem fin_dv (s : Fin 2048) (d : Fin 128) :
    arg11.view.read (Elt Ideal) (arg11.view.writes (Elt Ideal) G11 ((⟨Rect.unit (s := S2048x128) off5 ![512, 128] inb5,
        k0_pay48 v19 (k0_pay37 (FloatOps.ofBits (F := Ideal) .f32 0x00000000#32)) (k0_pay42 k0_pay19 k0_pay21 v18 (View.readAt (Elt Ideal) arg3.view (Rect.unit (s := S2048x128) off5 ![512, 128] inb5).toLoadRect X3) (View.readAt (Elt Ideal) arg6.view (Rect.unit (s := S1x4x512x128) off6 ![1, 1, 512, 1] inb6).toLoadRect X6)) (View.readAt (Elt Ideal) arg11.view (Rect.unit (s := S2048x128) off5 ![512, 128] inb5).toLoadRect (arg11.view.writes (Elt Ideal) G11 S.2.2))⟩ : View.Piece (Elt Ideal) S2048x128 .f32) :: S.2.2)) (ix2 s d)
      = ((dv sc q k o (512 * ((i 1).val + 1)) s.val d.val : ℝ) : EReal) := by
  have hK := kk_eq i arg3 X3 off5 inb5 hoff5 hk
  have hR := rr_eq i arg6 X6 off6 inb6 hoff6 hr
  have hI : (i 1).val < 4 := (i 1).isLt
  refine put_read arg11 off5 inb5 (i 1).val hI hoff5 G11 S.2.2 _ s d _ (dv sc q k o (512 * (i 1).val) s.val d.val + ∑ r : Fin 512, w sc q k (512 * (i 1).val + r.val) s.val * o (512 * (i 1).val + r.val) d.val) _ (hS.dv s d) (fun c' hc' => ?_) ?_ ?_
  · rw [hc']
    refine pay48_eq v19 _ _ _ c' d (pay42_eq v18 _ _ hq hK hR hI) ho ?_
    have h := block_read arg11 off5 inb5 (i 1).val hI hoff5 (arg11.view.writes (Elt Ideal) G11 S.2.2) c' d
    refine h.trans ((hS.dv _ d).trans ?_)
    rw [if_neg (by show ¬ 512 * (i 1).val + c'.val < 512 * (i 1).val; omega)]
  · intro h1 h2
    unfold dv
    rw [sum_tile]
  · intro h1
    by_cases h2 : s.val < 512 * (i 1).val
    · rw [if_pos h2]
    · rw [if_neg h2]
      unfold dv
      rw [sum_tile]
      refine (add_eq_left.mpr (Finset.sum_eq_zero fun x _ => ?_)).symm
      rw [w_of_le (by omega), zero_mul]
end Fin

/-! ## The three cases -/

theorem trips1 (i : grid0.Coords) : (Scf.trips (0#32) (Scalar.addi (0#32) (Scalar.muli (Scalar.divsi (Scalar.subi (BitVec.ofNat 32 (i 1).val) 0#32) 1#32) 1#32)) 1#32) = (i 1).val :=
  t1_trips i
theorem trips2 (i : grid0.Coords) : (Scf.trips (Scalar.addi (0#32) (Scalar.muli (Scalar.divsi (Scalar.subi (BitVec.ofNat 32 (i 1).val) 0#32) 1#32) 1#32)) (Scalar.addi (0#32) (Scalar.subi (BitVec.ofNat 32 (i 1).val) 0#32)) 1#32) = 0 :=
  t2_trips i

section Cases
variable (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S1x4x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole)
  (x0 : Vec Ideal S512x128 .bf16) (x1 x2 : Vec Ideal S2048x128 .bf16) (x3 : Vec Ideal S512x128 .bf16) (x4 : Vec Ideal S1x4x512x128 .f32)
  {q k v o : ℕ → ℕ → ℝ}
  (hq : ∀ (r : Fin 512) (d : Fin 128), x0 (ix2 r d) = ((q (512 * (i 1).val + r.val) d.val : ℝ) : EReal))
  (hk : ∀ (s : Fin 2048) (d : Fin 128), x1 (ix2 s d) = ((k s.val d.val : ℝ) : EReal))
  (hv : ∀ (s : Fin 2048) (d : Fin 128), x2 (ix2 s d) = ((v s.val d.val : ℝ) : EReal))
  (ho : ∀ (r : Fin 512) (d : Fin 128), x3 (ix2 r d) = ((o (512 * (i 1).val + r.val) d.val : ℝ) : EReal))
  (hr : ∀ (j : Fin 4) (r : Fin 512), x4 (ix4 0 j r 0)
    = ((∑ x ∈ Finset.Ico (512 * (j.val + 1)) 2048, lk sc q k (512 * (i 1).val + r.val) x : ℝ) : EReal))
include hq hk hv ho hr

set_option maxRecDepth 16384
set_option maxHeartbeats 400000

theorem caseA (hc0 : cond0_0 i) (hc1 : ¬cond0_1 i) (h0 : (i 1).val = 0) :
    (∀ (r : Fin 512) (d : Fin 128), out0_A_5 (F := Ideal) c i arg2 harg2 arg3 harg3 arg4 harg4 arg5 harg5 arg6 harg6 arg7 harg7 arg8 harg8 arg9 harg9 arg10 harg10 arg11 harg11 hc0 hc1 x0 x1 x2 x3 x4 (ix2 r d) = ((dq sc q k v o (512 * ((i 1).val + 1)) (512 * (i 1).val + r.val) d.val : ℝ) : EReal))
    ∧ (∀ (s : Fin 2048) (d : Fin 128), sout0_A_0 (F := Ideal) c i arg2 harg2 arg3 harg3 arg4 harg4 arg5 harg5 arg6 harg6 arg7 harg7 arg8 harg8 arg9 harg9 arg10 harg10 arg11 harg11 hc0 hc1 x0 x1 x2 x3 x4 (ix2 s d) = ((dk sc q k v o (512 * ((i 1).val + 1)) s.val d.val : ℝ) : EReal))
    ∧ (∀ (s : Fin 2048) (d : Fin 128), sout0_A_1 (F := Ideal) c i arg2 harg2 arg3 harg3 arg4 harg4 arg5 harg5 arg6 harg6 arg7 harg7 arg8 harg8 arg9 harg9 arg10 harg10 arg11 harg11 hc0 hc1 x0 x1 x2 x3 x4 (ix2 s d) = ((dv sc q k o (512 * ((i 1).val + 1)) s.val d.val : ℝ) : EReal)) := by
  have hV18 : View.readAt (Elt Ideal) arg2.view (Rect.unit (s := S512x128) ![0, 0] S512x128.size inb_S512x128_S512x128_0_0).toLoadRect (harg2.unread x0) = x0 := tile_read arg2 harg2 _ x0
  have hV19 : View.readAt (Elt Ideal) arg5.view (Rect.unit (s := S512x128) ![0, 0] S512x128.size inb_S512x128_S512x128_0_0).toLoadRect (harg5.unread x3) = x3 := tile_read arg5 harg5 _ x3
  have hq' := fun r d => (congrFun hV18 (ix2 r d)).trans (hq r d)
  have ho' := fun r d => (congrFun hV19 (ix2 r d)).trans (ho r d)
  have hk' : ∀ (s : Fin 2048) (d : Fin 128), arg3.view.read (Elt Ideal) (harg3.unread x1) (ix2 s d) = ((k s.val d.val : ℝ) : EReal) := fun s d => by
    rw [harg3.read_unread]; exact hk s d
  have hv' : ∀ (s : Fin 2048) (d : Fin 128), arg4.view.read (Elt Ideal) (harg4.unread x2) (ix2 s d) = ((v s.val d.val : ℝ) : EReal) := fun s d => by
    rw [harg4.read_unread]; exact hv s d
  have hr' : ∀ (j : Fin 4) (r : Fin 512), arg6.view.read (Elt Ideal) (harg6.unread x4) (ix4 0 j r 0)
    = ((∑ x ∈ Finset.Ico (512 * (j.val + 1)) 2048, lk sc q k (512 * (i 1).val + r.val) x : ℝ) : EReal) := fun j r => by
    rw [harg6.read_unread]; exact hr j r
  have h10 : ∀ (s : Fin 2048) (d : Fin 128), arg10.view.read (Elt Ideal) (arg10.view.writes (Elt Ideal) arg10.view.junk
      [(⟨Rect.unit (s := S2048x128) ![0, 0] S2048x128.size inb_S2048x128_S2048x128_0_0, k0_pay17 (F := Ideal)⟩ : View.Piece (Elt Ideal) S2048x128 .f32)]) (ix2 s d) = ((dk sc q k v o (512 * (i 1).val) s.val d.val : ℝ) : EReal) := fun s d => by
    refine (store_read arg10.view _ _ hz2 _ _ _ _).trans ?_
    show Ideal.ofBits .f32 0x00000000#32 = _
    rw [h0, Ideal.ofBits_zero_f32]; simp [dk]
  have h11 : ∀ (s : Fin 2048) (d : Fin 128), arg11.view.read (Elt Ideal) (arg11.view.writes (Elt Ideal) arg11.view.junk
      [(⟨Rect.unit (s := S2048x128) ![0, 0] S2048x128.size inb_S2048x128_S2048x128_0_0, k0_pay18 (F := Ideal)⟩ : View.Piece (Elt Ideal) S2048x128 .f32)]) (ix2 s d) = ((dv sc q k o (512 * (i 1).val) s.val d.val : ℝ) : EReal) := fun s d => by
    refine (store_read arg11.view _ _ hz2 _ _ _ _).trans ?_
    show Ideal.ofBits .f32 0x00000000#32 = _
    rw [h0, Ideal.ofBits_zero_f32]; simp [dv]
  have hS := loop_inv c i arg2 harg2 arg3 harg3 arg4 harg4 arg5 harg5 arg6 harg6 arg7 harg7 arg8 harg8 arg9 harg9 arg10 harg10 arg11 harg11 _ _ _ _ _ _ _ hq' ho' hk' hv' hr' h10 h11 (i 1).val le_rfl
  have hdk := fun s d => fin_dk i arg3 arg4 arg6 arg10 arg11 _ _ _ _ _ _ _ (k0_off5 i) (k0_off5_inb i) (off5_eq i) (k0_off6 i) (k0_off6_inb i) (off6_eq i) _ hS hq' ho' hk' hv' hr' s d
  have hdv := fun s d => fin_dv i arg3 arg4 arg6 arg10 arg11 _ _ _ _ _ _ _ (k0_off5 i) (k0_off5_inb i) (off5_eq i) (k0_off6 i) (k0_off6_inb i) (off6_eq i) _ hS hq' ho' hk' hv' hr' s d
  refine ⟨fun r d => ?_, fun s d => ?_, fun s d => ?_⟩
  · unfold out0_A_5
    unfold kernelRun0_A; dsimp only; sl_unfold_words; rw [trips1, trips2]; simp only [st_k0_t2, List.nil_append]
    refine (store_read VO0_5 _ _ hz2 _ _ _ _).trans ?_
    exact fin_dq i arg3 arg4 arg6 arg10 arg11 _ _ _ _ _ _ _ (k0_off5 i) (k0_off5_inb i) (off5_eq i) (k0_off6 i) (k0_off6_inb i) (off6_eq i) _ hS hq' ho' hk' hv' hr' r d
  · unfold sout0_A_0
    rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4), ← View.read_writes_eq_canon arg10.view arg10.view.junk _ (scover0_A_0 c i arg2 harg2 arg3 harg3 arg4 harg4 arg5 harg5 arg6 harg6 arg7 harg7 arg8 harg8 arg9 harg9 arg10 harg10 arg11 harg11 hc0 hc1 x0 x1 x2 x3 x4)]
    unfold kernelRun0_A; dsimp only; sl_unfold_words; rw [trips1, trips2]; simp only [st_k0_t2, List.nil_append]
    simp only [← List.cons_append, View.writes_append]
    exact hdk s d
  · unfold sout0_A_1
    rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4), ← View.read_writes_eq_canon arg11.view arg11.view.junk _ (scover0_A_1 c i arg2 harg2 arg3 harg3 arg4 harg4 arg5 harg5 arg6 harg6 arg7 harg7 arg8 harg8 arg9 harg9 arg10 harg10 arg11 harg11 hc0 hc1 x0 x1 x2 x3 x4)]
    unfold kernelRun0_A; dsimp only; sl_unfold_words; rw [trips1, trips2]; simp only [st_k0_t2, List.nil_append]
    simp only [← List.cons_append, View.writes_append]
    exact hdv s d

theorem caseB (hc0 : ¬cond0_0 i) (hc1 : ¬cond0_1 i) (xs0 xs1 : Vec Ideal S2048x128 .f32)
    (hs0 : ∀ (s : Fin 2048) (d : Fin 128), xs0 (ix2 s d) = ((dk sc q k v o (512 * (i 1).val) s.val d.val : ℝ) : EReal))
    (hs1 : ∀ (s : Fin 2048) (d : Fin 128), xs1 (ix2 s d) = ((dv sc q k o (512 * (i 1).val) s.val d.val : ℝ) : EReal)) :
    (∀ (r : Fin 512) (d : Fin 128), out0_B_5 (F := Ideal) c i arg2 harg2 arg3 harg3 arg4 harg4 arg5 harg5 arg6 harg6 arg7 harg7 arg8 harg8 arg9 harg9 arg10 harg10 arg11 harg11 hc0 hc1 x0 x1 x2 x3 x4 xs0 xs1 (ix2 r d) = ((dq sc q k v o (512 * ((i 1).val + 1)) (512 * (i 1).val + r.val) d.val : ℝ) : EReal))
    ∧ (∀ (s : Fin 2048) (d : Fin 128), sout0_B_0 (F := Ideal) c i arg2 harg2 arg3 harg3 arg4 harg4 arg5 harg5 arg6 harg6 arg7 harg7 arg8 harg8 arg9 harg9 arg10 harg10 arg11 harg11 hc0 hc1 x0 x1 x2 x3 x4 xs0 xs1 (ix2 s d) = ((dk sc q k v o (512 * ((i 1).val + 1)) s.val d.val : ℝ) : EReal))
    ∧ (∀ (s : Fin 2048) (d : Fin 128), sout0_B_1 (F := Ideal) c i arg2 harg2 arg3 harg3 arg4 harg4 arg5 harg5 arg6 harg6 arg7 harg7 arg8 harg8 arg9 harg9 arg10 harg10 arg11 harg11 hc0 hc1 x0 x1 x2 x3 x4 xs0 xs1 (ix2 s d) = ((dv sc q k o (512 * ((i 1).val + 1)) s.val d.val : ℝ) : EReal)) := by
  have hV18 : View.readAt (Elt Ideal) arg2.view (Rect.unit (s := S512x128) ![0, 0] S512x128.size inb_S512x128_S512x128_0_0).toLoadRect (harg2.unread x0) = x0 := tile_read arg2 harg2 _ x0
  have hV19 : View.readAt (Elt Ideal) arg5.view (Rect.unit (s := S512x128) ![0, 0] S512x128.size inb_S512x128_S512x128_0_0).toLoadRect (harg5.unread x3) = x3 := tile_read arg5 harg5 _ x3
  have hq' := fun r d => (congrFun hV18 (ix2 r d)).trans (hq r d)
  have ho' := fun r d => (congrFun hV19 (ix2 r d)).trans (ho r d)
  have hk' : ∀ (s : Fin 2048) (d : Fin 128), arg3.view.read (Elt Ideal) (harg3.unread x1) (ix2 s d) = ((k s.val d.val : ℝ) : EReal) := fun s d => by
    rw [harg3.read_unread]; exact hk s d
  have hv' : ∀ (s : Fin 2048) (d : Fin 128), arg4.view.read (Elt Ideal) (harg4.unread x2) (ix2 s d) = ((v s.val d.val : ℝ) : EReal) := fun s d => by
    rw [harg4.read_unread]; exact hv s d
  have hr' : ∀ (j : Fin 4) (r : Fin 512), arg6.view.read (Elt Ideal) (harg6.unread x4) (ix4 0 j r 0)
    = ((∑ x ∈ Finset.Ico (512 * (j.val + 1)) 2048, lk sc q k (512 * (i 1).val + r.val) x : ℝ) : EReal) := fun j r => by
    rw [harg6.read_unread]; exact hr j r
  have h10 : ∀ (s : Fin 2048) (d : Fin 128), arg10.view.read (Elt Ideal) (harg10.unread xs0) (ix2 s d) = ((dk sc q k v o (512 * (i 1).val) s.val d.val : ℝ) : EReal) := fun s d => by
    rw [harg10.read_unread]; exact hs0 s d
  have h11 : ∀ (s : Fin 2048) (d : Fin 128), arg11.view.read (Elt Ideal) (harg11.unread xs1) (ix2 s d) = ((dv sc q k o (512 * (i 1).val) s.val d.val : ℝ) : EReal) := fun s d => by
    rw [harg11.read_unread]; exact hs1 s d
  have hS := loop_inv c i arg2 harg2 arg3 harg3 arg4 harg4 arg5 harg5 arg6 harg6 arg7 harg7 arg8 harg8 arg9 harg9 arg10 harg10 arg11 harg11 _ _ _ _ _ _ _ hq' ho' hk' hv' hr' h10 h11 (i 1).val le_rfl
  have hdk := fun s d => fin_dk i arg3 arg4 arg6 arg10 arg11 _ _ _ _ _ _ _ (k0_off5 i) (k0_off5_inb i) (off5_eq i) (k0_off6 i) (k0_off6_inb i) (off6_eq i) _ hS hq' ho' hk' hv' hr' s d
  have hdv := fun s d => fin_dv i arg3 arg4 arg6 arg10 arg11 _ _ _ _ _ _ _ (k0_off5 i) (k0_off5_inb i) (off5_eq i) (k0_off6 i) (k0_off6_inb i) (off6_eq i) _ hS hq' ho' hk' hv' hr' s d
  refine ⟨fun r d => ?_, fun s d => ?_, fun s d => ?_⟩
  · unfold out0_B_5
    unfold kernelRun0_B; dsimp only; sl_unfold_words; rw [trips1, trips2]; simp only [st_k0_t2, List.nil_append]
    refine (store_read VO0_5 _ _ hz2 _ _ _ _).trans ?_
    exact fin_dq i arg3 arg4 arg6 arg10 arg11 _ _ _ _ _ _ _ (k0_off5 i) (k0_off5_inb i) (off5_eq i) (k0_off6 i) (k0_off6_inb i) (off6_eq i) _ hS hq' ho' hk' hv' hr' r d
  · unfold sout0_B_0
    unfold kernelRun0_B; dsimp only; sl_unfold_words; rw [trips1, trips2]; simp only [st_k0_t2, List.nil_append]
    exact hdk s d
  · unfold sout0_B_1
    unfold kernelRun0_B; dsimp only; sl_unfold_words; rw [trips1, trips2]; simp only [st_k0_t2, List.nil_append]
    exact hdv s d

theorem caseC (hc0 : ¬cond0_0 i) (hc1 : cond0_1 i) (xs0 xs1 : Vec Ideal S2048x128 .f32)
    (hs0 : ∀ (s : Fin 2048) (d : Fin 128), xs0 (ix2 s d) = ((dk sc q k v o (512 * (i 1).val) s.val d.val : ℝ) : EReal))
    (hs1 : ∀ (s : Fin 2048) (d : Fin 128), xs1 (ix2 s d) = ((dv sc q k o (512 * (i 1).val) s.val d.val : ℝ) : EReal)) :
    (∀ (r : Fin 512) (d : Fin 128), out0_C_5 (F := Ideal) c i arg2 harg2 arg3 harg3 arg4 harg4 arg5 harg5 arg6 harg6 arg7 harg7 arg8 harg8 arg9 harg9 arg10 harg10 arg11 harg11 hc0 hc1 x0 x1 x2 x3 x4 xs0 xs1 (ix2 r d) = ((dq sc q k v o (512 * ((i 1).val + 1)) (512 * (i 1).val + r.val) d.val : ℝ) : EReal))
    ∧ (∀ (s : Fin 2048) (d : Fin 128), sout0_C_0 (F := Ideal) c i arg2 harg2 arg3 harg3 arg4 harg4 arg5 harg5 arg6 harg6 arg7 harg7 arg8 harg8 arg9 harg9 arg10 harg10 arg11 harg11 hc0 hc1 x0 x1 x2 x3 x4 xs0 xs1 (ix2 s d) = ((dk sc q k v o (512 * ((i 1).val + 1)) s.val d.val : ℝ) : EReal))
    ∧ (∀ (s : Fin 2048) (d : Fin 128), sout0_C_1 (F := Ideal) c i arg2 harg2 arg3 harg3 arg4 harg4 arg5 harg5 arg6 harg6 arg7 harg7 arg8 harg8 arg9 harg9 arg10 harg10 arg11 harg11 hc0 hc1 x0 x1 x2 x3 x4 xs0 xs1 (ix2 s d) = ((dv sc q k o (512 * ((i 1).val + 1)) s.val d.val : ℝ) : EReal))
    ∧ (∀ (s : Fin 2048) (d : Fin 128), out0_C_6 (F := Ideal) c i arg2 harg2 arg3 harg3 arg4 harg4 arg5 harg5 arg6 harg6 arg7 harg7 arg8 harg8 arg9 harg9 arg10 harg10 arg11 harg11 hc0 hc1 x0 x1 x2 x3 x4 xs0 xs1 (ix2 s d) = ((dk sc q k v o (512 * ((i 1).val + 1)) s.val d.val : ℝ) : EReal))
    ∧ (∀ (s : Fin 2048) (d : Fin 128), out0_C_7 (F := Ideal) c i arg2 harg2 arg3 harg3 arg4 harg4 arg5 harg5 arg6 harg6 arg7 harg7 arg8 harg8 arg9 harg9 arg10 harg10 arg11 harg11 hc0 hc1 x0 x1 x2 x3 x4 xs0 xs1 (ix2 s d) = ((dv sc q k o (512 * ((i 1).val + 1)) s.val d.val : ℝ) : EReal)) := by
  have hV18 : View.readAt (Elt Ideal) arg2.view (Rect.unit (s := S512x128) ![0, 0] S512x128.size inb_S512x128_S512x128_0_0).toLoadRect (harg2.unread x0) = x0 := tile_read arg2 harg2 _ x0
  have hV19 : View.readAt (Elt Ideal) arg5.view (Rect.unit (s := S512x128) ![0, 0] S512x128.size inb_S512x128_S512x128_0_0).toLoadRect (harg5.unread x3) = x3 := tile_read arg5 harg5 _ x3
  have hq' := fun r d => (congrFun hV18 (ix2 r d)).trans (hq r d)
  have ho' := fun r d => (congrFun hV19 (ix2 r d)).trans (ho r d)
  have hk' : ∀ (s : Fin 2048) (d : Fin 128), arg3.view.read (Elt Ideal) (harg3.unread x1) (ix2 s d) = ((k s.val d.val : ℝ) : EReal) := fun s d => by
    rw [harg3.read_unread]; exact hk s d
  have hv' : ∀ (s : Fin 2048) (d : Fin 128), arg4.view.read (Elt Ideal) (harg4.unread x2) (ix2 s d) = ((v s.val d.val : ℝ) : EReal) := fun s d => by
    rw [harg4.read_unread]; exact hv s d
  have hr' : ∀ (j : Fin 4) (r : Fin 512), arg6.view.read (Elt Ideal) (harg6.unread x4) (ix4 0 j r 0)
    = ((∑ x ∈ Finset.Ico (512 * (j.val + 1)) 2048, lk sc q k (512 * (i 1).val + r.val) x : ℝ) : EReal) := fun j r => by
    rw [harg6.read_unread]; exact hr j r
  have h10 : ∀ (s : Fin 2048) (d : Fin 128), arg10.view.read (Elt Ideal) (harg10.unread xs0) (ix2 s d) = ((dk sc q k v o (512 * (i 1).val) s.val d.val : ℝ) : EReal) := fun s d => by
    rw [harg10.read_unread]; exact hs0 s d
  have h11 : ∀ (s : Fin 2048) (d : Fin 128), arg11.view.read (Elt Ideal) (harg11.unread xs1) (ix2 s d) = ((dv sc q k o (512 * (i 1).val) s.val d.val : ℝ) : EReal) := fun s d => by
    rw [harg11.read_unread]; exact hs1 s d
  have hS := loop_inv c i arg2 harg2 arg3 harg3 arg4 harg4 arg5 harg5 arg6 harg6 arg7 harg7 arg8 harg8 arg9 harg9 arg10 harg10 arg11 harg11 _ _ _ _ _ _ _ hq' ho' hk' hv' hr' h10 h11 (i 1).val le_rfl
  have hdk := fun s d => fin_dk i arg3 arg4 arg6 arg10 arg11 _ _ _ _ _ _ _ (k0_off5 i) (k0_off5_inb i) (off5_eq i) (k0_off6 i) (k0_off6_inb i) (off6_eq i) _ hS hq' ho' hk' hv' hr' s d
  have hdv := fun s d => fin_dv i arg3 arg4 arg6 arg10 arg11 _ _ _ _ _ _ _ (k0_off5 i) (k0_off5_inb i) (off5_eq i) (k0_off6 i) (k0_off6_inb i) (off6_eq i) _ hS hq' ho' hk' hv' hr' s d
  refine ⟨fun r d => ?_, fun s d => ?_, fun s d => ?_, fun s d => ?_, fun s d => ?_⟩
  · unfold out0_C_5
    unfold kernelRun0_C; dsimp only; sl_unfold_words; rw [trips1, trips2]; simp only [st_k0_t2, List.nil_append]
    refine (store_read VO0_5 _ _ hz2 _ _ _ _).trans ?_
    exact fin_dq i arg3 arg4 arg6 arg10 arg11 _ _ _ _ _ _ _ (k0_off5 i) (k0_off5_inb i) (off5_eq i) (k0_off6 i) (k0_off6_inb i) (off6_eq i) _ hS hq' ho' hk' hv' hr' r d
  · unfold sout0_C_0
    unfold kernelRun0_C; dsimp only; sl_unfold_words; rw [trips1, trips2]; simp only [st_k0_t2, List.nil_append]
    exact hdk s d
  · unfold sout0_C_1
    unfold kernelRun0_C; dsimp only; sl_unfold_words; rw [trips1, trips2]; simp only [st_k0_t2, List.nil_append]
    exact hdv s d
  · unfold out0_C_6
    unfold kernelRun0_C; dsimp only; sl_unfold_words; rw [trips1, trips2]; simp only [st_k0_t2, List.nil_append]
    refine (store_read VO0_6 _ _ hz2 _ _ _ _).trans ?_
    refine (congrFun (acc_read arg10 inb_S2048x128_S2048x128_0_0 _) (ix2 s d)).trans ?_
    exact hdk s d
  · unfold out0_C_7
    unfold kernelRun0_C; dsimp only; sl_unfold_words; rw [trips1, trips2]; simp only [st_k0_t2, List.nil_append]
    refine (store_read VO0_7 _ _ hz2 _ _ _ _).trans ?_
    refine (congrFun (acc_read arg11 inb_S2048x128_S2048x128_0_0 _) (ix2 s d)).trans ?_
    exact hdv s d

end Cases

end Cert.KernelIdeal.Tile
-- ==== Proof.Sb.Point.lean ====
/-
  Point by point over the grid: what the query-gradient block and the two accumulators hold after each point, by induction
  along a head's four query tiles, and so the three gradient arrays.
-/
module

public import proofs.«01_k».proof.Proof.Sb.Blocks
public import proofs.«01_k».proof.Proof.Sb.Case

@[expose] public section

set_option maxRecDepth 16384

noncomputable section

namespace Cert.KernelIdeal.Sb

open Cert.KernelIdeal Cert.KernelIdeal.Gen Cert.Stick
open Idealize.ShloMosaic Idealize.ShloMosaic.TcCoe Idealize.ShloMosaic.ValueIdx Idealize.SL.Sem Idealize.ShloMosaic.StableHlo
open Cert.ReferenceIdeal.Sb (Q K W O)
open Cert.KernelIdeal.Tile (sc caseA caseB caseC)

variable (m : (ℓ : Loc nD τ sig) → Buf (Elt Ideal) ℓ) (c : Dev nD)
variable (a : Arg) (ha : m ((c : Thread nD τ).loc main_arg0) = a) (h0 : ∀ i, a i = ((EReal.toReal (a i) : ℝ) : EReal))
variable (b : FVec Ideal S2048x1024 .bf16) (hb : m ((c : Thread nD τ).loc main_arg1) = b) (h1 : ∀ i, b i = ((EReal.toReal (b i) : ℝ) : EReal))

/-- The three gradients of head `h`, over the first `n` keys or query rows. -/
abbrev DQ (h n : ℕ) : ℕ → ℕ → ℝ := dq sc (Q a h) (K a h) (W a h) (O b h) n
abbrev DK (h n : ℕ) : ℕ → ℕ → ℝ := dk sc (Q a h) (K a h) (W a h) (O b h) n
abbrev DV (h n : ℕ) : ℕ → ℕ → ℝ := dv sc (Q a h) (K a h) (O b h) n

/-- After point `n`. -/
def After (n : ℕ) (hn : n < cfg0.N) : Prop :=
  (∀ (r : Fin 512) (d : Fin 128), (outsAt0 m c n hn).1 (ix2 r d) = ((DQ a b (n / 4) (512 * (n % 4 + 1)) (512 * (n % 4) + r.val) d.val : ℝ) : EReal))
  ∧ (∀ (s : Fin 2048) (d : Fin 128), (outsAt0 m c n hn).2.2.2.1 (ix2 s d) = ((DK a b (n / 4) (512 * (n % 4 + 1)) s.val d.val : ℝ) : EReal))
  ∧ (∀ (s : Fin 2048) (d : Fin 128), (outsAt0 m c n hn).2.2.2.2 (ix2 s d) = ((DV a b (n / 4) (512 * (n % 4 + 1)) s.val d.val : ℝ) : EReal))
  ∧ (n % 4 = 3 → (∀ (s : Fin 2048) (d : Fin 128), (outsAt0 m c n hn).2.1 (ix2 s d) = ((DK a b (n / 4) 2048 s.val d.val : ℝ) : EReal))
    ∧ (∀ (s : Fin 2048) (d : Fin 128), (outsAt0 m c n hn).2.2.1 (ix2 s d) = ((DV a b (n / 4) 2048 s.val d.val : ℝ) : EReal)))

section
variable (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S1x4x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole)
  (x0 : Vec Ideal S512x128 .bf16) (x1 x2 : Vec Ideal S2048x128 .bf16) (x3 : Vec Ideal S512x128 .bf16) (x4 : Vec Ideal S1x4x512x128 .f32)
  {q k v o : ℕ → ℕ → ℝ}
  (hq : ∀ (r : Fin 512) (d : Fin 128), x0 (ix2 r d) = ((q (512 * (i 1).val + r.val) d.val : ℝ) : EReal))
  (hk : ∀ (s : Fin 2048) (d : Fin 128), x1 (ix2 s d) = ((k s.val d.val : ℝ) : EReal))
  (hv : ∀ (s : Fin 2048) (d : Fin 128), x2 (ix2 s d) = ((v s.val d.val : ℝ) : EReal))
  (ho : ∀ (r : Fin 512) (d : Fin 128), x3 (ix2 r d) = ((o (512 * (i 1).val + r.val) d.val : ℝ) : EReal))
  (hr : ∀ (j : Fin 4) (r : Fin 512), x4 (ix4 0 j r 0)
    = ((∑ x ∈ Finset.Ico (512 * (j.val + 1)) 2048, lk sc q k (512 * (i 1).val + r.val) x : ℝ) : EReal))
include hq hk hv ho hr

/-- The last query tile of a head, its number a variable. -/
theorem last (n : ℕ) (hn : (i 1).val = n) (hc0 : ¬cond0_0 i) (hc1 : cond0_1 i) (xs0 xs1 : Vec Ideal S2048x128 .f32)
    (hs0 : ∀ (s : Fin 2048) (d : Fin 128), xs0 (ix2 s d) = ((dk sc q k v o (512 * n) s.val d.val : ℝ) : EReal))
    (hs1 : ∀ (s : Fin 2048) (d : Fin 128), xs1 (ix2 s d) = ((dv sc q k o (512 * n) s.val d.val : ℝ) : EReal)) :
    (∀ (r : Fin 512) (d : Fin 128), out0_C_5 (F := Ideal) c i arg2 harg2 arg3 harg3 arg4 harg4 arg5 harg5 arg6 harg6 arg7 harg7 arg8 harg8 arg9 harg9 arg10 harg10 arg11 harg11 hc0 hc1 x0 x1 x2 x3 x4 xs0 xs1 (ix2 r d) = ((dq sc q k v o (512 * (n + 1)) (512 * n + r.val) d.val : ℝ) : EReal))
    ∧ (∀ (s : Fin 2048) (d : Fin 128), sout0_C_0 (F := Ideal) c i arg2 harg2 arg3 harg3 arg4 harg4 arg5 harg5 arg6 harg6 arg7 harg7 arg8 harg8 arg9 harg9 arg10 harg10 arg11 harg11 hc0 hc1 x0 x1 x2 x3 x4 xs0 xs1 (ix2 s d) = ((dk sc q k v o (512 * (n + 1)) s.val d.val : ℝ) : EReal))
    ∧ (∀ (s : Fin 2048) (d : Fin 128), sout0_C_1 (F := Ideal) c i arg2 harg2 arg3 harg3 arg4 harg4 arg5 harg5 arg6 harg6 arg7 harg7 arg8 harg8 arg9 harg9 arg10 harg10 arg11 harg11 hc0 hc1 x0 x1 x2 x3 x4 xs0 xs1 (ix2 s d) = ((dv sc q k o (512 * (n + 1)) s.val d.val : ℝ) : EReal))
    ∧ (∀ (s : Fin 2048) (d : Fin 128), out0_C_6 (F := Ideal) c i arg2 harg2 arg3 harg3 arg4 harg4 arg5 harg5 arg6 harg6 arg7 harg7 arg8 harg8 arg9 harg9 arg10 harg10 arg11 harg11 hc0 hc1 x0 x1 x2 x3 x4 xs0 xs1 (ix2 s d) = ((dk sc q k v o (512 * (n + 1)) s.val d.val : ℝ) : EReal))
    ∧ (∀ (s : Fin 2048) (d : Fin 128), out0_C_7 (F := Ideal) c i arg2 harg2 arg3 harg3 arg4 harg4 arg5 harg5 arg6 harg6 arg7 harg7 arg8 harg8 arg9 harg9 arg10 harg10 arg11 harg11 hc0 hc1 x0 x1 x2 x3 x4 xs0 xs1 (ix2 s d) = ((dv sc q k o (512 * (n + 1)) s.val d.val : ℝ) : EReal)) := by
  subst hn
  exact caseC c i arg2 harg2 arg3 harg3 arg4 harg4 arg5 harg5 arg6 harg6 arg7 harg7 arg8 harg8 arg9 harg9 arg10 harg10 arg11 harg11 x0 x1 x2 x3 x4 hq hk hv ho hr hc0 hc1 xs0 xs1 hs0 hs1
end

section
include ha h0 hb h1

theorem after_first (t : Fin cfg0.N) (e0 : t.val % 4 = 0) : After m c a b t.val t.isLt := by
  have e1 : ¬t.val % 4 = 3 := by omega
  unfold After
  rw [outsAt0_A m c t e0 e1]
  dsimp only
  have hc := caseA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (block0 m c a ha h0 t) (block1 m c a ha h0 t) (block2 m c a ha h0 t) (block3 m c b hb h1 t) (block4 m c a ha h0 t) ((hcond0_0 t).mpr e0) (fun h => e1 ((hcond0_1 t).mp h)) ((coord1 t).trans e0)
  refine ⟨fun r d => Eq.trans ?_ ((hc.1 r d).trans (congrArg (fun n : ℕ => ((DQ a b (t.val / 4) (512 * (n + 1)) (512 * n + r.val) d.val : ℝ) : EReal)) (coord1 t))),
    fun s d => Eq.trans ?_ ((hc.2.1 s d).trans (congrArg (fun n : ℕ => ((DK a b (t.val / 4) (512 * (n + 1)) s.val d.val : ℝ) : EReal)) (coord1 t))),
    fun s d => Eq.trans ?_ ((hc.2.2 s d).trans (congrArg (fun n : ℕ => ((DV a b (t.val / 4) (512 * (n + 1)) s.val d.val : ℝ) : EReal)) (coord1 t))), fun h => absurd h e1⟩ <;> with_reducible rfl

theorem after_middle (t : Fin cfg0.N) (e0 : ¬t.val % 4 = 0) (e1 : ¬t.val % 4 = 3)
    (ih : After m c a b (t.val - 1) (Nat.lt_of_le_of_lt (Nat.sub_le _ _) t.isLt)) : After m c a b t.val t.isLt := by
  unfold After
  rw [outsAt0_B m c t e0 e1]
  dsimp only
  have q4 : (t.val - 1) / 4 = t.val / 4 := by omega
  have r4 : (t.val - 1) % 4 + 1 = t.val % 4 := by omega
  unfold After at ih
  rw [q4, r4] at ih
  have hc := caseB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (block0 m c a ha h0 t) (block1 m c a ha h0 t) (block2 m c a ha h0 t) (block3 m c b hb h1 t) (block4 m c a ha h0 t) (fun h => e0 ((hcond0_0 t).mp h)) (fun h => e1 ((hcond0_1 t).mp h)) (outsAt0 m c (t.val - 1) (Nat.lt_of_le_of_lt (Nat.sub_le _ _) t.isLt)).2.2.2.1 (outsAt0 m c (t.val - 1) (Nat.lt_of_le_of_lt (Nat.sub_le _ _) t.isLt)).2.2.2.2
    (fun s d => (ih.2.1 s d).trans (congrArg (fun n : ℕ => ((DK a b (t.val / 4) (512 * n) s.val d.val : ℝ) : EReal)) (coord1 t).symm))
    (fun s d => (ih.2.2.1 s d).trans (congrArg (fun n : ℕ => ((DV a b (t.val / 4) (512 * n) s.val d.val : ℝ) : EReal)) (coord1 t).symm))
  refine ⟨fun r d => Eq.trans ?_ ((hc.1 r d).trans (congrArg (fun n : ℕ => ((DQ a b (t.val / 4) (512 * (n + 1)) (512 * n + r.val) d.val : ℝ) : EReal)) (coord1 t))),
    fun s d => Eq.trans ?_ ((hc.2.1 s d).trans (congrArg (fun n : ℕ => ((DK a b (t.val / 4) (512 * (n + 1)) s.val d.val : ℝ) : EReal)) (coord1 t))),
    fun s d => Eq.trans ?_ ((hc.2.2 s d).trans (congrArg (fun n : ℕ => ((DV a b (t.val / 4) (512 * (n + 1)) s.val d.val : ℝ) : EReal)) (coord1 t))), fun h => absurd h e1⟩ <;> with_reducible rfl

theorem after_last (t : Fin cfg0.N) (e1 : t.val % 4 = 3)
    (ih : After m c a b (t.val - 1) (Nat.lt_of_le_of_lt (Nat.sub_le _ _) t.isLt)) : After m c a b t.val t.isLt := by
  have e0 : ¬t.val % 4 = 0 := by omega
  have q4 : (t.val - 1) / 4 = t.val / 4 := by omega
  have r4 : (t.val - 1) % 4 + 1 = 3 := by omega
  unfold After at ih
  rw [q4, r4] at ih
  have hc := last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (block0 m c a ha h0 t) (block1 m c a ha h0 t) (block2 m c a ha h0 t) (block3 m c b hb h1 t) (block4 m c a ha h0 t) 3 ((coord1 t).trans e1) (fun h => e0 ((hcond0_0 t).mp h)) ((hcond0_1 t).mpr e1) (outsAt0 m c (t.val - 1) (Nat.lt_of_le_of_lt (Nat.sub_le _ _) t.isLt)).2.2.2.1 (outsAt0 m c (t.val - 1) (Nat.lt_of_le_of_lt (Nat.sub_le _ _) t.isLt)).2.2.2.2
    ih.2.1 ih.2.2.1
  unfold After
  rw [e1, outsAt0_C m c t e0 e1]
  dsimp only
  refine ⟨fun r d => Eq.trans ?_ (hc.1 r d), fun s d => Eq.trans ?_ (hc.2.1 s d), fun s d => Eq.trans ?_ (hc.2.2.1 s d), fun _ =>
    ⟨fun s d => Eq.trans ?_ (hc.2.2.2.1 s d), fun s d => Eq.trans ?_ (hc.2.2.2.2 s d)⟩⟩ <;> with_reducible rfl

theorem after_all : ∀ (n : ℕ) (hn : n < cfg0.N), After m c a b n hn
  | 0, hn => after_first m c a ha h0 b hb h1 ⟨0, hn⟩ rfl
  | n + 1, hn => by
    by_cases e0 : (n + 1) % 4 = 0
    · exact after_first m c a ha h0 b hb h1 ⟨n + 1, hn⟩ e0
    · by_cases e1 : (n + 1) % 4 = 3
      · exact after_last m c a ha h0 b hb h1 ⟨n + 1, hn⟩ e1 (after_all n (Nat.lt_of_succ_lt hn))
      · exact after_middle m c a ha h0 b hb h1 ⟨n + 1, hn⟩ e0 e1 (after_all n (Nat.lt_of_succ_lt hn))
end

end Cert.KernelIdeal.Sb
-- ==== Proof.Sb.Arrays.lean ====
/-
  The three gradient arrays the kernel leaves, at an index.
-/
module

public import proofs.«01_k».proof.Proof.Sb.Point

@[expose] public section

noncomputable section

namespace Cert.KernelIdeal.Sb

open Cert.KernelIdeal Cert.KernelIdeal.Gen Cert.KernelIdeal.Value Cert.Stick
open Idealize.ShloMosaic Idealize.ShloMosaic.TcCoe Idealize.ShloMosaic.ValueIdx Idealize.SL.Sem Idealize.ShloMosaic.StableHlo
open Cert.KernelIdeal.Tile (sc)

variable (m : (ℓ : Loc nD τ sig) → Buf (Elt Ideal) ℓ) (c : Dev nD)
variable (a : Arg) (ha : m ((c : Thread nD τ).loc main_arg0) = a) (h0 : ∀ i, a i = ((EReal.toReal (a i) : ℝ) : EReal))
variable (b : FVec Ideal S2048x1024 .bf16) (hb : m ((c : Thread nD τ).loc main_arg1) = b) (h1 : ∀ i, b i = ((EReal.toReal (b i) : ℝ) : EReal))

/-- A query takes no part of a key after it, so the sum over the keys of the tiles up to its own is the whole sum. -/
theorem DQ_whole (h n t d : ℕ) (ht : t < n) (hn : n ≤ 2048) : DQ a b h n t d = DQ a b h 2048 t d := by
  refine Finset.sum_subset (fun x hx => Finset.mem_range.mpr ((Finset.mem_range.mp hx).trans_le hn)) fun s _ hs => ?_
  rw [dz_of_le (by have := mt Finset.mem_range.mpr hs; omega), zero_mul]

section
include ha h0 hb h1

theorem G5_at (i : S2048x1024.Idx) :
    (G5 m c : S2048x1024.Idx → EReal) i = ((DQ a b ((i 1).val / 128) 2048 (i 0).val ((i 1).val % 128) : ℝ) : EReal) := by
  have b0 : (i 0).val < 2048 := (i 0).isLt
  have b1 : (i 1).val < 1024 := (i 1).isLt
  have hp : pt5Of i < cfg0.N := Nat.lt_of_lt_of_eq (show 1 * ((i 0).val / 512 - 0) + 4 * ((i 1).val / 128 - 0) < 32 by omega) N_0.symm
  have q4 : pt5Of i / 4 = (i 1).val / 128 := by show (1 * ((i 0).val / 512 - 0) + 4 * ((i 1).val / 128 - 0)) / 4 = _; omega
  have r4 : pt5Of i % 4 = (i 0).val / 512 := by show (1 * ((i 0).val / 512 - 0) + 4 * ((i 1).val / 128 - 0)) % 4 = _; omega
  have hA := (after_all m c a ha h0 b hb h1 (pt5Of i) hp).1 ⟨(i 0).val % 512, Nat.mod_lt _ (by decide)⟩ ⟨(i 1).val % 128, Nat.mod_lt _ (by decide)⟩
  rw [q4, r4, outsAt0_sweep] at hA
  unfold G5
  rw [dif_pos hp]
  refine Eq.trans ?_ (hA.trans ?_)
  · exact congrArg _ (funext fun x => match x with | ⟨0, _⟩ => rfl | ⟨1, _⟩ => rfl)
  · show ((DQ a b ((i 1).val / 128) (512 * ((i 0).val / 512 + 1)) (512 * ((i 0).val / 512) + (i 0).val % 512) ((i 1).val % 128) : ℝ) : EReal) = _
    rw [Nat.div_add_mod, DQ_whole a b _ _ _ _ (by omega) (by omega)]

theorem G6_at (i : S2048x1024.Idx) :
    (G6 m c : S2048x1024.Idx → EReal) i = ((DK a b ((i 1).val / 128) 2048 (i 0).val ((i 1).val % 128) : ℝ) : EReal) := by
  have b0 : (i 0).val < 2048 := (i 0).isLt
  have b1 : (i 1).val < 1024 := (i 1).isLt
  have hp : pt6Of i < cfg0.N := Nat.lt_of_lt_of_eq (show 4 * (8 * ((i 0).val / 2048 - 0) + 1 * ((i 1).val / 128 - 0)) + 3 < 32 by omega) N_0.symm
  have q4 : pt6Of i / 4 = (i 1).val / 128 := by show (4 * (8 * ((i 0).val / 2048 - 0) + 1 * ((i 1).val / 128 - 0)) + 3) / 4 = _; omega
  have r4 : pt6Of i % 4 = 3 := by show (4 * (8 * ((i 0).val / 2048 - 0) + 1 * ((i 1).val / 128 - 0)) + 3) % 4 = _; omega
  have hA := ((after_all m c a ha h0 b hb h1 (pt6Of i) hp).2.2.2 r4).1 ⟨(i 0).val % 2048, Nat.mod_lt _ (by decide)⟩ ⟨(i 1).val % 128, Nat.mod_lt _ (by decide)⟩
  rw [q4, outsAt0_sweep] at hA
  unfold G6
  rw [dif_pos hp]
  refine Eq.trans ?_ (hA.trans ?_)
  · exact congrArg _ (funext fun x => match x with | ⟨0, _⟩ => rfl | ⟨1, _⟩ => rfl)
  · show ((DK a b ((i 1).val / 128) 2048 ((i 0).val % 2048) ((i 1).val % 128) : ℝ) : EReal) = _
    rw [Nat.mod_eq_of_lt b0]

theorem G7_at (i : S2048x1024.Idx) :
    (G7 m c : S2048x1024.Idx → EReal) i = ((DV a b ((i 1).val / 128) 2048 (i 0).val ((i 1).val % 128) : ℝ) : EReal) := by
  have b0 : (i 0).val < 2048 := (i 0).isLt
  have b1 : (i 1).val < 1024 := (i 1).isLt
  have hp : pt7Of i < cfg0.N := Nat.lt_of_lt_of_eq (show 4 * (8 * ((i 0).val / 2048 - 0) + 1 * ((i 1).val / 128 - 0)) + 3 < 32 by omega) N_0.symm
  have q4 : pt7Of i / 4 = (i 1).val / 128 := by show (4 * (8 * ((i 0).val / 2048 - 0) + 1 * ((i 1).val / 128 - 0)) + 3) / 4 = _; omega
  have r4 : pt7Of i % 4 = 3 := by show (4 * (8 * ((i 0).val / 2048 - 0) + 1 * ((i 1).val / 128 - 0)) + 3) % 4 = _; omega
  have hA := ((after_all m c a ha h0 b hb h1 (pt7Of i) hp).2.2.2 r4).2 ⟨(i 0).val % 2048, Nat.mod_lt _ (by decide)⟩ ⟨(i 1).val % 128, Nat.mod_lt _ (by decide)⟩
  rw [q4, outsAt0_sweep] at hA
  unfold G7
  rw [dif_pos hp]
  refine Eq.trans ?_ (hA.trans ?_)
  · exact congrArg _ (funext fun x => match x with | ⟨0, _⟩ => rfl | ⟨1, _⟩ => rfl)
  · show ((DV a b ((i 1).val / 128) 2048 ((i 0).val % 2048) ((i 1).val % 128) : ℝ) : EReal) = _
    rw [Nat.mod_eq_of_lt b0]
end

end Cert.KernelIdeal.Sb
-- ==== Proof.Sb.Final.lean ====
/-
  The claims of the stick-breaking gradient: the three runs and the equality of their results.
-/
module

public import proofs.«01_k».proof.Proof.Mm.Sums
public import proofs.«01_k».proof.Defs
public import proofs.«01_k».proof.Proof.Sb.Arrays
public import proofs.«01_k».proof.Proof.Gen.Kernel
public import proofs.«01_k».proof.Proof.Gen.Kernel.Frame
public import proofs.«01_k».proof.Proof.Gen.Pre_finite
public import Idealize.ShloMosaic.Lib.Quiescent

@[expose] public section

noncomputable section

namespace Cert.Proof.Sb

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_finite := fun m ρ _ => Cert.KernelIdeal.Gen.frame m ρ

/-- The reference has no counters. -/
theorem frame_reference : Cert.quiescent_ReferenceIdeal := fun m ρ _ =>
  (θ_run Cert.ReferenceIdeal.defs _ _).mono
    (fun _ h => ⟨fun c => (h c).2.2.2, sem_eq_zero_of_no_sems (by decide) _⟩) (Cert.ReferenceIdeal.Value.run m ρ)

theorem frame_reference_finite : Cert.quiescent_ReferenceIdeal_pre_finite := fun m ρ _ => frame_reference m ρ trivial

theorem real_args (m : (ℓ : Loc Cert.KernelIdeal.nD Cert.KernelIdeal.τ Cert.KernelIdeal.sig) → Buf (Elt Ideal) ℓ) (h : Cert.Pre_KernelIdeal_finite m)
    (c : Dev Cert.KernelIdeal.nD) (a : FVec Ideal Cert.KernelIdeal.S2048x6144 .bf16) (ha : m ((c.tc : Thread Cert.KernelIdeal.nD Cert.KernelIdeal.τ).loc Cert.KernelIdeal.main_arg0) = a)
    (b : FVec Ideal Cert.KernelIdeal.S2048x1024 .bf16) (hb : m ((c.tc : Thread Cert.KernelIdeal.nD Cert.KernelIdeal.τ).loc Cert.KernelIdeal.main_arg1) = b) :
    (∀ i, a i = ((EReal.toReal (a i) : ℝ) : EReal)) ∧ ∀ i, b i = ((EReal.toReal (b i) : ℝ) : EReal) := by
  have hc := h c
  rw [ha, hb] at hc
  exact ⟨fun i => Cert.Mm.real_of_lt a _ (fun _ => Cert.Mm.inf_bf16) hc.1 i, fun i => Cert.Mm.real_of_lt b _ (fun _ => Cert.Mm.inf_bf16) hc.2 i⟩

open Cert.KernelIdeal.Value in
/-- Over finite arguments kernel and reference return the same three gradients. -/
theorem algebraic : Cert.algebraic_KernelIdeal_ReferenceIdeal_pre_finite := by
  intro m g m' g' hpre harg
  refine ⟨fun c => G5 m c, fun c => G6 m c, fun c => G7 m c, Cert.KernelIdeal.Value.run m g, ?_⟩
  refine (θ_run Cert.ReferenceIdeal.defs _ _).mono (fun r h c => ?_) (Cert.ReferenceIdeal.Value.run m' g')
  obtain ⟨e0, e1, e2, k0, k1⟩ := h c
  obtain ⟨r0, r1⟩ := real_args m hpre c _ rfl _ rfl
  rw [Cert.ReferenceIdeal.Read.val_main_v67_eq] at e0
  rw [Cert.ReferenceIdeal.Read.val_main_v68_eq] at e1
  rw [Cert.ReferenceIdeal.Read.val_main_v69_eq] at e2
  rw [StableHlo.launchContents_devRef, StableHlo.launchContents_devRef, (harg c).1, (harg c).2] at e0 e1 e2
  refine ⟨e0.trans (funext fun i => ?_), e1.trans (funext fun i => ?_), e2.trans (funext fun i => ?_), k0, k1⟩
  · exact (Cert.ReferenceIdeal.Sb.out_dq _ _ r0 r1 i).trans (Cert.KernelIdeal.Sb.G5_at m c _ rfl r0 _ rfl r1 i).symm
  · exact (Cert.ReferenceIdeal.Sb.out_dk _ _ r0 r1 i).trans (Cert.KernelIdeal.Sb.G6_at m c _ rfl r0 _ rfl r1 i).symm
  · exact (Cert.ReferenceIdeal.Sb.out_dv _ _ r0 r1 i).trans (Cert.KernelIdeal.Sb.G7_at m c _ rfl r0 _ rfl r1 i).symm

end Cert.Proof.Sb

end
-- ==== Proof.Mm.P2.lean ====
/-
  The gradient of the product with the input projection, in its left operand: each run of 21 grid points adds up one block of the product.
-/
module

public import proofs.«01_k».proof.Defs
public import proofs.«01_k».proof.Proof.Mm.Sums
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Lib.Quiescent

@[expose] public section

noncomputable section

namespace Cert.Kernel2Ideal.Mm

open Cert.Kernel2Ideal Cert.Kernel2Ideal.Gen Cert.Kernel2Ideal.Value Cert.Mm
open Idealize.ShloMosaic Idealize.ShloMosaic.TcCoe Idealize.ShloMosaic.ValueIdx Idealize.SL.Sem
open Finset (range)

theorem step (acc : Vec Ideal S2048x2048 .f32) (x : Vec Ideal S2048x512 .bf16) (y : Vec Ideal S2048x512 .bf16) (r : Fin 2048) (c : Fin 2048) :
    k0_pay2 acc x y (ix2 r c) = acc (ix2 r c) + ∑ k : Fin 512, x (ix2 r k) * y (ix2 c k) := by
  unfold k0_pay2
  simp only [shapeCast_self]
  exact congrArg (fun v : EReal => acc (ix2 r c) + v) (entry_nt x y r c)

theorem start (r : Fin 2048) (c : Fin 2048) : k0_pay1 (F := Ideal) (ix2 r c) = 0 := Ideal.ofBits_zero_f32

theorem idx0 : ∀ t : Fin grid0.N, win0_0.index t (0 : Fin 2) = t.val / 21 / 1 ∧ win0_0.index t (1 : Fin 2) = t.val % 21 := by decide +kernel
theorem idx1 : ∀ t : Fin grid0.N, win0_1.index t (0 : Fin 2) = t.val / 21 % 1 ∧ win0_1.index t (1 : Fin 2) = t.val % 21 := by decide +kernel

variable (m : (ℓ : Loc nD τ sig) → Buf (Elt Ideal) ℓ) (c : Dev nD) (A : ℕ → ℕ → EReal) (B : ℕ → ℕ → EReal)
  (hA : ∀ i, (m ((c : Thread nD τ).loc main_arg0) : S2048x10752.Idx → EReal) i = A (i 0).val (i 1).val)
  (hB : ∀ i, (m ((c : Thread nD τ).loc main_arg1) : S2048x10752.Idx → EReal) i = B (i 0).val (i 1).val)

/-- The block of the left operand at point `t`. -/
abbrev left (t : Fin cfg0.N) : S2048x512.Idx → EReal := iblk m c 0 t

/-- The block of the right operand at point `t`. -/
abbrev right (t : Fin cfg0.N) : S2048x512.Idx → EReal := iblk m c 1 t

include hA in
theorem block0 (t : Fin cfg0.N) (r : Fin 2048) (k : Fin 512) :
    left m c t (ix2 r k) = A (2048 * (t.val / 21 / 1) + r.val) (t.val % 21 * 512 + k.val) := by
  unfold left iblk
  rw [View.read_apply]
  show V m c main_arg0 _ = _
  rw [V_main_arg0]
  refine (hA _).trans (congrArg₂ A ?_ ?_)
  · show win0_0.index t (0 : Fin 2) * 2048 + 1 * r.val = _
    rw [(idx0 t).1]; omega
  · show win0_0.index t (1 : Fin 2) * 512 + 1 * k.val = _
    rw [(idx0 t).2]; omega

include hB in
theorem block1 (t : Fin cfg0.N) (j : Fin 2048) (k : Fin 512) :
    right m c t (ix2 j k) = B (2048 * (t.val / 21 % 1) + j.val) (t.val % 21 * 512 + k.val) := by
  unfold right iblk
  rw [View.read_apply]
  show V m c main_arg1 _ = _
  rw [V_main_arg1]
  refine (hB _).trans (congrArg₂ B ?_ ?_)
  · show win0_1.index t (0 : Fin 2) * 2048 + 1 * j.val = _
    rw [(idx1 t).1]; omega
  · show win0_1.index t (1 : Fin 2) * 512 + 1 * k.val = _
    rw [(idx1 t).2]; omega

theorem first (t : Fin cfg0.N) (h0 : t.val % 21 = 0) (r : Fin 2048) (j : Fin 2048) :
    outsAt0 m c t.val t.isLt (ix2 r j) = ∑ k : Fin 512, left m c t (ix2 r k) * right m c t (ix2 j k) := by
  rw [outsAt0_A m c t h0, out_A_2_eq, step, start, zero_add]

theorem next (t : Fin cfg0.N) (h0 : ¬t.val % 21 = 0) (r : Fin 2048) (j : Fin 2048) :
    outsAt0 m c t.val t.isLt (ix2 r j) = outsAt0 m c (t.val - 1) (Nat.lt_of_le_of_lt (Nat.sub_le _ _) t.isLt) (ix2 r j)
      + ∑ k : Fin 512, left m c t (ix2 r k) * right m c t (ix2 j k) := by
  rw [outsAt0_B m c t h0, out_B_2_eq, step]

theorem G2_last (i : S2048x2048.Idx) (n : ℕ) (h : n < cfg0.N) (hn : n = 21 * run2Of i + 20) : G2 m c i = outsAt0 m c n h (loc2Of i) := by
  subst hn
  unfold G2
  rw [dif_pos h]
  refine congrFun ((outsAt_2_eq m c ⟨21 * run2Of i + 20, h⟩).trans (accAt_congr _ _ ?_ ?_ _ _)).symm _
  · show 21 * ((21 * run2Of i + 20) / 21) = 21 * run2Of i
    omega
  · show (21 * run2Of i + 20) % 21 = 20
    omega

include hA hB in
theorem G2_at (i : S2048x2048.Idx) : G2 m c i = ∑ k ∈ range 10752, A (i 0).val k * B (i 1).val k := by
  have h0 : (i 0).val < 2048 := (i 0).isLt
  have h1 : (i 1).val < 2048 := (i 1).isLt
  have h : 21 * (1 * ((i 0).val / 2048) + (i 1).val / 2048) + (21 - 1) < cfg0.N := Nat.lt_of_lt_of_eq (show _ < 21 by omega) N_0.symm
  have hl : loc2Of i = ix2 ⟨(i 0).val % 2048, Nat.mod_lt _ (by decide)⟩ ⟨(i 1).val % 2048, Nat.mod_lt _ (by decide)⟩ := by
    funext a
    match a with
    | ⟨0, _⟩ => rfl
    | ⟨1, _⟩ => rfl
  rw [G2_last m c i _ h (by show _ = 21 * (1 * ((i 0).val / 2048 - 0) + 1 * ((i 1).val / 2048 - 0)) + 20; omega), hl]
  exact tiled_at 21 1 (by decide) (by decide) (by decide) (fun i k => A i k) (fun j k => B j k) (fun t r k => left m c t (ix2 r k)) (fun t j k => right m c t (ix2 j k))
    (fun n h r j => outsAt0 m c n h (ix2 r j)) (block0 m c A hA) (block1 m c B hB) (first m c) (next m c) _ _ (by omega) h

end Cert.Kernel2Ideal.Mm

namespace Cert.Reference2Ideal.Mm

open Cert.Reference2Ideal Cert.Reference2Ideal.Gen Cert.Reference2Ideal.Read Cert.Mm
open Idealize.ShloMosaic Idealize.ShloMosaic.TcCoe Idealize.ShloMosaic.ValueIdx Idealize.SL.Sem
open Finset (range)

theorem out_at (x : FVec Ideal S2048x10752 .bf16) (y : FVec Ideal S2048x10752 .bf16) (A : ℕ → ℕ → EReal) (B : ℕ → ℕ → EReal)
    (hA : ∀ i, x i = A (i 0).val (i 1).val) (hB : ∀ i, y i = B (i 0).val (i 1).val) (i : S2048x2048.Idx) :
    val_main_v4 (F := Ideal) x y i = ∑ k ∈ range 10752, A (i 0).val k * B (i 1).val k := by
  rw [val_main_v4_apply, Finset.sum_range]
  refine Finset.sum_congr rfl fun k _ => ?_
  exact congrArg₂ (fun u v : EReal => u * v) (hA _) (hB _)

end Cert.Reference2Ideal.Mm

namespace Cert.Proof.P2

open Idealize.ShloMosaic Idealize.SL.Sem

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono
    (fun _ h => ⟨fun c => (h c).2, sem_eq_zero_of_no_sems (by decide) _⟩) (Cert.Reference2Ideal.Value.run m ρ)

theorem algebraic : Cert.algebraic_Kernel2Ideal_Reference2Ideal := by
  intro m g m' g' _ harg
  refine ⟨fun c => Cert.Kernel2Ideal.Value.G2 m c, Cert.Kernel2Ideal.Value.run m g, ?_⟩
  refine (θ_run Cert.Reference2Ideal.defs _ _).mono (fun r h c => ?_) (Cert.Reference2Ideal.Value.run m' g')
  obtain ⟨e, k⟩ := h c
  rw [Cert.Reference2Ideal.Read.val_main_v4_eq, (harg c).1, (harg c).2] at e
  obtain ⟨A, hA⟩ := Cert.Mm.exists_nat2 (m ((c.tc : Thread Cert.Kernel2Ideal.nD Cert.Kernel2Ideal.τ).loc Cert.Kernel2Ideal.main_arg0) : Cert.Kernel2Ideal.S2048x10752.Idx → EReal)
  obtain ⟨B, hB⟩ := Cert.Mm.exists_nat2 (m ((c.tc : Thread Cert.Kernel2Ideal.nD Cert.Kernel2Ideal.τ).loc Cert.Kernel2Ideal.main_arg1) : Cert.Kernel2Ideal.S2048x10752.Idx → EReal)
  exact ⟨e.trans (funext fun i => (Cert.Reference2Ideal.Mm.out_at _ _ A B hA hB i).trans (Cert.Kernel2Ideal.Mm.G2_at m c A B hA hB i).symm), k⟩

end Cert.Proof.P2

end
-- ==== Proof.Mm.P3.lean ====
/-
  The gradient of the input projection's weights: each run of 4 grid points adds up one block of the product.
-/
module

public import proofs.«01_k».proof.Defs
public import proofs.«01_k».proof.Proof.Mm.Sums
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Quiescent
public import Idealize.ShloMosaic.Lib.Pipeline.ReadBack

@[expose] public section

noncomputable section

namespace Cert.Kernel3Ideal.Mm

open Cert.Kernel3Ideal Cert.Kernel3Ideal.Gen Cert.Kernel3Ideal.Value Cert.Mm
open Idealize.ShloMosaic Idealize.ShloMosaic.TcCoe Idealize.ShloMosaic.ValueIdx Idealize.SL.Sem
open Finset (range)

theorem step (acc : Vec Ideal S2048x1792 .f32) (x : Vec Ideal S512x2048 .bf16) (y : Vec Ideal S512x1792 .bf16) (r : Fin 2048) (c : Fin 1792) :
    k0_pay2 acc x y (ix2 r c) = acc (ix2 r c) + ∑ k : Fin 512, x (ix2 k r) * y (ix2 k c) := by
  unfold k0_pay2
  simp only [shapeCast_self]
  exact congrArg (fun v : EReal => acc (ix2 r c) + v) (entry_tn x y r c)

theorem start (r : Fin 2048) (c : Fin 1792) : k0_pay1 (F := Ideal) (ix2 r c) = 0 := by
  unfold k0_pay1
  simp only [shapeCast_self]
  exact Ideal.ofBits_zero_f32

theorem idx0 : ∀ t : Fin grid0.N, win0_0.index t (0 : Fin 2) = t.val % 4 ∧ win0_0.index t (1 : Fin 2) = t.val / 4 / 6 := by decide +kernel
theorem idx1 : ∀ t : Fin grid0.N, win0_1.index t (0 : Fin 2) = t.val % 4 ∧ win0_1.index t (1 : Fin 2) = t.val / 4 % 6 := by decide +kernel

variable (m : (ℓ : Loc nD τ sig) → Buf (Elt Ideal) ℓ) (c : Dev nD) (A : ℕ → ℕ → EReal) (B : ℕ → ℕ → EReal)
  (hA : ∀ i, (m ((c : Thread nD τ).loc main_arg0) : S2048x2048.Idx → EReal) i = A (i 0).val (i 1).val)
  (hB : ∀ i, (m ((c : Thread nD τ).loc main_arg1) : S2048x10752.Idx → EReal) i = B (i 0).val (i 1).val)

/-- The block of the left operand at point `t`. -/
abbrev left (t : Fin cfg0.N) : S512x2048.Idx → EReal := iblk m c 0 t

/-- The block of the right operand at point `t`. -/
abbrev right (t : Fin cfg0.N) : S512x1792.Idx → EReal := iblk m c 1 t

include hA in
theorem block0 (t : Fin cfg0.N) (r : Fin 2048) (k : Fin 512) :
    left m c t (ix2 k r) = A (t.val % 4 * 512 + k.val) (2048 * (t.val / 4 / 6) + r.val) := by
  unfold left iblk
  rw [View.read_apply]
  show V m c main_arg0 _ = _
  rw [V_main_arg0]
  refine (hA _).trans (congrArg₂ A ?_ ?_)
  · show win0_0.index t (0 : Fin 2) * 512 + 1 * k.val = _
    rw [(idx0 t).1]; omega
  · show win0_0.index t (1 : Fin 2) * 2048 + 1 * r.val = _
    rw [(idx0 t).2]; omega

include hB in
theorem block1 (t : Fin cfg0.N) (j : Fin 1792) (k : Fin 512) :
    right m c t (ix2 k j) = B (t.val % 4 * 512 + k.val) (1792 * (t.val / 4 % 6) + j.val) := by
  unfold right iblk
  rw [View.read_apply]
  show V m c main_arg1 _ = _
  rw [V_main_arg1]
  refine (hB _).trans (congrArg₂ B ?_ ?_)
  · show win0_1.index t (0 : Fin 2) * 512 + 1 * k.val = _
    rw [(idx1 t).1]; omega
  · show win0_1.index t (1 : Fin 2) * 1792 + 1 * j.val = _
    rw [(idx1 t).2]; omega

theorem first (t : Fin cfg0.N) (h0 : t.val % 4 = 0) (r : Fin 2048) (j : Fin 1792) :
    (outsAt0 m c t.val t.isLt).2 (ix2 r j) = ∑ k : Fin 512, left m c t (ix2 k r) * right m c t (ix2 k j) := by
  rw [outsAt0_A m c t h0 (by omega)]
  frame_out
  rw [step, start, zero_add]

theorem next (t : Fin cfg0.N) (h0 : ¬t.val % 4 = 0) (r : Fin 2048) (j : Fin 1792) :
    (outsAt0 m c t.val t.isLt).2 (ix2 r j) = (outsAt0 m c (t.val - 1) (Nat.lt_of_le_of_lt (Nat.sub_le _ _) t.isLt)).2 (ix2 r j)
      + ∑ k : Fin 512, left m c t (ix2 k r) * right m c t (ix2 k j) := by
  by_cases h1 : t.val % 4 = 3
  · rw [outsAt0_C m c t h0 h1]
    frame_out
    rw [read_unread_whole, step]
  · rw [outsAt0_B m c t h0 h1]
    frame_out
    rw [read_unread_whole, step]

/-- At the last point of a run the output is the scratch. -/
theorem out_C (t : Fin cfg0.N) (h1 : t.val % 4 = 3) : (outsAt0 m c t.val t.isLt).1 = (outsAt0 m c t.val t.isLt).2 := by
  rw [outsAt0_C m c t (by omega) h1]
  frame_out
  rfl

theorem G2_last (i : S2048x10752.Idx) (n : ℕ) (h : n < cfg0.N) (hn : n = 4 * run2Of i + 3) : G2 m c i = (outsAt0 m c n h).2 (loc2Of i) := by
  subst hn
  refine Eq.trans ?_ (congrFun (out_C m c ⟨_, h⟩ (by show (4 * run2Of i + 3) % 4 = 3; omega)) _)
  unfold G2
  rw [dif_pos (show pt2Of i < cfg0.N from h), outsAt0_sweep]

include hA hB in
theorem G2_at (i : S2048x10752.Idx) : G2 m c i = ∑ k ∈ range 2048, A k (i 0).val * B k (i 1).val := by
  have h0 : (i 0).val < 2048 := (i 0).isLt
  have h1 : (i 1).val < 10752 := (i 1).isLt
  have h : 4 * (6 * ((i 0).val / 2048) + (i 1).val / 1792) + (4 - 1) < cfg0.N := Nat.lt_of_lt_of_eq (show _ < 24 by omega) N_0.symm
  have hl : loc2Of i = ix2 ⟨(i 0).val % 2048, Nat.mod_lt _ (by decide)⟩ ⟨(i 1).val % 1792, Nat.mod_lt _ (by decide)⟩ := by
    funext a
    match a with
    | ⟨0, _⟩ => rfl
    | ⟨1, _⟩ => rfl
  rw [G2_last m c i _ h (by show _ = 4 * (6 * ((i 0).val / 2048 - 0) + 1 * ((i 1).val / 1792 - 0)) + 3; omega), hl]
  exact tiled_at 4 6 (by decide) (by decide) (by decide) (fun i k => A k i) (fun j k => B k j) (fun t r k => left m c t (ix2 k r)) (fun t j k => right m c t (ix2 k j))
    (fun n h r j => (outsAt0 m c n h).2 (ix2 r j)) (block0 m c A hA) (block1 m c B hB) (first m c) (next m c) _ _ (by omega) h

end Cert.Kernel3Ideal.Mm

namespace Cert.Reference3Ideal.Mm

open Cert.Reference3Ideal Cert.Reference3Ideal.Gen Cert.Reference3Ideal.Read Cert.Mm
open Idealize.ShloMosaic Idealize.ShloMosaic.TcCoe Idealize.ShloMosaic.ValueIdx Idealize.SL.Sem
open Finset (range)

theorem out_at (x : FVec Ideal S2048x2048 .bf16) (y : FVec Ideal S2048x10752 .bf16) (A : ℕ → ℕ → EReal) (B : ℕ → ℕ → EReal)
    (hA : ∀ i, x i = A (i 0).val (i 1).val) (hB : ∀ i, y i = B (i 0).val (i 1).val) (i : S2048x10752.Idx) :
    val_main_v6 (F := Ideal) x y i = ∑ k ∈ range 2048, A k (i 0).val * B k (i 1).val := by
  show val_main_v5 (F := Ideal) x y i = _
  rw [val_main_v5_apply, val_main_v4_apply, Finset.sum_range]
  refine Finset.sum_congr rfl fun k _ => (mul_comm _ _).trans ?_
  exact congrArg₂ (fun u v : EReal => u * v) (hA _) (hB _)

end Cert.Reference3Ideal.Mm

namespace Cert.Proof.P3

open Idealize.ShloMosaic Idealize.SL.Sem

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono
    (fun _ h => ⟨fun c => (h c).2, sem_eq_zero_of_no_sems (by decide) _⟩) (Cert.Reference3Ideal.Value.run m ρ)

theorem algebraic : Cert.algebraic_Kernel3Ideal_Reference3Ideal := by
  intro m g m' g' _ harg
  refine ⟨fun c => Cert.Kernel3Ideal.Value.G2 m c, Cert.Kernel3Ideal.Value.run m g, ?_⟩
  refine (θ_run Cert.Reference3Ideal.defs _ _).mono (fun r h c => ?_) (Cert.Reference3Ideal.Value.run m' g')
  obtain ⟨e, k⟩ := h c
  rw [Cert.Reference3Ideal.Read.val_main_v6_eq, (harg c).1, (harg c).2] at e
  obtain ⟨A, hA⟩ := Cert.Mm.exists_nat2 (m ((c.tc : Thread Cert.Kernel3Ideal.nD Cert.Kernel3Ideal.τ).loc Cert.Kernel3Ideal.main_arg0) : Cert.Kernel3Ideal.S2048x2048.Idx → EReal)
  obtain ⟨B, hB⟩ := Cert.Mm.exists_nat2 (m ((c.tc : Thread Cert.Kernel3Ideal.nD Cert.Kernel3Ideal.τ).loc Cert.Kernel3Ideal.main_arg1) : Cert.Kernel3Ideal.S2048x10752.Idx → EReal)
  exact ⟨e.trans (funext fun i => (Cert.Reference3Ideal.Mm.out_at _ _ A B hA hB i).trans (Cert.Kernel3Ideal.Mm.G2_at m c A B hA hB i).symm), k⟩

end Cert.Proof.P3

end
-- ==== Proof.Mm.P4.lean ====
/-
  The gradient of the weights of the down projection: each run of 4 grid points adds up one block of the product.
-/
module

public import proofs.«01_k».proof.Defs
public import proofs.«01_k».proof.Proof.Mm.Sums
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Quiescent
public import Idealize.ShloMosaic.Lib.Pipeline.ReadBack

@[expose] public section

noncomputable section

namespace Cert.Kernel4Ideal.Mm

open Cert.Kernel4Ideal Cert.Kernel4Ideal.Gen Cert.Kernel4Ideal.Value Cert.Mm
open Idealize.ShloMosaic Idealize.ShloMosaic.TcCoe Idealize.ShloMosaic.ValueIdx Idealize.SL.Sem
open Finset (range)

theorem step (acc : Vec Ideal S1408x2048 .f32) (x : Vec Ideal S512x1408 .bf16) (y : Vec Ideal S512x2048 .bf16) (r : Fin 1408) (c : Fin 2048) :
    k0_pay2 acc x y (ix2 r c) = acc (ix2 r c) + ∑ k : Fin 512, x (ix2 k r) * y (ix2 k c) := by
  unfold k0_pay2
  simp only [shapeCast_self]
  exact congrArg (fun v : EReal => acc (ix2 r c) + v) (entry_tn x y r c)

theorem start (r : Fin 1408) (c : Fin 2048) : k0_pay1 (F := Ideal) (ix2 r c) = 0 := by
  unfold k0_pay1
  simp only [shapeCast_self]
  exact Ideal.ofBits_zero_f32

theorem idx0 : ∀ t : Fin grid0.N, win0_0.index t (0 : Fin 2) = t.val % 4 ∧ win0_0.index t (1 : Fin 2) = t.val / 4 / 1 := by decide +kernel
theorem idx1 : ∀ t : Fin grid0.N, win0_1.index t (0 : Fin 2) = t.val % 4 ∧ win0_1.index t (1 : Fin 2) = t.val / 4 % 1 := by decide +kernel

variable (m : (ℓ : Loc nD τ sig) → Buf (Elt Ideal) ℓ) (c : Dev nD) (A : ℕ → ℕ → EReal) (B : ℕ → ℕ → EReal)
  (hA : ∀ i, (m ((c : Thread nD τ).loc main_arg0) : S2048x5632.Idx → EReal) i = A (i 0).val (i 1).val)
  (hB : ∀ i, (m ((c : Thread nD τ).loc main_arg1) : S2048x2048.Idx → EReal) i = B (i 0).val (i 1).val)

/-- The block of the left operand at point `t`. -/
abbrev left (t : Fin cfg0.N) : S512x1408.Idx → EReal := iblk m c 0 t

/-- The block of the right operand at point `t`. -/
abbrev right (t : Fin cfg0.N) : S512x2048.Idx → EReal := iblk m c 1 t

include hA in
theorem block0 (t : Fin cfg0.N) (r : Fin 1408) (k : Fin 512) :
    left m c t (ix2 k r) = A (t.val % 4 * 512 + k.val) (1408 * (t.val / 4 / 1) + r.val) := by
  unfold left iblk
  rw [View.read_apply]
  show V m c main_arg0 _ = _
  rw [V_main_arg0]
  refine (hA _).trans (congrArg₂ A ?_ ?_)
  · show win0_0.index t (0 : Fin 2) * 512 + 1 * k.val = _
    rw [(idx0 t).1]; omega
  · show win0_0.index t (1 : Fin 2) * 1408 + 1 * r.val = _
    rw [(idx0 t).2]; omega

include hB in
theorem block1 (t : Fin cfg0.N) (j : Fin 2048) (k : Fin 512) :
    right m c t (ix2 k j) = B (t.val % 4 * 512 + k.val) (2048 * (t.val / 4 % 1) + j.val) := by
  unfold right iblk
  rw [View.read_apply]
  show V m c main_arg1 _ = _
  rw [V_main_arg1]
  refine (hB _).trans (congrArg₂ B ?_ ?_)
  · show win0_1.index t (0 : Fin 2) * 512 + 1 * k.val = _
    rw [(idx1 t).1]; omega
  · show win0_1.index t (1 : Fin 2) * 2048 + 1 * j.val = _
    rw [(idx1 t).2]; omega

theorem first (t : Fin cfg0.N) (h0 : t.val % 4 = 0) (r : Fin 1408) (j : Fin 2048) :
    (outsAt0 m c t.val t.isLt).2 (ix2 r j) = ∑ k : Fin 512, left m c t (ix2 k r) * right m c t (ix2 k j) := by
  rw [outsAt0_A m c t h0 (by omega)]
  frame_out
  rw [step, start, zero_add]

theorem next (t : Fin cfg0.N) (h0 : ¬t.val % 4 = 0) (r : Fin 1408) (j : Fin 2048) :
    (outsAt0 m c t.val t.isLt).2 (ix2 r j) = (outsAt0 m c (t.val - 1) (Nat.lt_of_le_of_lt (Nat.sub_le _ _) t.isLt)).2 (ix2 r j)
      + ∑ k : Fin 512, left m c t (ix2 k r) * right m c t (ix2 k j) := by
  by_cases h1 : t.val % 4 = 3
  · rw [outsAt0_C m c t h0 h1]
    frame_out
    rw [read_unread_whole, step]
  · rw [outsAt0_B m c t h0 h1]
    frame_out
    rw [read_unread_whole, step]

/-- At the last point of a run the output is the scratch. -/
theorem out_C (t : Fin cfg0.N) (h1 : t.val % 4 = 3) : (outsAt0 m c t.val t.isLt).1 = (outsAt0 m c t.val t.isLt).2 := by
  rw [outsAt0_C m c t (by omega) h1]
  frame_out
  rfl

theorem G2_last (i : S5632x2048.Idx) (n : ℕ) (h : n < cfg0.N) (hn : n = 4 * run2Of i + 3) : G2 m c i = (outsAt0 m c n h).2 (loc2Of i) := by
  subst hn
  refine Eq.trans ?_ (congrFun (out_C m c ⟨_, h⟩ (by show (4 * run2Of i + 3) % 4 = 3; omega)) _)
  unfold G2
  rw [dif_pos (show pt2Of i < cfg0.N from h), outsAt0_sweep]

include hA hB in
theorem G2_at (i : S5632x2048.Idx) : G2 m c i = ∑ k ∈ range 2048, A k (i 0).val * B k (i 1).val := by
  have h0 : (i 0).val < 5632 := (i 0).isLt
  have h1 : (i 1).val < 2048 := (i 1).isLt
  have h : 4 * (1 * ((i 0).val / 1408) + (i 1).val / 2048) + (4 - 1) < cfg0.N := Nat.lt_of_lt_of_eq (show _ < 16 by omega) N_0.symm
  have hl : loc2Of i = ix2 ⟨(i 0).val % 1408, Nat.mod_lt _ (by decide)⟩ ⟨(i 1).val % 2048, Nat.mod_lt _ (by decide)⟩ := by
    funext a
    match a with
    | ⟨0, _⟩ => rfl
    | ⟨1, _⟩ => rfl
  rw [G2_last m c i _ h (by show _ = 4 * (1 * ((i 0).val / 1408 - 0) + 1 * ((i 1).val / 2048 - 0)) + 3; omega), hl]
  exact tiled_at 4 1 (by decide) (by decide) (by decide) (fun i k => A k i) (fun j k => B k j) (fun t r k => left m c t (ix2 k r)) (fun t j k => right m c t (ix2 k j))
    (fun n h r j => (outsAt0 m c n h).2 (ix2 r j)) (block0 m c A hA) (block1 m c B hB) (first m c) (next m c) _ _ (by omega) h

end Cert.Kernel4Ideal.Mm

namespace Cert.Reference4Ideal.Mm

open Cert.Reference4Ideal Cert.Reference4Ideal.Gen Cert.Reference4Ideal.Read Cert.Mm
open Idealize.ShloMosaic Idealize.ShloMosaic.TcCoe Idealize.ShloMosaic.ValueIdx Idealize.SL.Sem
open Finset (range)

theorem out_at (x : FVec Ideal S2048x5632 .bf16) (y : FVec Ideal S2048x2048 .bf16) (A : ℕ → ℕ → EReal) (B : ℕ → ℕ → EReal)
    (hA : ∀ i, x i = A (i 0).val (i 1).val) (hB : ∀ i, y i = B (i 0).val (i 1).val) (i : S5632x2048.Idx) :
    val_main_v6 (F := Ideal) x y i = ∑ k ∈ range 2048, A k (i 0).val * B k (i 1).val := by
  show val_main_v5 (F := Ideal) x y i = _
  rw [val_main_v5_apply, val_main_v4_apply, Finset.sum_range]
  refine Finset.sum_congr rfl fun k _ => (mul_comm _ _).trans ?_
  exact congrArg₂ (fun u v : EReal => u * v) (hA _) (hB _)

end Cert.Reference4Ideal.Mm

namespace Cert.Proof.P4

open Idealize.ShloMosaic Idealize.SL.Sem

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono
    (fun _ h => ⟨fun c => (h c).2, sem_eq_zero_of_no_sems (by decide) _⟩) (Cert.Reference4Ideal.Value.run m ρ)

theorem algebraic : Cert.algebraic_Kernel4Ideal_Reference4Ideal := by
  intro m g m' g' _ harg
  refine ⟨fun c => Cert.Kernel4Ideal.Value.G2 m c, Cert.Kernel4Ideal.Value.run m g, ?_⟩
  refine (θ_run Cert.Reference4Ideal.defs _ _).mono (fun r h c => ?_) (Cert.Reference4Ideal.Value.run m' g')
  obtain ⟨e, k⟩ := h c
  rw [Cert.Reference4Ideal.Read.val_main_v6_eq, (harg c).1, (harg c).2] at e
  obtain ⟨A, hA⟩ := Cert.Mm.exists_nat2 (m ((c.tc : Thread Cert.Kernel4Ideal.nD Cert.Kernel4Ideal.τ).loc Cert.Kernel4Ideal.main_arg0) : Cert.Kernel4Ideal.S2048x5632.Idx → EReal)
  obtain ⟨B, hB⟩ := Cert.Mm.exists_nat2 (m ((c.tc : Thread Cert.Kernel4Ideal.nD Cert.Kernel4Ideal.τ).loc Cert.Kernel4Ideal.main_arg1) : Cert.Kernel4Ideal.S2048x2048.Idx → EReal)
  exact ⟨e.trans (funext fun i => (Cert.Reference4Ideal.Mm.out_at _ _ A B hA hB i).trans (Cert.Kernel4Ideal.Mm.G2_at m c A B hA hB i).symm), k⟩

end Cert.Proof.P4

end
-- ==== Proof.Mm.P5.lean ====
/-
  The gradient of the gate and up projections' weights, which lie in a stack of chunks: each run of 4 grid points adds up one block of the product.
-/
module

public import proofs.«01_k».proof.Defs
public import proofs.«01_k».proof.Proof.Mm.Sums
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Quiescent
public import Idealize.ShloMosaic.Lib.Pipeline.ValueKit.Partial
public import Idealize.ShloMosaic.Lib.Pipeline.ReadBack

@[expose] public section

noncomputable section

namespace Cert.Kernel5Ideal.Mm

open Cert.Kernel5Ideal Cert.Kernel5Ideal.Gen Cert.Kernel5Ideal.Value Cert.Mm
open Idealize.ShloMosaic Idealize.ShloMosaic.TcCoe Idealize.ShloMosaic.ValueIdx Idealize.SL.Sem
open Finset (range)

theorem step (acc : Vec Ideal S2048x1408 .f32) (x : Vec Ideal S512x2048 .bf16) (y : Vec Ideal S512x1408 .bf16) (r : Fin 2048) (c : Fin 1408) :
    k0_pay2 acc x y (ix2 r c) = acc (ix2 r c) + ∑ k : Fin 512, x (ix2 k r) * y (ix2 k c) := by
  unfold k0_pay2
  simp only [shapeCast_self]
  exact congrArg (fun v : EReal => acc (ix2 r c) + v) (entry_tn x y r c)

theorem start (r : Fin 2048) (c : Fin 1408) : k0_pay1 (F := Ideal) (ix2 r c) = 0 := by
  unfold k0_pay1
  simp only [shapeCast_self]
  exact Ideal.ofBits_zero_f32

theorem idx0 : ∀ t : Fin grid0.N, win0_0.index t (0 : Fin 2) = t.val % 4 ∧ win0_0.index t (1 : Fin 2) = t.val / 4 / 8 := by decide +kernel
theorem idx1 : ∀ t : Fin grid0.N, win0_1.index t (0 : Fin 2) = t.val % 4 ∧ win0_1.index t (1 : Fin 2) = t.val / 4 % 8 := by decide +kernel

variable (m : (ℓ : Loc nD τ sig) → Buf (Elt Ideal) ℓ) (c : Dev nD) (A : ℕ → ℕ → EReal) (B : ℕ → ℕ → EReal)
  (hA : ∀ i, (m ((c : Thread nD τ).loc main_arg0) : S2048x2048.Idx → EReal) i = A (i 0).val (i 1).val)
  (hB : ∀ i, (m ((c : Thread nD τ).loc main_arg1) : S2048x11264.Idx → EReal) i = B (i 0).val (i 1).val)

/-- The block of the left operand at point `t`. -/
abbrev left (t : Fin cfg0.N) : S512x2048.Idx → EReal := iblk m c 0 t

/-- The block of the right operand at point `t`. -/
abbrev right (t : Fin cfg0.N) : S512x1408.Idx → EReal := iblk m c 1 t

include hA in
theorem block0 (t : Fin cfg0.N) (r : Fin 2048) (k : Fin 512) :
    left m c t (ix2 k r) = A (t.val % 4 * 512 + k.val) (2048 * (t.val / 4 / 8) + r.val) := by
  unfold left iblk
  rw [View.read_apply]
  show V m c main_arg0 _ = _
  rw [V_main_arg0]
  refine (hA _).trans (congrArg₂ A ?_ ?_)
  · show win0_0.index t (0 : Fin 2) * 512 + 1 * k.val = _
    rw [(idx0 t).1]; omega
  · show win0_0.index t (1 : Fin 2) * 2048 + 1 * r.val = _
    rw [(idx0 t).2]; omega

include hB in
theorem block1 (t : Fin cfg0.N) (j : Fin 1408) (k : Fin 512) :
    right m c t (ix2 k j) = B (t.val % 4 * 512 + k.val) (1408 * (t.val / 4 % 8) + j.val) := by
  unfold right iblk
  rw [View.read_apply]
  show V m c main_arg1 _ = _
  rw [V_main_arg1]
  refine (hB _).trans (congrArg₂ B ?_ ?_)
  · show win0_1.index t (0 : Fin 2) * 512 + 1 * k.val = _
    rw [(idx1 t).1]; omega
  · show win0_1.index t (1 : Fin 2) * 1408 + 1 * j.val = _
    rw [(idx1 t).2]; omega

theorem first (t : Fin cfg0.N) (h0 : t.val % 4 = 0) (r : Fin 2048) (j : Fin 1408) :
    (outsAt0 m c t.val t.isLt).2 (ix2 r j) = ∑ k : Fin 512, left m c t (ix2 k r) * right m c t (ix2 k j) := by
  rw [outsAt0_A m c t h0 (by omega)]
  frame_out
  rw [step, start, zero_add]

theorem next (t : Fin cfg0.N) (h0 : ¬t.val % 4 = 0) (r : Fin 2048) (j : Fin 1408) :
    (outsAt0 m c t.val t.isLt).2 (ix2 r j) = (outsAt0 m c (t.val - 1) (Nat.lt_of_le_of_lt (Nat.sub_le _ _) t.isLt)).2 (ix2 r j)
      + ∑ k : Fin 512, left m c t (ix2 k r) * right m c t (ix2 k j) := by
  by_cases h1 : t.val % 4 = 3
  · rw [outsAt0_C m c t h0 h1]
    frame_out
    rw [read_unread_whole, step]
  · rw [outsAt0_B m c t h0 h1]
    frame_out
    rw [read_unread_whole, step]

include hA hB in
theorem acc_sum (q n : ℕ) (hq : n = 4 * q + (4 - 1)) (h : n < cfg0.N) (r : Fin 2048) (j : Fin 1408) :
    (outsAt0 m c n h).2 (ix2 r j) = ∑ k ∈ range (4 * 512), A k (2048 * (q / 8) + r.val) * B k (1408 * (q % 8) + j.val) :=
  tiled 4 8 (by decide) (fun i k => A k i) (fun j k => B k j) (fun t r k => left m c t (ix2 k r)) (fun t j k => right m c t (ix2 k j))
    (fun n h r j => (outsAt0 m c n h).2 (ix2 r j)) (block0 m c A hA) (block1 m c B hB) (first m c) (next m c) q n hq h r j

theorem stack (v : Vec Ideal S2048x1408 .f32) (r : Fin 2048) (j : Fin 1408) :
    (k0_pay3 v : S1x2048x1408.Idx → EReal) (ix3 0 r j) = (v : S2048x1408.Idx → EReal) (ix2 r j) := by
  unfold k0_pay3
  exact stacked (truncf .bf16 (v : FVec Ideal S2048x1408 .f32) bitsLt_bf16_f32 : FVec Ideal S2048x1408 .bf16) _ r j

/-- At the last point of a run the output is the scratch. -/
theorem out_C (t : Fin cfg0.N) (h1 : t.val % 4 = 3) (r : Fin 2048) (j : Fin 1408) :
    (outsAt0 m c t.val t.isLt).1 (ix3 0 r j) = (outsAt0 m c t.val t.isLt).2 (ix2 r j) := by
  rw [outsAt0_C m c t (by omega) h1]
  frame_out
  rw [stack]

/-- The gradient at an index of the stack of chunks. -/
abbrev G (A : ℕ → ℕ → EReal) (B : ℕ → ℕ → EReal) : S4x2048x2816.Idx → EReal := fun i =>
  ∑ k ∈ range 2048, A k (i 1).val * B k (2816 * (i 0).val + (i 2).val % 2816)

theorem idx2 : ∀ t : Fin grid0.N, win0_2.index t (0 : Fin 3) = t.val / 8 ∧ win0_2.index t (1 : Fin 3) = 0 ∧ win0_2.index t (2 : Fin 3) = t.val / 4 % 2 := by decide +kernel

include hA hB in
theorem at_flush (t : Fin cfg0.N) (hf : (cfg0.win 2).flush t = true) (y : S1x2048x1408.Idx) :
    (outsAt0 m c t.val t.isLt).1 ((cfg0.win 2).xinj (grid0.coords t) y) = G A B (((cfg0.win 2).blk t).view.emb y) := by
  have h1 : t.val % 4 = 3 := (flush0_2 t).mp hf
  have hN : t.val < 32 := lt_of_lt_of_eq t.isLt (show cfg0.N = 32 from N_0)
  obtain ⟨e0, e1, e2⟩ := idx2 t
  have hy0 : (y 0).val < 1 := (y 0).isLt
  have hy1 : (y 1).val < 2048 := (y 1).isLt
  have hy2 : (y 2).val < 1408 := (y 2).isLt
  have hx : (cfg0.win 2).xinj (grid0.coords t) y = ix3 0 ⟨(y 1).val, hy1⟩ ⟨(y 2).val, hy2⟩ := by
    funext a
    apply Fin.ext
    match a with
    | ⟨0, _⟩ => show (y 0).val = 0; omega
    | ⟨1, _⟩ => rfl
    | ⟨2, _⟩ => rfl
  have hb0 : (((cfg0.win 2).blk t).view.emb y 0).val = win0_2.index t (0 : Fin 3) * 1 + 1 * (y 0).val := rfl
  have hb1 : (((cfg0.win 2).blk t).view.emb y 1).val = win0_2.index t (1 : Fin 3) * 2048 + 1 * (y 1).val := rfl
  have hb2 : (((cfg0.win 2).blk t).view.emb y 2).val = win0_2.index t (2 : Fin 3) * 1408 + 1 * (y 2).val := rfl
  rw [hx, out_C m c t h1]
  refine (acc_sum m c A B hA hB (t.val / 4) t.val (by omega) t.isLt _ _).trans (Finset.sum_congr rfl fun k _ => congrArg₂ (fun u v : EReal => u * v) (congrArg (A k) ?_) (congrArg (B k) ?_))
  · show 2048 * (t.val / 4 / 8) + (y 1).val = (((cfg0.win 2).blk t).view.emb y 1).val
    rw [hb1, e1]; omega
  · show 1408 * (t.val / 4 % 8) + (y 2).val = 2816 * (((cfg0.win 2).blk t).view.emb y 0).val + (((cfg0.win 2).blk t).view.emb y 2).val % 2816
    rw [hb0, hb2, e0, e2]; omega

include hA hB in
theorem final_G : (dats m 0 c).arrAt 2 cfg0.N = G A B :=
  (dats m 0 c).arrAt_eq_of_covers 2 _ (by decide +kernel) fun t hf y => at_flush m c A B hA hB t hf y

end Cert.Kernel5Ideal.Mm

namespace Cert.Reference5Ideal.Mm

open Cert.Reference5Ideal Cert.Reference5Ideal.Gen Cert.Reference5Ideal.Read Cert.Mm
open Idealize.ShloMosaic Idealize.ShloMosaic.TcCoe Idealize.ShloMosaic.ValueIdx Idealize.SL.Sem
open Finset (range)

/-- The gradient in chunks. -/
theorem grad_at (x : FVec Ideal S2048x2048 .bf16) (y : FVec Ideal S2048x11264 .bf16) (A B : ℕ → ℕ → EReal)
    (hA : ∀ i, x i = A (i 0).val (i 1).val) (hB : ∀ i, y i = B (i 0).val (i 1).val) (i : S4x2048x2816.Idx) :
    val_main_v10 (F := Ideal) x y i = ∑ k ∈ range 2048, A k (i 1).val * B k (2816 * (i 0).val + (i 2).val) := by
  show val_main_v9 (F := Ideal) x y i = _
  have h0 : (i 0).val < 4 := (i 0).isLt
  have h1 : (i 1).val < 2048 := (i 1).isLt
  have h2 : (i 2).val < 2816 := (i 2).isLt
  rw [val_main_v9_apply, val_main_v8_apply, val_main_v7_apply, val_main_v6_apply]
  refine Eq.trans ?_ (Finset.sum_range _).symm
  refine Finset.sum_congr rfl fun k _ => (mul_comm _ _).trans ?_
  refine congrArg₂ (fun u v : EReal => u * v) ((hA _).trans (congrArg (A k) ?_)) ((hB _).trans (congrArg (B k) ?_))
  · show (((i 1).val * 4 + (i 0).val) * 2816 + (i 2).val) / 11264 = (i 1).val
    omega
  · show (((i 1).val * 4 + (i 0).val) * 2816 + (i 2).val) % 11264 = 2816 * (i 0).val + (i 2).val
    omega

theorem out_at (x : FVec Ideal S2048x2048 .bf16) (y : FVec Ideal S2048x11264 .bf16) (A B : ℕ → ℕ → EReal)
    (hA : ∀ i, x i = A (i 0).val (i 1).val) (hB : ∀ i, y i = B (i 0).val (i 1).val) (i : S4x2048x2816.Idx) :
    val_main_v10 (F := Ideal) x y i = Cert.Kernel5Ideal.Mm.G A B i := by
  have h2 : (i 2).val < 2816 := (i 2).isLt
  refine (grad_at x y A B hA hB i).trans (Finset.sum_congr rfl fun k _ => congrArg (fun l => A k (i 1).val * B k (2816 * (i 0).val + l)) ?_)
  exact (Nat.mod_eq_of_lt h2).symm

end Cert.Reference5Ideal.Mm

namespace Cert.Proof.P5

open Idealize.ShloMosaic Idealize.SL.Sem

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono
    (fun _ h => ⟨fun c => (h c).2, sem_eq_zero_of_no_sems (by decide) _⟩) (Cert.Reference5Ideal.Value.run m ρ)

theorem algebraic : Cert.algebraic_Kernel5Ideal_Reference5Ideal := by
  intro m g m' g' _ harg
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun r h c => ?_) (Cert.Reference5Ideal.Value.run m' g')
  obtain ⟨e, k⟩ := h c
  rw [Cert.Reference5Ideal.Read.val_main_v10_eq, (harg c).1, (harg c).2.1] at e
  obtain ⟨A, hA⟩ := Cert.Mm.exists_nat2 (m ((c.tc : Thread Cert.Kernel5Ideal.nD Cert.Kernel5Ideal.τ).loc Cert.Kernel5Ideal.main_arg0) : Cert.Kernel5Ideal.S2048x2048.Idx → EReal)
  obtain ⟨B, hB⟩ := Cert.Mm.exists_nat2 (m ((c.tc : Thread Cert.Kernel5Ideal.nD Cert.Kernel5Ideal.τ).loc Cert.Kernel5Ideal.main_arg1) : Cert.Kernel5Ideal.S2048x11264.Idx → EReal)
  exact ⟨e.trans ((funext fun i => Cert.Reference5Ideal.Mm.out_at _ _ A B hA hB i).trans (Cert.Kernel5Ideal.Mm.final_G m c A B hA hB).symm), k⟩

end Cert.Proof.P5

end
-- ==== Proof.Mm.P6.lean ====
/-
  The gradient of the product with the gate and up projections, in its left operand: each run of 8 grid points adds up one block of the product.
-/
module

public import proofs.«01_k».proof.Defs
public import proofs.«01_k».proof.Proof.Mm.Sums
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Quiescent

@[expose] public section

noncomputable section

namespace Cert.Kernel6Ideal.Mm

open Cert.Kernel6Ideal Cert.Kernel6Ideal.Gen Cert.Kernel6Ideal.Value Cert.Mm
open Idealize.ShloMosaic Idealize.ShloMosaic.TcCoe Idealize.ShloMosaic.ValueIdx Idealize.SL.Sem
open Finset (range)

theorem step (acc : Vec Ideal S2048x1024 .f32) (x : Vec Ideal S2048x1408 .bf16) (y : Vec Ideal S1x1024x1408 .bf16) (r : Fin 2048) (c : Fin 1024) :
    k0_pay2 acc x y (ix2 r c) = acc (ix2 r c) + ∑ k : Fin 1408, x (ix2 r k) * y (ix3 0 c k) := by
  unfold k0_pay2
  simp only [shapeCast_self]
  exact congrArg (fun v : EReal => acc (ix2 r c) + v) ((entry_nt x _ r c).trans (Finset.sum_congr rfl fun k _ => congrArg (fun v : EReal => x (ix2 r k) * v) (unstack y _ c k)))

theorem start (r : Fin 2048) (c : Fin 1024) : k0_pay1 (F := Ideal) (ix2 r c) = 0 := Ideal.ofBits_zero_f32

theorem idx0 : ∀ t : Fin grid0.N, win0_0.index t (0 : Fin 2) = t.val / 8 / 2 ∧ win0_0.index t (1 : Fin 2) = t.val % 8 := by decide +kernel
theorem idx1 : ∀ t : Fin grid0.N, win0_1.index t (0 : Fin 3) = t.val % 8 / 2 ∧ win0_1.index t (1 : Fin 3) = t.val / 8 % 2 ∧ win0_1.index t (2 : Fin 3) = (t.val % 8) % 2 := by decide +kernel

variable (m : (ℓ : Loc nD τ sig) → Buf (Elt Ideal) ℓ) (c : Dev nD) (A : ℕ → ℕ → EReal) (B : ℕ → ℕ → ℕ → EReal)
  (hA : ∀ i, (m ((c : Thread nD τ).loc main_arg0) : S2048x11264.Idx → EReal) i = A (i 0).val (i 1).val)
  (hB : ∀ i, (m ((c : Thread nD τ).loc main_arg1) : S4x2048x2816.Idx → EReal) i = B (i 0).val (i 1).val (i 2).val)

/-- The block of the left operand at point `t`. -/
abbrev left (t : Fin cfg0.N) : S2048x1408.Idx → EReal := iblk m c 0 t

/-- The block of the right operand at point `t`. -/
abbrev right (t : Fin cfg0.N) : S1x1024x1408.Idx → EReal := iblk m c 1 t

include hA in
theorem block0 (t : Fin cfg0.N) (r : Fin 2048) (k : Fin 1408) :
    left m c t (ix2 r k) = A (2048 * (t.val / 8 / 2) + r.val) (t.val % 8 * 1408 + k.val) := by
  unfold left iblk
  rw [View.read_apply]
  show V m c main_arg0 _ = _
  rw [V_main_arg0]
  refine (hA _).trans (congrArg₂ A ?_ ?_)
  · show win0_0.index t (0 : Fin 2) * 2048 + 1 * r.val = _
    rw [(idx0 t).1]; omega
  · show win0_0.index t (1 : Fin 2) * 1408 + 1 * k.val = _
    rw [(idx0 t).2]; omega

include hB in
theorem block1 (t : Fin cfg0.N) (j : Fin 1024) (k : Fin 1408) :
    right m c t (ix3 0 j k) = B ((t.val % 8 * 1408 + k.val) / 2816) (1024 * (t.val / 8 % 2) + j.val) ((t.val % 8 * 1408 + k.val) % 2816) := by
  unfold right iblk
  rw [View.read_apply]
  show V m c main_arg1 _ = _
  rw [V_main_arg1]
  refine (hB _).trans (congr3 B ?_ ?_ ?_)
  · show win0_1.index t (0 : Fin 3) * 1 + 1 * 0 = _
    rw [(idx1 t).1]; omega
  · show win0_1.index t (1 : Fin 3) * 1024 + 1 * j.val = _
    rw [(idx1 t).2.1]; omega
  · show win0_1.index t (2 : Fin 3) * 1408 + 1 * k.val = _
    rw [(idx1 t).2.2]; omega

theorem first (t : Fin cfg0.N) (h0 : t.val % 8 = 0) (r : Fin 2048) (j : Fin 1024) :
    outsAt0 m c t.val t.isLt (ix2 r j) = ∑ k : Fin 1408, left m c t (ix2 r k) * right m c t (ix3 0 j k) := by
  rw [outsAt0_A m c t h0, out_A_2_eq, step, start, zero_add]

theorem next (t : Fin cfg0.N) (h0 : ¬t.val % 8 = 0) (r : Fin 2048) (j : Fin 1024) :
    outsAt0 m c t.val t.isLt (ix2 r j) = outsAt0 m c (t.val - 1) (Nat.lt_of_le_of_lt (Nat.sub_le _ _) t.isLt) (ix2 r j)
      + ∑ k : Fin 1408, left m c t (ix2 r k) * right m c t (ix3 0 j k) := by
  rw [outsAt0_B m c t h0, out_B_2_eq, step]

theorem G2_last (i : S2048x2048.Idx) (n : ℕ) (h : n < cfg0.N) (hn : n = 8 * run2Of i + 7) : G2 m c i = outsAt0 m c n h (loc2Of i) := by
  subst hn
  unfold G2
  rw [dif_pos h]
  refine congrFun ((outsAt_2_eq m c ⟨8 * run2Of i + 7, h⟩).trans (accAt_congr _ _ ?_ ?_ _ _)).symm _
  · show 8 * ((8 * run2Of i + 7) / 8) = 8 * run2Of i
    omega
  · show (8 * run2Of i + 7) % 8 = 7
    omega

include hA hB in
theorem G2_at (i : S2048x2048.Idx) : G2 m c i = ∑ k ∈ range 11264, A (i 0).val k * B (k / 2816) (i 1).val (k % 2816) := by
  have h0 : (i 0).val < 2048 := (i 0).isLt
  have h1 : (i 1).val < 2048 := (i 1).isLt
  have h : 8 * (2 * ((i 0).val / 2048) + (i 1).val / 1024) + (8 - 1) < cfg0.N := Nat.lt_of_lt_of_eq (show _ < 16 by omega) N_0.symm
  have hl : loc2Of i = ix2 ⟨(i 0).val % 2048, Nat.mod_lt _ (by decide)⟩ ⟨(i 1).val % 1024, Nat.mod_lt _ (by decide)⟩ := by
    funext a
    match a with
    | ⟨0, _⟩ => rfl
    | ⟨1, _⟩ => rfl
  rw [G2_last m c i _ h (by show _ = 8 * (2 * ((i 0).val / 2048 - 0) + 1 * ((i 1).val / 1024 - 0)) + 7; omega), hl]
  exact tiled_at 8 2 (by decide) (by decide) (by decide) (fun i k => A i k) (fun j k => B (k / 2816) j (k % 2816)) (fun t r k => left m c t (ix2 r k)) (fun t j k => right m c t (ix3 0 j k))
    (fun n h r j => outsAt0 m c n h (ix2 r j)) (block0 m c A hA) (block1 m c B hB) (first m c) (next m c) _ _ (by omega) h

end Cert.Kernel6Ideal.Mm

namespace Cert.Reference6Ideal.Mm

open Cert.Reference6Ideal Cert.Reference6Ideal.Gen Cert.Reference6Ideal.Read Cert.Mm
open Idealize.ShloMosaic Idealize.ShloMosaic.TcCoe Idealize.ShloMosaic.ValueIdx Idealize.SL.Sem
open Finset (range)

theorem out_at (x : FVec Ideal S2048x11264 .bf16) (y : FVec Ideal S4x2048x2816 .bf16) (A : ℕ → ℕ → EReal) (B : ℕ → ℕ → ℕ → EReal)
    (hA : ∀ i, x i = A (i 0).val (i 1).val) (hB : ∀ i, y i = B (i 0).val (i 1).val (i 2).val) (i : S2048x2048.Idx) :
    val_main_v6 (F := Ideal) x y i = ∑ k ∈ range 11264, A (i 0).val k * B (k / 2816) (i 1).val (k % 2816) := by
  rw [val_main_v6_apply, Finset.sum_range]
  refine Finset.sum_congr rfl fun k _ => ?_
  refine congrArg₂ (fun u v : EReal => u * v) (hA _) ?_
  have hk : k.val < 11264 := k.isLt
  have hi : (i 1).val < 2048 := (i 1).isLt
  refine (val_main_v3_apply (F := Ideal) y _).trans ((val_main_v2_apply (F := Ideal) y _).trans ((hB _).trans ?_))
  refine congr3 B ?_ ?_ ?_
  · show ((i 1).val * 11264 + k.val) / 2816 % 4 = k.val / 2816
    omega
  · show ((i 1).val * 11264 + k.val) / 11264 = (i 1).val
    omega
  · show ((i 1).val * 11264 + k.val) % 2816 = k.val % 2816
    omega

end Cert.Reference6Ideal.Mm

namespace Cert.Proof.P6

open Idealize.ShloMosaic Idealize.SL.Sem

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono
    (fun _ h => ⟨fun c => (h c).2, sem_eq_zero_of_no_sems (by decide) _⟩) (Cert.Reference6Ideal.Value.run m ρ)

theorem algebraic : Cert.algebraic_Kernel6Ideal_Reference6Ideal := by
  intro m g m' g' _ harg
  refine ⟨fun c => Cert.Kernel6Ideal.Value.G2 m c, Cert.Kernel6Ideal.Value.run m g, ?_⟩
  refine (θ_run Cert.Reference6Ideal.defs _ _).mono (fun r h c => ?_) (Cert.Reference6Ideal.Value.run m' g')
  obtain ⟨e, k⟩ := h c
  rw [Cert.Reference6Ideal.Read.val_main_v6_eq, (harg c).1, (harg c).2] at e
  obtain ⟨A, hA⟩ := Cert.Mm.exists_nat2 (m ((c.tc : Thread Cert.Kernel6Ideal.nD Cert.Kernel6Ideal.τ).loc Cert.Kernel6Ideal.main_arg0) : Cert.Kernel6Ideal.S2048x11264.Idx → EReal)
  obtain ⟨B, hB⟩ := Cert.Mm.exists_nat3 (m ((c.tc : Thread Cert.Kernel6Ideal.nD Cert.Kernel6Ideal.τ).loc Cert.Kernel6Ideal.main_arg1) : Cert.Kernel6Ideal.S4x2048x2816.Idx → EReal)
  exact ⟨e.trans (funext fun i => (Cert.Reference6Ideal.Mm.out_at _ _ A B hA hB i).trans (Cert.Kernel6Ideal.Mm.G2_at m c A B hA hB i).symm), k⟩

end Cert.Proof.P6

end
-- ==== Proof.Mm.P7.lean ====
/-
  The gradient of the gated activation, over the product with the down projection: each run of 4 grid points adds up one block of the product.
-/
module

public import proofs.«01_k».proof.Defs
public import proofs.«01_k».proof.Proof.Mm.Sums
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Sb.Spec
public import Idealize.ShloMosaic.Lib.Quiescent
public import Idealize.ShloMosaic.Lib.Pipeline.ReadBack

@[expose] public section

noncomputable section

namespace Cert.Kernel7Ideal.Mm

open Cert.Kernel7Ideal Cert.Kernel7Ideal.Gen Cert.Kernel7Ideal.Value Cert.Mm
open Idealize.ShloMosaic Idealize.ShloMosaic.TcCoe Idealize.ShloMosaic.ValueIdx Idealize.SL.Sem
open Finset (range)

theorem step (acc : Vec Ideal S1024x1408 .f32) (x : Vec Ideal S1024x512 .bf16) (y : Vec Ideal S1408x512 .bf16) (r : Fin 1024) (c : Fin 1408) :
    k0_pay2 acc x y (ix2 r c) = acc (ix2 r c) + ∑ k : Fin 512, x (ix2 r k) * y (ix2 c k) := by
  unfold k0_pay2
  simp only [shapeCast_self]
  exact congrArg (fun v : EReal => acc (ix2 r c) + v) (entry_nt x y r c)

theorem start (r : Fin 1024) (c : Fin 1408) : k0_pay1 (F := Ideal) (ix2 r c) = 0 := by
  unfold k0_pay1
  simp only [shapeCast_self]
  exact Ideal.ofBits_zero_f32

theorem idx0 : ∀ t : Fin grid0.N, win0_0.index t (0 : Fin 2) = t.val / 4 / 4 ∧ win0_0.index t (1 : Fin 2) = t.val % 4 := by decide +kernel
theorem idx1 : ∀ t : Fin grid0.N, win0_1.index t (0 : Fin 2) = t.val / 4 % 4 ∧ win0_1.index t (1 : Fin 2) = t.val % 4 := by decide +kernel

variable (m : (ℓ : Loc nD τ sig) → Buf (Elt Ideal) ℓ) (c : Dev nD) (A : ℕ → ℕ → EReal) (B : ℕ → ℕ → EReal)
  (hA : ∀ i, (m ((c : Thread nD τ).loc main_arg0) : S2048x2048.Idx → EReal) i = A (i 0).val (i 1).val)
  (hB : ∀ i, (m ((c : Thread nD τ).loc main_arg1) : S5632x2048.Idx → EReal) i = B (i 0).val (i 1).val)

/-- The block of the left operand at point `t`. -/
abbrev left (t : Fin cfg0.N) : S1024x512.Idx → EReal := iblk m c 0 t

/-- The block of the right operand at point `t`. -/
abbrev right (t : Fin cfg0.N) : S1408x512.Idx → EReal := iblk m c 1 t

include hA in
theorem block0 (t : Fin cfg0.N) (r : Fin 1024) (k : Fin 512) :
    left m c t (ix2 r k) = A (1024 * (t.val / 4 / 4) + r.val) (t.val % 4 * 512 + k.val) := by
  unfold left iblk
  rw [View.read_apply]
  show V m c main_arg0 _ = _
  rw [V_main_arg0]
  refine (hA _).trans (congrArg₂ A ?_ ?_)
  · show win0_0.index t (0 : Fin 2) * 1024 + 1 * r.val = _
    rw [(idx0 t).1]; omega
  · show win0_0.index t (1 : Fin 2) * 512 + 1 * k.val = _
    rw [(idx0 t).2]; omega

include hB in
theorem block1 (t : Fin cfg0.N) (j : Fin 1408) (k : Fin 512) :
    right m c t (ix2 j k) = B (1408 * (t.val / 4 % 4) + j.val) (t.val % 4 * 512 + k.val) := by
  unfold right iblk
  rw [View.read_apply]
  show V m c main_arg1 _ = _
  rw [V_main_arg1]
  refine (hB _).trans (congrArg₂ B ?_ ?_)
  · show win0_1.index t (0 : Fin 2) * 1408 + 1 * j.val = _
    rw [(idx1 t).1]; omega
  · show win0_1.index t (1 : Fin 2) * 512 + 1 * k.val = _
    rw [(idx1 t).2]; omega

theorem first (t : Fin cfg0.N) (h0 : t.val % 4 = 0) (r : Fin 1024) (j : Fin 1408) :
    (outsAt0 m c t.val t.isLt).2 (ix2 r j) = ∑ k : Fin 512, left m c t (ix2 r k) * right m c t (ix2 j k) := by
  rw [outsAt0_A m c t h0 (by omega)]
  frame_out
  rw [step, start, zero_add]

theorem next (t : Fin cfg0.N) (h0 : ¬t.val % 4 = 0) (r : Fin 1024) (j : Fin 1408) :
    (outsAt0 m c t.val t.isLt).2 (ix2 r j) = (outsAt0 m c (t.val - 1) (Nat.lt_of_le_of_lt (Nat.sub_le _ _) t.isLt)).2 (ix2 r j)
      + ∑ k : Fin 512, left m c t (ix2 r k) * right m c t (ix2 j k) := by
  by_cases h1 : t.val % 4 = 3
  · rw [outsAt0_C m c t h0 h1]
    frame_out
    rw [read_unread_whole, step]
  · rw [outsAt0_B m c t h0 h1]
    frame_out
    rw [read_unread_whole, step]

include hA hB in
theorem acc_sum (q n : ℕ) (hq : n = 4 * q + (4 - 1)) (h : n < cfg0.N) (r : Fin 1024) (j : Fin 1408) :
    (outsAt0 m c n h).2 (ix2 r j) = ∑ k ∈ range (4 * 512), A (1024 * (q / 4) + r.val) k * B (1408 * (q % 4) + j.val) k :=
  tiled 4 4 (by decide) (fun i k => A i k) (fun j k => B j k) (fun t r k => left m c t (ix2 r k)) (fun t j k => right m c t (ix2 j k))
    (fun n h r j => (outsAt0 m c n h).2 (ix2 r j)) (block0 m c A hA) (block1 m c B hB) (first m c) (next m c) q n hq h r j

/-- The block of the saved products at point `t`. -/
abbrev kept (t : Fin cfg0.N) : S1024x2816.Idx → EReal := iblk m c 2 t

theorem gate_at (d g u : Vec Ideal S1024x1408 .f32) (x : S1024x1408.Idx) :
    (k0_pay4 d g u : S1024x1408.Idx → EReal) x = dgate ((d : S1024x1408.Idx → EReal) x) ((g : S1024x1408.Idx → EReal) x) ((u : S1024x1408.Idx → EReal) x) := by
  refine Eq.trans ?_ (congrArg₂ (fun s o : EReal => (d : S1024x1408.Idx → EReal) x * (u : S1024x1408.Idx → EReal) x * (s * (o + (g : S1024x1408.Idx → EReal) x * (o - s)))) (sig_kernel ((g : S1024x1408.Idx → EReal) x)) Ideal.ofBits_one_f32)
  rfl

theorem up_at (d g : Vec Ideal S1024x1408 .f32) (x : S1024x1408.Idx) :
    (k0_pay5 d g : S1024x1408.Idx → EReal) x = dup ((d : S1024x1408.Idx → EReal) x) ((g : S1024x1408.Idx → EReal) x) := by
  refine Eq.trans ?_ (congrArg (fun s : EReal => (d : S1024x1408.Idx → EReal) x * ((g : S1024x1408.Idx → EReal) x * s)) (sig_kernel ((g : S1024x1408.Idx → EReal) x)))
  rfl

/-- Two writes, one of each half of the columns, read in the second half … -/
theorem canon_right (w v : S1024x1408.Idx → EReal) (inb inb') (r : Fin 1024) (j : Fin 1408) :
    View.canon (Val := Elt Ideal) (e := .bf16) [⟨Rect.unit (s := S1024x2816) ![0, 1408] ![1024, 1408] inb, w⟩, ⟨Rect.unit (s := S1024x2816) ![0, 0] ![1024, 1408] inb', v⟩]
      (ix2 r ⟨1408 + j.val, by have := j.isLt; omega⟩) = w (ix2 r j) := by
  refine Eq.trans (congrArg _ ?_) (View.canon_cons_emb (Val := Elt Ideal) (e := .bf16) (Rect.unit (s := S1024x2816) ![0, 1408] ![1024, 1408] inb) w _ (ix2 r j))
  funext a
  apply Fin.ext
  match a with
  | ⟨0, _⟩ => show r.val = 0 + 1 * r.val; omega
  | ⟨1, _⟩ => show 1408 + j.val = 1408 + 1 * j.val; omega

/-- … and in the first. -/
theorem canon_left (w v : S1024x1408.Idx → EReal) (inb inb') (r : Fin 1024) (j : Fin 1408) :
    View.canon (Val := Elt Ideal) (e := .bf16) [⟨Rect.unit (s := S1024x2816) ![0, 1408] ![1024, 1408] inb, w⟩, ⟨Rect.unit (s := S1024x2816) ![0, 0] ![1024, 1408] inb', v⟩]
      (ix2 r ⟨j.val, by have := j.isLt; omega⟩) = v (ix2 r j) := by
  have hj : j.val < 1408 := j.isLt
  rw [View.canon_cons_of_not_mem]
  · refine Eq.trans (congrArg _ ?_) (View.canon_cons_emb (Val := Elt Ideal) (e := .bf16) (Rect.unit (s := S1024x2816) ![0, 0] ![1024, 1408] inb') v [] (ix2 r j))
    funext a
    apply Fin.ext
    match a with
    | ⟨0, _⟩ => show r.val = 0 + 1 * r.val; omega
    | ⟨1, _⟩ => show j.val = 0 + 1 * j.val; omega
  · rw [Rect.mem_set_unit]
    intro h
    have h1 : 1408 ≤ j.val := (h 1).1
    omega

/-- At the last point of a run the first half of the output's columns is the gate's gradient … -/
theorem gate_C (t : Fin cfg0.N) (h1 : t.val % 4 = 3) (r : Fin 1024) (j : Fin 1408) :
    (outsAt0 m c t.val t.isLt).1 (ix2 r ⟨j.val, by have := j.isLt; omega⟩)
      = dgate ((outsAt0 m c t.val t.isLt).2 (ix2 r j)) (kept m c t (ix2 r ⟨j.val, by have := j.isLt; omega⟩)) (kept m c t (ix2 r ⟨1408 + j.val, by have := j.isLt; omega⟩)) := by
  rw [outsAt0_C m c t (by omega) h1]
  frame_out
  refine (canon_left _ _ _ _ r j).trans ((gate_at _ _ _ (ix2 r j)).trans ?_)
  refine congr (congrArg₂ dgate rfl ?_) ?_
  · refine (half _ 0 (by omega) _ r j).trans (congrArg _ (congrArg (ix2 r) (Fin.ext ?_)))
    show 0 + j.val = j.val
    omega
  · exact half _ 1408 (by omega) _ r j

/-- … and the second half the other factor's. -/
theorem up_C (t : Fin cfg0.N) (h1 : t.val % 4 = 3) (r : Fin 1024) (j : Fin 1408) :
    (outsAt0 m c t.val t.isLt).1 (ix2 r ⟨1408 + j.val, by have := j.isLt; omega⟩)
      = dup ((outsAt0 m c t.val t.isLt).2 (ix2 r j)) (kept m c t (ix2 r ⟨j.val, by have := j.isLt; omega⟩)) := by
  rw [outsAt0_C m c t (by omega) h1]
  frame_out
  refine (canon_right _ _ _ _ r j).trans ((up_at _ _ (ix2 r j)).trans (congrArg₂ dup rfl ?_))
  refine (half _ 0 (by omega) _ r j).trans (congrArg _ (congrArg (ix2 r) (Fin.ext ?_)))
  show 0 + j.val = j.val
  omega

/-- The gradient of the activation. -/
abbrev H (A : ℕ → ℕ → EReal) (B : ℕ → ℕ → EReal) (r j : ℕ) : EReal := ∑ k ∈ range 2048, A r k * B j k

/-- Entry `j` of chunk `q` of row `r` of the result. -/
def entry (A : ℕ → ℕ → EReal) (B X : ℕ → ℕ → EReal) (r q j : ℕ) : EReal :=
  if j < 1408 then dgate (H A B r (1408 * q + j)) (X r (2816 * q + j)) (X r (2816 * q + (1408 + j)))
  else dup (H A B r (1408 * q + (j - 1408))) (X r (2816 * q + (j - 1408)))

/-- The result. -/
abbrev G (A : ℕ → ℕ → EReal) (B X : ℕ → ℕ → EReal) : S2048x11264.Idx → EReal := fun i =>
  entry A B X (i 0).val ((i 1).val / 2816) ((i 1).val % 2816)

include hA hB in
theorem acc_H (t : Fin cfg0.N) (h1 : t.val % 4 = 3) (r : Fin 1024) (j : Fin 1408) :
    (outsAt0 m c t.val t.isLt).2 (ix2 r j) = H A B (1024 * (t.val / 16) + r.val) (1408 * (t.val / 4 % 4) + j.val) := by
  refine (acc_sum m c A B hA hB (t.val / 4) t.val (by omega) t.isLt _ _).trans (Finset.sum_congr rfl fun k _ => congrArg₂ (fun u v : EReal => u * v) (congrArg₂ A ?_ rfl) rfl)
  show 1024 * (t.val / 4 / 4) + r.val = _
  omega

theorem idx2 : ∀ t : Fin grid0.N, win0_2.index t (0 : Fin 2) = t.val / 16 ∧ win0_2.index t (1 : Fin 2) = t.val / 4 % 4 := by decide +kernel
theorem idx3 : ∀ t : Fin grid0.N, win0_3.index t (0 : Fin 2) = t.val / 16 ∧ win0_3.index t (1 : Fin 2) = t.val / 4 % 4 := by decide +kernel

variable (X : ℕ → ℕ → EReal)
  (hX : ∀ i, (m ((c : Thread nD τ).loc main_arg2) : S2048x11264.Idx → EReal) i = X (i 0).val (i 1).val)

include hX in
theorem block2 (t : Fin cfg0.N) (r : Fin 1024) (j : Fin 2816) :
    kept m c t (ix2 r j) = X (1024 * (t.val / 16) + r.val) (2816 * (t.val / 4 % 4) + j.val) := by
  unfold kept iblk
  rw [View.read_apply]
  show V m c main_arg2 _ = _
  rw [V_main_arg2]
  refine (hX _).trans (congrArg₂ X ?_ ?_)
  · show win0_2.index t (0 : Fin 2) * 1024 + 1 * r.val = _
    rw [(idx2 t).1]; omega
  · show win0_2.index t (1 : Fin 2) * 2816 + 1 * j.val = _
    rw [(idx2 t).2]; omega

include hA hB hX in
theorem out_entry (t : Fin cfg0.N) (h1 : t.val % 4 = 3) (r : Fin 1024) (j : Fin 2816) :
    (outsAt0 m c t.val t.isLt).1 (ix2 r j) = entry A B X (1024 * (t.val / 16) + r.val) (t.val / 4 % 4) j.val := by
  have hj : j.val < 2816 := j.isLt
  unfold entry
  by_cases h : j.val < 1408
  · rw [if_pos h]
    refine (gate_C m c t h1 r ⟨j.val, h⟩).trans ?_
    rw [acc_H m c A B hA hB t h1, block2 m c X hX, block2 m c X hX]
  · rw [if_neg h]
    have hl : j.val - 1408 < 1408 := by omega
    have e : j = ⟨1408 + (j.val - 1408), by omega⟩ := Fin.ext (by show j.val = 1408 + (j.val - 1408); omega)
    refine (congrArg (fun l => (outsAt0 m c t.val t.isLt).1 (ix2 r l)) e).trans ((up_C m c t h1 r ⟨j.val - 1408, hl⟩).trans ?_)
    rw [acc_H m c A B hA hB t h1, block2 m c X hX]

include hA hB hX in
theorem flushed_G (t : Fin cfg0.N) (hf : (cfg0.win 3).flush t = true) :
    (dats m 0 c).flushed 3 t = ((cfg0.win 3).blk t).view.read (Elt Ideal) (G A B X) := by
  have h1 : t.val % 4 = 3 := (flush0_3 t).mp hf
  obtain ⟨e0, e1⟩ := idx3 t
  rw [flushed3]
  funext y
  have hy0 : (y 0).val < 1024 := (y 0).isLt
  have hy1 : (y 1).val < 2816 := (y 1).isLt
  have hx : (cfg0.win 3).xinj (grid0.coords t) y = ix2 ⟨(y 0).val, hy0⟩ ⟨(y 1).val, hy1⟩ := by
    funext a
    match a with
    | ⟨0, _⟩ => rfl
    | ⟨1, _⟩ => rfl
  have hb0 : (((cfg0.win 3).blk t).view.emb y 0).val = win0_3.index t (0 : Fin 2) * 1024 + 1 * (y 0).val := rfl
  have hb1 : (((cfg0.win 3).blk t).view.emb y 1).val = win0_3.index t (1 : Fin 2) * 2816 + 1 * (y 1).val := rfl
  show (outsAt0 m c t.val t.isLt).1 ((cfg0.win 3).xinj (grid0.coords t) y) = G A B X (((cfg0.win 3).blk t).view.emb y)
  rw [hx, out_entry m c A B hA hB X hX t h1]
  refine congr3 (entry A B X) ?_ ?_ ?_
  · rw [hb0, e0]; show 1024 * (t.val / 16) + (y 0).val = _; omega
  · rw [hb1, e1]; omega
  · rw [hb1, e1]; show (y 1).val = _; omega

theorem cover_G (i : S2048x11264.Idx) : ∃ t : Fin cfg0.N, (cfg0.win 3).flush t = true ∧ i ∈ ((cfg0.win 3).blk t).view.set := by
  have h0 : (i 0).val < 2048 := (i 0).isLt
  have h1 : (i 1).val < 11264 := (i 1).isLt
  have ht : 16 * ((i 0).val / 1024) + 4 * ((i 1).val / 2816) + 3 < cfg0.N := Nat.lt_of_lt_of_eq (show _ < 32 by omega) N_0.symm
  obtain ⟨e0, e1⟩ := idx3 ⟨_, ht⟩
  refine ⟨⟨_, ht⟩, (flush0_3 _).mpr (by show (16 * ((i 0).val / 1024) + 4 * ((i 1).val / 2816) + 3) % 4 = 3; omega), ?_⟩
  show i ∈ ((View.whole main_v0).slice (win0_3.rect ⟨_, ht⟩)).set
  rw [View.set_slice_whole, Rect.mem_set_unit]
  intro a
  match a with
  | ⟨0, _⟩ =>
    show win0_3.index _ (0 : Fin 2) * 1024 ≤ (i 0).val ∧ (i 0).val < win0_3.index _ (0 : Fin 2) * 1024 + 1024
    rw [e0]; dsimp only; omega
  | ⟨1, _⟩ =>
    show win0_3.index _ (1 : Fin 2) * 2816 ≤ (i 1).val ∧ (i 1).val < win0_3.index _ (1 : Fin 2) * 2816 + 2816
    rw [e1]; dsimp only; omega

include hA hB hX in
theorem final_G : (dats m 0 c).arrAt 3 cfg0.N = G A B X :=
  (dats m 0 c).arrAt_eq_of_cover 3 _ (fun t hf => flushed_G m c A B hA hB X hX t hf) cover_G

end Cert.Kernel7Ideal.Mm

namespace Cert.Reference7Ideal.Mm

open Cert.Reference7Ideal Cert.Reference7Ideal.Gen Cert.Reference7Ideal.Read Cert.Mm Cert.Kernel7Ideal.Mm
open Idealize.ShloMosaic Idealize.ShloMosaic.TcCoe Idealize.ShloMosaic.ValueIdx Idealize.SL.Sem
open Finset (range)

variable (x : FVec Ideal S2048x2048 .bf16) (y : FVec Ideal S5632x2048 .bf16) (z : FVec Ideal S2048x11264 .f32) (A B X : ℕ → ℕ → ℝ)
  (hA : ∀ i, x i = (A (i 0).val (i 1).val : EReal)) (hB : ∀ i, y i = (B (i 0).val (i 1).val : EReal)) (hX : ∀ i, z i = (X (i 0).val (i 1).val : EReal))

/-- The gradient of the activation, a real number. -/
theorem H_real (r j : ℕ) : H (fun r k => (A r k : EReal)) (fun r k => (B r k : EReal)) r j = ((∑ k ∈ range 2048, A r k * B j k : ℝ) : EReal) := by
  rw [← Cert.Stick.coe_sum]
  exact Finset.sum_congr rfl fun k _ => (EReal.coe_mul _ _).symm

include hA hB in
theorem d_at (i : S2048x4x1408.Idx) :
    val_main_v10 (F := Ideal) x y i = H (fun r k => (A r k : EReal)) (fun r k => (B r k : EReal)) (i 0).val (1408 * (i 1).val + (i 2).val) := by
  have h0 : (i 0).val < 2048 := (i 0).isLt
  have h1 : (i 1).val < 4 := (i 1).isLt
  have h2 : (i 2).val < 1408 := (i 2).isLt
  rw [val_main_v10_apply, val_main_v9_apply]
  refine Eq.trans ?_ (Finset.sum_range _).symm
  refine Finset.sum_congr rfl fun k _ => congrArg₂ (fun u v : EReal => u * v) ((hA _).trans (congrArg (fun n => (A n k : EReal)) ?_)) ((hB _).trans (congrArg (fun n => (B n k : EReal)) ?_))
  · show (((i 0).val * 4 + (i 1).val) * 1408 + (i 2).val) / 5632 = _
    omega
  · show (((i 0).val * 4 + (i 1).val) * 1408 + (i 2).val) % 5632 = _
    omega

include hX in
theorem gate (i : S2048x4x1408.Idx) : val_main_v1 (F := Ideal) z i = (X (i 0).val (2816 * (i 1).val + (i 2).val) : EReal) := by
  have h0 : (i 0).val < 2048 := (i 0).isLt
  have h1 : (i 1).val < 4 := (i 1).isLt
  have h2 : (i 2).val < 1408 := (i 2).isLt
  rw [val_main_v1_apply, val_main_v0_apply]
  refine (hX _).trans (congrArg₂ (fun a b => (X a b : EReal)) ?_ ?_)
  · show (((i 0).val * 4 + (i 1).val) * 2816 + (i 2).val) / 11264 = _
    omega
  · show (((i 0).val * 4 + (i 1).val) * 2816 + (i 2).val) % 11264 = _
    omega

include hX in
theorem up (i : S2048x4x1408.Idx) : val_main_v2 (F := Ideal) z i = (X (i 0).val (2816 * (i 1).val + (1408 + (i 2).val)) : EReal) := by
  have h0 : (i 0).val < 2048 := (i 0).isLt
  have h1 : (i 1).val < 4 := (i 1).isLt
  have h2 : (i 2).val < 1408 := (i 2).isLt
  rw [val_main_v2_apply, val_main_v0_apply]
  refine (hX _).trans (congrArg₂ (fun a b => (X a b : EReal)) ?_ ?_)
  · show (((i 0).val * 4 + (i 1).val) * 2816 + (1408 + (i 2).val)) / 11264 = _
    omega
  · show (((i 0).val * 4 + (i 1).val) * 2816 + (1408 + (i 2).val)) % 11264 = _
    omega

theorem sig_at (i : S2048x4x1408.Idx) : val_main_v3_2 (F := Ideal) z i = Cert.Mm.sig (val_main_v1 (F := Ideal) z i) := by
  rw [val_main_v3_2_apply, val_main_call0_v3_apply, val_main_call0_v4_apply, val_main_call0_v2_apply]
  exact sig_host _

include hA hB hX in
theorem dgate_at (i : S2048x4x1408.Idx) :
    val_main_v13 (F := Ideal) x y z i = dgate (H (fun r k => (A r k : EReal)) (fun r k => (B r k : EReal)) (i 0).val (1408 * (i 1).val + (i 2).val))
      (X (i 0).val (2816 * (i 1).val + (i 2).val) : EReal) (X (i 0).val (2816 * (i 1).val + (1408 + (i 2).val)) : EReal) := by
  rw [H_real, ← dgate_eq, ← H_real, ← gate z X hX i, ← up z X hX i, ← d_at x y A B hA hB i, ← sig_at]
  rw [val_main_v13_apply, val_main_call1_v1_apply, val_main_call1_v2_apply, val_main_call1_v0_apply, val_main_v12_apply, val_main_v3_1_apply,
    val_main_call0_v7_apply, val_main_call0_v6_apply]
  exact congrArg (fun o : EReal => _ + _ * (_ * (o - _))) Ideal.ofBits_one_f32

include hA hB hX in
theorem dup_at (i : S2048x4x1408.Idx) :
    val_main_v11 (F := Ideal) x y z i = dup (H (fun r k => (A r k : EReal)) (fun r k => (B r k : EReal)) (i 0).val (1408 * (i 1).val + (i 2).val))
      (X (i 0).val (2816 * (i 1).val + (i 2).val) : EReal) := by
  rw [← gate z X hX i, ← d_at x y A B hA hB i, dup, ← sig_at]
  exact mul_comm _ _

include hA hB hX in
theorem out_at (i : S2048x11264.Idx) :
    val_main_v16 (F := Ideal) x y z i = G (fun r k => (A r k : EReal)) (fun r k => (B r k : EReal)) (fun r k => (X r k : EReal)) i := by
  have h0 : (i 0).val < 2048 := (i 0).isLt
  have h1 : (i 1).val < 11264 := (i 1).isLt
  have e0 : ((i 0).val * 11264 + (i 1).val) / 11264 = (i 0).val := by omega
  have e1 : ((i 0).val * 11264 + (i 1).val) / 2816 % 4 = (i 1).val / 2816 := by omega
  have e2 : ((i 0).val * 11264 + (i 1).val) % 2816 = (i 1).val % 2816 := by omega
  show val_main_v15 (F := Ideal) x y z i = entry _ _ _ _ _ _
  rw [val_main_v15_apply]
  unfold entry val_main_v14
  by_cases h : (i 1).val % 2816 < 1408
  · rw [if_pos h]
    refine (concatenate_pair_apply_left (t := S2048x4x2816) (s₁ := S2048x4x1408) (s₂ := S2048x4x1408) 2 (val_main_v13 (F := Ideal) x y z) (val_main_v11 (F := Ideal) x y z) concatenates_S2048x4x1408_S2048x4x1408_S2048x4x2816_d2 (idx_main_v15 i) rfl (ix3 ⟨(i 0).val, h0⟩ ⟨(i 1).val / 2816, by omega⟩ ⟨(i 1).val % 2816, h⟩) (fun b => ?_)).trans (dgate_at x y z A B X hA hB hX _)
    match b with
    | ⟨0, _⟩ => exact e0.symm
    | ⟨1, _⟩ => exact e1.symm
    | ⟨2, _⟩ => exact e2.symm
  · rw [if_neg h]
    refine (concatenate_pair_apply_right (t := S2048x4x2816) (s₁ := S2048x4x1408) (s₂ := S2048x4x1408) 2 (val_main_v13 (F := Ideal) x y z) (val_main_v11 (F := Ideal) x y z) concatenates_S2048x4x1408_S2048x4x1408_S2048x4x2816_d2 (idx_main_v15 i) rfl rfl (ix3 ⟨(i 0).val, h0⟩ ⟨(i 1).val / 2816, by omega⟩ ⟨(i 1).val % 2816 - 1408, by omega⟩) (fun b hb => ?_) ?_).trans (dup_at x y z A B X hA hB hX _)
    · match b with
      | ⟨0, _⟩ => exact e0.symm
      | ⟨1, _⟩ => exact e1.symm
      | ⟨2, _⟩ => exact absurd rfl hb
    · show (i 1).val % 2816 - 1408 + 1408 = ((i 0).val * 11264 + (i 1).val) % 2816
      omega

end Cert.Reference7Ideal.Mm

namespace Cert.Proof.P7

open Idealize.ShloMosaic Idealize.SL.Sem

/-- The shapes of the precondition's constants fit its arrays. -/
instance facts : Cert.Pre_finite7.Facts where
  bcast_S_S2048x2048 := by decide
  bcast_S_S5632x2048 := by decide
  bcast_S_S2048x11264 := by decide

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_ideal_finite : Cert.quiescent_Kernel7Ideal_pre_finite7 := fun m ρ _ => Cert.Kernel7Ideal.Gen.frame m ρ

theorem frame_reference : Cert.quiescent_Reference7Ideal := fun m ρ _ =>
  (θ_run Cert.Reference7Ideal.defs _ _).mono
    (fun _ h => ⟨fun c => (h c).2, sem_eq_zero_of_no_sems (by decide) _⟩) (Cert.Reference7Ideal.Value.run m ρ)

theorem frame_reference_finite : Cert.quiescent_Reference7Ideal_pre_finite7 := fun m ρ _ => frame_reference m ρ trivial

/-- Over finite arguments kernel and reference return the same gradient. -/
theorem algebraic : Cert.algebraic_Kernel7Ideal_Reference7Ideal_pre_finite7 := by
  intro m g m' g' hpre harg
  refine ⟨fun c => (Cert.Kernel7Ideal.Gen.dats m 0 c).arrAt 3 Cert.Kernel7Ideal.cfg0.N, Cert.Kernel7Ideal.Value.run_blocks m g, ?_⟩
  refine (θ_run Cert.Reference7Ideal.defs _ _).mono (fun r h c => ?_) (Cert.Reference7Ideal.Value.run m' g')
  obtain ⟨e, k⟩ := h c
  obtain ⟨p0, p1, p2⟩ := hpre c
  rw [Cert.Reference7Ideal.Read.val_main_v16_eq, (harg c).1, (harg c).2.1, (harg c).2.2] at e
  obtain ⟨A, hA⟩ := Cert.Mm.exists_real2 (m ((c.tc : Thread Cert.Kernel7Ideal.nD Cert.Kernel7Ideal.τ).loc Cert.Kernel7Ideal.main_arg0) : Cert.Kernel7Ideal.S2048x2048.Idx → EReal)
    (Cert.Mm.real_of_lt (φ := .bf16) _ _ (fun _ => Cert.Mm.inf_bf16) p0)
  obtain ⟨B, hB⟩ := Cert.Mm.exists_real2 (m ((c.tc : Thread Cert.Kernel7Ideal.nD Cert.Kernel7Ideal.τ).loc Cert.Kernel7Ideal.main_arg1) : Cert.Kernel7Ideal.S5632x2048.Idx → EReal)
    (Cert.Mm.real_of_lt (φ := .bf16) _ _ (fun _ => Cert.Mm.inf_bf16) p1)
  obtain ⟨X, hX⟩ := Cert.Mm.exists_real2 (m ((c.tc : Thread Cert.Kernel7Ideal.nD Cert.Kernel7Ideal.τ).loc Cert.Kernel7Ideal.main_arg2) : Cert.Kernel7Ideal.S2048x11264.Idx → EReal)
    (Cert.Mm.real_of_lt (φ := .f32) _ _ (fun _ => Cert.Mm.inf_f32) p2)
  exact ⟨e.trans ((funext fun i => Cert.Reference7Ideal.Mm.out_at _ _ _ A B X hA hB hX i).trans (Cert.Kernel7Ideal.Mm.final_G m c _ _ hA hB _ hX).symm), k⟩

end Cert.Proof.P7

end
-- ==== Proof.Mm.P8.lean ====
/-
  The gate and up projections and the gated activation on them: each run of 4 grid points adds up one block of the product.
-/
module

public import proofs.«01_k».proof.Defs
public import proofs.«01_k».proof.Proof.Mm.Sums
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Quiescent
public import Idealize.ShloMosaic.Lib.Pipeline.ReadBack

@[expose] public section

noncomputable section

namespace Cert.Kernel8Ideal.Mm

open Cert.Kernel8Ideal Cert.Kernel8Ideal.Gen Cert.Kernel8Ideal.Value Cert.Mm
open Idealize.ShloMosaic Idealize.ShloMosaic.TcCoe Idealize.ShloMosaic.ValueIdx Idealize.SL.Sem
open Finset (range)

theorem step (acc : Vec Ideal S1024x2816 .f32) (x : Vec Ideal S1024x512 .bf16) (y : Vec Ideal S1x512x2816 .bf16) (r : Fin 1024) (c : Fin 2816) :
    k0_pay2 acc x y (ix2 r c) = acc (ix2 r c) + ∑ k : Fin 512, x (ix2 r k) * y (ix3 0 k c) := by
  unfold k0_pay2
  simp only [shapeCast_self]
  exact congrArg (fun v : EReal => acc (ix2 r c) + v) ((entry_nn x _ r c).trans (Finset.sum_congr rfl fun k _ => congrArg (fun v : EReal => x (ix2 r k) * v) (unstack y _ k c)))

theorem start (r : Fin 1024) (c : Fin 2816) : k0_pay1 (F := Ideal) (ix2 r c) = 0 := Ideal.ofBits_zero_f32

theorem idx0 : ∀ t : Fin grid0.N, win0_0.index t (0 : Fin 2) = t.val / 4 / 4 ∧ win0_0.index t (1 : Fin 2) = t.val % 4 := by decide +kernel
theorem idx1 : ∀ t : Fin grid0.N, win0_1.index t (0 : Fin 3) = t.val / 4 % 4 ∧ win0_1.index t (1 : Fin 3) = t.val % 4 ∧ win0_1.index t (2 : Fin 3) = 0 := by decide +kernel

variable (m : (ℓ : Loc nD τ sig) → Buf (Elt Ideal) ℓ) (c : Dev nD) (A : ℕ → ℕ → EReal) (B : ℕ → ℕ → ℕ → EReal)
  (hA : ∀ i, (m ((c : Thread nD τ).loc main_arg0) : S2048x2048.Idx → EReal) i = A (i 0).val (i 1).val)
  (hB : ∀ i, (m ((c : Thread nD τ).loc main_arg1) : S4x2048x2816.Idx → EReal) i = B (i 0).val (i 1).val (i 2).val)

/-- The block of the left operand at point `t`. -/
abbrev left (t : Fin cfg0.N) : S1024x512.Idx → EReal := iblk m c 0 t

/-- The block of the right operand at point `t`. -/
abbrev right (t : Fin cfg0.N) : S1x512x2816.Idx → EReal := iblk m c 1 t

include hA in
theorem block0 (t : Fin cfg0.N) (r : Fin 1024) (k : Fin 512) :
    left m c t (ix2 r k) = A (1024 * (t.val / 4 / 4) + r.val) (t.val % 4 * 512 + k.val) := by
  unfold left iblk
  rw [View.read_apply]
  show V m c main_arg0 _ = _
  rw [V_main_arg0]
  refine (hA _).trans (congrArg₂ A ?_ ?_)
  · show win0_0.index t (0 : Fin 2) * 1024 + 1 * r.val = _
    rw [(idx0 t).1]; omega
  · show win0_0.index t (1 : Fin 2) * 512 + 1 * k.val = _
    rw [(idx0 t).2]; omega

include hB in
theorem block1 (t : Fin cfg0.N) (j : Fin 2816) (k : Fin 512) :
    right m c t (ix3 0 k j) = B ((2816 * (t.val / 4 % 4) + j.val) / 2816) (t.val % 4 * 512 + k.val) ((2816 * (t.val / 4 % 4) + j.val) % 2816) := by
  unfold right iblk
  rw [View.read_apply]
  show V m c main_arg1 _ = _
  rw [V_main_arg1]
  refine (hB _).trans (congr3 B ?_ ?_ ?_)
  · show win0_1.index t (0 : Fin 3) * 1 + 1 * 0 = _
    rw [(idx1 t).1]; omega
  · show win0_1.index t (1 : Fin 3) * 512 + 1 * k.val = _
    rw [(idx1 t).2.1]; omega
  · show win0_1.index t (2 : Fin 3) * 2816 + 1 * j.val = _
    rw [(idx1 t).2.2]; omega

theorem first (t : Fin cfg0.N) (h0 : t.val % 4 = 0) (r : Fin 1024) (j : Fin 2816) :
    (outsAt0 m c t.val t.isLt).1 (ix2 r j) = ∑ k : Fin 512, left m c t (ix2 r k) * right m c t (ix3 0 k j) := by
  rw [outsAt0_A m c t h0 (by omega)]
  frame_out
  rw [step, start, zero_add]

theorem next (t : Fin cfg0.N) (h0 : ¬t.val % 4 = 0) (r : Fin 1024) (j : Fin 2816) :
    (outsAt0 m c t.val t.isLt).1 (ix2 r j) = (outsAt0 m c (t.val - 1) (Nat.lt_of_le_of_lt (Nat.sub_le _ _) t.isLt)).1 (ix2 r j)
      + ∑ k : Fin 512, left m c t (ix2 r k) * right m c t (ix3 0 k j) := by
  by_cases h1 : t.val % 4 = 3
  · rw [outsAt0_C m c t h0 h1]
    frame_out
    rw [step]
  · rw [outsAt0_B m c t h0 h1]
    frame_out
    rw [step]

include hA hB in
theorem acc_sum (q n : ℕ) (hq : n = 4 * q + (4 - 1)) (h : n < cfg0.N) (r : Fin 1024) (j : Fin 2816) :
    (outsAt0 m c n h).1 (ix2 r j) = ∑ k ∈ range (4 * 512), A (1024 * (q / 4) + r.val) k * B ((2816 * (q % 4) + j.val) / 2816) k ((2816 * (q % 4) + j.val) % 2816) :=
  tiled 4 4 (by decide) (fun i k => A i k) (fun j k => B (j / 2816) k (j % 2816)) (fun t r k => left m c t (ix2 r k)) (fun t j k => right m c t (ix3 0 k j))
    (fun n h r j => (outsAt0 m c n h).1 (ix2 r j)) (block0 m c A hA) (block1 m c B hB) (first m c) (next m c) q n hq h r j

theorem act_at (v w : Vec Ideal S1024x1408 .f32) (r : Fin 1024) (j : Fin 1408) :
    (k0_pay3 v w : S1024x1408.Idx → EReal) (ix2 r j) = act ((v : S1024x1408.Idx → EReal) (ix2 r j)) ((w : S1024x1408.Idx → EReal) (ix2 r j)) := by
  unfold k0_pay3
  simp only [shapeCast_self]
  exact congrArg₂ (fun u x : EReal => u * x) (congrArg₂ (fun u x : EReal => u * x) rfl (sig_kernel _)) rfl

/-- At the last point of a run the second output is the gated activation of the first's two halves. -/
theorem act_C (t : Fin cfg0.N) (h1 : t.val % 4 = 3) (r : Fin 1024) (j : Fin 1408) :
    (outsAt0 m c t.val t.isLt).2 (ix2 r j)
      = act ((outsAt0 m c t.val t.isLt).1 (ix2 r ⟨j.val, by have := j.isLt; omega⟩)) ((outsAt0 m c t.val t.isLt).1 (ix2 r ⟨1408 + j.val, by have := j.isLt; omega⟩)) := by
  rw [outsAt0_C m c t (by omega) h1]
  frame_out
  rw [View.readCov_fill _ _ _ _ _ (by decide), View.readCov_fill _ _ _ _ _ (by decide)]
  refine (act_at _ _ r j).trans (congrArg₂ act ?_ ?_)
  · refine (half _ 0 (by omega) _ r j).trans (congrArg _ (congrArg (ix2 r) (Fin.ext ?_)))
    show 0 + j.val = j.val
    omega
  · exact half _ 1408 (by omega) _ r j

/-- The products. -/
abbrev H (A : ℕ → ℕ → EReal) (B : ℕ → ℕ → ℕ → EReal) (r q j : ℕ) : EReal := ∑ k ∈ range 2048, A r k * B q k j

/-- The first result. -/
abbrev G2 (A : ℕ → ℕ → EReal) (B : ℕ → ℕ → ℕ → EReal) : S2048x11264.Idx → EReal := fun i =>
  H A B (i 0).val ((i 1).val / 2816) ((i 1).val % 2816)

/-- The second result. -/
abbrev G3 (A : ℕ → ℕ → EReal) (B : ℕ → ℕ → ℕ → EReal) : S2048x5632.Idx → EReal := fun i =>
  act (H A B (i 0).val ((i 1).val / 1408) ((i 1).val % 1408)) (H A B (i 0).val ((i 1).val / 1408) (1408 + (i 1).val % 1408))

include hA hB in
theorem out_H (t : Fin cfg0.N) (h1 : t.val % 4 = 3) (r : Fin 1024) (j : Fin 2816) :
    (outsAt0 m c t.val t.isLt).1 (ix2 r j) = H A B (1024 * (t.val / 16) + r.val) (t.val / 4 % 4) j.val := by
  have hj : j.val < 2816 := j.isLt
  refine (acc_sum m c A B hA hB (t.val / 4) t.val (by omega) t.isLt _ _).trans (Finset.sum_congr rfl fun k _ => congrArg₂ (fun u v : EReal => u * v) (congrArg₂ A ?_ rfl) (congr3 B ?_ rfl ?_))
  · show 1024 * (t.val / 4 / 4) + r.val = _
    omega
  · show (2816 * (t.val / 4 % 4) + j.val) / 2816 = _
    omega
  · show (2816 * (t.val / 4 % 4) + j.val) % 2816 = _
    omega

theorem idx2 : ∀ t : Fin grid0.N, win0_2.index t (0 : Fin 2) = t.val / 16 ∧ win0_2.index t (1 : Fin 2) = t.val / 4 % 4 := by decide +kernel
theorem idx3 : ∀ t : Fin grid0.N, win0_3.index t (0 : Fin 2) = t.val / 16 ∧ win0_3.index t (1 : Fin 2) = t.val / 4 % 4 := by decide +kernel

include hA hB in
theorem flushed_G2 (t : Fin cfg0.N) (hf : (cfg0.win 2).flush t = true) :
    (dats m 0 c).flushed 2 t = ((cfg0.win 2).blk t).view.read (Elt Ideal) (G2 A B) := by
  have h1 : t.val % 4 = 3 := (flush0_2 t).mp hf
  obtain ⟨e0, e1⟩ := idx2 t
  rw [flushed2]
  funext y
  have hy0 : (y 0).val < 1024 := (y 0).isLt
  have hy1 : (y 1).val < 2816 := (y 1).isLt
  have hx : (cfg0.win 2).xinj (grid0.coords t) y = ix2 ⟨(y 0).val, hy0⟩ ⟨(y 1).val, hy1⟩ := by
    funext a
    match a with
    | ⟨0, _⟩ => rfl
    | ⟨1, _⟩ => rfl
  have hb0 : (((cfg0.win 2).blk t).view.emb y 0).val = win0_2.index t (0 : Fin 2) * 1024 + 1 * (y 0).val := rfl
  have hb1 : (((cfg0.win 2).blk t).view.emb y 1).val = win0_2.index t (1 : Fin 2) * 2816 + 1 * (y 1).val := rfl
  show (outsAt0 m c t.val t.isLt).1 ((cfg0.win 2).xinj (grid0.coords t) y) = G2 A B (((cfg0.win 2).blk t).view.emb y)
  rw [hx, out_H m c A B hA hB t h1]
  refine congr3 (H A B) ?_ ?_ ?_
  · rw [hb0, e0]; show 1024 * (t.val / 16) + (y 0).val = _; omega
  · rw [hb1, e1]; omega
  · rw [hb1, e1]; show (y 1).val = _; omega

include hA hB in
theorem flushed_G3 (t : Fin cfg0.N) (hf : (cfg0.win 3).flush t = true) :
    (dats m 0 c).flushed 3 t = ((cfg0.win 3).blk t).view.read (Elt Ideal) (G3 A B) := by
  have h1 : t.val % 4 = 3 := (flush0_3 t).mp hf
  obtain ⟨e0, e1⟩ := idx3 t
  rw [flushed3]
  funext y
  have hy0 : (y 0).val < 1024 := (y 0).isLt
  have hy1 : (y 1).val < 1408 := (y 1).isLt
  have hx : (cfg0.win 3).xinj (grid0.coords t) y = ix2 ⟨(y 0).val, hy0⟩ ⟨(y 1).val, hy1⟩ := by
    funext a
    match a with
    | ⟨0, _⟩ => rfl
    | ⟨1, _⟩ => rfl
  have hb0 : (((cfg0.win 3).blk t).view.emb y 0).val = win0_3.index t (0 : Fin 2) * 1024 + 1 * (y 0).val := rfl
  have hb1 : (((cfg0.win 3).blk t).view.emb y 1).val = win0_3.index t (1 : Fin 2) * 1408 + 1 * (y 1).val := rfl
  show (outsAt0 m c t.val t.isLt).2 ((cfg0.win 3).xinj (grid0.coords t) y) = G3 A B (((cfg0.win 3).blk t).view.emb y)
  rw [hx, act_C m c t h1, out_H m c A B hA hB t h1, out_H m c A B hA hB t h1]
  refine congrArg₂ act (congr3 (H A B) ?_ ?_ ?_) (congr3 (H A B) ?_ ?_ ?_)
  · rw [hb0, e0]; show 1024 * (t.val / 16) + (y 0).val = _; omega
  · rw [hb1, e1]; omega
  · rw [hb1, e1]; show (y 1).val = _; omega
  · rw [hb0, e0]; show 1024 * (t.val / 16) + (y 0).val = _; omega
  · rw [hb1, e1]; omega
  · rw [hb1, e1]; show 1408 + (y 1).val = _; omega

theorem cover_G2 (i : S2048x11264.Idx) : ∃ t : Fin cfg0.N, (cfg0.win 2).flush t = true ∧ i ∈ ((cfg0.win 2).blk t).view.set := by
  have h0 : (i 0).val < 2048 := (i 0).isLt
  have h1 : (i 1).val < 11264 := (i 1).isLt
  have ht : 16 * ((i 0).val / 1024) + 4 * ((i 1).val / 2816) + 3 < cfg0.N := Nat.lt_of_lt_of_eq (show _ < 32 by omega) N_0.symm
  obtain ⟨e0, e1⟩ := idx2 ⟨_, ht⟩
  refine ⟨⟨_, ht⟩, (flush0_2 _).mpr (by show (16 * ((i 0).val / 1024) + 4 * ((i 1).val / 2816) + 3) % 4 = 3; omega), ?_⟩
  show i ∈ ((View.whole main_v0_0).slice (win0_2.rect ⟨_, ht⟩)).set
  rw [View.set_slice_whole, Rect.mem_set_unit]
  intro a
  match a with
  | ⟨0, _⟩ =>
    show win0_2.index _ (0 : Fin 2) * 1024 ≤ (i 0).val ∧ (i 0).val < win0_2.index _ (0 : Fin 2) * 1024 + 1024
    rw [e0]; dsimp only; omega
  | ⟨1, _⟩ =>
    show win0_2.index _ (1 : Fin 2) * 2816 ≤ (i 1).val ∧ (i 1).val < win0_2.index _ (1 : Fin 2) * 2816 + 2816
    rw [e1]; dsimp only; omega

theorem cover_G3 (i : S2048x5632.Idx) : ∃ t : Fin cfg0.N, (cfg0.win 3).flush t = true ∧ i ∈ ((cfg0.win 3).blk t).view.set := by
  have h0 : (i 0).val < 2048 := (i 0).isLt
  have h1 : (i 1).val < 5632 := (i 1).isLt
  have ht : 16 * ((i 0).val / 1024) + 4 * ((i 1).val / 1408) + 3 < cfg0.N := Nat.lt_of_lt_of_eq (show _ < 32 by omega) N_0.symm
  obtain ⟨e0, e1⟩ := idx3 ⟨_, ht⟩
  refine ⟨⟨_, ht⟩, (flush0_3 _).mpr (by show (16 * ((i 0).val / 1024) + 4 * ((i 1).val / 1408) + 3) % 4 = 3; omega), ?_⟩
  show i ∈ ((View.whole main_v0_1).slice (win0_3.rect ⟨_, ht⟩)).set
  rw [View.set_slice_whole, Rect.mem_set_unit]
  intro a
  match a with
  | ⟨0, _⟩ =>
    show win0_3.index _ (0 : Fin 2) * 1024 ≤ (i 0).val ∧ (i 0).val < win0_3.index _ (0 : Fin 2) * 1024 + 1024
    rw [e0]; dsimp only; omega
  | ⟨1, _⟩ =>
    show win0_3.index _ (1 : Fin 2) * 1408 ≤ (i 1).val ∧ (i 1).val < win0_3.index _ (1 : Fin 2) * 1408 + 1408
    rw [e1]; dsimp only; omega

include hA hB in
theorem final_G2 : (dats m 0 c).arrAt 2 cfg0.N = G2 A B :=
  (dats m 0 c).arrAt_eq_of_cover 2 _ (fun t hf => flushed_G2 m c A B hA hB t hf) cover_G2

include hA hB in
theorem final_G3 : (dats m 0 c).arrAt 3 cfg0.N = G3 A B :=
  (dats m 0 c).arrAt_eq_of_cover 3 _ (fun t hf => flushed_G3 m c A B hA hB t hf) cover_G3

end Cert.Kernel8Ideal.Mm

namespace Cert.Reference8Ideal.Mm

open Cert.Reference8Ideal Cert.Reference8Ideal.Gen Cert.Reference8Ideal.Read Cert.Mm
open Idealize.ShloMosaic Idealize.ShloMosaic.TcCoe Idealize.ShloMosaic.ValueIdx Idealize.SL.Sem
open Finset (range)

variable (x : FVec Ideal S2048x2048 .bf16) (y : FVec Ideal S4x2048x2816 .bf16) (A : ℕ → ℕ → EReal) (B : ℕ → ℕ → ℕ → EReal)
  (hA : ∀ i, x i = A (i 0).val (i 1).val) (hB : ∀ i, y i = B (i 0).val (i 1).val (i 2).val)

include hA hB in
theorem out2 (i : S2048x11264.Idx) : val_main_v4 (F := Ideal) x y i = Cert.Kernel8Ideal.Mm.G2 A B i := by
  have h1 : (i 1).val < 11264 := (i 1).isLt
  rw [val_main_v4_apply]
  refine Eq.trans ?_ (Finset.sum_range _).symm
  refine Finset.sum_congr rfl fun k _ => congrArg₂ (fun u v : EReal => u * v) (hA _) ?_
  refine (val_main_v3_apply (F := Ideal) y _).trans ((val_main_v2_apply (F := Ideal) y _).trans ((hB _).trans (congr3 B ?_ ?_ ?_)))
  · show (k.val * 11264 + (i 1).val) / 2816 % 4 = (i 1).val / 2816
    omega
  · show (k.val * 11264 + (i 1).val) / 11264 = k.val
    omega
  · show (k.val * 11264 + (i 1).val) % 2816 = (i 1).val % 2816
    omega

include hA hB in
theorem gate (i : S2048x4x1408.Idx) : val_main_v6 (F := Ideal) x y i = Cert.Kernel8Ideal.Mm.H A B (i 0).val (i 1).val (i 2).val := by
  have h0 : (i 0).val < 2048 := (i 0).isLt
  have h1 : (i 1).val < 4 := (i 1).isLt
  have h2 : (i 2).val < 1408 := (i 2).isLt
  rw [val_main_v6_apply, val_main_v5_apply, out2 x y A B hA hB]
  refine congr3 (Cert.Kernel8Ideal.Mm.H A B) ?_ ?_ ?_
  · show (((i 0).val * 4 + (i 1).val) * 2816 + (i 2).val) / 11264 = _
    omega
  · show (((i 0).val * 4 + (i 1).val) * 2816 + (i 2).val) % 11264 / 2816 = _
    omega
  · show (((i 0).val * 4 + (i 1).val) * 2816 + (i 2).val) % 11264 % 2816 = _
    omega

include hA hB in
theorem up (i : S2048x4x1408.Idx) : val_main_v7 (F := Ideal) x y i = Cert.Kernel8Ideal.Mm.H A B (i 0).val (i 1).val (1408 + (i 2).val) := by
  have h0 : (i 0).val < 2048 := (i 0).isLt
  have h1 : (i 1).val < 4 := (i 1).isLt
  have h2 : (i 2).val < 1408 := (i 2).isLt
  rw [val_main_v7_apply, val_main_v5_apply, out2 x y A B hA hB]
  refine congr3 (Cert.Kernel8Ideal.Mm.H A B) ?_ ?_ ?_
  · show (((i 0).val * 4 + (i 1).val) * 2816 + (1408 + (i 2).val)) / 11264 = _
    omega
  · show (((i 0).val * 4 + (i 1).val) * 2816 + (1408 + (i 2).val)) % 11264 / 2816 = _
    omega
  · show (((i 0).val * 4 + (i 1).val) * 2816 + (1408 + (i 2).val)) % 11264 % 2816 = _
    omega

theorem act9 (i : S2048x4x1408.Idx) :
    val_main_v9 (F := Ideal) x y i = act (val_main_v6 (F := Ideal) x y i) (val_main_v7 (F := Ideal) x y i) := by
  rw [val_main_v9_apply, val_main_v8_apply, val_main_call0_v5_apply, val_main_call0_v3_apply, val_main_call0_v4_apply, val_main_call0_v2_apply]
  exact congrArg₂ (fun u v : EReal => u * v) (congrArg₂ (fun u v : EReal => u * v) rfl (sig_host _)) rfl

include hA hB in
theorem out3 (i : S2048x5632.Idx) : val_main_v11 (F := Ideal) x y i = Cert.Kernel8Ideal.Mm.G3 A B i := by
  have h0 : (i 0).val < 2048 := (i 0).isLt
  have h1 : (i 1).val < 5632 := (i 1).isLt
  show val_main_v10 (F := Ideal) x y i = _
  rw [val_main_v10_apply, act9, gate x y A B hA hB, up x y A B hA hB]
  have e0 : ((i 0).val * 5632 + (i 1).val) / 5632 = (i 0).val := by omega
  have e1 : ((i 0).val * 5632 + (i 1).val) / 1408 % 4 = (i 1).val / 1408 := by omega
  have e2 : ((i 0).val * 5632 + (i 1).val) % 1408 = (i 1).val % 1408 := by omega
  exact congrArg₂ act (congr3 (Cert.Kernel8Ideal.Mm.H A B) e0 e1 e2) (congr3 (Cert.Kernel8Ideal.Mm.H A B) e0 e1 (congrArg (fun n => 1408 + n) e2))

end Cert.Reference8Ideal.Mm

namespace Cert.Proof.P8

open Idealize.ShloMosaic Idealize.SL.Sem

theorem frame_kernel : Cert.quiescent_Kernel8 := fun m ρ _ => Cert.Kernel8.Gen.frame m ρ

theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono
    (fun _ h => ⟨fun c => (h c).2.2, sem_eq_zero_of_no_sems (by decide) _⟩) (Cert.Reference8Ideal.Value.run m ρ)

theorem algebraic : Cert.algebraic_Kernel8Ideal_Reference8Ideal := by
  intro m g m' g' _ harg
  refine ⟨fun c => (Cert.Kernel8Ideal.Gen.dats m 0 c).arrAt 2 Cert.Kernel8Ideal.cfg0.N, fun c => (Cert.Kernel8Ideal.Gen.dats m 0 c).arrAt 3 Cert.Kernel8Ideal.cfg0.N, Cert.Kernel8Ideal.Value.run_blocks m g, ?_⟩
  refine (θ_run Cert.Reference8Ideal.defs _ _).mono (fun r h c => ?_) (Cert.Reference8Ideal.Value.run m' g')
  obtain ⟨e, f, k⟩ := h c
  rw [Cert.Reference8Ideal.Read.val_main_v4_eq, (harg c).1, (harg c).2] at e
  rw [Cert.Reference8Ideal.Read.val_main_v11_eq, (harg c).1, (harg c).2] at f
  obtain ⟨A, hA⟩ := Cert.Mm.exists_nat2 (m ((c.tc : Thread Cert.Kernel8Ideal.nD Cert.Kernel8Ideal.τ).loc Cert.Kernel8Ideal.main_arg0) : Cert.Kernel8Ideal.S2048x2048.Idx → EReal)
  obtain ⟨B, hB⟩ := Cert.Mm.exists_nat3 (m ((c.tc : Thread Cert.Kernel8Ideal.nD Cert.Kernel8Ideal.τ).loc Cert.Kernel8Ideal.main_arg1) : Cert.Kernel8Ideal.S4x2048x2816.Idx → EReal)
  exact ⟨e.trans ((funext fun i => Cert.Reference8Ideal.Mm.out2 _ _ A B hA hB i).trans (Cert.Kernel8Ideal.Mm.final_G2 m c A B hA hB).symm),
    f.trans ((funext fun i => Cert.Reference8Ideal.Mm.out3 _ _ A B hA hB i).trans (Cert.Kernel8Ideal.Mm.final_G3 m c A B hA hB).symm), k⟩

end Cert.Proof.P8

end
-- ==== Proof.Mm.P9.lean ====
/-
  The down projection: each run of 11 grid points adds up one block of the product.
-/
module

public import proofs.«01_k».proof.Defs
public import proofs.«01_k».proof.Proof.Mm.Sums
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Quiescent

@[expose] public section

noncomputable section

namespace Cert.Kernel9Ideal.Mm

open Cert.Kernel9Ideal Cert.Kernel9Ideal.Gen Cert.Kernel9Ideal.Value Cert.Mm
open Idealize.ShloMosaic Idealize.ShloMosaic.TcCoe Idealize.ShloMosaic.ValueIdx Idealize.SL.Sem
open Finset (range)

theorem step (acc : Vec Ideal S2048x2048 .f32) (x : Vec Ideal S2048x512 .bf16) (y : Vec Ideal S512x2048 .bf16) (r : Fin 2048) (c : Fin 2048) :
    k0_pay2 acc x y (ix2 r c) = acc (ix2 r c) + ∑ k : Fin 512, x (ix2 r k) * y (ix2 k c) := by
  unfold k0_pay2
  simp only [shapeCast_self]
  exact congrArg (fun v : EReal => acc (ix2 r c) + v) (entry_nn x y r c)

theorem start (r : Fin 2048) (c : Fin 2048) : k0_pay1 (F := Ideal) (ix2 r c) = 0 := Ideal.ofBits_zero_f32

theorem idx0 : ∀ t : Fin grid0.N, win0_0.index t (0 : Fin 2) = t.val / 11 / 1 ∧ win0_0.index t (1 : Fin 2) = t.val % 11 := by decide +kernel
theorem idx1 : ∀ t : Fin grid0.N, win0_1.index t (0 : Fin 2) = t.val % 11 ∧ win0_1.index t (1 : Fin 2) = t.val / 11 % 1 := by decide +kernel

variable (m : (ℓ : Loc nD τ sig) → Buf (Elt Ideal) ℓ) (c : Dev nD) (A : ℕ → ℕ → EReal) (B : ℕ → ℕ → EReal)
  (hA : ∀ i, (m ((c : Thread nD τ).loc main_arg0) : S2048x5632.Idx → EReal) i = A (i 0).val (i 1).val)
  (hB : ∀ i, (m ((c : Thread nD τ).loc main_arg1) : S5632x2048.Idx → EReal) i = B (i 0).val (i 1).val)

/-- The block of the left operand at point `t`. -/
abbrev left (t : Fin cfg0.N) : S2048x512.Idx → EReal := iblk m c 0 t

/-- The block of the right operand at point `t`. -/
abbrev right (t : Fin cfg0.N) : S512x2048.Idx → EReal := iblk m c 1 t

include hA in
theorem block0 (t : Fin cfg0.N) (r : Fin 2048) (k : Fin 512) :
    left m c t (ix2 r k) = A (2048 * (t.val / 11 / 1) + r.val) (t.val % 11 * 512 + k.val) := by
  unfold left iblk
  rw [View.read_apply]
  show V m c main_arg0 _ = _
  rw [V_main_arg0]
  refine (hA _).trans (congrArg₂ A ?_ ?_)
  · show win0_0.index t (0 : Fin 2) * 2048 + 1 * r.val = _
    rw [(idx0 t).1]; omega
  · show win0_0.index t (1 : Fin 2) * 512 + 1 * k.val = _
    rw [(idx0 t).2]; omega

include hB in
theorem block1 (t : Fin cfg0.N) (j : Fin 2048) (k : Fin 512) :
    right m c t (ix2 k j) = B (t.val % 11 * 512 + k.val) (2048 * (t.val / 11 % 1) + j.val) := by
  unfold right iblk
  rw [View.read_apply]
  show V m c main_arg1 _ = _
  rw [V_main_arg1]
  refine (hB _).trans (congrArg₂ B ?_ ?_)
  · show win0_1.index t (0 : Fin 2) * 512 + 1 * k.val = _
    rw [(idx1 t).1]; omega
  · show win0_1.index t (1 : Fin 2) * 2048 + 1 * j.val = _
    rw [(idx1 t).2]; omega

theorem first (t : Fin cfg0.N) (h0 : t.val % 11 = 0) (r : Fin 2048) (j : Fin 2048) :
    outsAt0 m c t.val t.isLt (ix2 r j) = ∑ k : Fin 512, left m c t (ix2 r k) * right m c t (ix2 k j) := by
  rw [outsAt0_A m c t h0, out_A_2_eq, step, start, zero_add]

theorem next (t : Fin cfg0.N) (h0 : ¬t.val % 11 = 0) (r : Fin 2048) (j : Fin 2048) :
    outsAt0 m c t.val t.isLt (ix2 r j) = outsAt0 m c (t.val - 1) (Nat.lt_of_le_of_lt (Nat.sub_le _ _) t.isLt) (ix2 r j)
      + ∑ k : Fin 512, left m c t (ix2 r k) * right m c t (ix2 k j) := by
  rw [outsAt0_B m c t h0, out_B_2_eq, step]

theorem G2_last (i : S2048x2048.Idx) (n : ℕ) (h : n < cfg0.N) (hn : n = 11 * run2Of i + 10) : G2 m c i = outsAt0 m c n h (loc2Of i) := by
  subst hn
  unfold G2
  rw [dif_pos h]
  refine congrFun ((outsAt_2_eq m c ⟨11 * run2Of i + 10, h⟩).trans (accAt_congr _ _ ?_ ?_ _ _)).symm _
  · show 11 * ((11 * run2Of i + 10) / 11) = 11 * run2Of i
    omega
  · show (11 * run2Of i + 10) % 11 = 10
    omega

include hA hB in
theorem G2_at (i : S2048x2048.Idx) : G2 m c i = ∑ k ∈ range 5632, A (i 0).val k * B k (i 1).val := by
  have h0 : (i 0).val < 2048 := (i 0).isLt
  have h1 : (i 1).val < 2048 := (i 1).isLt
  have h : 11 * (1 * ((i 0).val / 2048) + (i 1).val / 2048) + (11 - 1) < cfg0.N := Nat.lt_of_lt_of_eq (show _ < 11 by omega) N_0.symm
  have hl : loc2Of i = ix2 ⟨(i 0).val % 2048, Nat.mod_lt _ (by decide)⟩ ⟨(i 1).val % 2048, Nat.mod_lt _ (by decide)⟩ := by
    funext a
    match a with
    | ⟨0, _⟩ => rfl
    | ⟨1, _⟩ => rfl
  rw [G2_last m c i _ h (by show _ = 11 * (1 * ((i 0).val / 2048 - 0) + 1 * ((i 1).val / 2048 - 0)) + 10; omega), hl]
  exact tiled_at 11 1 (by decide) (by decide) (by decide) (fun i k => A i k) (fun j k => B k j) (fun t r k => left m c t (ix2 r k)) (fun t j k => right m c t (ix2 k j))
    (fun n h r j => outsAt0 m c n h (ix2 r j)) (block0 m c A hA) (block1 m c B hB) (first m c) (next m c) _ _ (by omega) h

end Cert.Kernel9Ideal.Mm

namespace Cert.Reference9Ideal.Mm

open Cert.Reference9Ideal Cert.Reference9Ideal.Gen Cert.Reference9Ideal.Read Cert.Mm
open Idealize.ShloMosaic Idealize.ShloMosaic.TcCoe Idealize.ShloMosaic.ValueIdx Idealize.SL.Sem
open Finset (range)

theorem out_at (x : FVec Ideal S2048x5632 .bf16) (y : FVec Ideal S5632x2048 .bf16) (A : ℕ → ℕ → EReal) (B : ℕ → ℕ → EReal)
    (hA : ∀ i, x i = A (i 0).val (i 1).val) (hB : ∀ i, y i = B (i 0).val (i 1).val) (i : S2048x2048.Idx) :
    val_main_v2 (F := Ideal) x y i = ∑ k ∈ range 5632, A (i 0).val k * B k (i 1).val := by
  rw [val_main_v2_apply, Finset.sum_range]
  refine Finset.sum_congr rfl fun k _ => ?_
  exact congrArg₂ (fun u v : EReal => u * v) (hA _) (hB _)

end Cert.Reference9Ideal.Mm

namespace Cert.Proof.P9

open Idealize.ShloMosaic Idealize.SL.Sem

theorem frame_kernel : Cert.quiescent_Kernel9 := fun m ρ _ => Cert.Kernel9.Gen.frame m ρ

theorem frame_ideal : Cert.quiescent_Kernel9Ideal := fun m ρ _ => Cert.Kernel9Ideal.Gen.frame m ρ

theorem frame_reference : Cert.quiescent_Reference9Ideal := fun m ρ _ =>
  (θ_run Cert.Reference9Ideal.defs _ _).mono
    (fun _ h => ⟨fun c => (h c).2, sem_eq_zero_of_no_sems (by decide) _⟩) (Cert.Reference9Ideal.Value.run m ρ)

theorem algebraic : Cert.algebraic_Kernel9Ideal_Reference9Ideal := by
  intro m g m' g' _ harg
  refine ⟨fun c => Cert.Kernel9Ideal.Value.G2 m c, Cert.Kernel9Ideal.Value.run m g, ?_⟩
  refine (θ_run Cert.Reference9Ideal.defs _ _).mono (fun r h c => ?_) (Cert.Reference9Ideal.Value.run m' g')
  obtain ⟨e, k⟩ := h c
  rw [Cert.Reference9Ideal.Read.val_main_v2_eq, (harg c).1, (harg c).2] at e
  obtain ⟨A, hA⟩ := Cert.Mm.exists_nat2 (m ((c.tc : Thread Cert.Kernel9Ideal.nD Cert.Kernel9Ideal.τ).loc Cert.Kernel9Ideal.main_arg0) : Cert.Kernel9Ideal.S2048x5632.Idx → EReal)
  obtain ⟨B, hB⟩ := Cert.Mm.exists_nat2 (m ((c.tc : Thread Cert.Kernel9Ideal.nD Cert.Kernel9Ideal.τ).loc Cert.Kernel9Ideal.main_arg1) : Cert.Kernel9Ideal.S5632x2048.Idx → EReal)
  exact ⟨e.trans (funext fun i => (Cert.Reference9Ideal.Mm.out_at _ _ A B hA hB i).trans (Cert.Kernel9Ideal.Mm.G2_at m c A B hA hB i).symm), k⟩

end Cert.Proof.P9

end
-- ==== Proof.Mm.P10.lean ====
/-
  The projection to queries, keys and values: each run of 4 grid points adds up one block of the product.
-/
module

public import proofs.«01_k».proof.Defs
public import proofs.«01_k».proof.Proof.Mm.Sums
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Quiescent
public import Idealize.ShloMosaic.Lib.Pipeline.ReadBack

@[expose] public section

noncomputable section

namespace Cert.Kernel10Ideal.Mm

open Cert.Kernel10Ideal Cert.Kernel10Ideal.Gen Cert.Kernel10Ideal.Value Cert.Mm
open Idealize.ShloMosaic Idealize.ShloMosaic.TcCoe Idealize.ShloMosaic.ValueIdx Idealize.SL.Sem
open Finset (range)

theorem step (acc : Vec Ideal S2048x2048 .f32) (x : Vec Ideal S2048x512 .bf16) (y : Vec Ideal S512x2048 .bf16) (r : Fin 2048) (c : Fin 2048) :
    k0_pay2 acc x y (ix2 r c) = acc (ix2 r c) + ∑ k : Fin 512, x (ix2 r k) * y (ix2 k c) := by
  unfold k0_pay2
  simp only [shapeCast_self]
  exact congrArg (fun v : EReal => acc (ix2 r c) + v) (entry_nn x y r c)

theorem start (r : Fin 2048) (c : Fin 2048) : k0_pay1 (F := Ideal) (ix2 r c) = 0 := by
  unfold k0_pay1
  simp only [shapeCast_self]
  exact Ideal.ofBits_zero_f32

theorem idx0 : ∀ t : Fin grid0.N, win0_0.index t (0 : Fin 2) = t.val / 4 / 3 ∧ win0_0.index t (1 : Fin 2) = t.val % 4 := by decide +kernel
theorem idx1 : ∀ t : Fin grid0.N, win0_1.index t (0 : Fin 2) = t.val % 4 ∧ win0_1.index t (1 : Fin 2) = t.val / 4 % 3 := by decide +kernel

variable (m : (ℓ : Loc nD τ sig) → Buf (Elt Ideal) ℓ) (c : Dev nD) (A : ℕ → ℕ → EReal) (B : ℕ → ℕ → EReal)
  (hA : ∀ i, (m ((c : Thread nD τ).loc main_arg0) : S2048x2048.Idx → EReal) i = A (i 0).val (i 1).val)
  (hB : ∀ i, (m ((c : Thread nD τ).loc main_arg1) : S2048x10752.Idx → EReal) i = B (i 0).val (i 1).val)

/-- The block of the left operand at point `t`. -/
abbrev left (t : Fin cfg0.N) : S2048x512.Idx → EReal := iblk m c 0 t

/-- The block of the right operand at point `t`. -/
abbrev right (t : Fin cfg0.N) : S512x2048.Idx → EReal := X0_1 m c t

include hA in
theorem block0 (t : Fin cfg0.N) (r : Fin 2048) (k : Fin 512) :
    left m c t (ix2 r k) = A (2048 * (t.val / 4 / 3) + r.val) (t.val % 4 * 512 + k.val) := by
  unfold left iblk
  rw [View.read_apply]
  show V m c main_arg0 _ = _
  rw [V_main_arg0]
  refine (hA _).trans (congrArg₂ A ?_ ?_)
  · show win0_0.index t (0 : Fin 2) * 2048 + 1 * r.val = _
    rw [(idx0 t).1]; omega
  · show win0_0.index t (1 : Fin 2) * 512 + 1 * k.val = _
    rw [(idx0 t).2]; omega

include hB in
theorem block1 (t : Fin cfg0.N) (j : Fin 2048) (k : Fin 512) :
    right m c t (ix2 k j) = B (t.val % 4 * 512 + k.val) (2048 * (t.val / 4 % 3) + j.val) := by
  unfold right X0_1 Pipeline.Window.fill iblk
  rw [dif_pos (moved0_1 t _), View.read_apply]
  show V m c main_arg1 _ = _
  rw [V_main_arg1]
  refine (hB _).trans (congrArg₂ B ?_ ?_)
  · show win0_1.index t (0 : Fin 2) * 512 + 1 * k.val = _
    rw [(idx1 t).1]; omega
  · show win0_1.index t (1 : Fin 2) * 2048 + 1 * j.val = _
    rw [(idx1 t).2]; omega

theorem first (t : Fin cfg0.N) (h0 : t.val % 4 = 0) (r : Fin 2048) (j : Fin 2048) :
    (outsAt0 m c t.val t.isLt).2 (ix2 r j) = ∑ k : Fin 512, left m c t (ix2 r k) * right m c t (ix2 k j) := by
  rw [outsAt0_A m c t h0 (by omega)]
  frame_out
  rw [step, start, zero_add]

theorem next (t : Fin cfg0.N) (h0 : ¬t.val % 4 = 0) (r : Fin 2048) (j : Fin 2048) :
    (outsAt0 m c t.val t.isLt).2 (ix2 r j) = (outsAt0 m c (t.val - 1) (Nat.lt_of_le_of_lt (Nat.sub_le _ _) t.isLt)).2 (ix2 r j)
      + ∑ k : Fin 512, left m c t (ix2 r k) * right m c t (ix2 k j) := by
  by_cases h1 : t.val % 4 = 3
  · rw [outsAt0_C m c t h0 h1]
    frame_out
    rw [read_unread_whole, step]
  · rw [outsAt0_B m c t h0 h1]
    frame_out
    rw [read_unread_whole, step]

/-- At the last point of a run the output is the scratch. -/
theorem out_C (t : Fin cfg0.N) (h1 : t.val % 4 = 3) : (outsAt0 m c t.val t.isLt).1 = (outsAt0 m c t.val t.isLt).2 := by
  rw [outsAt0_C m c t (by omega) h1]
  frame_out
  rfl

theorem G2_last (i : S2048x6144.Idx) (n : ℕ) (h : n < cfg0.N) (hn : n = 4 * run2Of i + 3) : G2 m c i = (outsAt0 m c n h).2 (loc2Of i) := by
  subst hn
  refine Eq.trans ?_ (congrFun (out_C m c ⟨_, h⟩ (by show (4 * run2Of i + 3) % 4 = 3; omega)) _)
  unfold G2
  rw [dif_pos (show pt2Of i < cfg0.N from h), outsAt0_sweep]

include hA hB in
theorem G2_at (i : S2048x6144.Idx) : G2 m c i = ∑ k ∈ range 2048, A (i 0).val k * B k (i 1).val := by
  have h0 : (i 0).val < 2048 := (i 0).isLt
  have h1 : (i 1).val < 6144 := (i 1).isLt
  have h : 4 * (3 * ((i 0).val / 2048) + (i 1).val / 2048) + (4 - 1) < cfg0.N := Nat.lt_of_lt_of_eq (show _ < 12 by omega) N_0.symm
  have hl : loc2Of i = ix2 ⟨(i 0).val % 2048, Nat.mod_lt _ (by decide)⟩ ⟨(i 1).val % 2048, Nat.mod_lt _ (by decide)⟩ := by
    funext a
    match a with
    | ⟨0, _⟩ => rfl
    | ⟨1, _⟩ => rfl
  rw [G2_last m c i _ h (by show _ = 4 * (3 * ((i 0).val / 2048 - 0) + 1 * ((i 1).val / 2048 - 0)) + 3; omega), hl]
  exact tiled_at 4 3 (by decide) (by decide) (by decide) (fun i k => A i k) (fun j k => B k j) (fun t r k => left m c t (ix2 r k)) (fun t j k => right m c t (ix2 k j))
    (fun n h r j => (outsAt0 m c n h).2 (ix2 r j)) (block0 m c A hA) (block1 m c B hB) (first m c) (next m c) _ _ (by omega) h

end Cert.Kernel10Ideal.Mm

namespace Cert.Reference10Ideal.Mm

open Cert.Reference10Ideal Cert.Reference10Ideal.Gen Cert.Reference10Ideal.Read Cert.Mm
open Idealize.ShloMosaic Idealize.ShloMosaic.TcCoe Idealize.ShloMosaic.ValueIdx Idealize.SL.Sem
open Finset (range)

theorem out_at (x : FVec Ideal S2048x2048 .bf16) (y : FVec Ideal S2048x10752 .bf16) (A : ℕ → ℕ → EReal) (B : ℕ → ℕ → EReal)
    (hA : ∀ i, x i = A (i 0).val (i 1).val) (hB : ∀ i, y i = B (i 0).val (i 1).val) (i : S2048x6144.Idx) :
    val_main_v4 (F := Ideal) x y i = ∑ k ∈ range 2048, A (i 0).val k * B k (i 1).val := by
  show val_main_v3 (F := Ideal) x y i = _
  rw [val_main_v3_apply, Finset.sum_range]
  refine Finset.sum_congr rfl fun k _ => ?_
  exact congrArg₂ (fun u v : EReal => u * v) (hA _) ((val_main_v1_apply (F := Ideal) y _).trans ((hB _).trans (congrArg₂ B rfl rfl)))

end Cert.Reference10Ideal.Mm

namespace Cert.Proof.P10

open Idealize.ShloMosaic Idealize.SL.Sem

theorem frame_kernel : Cert.quiescent_Kernel10 := fun m ρ _ => Cert.Kernel10.Gen.frame m ρ

theorem frame_ideal : Cert.quiescent_Kernel10Ideal := fun m ρ _ => Cert.Kernel10Ideal.Gen.frame m ρ

theorem frame_reference : Cert.quiescent_Reference10Ideal := fun m ρ _ =>
  (θ_run Cert.Reference10Ideal.defs _ _).mono
    (fun _ h => ⟨fun c => (h c).2, sem_eq_zero_of_no_sems (by decide) _⟩) (Cert.Reference10Ideal.Value.run m ρ)

theorem algebraic : Cert.algebraic_Kernel10Ideal_Reference10Ideal := by
  intro m g m' g' _ harg
  refine ⟨fun c => Cert.Kernel10Ideal.Value.G2 m c, Cert.Kernel10Ideal.Value.run m g, ?_⟩
  refine (θ_run Cert.Reference10Ideal.defs _ _).mono (fun r h c => ?_) (Cert.Reference10Ideal.Value.run m' g')
  obtain ⟨e, k⟩ := h c
  rw [Cert.Reference10Ideal.Read.val_main_v4_eq, (harg c).1, (harg c).2] at e
  obtain ⟨A, hA⟩ := Cert.Mm.exists_nat2 (m ((c.tc : Thread Cert.Kernel10Ideal.nD Cert.Kernel10Ideal.τ).loc Cert.Kernel10Ideal.main_arg0) : Cert.Kernel10Ideal.S2048x2048.Idx → EReal)
  obtain ⟨B, hB⟩ := Cert.Mm.exists_nat2 (m ((c.tc : Thread Cert.Kernel10Ideal.nD Cert.Kernel10Ideal.τ).loc Cert.Kernel10Ideal.main_arg1) : Cert.Kernel10Ideal.S2048x10752.Idx → EReal)
  exact ⟨e.trans (funext fun i => (Cert.Reference10Ideal.Mm.out_at _ _ A B hA hB i).trans (Cert.Kernel10Ideal.Mm.G2_at m c A B hA hB i).symm), k⟩

end Cert.Proof.P10

end
-- ==== Proof.Mm.P11.lean ====
/-
  The projection to the gates: each run of 4 grid points adds up one block of the product.
-/
module

public import proofs.«01_k».proof.Defs
public import proofs.«01_k».proof.Proof.Mm.Sums
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.Quiescent

@[expose] public section

noncomputable section

namespace Cert.Kernel11Ideal.Mm

open Cert.Kernel11Ideal Cert.Kernel11Ideal.Gen Cert.Kernel11Ideal.Value Cert.Mm
open Idealize.ShloMosaic Idealize.ShloMosaic.TcCoe Idealize.ShloMosaic.ValueIdx Idealize.SL.Sem
open Finset (range)

theorem step (acc : Vec Ideal S2048x1536 .f32) (x : Vec Ideal S2048x512 .bf16) (y : Vec Ideal S512x1536 .bf16) (r : Fin 2048) (c : Fin 1536) :
    k0_pay2 acc x y (ix2 r c) = acc (ix2 r c) + ∑ k : Fin 512, x (ix2 r k) * y (ix2 k c) := by
  unfold k0_pay2
  simp only [shapeCast_self]
  exact congrArg (fun v : EReal => acc (ix2 r c) + v) (entry_nn x y r c)

theorem start (r : Fin 2048) (c : Fin 1536) : k0_pay1 (F := Ideal) (ix2 r c) = 0 := Ideal.ofBits_zero_f32

theorem idx0 : ∀ t : Fin grid0.N, win0_0.index t (0 : Fin 2) = t.val / 4 / 3 ∧ win0_0.index t (1 : Fin 2) = t.val % 4 := by decide +kernel
theorem idx1 : ∀ t : Fin grid0.N, win0_1.index t (0 : Fin 2) = t.val % 4 ∧ win0_1.index t (1 : Fin 2) = 4 + t.val / 4 % 3 := by decide +kernel

variable (m : (ℓ : Loc nD τ sig) → Buf (Elt Ideal) ℓ) (c : Dev nD) (A : ℕ → ℕ → EReal) (B : ℕ → ℕ → EReal)
  (hA : ∀ i, (m ((c : Thread nD τ).loc main_arg0) : S2048x2048.Idx → EReal) i = A (i 0).val (i 1).val)
  (hB : ∀ i, (m ((c : Thread nD τ).loc main_arg1) : S2048x10752.Idx → EReal) i = B (i 0).val (i 1).val)

/-- The block of the left operand at point `t`. -/
abbrev left (t : Fin cfg0.N) : S2048x512.Idx → EReal := iblk m c 0 t

/-- The block of the right operand at point `t`. -/
abbrev right (t : Fin cfg0.N) : S512x1536.Idx → EReal := iblk m c 1 t

include hA in
theorem block0 (t : Fin cfg0.N) (r : Fin 2048) (k : Fin 512) :
    left m c t (ix2 r k) = A (2048 * (t.val / 4 / 3) + r.val) (t.val % 4 * 512 + k.val) := by
  unfold left iblk
  rw [View.read_apply]
  show V m c main_arg0 _ = _
  rw [V_main_arg0]
  refine (hA _).trans (congrArg₂ A ?_ ?_)
  · show win0_0.index t (0 : Fin 2) * 2048 + 1 * r.val = _
    rw [(idx0 t).1]; omega
  · show win0_0.index t (1 : Fin 2) * 512 + 1 * k.val = _
    rw [(idx0 t).2]; omega

include hB in
theorem block1 (t : Fin cfg0.N) (j : Fin 1536) (k : Fin 512) :
    right m c t (ix2 k j) = B (t.val % 4 * 512 + k.val) (6144 + (1536 * (t.val / 4 % 3) + j.val)) := by
  unfold right iblk
  rw [View.read_apply]
  show V m c main_arg1 _ = _
  rw [V_main_arg1]
  refine (hB _).trans (congrArg₂ B ?_ ?_)
  · show win0_1.index t (0 : Fin 2) * 512 + 1 * k.val = _
    rw [(idx1 t).1]; omega
  · show win0_1.index t (1 : Fin 2) * 1536 + 1 * j.val = _
    rw [(idx1 t).2]; omega

theorem first (t : Fin cfg0.N) (h0 : t.val % 4 = 0) (r : Fin 2048) (j : Fin 1536) :
    outsAt0 m c t.val t.isLt (ix2 r j) = ∑ k : Fin 512, left m c t (ix2 r k) * right m c t (ix2 k j) := by
  rw [outsAt0_A m c t h0, out_A_2_eq, step, start, zero_add]

theorem next (t : Fin cfg0.N) (h0 : ¬t.val % 4 = 0) (r : Fin 2048) (j : Fin 1536) :
    outsAt0 m c t.val t.isLt (ix2 r j) = outsAt0 m c (t.val - 1) (Nat.lt_of_le_of_lt (Nat.sub_le _ _) t.isLt) (ix2 r j)
      + ∑ k : Fin 512, left m c t (ix2 r k) * right m c t (ix2 k j) := by
  rw [outsAt0_B m c t h0, out_B_2_eq, step]

theorem G2_last (i : S2048x4608.Idx) (n : ℕ) (h : n < cfg0.N) (hn : n = 4 * run2Of i + 3) : G2 m c i = outsAt0 m c n h (loc2Of i) := by
  subst hn
  unfold G2
  rw [dif_pos h]
  refine congrFun ((outsAt_2_eq m c ⟨4 * run2Of i + 3, h⟩).trans (accAt_congr _ _ ?_ ?_ _ _)).symm _
  · show 4 * ((4 * run2Of i + 3) / 4) = 4 * run2Of i
    omega
  · show (4 * run2Of i + 3) % 4 = 3
    omega

include hA hB in
theorem G2_at (i : S2048x4608.Idx) : G2 m c i = ∑ k ∈ range 2048, A (i 0).val k * B k (6144 + (i 1).val) := by
  have h0 : (i 0).val < 2048 := (i 0).isLt
  have h1 : (i 1).val < 4608 := (i 1).isLt
  have h : 4 * (3 * ((i 0).val / 2048) + (i 1).val / 1536) + (4 - 1) < cfg0.N := Nat.lt_of_lt_of_eq (show _ < 12 by omega) N_0.symm
  have hl : loc2Of i = ix2 ⟨(i 0).val % 2048, Nat.mod_lt _ (by decide)⟩ ⟨(i 1).val % 1536, Nat.mod_lt _ (by decide)⟩ := by
    funext a
    match a with
    | ⟨0, _⟩ => rfl
    | ⟨1, _⟩ => rfl
  rw [G2_last m c i _ h (by show _ = 4 * (3 * ((i 0).val / 2048 - 0) + 1 * ((i 1).val / 1536 - 0)) + 3; omega), hl]
  exact tiled_at 4 3 (by decide) (by decide) (by decide) (fun i k => A i k) (fun j k => B k (6144 + j)) (fun t r k => left m c t (ix2 r k)) (fun t j k => right m c t (ix2 k j))
    (fun n h r j => outsAt0 m c n h (ix2 r j)) (block0 m c A hA) (block1 m c B hB) (first m c) (next m c) _ _ (by omega) h

end Cert.Kernel11Ideal.Mm

namespace Cert.Reference11Ideal.Mm

open Cert.Reference11Ideal Cert.Reference11Ideal.Gen Cert.Reference11Ideal.Read Cert.Mm
open Idealize.ShloMosaic Idealize.ShloMosaic.TcCoe Idealize.ShloMosaic.ValueIdx Idealize.SL.Sem
open Finset (range)

theorem out_at (x : FVec Ideal S2048x2048 .bf16) (y : FVec Ideal S2048x10752 .bf16) (A : ℕ → ℕ → EReal) (B : ℕ → ℕ → EReal)
    (hA : ∀ i, x i = A (i 0).val (i 1).val) (hB : ∀ i, y i = B (i 0).val (i 1).val) (i : S2048x4608.Idx) :
    val_main_v3 (F := Ideal) x y i = ∑ k ∈ range 2048, A (i 0).val k * B k (6144 + (i 1).val) := by
  rw [val_main_v3_apply, Finset.sum_range]
  refine Finset.sum_congr rfl fun k _ => ?_
  exact congrArg₂ (fun u v : EReal => u * v) (hA _) ((val_main_v1_apply (F := Ideal) y _).trans ((hB _).trans (congrArg₂ B rfl rfl)))

end Cert.Reference11Ideal.Mm

namespace Cert.Proof.P11

open Idealize.ShloMosaic Idealize.SL.Sem

theorem frame_kernel : Cert.quiescent_Kernel11 := fun m ρ _ => Cert.Kernel11.Gen.frame m ρ

theorem frame_ideal : Cert.quiescent_Kernel11Ideal := fun m ρ _ => Cert.Kernel11Ideal.Gen.frame m ρ

theorem frame_reference : Cert.quiescent_Reference11Ideal := fun m ρ _ =>
  (θ_run Cert.Reference11Ideal.defs _ _).mono
    (fun _ h => ⟨fun c => (h c).2, sem_eq_zero_of_no_sems (by decide) _⟩) (Cert.Reference11Ideal.Value.run m ρ)

theorem algebraic : Cert.algebraic_Kernel11Ideal_Reference11Ideal := by
  intro m g m' g' _ harg
  refine ⟨fun c => Cert.Kernel11Ideal.Value.G2 m c, Cert.Kernel11Ideal.Value.run m g, ?_⟩
  refine (θ_run Cert.Reference11Ideal.defs _ _).mono (fun r h c => ?_) (Cert.Reference11Ideal.Value.run m' g')
  obtain ⟨e, k⟩ := h c
  rw [Cert.Reference11Ideal.Read.val_main_v3_eq, (harg c).1, (harg c).2] at e
  obtain ⟨A, hA⟩ := Cert.Mm.exists_nat2 (m ((c.tc : Thread Cert.Kernel11Ideal.nD Cert.Kernel11Ideal.τ).loc Cert.Kernel11Ideal.main_arg0) : Cert.Kernel11Ideal.S2048x2048.Idx → EReal)
  obtain ⟨B, hB⟩ := Cert.Mm.exists_nat2 (m ((c.tc : Thread Cert.Kernel11Ideal.nD Cert.Kernel11Ideal.τ).loc Cert.Kernel11Ideal.main_arg1) : Cert.Kernel11Ideal.S2048x10752.Idx → EReal)
  exact ⟨e.trans (funext fun i => (Cert.Reference11Ideal.Mm.out_at _ _ A B hA hB i).trans (Cert.Kernel11Ideal.Mm.G2_at m c A B hA hB i).symm), k⟩

end Cert.Proof.P11

end
-- ==== Proof.Mm.P12.lean ====
/-
  The gradient of the output projection's weights: each run of 4 grid points adds up one block of the product.
-/
module

public import proofs.«01_k».proof.Defs
public import proofs.«01_k».proof.Proof.Mm.Sums
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Lib.Quiescent
public import Idealize.ShloMosaic.Lib.Pipeline.ReadBack

@[expose] public section

noncomputable section

namespace Cert.Kernel12Ideal.Mm

open Cert.Kernel12Ideal Cert.Kernel12Ideal.Gen Cert.Kernel12Ideal.Value Cert.Mm
open Idealize.ShloMosaic Idealize.ShloMosaic.TcCoe Idealize.ShloMosaic.ValueIdx Idealize.SL.Sem
open Finset (range)

theorem step (acc : Vec Ideal S2048x2048 .f32) (x : Vec Ideal S512x2048 .bf16) (y : Vec Ideal S512x2048 .bf16) (r : Fin 2048) (c : Fin 2048) :
    k0_pay2 acc x y (ix2 r c) = acc (ix2 r c) + ∑ k : Fin 512, x (ix2 k r) * y (ix2 k c) := by
  unfold k0_pay2
  simp only [shapeCast_self]
  exact congrArg (fun v : EReal => acc (ix2 r c) + v) (entry_tn x y r c)

theorem start (r : Fin 2048) (c : Fin 2048) : k0_pay1 (F := Ideal) (ix2 r c) = 0 := by
  unfold k0_pay1
  simp only [shapeCast_self]
  exact Ideal.ofBits_zero_f32

theorem idx0 : ∀ t : Fin grid0.N, win0_0.index t (0 : Fin 2) = t.val % 4 ∧ win0_0.index t (1 : Fin 2) = t.val / 4 / 1 := by decide +kernel
theorem idx1 : ∀ t : Fin grid0.N, win0_1.index t (0 : Fin 2) = t.val % 4 ∧ win0_1.index t (1 : Fin 2) = t.val / 4 % 1 := by decide +kernel

variable (m : (ℓ : Loc nD τ sig) → Buf (Elt Ideal) ℓ) (c : Dev nD) (A : ℕ → ℕ → EReal) (B : ℕ → ℕ → EReal)
  (hA : ∀ i, (m ((c : Thread nD τ).loc main_arg0) : S2048x2048.Idx → EReal) i = A (i 0).val (i 1).val)
  (hB : ∀ i, (m ((c : Thread nD τ).loc main_arg1) : S2048x2048.Idx → EReal) i = B (i 0).val (i 1).val)

/-- The block of the left operand at point `t`. -/
abbrev left (t : Fin cfg0.N) : S512x2048.Idx → EReal := iblk m c 0 t

/-- The block of the right operand at point `t`. -/
abbrev right (t : Fin cfg0.N) : S512x2048.Idx → EReal := iblk m c 1 t

include hA in
theorem block0 (t : Fin cfg0.N) (r : Fin 2048) (k : Fin 512) :
    left m c t (ix2 k r) = A (t.val % 4 * 512 + k.val) (2048 * (t.val / 4 / 1) + r.val) := by
  unfold left iblk
  rw [View.read_apply]
  show V m c main_arg0 _ = _
  rw [V_main_arg0]
  refine (hA _).trans (congrArg₂ A ?_ ?_)
  · show win0_0.index t (0 : Fin 2) * 512 + 1 * k.val = _
    rw [(idx0 t).1]; omega
  · show win0_0.index t (1 : Fin 2) * 2048 + 1 * r.val = _
    rw [(idx0 t).2]; omega

include hB in
theorem block1 (t : Fin cfg0.N) (j : Fin 2048) (k : Fin 512) :
    right m c t (ix2 k j) = B (t.val % 4 * 512 + k.val) (2048 * (t.val / 4 % 1) + j.val) := by
  unfold right iblk
  rw [View.read_apply]
  show V m c main_arg1 _ = _
  rw [V_main_arg1]
  refine (hB _).trans (congrArg₂ B ?_ ?_)
  · show win0_1.index t (0 : Fin 2) * 512 + 1 * k.val = _
    rw [(idx1 t).1]; omega
  · show win0_1.index t (1 : Fin 2) * 2048 + 1 * j.val = _
    rw [(idx1 t).2]; omega

theorem first (t : Fin cfg0.N) (h0 : t.val % 4 = 0) (r : Fin 2048) (j : Fin 2048) :
    (outsAt0 m c t.val t.isLt).2 (ix2 r j) = ∑ k : Fin 512, left m c t (ix2 k r) * right m c t (ix2 k j) := by
  rw [outsAt0_A m c t h0 (by omega)]
  frame_out
  rw [step, start, zero_add]

theorem next (t : Fin cfg0.N) (h0 : ¬t.val % 4 = 0) (r : Fin 2048) (j : Fin 2048) :
    (outsAt0 m c t.val t.isLt).2 (ix2 r j) = (outsAt0 m c (t.val - 1) (Nat.lt_of_le_of_lt (Nat.sub_le _ _) t.isLt)).2 (ix2 r j)
      + ∑ k : Fin 512, left m c t (ix2 k r) * right m c t (ix2 k j) := by
  by_cases h1 : t.val % 4 = 3
  · rw [outsAt0_C m c t h0 h1]
    frame_out
    rw [read_unread_whole, step]
  · rw [outsAt0_B m c t h0 h1]
    frame_out
    rw [read_unread_whole, step]

/-- At the last point of a run the output is the scratch. -/
theorem out_C (t : Fin cfg0.N) (h1 : t.val % 4 = 3) : (outsAt0 m c t.val t.isLt).1 = (outsAt0 m c t.val t.isLt).2 := by
  rw [outsAt0_C m c t (by omega) h1]
  frame_out
  rfl

theorem G2_last (i : S2048x2048.Idx) (n : ℕ) (h : n < cfg0.N) (hn : n = 4 * run2Of i + 3) : G2 m c i = (outsAt0 m c n h).2 (loc2Of i) := by
  subst hn
  refine Eq.trans ?_ (congrFun (out_C m c ⟨_, h⟩ (by show (4 * run2Of i + 3) % 4 = 3; omega)) _)
  unfold G2
  rw [dif_pos (show pt2Of i < cfg0.N from h), outsAt0_sweep]

include hA hB in
theorem G2_at (i : S2048x2048.Idx) : G2 m c i = ∑ k ∈ range 2048, A k (i 0).val * B k (i 1).val := by
  have h0 : (i 0).val < 2048 := (i 0).isLt
  have h1 : (i 1).val < 2048 := (i 1).isLt
  have h : 4 * (1 * ((i 0).val / 2048) + (i 1).val / 2048) + (4 - 1) < cfg0.N := Nat.lt_of_lt_of_eq (show _ < 4 by omega) N_0.symm
  have hl : loc2Of i = ix2 ⟨(i 0).val % 2048, Nat.mod_lt _ (by decide)⟩ ⟨(i 1).val % 2048, Nat.mod_lt _ (by decide)⟩ := by
    funext a
    match a with
    | ⟨0, _⟩ => rfl
    | ⟨1, _⟩ => rfl
  rw [G2_last m c i _ h (by show _ = 4 * (1 * ((i 0).val / 2048 - 0) + 1 * ((i 1).val / 2048 - 0)) + 3; omega), hl]
  exact tiled_at 4 1 (by decide) (by decide) (by decide) (fun i k => A k i) (fun j k => B k j) (fun t r k => left m c t (ix2 k r)) (fun t j k => right m c t (ix2 k j))
    (fun n h r j => (outsAt0 m c n h).2 (ix2 r j)) (block0 m c A hA) (block1 m c B hB) (first m c) (next m c) _ _ (by omega) h

end Cert.Kernel12Ideal.Mm

namespace Cert.Reference12Ideal.Mm

open Cert.Reference12Ideal Cert.Reference12Ideal.Gen Cert.Reference12Ideal.Read Cert.Mm
open Idealize.ShloMosaic Idealize.ShloMosaic.TcCoe Idealize.ShloMosaic.ValueIdx Idealize.SL.Sem
open Finset (range)

theorem out_at (x : FVec Ideal S2048x2048 .bf16) (y : FVec Ideal S2048x2048 .bf16) (A : ℕ → ℕ → EReal) (B : ℕ → ℕ → EReal)
    (hA : ∀ i, x i = A (i 0).val (i 1).val) (hB : ∀ i, y i = B (i 0).val (i 1).val) (i : S2048x2048.Idx) :
    val_main_v6 (F := Ideal) x y i = ∑ k ∈ range 2048, A k (i 0).val * B k (i 1).val := by
  show val_main_v5 (F := Ideal) x y i = _
  rw [val_main_v5_apply, val_main_v4_apply, Finset.sum_range]
  refine Finset.sum_congr rfl fun k _ => (mul_comm _ _).trans ?_
  exact congrArg₂ (fun u v : EReal => u * v) (hA _) (hB _)

end Cert.Reference12Ideal.Mm

namespace Cert.Proof.P12

open Idealize.ShloMosaic Idealize.SL.Sem

theorem frame_kernel : Cert.quiescent_Kernel12 := fun m ρ _ => Cert.Kernel12.Gen.frame m ρ

theorem frame_ideal : Cert.quiescent_Kernel12Ideal := fun m ρ _ => Cert.Kernel12Ideal.Gen.frame m ρ

theorem frame_reference : Cert.quiescent_Reference12Ideal := fun m ρ _ =>
  (θ_run Cert.Reference12Ideal.defs _ _).mono
    (fun _ h => ⟨fun c => (h c).2, sem_eq_zero_of_no_sems (by decide) _⟩) (Cert.Reference12Ideal.Value.run m ρ)

theorem algebraic : Cert.algebraic_Kernel12Ideal_Reference12Ideal := by
  intro m g m' g' _ harg
  refine ⟨fun c => Cert.Kernel12Ideal.Value.G2 m c, Cert.Kernel12Ideal.Value.run m g, ?_⟩
  refine (θ_run Cert.Reference12Ideal.defs _ _).mono (fun r h c => ?_) (Cert.Reference12Ideal.Value.run m' g')
  obtain ⟨e, k⟩ := h c
  rw [Cert.Reference12Ideal.Read.val_main_v6_eq, (harg c).1, (harg c).2] at e
  obtain ⟨A, hA⟩ := Cert.Mm.exists_nat2 (m ((c.tc : Thread Cert.Kernel12Ideal.nD Cert.Kernel12Ideal.τ).loc Cert.Kernel12Ideal.main_arg0) : Cert.Kernel12Ideal.S2048x2048.Idx → EReal)
  obtain ⟨B, hB⟩ := Cert.Mm.exists_nat2 (m ((c.tc : Thread Cert.Kernel12Ideal.nD Cert.Kernel12Ideal.τ).loc Cert.Kernel12Ideal.main_arg1) : Cert.Kernel12Ideal.S2048x2048.Idx → EReal)
  exact ⟨e.trans (funext fun i => (Cert.Reference12Ideal.Mm.out_at _ _ A B hA hB i).trans (Cert.Kernel12Ideal.Mm.G2_at m c A B hA hB i).symm), k⟩

end Cert.Proof.P12

end
-- ==== Proof.Mm.P13.lean ====
/-
  The gradient of the product with the output projection, in its left operand: each run of 4 grid points adds up one block of the product.
-/
module

public import proofs.«01_k».proof.Defs
public import proofs.«01_k».proof.Proof.Mm.Sums
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.Quiescent

@[expose] public section

noncomputable section

namespace Cert.Kernel13Ideal.Mm

open Cert.Kernel13Ideal Cert.Kernel13Ideal.Gen Cert.Kernel13Ideal.Value Cert.Mm
open Idealize.ShloMosaic Idealize.ShloMosaic.TcCoe Idealize.ShloMosaic.ValueIdx Idealize.SL.Sem
open Finset (range)

theorem step (acc : Vec Ideal S2048x2048 .f32) (x : Vec Ideal S2048x512 .bf16) (y : Vec Ideal S2048x512 .bf16) (r : Fin 2048) (c : Fin 2048) :
    k0_pay2 acc x y (ix2 r c) = acc (ix2 r c) + ∑ k : Fin 512, x (ix2 r k) * y (ix2 c k) := by
  unfold k0_pay2
  simp only [shapeCast_self]
  exact congrArg (fun v : EReal => acc (ix2 r c) + v) (entry_nt x y r c)

theorem start (r : Fin 2048) (c : Fin 2048) : k0_pay1 (F := Ideal) (ix2 r c) = 0 := Ideal.ofBits_zero_f32

theorem idx0 : ∀ t : Fin grid0.N, win0_0.index t (0 : Fin 2) = t.val / 4 / 1 ∧ win0_0.index t (1 : Fin 2) = t.val % 4 := by decide +kernel
theorem idx1 : ∀ t : Fin grid0.N, win0_1.index t (0 : Fin 2) = t.val / 4 % 1 ∧ win0_1.index t (1 : Fin 2) = t.val % 4 := by decide +kernel

variable (m : (ℓ : Loc nD τ sig) → Buf (Elt Ideal) ℓ) (c : Dev nD) (A : ℕ → ℕ → EReal) (B : ℕ → ℕ → EReal)
  (hA : ∀ i, (m ((c : Thread nD τ).loc main_arg0) : S2048x2048.Idx → EReal) i = A (i 0).val (i 1).val)
  (hB : ∀ i, (m ((c : Thread nD τ).loc main_arg1) : S2048x2048.Idx → EReal) i = B (i 0).val (i 1).val)

/-- The block of the left operand at point `t`. -/
abbrev left (t : Fin cfg0.N) : S2048x512.Idx → EReal := iblk m c 0 t

/-- The block of the right operand at point `t`. -/
abbrev right (t : Fin cfg0.N) : S2048x512.Idx → EReal := iblk m c 1 t

include hA in
theorem block0 (t : Fin cfg0.N) (r : Fin 2048) (k : Fin 512) :
    left m c t (ix2 r k) = A (2048 * (t.val / 4 / 1) + r.val) (t.val % 4 * 512 + k.val) := by
  unfold left iblk
  rw [View.read_apply]
  show V m c main_arg0 _ = _
  rw [V_main_arg0]
  refine (hA _).trans (congrArg₂ A ?_ ?_)
  · show win0_0.index t (0 : Fin 2) * 2048 + 1 * r.val = _
    rw [(idx0 t).1]; omega
  · show win0_0.index t (1 : Fin 2) * 512 + 1 * k.val = _
    rw [(idx0 t).2]; omega

include hB in
theorem block1 (t : Fin cfg0.N) (j : Fin 2048) (k : Fin 512) :
    right m c t (ix2 j k) = B (2048 * (t.val / 4 % 1) + j.val) (t.val % 4 * 512 + k.val) := by
  unfold right iblk
  rw [View.read_apply]
  show V m c main_arg1 _ = _
  rw [V_main_arg1]
  refine (hB _).trans (congrArg₂ B ?_ ?_)
  · show win0_1.index t (0 : Fin 2) * 2048 + 1 * j.val = _
    rw [(idx1 t).1]; omega
  · show win0_1.index t (1 : Fin 2) * 512 + 1 * k.val = _
    rw [(idx1 t).2]; omega

theorem first (t : Fin cfg0.N) (h0 : t.val % 4 = 0) (r : Fin 2048) (j : Fin 2048) :
    outsAt0 m c t.val t.isLt (ix2 r j) = ∑ k : Fin 512, left m c t (ix2 r k) * right m c t (ix2 j k) := by
  rw [outsAt0_A m c t h0, out_A_2_eq, step, start, zero_add]

theorem next (t : Fin cfg0.N) (h0 : ¬t.val % 4 = 0) (r : Fin 2048) (j : Fin 2048) :
    outsAt0 m c t.val t.isLt (ix2 r j) = outsAt0 m c (t.val - 1) (Nat.lt_of_le_of_lt (Nat.sub_le _ _) t.isLt) (ix2 r j)
      + ∑ k : Fin 512, left m c t (ix2 r k) * right m c t (ix2 j k) := by
  rw [outsAt0_B m c t h0, out_B_2_eq, step]

theorem G2_last (i : S2048x2048.Idx) (n : ℕ) (h : n < cfg0.N) (hn : n = 4 * run2Of i + 3) : G2 m c i = outsAt0 m c n h (loc2Of i) := by
  subst hn
  unfold G2
  rw [dif_pos h]
  refine congrFun ((outsAt_2_eq m c ⟨4 * run2Of i + 3, h⟩).trans (accAt_congr _ _ ?_ ?_ _ _)).symm _
  · show 4 * ((4 * run2Of i + 3) / 4) = 4 * run2Of i
    omega
  · show (4 * run2Of i + 3) % 4 = 3
    omega

include hA hB in
theorem G2_at (i : S2048x2048.Idx) : G2 m c i = ∑ k ∈ range 2048, A (i 0).val k * B (i 1).val k := by
  have h0 : (i 0).val < 2048 := (i 0).isLt
  have h1 : (i 1).val < 2048 := (i 1).isLt
  have h : 4 * (1 * ((i 0).val / 2048) + (i 1).val / 2048) + (4 - 1) < cfg0.N := Nat.lt_of_lt_of_eq (show _ < 4 by omega) N_0.symm
  have hl : loc2Of i = ix2 ⟨(i 0).val % 2048, Nat.mod_lt _ (by decide)⟩ ⟨(i 1).val % 2048, Nat.mod_lt _ (by decide)⟩ := by
    funext a
    match a with
    | ⟨0, _⟩ => rfl
    | ⟨1, _⟩ => rfl
  rw [G2_last m c i _ h (by show _ = 4 * (1 * ((i 0).val / 2048 - 0) + 1 * ((i 1).val / 2048 - 0)) + 3; omega), hl]
  exact tiled_at 4 1 (by decide) (by decide) (by decide) (fun i k => A i k) (fun j k => B j k) (fun t r k => left m c t (ix2 r k)) (fun t j k => right m c t (ix2 j k))
    (fun n h r j => outsAt0 m c n h (ix2 r j)) (block0 m c A hA) (block1 m c B hB) (first m c) (next m c) _ _ (by omega) h

end Cert.Kernel13Ideal.Mm

namespace Cert.Reference13Ideal.Mm

open Cert.Reference13Ideal Cert.Reference13Ideal.Gen Cert.Reference13Ideal.Read Cert.Mm
open Idealize.ShloMosaic Idealize.ShloMosaic.TcCoe Idealize.ShloMosaic.ValueIdx Idealize.SL.Sem
open Finset (range)

theorem out_at (x : FVec Ideal S2048x2048 .bf16) (y : FVec Ideal S2048x2048 .bf16) (A : ℕ → ℕ → EReal) (B : ℕ → ℕ → EReal)
    (hA : ∀ i, x i = A (i 0).val (i 1).val) (hB : ∀ i, y i = B (i 0).val (i 1).val) (i : S2048x2048.Idx) :
    val_main_v4 (F := Ideal) x y i = ∑ k ∈ range 2048, A (i 0).val k * B (i 1).val k := by
  rw [val_main_v4_apply, Finset.sum_range]
  refine Finset.sum_congr rfl fun k _ => ?_
  exact congrArg₂ (fun u v : EReal => u * v) (hA _) (hB _)

end Cert.Reference13Ideal.Mm

namespace Cert.Proof.P13

open Idealize.ShloMosaic Idealize.SL.Sem

theorem frame_kernel : Cert.quiescent_Kernel13 := fun m ρ _ => Cert.Kernel13.Gen.frame m ρ

theorem frame_ideal : Cert.quiescent_Kernel13Ideal := fun m ρ _ => Cert.Kernel13Ideal.Gen.frame m ρ

theorem frame_reference : Cert.quiescent_Reference13Ideal := fun m ρ _ =>
  (θ_run Cert.Reference13Ideal.defs _ _).mono
    (fun _ h => ⟨fun c => (h c).2, sem_eq_zero_of_no_sems (by decide) _⟩) (Cert.Reference13Ideal.Value.run m ρ)

theorem algebraic : Cert.algebraic_Kernel13Ideal_Reference13Ideal := by
  intro m g m' g' _ harg
  refine ⟨fun c => Cert.Kernel13Ideal.Value.G2 m c, Cert.Kernel13Ideal.Value.run m g, ?_⟩
  refine (θ_run Cert.Reference13Ideal.defs _ _).mono (fun r h c => ?_) (Cert.Reference13Ideal.Value.run m' g')
  obtain ⟨e, k⟩ := h c
  rw [Cert.Reference13Ideal.Read.val_main_v4_eq, (harg c).1, (harg c).2] at e
  obtain ⟨A, hA⟩ := Cert.Mm.exists_nat2 (m ((c.tc : Thread Cert.Kernel13Ideal.nD Cert.Kernel13Ideal.τ).loc Cert.Kernel13Ideal.main_arg0) : Cert.Kernel13Ideal.S2048x2048.Idx → EReal)
  obtain ⟨B, hB⟩ := Cert.Mm.exists_nat2 (m ((c.tc : Thread Cert.Kernel13Ideal.nD Cert.Kernel13Ideal.τ).loc Cert.Kernel13Ideal.main_arg1) : Cert.Kernel13Ideal.S2048x2048.Idx → EReal)
  exact ⟨e.trans (funext fun i => (Cert.Reference13Ideal.Mm.out_at _ _ A B hA hB i).trans (Cert.Kernel13Ideal.Mm.G2_at m c A B hA hB i).symm), k⟩

end Cert.Proof.P13

end
-- ==== Proof.Mm.P14.lean ====
/-
  The output projection: each run of 4 grid points adds up one block of the product.
-/
module

public import proofs.«01_k».proof.Defs
public import proofs.«01_k».proof.Proof.Mm.Sums
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Lib.Quiescent

@[expose] public section

noncomputable section

namespace Cert.Kernel14Ideal.Mm

open Cert.Kernel14Ideal Cert.Kernel14Ideal.Gen Cert.Kernel14Ideal.Value Cert.Mm
open Idealize.ShloMosaic Idealize.ShloMosaic.TcCoe Idealize.ShloMosaic.ValueIdx Idealize.SL.Sem
open Finset (range)

theorem step (acc : Vec Ideal S2048x2048 .f32) (x : Vec Ideal S2048x512 .bf16) (y : Vec Ideal S512x2048 .bf16) (r : Fin 2048) (c : Fin 2048) :
    k0_pay2 acc x y (ix2 r c) = acc (ix2 r c) + ∑ k : Fin 512, x (ix2 r k) * y (ix2 k c) := by
  unfold k0_pay2
  simp only [shapeCast_self]
  exact congrArg (fun v : EReal => acc (ix2 r c) + v) (entry_nn x y r c)

theorem start (r : Fin 2048) (c : Fin 2048) : k0_pay1 (F := Ideal) (ix2 r c) = 0 := Ideal.ofBits_zero_f32

theorem idx0 : ∀ t : Fin grid0.N, win0_0.index t (0 : Fin 2) = t.val / 4 / 1 ∧ win0_0.index t (1 : Fin 2) = t.val % 4 := by decide +kernel
theorem idx1 : ∀ t : Fin grid0.N, win0_1.index t (0 : Fin 2) = t.val % 4 ∧ win0_1.index t (1 : Fin 2) = t.val / 4 % 1 := by decide +kernel

variable (m : (ℓ : Loc nD τ sig) → Buf (Elt Ideal) ℓ) (c : Dev nD) (A : ℕ → ℕ → EReal) (B : ℕ → ℕ → EReal)
  (hA : ∀ i, (m ((c : Thread nD τ).loc main_arg0) : S2048x2048.Idx → EReal) i = A (i 0).val (i 1).val)
  (hB : ∀ i, (m ((c : Thread nD τ).loc main_arg1) : S2048x2048.Idx → EReal) i = B (i 0).val (i 1).val)

/-- The block of the left operand at point `t`. -/
abbrev left (t : Fin cfg0.N) : S2048x512.Idx → EReal := iblk m c 0 t

/-- The block of the right operand at point `t`. -/
abbrev right (t : Fin cfg0.N) : S512x2048.Idx → EReal := iblk m c 1 t

include hA in
theorem block0 (t : Fin cfg0.N) (r : Fin 2048) (k : Fin 512) :
    left m c t (ix2 r k) = A (2048 * (t.val / 4 / 1) + r.val) (t.val % 4 * 512 + k.val) := by
  unfold left iblk
  rw [View.read_apply]
  show V m c main_arg0 _ = _
  rw [V_main_arg0]
  refine (hA _).trans (congrArg₂ A ?_ ?_)
  · show win0_0.index t (0 : Fin 2) * 2048 + 1 * r.val = _
    rw [(idx0 t).1]; omega
  · show win0_0.index t (1 : Fin 2) * 512 + 1 * k.val = _
    rw [(idx0 t).2]; omega

include hB in
theorem block1 (t : Fin cfg0.N) (j : Fin 2048) (k : Fin 512) :
    right m c t (ix2 k j) = B (t.val % 4 * 512 + k.val) (2048 * (t.val / 4 % 1) + j.val) := by
  unfold right iblk
  rw [View.read_apply]
  show V m c main_arg1 _ = _
  rw [V_main_arg1]
  refine (hB _).trans (congrArg₂ B ?_ ?_)
  · show win0_1.index t (0 : Fin 2) * 512 + 1 * k.val = _
    rw [(idx1 t).1]; omega
  · show win0_1.index t (1 : Fin 2) * 2048 + 1 * j.val = _
    rw [(idx1 t).2]; omega

theorem first (t : Fin cfg0.N) (h0 : t.val % 4 = 0) (r : Fin 2048) (j : Fin 2048) :
    outsAt0 m c t.val t.isLt (ix2 r j) = ∑ k : Fin 512, left m c t (ix2 r k) * right m c t (ix2 k j) := by
  rw [outsAt0_A m c t h0, out_A_2_eq, step, start, zero_add]

theorem next (t : Fin cfg0.N) (h0 : ¬t.val % 4 = 0) (r : Fin 2048) (j : Fin 2048) :
    outsAt0 m c t.val t.isLt (ix2 r j) = outsAt0 m c (t.val - 1) (Nat.lt_of_le_of_lt (Nat.sub_le _ _) t.isLt) (ix2 r j)
      + ∑ k : Fin 512, left m c t (ix2 r k) * right m c t (ix2 k j) := by
  rw [outsAt0_B m c t h0, out_B_2_eq, step]

theorem G2_last (i : S2048x2048.Idx) (n : ℕ) (h : n < cfg0.N) (hn : n = 4 * run2Of i + 3) : G2 m c i = outsAt0 m c n h (loc2Of i) := by
  subst hn
  unfold G2
  rw [dif_pos h]
  refine congrFun ((outsAt_2_eq m c ⟨4 * run2Of i + 3, h⟩).trans (accAt_congr _ _ ?_ ?_ _ _)).symm _
  · show 4 * ((4 * run2Of i + 3) / 4) = 4 * run2Of i
    omega
  · show (4 * run2Of i + 3) % 4 = 3
    omega

include hA hB in
theorem G2_at (i : S2048x2048.Idx) : G2 m c i = ∑ k ∈ range 2048, A (i 0).val k * B k (i 1).val := by
  have h0 : (i 0).val < 2048 := (i 0).isLt
  have h1 : (i 1).val < 2048 := (i 1).isLt
  have h : 4 * (1 * ((i 0).val / 2048) + (i 1).val / 2048) + (4 - 1) < cfg0.N := Nat.lt_of_lt_of_eq (show _ < 4 by omega) N_0.symm
  have hl : loc2Of i = ix2 ⟨(i 0).val % 2048, Nat.mod_lt _ (by decide)⟩ ⟨(i 1).val % 2048, Nat.mod_lt _ (by decide)⟩ := by
    funext a
    match a with
    | ⟨0, _⟩ => rfl
    | ⟨1, _⟩ => rfl
  rw [G2_last m c i _ h (by show _ = 4 * (1 * ((i 0).val / 2048 - 0) + 1 * ((i 1).val / 2048 - 0)) + 3; omega), hl]
  exact tiled_at 4 1 (by decide) (by decide) (by decide) (fun i k => A i k) (fun j k => B k j) (fun t r k => left m c t (ix2 r k)) (fun t j k => right m c t (ix2 k j))
    (fun n h r j => outsAt0 m c n h (ix2 r j)) (block0 m c A hA) (block1 m c B hB) (first m c) (next m c) _ _ (by omega) h

end Cert.Kernel14Ideal.Mm

namespace Cert.Reference14Ideal.Mm

open Cert.Reference14Ideal Cert.Reference14Ideal.Gen Cert.Reference14Ideal.Read Cert.Mm
open Idealize.ShloMosaic Idealize.ShloMosaic.TcCoe Idealize.ShloMosaic.ValueIdx Idealize.SL.Sem
open Finset (range)

theorem out_at (x : FVec Ideal S2048x2048 .bf16) (y : FVec Ideal S2048x2048 .bf16) (A : ℕ → ℕ → EReal) (B : ℕ → ℕ → EReal)
    (hA : ∀ i, x i = A (i 0).val (i 1).val) (hB : ∀ i, y i = B (i 0).val (i 1).val) (i : S2048x2048.Idx) :
    val_main_v2 (F := Ideal) x y i = ∑ k ∈ range 2048, A (i 0).val k * B k (i 1).val := by
  rw [val_main_v2_apply, Finset.sum_range]
  refine Finset.sum_congr rfl fun k _ => ?_
  exact congrArg₂ (fun u v : EReal => u * v) (hA _) (hB _)

end Cert.Reference14Ideal.Mm

namespace Cert.Proof.P14

open Idealize.ShloMosaic Idealize.SL.Sem

theorem frame_kernel : Cert.quiescent_Kernel14 := fun m ρ _ => Cert.Kernel14.Gen.frame m ρ

theorem frame_ideal : Cert.quiescent_Kernel14Ideal := fun m ρ _ => Cert.Kernel14Ideal.Gen.frame m ρ

theorem frame_reference : Cert.quiescent_Reference14Ideal := fun m ρ _ =>
  (θ_run Cert.Reference14Ideal.defs _ _).mono
    (fun _ h => ⟨fun c => (h c).2, sem_eq_zero_of_no_sems (by decide) _⟩) (Cert.Reference14Ideal.Value.run m ρ)

theorem algebraic : Cert.algebraic_Kernel14Ideal_Reference14Ideal := by
  intro m g m' g' _ harg
  refine ⟨fun c => Cert.Kernel14Ideal.Value.G2 m c, Cert.Kernel14Ideal.Value.run m g, ?_⟩
  refine (θ_run Cert.Reference14Ideal.defs _ _).mono (fun r h c => ?_) (Cert.Reference14Ideal.Value.run m' g')
  obtain ⟨e, k⟩ := h c
  rw [Cert.Reference14Ideal.Read.val_main_v2_eq, (harg c).1, (harg c).2] at e
  obtain ⟨A, hA⟩ := Cert.Mm.exists_nat2 (m ((c.tc : Thread Cert.Kernel14Ideal.nD Cert.Kernel14Ideal.τ).loc Cert.Kernel14Ideal.main_arg0) : Cert.Kernel14Ideal.S2048x2048.Idx → EReal)
  obtain ⟨B, hB⟩ := Cert.Mm.exists_nat2 (m ((c.tc : Thread Cert.Kernel14Ideal.nD Cert.Kernel14Ideal.τ).loc Cert.Kernel14Ideal.main_arg1) : Cert.Kernel14Ideal.S2048x2048.Idx → EReal)
  exact ⟨e.trans (funext fun i => (Cert.Reference14Ideal.Mm.out_at _ _ A B hA hB i).trans (Cert.Kernel14Ideal.Mm.G2_at m c A B hA hB i).symm), k⟩

end Cert.Proof.P14

end
-- ==== Proof.Mm.P15.lean ====
/-
  The gradient of the product with the first branch's weights, in its left operand: each run of 4 grid points adds up one block of the product.
-/
module

public import proofs.«01_k».proof.Defs
public import proofs.«01_k».proof.Proof.Mm.Sums
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import Idealize.ShloMosaic.Lib.Quiescent
public import Idealize.ShloMosaic.Lib.Pipeline.ReadBack

@[expose] public section

noncomputable section

namespace Cert.Kernel15Ideal.Mm

open Cert.Kernel15Ideal Cert.Kernel15Ideal.Gen Cert.Kernel15Ideal.Value Cert.Mm
open Idealize.ShloMosaic Idealize.ShloMosaic.TcCoe Idealize.ShloMosaic.ValueIdx Idealize.SL.Sem
open Finset (range)

theorem step (acc : Vec Ideal S2048x1024 .f32) (x : Vec Ideal S2048x512 .bf16) (y : Vec Ideal S1x1024x512 .bf16) (r : Fin 2048) (c : Fin 1024) :
    k0_pay2 acc x y (ix2 r c) = acc (ix2 r c) + ∑ k : Fin 512, x (ix2 r k) * y (ix3 0 c k) := by
  unfold k0_pay2
  simp only [shapeCast_self]
  exact congrArg (fun v : EReal => acc (ix2 r c) + v) ((entry_nt x _ r c).trans (Finset.sum_congr rfl fun k _ => congrArg (fun v : EReal => x (ix2 r k) * v) (unstack y _ c k)))

theorem start (r : Fin 2048) (c : Fin 1024) : k0_pay1 (F := Ideal) (ix2 r c) = 0 := by
  unfold k0_pay1
  simp only [shapeCast_self]
  exact Ideal.ofBits_zero_f32

theorem idx0 : ∀ t : Fin grid0.N, win0_0.index t (0 : Fin 2) = t.val / 4 / 1 ∧ win0_0.index t (1 : Fin 2) = t.val % 4 := by decide +kernel
theorem idx1 : ∀ t : Fin grid0.N, win0_1.index t (0 : Fin 3) = t.val % 4 ∧ win0_1.index t (1 : Fin 3) = t.val / 4 % 1 ∧ win0_1.index t (2 : Fin 3) = 0 := by decide +kernel

variable (m : (ℓ : Loc nD τ sig) → Buf (Elt Ideal) ℓ) (c : Dev nD) (A : ℕ → ℕ → EReal) (B : ℕ → ℕ → ℕ → EReal)
  (hA : ∀ i, (m ((c : Thread nD τ).loc main_arg0) : S2048x2048.Idx → EReal) i = A (i 0).val (i 1).val)
  (hB : ∀ i, (m ((c : Thread nD τ).loc main_arg1) : S4x1024x1024.Idx → EReal) i = B (i 0).val (i 1).val (i 2).val)

/-- The block of the left operand at point `t`. -/
abbrev left (t : Fin cfg0.N) : S2048x512.Idx → EReal := iblk m c 0 t

/-- The block of the right operand at point `t`. -/
abbrev right (t : Fin cfg0.N) : S1x1024x512.Idx → EReal := iblk m c 1 t

include hA in
theorem block0 (t : Fin cfg0.N) (r : Fin 2048) (k : Fin 512) :
    left m c t (ix2 r k) = A (2048 * (t.val / 4 / 1) + r.val) (t.val % 4 * 512 + k.val) := by
  unfold left iblk
  rw [View.read_apply]
  show V m c main_arg0 _ = _
  rw [V_main_arg0]
  refine (hA _).trans (congrArg₂ A ?_ ?_)
  · show win0_0.index t (0 : Fin 2) * 2048 + 1 * r.val = _
    rw [(idx0 t).1]; omega
  · show win0_0.index t (1 : Fin 2) * 512 + 1 * k.val = _
    rw [(idx0 t).2]; omega

include hB in
theorem block1 (t : Fin cfg0.N) (j : Fin 1024) (k : Fin 512) :
    right m c t (ix3 0 j k) = B ((t.val % 4 * 512 + k.val) / 512) (1024 * (t.val / 4 % 1) + j.val) ((t.val % 4 * 512 + k.val) % 512) := by
  unfold right iblk
  rw [View.read_apply]
  show V m c main_arg1 _ = _
  rw [V_main_arg1]
  refine (hB _).trans (congr3 B ?_ ?_ ?_)
  · show win0_1.index t (0 : Fin 3) * 1 + 1 * 0 = _
    rw [(idx1 t).1]; omega
  · show win0_1.index t (1 : Fin 3) * 1024 + 1 * j.val = _
    rw [(idx1 t).2.1]; omega
  · show win0_1.index t (2 : Fin 3) * 512 + 1 * k.val = _
    rw [(idx1 t).2.2]; omega

theorem first (t : Fin cfg0.N) (h0 : t.val % 4 = 0) (r : Fin 2048) (j : Fin 1024) :
    (outsAt0 m c t.val t.isLt).2 (ix2 r j) = ∑ k : Fin 512, left m c t (ix2 r k) * right m c t (ix3 0 j k) := by
  rw [outsAt0_A m c t h0 (by omega)]
  frame_out
  rw [step, start, zero_add]

theorem next (t : Fin cfg0.N) (h0 : ¬t.val % 4 = 0) (r : Fin 2048) (j : Fin 1024) :
    (outsAt0 m c t.val t.isLt).2 (ix2 r j) = (outsAt0 m c (t.val - 1) (Nat.lt_of_le_of_lt (Nat.sub_le _ _) t.isLt)).2 (ix2 r j)
      + ∑ k : Fin 512, left m c t (ix2 r k) * right m c t (ix3 0 j k) := by
  by_cases h1 : t.val % 4 = 3
  · rw [outsAt0_C m c t h0 h1]
    frame_out
    rw [read_unread_whole, step]
  · rw [outsAt0_B m c t h0 h1]
    frame_out
    rw [read_unread_whole, step]

/-- At the last point of a run the output is the scratch. -/
theorem out_C (t : Fin cfg0.N) (h1 : t.val % 4 = 3) : (outsAt0 m c t.val t.isLt).1 = (outsAt0 m c t.val t.isLt).2 := by
  rw [outsAt0_C m c t (by omega) h1]
  frame_out
  rfl

theorem G2_last (i : S2048x1024.Idx) (n : ℕ) (h : n < cfg0.N) (hn : n = 4 * run2Of i + 3) : G2 m c i = (outsAt0 m c n h).2 (loc2Of i) := by
  subst hn
  refine Eq.trans ?_ (congrFun (out_C m c ⟨_, h⟩ (by show (4 * run2Of i + 3) % 4 = 3; omega)) _)
  unfold G2
  rw [dif_pos (show pt2Of i < cfg0.N from h), outsAt0_sweep]

include hA hB in
theorem G2_at (i : S2048x1024.Idx) : G2 m c i = ∑ k ∈ range 2048, A (i 0).val k * B (k / 512) (i 1).val (k % 512) := by
  have h0 : (i 0).val < 2048 := (i 0).isLt
  have h1 : (i 1).val < 1024 := (i 1).isLt
  have h : 4 * (1 * ((i 0).val / 2048) + (i 1).val / 1024) + (4 - 1) < cfg0.N := Nat.lt_of_lt_of_eq (show _ < 4 by omega) N_0.symm
  have hl : loc2Of i = ix2 ⟨(i 0).val % 2048, Nat.mod_lt _ (by decide)⟩ ⟨(i 1).val % 1024, Nat.mod_lt _ (by decide)⟩ := by
    funext a
    match a with
    | ⟨0, _⟩ => rfl
    | ⟨1, _⟩ => rfl
  rw [G2_last m c i _ h (by show _ = 4 * (1 * ((i 0).val / 2048 - 0) + 1 * ((i 1).val / 1024 - 0)) + 3; omega), hl]
  exact tiled_at 4 1 (by decide) (by decide) (by decide) (fun i k => A i k) (fun j k => B (k / 512) j (k % 512)) (fun t r k => left m c t (ix2 r k)) (fun t j k => right m c t (ix3 0 j k))
    (fun n h r j => (outsAt0 m c n h).2 (ix2 r j)) (block0 m c A hA) (block1 m c B hB) (first m c) (next m c) _ _ (by omega) h

end Cert.Kernel15Ideal.Mm

namespace Cert.Reference15Ideal.Mm

open Cert.Reference15Ideal Cert.Reference15Ideal.Gen Cert.Reference15Ideal.Read Cert.Mm
open Idealize.ShloMosaic Idealize.ShloMosaic.TcCoe Idealize.ShloMosaic.ValueIdx Idealize.SL.Sem
open Finset (range)

theorem out_at (x : FVec Ideal S2048x2048 .bf16) (y : FVec Ideal S4x1024x1024 .bf16) (A : ℕ → ℕ → EReal) (B : ℕ → ℕ → ℕ → EReal)
    (hA : ∀ i, x i = A (i 0).val (i 1).val) (hB : ∀ i, y i = B (i 0).val (i 1).val (i 2).val) (i : S2048x1024.Idx) :
    val_main_v8 (F := Ideal) x y i = ∑ k ∈ range 2048, A (i 0).val k * B (k / 512) (i 1).val (k % 512) := by
  show val_main_v7 (F := Ideal) x y i = _
  rw [val_main_v7_apply, Finset.sum_range]
  refine Finset.sum_congr rfl fun k _ => ?_
  refine congrArg₂ (fun u v : EReal => u * v) (hA _) ?_
  have hk : k.val < 2048 := k.isLt
  have hi : (i 1).val < 1024 := (i 1).isLt
  refine (val_main_v2_apply (F := Ideal) y _).trans ((val_main_v1_apply (F := Ideal) y _).trans ((val_main_v0_apply (F := Ideal) y _).trans ((hB _).trans ?_)))
  refine congr3 B ?_ ?_ ?_
  · show ((i 1).val * 2048 + k.val) / 512 % 4 = k.val / 512
    omega
  · show ((i 1).val * 2048 + k.val) / 2048 = (i 1).val
    omega
  · show ((i 1).val * 2048 + k.val) % 512 = k.val % 512
    omega

end Cert.Reference15Ideal.Mm

namespace Cert.Proof.P15

open Idealize.ShloMosaic Idealize.SL.Sem

theorem frame_kernel : Cert.quiescent_Kernel15 := fun m ρ _ => Cert.Kernel15.Gen.frame m ρ

theorem frame_ideal : Cert.quiescent_Kernel15Ideal := fun m ρ _ => Cert.Kernel15Ideal.Gen.frame m ρ

theorem frame_reference : Cert.quiescent_Reference15Ideal := fun m ρ _ =>
  (θ_run Cert.Reference15Ideal.defs _ _).mono
    (fun _ h => ⟨fun c => (h c).2, sem_eq_zero_of_no_sems (by decide) _⟩) (Cert.Reference15Ideal.Value.run m ρ)

theorem algebraic : Cert.algebraic_Kernel15Ideal_Reference15Ideal := by
  intro m g m' g' _ harg
  refine ⟨fun c => Cert.Kernel15Ideal.Value.G2 m c, Cert.Kernel15Ideal.Value.run m g, ?_⟩
  refine (θ_run Cert.Reference15Ideal.defs _ _).mono (fun r h c => ?_) (Cert.Reference15Ideal.Value.run m' g')
  obtain ⟨e, k⟩ := h c
  rw [Cert.Reference15Ideal.Read.val_main_v8_eq, (harg c).1, (harg c).2] at e
  obtain ⟨A, hA⟩ := Cert.Mm.exists_nat2 (m ((c.tc : Thread Cert.Kernel15Ideal.nD Cert.Kernel15Ideal.τ).loc Cert.Kernel15Ideal.main_arg0) : Cert.Kernel15Ideal.S2048x2048.Idx → EReal)
  obtain ⟨B, hB⟩ := Cert.Mm.exists_nat3 (m ((c.tc : Thread Cert.Kernel15Ideal.nD Cert.Kernel15Ideal.τ).loc Cert.Kernel15Ideal.main_arg1) : Cert.Kernel15Ideal.S4x1024x1024.Idx → EReal)
  exact ⟨e.trans (funext fun i => (Cert.Reference15Ideal.Mm.out_at _ _ A B hA hB i).trans (Cert.Kernel15Ideal.Mm.G2_at m c A B hA hB i).symm), k⟩

end Cert.Proof.P15

end
-- ==== Proof.Mm.P16.lean ====
/-
  The gradient of the product with the second branch's weights, in its left operand: each run of 4 grid points adds up one block of the product.
-/
module

public import proofs.«01_k».proof.Defs
public import proofs.«01_k».proof.Proof.Mm.Sums
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.Lib.Quiescent
public import Idealize.ShloMosaic.Lib.Pipeline.ReadBack

@[expose] public section

noncomputable section

namespace Cert.Kernel16Ideal.Mm

open Cert.Kernel16Ideal Cert.Kernel16Ideal.Gen Cert.Kernel16Ideal.Value Cert.Mm
open Idealize.ShloMosaic Idealize.ShloMosaic.TcCoe Idealize.ShloMosaic.ValueIdx Idealize.SL.Sem
open Finset (range)

theorem step (acc : Vec Ideal S2048x1024 .f32) (x : Vec Ideal S2048x512 .bf16) (y : Vec Ideal S1x1024x512 .bf16) (r : Fin 2048) (c : Fin 1024) :
    k0_pay2 acc x y (ix2 r c) = acc (ix2 r c) + ∑ k : Fin 512, x (ix2 r k) * y (ix3 0 c k) := by
  unfold k0_pay2
  simp only [shapeCast_self]
  exact congrArg (fun v : EReal => acc (ix2 r c) + v) ((entry_nt x _ r c).trans (Finset.sum_congr rfl fun k _ => congrArg (fun v : EReal => x (ix2 r k) * v) (unstack y _ c k)))

theorem start (r : Fin 2048) (c : Fin 1024) : k0_pay1 (F := Ideal) (ix2 r c) = 0 := by
  unfold k0_pay1
  simp only [shapeCast_self]
  exact Ideal.ofBits_zero_f32

theorem idx0 : ∀ t : Fin grid0.N, win0_0.index t (0 : Fin 2) = t.val / 4 / 1 ∧ win0_0.index t (1 : Fin 2) = t.val % 4 := by decide +kernel
theorem idx1 : ∀ t : Fin grid0.N, win0_1.index t (0 : Fin 3) = t.val % 4 ∧ win0_1.index t (1 : Fin 3) = t.val / 4 % 1 ∧ win0_1.index t (2 : Fin 3) = 1 := by decide +kernel

variable (m : (ℓ : Loc nD τ sig) → Buf (Elt Ideal) ℓ) (c : Dev nD) (A : ℕ → ℕ → EReal) (B : ℕ → ℕ → ℕ → EReal)
  (hA : ∀ i, (m ((c : Thread nD τ).loc main_arg0) : S2048x2048.Idx → EReal) i = A (i 0).val (i 1).val)
  (hB : ∀ i, (m ((c : Thread nD τ).loc main_arg1) : S4x1024x1024.Idx → EReal) i = B (i 0).val (i 1).val (i 2).val)

/-- The block of the left operand at point `t`. -/
abbrev left (t : Fin cfg0.N) : S2048x512.Idx → EReal := iblk m c 0 t

/-- The block of the right operand at point `t`. -/
abbrev right (t : Fin cfg0.N) : S1x1024x512.Idx → EReal := iblk m c 1 t

include hA in
theorem block0 (t : Fin cfg0.N) (r : Fin 2048) (k : Fin 512) :
    left m c t (ix2 r k) = A (2048 * (t.val / 4 / 1) + r.val) (t.val % 4 * 512 + k.val) := by
  unfold left iblk
  rw [View.read_apply]
  show V m c main_arg0 _ = _
  rw [V_main_arg0]
  refine (hA _).trans (congrArg₂ A ?_ ?_)
  · show win0_0.index t (0 : Fin 2) * 2048 + 1 * r.val = _
    rw [(idx0 t).1]; omega
  · show win0_0.index t (1 : Fin 2) * 512 + 1 * k.val = _
    rw [(idx0 t).2]; omega

include hB in
theorem block1 (t : Fin cfg0.N) (j : Fin 1024) (k : Fin 512) :
    right m c t (ix3 0 j k) = B ((t.val % 4 * 512 + k.val) / 512) (1024 * (t.val / 4 % 1) + j.val) (512 + (t.val % 4 * 512 + k.val) % 512) := by
  unfold right iblk
  rw [View.read_apply]
  show V m c main_arg1 _ = _
  rw [V_main_arg1]
  refine (hB _).trans (congr3 B ?_ ?_ ?_)
  · show win0_1.index t (0 : Fin 3) * 1 + 1 * 0 = _
    rw [(idx1 t).1]; omega
  · show win0_1.index t (1 : Fin 3) * 1024 + 1 * j.val = _
    rw [(idx1 t).2.1]; omega
  · show win0_1.index t (2 : Fin 3) * 512 + 1 * k.val = _
    rw [(idx1 t).2.2]; omega

theorem first (t : Fin cfg0.N) (h0 : t.val % 4 = 0) (r : Fin 2048) (j : Fin 1024) :
    (outsAt0 m c t.val t.isLt).2 (ix2 r j) = ∑ k : Fin 512, left m c t (ix2 r k) * right m c t (ix3 0 j k) := by
  rw [outsAt0_A m c t h0 (by omega)]
  frame_out
  rw [step, start, zero_add]

theorem next (t : Fin cfg0.N) (h0 : ¬t.val % 4 = 0) (r : Fin 2048) (j : Fin 1024) :
    (outsAt0 m c t.val t.isLt).2 (ix2 r j) = (outsAt0 m c (t.val - 1) (Nat.lt_of_le_of_lt (Nat.sub_le _ _) t.isLt)).2 (ix2 r j)
      + ∑ k : Fin 512, left m c t (ix2 r k) * right m c t (ix3 0 j k) := by
  by_cases h1 : t.val % 4 = 3
  · rw [outsAt0_C m c t h0 h1]
    frame_out
    rw [read_unread_whole, step]
  · rw [outsAt0_B m c t h0 h1]
    frame_out
    rw [read_unread_whole, step]

/-- At the last point of a run the output is the scratch. -/
theorem out_C (t : Fin cfg0.N) (h1 : t.val % 4 = 3) : (outsAt0 m c t.val t.isLt).1 = (outsAt0 m c t.val t.isLt).2 := by
  rw [outsAt0_C m c t (by omega) h1]
  frame_out
  rfl

theorem G2_last (i : S2048x1024.Idx) (n : ℕ) (h : n < cfg0.N) (hn : n = 4 * run2Of i + 3) : G2 m c i = (outsAt0 m c n h).2 (loc2Of i) := by
  subst hn
  refine Eq.trans ?_ (congrFun (out_C m c ⟨_, h⟩ (by show (4 * run2Of i + 3) % 4 = 3; omega)) _)
  unfold G2
  rw [dif_pos (show pt2Of i < cfg0.N from h), outsAt0_sweep]

include hA hB in
theorem G2_at (i : S2048x1024.Idx) : G2 m c i = ∑ k ∈ range 2048, A (i 0).val k * B (k / 512) (i 1).val (512 + k % 512) := by
  have h0 : (i 0).val < 2048 := (i 0).isLt
  have h1 : (i 1).val < 1024 := (i 1).isLt
  have h : 4 * (1 * ((i 0).val / 2048) + (i 1).val / 1024) + (4 - 1) < cfg0.N := Nat.lt_of_lt_of_eq (show _ < 4 by omega) N_0.symm
  have hl : loc2Of i = ix2 ⟨(i 0).val % 2048, Nat.mod_lt _ (by decide)⟩ ⟨(i 1).val % 1024, Nat.mod_lt _ (by decide)⟩ := by
    funext a
    match a with
    | ⟨0, _⟩ => rfl
    | ⟨1, _⟩ => rfl
  rw [G2_last m c i _ h (by show _ = 4 * (1 * ((i 0).val / 2048 - 0) + 1 * ((i 1).val / 1024 - 0)) + 3; omega), hl]
  exact tiled_at 4 1 (by decide) (by decide) (by decide) (fun i k => A i k) (fun j k => B (k / 512) j (512 + k % 512)) (fun t r k => left m c t (ix2 r k)) (fun t j k => right m c t (ix3 0 j k))
    (fun n h r j => (outsAt0 m c n h).2 (ix2 r j)) (block0 m c A hA) (block1 m c B hB) (first m c) (next m c) _ _ (by omega) h

end Cert.Kernel16Ideal.Mm

namespace Cert.Reference16Ideal.Mm

open Cert.Reference16Ideal Cert.Reference16Ideal.Gen Cert.Reference16Ideal.Read Cert.Mm
open Idealize.ShloMosaic Idealize.ShloMosaic.TcCoe Idealize.ShloMosaic.ValueIdx Idealize.SL.Sem
open Finset (range)

theorem out_at (x : FVec Ideal S2048x2048 .bf16) (y : FVec Ideal S4x1024x1024 .bf16) (A : ℕ → ℕ → EReal) (B : ℕ → ℕ → ℕ → EReal)
    (hA : ∀ i, x i = A (i 0).val (i 1).val) (hB : ∀ i, y i = B (i 0).val (i 1).val (i 2).val) (i : S2048x1024.Idx) :
    val_main_v8 (F := Ideal) x y i = ∑ k ∈ range 2048, A (i 0).val k * B (k / 512) (i 1).val (512 + k % 512) := by
  show val_main_v7 (F := Ideal) x y i = _
  rw [val_main_v7_apply, Finset.sum_range]
  refine Finset.sum_congr rfl fun k _ => ?_
  refine congrArg₂ (fun u v : EReal => u * v) (hA _) ?_
  have hk : k.val < 2048 := k.isLt
  have hi : (i 1).val < 1024 := (i 1).isLt
  refine (val_main_v2_apply (F := Ideal) y _).trans ((val_main_v1_apply (F := Ideal) y _).trans ((val_main_v0_apply (F := Ideal) y _).trans ((hB _).trans ?_)))
  refine congr3 B ?_ ?_ ?_
  · show ((i 1).val * 2048 + k.val) / 512 % 4 = k.val / 512
    omega
  · show ((i 1).val * 2048 + k.val) / 2048 = (i 1).val
    omega
  · show 512 + ((i 1).val * 2048 + k.val) % 512 = 512 + k.val % 512
    omega

end Cert.Reference16Ideal.Mm

namespace Cert.Proof.P16

open Idealize.ShloMosaic Idealize.SL.Sem

theorem frame_kernel : Cert.quiescent_Kernel16 := fun m ρ _ => Cert.Kernel16.Gen.frame m ρ

theorem frame_ideal : Cert.quiescent_Kernel16Ideal := fun m ρ _ => Cert.Kernel16Ideal.Gen.frame m ρ

theorem frame_reference : Cert.quiescent_Reference16Ideal := fun m ρ _ =>
  (θ_run Cert.Reference16Ideal.defs _ _).mono
    (fun _ h => ⟨fun c => (h c).2, sem_eq_zero_of_no_sems (by decide) _⟩) (Cert.Reference16Ideal.Value.run m ρ)

theorem algebraic : Cert.algebraic_Kernel16Ideal_Reference16Ideal := by
  intro m g m' g' _ harg
  refine ⟨fun c => Cert.Kernel16Ideal.Value.G2 m c, Cert.Kernel16Ideal.Value.run m g, ?_⟩
  refine (θ_run Cert.Reference16Ideal.defs _ _).mono (fun r h c => ?_) (Cert.Reference16Ideal.Value.run m' g')
  obtain ⟨e, k⟩ := h c
  rw [Cert.Reference16Ideal.Read.val_main_v8_eq, (harg c).1, (harg c).2] at e
  obtain ⟨A, hA⟩ := Cert.Mm.exists_nat2 (m ((c.tc : Thread Cert.Kernel16Ideal.nD Cert.Kernel16Ideal.τ).loc Cert.Kernel16Ideal.main_arg0) : Cert.Kernel16Ideal.S2048x2048.Idx → EReal)
  obtain ⟨B, hB⟩ := Cert.Mm.exists_nat3 (m ((c.tc : Thread Cert.Kernel16Ideal.nD Cert.Kernel16Ideal.τ).loc Cert.Kernel16Ideal.main_arg1) : Cert.Kernel16Ideal.S4x1024x1024.Idx → EReal)
  exact ⟨e.trans (funext fun i => (Cert.Reference16Ideal.Mm.out_at _ _ A B hA hB i).trans (Cert.Kernel16Ideal.Mm.G2_at m c A B hA hB i).symm), k⟩

end Cert.Proof.P16

end
-- ==== Proof.Mm.P17.lean ====
/-
  The product with the first branch's weights: each run of 2 grid points adds up one block of the product.
-/
module

public import proofs.«01_k».proof.Defs
public import proofs.«01_k».proof.Proof.Mm.Sums
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import Idealize.ShloMosaic.Lib.Quiescent

@[expose] public section

noncomputable section

namespace Cert.Kernel17Ideal.Mm

open Cert.Kernel17Ideal Cert.Kernel17Ideal.Gen Cert.Kernel17Ideal.Value Cert.Mm
open Idealize.ShloMosaic Idealize.ShloMosaic.TcCoe Idealize.ShloMosaic.ValueIdx Idealize.SL.Sem
open Finset (range)

theorem step (acc : Vec Ideal S2048x512 .f32) (x : Vec Ideal S2048x512 .bf16) (y : Vec Ideal S1x512x512 .bf16) (r : Fin 2048) (c : Fin 512) :
    k0_pay2 acc x y (ix2 r c) = acc (ix2 r c) + ∑ k : Fin 512, x (ix2 r k) * y (ix3 0 k c) := by
  unfold k0_pay2
  simp only [shapeCast_self]
  exact congrArg (fun v : EReal => acc (ix2 r c) + v) ((entry_nn x _ r c).trans (Finset.sum_congr rfl fun k _ => congrArg (fun v : EReal => x (ix2 r k) * v) (unstack y _ k c)))

theorem start (r : Fin 2048) (c : Fin 512) : k0_pay1 (F := Ideal) (ix2 r c) = 0 := Ideal.ofBits_zero_f32

theorem idx0 : ∀ t : Fin grid0.N, win0_0.index t (0 : Fin 2) = t.val / 2 / 4 ∧ win0_0.index t (1 : Fin 2) = t.val % 2 := by decide +kernel
theorem idx1 : ∀ t : Fin grid0.N, win0_1.index t (0 : Fin 3) = t.val / 2 % 4 ∧ win0_1.index t (1 : Fin 3) = t.val % 2 ∧ win0_1.index t (2 : Fin 3) = 0 := by decide +kernel

variable (m : (ℓ : Loc nD τ sig) → Buf (Elt Ideal) ℓ) (c : Dev nD) (A : ℕ → ℕ → EReal) (B : ℕ → ℕ → ℕ → EReal)
  (hA : ∀ i, (m ((c : Thread nD τ).loc main_arg0) : S2048x1024.Idx → EReal) i = A (i 0).val (i 1).val)
  (hB : ∀ i, (m ((c : Thread nD τ).loc main_arg1) : S4x1024x1024.Idx → EReal) i = B (i 0).val (i 1).val (i 2).val)

/-- The block of the left operand at point `t`. -/
abbrev left (t : Fin cfg0.N) : S2048x512.Idx → EReal := iblk m c 0 t

/-- The block of the right operand at point `t`. -/
abbrev right (t : Fin cfg0.N) : S1x512x512.Idx → EReal := iblk m c 1 t

include hA in
theorem block0 (t : Fin cfg0.N) (r : Fin 2048) (k : Fin 512) :
    left m c t (ix2 r k) = A (2048 * (t.val / 2 / 4) + r.val) (t.val % 2 * 512 + k.val) := by
  unfold left iblk
  rw [View.read_apply]
  show V m c main_arg0 _ = _
  rw [V_main_arg0]
  refine (hA _).trans (congrArg₂ A ?_ ?_)
  · show win0_0.index t (0 : Fin 2) * 2048 + 1 * r.val = _
    rw [(idx0 t).1]; omega
  · show win0_0.index t (1 : Fin 2) * 512 + 1 * k.val = _
    rw [(idx0 t).2]; omega

include hB in
theorem block1 (t : Fin cfg0.N) (j : Fin 512) (k : Fin 512) :
    right m c t (ix3 0 k j) = B ((512 * (t.val / 2 % 4) + j.val) / 512) (t.val % 2 * 512 + k.val) ((512 * (t.val / 2 % 4) + j.val) % 512) := by
  unfold right iblk
  rw [View.read_apply]
  show V m c main_arg1 _ = _
  rw [V_main_arg1]
  refine (hB _).trans (congr3 B ?_ ?_ ?_)
  · show win0_1.index t (0 : Fin 3) * 1 + 1 * 0 = _
    rw [(idx1 t).1]; omega
  · show win0_1.index t (1 : Fin 3) * 512 + 1 * k.val = _
    rw [(idx1 t).2.1]; omega
  · show win0_1.index t (2 : Fin 3) * 512 + 1 * j.val = _
    rw [(idx1 t).2.2]; omega

theorem first (t : Fin cfg0.N) (h0 : t.val % 2 = 0) (r : Fin 2048) (j : Fin 512) :
    outsAt0 m c t.val t.isLt (ix2 r j) = ∑ k : Fin 512, left m c t (ix2 r k) * right m c t (ix3 0 k j) := by
  rw [outsAt0_A m c t h0, out_A_2_eq, step, start, zero_add]

theorem next (t : Fin cfg0.N) (h0 : ¬t.val % 2 = 0) (r : Fin 2048) (j : Fin 512) :
    outsAt0 m c t.val t.isLt (ix2 r j) = outsAt0 m c (t.val - 1) (Nat.lt_of_le_of_lt (Nat.sub_le _ _) t.isLt) (ix2 r j)
      + ∑ k : Fin 512, left m c t (ix2 r k) * right m c t (ix3 0 k j) := by
  rw [outsAt0_B m c t h0, out_B_2_eq, step]

theorem G2_last (i : S2048x2048.Idx) (n : ℕ) (h : n < cfg0.N) (hn : n = 2 * run2Of i + 1) : G2 m c i = outsAt0 m c n h (loc2Of i) := by
  subst hn
  unfold G2
  rw [dif_pos h]
  refine congrFun ((outsAt_2_eq m c ⟨2 * run2Of i + 1, h⟩).trans (accAt_congr _ _ ?_ ?_ _ _)).symm _
  · show 2 * ((2 * run2Of i + 1) / 2) = 2 * run2Of i
    omega
  · show (2 * run2Of i + 1) % 2 = 1
    omega

include hA hB in
theorem G2_at (i : S2048x2048.Idx) : G2 m c i = ∑ k ∈ range 1024, A (i 0).val k * B ((i 1).val / 512) k ((i 1).val % 512) := by
  have h0 : (i 0).val < 2048 := (i 0).isLt
  have h1 : (i 1).val < 2048 := (i 1).isLt
  have h : 2 * (4 * ((i 0).val / 2048) + (i 1).val / 512) + (2 - 1) < cfg0.N := Nat.lt_of_lt_of_eq (show _ < 8 by omega) N_0.symm
  have hl : loc2Of i = ix2 ⟨(i 0).val % 2048, Nat.mod_lt _ (by decide)⟩ ⟨(i 1).val % 512, Nat.mod_lt _ (by decide)⟩ := by
    funext a
    match a with
    | ⟨0, _⟩ => rfl
    | ⟨1, _⟩ => rfl
  rw [G2_last m c i _ h (by show _ = 2 * (4 * ((i 0).val / 2048 - 0) + 1 * ((i 1).val / 512 - 0)) + 1; omega), hl]
  exact tiled_at 2 4 (by decide) (by decide) (by decide) (fun i k => A i k) (fun j k => B (j / 512) k (j % 512)) (fun t r k => left m c t (ix2 r k)) (fun t j k => right m c t (ix3 0 k j))
    (fun n h r j => outsAt0 m c n h (ix2 r j)) (block0 m c A hA) (block1 m c B hB) (first m c) (next m c) _ _ (by omega) h

end Cert.Kernel17Ideal.Mm

namespace Cert.Reference17Ideal.Mm

open Cert.Reference17Ideal Cert.Reference17Ideal.Gen Cert.Reference17Ideal.Read Cert.Mm
open Idealize.ShloMosaic Idealize.ShloMosaic.TcCoe Idealize.ShloMosaic.ValueIdx Idealize.SL.Sem
open Finset (range)

theorem out_at (x : FVec Ideal S2048x1024 .bf16) (y : FVec Ideal S4x1024x1024 .bf16) (A : ℕ → ℕ → EReal) (B : ℕ → ℕ → ℕ → EReal)
    (hA : ∀ i, x i = A (i 0).val (i 1).val) (hB : ∀ i, y i = B (i 0).val (i 1).val (i 2).val) (i : S2048x2048.Idx) :
    val_main_v5 (F := Ideal) x y i = ∑ k ∈ range 1024, A (i 0).val k * B ((i 1).val / 512) k ((i 1).val % 512) := by
  rw [val_main_v5_apply, Finset.sum_range]
  refine Finset.sum_congr rfl fun k _ => ?_
  refine congrArg₂ (fun u v : EReal => u * v) (hA _) ?_
  have hk : k.val < 1024 := k.isLt
  have hi : (i 1).val < 2048 := (i 1).isLt
  refine (val_main_v3_apply (F := Ideal) y _).trans ((val_main_v2_apply (F := Ideal) y _).trans ((val_main_v1_apply (F := Ideal) y _).trans ((hB _).trans ?_)))
  refine congr3 B ?_ ?_ ?_
  · show (k.val * 2048 + (i 1).val) / 512 % 4 = (i 1).val / 512
    omega
  · show (k.val * 2048 + (i 1).val) / 2048 = k.val
    omega
  · show (k.val * 2048 + (i 1).val) % 512 = (i 1).val % 512
    omega

end Cert.Reference17Ideal.Mm

namespace Cert.Proof.P17

open Idealize.ShloMosaic Idealize.SL.Sem

theorem frame_kernel : Cert.quiescent_Kernel17 := fun m ρ _ => Cert.Kernel17.Gen.frame m ρ

theorem frame_ideal : Cert.quiescent_Kernel17Ideal := fun m ρ _ => Cert.Kernel17Ideal.Gen.frame m ρ

theorem frame_reference : Cert.quiescent_Reference17Ideal := fun m ρ _ =>
  (θ_run Cert.Reference17Ideal.defs _ _).mono
    (fun _ h => ⟨fun c => (h c).2, sem_eq_zero_of_no_sems (by decide) _⟩) (Cert.Reference17Ideal.Value.run m ρ)

theorem algebraic : Cert.algebraic_Kernel17Ideal_Reference17Ideal := by
  intro m g m' g' _ harg
  refine ⟨fun c => Cert.Kernel17Ideal.Value.G2 m c, Cert.Kernel17Ideal.Value.run m g, ?_⟩
  refine (θ_run Cert.Reference17Ideal.defs _ _).mono (fun r h c => ?_) (Cert.Reference17Ideal.Value.run m' g')
  obtain ⟨e, k⟩ := h c
  rw [Cert.Reference17Ideal.Read.val_main_v5_eq, (harg c).1, (harg c).2] at e
  obtain ⟨A, hA⟩ := Cert.Mm.exists_nat2 (m ((c.tc : Thread Cert.Kernel17Ideal.nD Cert.Kernel17Ideal.τ).loc Cert.Kernel17Ideal.main_arg0) : Cert.Kernel17Ideal.S2048x1024.Idx → EReal)
  obtain ⟨B, hB⟩ := Cert.Mm.exists_nat3 (m ((c.tc : Thread Cert.Kernel17Ideal.nD Cert.Kernel17Ideal.τ).loc Cert.Kernel17Ideal.main_arg1) : Cert.Kernel17Ideal.S4x1024x1024.Idx → EReal)
  exact ⟨e.trans (funext fun i => (Cert.Reference17Ideal.Mm.out_at _ _ A B hA hB i).trans (Cert.Kernel17Ideal.Mm.G2_at m c A B hA hB i).symm), k⟩

end Cert.Proof.P17

end
-- ==== Proof.Mm.P18.lean ====
/-
  The product with the second branch's weights: each run of 2 grid points adds up one block of the product.
-/
module

public import proofs.«01_k».proof.Defs
public import proofs.«01_k».proof.Proof.Mm.Sums
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import Idealize.ShloMosaic.Lib.Quiescent

@[expose] public section

noncomputable section

namespace Cert.Kernel18Ideal.Mm

open Cert.Kernel18Ideal Cert.Kernel18Ideal.Gen Cert.Kernel18Ideal.Value Cert.Mm
open Idealize.ShloMosaic Idealize.ShloMosaic.TcCoe Idealize.ShloMosaic.ValueIdx Idealize.SL.Sem
open Finset (range)

theorem step (acc : Vec Ideal S2048x512 .f32) (x : Vec Ideal S2048x512 .f32) (y : Vec Ideal S1x512x512 .bf16) (r : Fin 2048) (c : Fin 512) :
    k0_pay2 acc x y (ix2 r c) = acc (ix2 r c) + ∑ k : Fin 512, x (ix2 r k) * y (ix3 0 k c) := by
  unfold k0_pay2
  simp only [shapeCast_self]
  exact congrArg (fun v : EReal => acc (ix2 r c) + v) ((entry_nn x _ r c).trans (Finset.sum_congr rfl fun k _ => congrArg (fun v : EReal => x (ix2 r k) * v) (unstack y _ k c)))

theorem start (r : Fin 2048) (c : Fin 512) : k0_pay1 (F := Ideal) (ix2 r c) = 0 := Ideal.ofBits_zero_f32

theorem idx0 : ∀ t : Fin grid0.N, win0_0.index t (0 : Fin 2) = t.val / 2 / 4 ∧ win0_0.index t (1 : Fin 2) = t.val % 2 := by decide +kernel
theorem idx1 : ∀ t : Fin grid0.N, win0_1.index t (0 : Fin 3) = t.val / 2 % 4 ∧ win0_1.index t (1 : Fin 3) = t.val % 2 ∧ win0_1.index t (2 : Fin 3) = 1 := by decide +kernel

variable (m : (ℓ : Loc nD τ sig) → Buf (Elt Ideal) ℓ) (c : Dev nD) (A : ℕ → ℕ → EReal) (B : ℕ → ℕ → ℕ → EReal)
  (hA : ∀ i, (m ((c : Thread nD τ).loc main_arg0) : S2048x1024.Idx → EReal) i = A (i 0).val (i 1).val)
  (hB : ∀ i, (m ((c : Thread nD τ).loc main_arg1) : S4x1024x1024.Idx → EReal) i = B (i 0).val (i 1).val (i 2).val)

/-- The block of the left operand at point `t`. -/
abbrev left (t : Fin cfg0.N) : S2048x512.Idx → EReal := iblk m c 0 t

/-- The block of the right operand at point `t`. -/
abbrev right (t : Fin cfg0.N) : S1x512x512.Idx → EReal := iblk m c 1 t

include hA in
theorem block0 (t : Fin cfg0.N) (r : Fin 2048) (k : Fin 512) :
    left m c t (ix2 r k) = A (2048 * (t.val / 2 / 4) + r.val) (t.val % 2 * 512 + k.val) := by
  unfold left iblk
  rw [View.read_apply]
  show V m c main_arg0 _ = _
  rw [V_main_arg0]
  refine (hA _).trans (congrArg₂ A ?_ ?_)
  · show win0_0.index t (0 : Fin 2) * 2048 + 1 * r.val = _
    rw [(idx0 t).1]; omega
  · show win0_0.index t (1 : Fin 2) * 512 + 1 * k.val = _
    rw [(idx0 t).2]; omega

include hB in
theorem block1 (t : Fin cfg0.N) (j : Fin 512) (k : Fin 512) :
    right m c t (ix3 0 k j) = B ((512 * (t.val / 2 % 4) + j.val) / 512) (t.val % 2 * 512 + k.val) (512 + (512 * (t.val / 2 % 4) + j.val) % 512) := by
  unfold right iblk
  rw [View.read_apply]
  show V m c main_arg1 _ = _
  rw [V_main_arg1]
  refine (hB _).trans (congr3 B ?_ ?_ ?_)
  · show win0_1.index t (0 : Fin 3) * 1 + 1 * 0 = _
    rw [(idx1 t).1]; omega
  · show win0_1.index t (1 : Fin 3) * 512 + 1 * k.val = _
    rw [(idx1 t).2.1]; omega
  · show win0_1.index t (2 : Fin 3) * 512 + 1 * j.val = _
    rw [(idx1 t).2.2]; omega

theorem first (t : Fin cfg0.N) (h0 : t.val % 2 = 0) (r : Fin 2048) (j : Fin 512) :
    outsAt0 m c t.val t.isLt (ix2 r j) = ∑ k : Fin 512, left m c t (ix2 r k) * right m c t (ix3 0 k j) := by
  rw [outsAt0_A m c t h0, out_A_2_eq, step, start, zero_add]

theorem next (t : Fin cfg0.N) (h0 : ¬t.val % 2 = 0) (r : Fin 2048) (j : Fin 512) :
    outsAt0 m c t.val t.isLt (ix2 r j) = outsAt0 m c (t.val - 1) (Nat.lt_of_le_of_lt (Nat.sub_le _ _) t.isLt) (ix2 r j)
      + ∑ k : Fin 512, left m c t (ix2 r k) * right m c t (ix3 0 k j) := by
  rw [outsAt0_B m c t h0, out_B_2_eq, step]

theorem G2_last (i : S2048x2048.Idx) (n : ℕ) (h : n < cfg0.N) (hn : n = 2 * run2Of i + 1) : G2 m c i = outsAt0 m c n h (loc2Of i) := by
  subst hn
  unfold G2
  rw [dif_pos h]
  refine congrFun ((outsAt_2_eq m c ⟨2 * run2Of i + 1, h⟩).trans (accAt_congr _ _ ?_ ?_ _ _)).symm _
  · show 2 * ((2 * run2Of i + 1) / 2) = 2 * run2Of i
    omega
  · show (2 * run2Of i + 1) % 2 = 1
    omega

include hA hB in
theorem G2_at (i : S2048x2048.Idx) : G2 m c i = ∑ k ∈ range 1024, A (i 0).val k * B ((i 1).val / 512) k (512 + (i 1).val % 512) := by
  have h0 : (i 0).val < 2048 := (i 0).isLt
  have h1 : (i 1).val < 2048 := (i 1).isLt
  have h : 2 * (4 * ((i 0).val / 2048) + (i 1).val / 512) + (2 - 1) < cfg0.N := Nat.lt_of_lt_of_eq (show _ < 8 by omega) N_0.symm
  have hl : loc2Of i = ix2 ⟨(i 0).val % 2048, Nat.mod_lt _ (by decide)⟩ ⟨(i 1).val % 512, Nat.mod_lt _ (by decide)⟩ := by
    funext a
    match a with
    | ⟨0, _⟩ => rfl
    | ⟨1, _⟩ => rfl
  rw [G2_last m c i _ h (by show _ = 2 * (4 * ((i 0).val / 2048 - 0) + 1 * ((i 1).val / 512 - 0)) + 1; omega), hl]
  exact tiled_at 2 4 (by decide) (by decide) (by decide) (fun i k => A i k) (fun j k => B (j / 512) k (512 + j % 512)) (fun t r k => left m c t (ix2 r k)) (fun t j k => right m c t (ix3 0 k j))
    (fun n h r j => outsAt0 m c n h (ix2 r j)) (block0 m c A hA) (block1 m c B hB) (first m c) (next m c) _ _ (by omega) h

end Cert.Kernel18Ideal.Mm

namespace Cert.Reference18Ideal.Mm

open Cert.Reference18Ideal Cert.Reference18Ideal.Gen Cert.Reference18Ideal.Read Cert.Mm
open Idealize.ShloMosaic Idealize.ShloMosaic.TcCoe Idealize.ShloMosaic.ValueIdx Idealize.SL.Sem
open Finset (range)

theorem out_at (x : FVec Ideal S2048x1024 .f32) (y : FVec Ideal S4x1024x1024 .bf16) (A : ℕ → ℕ → EReal) (B : ℕ → ℕ → ℕ → EReal)
    (hA : ∀ i, x i = A (i 0).val (i 1).val) (hB : ∀ i, y i = B (i 0).val (i 1).val (i 2).val) (i : S2048x2048.Idx) :
    val_main_v4 (F := Ideal) x y i = ∑ k ∈ range 1024, A (i 0).val k * B ((i 1).val / 512) k (512 + (i 1).val % 512) := by
  rw [val_main_v4_apply, Finset.sum_range]
  refine Finset.sum_congr rfl fun k _ => ?_
  refine congrArg₂ (fun u v : EReal => u * v) (hA _) ?_
  have hk : k.val < 1024 := k.isLt
  have hi : (i 1).val < 2048 := (i 1).isLt
  refine (val_main_v2_apply (F := Ideal) y _).trans ((val_main_v1_apply (F := Ideal) y _).trans ((val_main_v0_apply (F := Ideal) y _).trans ((hB _).trans ?_)))
  refine congr3 B ?_ ?_ ?_
  · show (k.val * 2048 + (i 1).val) / 512 % 4 = (i 1).val / 512
    omega
  · show (k.val * 2048 + (i 1).val) / 2048 = k.val
    omega
  · show 512 + (k.val * 2048 + (i 1).val) % 512 = 512 + (i 1).val % 512
    omega

end Cert.Reference18Ideal.Mm

namespace Cert.Proof.P18

open Idealize.ShloMosaic Idealize.SL.Sem

theorem frame_kernel : Cert.quiescent_Kernel18 := fun m ρ _ => Cert.Kernel18.Gen.frame m ρ

theorem frame_ideal : Cert.quiescent_Kernel18Ideal := fun m ρ _ => Cert.Kernel18Ideal.Gen.frame m ρ

theorem frame_reference : Cert.quiescent_Reference18Ideal := fun m ρ _ =>
  (θ_run Cert.Reference18Ideal.defs _ _).mono
    (fun _ h => ⟨fun c => (h c).2, sem_eq_zero_of_no_sems (by decide) _⟩) (Cert.Reference18Ideal.Value.run m ρ)

theorem algebraic : Cert.algebraic_Kernel18Ideal_Reference18Ideal := by
  intro m g m' g' _ harg
  refine ⟨fun c => Cert.Kernel18Ideal.Value.G2 m c, Cert.Kernel18Ideal.Value.run m g, ?_⟩
  refine (θ_run Cert.Reference18Ideal.defs _ _).mono (fun r h c => ?_) (Cert.Reference18Ideal.Value.run m' g')
  obtain ⟨e, k⟩ := h c
  rw [Cert.Reference18Ideal.Read.val_main_v4_eq, (harg c).1, (harg c).2] at e
  obtain ⟨A, hA⟩ := Cert.Mm.exists_nat2 (m ((c.tc : Thread Cert.Kernel18Ideal.nD Cert.Kernel18Ideal.τ).loc Cert.Kernel18Ideal.main_arg0) : Cert.Kernel18Ideal.S2048x1024.Idx → EReal)
  obtain ⟨B, hB⟩ := Cert.Mm.exists_nat3 (m ((c.tc : Thread Cert.Kernel18Ideal.nD Cert.Kernel18Ideal.τ).loc Cert.Kernel18Ideal.main_arg1) : Cert.Kernel18Ideal.S4x1024x1024.Idx → EReal)
  exact ⟨e.trans (funext fun i => (Cert.Reference18Ideal.Mm.out_at _ _ A B hA hB i).trans (Cert.Kernel18Ideal.Mm.G2_at m c A B hA hB i).symm), k⟩

end Cert.Proof.P18

end
-- ==== Proof.Fox.Spec.lean ====
/-
  The gradient of forgetting attention of one head over the reals: the mathematics both programs are compared to. `q k v o`
  are the head's queries, keys, values and the cotangent of its output, by row and column; `a b` its running gate as the
  queries and as the keys read it; `l` the logarithm of each row's normaliser, `δ` each row's inner product of the output and
  its cotangent, `c` the scale of the scores. No program is named.
-/
module

public import proofs.«01_k».proof.Proof.Sb.Spec

@[expose] public section

noncomputable section

namespace Cert.Fox

open Finset

variable (c : ℝ) (q k v o : ℕ → ℕ → ℝ) (a b l δ : ℕ → ℝ)

/-- The score of query `t` at key `s`. -/
def z (t s : ℕ) : ℝ := (∑ x ∈ range 128, q t x * k s x) * c + a t - b s
/-- Its weight: nothing after the query. -/
def p (t s : ℕ) : ℝ := if s ≤ t then Real.exp (z c q k a b t s - l t) else 0
/-- The weight's cotangent. -/
def dp (t s : ℕ) : ℝ := ∑ x ∈ range 128, o t x * v s x
/-- The score's cotangent. -/
def ds (t s : ℕ) : ℝ := p c q k a b l t s * (dp v o t s - δ t)
/-- The gradients, of the keys (of the query rows) before `n`. -/
def dq (n t d : ℕ) : ℝ := ∑ s ∈ range n, ds c q k v o a b l δ t s * c * k s d
def dk (n s d : ℕ) : ℝ := ∑ t ∈ range n, ds c q k v o a b l δ t s * c * q t d
def dv (n s d : ℕ) : ℝ := ∑ t ∈ range n, p c q k a b l t s * o t d
def da (n t : ℕ) : ℝ := ∑ s ∈ range n, ds c q k v o a b l δ t s
def db (n s : ℕ) : ℝ := -∑ t ∈ range n, ds c q k v o a b l δ t s

variable {c q k v o a b l δ}

theorem p_of_lt {t s : ℕ} (h : t < s) : p c q k a b l t s = 0 := if_neg (by omega)
theorem ds_of_lt {t s : ℕ} (h : t < s) : ds c q k v o a b l δ t s = 0 := by rw [ds, p_of_lt h, zero_mul]

end Cert.Fox

end
-- ==== Proof.Fox.Soft.lean ====
/-
  The softmax of forgetting attention over the reals, row by row: the weights before their division, each row's normaliser and its
  logarithm, the output, and the inner product of the output and its cotangent. A row's weights may all be scaled by one number
  (the reference subtracts the row's greatest score first): neither the weights nor the scores' cotangents change.
-/
module

public import proofs.«01_k».proof.Proof.Fox.Spec

@[expose] public section

noncomputable section

namespace Cert.Fox

open Finset

variable (c : ℝ) (q k v o : ℕ → ℕ → ℝ) (a b : ℕ → ℝ)

/-- A weight before its division. -/
def en (t s : ℕ) : ℝ := if s ≤ t then Real.exp (z c q k a b t s) else 0
/-- Row `t`'s normaliser … -/
def nz (t : ℕ) : ℝ := ∑ s ∈ range 2048, en c q k a b t s
/-- … and its logarithm. -/
def lz (t : ℕ) : ℝ := Real.log (nz c q k a b t)
/-- The output. -/
def out (t d : ℕ) : ℝ := ∑ s ∈ range 2048, p c q k a b (lz c q k a b) t s * v s d
/-- The weights' cotangents, averaged by the weights. -/
def dl (t : ℕ) : ℝ := ∑ s ∈ range 2048, p c q k a b (lz c q k a b) t s * dp v o t s

variable {c q k v o a b}

theorem nz_pos {t : ℕ} (ht : t < 2048) : 0 < nz c q k a b t := by
  have h : en c q k a b t t = Real.exp (z c q k a b t t) := if_pos le_rfl
  refine lt_of_lt_of_le (Real.exp_pos (z c q k a b t t)) ?_
  rw [← h]
  exact single_le_sum (f := fun s => en c q k a b t s) (fun s _ => by unfold en; split <;> positivity) (mem_range.mpr ht)

theorem p_eq_div {t : ℕ} (ht : t < 2048) (s : ℕ) : p c q k a b (lz c q k a b) t s = en c q k a b t s / nz c q k a b t := by
  unfold p en lz
  split
  · rw [Real.exp_sub, Real.exp_log (nz_pos ht)]
  · rw [zero_div]

/-- The output's inner product with its cotangent is that average. -/
theorem dl_eq (t : ℕ) : ∑ d ∈ range 128, o t d * out c q k v a b t d = dl c q k v o a b t := by
  unfold dl out dp
  simp only [mul_sum]
  rw [sum_comm]
  exact sum_congr rfl fun s _ => sum_congr rfl fun d _ => by ring

theorem lz_shift {t : ℕ} (ht : t < 2048) (m : ℝ) : m + Real.log (nz c q k a b t * Real.exp (-m)) = lz c q k a b t := by
  rw [Real.log_mul (nz_pos ht).ne' (Real.exp_pos _).ne', Real.log_exp, lz]
  ring

theorem p_shift {t : ℕ} (ht : t < 2048) (s : ℕ) {x : ℝ} (hx : x ≠ 0) :
    en c q k a b t s * x * (1 / (nz c q k a b t * x)) = p c q k a b (lz c q k a b) t s := by
  have hn := (nz_pos (c := c) (q := q) (k := k) (a := a) (b := b) ht).ne'
  rw [p_eq_div ht]
  field_simp

theorem ds_shift {t : ℕ} (ht : t < 2048) (s : ℕ) {x : ℝ} (hx : x ≠ 0) :
    (dp v o t s * (1 / (nz c q k a b t * x))
      + -∑ y ∈ range 2048, dp v o t y * (1 / (nz c q k a b t * x * (nz c q k a b t * x))) * (en c q k a b t y * x)) * (en c q k a b t s * x)
      = ds c q k v o a b (lz c q k a b) (dl c q k v o a b) t s := by
  have hn := (nz_pos (c := c) (q := q) (k := k) (a := a) (b := b) ht).ne'
  have hs : ∑ y ∈ range 2048, dp v o t y * (1 / (nz c q k a b t * x * (nz c q k a b t * x))) * (en c q k a b t y * x)
      = dl c q k v o a b t * (1 / (nz c q k a b t * x)) := by
    unfold dl
    rw [sum_mul]
    refine sum_congr rfl fun y _ => ?_
    rw [p_eq_div ht]
    field_simp
  rw [hs, ds, p_eq_div ht]
  field_simp
  try ring

end Cert.Fox

end
-- ==== Proof.Fox.Ref.lean ====
/-
  The reference read at an index: over arrays of reals its intermediate values are the functions of `Fox`, head by head, and its
  five results are the cotangents of the queries, keys and values and of the gate as the queries and as the keys read it.
-/
module

public import proofs.«01_k».proof.Proof.Gen.Reference19Ideal.Read
public import proofs.«01_k».proof.Proof.Sb.Heads
public import proofs.«01_k».proof.Proof.Sb.Tile
public import proofs.«01_k».proof.Proof.Fox.Soft
public import Idealize.ShloMosaic.Lib.IdealHost

@[expose] public section

noncomputable section

namespace Cert.Fox

open Idealize.ShloMosaic Idealize.ShloMosaic.ValueIdx

/-- An array read where the coordinates are known. -/
theorem read4 {n0 n1 n2 n3 : ℕ} {α : Type} (x : (⟨4, ![n0, n1, n2, n3]⟩ : Shape).Idx → α) (i : (⟨4, ![n0, n1, n2, n3]⟩ : Shape).Idx)
    (j0 : Fin n0) (j1 : Fin n1) (j2 : Fin n2) (j3 : Fin n3) (e0 : (i 0).val = j0.val) (e1 : (i 1).val = j1.val) (e2 : (i 2).val = j2.val)
    (e3 : (i 3).val = j3.val) : x i = x (ix4 j0 j1 j2 j3) := congrArg x (funext fun a => Fin.ext (match a with
  | ⟨0, _⟩ => e0
  | ⟨1, _⟩ => e1
  | ⟨2, _⟩ => e2
  | ⟨3, _⟩ => e3))

theorem read3 {n0 n1 n2 : ℕ} {α : Type} (x : (⟨3, ![n0, n1, n2]⟩ : Shape).Idx → α) (i : (⟨3, ![n0, n1, n2]⟩ : Shape).Idx)
    (j0 : Fin n0) (j1 : Fin n1) (j2 : Fin n2) (e0 : (i 0).val = j0.val) (e1 : (i 1).val = j1.val) (e2 : (i 2).val = j2.val) :
    x i = x (ix3 j0 j1 j2) := congrArg x (funext fun a => Fin.ext (match a with
  | ⟨0, _⟩ => e0
  | ⟨1, _⟩ => e1
  | ⟨2, _⟩ => e2))

theorem ofBits_bot : Ideal.ofBits .f32 0xFF800000#32 = ⊥ := by simp [Ideal.ofBits, Ideal.ieee]

/-- The greatest of finitely many reals and −∞s, one of them real, is real. -/
theorem fold_max {ι : Type} (s : Finset ι) (f : ι → EReal) (hf : ∀ i ∈ s, f i < ⊤) {i : ι} (hi : i ∈ s) (hr : f i ≠ ⊥) :
    ∃ m : ℝ, s.fold max ⊥ f = (m : EReal) := by
  have e : s.fold max ⊥ f = s.sup f := rfl
  rw [e]
  have ht : s.sup f < ⊤ := (Finset.sup_lt_iff bot_lt_top).mpr hf
  have hb : s.sup f ≠ ⊥ := fun h => hr (le_bot_iff.mp (h ▸ Finset.le_sup (f := f) hi))
  exact ⟨(s.sup f).toReal, (EReal.coe_toReal ht.ne hb).symm⟩

/-- A host sum over reals: from zero, element by element. -/
theorem host_sum {n : ℕ} (f : Fin n → EReal) (g : ℕ → ℝ) (hf : ∀ i : Fin n, f i = ((g i.val : ℝ) : EReal)) :
    Ideal.ofBits .f32 0x00000000#32 + ∑ i, f i = ((∑ i ∈ Finset.range n, g i : ℝ) : EReal) := by
  rw [Ideal.ofBits_zero_f32, zero_add, ← Fin.sum_univ_eq_sum_range g n, ← Cert.Stick.coe_sum]
  exact Finset.sum_congr rfl fun i _ => hf i

/-- A host contraction over reals. -/
theorem host_dot {n : ℕ} (f g : Fin n → EReal) (u w : ℕ → ℝ) (hf : ∀ i : Fin n, f i = ((u i.val : ℝ) : EReal)) (hg : ∀ i : Fin n, g i = ((w i.val : ℝ) : EReal)) :
    ∑ i, f i * g i = ((∑ i ∈ Finset.range n, u i * w i : ℝ) : EReal) := by
  rw [Cert.Stick.coe_sum_mul f g (fun i => u i.val) (fun i => w i.val) hf hg, Fin.sum_univ_eq_sum_range (fun i => u i * w i) n]

/-- The gate of head `h`, as the queries and as the keys read it. -/
def colGate (x : (⟨3, ![8, 2048, 1]⟩ : Shape).Idx → EReal) (h t : ℕ) : ℝ := (x (ix3 (Fin.ofNat 8 h) (Fin.ofNat 2048 t) 0)).toReal
def rowGate (x : (⟨3, ![8, 1, 2048]⟩ : Shape).Idx → EReal) (h s : ℕ) : ℝ := (x (ix3 (Fin.ofNat 8 h) 0 (Fin.ofNat 2048 s))).toReal

theorem colGate_eq (x : (⟨3, ![8, 2048, 1]⟩ : Shape).Idx → EReal) (hx : ∀ i, x i = ((x i).toReal : EReal)) (i : (⟨3, ![8, 2048, 1]⟩ : Shape).Idx)
    {h t : ℕ} (e0 : (i 0).val = h) (e1 : (i 1).val = t) : x i = ((colGate x h t : ℝ) : EReal) := by
  subst e0 e1
  have l0 : (i 0).val < 8 := (i 0).isLt
  have l1 : (i 1).val < 2048 := (i 1).isLt
  have l2 : (i 2).val < 1 := (i 2).isLt
  exact (hx i).trans (congrArg (fun y : EReal => ((y.toReal : ℝ) : EReal)) (read3 x i _ _ _ (Nat.mod_eq_of_lt l0).symm (Nat.mod_eq_of_lt l1).symm (Nat.lt_one_iff.mp l2)))

theorem rowGate_eq (x : (⟨3, ![8, 1, 2048]⟩ : Shape).Idx → EReal) (hx : ∀ i, x i = ((x i).toReal : EReal)) (i : (⟨3, ![8, 1, 2048]⟩ : Shape).Idx)
    {h s : ℕ} (e0 : (i 0).val = h) (e2 : (i 2).val = s) : x i = ((rowGate x h s : ℝ) : EReal) := by
  subst e0 e2
  have l0 : (i 0).val < 8 := (i 0).isLt
  have l1 : (i 1).val < 1 := (i 1).isLt
  have l2 : (i 2).val < 2048 := (i 2).isLt
  exact (hx i).trans (congrArg (fun y : EReal => ((y.toReal : ℝ) : EReal)) (read3 x i _ _ _ (Nat.mod_eq_of_lt l0).symm (Nat.lt_one_iff.mp l1) (Nat.mod_eq_of_lt l2).symm))

end Cert.Fox

namespace Cert.Reference19Ideal.Fox

open Cert.Reference19Ideal Cert.Reference19Ideal.Gen Cert.Reference19Ideal.Read Cert.Fox
open Cert.Stick (head head_eq select_ofBool)
open Idealize.ShloMosaic Idealize.ShloMosaic.ValueIdx Idealize.SL.Sem
open Cert.KernelIdeal.Tile (sc ofBits_sc)

variable (x0 : (⟨S2048x6144, .bf16⟩ : BufTy).Contents (Elt Ideal)) (x1 : (⟨S8x2048x1, .f32⟩ : BufTy).Contents (Elt Ideal))
  (x2 : (⟨S8x1x2048, .f32⟩ : BufTy).Contents (Elt Ideal)) (x3 : (⟨S2048x1024, .bf16⟩ : BufTy).Contents (Elt Ideal))
variable (h0 : ∀ i, x0 i = ((EReal.toReal (x0 i) : ℝ) : EReal)) (h1 : ∀ i, x1 i = ((EReal.toReal (x1 i) : ℝ) : EReal))
  (h2 : ∀ i, x2 i = ((EReal.toReal (x2 i) : ℝ) : EReal)) (h3 : ∀ i, x3 i = ((EReal.toReal (x3 i) : ℝ) : EReal))

/-- The arrays of head `h`: queries, keys, values, the output's cotangent, the gate twice; each row's log-normaliser and average. -/
abbrev Q (h : ℕ) : ℕ → ℕ → ℝ := head (n := 6144) x0 3072 h
abbrev K (h : ℕ) : ℕ → ℕ → ℝ := head (n := 6144) x0 4096 h
abbrev W (h : ℕ) : ℕ → ℕ → ℝ := head (n := 6144) x0 5120 h
abbrev O (h : ℕ) : ℕ → ℕ → ℝ := head (n := 1024) x3 0 h
abbrev A (h : ℕ) : ℕ → ℝ := colGate x1 h
abbrev B (h : ℕ) : ℕ → ℝ := rowGate x2 h
abbrev L (h : ℕ) : ℕ → ℝ := lz sc (Q x0 h) (K x0 h) (A x1 h) (B x2 h)
abbrev D (h : ℕ) : ℕ → ℝ := dl sc (Q x0 h) (K x0 h) (W x0 h) (O x3 h) (A x1 h) (B x2 h)

section
include h0

theorem q_eq (h : Fin 8) (t : Fin 2048) (d : Fin 128) : val_main_v7 (F := Ideal) x0 (ix4 0 h t d) = ((Q x0 h t d : ℝ) : EReal) := by
  have hh := h.isLt; have ht := t.isLt; have hd := d.isLt
  rw [val_main_v7_apply, val_main_v6_apply, val_main_v5_apply, val_main_v2_apply, val_main_v1_apply, val_main_v0_apply]
  refine head_eq (n := 6144) x0 h0 _ ?_ ?_
  · show (((0 * 2048 + t.val) * 8 + h.val) * 128 + d.val) / 1024 % 2048 = t.val; omega
  · show 3072 + (((0 * 2048 + t.val) * 8 + h.val) * 128 + d.val) % 1024 = 3072 + 128 * h.val + d.val; omega

theorem k_eq (h : Fin 8) (t : Fin 2048) (d : Fin 128) : val_main_v10 (F := Ideal) x0 (ix4 0 h t d) = ((K x0 h t d : ℝ) : EReal) := by
  have hh := h.isLt; have ht := t.isLt; have hd := d.isLt
  rw [val_main_v10_apply, val_main_v9_apply, val_main_v8_apply, val_main_v3_apply, val_main_v1_apply, val_main_v0_apply]
  refine head_eq (n := 6144) x0 h0 _ ?_ ?_
  · show (((0 * 2048 + t.val) * 8 + h.val) * 128 + d.val) / 1024 % 2048 = t.val; omega
  · show 3072 + (1024 + (((0 * 2048 + t.val) * 8 + h.val) * 128 + d.val) % 1024) = 4096 + 128 * h.val + d.val; omega

theorem v_eq (h : Fin 8) (t : Fin 2048) (d : Fin 128) : val_main_v13 (F := Ideal) x0 (ix4 0 h t d) = ((W x0 h t d : ℝ) : EReal) := by
  have hh := h.isLt; have ht := t.isLt; have hd := d.isLt
  rw [val_main_v13_apply, val_main_v12_apply, val_main_v11_apply, val_main_v4_apply, val_main_v1_apply, val_main_v0_apply]
  refine head_eq (n := 6144) x0 h0 _ ?_ ?_
  · show (((0 * 2048 + t.val) * 8 + h.val) * 128 + d.val) / 1024 % 2048 = t.val; omega
  · show 3072 + (2048 + (((0 * 2048 + t.val) * 8 + h.val) * 128 + d.val) % 1024) = 5120 + 128 * h.val + d.val; omega
end

theorem o_eq (h3 : ∀ i, x3 i = ((EReal.toReal (x3 i) : ℝ) : EReal)) (h : Fin 8) (t : Fin 2048) (d : Fin 128) :
    val_main_v70 (F := Ideal) x3 (ix4 0 h t d) = ((O x3 h t d : ℝ) : EReal) := by
  have hh := h.isLt; have ht := t.isLt; have hd := d.isLt
  rw [val_main_v70_apply, val_main_v69_apply, val_main_v68_apply, val_main_v67_apply]
  refine head_eq (n := 1024) x3 h3 _ ?_ ?_
  · show (((0 * 2048 + t.val) * 8 + h.val) * 128 + d.val) / 1024 % 2048 = t.val; omega
  · show (((0 * 2048 + t.val) * 8 + h.val) * 128 + d.val) % 1024 = 0 + 128 * h.val + d.val; omega

theorem a_eq (h1 : ∀ i, x1 i = ((EReal.toReal (x1 i) : ℝ) : EReal)) (h : Fin 8) (t s : Fin 2048) :
    val_main_v22 (F := Ideal) x1 (ix4 0 h t s) = ((A x1 h t : ℝ) : EReal) := by
  have hh := h.isLt; have ht := t.isLt
  rw [val_main_v22_apply, val_main_v21_apply, val_main_v15_apply, val_main_v14_apply]
  refine colGate_eq x1 h1 _ ?_ ?_
  · show (h.val * 2048 + t.val) / 2048 = h.val; omega
  · show (h.val * 2048 + t.val) / 1 % 2048 = t.val; omega

theorem b_eq (h2 : ∀ i, x2 i = ((EReal.toReal (x2 i) : ℝ) : EReal)) (h : Fin 8) (t s : Fin 2048) :
    val_main_v25 (F := Ideal) x2 (ix4 0 h t s) = ((B x2 h s : ℝ) : EReal) := by
  have hh := h.isLt; have hs := s.isLt
  rw [val_main_v25_apply, val_main_v24_apply, val_main_v17_apply, val_main_v16_apply]
  refine rowGate_eq x2 h2 _ ?_ ?_
  · show (h.val * 2048 + s.val) / 2048 = h.val; omega
  · show (h.val * 2048 + s.val) % 2048 = s.val; omega

theorem mask_eq (h : Fin 8) (t s : Fin 2048) : val_main_v34_1 (F := Ideal) (ix4 0 h t s) = BitVec.ofBool (decide (s.val ≤ t.val)) := by
  have ht := t.isLt; have hs := s.isLt
  rw [val_main_v34_1_apply, val_main_v33_apply, val_main_v31_apply, val_main_v32_apply, val_main_v28_apply, val_main_v30_apply]
  show IntOp.cmpi .sle (BitVec.ofNat 32 s.val) (BitVec.ofNat 32 t.val) = _
  rw [WordCmp.cmpi_sle_ofNat (by simp; omega) (by simp; omega)]

section
include h0 h1 h2

theorem z_eq (h : Fin 8) (t s : Fin 2048) :
    val_main_v26 (F := Ideal) x0 x1 x2 (ix4 0 h t s) = ((z sc (Q x0 h) (K x0 h) (A x1 h) (B x2 h) t s : ℝ) : EReal) := by
  rw [val_main_v26_apply, val_main_v23_apply, val_main_v20_apply, val_main_v18_apply, val_main_v19_apply, a_eq x1 h1, b_eq x2 h2]
  show (_ * Ideal.ofBits .f32 0x3DB504F3#32 + _) - _ = _
  rw [ofBits_sc, host_dot _ _ (fun d => Q x0 h t d) (fun d => K x0 h s d) (fun d => ?_) (fun d => ?_), ← EReal.coe_mul, ← EReal.coe_add, ← EReal.coe_sub]
  · rfl
  · exact (read4 _ _ 0 h t d rfl rfl rfl rfl).trans (q_eq x0 h0 h t d)
  · exact (read4 _ _ 0 h s d rfl rfl rfl rfl).trans (k_eq x0 h0 h s d)

theorem zm_eq (h : Fin 8) (t s : Fin 2048) :
    val_main_v34_0 (F := Ideal) x0 x1 x2 (ix4 0 h t s) = if s.val ≤ t.val then ((z sc (Q x0 h) (K x0 h) (A x1 h) (B x2 h) t s : ℝ) : EReal) else ⊥ := by
  rw [val_main_v34_0_apply, mask_eq, z_eq x0 x1 x2 h0 h1 h2, select_ofBool]
  exact if_congr Iff.rfl rfl ofBits_bot

/-- Each row's greatest score is real. -/
theorem top_real (h : Fin 8) (t : Fin 2048) : ∃ m : ℝ, val_main_v35 (F := Ideal) x0 x1 x2 (ix3 0 h t) = (m : EReal) := by
  unfold val_main_v35
  rw [Host.reduce_eq_fold]
  have hb : val_main_cst_1 (F := Ideal) (Shape.Idx.first h_S_) = (⊥ : EReal) := ofBits_bot
  rw [hb]
  refine fold_max _ _ (fun i _ => ?_) (i := ix4 0 h t t) (Finset.mem_filter.mpr ⟨Finset.mem_univ _, ?_⟩) ?_
  · have l0 : (i 0).val < 1 := (i 0).isLt
    refine lt_of_eq_of_lt ((read4 (val_main_v34_0 (F := Ideal) x0 x1 x2) i 0 (i 1) (i 2) (i 3) (Nat.lt_one_iff.mp l0) rfl rfl rfl).trans
      (zm_eq x0 x1 x2 h0 h1 h2 (i 1) (i 2) (i 3))) ?_
    split
    · exact EReal.coe_lt_top _
    · exact bot_lt_top
  · exact funext fun a => match a with | ⟨0, _⟩ => rfl | ⟨1, _⟩ => rfl | ⟨2, _⟩ => rfl
  · rw [zm_eq x0 x1 x2 h0 h1 h2, if_pos le_rfl]
    exact EReal.coe_ne_bot _

variable (h : Fin 8) (t : Fin 2048) (m : ℝ) (hm : val_main_v35 (F := Ideal) x0 x1 x2 (ix3 0 h t) = (m : EReal))
include hm

theorem top_eq : val_main_v42 (F := Ideal) x0 x1 x2 (ix3 0 h t) = (m : EReal) := by
  rw [val_main_v42_apply, val_main_v41_apply, hm]
  show max (Ideal.ofBits .f32 0xFF800000#32) (m : EReal) = _
  rw [ofBits_bot]
  exact max_eq_right bot_le

/-- A score less the greatest one, to the exponential. -/
theorem exp_eq (s : Fin 2048) (y : EReal) (hy : y = (m : EReal)) :
    Ideal.exp (val_main_v34_0 (F := Ideal) x0 x1 x2 (ix4 0 h t s) - y) = ((en sc (Q x0 h) (K x0 h) (A x1 h) (B x2 h) t s * Real.exp (-m) : ℝ) : EReal) := by
  rw [zm_eq x0 x1 x2 h0 h1 h2, hy]
  unfold en
  split
  · rw [← EReal.coe_sub, Ideal.exp_coe, sub_eq_add_neg, Real.exp_add]
  · rw [zero_mul, EReal.bot_sub]
    rfl

theorem e_eq (s : Fin 2048) :
    val_main_v55 (F := Ideal) x0 x1 x2 (ix4 0 h t s) = ((en sc (Q x0 h) (K x0 h) (A x1 h) (B x2 h) t s * Real.exp (-m) : ℝ) : EReal) := by
  rw [val_main_v55_apply, val_main_v54_apply, val_main_v53_apply, val_main_v52_apply]
  exact exp_eq x0 x1 x2 h0 h1 h2 h t m hm s _ ((read3 _ _ 0 h t rfl rfl rfl).trans (top_eq x0 x1 x2 h0 h1 h2 h t m hm))

theorem n_eq : val_main_v56 (F := Ideal) x0 x1 x2 (ix3 0 h t) = ((nz sc (Q x0 h) (K x0 h) (A x1 h) (B x2 h) t * Real.exp (-m) : ℝ) : EReal) := by
  rw [val_main_v56_apply]
  refine (host_sum _ (fun s => en sc (Q x0 h) (K x0 h) (A x1 h) (B x2 h) t s * Real.exp (-m)) (fun s => ?_)).trans ?_
  · exact (read4 _ _ 0 h t s rfl rfl rfl rfl).trans (e_eq x0 x1 x2 h0 h1 h2 h t m hm s)
  · rw [← Finset.sum_mul]; rfl

theorem n_ne : nz sc (Q x0 h) (K x0 h) (A x1 h) (B x2 h) t * Real.exp (-m) ≠ 0 := (mul_pos (nz_pos t.isLt) (Real.exp_pos _)).ne'

theorem n57_eq (i : S1x8x2048x1.Idx) (e1 : (i 1).val = h.val) (e2 : (i 2).val = t.val) :
    val_main_v57 (F := Ideal) x0 x1 x2 i = ((nz sc (Q x0 h) (K x0 h) (A x1 h) (B x2 h) t * Real.exp (-m) : ℝ) : EReal) := by
  rw [val_main_v57_apply]
  exact (read3 _ _ 0 h t rfl e1 e2).trans (n_eq x0 x1 x2 h0 h1 h2 h t m hm)

end

section
include h0 h1 h2

theorem p_eq (h : Fin 8) (t s : Fin 2048) :
    val_main_v59 (F := Ideal) x0 x1 x2 (ix4 0 h t s) = ((p sc (Q x0 h) (K x0 h) (A x1 h) (B x2 h) (L x0 x1 x2 h) t s : ℝ) : EReal) := by
  obtain ⟨m, hm⟩ := top_real x0 x1 x2 h0 h1 h2 h t
  rw [val_main_v59_apply, val_main_v58_apply, e_eq x0 x1 x2 h0 h1 h2 h t m hm, n57_eq x0 x1 x2 h0 h1 h2 h t m hm _ rfl rfl, Ideal.hostDivf_def,
    Ideal.div_coe (n_ne x0 x1 x2 h0 h1 h2 h t m hm), ← EReal.coe_mul, p_shift t.isLt _ (Real.exp_pos _).ne']

/-- The output, in its head's columns. -/
theorem out_eq (h : Fin 8) (t : Fin 2048) (d : Fin 128) (i : S2048x1024.Idx) (e0 : (i 0).val = t.val) (e1 : (i 1).val = 128 * h.val + d.val) :
    val_main_v66 (F := Ideal) x0 x1 x2 i = ((out sc (Q x0 h) (K x0 h) (W x0 h) (A x1 h) (B x2 h) t d : ℝ) : EReal) := by
  have hh := h.isLt; have ht := t.isLt; have hd := d.isLt
  rw [val_main_v66_apply, val_main_v65_apply, val_main_v64_apply]
  refine (read4 _ _ 0 h t d rfl ?_ ?_ ?_).trans ?_
  · show ((0 * 2048 + ((i 0).val * 1024 + (i 1).val) / 1024 % 2048) * 1024 + ((i 0).val * 1024 + (i 1).val) % 1024) / 128 % 8 = h.val; omega
  · show ((0 * 2048 + ((i 0).val * 1024 + (i 1).val) / 1024 % 2048) * 1024 + ((i 0).val * 1024 + (i 1).val) % 1024) / 1024 % 2048 = t.val; omega
  · show ((0 * 2048 + ((i 0).val * 1024 + (i 1).val) / 1024 % 2048) * 1024 + ((i 0).val * 1024 + (i 1).val) % 1024) % 128 = d.val; omega
  rw [val_main_v63_apply]
  exact host_dot _ _ (fun s => p sc (Q x0 h) (K x0 h) (A x1 h) (B x2 h) (L x0 x1 x2 h) t s) (fun s => W x0 h s d)
    (fun s => (read4 _ _ 0 h t s rfl rfl rfl rfl).trans (p_eq x0 x1 x2 h0 h1 h2 h t s)) (fun s => (read4 _ _ 0 h s d rfl rfl rfl rfl).trans (v_eq x0 h0 h s d))
end

/-! ## Sums over axes of one element -/

theorem sum03 (x : S1x8x2048x1.Idx → EReal) (init : EReal) (h : Fin 8) (t : Fin 2048) :
    Ideal.hostReduceAdd reducesTo_S1x8x2048x1_S8x2048_d0_3 x init (ix2 h t) = init + x (ix4 0 h t 0) := by
  refine congrArg (fun y => init + y) (Finset.sum_eq_single (ix4 0 h t 0) (fun i hi hne => absurd ?_ hne) (fun hn => absurd ?_ hn))
  · have e := (Finset.mem_filter.mp hi).2
    have e1 : (i 1).val = h.val := congrArg (fun j : S8x2048.Idx => (j 0).val) e
    have e2 : (i 2).val = t.val := congrArg (fun j : S8x2048.Idx => (j 1).val) e
    have l0 : (i 0).val < 1 := (i 0).isLt
    have l3 : (i 3).val < 1 := (i 3).isLt
    exact read4 id i 0 h t 0 (Nat.lt_one_iff.mp l0) e1 e2 (Nat.lt_one_iff.mp l3)
  · exact Finset.mem_filter.mpr ⟨Finset.mem_univ _, funext fun a => match a with | ⟨0, _⟩ => rfl | ⟨1, _⟩ => rfl⟩

theorem sum02 (x : S1x8x1x2048.Idx → EReal) (init : EReal) (h : Fin 8) (s : Fin 2048) :
    Ideal.hostReduceAdd reducesTo_S1x8x1x2048_S8x2048_d0_2 x init (ix2 h s) = init + x (ix4 0 h 0 s) := by
  refine congrArg (fun y => init + y) (Finset.sum_eq_single (ix4 0 h 0 s) (fun i hi hne => absurd ?_ hne) (fun hn => absurd ?_ hn))
  · have e := (Finset.mem_filter.mp hi).2
    have e1 : (i 1).val = h.val := congrArg (fun j : S8x2048.Idx => (j 0).val) e
    have e3 : (i 3).val = s.val := congrArg (fun j : S8x2048.Idx => (j 1).val) e
    have l0 : (i 0).val < 1 := (i 0).isLt
    have l2 : (i 2).val < 1 := (i 2).isLt
    exact read4 id i 0 h 0 s (Nat.lt_one_iff.mp l0) e1 (Nat.lt_one_iff.mp l2) e3
  · exact Finset.mem_filter.mpr ⟨Finset.mem_univ _, funext fun a => match a with | ⟨0, _⟩ => rfl | ⟨1, _⟩ => rfl⟩

theorem read2 {α : Type} (x : S8x2048.Idx → α) (i : S8x2048.Idx) (h : Fin 8) (t : Fin 2048) (e0 : (i 0).val = h.val) (e1 : (i 1).val = t.val) :
    x i = x (ix2 h t) := congrArg x (funext fun a => Fin.ext (match a with
  | ⟨0, _⟩ => e0
  | ⟨1, _⟩ => e1))

section
include h0 h3

theorem dp_eq (h : Fin 8) (t s : Fin 2048) :
    val_main_v73 (F := Ideal) x0 x3 (ix4 0 h t s) = ((dp (W x0 h) (O x3 h) t s : ℝ) : EReal) := by
  rw [val_main_v73_apply]
  exact host_dot _ _ (fun d => O x3 h t d) (fun d => W x0 h s d) (fun d => (read4 _ _ 0 h t d rfl rfl rfl rfl).trans (o_eq x3 h3 h t d))
    (fun d => (read4 _ _ 0 h s d rfl rfl rfl rfl).trans (v_eq x0 h0 h s d))

include h1 h2

theorem ds_eq (h : Fin 8) (t s : Fin 2048) :
    val_main_v87 (F := Ideal) x0 x1 x2 x3 (ix4 0 h t s)
      = ((ds sc (Q x0 h) (K x0 h) (W x0 h) (O x3 h) (A x1 h) (B x2 h) (L x0 x1 x2 h) (D x0 x1 x2 x3 h) t s : ℝ) : EReal) := by
  have hh := h.isLt; have ht := t.isLt
  rw [val_main_v87_apply, mask_eq, select_ofBool]
  split
  swap
  · rename_i hst
    rw [ds_of_lt (by omega)]
    exact Ideal.ofBits_zero_f32
  obtain ⟨m, hm⟩ := top_real x0 x1 x2 h0 h1 h2 h t
  have hS := n_ne x0 x1 x2 h0 h1 h2 h t m hm
  rw [val_main_v86_apply, val_main_v85_apply, val_main_v81_apply, val_main_v84_apply, val_main_v83_apply, val_main_v80_apply,
    dp_eq x0 x3 h0 h3, e_eq x0 x1 x2 h0 h1 h2 h t m hm, n57_eq x0 x1 x2 h0 h1 h2 h t m hm _ rfl rfl, Ideal.hostDivf_def, Ideal.div_coe hS]
  have h82 : val_main_v82 (F := Ideal) x0 x1 x2 x3 (ix2 h t) = ((-∑ y ∈ Finset.range 2048, dp (W x0 h) (O x3 h) t y
      * (1 / (nz sc (Q x0 h) (K x0 h) (A x1 h) (B x2 h) t * Real.exp (-m) * (nz sc (Q x0 h) (K x0 h) (A x1 h) (B x2 h) t * Real.exp (-m))))
      * (en sc (Q x0 h) (K x0 h) (A x1 h) (B x2 h) t y * Real.exp (-m)) : ℝ) : EReal) := by
    refine (sum03 _ _ h t).trans ?_
    show Ideal.ofBits .f32 0x00000000#32 + _ = _
    rw [Ideal.ofBits_zero_f32, zero_add, val_main_v79_apply, val_main_v78_apply, Ideal.hostNegf_def, EReal.coe_neg]
    refine congrArg (fun y : EReal => -y) ((read3 _ _ 0 h t rfl ?_ ?_).trans ?_)
    · show ((((0 * 8 + h.val) * 2048 + t.val) * 1 + 0)) / 2048 % 8 = h.val; omega
    · show ((((0 * 8 + h.val) * 2048 + t.val) * 1 + 0)) % 2048 = t.val; omega
    rw [val_main_v77_apply]
    refine host_sum _ _ fun y => (read4 _ _ 0 h t y rfl rfl rfl rfl).trans ?_
    rw [val_main_v76_apply, val_main_v75_apply, val_main_v74_apply, val_main_v62_apply, val_main_v61_apply, val_main_v60_apply,
      dp_eq x0 x3 h0 h3, e_eq x0 x1 x2 h0 h1 h2 h t m hm, n57_eq x0 x1 x2 h0 h1 h2 h t m hm _ rfl rfl]
    show _ * Ideal.div (Ideal.ofBits .f32 0x3F800000#32) (((nz sc (Q x0 h) (K x0 h) (A x1 h) (B x2 h) t * Real.exp (-m) : ℝ) : EReal) * ((nz sc (Q x0 h) (K x0 h) (A x1 h) (B x2 h) t * Real.exp (-m) : ℝ) : EReal)) * _ = _
    rw [← EReal.coe_mul, Ideal.div_coe (mul_ne_zero hS hS), Ideal.ofBits_one_f32, one_mul, ← EReal.coe_mul, ← EReal.coe_mul]
  have h82' := (read2 (val_main_v82 (F := Ideal) x0 x1 x2 x3) (idx_main_v83 (idx_main_v84 (ix4 0 h t s))) h t rfl rfl).trans h82
  rw [h82']
  show (_ * _ + _) * _ = _
  rw [← EReal.coe_mul, ← EReal.coe_add, ← EReal.coe_mul, ds_shift t.isLt _ (Real.exp_pos _).ne']

theorem dsc_eq (h : Fin 8) (t s : Fin 2048) :
    val_main_v98 (F := Ideal) x0 x1 x2 x3 (ix4 0 h t s)
      = ((ds sc (Q x0 h) (K x0 h) (W x0 h) (O x3 h) (A x1 h) (B x2 h) (L x0 x1 x2 h) (D x0 x1 x2 x3 h) t s * sc : ℝ) : EReal) := by
  rw [val_main_v98_apply, val_main_v97_apply, ds_eq x0 x1 x2 x3 h0 h1 h2 h3]
  show _ * Ideal.ofBits .f32 0x3DB504F3#32 = _
  rw [ofBits_sc, ← EReal.coe_mul]

/-- The cotangents of the keys, queries and values in the heads' layout. -/
theorem dk_eq (h : Fin 8) (s : Fin 2048) (d : Fin 128) :
    val_main_v99 (F := Ideal) x0 x1 x2 x3 (ix4 0 h s d)
      = ((dk sc (Q x0 h) (K x0 h) (W x0 h) (O x3 h) (A x1 h) (B x2 h) (L x0 x1 x2 h) (D x0 x1 x2 x3 h) 2048 s d : ℝ) : EReal) := by
  rw [val_main_v99_apply]
  exact host_dot _ _ (fun t => ds sc (Q x0 h) (K x0 h) (W x0 h) (O x3 h) (A x1 h) (B x2 h) (L x0 x1 x2 h) (D x0 x1 x2 x3 h) t s * sc) (fun t => Q x0 h t d)
    (fun t => (read4 _ _ 0 h t s rfl rfl rfl rfl).trans (dsc_eq x0 x1 x2 x3 h0 h1 h2 h3 h t s)) (fun t => (read4 _ _ 0 h t d rfl rfl rfl rfl).trans (q_eq x0 h0 h t d))

theorem dq_eq (h : Fin 8) (t : Fin 2048) (d : Fin 128) :
    val_main_v100 (F := Ideal) x0 x1 x2 x3 (ix4 0 h t d)
      = ((dq sc (Q x0 h) (K x0 h) (W x0 h) (O x3 h) (A x1 h) (B x2 h) (L x0 x1 x2 h) (D x0 x1 x2 x3 h) 2048 t d : ℝ) : EReal) := by
  rw [val_main_v100_apply]
  exact host_dot _ _ (fun s => ds sc (Q x0 h) (K x0 h) (W x0 h) (O x3 h) (A x1 h) (B x2 h) (L x0 x1 x2 h) (D x0 x1 x2 x3 h) t s * sc) (fun s => K x0 h s d)
    (fun s => (read4 _ _ 0 h t s rfl rfl rfl rfl).trans (dsc_eq x0 x1 x2 x3 h0 h1 h2 h3 h t s)) (fun s => (read4 _ _ 0 h s d rfl rfl rfl rfl).trans (k_eq x0 h0 h s d))

theorem dv_eq (h : Fin 8) (s : Fin 2048) (d : Fin 128) :
    val_main_v72 (F := Ideal) x0 x1 x2 x3 (ix4 0 h s d)
      = ((dv sc (Q x0 h) (K x0 h) (O x3 h) (A x1 h) (B x2 h) (L x0 x1 x2 h) 2048 s d : ℝ) : EReal) := by
  rw [val_main_v72_apply, val_main_v71_apply]
  refine (host_dot _ _ (fun t => O x3 h t d) (fun t => p sc (Q x0 h) (K x0 h) (A x1 h) (B x2 h) (L x0 x1 x2 h) t s)
    (fun t => (read4 _ _ 0 h t d rfl rfl rfl rfl).trans (o_eq x3 h3 h t d)) (fun t => (read4 _ _ 0 h t s rfl rfl rfl rfl).trans (p_eq x0 x1 x2 h0 h1 h2 h t s))).trans ?_
  unfold dv
  exact congrArg _ (Finset.sum_congr rfl fun t _ => mul_comm _ _)

/-- The results. In row `t`, column `128 h + d`: -/
theorem res_dq (h : Fin 8) (t : Fin 2048) (d : Fin 128) (i : S2048x1024.Idx) (e0 : (i 0).val = t.val) (e1 : (i 1).val = 128 * h.val + d.val) :
    val_main_v114 (F := Ideal) x0 x1 x2 x3 i
      = ((dq sc (Q x0 h) (K x0 h) (W x0 h) (O x3 h) (A x1 h) (B x2 h) (L x0 x1 x2 h) (D x0 x1 x2 x3 h) 2048 t d : ℝ) : EReal) := by
  have hh := h.isLt; have ht := t.isLt; have hd := d.isLt
  rw [val_main_v114_apply, val_main_v113_apply]
  show Ideal.ofBits .f32 0x00000000#32 + _ = _
  rw [Ideal.ofBits_zero_f32, zero_add, Fin.sum_univ_one, val_main_v112_apply, val_main_v111_apply]
  refine (read4 _ _ 0 h t d rfl ?_ ?_ ?_).trans (dq_eq x0 x1 x2 x3 h0 h1 h2 h3 h t d)
  · show ((0 * 2048 + (i 0).val) * 1024 + (i 1).val) / 128 % 8 = h.val; omega
  · show ((0 * 2048 + (i 0).val) * 1024 + (i 1).val) / 1024 % 2048 = t.val; omega
  · show ((0 * 2048 + (i 0).val) * 1024 + (i 1).val) % 128 = d.val; omega

theorem res_dk (h : Fin 8) (s : Fin 2048) (d : Fin 128) (i : S2048x1024.Idx) (e0 : (i 0).val = s.val) (e1 : (i 1).val = 128 * h.val + d.val) :
    val_main_v115 (F := Ideal) x0 x1 x2 x3 i
      = ((dk sc (Q x0 h) (K x0 h) (W x0 h) (O x3 h) (A x1 h) (B x2 h) (L x0 x1 x2 h) (D x0 x1 x2 x3 h) 2048 s d : ℝ) : EReal) := by
  have hh := h.isLt; have ht := s.isLt; have hd := d.isLt
  rw [val_main_v115_apply, val_main_v110_apply]
  show Ideal.ofBits .f32 0x00000000#32 + _ = _
  rw [Ideal.ofBits_zero_f32, zero_add, Fin.sum_univ_one, val_main_v109_apply, val_main_v108_apply]
  refine (read4 _ _ 0 h s d rfl ?_ ?_ ?_).trans (dk_eq x0 x1 x2 x3 h0 h1 h2 h3 h s d)
  · show ((0 * 2048 + (i 0).val) * 1024 + (i 1).val) / 128 % 8 = h.val; omega
  · show ((0 * 2048 + (i 0).val) * 1024 + (i 1).val) / 1024 % 2048 = s.val; omega
  · show ((0 * 2048 + (i 0).val) * 1024 + (i 1).val) % 128 = d.val; omega

theorem res_dv (h : Fin 8) (s : Fin 2048) (d : Fin 128) (i : S2048x1024.Idx) (e0 : (i 0).val = s.val) (e1 : (i 1).val = 128 * h.val + d.val) :
    val_main_v116 (F := Ideal) x0 x1 x2 x3 i
      = ((dv sc (Q x0 h) (K x0 h) (O x3 h) (A x1 h) (B x2 h) (L x0 x1 x2 h) 2048 s d : ℝ) : EReal) := by
  have hh := h.isLt; have ht := s.isLt; have hd := d.isLt
  rw [val_main_v116_apply, val_main_v107_apply]
  show Ideal.ofBits .f32 0x00000000#32 + _ = _
  rw [Ideal.ofBits_zero_f32, zero_add, Fin.sum_univ_one, val_main_v106_apply, val_main_v105_apply]
  refine (read4 _ _ 0 h s d rfl ?_ ?_ ?_).trans (dv_eq x0 x1 x2 x3 h0 h1 h2 h3 h s d)
  · show ((0 * 2048 + (i 0).val) * 1024 + (i 1).val) / 128 % 8 = h.val; omega
  · show ((0 * 2048 + (i 0).val) * 1024 + (i 1).val) / 1024 % 2048 = s.val; omega
  · show ((0 * 2048 + (i 0).val) * 1024 + (i 1).val) % 128 = d.val; omega

/-- The gate's cotangents. -/
theorem res_da (h : Fin 8) (t : Fin 2048) (i : S8x2048x1.Idx) (e0 : (i 0).val = h.val) (e1 : (i 1).val = t.val) :
    val_main_v104 (F := Ideal) x0 x1 x2 x3 i
      = ((da sc (Q x0 h) (K x0 h) (W x0 h) (O x3 h) (A x1 h) (B x2 h) (L x0 x1 x2 h) (D x0 x1 x2 x3 h) 2048 t : ℝ) : EReal) := by
  have hh := h.isLt; have ht := t.isLt
  rw [val_main_v104_apply, val_main_v103_apply]
  show Ideal.ofBits .f32 0x00000000#32 + _ = _
  rw [Ideal.ofBits_zero_f32, zero_add, Fin.sum_univ_one, val_main_v96_apply]
  refine (read2 _ _ h t e0 e1).trans ((sum03 _ _ h t).trans ?_)
  show Ideal.ofBits .f32 0x00000000#32 + _ = _
  rw [Ideal.ofBits_zero_f32, zero_add, val_main_v94_apply]
  refine (read3 _ _ 0 h t rfl ?_ ?_).trans ?_
  · show ((((0 * 8 + h.val) * 2048 + t.val) * 1 + 0)) / 2048 % 8 = h.val; omega
  · show ((((0 * 8 + h.val) * 2048 + t.val) * 1 + 0)) % 2048 = t.val; omega
  rw [val_main_v93_apply]
  exact host_sum _ _ fun s => (read4 _ _ 0 h t s rfl rfl rfl rfl).trans (ds_eq x0 x1 x2 x3 h0 h1 h2 h3 h t s)

theorem res_db (h : Fin 8) (s : Fin 2048) (i : S8x1x2048.Idx) (e0 : (i 0).val = h.val) (e2 : (i 2).val = s.val) :
    val_main_v102 (F := Ideal) x0 x1 x2 x3 i
      = ((db sc (Q x0 h) (K x0 h) (W x0 h) (O x3 h) (A x1 h) (B x2 h) (L x0 x1 x2 h) (D x0 x1 x2 x3 h) 2048 s : ℝ) : EReal) := by
  have hh := h.isLt; have hs := s.isLt
  rw [val_main_v102_apply, val_main_v101_apply]
  show Ideal.ofBits .f32 0x00000000#32 + _ = _
  rw [Ideal.ofBits_zero_f32, zero_add, Fin.sum_univ_one, val_main_v92_apply]
  refine (read2 _ _ h s e0 e2).trans ((sum02 _ _ h s).trans ?_)
  show Ideal.ofBits .f32 0x00000000#32 + _ = _
  rw [Ideal.ofBits_zero_f32, zero_add, val_main_v90_apply]
  refine (read3 _ _ 0 h s rfl ?_ ?_).trans ?_
  · show ((((0 * 8 + h.val) * 1 + 0) * 2048 + s.val)) / 2048 % 8 = h.val; omega
  · show ((((0 * 8 + h.val) * 1 + 0) * 2048 + s.val)) % 2048 = s.val; omega
  rw [val_main_v89_apply]
  refine (host_sum _ (fun t => -ds sc (Q x0 h) (K x0 h) (W x0 h) (O x3 h) (A x1 h) (B x2 h) (L x0 x1 x2 h) (D x0 x1 x2 x3 h) t s) fun t => (read4 _ _ 0 h t s rfl rfl rfl rfl).trans ?_).trans ?_
  · rw [val_main_v88_apply, ds_eq x0 x1 x2 x3 h0 h1 h2 h3, Ideal.hostNegf_def, EReal.coe_neg]
    rfl
  · rw [Finset.sum_neg_distrib]; rfl

end

end Cert.Reference19Ideal.Fox

end
-- ==== Proof.Fox.Saved.lean ====
/-
  The operations the kernel's host lines are made of, as functions, and their equality with the reference's operations.
-/
module

public import proofs.«01_k».proof.Proof.Fox.Ref
public import proofs.«01_k».proof.Proof.Gen.Kernel19Ideal

@[expose] public section

noncomputable section

namespace Cert.Kernel19Ideal.Fox

open Cert.Kernel19Ideal Cert.Kernel19Ideal.Gen Cert.Fox
open Idealize.ShloMosaic Idealize.ShloMosaic.TcCoe Idealize.ShloMosaic.ValueIdx Idealize.SL.Sem Idealize.ShloMosaic.StableHlo
open Cert.Reference19Ideal.Read
open Cert.KernelIdeal.Tile (sc)

abbrev Arg := FVec Ideal S2048x6144 .bf16
abbrev Cols := FVec Ideal S2048x1024 .f32
abbrev Heads := FVec Ideal S1x8x2048x128 .f32
abbrev Sq := FVec Ideal S1x8x2048x2048 .f32
abbrev Rows3 := FVec Ideal S1x8x2048 .f32
abbrev ColGate := FVec Ideal S8x2048x1 .f32
abbrev RowGate := FVec Ideal S8x1x2048 .f32

/-- A row of 1024 columns as eight heads. -/
def heads (x : Cols) : Heads :=
  transpose S1x8x2048x128 [0, 2, 1, 3] (shapeCast S1x2048x8x128 (broadcastInDim S1x2048x1024 ![1, 2] bcast_S2048x1024_S1x2048x1024_1_2 x) shapeCasts_S1x2048x1024_S1x2048x8x128)
    transposes_S1x2048x8x128_S1x8x2048x128_0_2_1_3

/-- One number per row, along the keys. -/
def thin (x : Rows3) : FVec Ideal S1x8x2048x1 .f32 := broadcastInDim S1x8x2048x1 ![0, 1, 2] bcast_S1x8x2048_S1x8x2048x1_0_1_2 x
def wide (x : FVec Ideal S1x8x2048x1 .f32) : Sq := broadcastInDim S1x8x2048x2048 ![0, 1, 2, 3] bcast_S1x8x2048x1_S1x8x2048x2048_0_1_2_3 x

/-- The scores with the gate. -/
def scores (q k : Cols) (a : ColGate) (b : RowGate) : Sq :=
  subf (addf (mulf (Host.dotGeneral dot_S1x8x2048x128_S1x8x2048x128_S1x8x2048x2048_3_3_2_2_01_01 none (heads q) (heads k) : Sq)
      (broadcastInDim S1x8x2048x2048 ![] bcast_S_S1x8x2048x2048 (constant S_ .f32 0x3DB504F3#32 : FVec Ideal S_ .f32) : Sq) : Sq)
      (wide (thin (broadcastInDim S1x8x2048 ![1, 2] bcast_S8x2048_S1x8x2048_1_2 (shapeCast S8x2048 a shapeCasts_S8x2048x1_S8x2048)))) : Sq)
    (broadcastInDim S1x8x2048x2048 ![0, 1, 2, 3] bcast_S1x8x1x2048_S1x8x2048x2048_0_1_2_3 (broadcastInDim S1x8x1x2048 ![0, 1, 3] bcast_S1x8x2048_S1x8x1x2048_0_1_3
      (broadcastInDim S1x8x2048 ![1, 2] bcast_S8x2048_S1x8x2048_1_2 (shapeCast S8x2048 b shapeCasts_S8x1x2048_S8x2048) : Rows3) : FVec Ideal S1x8x1x2048 .f32) : Sq)

/-- Minus infinity outside the mask. -/
def masked (k : IVec S2048x2048 1) (z : Sq) (e : FVec Ideal S_ .f32) : Sq :=
  select (broadcastInDim S1x8x2048x2048 ![2, 3] bcast_S2048x2048_S1x8x2048x2048_2_3 k : IVec S1x8x2048x2048 1) z (broadcastInDim S1x8x2048x2048 ![] bcast_S_S1x8x2048x2048 e : Sq)

def lowest : FVec Ideal S_ .f32 := constant S_ .f32 0xFF800000#32

def top (z : Sq) : Rows3 := Host.reduce FloatOps.maximumf z lowest reducesTo_S1x8x2048x2048_S1x8x2048_d3 h_S_
def total (e : Sq) : Rows3 := Host.reduceAdd e (constant S_ .f32 0x00000000#32 : FVec Ideal S_ .f32) reducesTo_S1x8x2048x2048_S1x8x2048_d3 h_S_

/-- The exponentials of the scores less `y` of their row. -/
def exps (z : Sq) (y : Rows3) : Sq := Host.exp (subf z (wide (thin y)) : Sq)

/-- The logarithm of the sum of the scores' exponentials. -/
def logSum (z : Sq) : FVec Ideal S1x8x2048x1 .f32 := addf (thin (top z)) (Host.log (thin (total (exps z (top z)))) : FVec Ideal S1x8x2048x1 .f32)

/-- The softmax's product with the values. -/
def attend (z : Sq) (v : Heads) (y : Rows3) : Cols :=
  shapeCast S2048x1024 (shapeCast S1x2048x1024 (transpose S1x2048x8x128 [0, 2, 1, 3]
    (Host.dotGeneral dot_S1x8x2048x2048_S1x8x2048x128_S1x8x2048x128_3_2_2_3_01_01 none (Host.divf (exps z y) (wide (thin (total (exps z y)))) : Sq) v : Heads)
    transposes_S1x8x2048x128_S1x2048x8x128_0_2_1_3) shapeCasts_S1x2048x8x128_S1x2048x1024) shapeCasts_S1x2048x1024_S2048x1024

/-! The same operations as the reference's. -/

section
variable (a : Arg) (b1 : ColGate) (b2 : RowGate)

theorem scores_same : scores (val_main_v2 (F := Ideal) a) (val_main_v3 (F := Ideal) a) b1 b2 = val_main_v26 (F := Ideal) a b1 b2 := rfl

theorem masked_same : masked (val_main_v33 (F := Ideal)) (val_main_v26 (F := Ideal) a b1 b2) lowest = val_main_v34_0 (F := Ideal) a b1 b2 := rfl

theorem top_same : top (val_main_v34_0 (F := Ideal) a b1 b2) = val_main_v35 (F := Ideal) a b1 b2 := rfl

theorem top_again : (maximumf (broadcastInDim S1x8x2048 ![] bcast_S_S1x8x2048 lowest : Rows3) (val_main_v35 (F := Ideal) a b1 b2) : Rows3) = val_main_v42 (F := Ideal) a b1 b2 := rfl

theorem top_top : val_main_v42 (F := Ideal) a b1 b2 = val_main_v35 (F := Ideal) a b1 b2 := by
  funext i
  rw [val_main_v42_apply, val_main_v41_apply]
  show max (Ideal.ofBits .f32 0xFF800000#32) (val_main_v35 (F := Ideal) a b1 b2 i) = _
  rw [ofBits_bot]
  exact max_eq_right bot_le

theorem exps_same : exps (val_main_v34_0 (F := Ideal) a b1 b2) (val_main_v42 (F := Ideal) a b1 b2) = val_main_v55 (F := Ideal) a b1 b2 := rfl

theorem total_same : thin (total (val_main_v55 (F := Ideal) a b1 b2)) = val_main_v57 (F := Ideal) a b1 b2 := rfl

theorem attend_same : attend (val_main_v34_0 (F := Ideal) a b1 b2) (heads (val_main_v4 (F := Ideal) a)) (val_main_v42 (F := Ideal) a b1 b2) = val_main_v66 (F := Ideal) a b1 b2 := by
  unfold attend
  rw [exps_same, total_same]
  rfl

theorem logSum_same : logSum (val_main_v34_0 (F := Ideal) a b1 b2)
    = (addf (thin (val_main_v35 (F := Ideal) a b1 b2)) (Host.log (val_main_v57 (F := Ideal) a b1 b2) : FVec Ideal S1x8x2048x1 .f32) : FVec Ideal S1x8x2048x1 .f32) := by
  unfold logSum
  rw [top_same, ← total_same, ← exps_same, top_top]
end

end Cert.Kernel19Ideal.Fox
-- ==== Proof.Fox.Logs.lean ====
/-
  The saved logarithms read at an index.
-/
module

public import proofs.«01_k».proof.Proof.Fox.Saved

@[expose] public section

noncomputable section

namespace Cert.Kernel19Ideal.Fox

open Cert.Kernel19Ideal Cert.Kernel19Ideal.Gen Cert.Fox
open Idealize.ShloMosaic Idealize.ShloMosaic.ValueIdx Idealize.SL.Sem
open Cert.Reference19Ideal.Read
open Cert.Reference19Ideal.Fox (Q K W A B L top_real n57_eq)
open Cert.KernelIdeal.Tile (sc)

theorem cast_at (x : FVec Ideal S1x8x2048x1 .f32) (h : Fin 8) (t : Fin 2048) :
    (shapeCast S8x2048x1 x shapeCasts_S1x8x2048x1_S8x2048x1 : FVec Ideal S8x2048x1 .f32) (ix3 h t 0) = x (ix4 0 h t 0) := by
  refine shapeCast_apply _ shapeCasts_S1x8x2048x1_S8x2048x1 (ix3 h t (0 : Fin 1)) (ix4 (0 : Fin 1) h t (0 : Fin 1)) ?_
  rw [Shape.rowMajor_val_three, Shape.rowMajor_val_four]
  show ((0 * 8 + h.val) * 2048 + t.val) * 1 + 0 = (h.val * 2048 + t.val) * 1 + 0
  rw [Nat.zero_mul, Nat.zero_add]

theorem thin_at (x : Rows3) (h : Fin 8) (t : Fin 2048) : thin x (ix4 0 h t 0) = x (ix3 0 h t) :=
  broadcastInDim_apply _ _ _ (ix4 (0 : Fin 1) h t (0 : Fin 1)) (ix3 (0 : Fin 1) h t) fun z => match z with | ⟨0, _⟩ => rfl | ⟨1, _⟩ => rfl | ⟨2, _⟩ => rfl

theorem sum_at (w u : FVec Ideal S1x8x2048x1 .f32) (i : S1x8x2048x1.Idx) {x y : ℝ} (hw : w i = (x : EReal)) (hu : u i = (y : EReal)) (hp : 0 < y) :
    (addf w (Host.log u : FVec Ideal S1x8x2048x1 .f32) : FVec Ideal S1x8x2048x1 .f32) i = ((x + Real.log y : ℝ) : EReal) := by
  show (w i : EReal) + Ideal.log (u i) = _
  rw [hw, hu, Ideal.log_coe, if_neg (not_le.mpr hp), ← EReal.coe_add]

variable (a : Arg) (b1 : ColGate) (b2 : RowGate)
variable (h0 : ∀ i, a i = ((EReal.toReal (a i) : ℝ) : EReal)) (h1 : ∀ i, b1 i = ((EReal.toReal (b1 i) : ℝ) : EReal)) (h2 : ∀ i, b2 i = ((EReal.toReal (b2 i) : ℝ) : EReal))
include h0 h1 h2

theorem log_at (h : Fin 8) (t : Fin 2048) :
    (shapeCast S8x2048x1 (logSum (val_main_v34_0 (F := Ideal) a b1 b2)) shapeCasts_S1x8x2048x1_S8x2048x1 : FVec Ideal S8x2048x1 .f32) (ix3 h t 0) = ((L a b1 b2 h t : ℝ) : EReal) := by
  obtain ⟨x, hx⟩ := top_real a b1 b2 h0 h1 h2 h t
  have hn := n57_eq a b1 b2 h0 h1 h2 h t x hx (ix4 (0 : Fin 1) h t (0 : Fin 1)) rfl rfl
  refine (cast_at _ h t).trans ((congrFun (logSum_same a b1 b2) _).trans ?_)
  refine (sum_at _ _ _ ((thin_at _ h t).trans hx) hn (mul_pos (nz_pos t.isLt) (Real.exp_pos _))).trans ?_
  rw [lz_shift t.isLt]

end Cert.Kernel19Ideal.Fox
-- ==== Proof.Fox.Lines.lean ====
/-
  The first host lines, each stretch over any contents: the scores and the mask.
-/
module

public import proofs.«01_k».proof.Proof.Fox.Saved
public import proofs.«01_k».proof.Proof.Gen.Kernel19Ideal.Launch
public import Idealize.ShloMosaic.Lib.Claim
public import Idealize.ShloMosaic.Lib.KernelVsHost

@[expose] public section

noncomputable section

namespace Cert.Kernel19Ideal.Fox

open Cert.Kernel19Ideal Cert.Kernel19Ideal.Gen Cert.Fox
open Idealize.ShloMosaic Idealize.ShloMosaic.TcCoe Idealize.ShloMosaic.ValueIdx Idealize.SL.Sem Idealize.ShloMosaic.StableHlo
open Cert.Reference19Ideal.Read
open Cert.KernelIdeal.Tile (sc)

section
variable (f : Valuation τ sig (Elt Ideal))

theorem at_v23 : after hostOps0 f (Proc.devRef .tc main_v23) = scores (val_main_v2 (F := Ideal) (f (Proc.devRef .tc main_arg0))) (val_main_v3 (F := Ideal) (f (Proc.devRef .tc main_arg0)))
    (f (Proc.devRef .tc main_arg1)) (f (Proc.devRef .tc main_arg2)) := by
  after_results
  rfl
theorem at_v30 : after hostOps0 f (Proc.devRef .tc main_v30) = val_main_v33 (F := Ideal) := by
  after_results
  rfl
theorem at_cst : after hostOps0 f (Proc.devRef .tc main_cst_0) = lowest := by
  after_results
  rfl
theorem at_v2 : after hostOps0 f (Proc.devRef .tc main_v2) = val_main_v2 (F := Ideal) (f (Proc.devRef .tc main_arg0)) := by
  after_results
  rfl
theorem at_v3 : after hostOps0 f (Proc.devRef .tc main_v3) = val_main_v3 (F := Ideal) (f (Proc.devRef .tc main_arg0)) := by
  after_results
  rfl
theorem at_v4 : after hostOps0 f (Proc.devRef .tc main_v4) = val_main_v4 (F := Ideal) (f (Proc.devRef .tc main_arg0)) := by
  after_results
  rfl
theorem keep_arg1 : after hostOps0 f (Proc.devRef .tc main_arg1) = f (Proc.devRef .tc main_arg1) := by
  after_results
theorem keep_arg2 : after hostOps0 f (Proc.devRef .tc main_arg2) = f (Proc.devRef .tc main_arg2) := by
  after_results

theorem at_v31 : after hostOps0_1 f (Proc.devRef .tc main_v31) = masked (f (Proc.devRef .tc main_v30)) (f (Proc.devRef .tc main_v23)) (f (Proc.devRef .tc main_cst_0)) := by
  after_results
  simp only [TRef.ofBuf_toBuf]
  rfl
theorem keep_v2 : after hostOps0_1 f (Proc.devRef .tc main_v2) = f (Proc.devRef .tc main_v2) := by
  after_results
theorem keep_v3 : after hostOps0_1 f (Proc.devRef .tc main_v3) = f (Proc.devRef .tc main_v3) := by
  after_results
theorem keep_v4 : after hostOps0_1 f (Proc.devRef .tc main_v4) = f (Proc.devRef .tc main_v4) := by
  after_results
theorem keep_arg1' : after hostOps0_1 f (Proc.devRef .tc main_arg1) = f (Proc.devRef .tc main_arg1) := by
  after_results
theorem keep_arg2' : after hostOps0_1 f (Proc.devRef .tc main_arg2) = f (Proc.devRef .tc main_arg2) := by
  after_results
end

end Cert.Kernel19Ideal.Fox
-- ==== Proof.Fox.Lines2.lean ====
/-
  The next host lines, over any contents: the logarithms of the sums, and the scores again.
-/
module

public import proofs.«01_k».proof.Proof.Fox.Saved
public import proofs.«01_k».proof.Proof.Gen.Kernel19Ideal.Launch
public import Idealize.ShloMosaic.Lib.Claim
public import Idealize.ShloMosaic.Lib.KernelVsHost

@[expose] public section

noncomputable section

namespace Cert.Kernel19Ideal.Fox

open Cert.Kernel19Ideal Cert.Kernel19Ideal.Gen Cert.Fox
open Idealize.ShloMosaic Idealize.ShloMosaic.TcCoe Idealize.ShloMosaic.ValueIdx Idealize.SL.Sem Idealize.ShloMosaic.StableHlo
open Cert.Reference19Ideal.Read
open Cert.KernelIdeal.Tile (sc)

section
variable (f : Valuation τ sig (Elt Ideal))

theorem at_v40 : after hostOps0_2 f (Proc.devRef .tc main_v40) = logSum (f (Proc.devRef .tc main_v31)) := by
  after_results
  rfl
theorem at_v49 : after hostOps0_2 f (Proc.devRef .tc main_v49) = heads (f (Proc.devRef .tc main_v4)) := by
  after_results
  rfl
theorem at_v62 : after hostOps0_2 f (Proc.devRef .tc main_v62)
    = scores (f (Proc.devRef .tc main_v2)) (f (Proc.devRef .tc main_v3)) (f (Proc.devRef .tc main_arg1)) (f (Proc.devRef .tc main_arg2)) := by
  after_results
  rfl
theorem at_v69 : after hostOps0_2 f (Proc.devRef .tc main_v69) = val_main_v33 (F := Ideal) := by
  after_results
  rfl
theorem at_cst' : after hostOps0_2 f (Proc.devRef .tc main_cst_4) = lowest := by
  after_results
  rfl
end

end Cert.Kernel19Ideal.Fox
-- ==== Proof.Fox.Lines3.lean ====
/-
  The last host lines, over any contents: the softmax and its product with the values.
-/
module

public import proofs.«01_k».proof.Proof.Fox.Saved
public import proofs.«01_k».proof.Proof.Gen.Kernel19Ideal.Launch
public import Idealize.ShloMosaic.Lib.Claim
public import Idealize.ShloMosaic.Lib.KernelVsHost

@[expose] public section

noncomputable section

namespace Cert.Kernel19Ideal.Fox

open Cert.Kernel19Ideal Cert.Kernel19Ideal.Gen Cert.Fox
open Idealize.ShloMosaic Idealize.ShloMosaic.TcCoe Idealize.ShloMosaic.ValueIdx Idealize.SL.Sem Idealize.ShloMosaic.StableHlo
open Cert.Reference19Ideal.Read
open Cert.KernelIdeal.Tile (sc)

section
variable (f : Valuation τ sig (Elt Ideal))

theorem at_v70 : after hostOps0_3 f (Proc.devRef .tc main_v70) = masked (f (Proc.devRef .tc main_v69)) (f (Proc.devRef .tc main_v62)) (f (Proc.devRef .tc main_cst_4)) := by
  after_results
  simp only [TRef.ofBuf_toBuf]
  rfl
theorem keep_v40 : after hostOps0_3 f (Proc.devRef .tc main_v40) = f (Proc.devRef .tc main_v40) := by
  after_results
theorem keep_v49 : after hostOps0_3 f (Proc.devRef .tc main_v49) = f (Proc.devRef .tc main_v49) := by
  after_results

theorem at_v85 : after hostOps0_4 f (Proc.devRef .tc main_v85) = attend (f (Proc.devRef .tc main_v70)) (f (Proc.devRef .tc main_v49))
    (maximumf (broadcastInDim S1x8x2048 ![] bcast_S_S1x8x2048 lowest : Rows3) (top (f (Proc.devRef .tc main_v70))) : Rows3) := by
  after_results
  rfl
theorem at_v86 : after hostOps0_4 f (Proc.devRef .tc main_v86) = shapeCast S8x2048x1 (f (Proc.devRef .tc main_v40) : FVec Ideal S1x8x2048x1 .f32) shapeCasts_S1x8x2048x1_S8x2048x1 := by
  after_results
  rfl
end

end Cert.Kernel19Ideal.Fox
-- ==== Proof.Fox.Host.lean ====
/-
  The two arrays saved by the forward pass as the kernel receives them, made by host lines: the attention's output, which is the
  reference's own, and the logarithm of each row's normaliser.
-/
module

public import proofs.«01_k».proof.Proof.Fox.Logs
public import proofs.«01_k».proof.Proof.Fox.Lines
public import proofs.«01_k».proof.Proof.Fox.Lines2
public import proofs.«01_k».proof.Proof.Fox.Lines3
public import proofs.«01_k».proof.Proof.Gen.Kernel19Ideal.Value

@[expose] public section

noncomputable section

namespace Cert.Kernel19Ideal.Fox

open Cert.Kernel19Ideal Cert.Kernel19Ideal.Gen Cert.Fox
open Idealize.ShloMosaic Idealize.ShloMosaic.TcCoe Idealize.ShloMosaic.ValueIdx Idealize.SL.Sem Idealize.ShloMosaic.StableHlo
open Cert.Reference19Ideal.Read
open Cert.KernelIdeal.Tile (sc)

section
variable (f : Valuation τ sig (Elt Ideal))

/-- All the lines. -/
abbrev whole : Valuation τ sig (Elt Ideal) := after hostOps0_4 (after hostOps0_3 (after hostOps0_2 (after hostOps0_1 (after hostOps0 f))))

abbrev F0 : Arg := f (Proc.devRef .tc main_arg0)
abbrev F1 : ColGate := f (Proc.devRef .tc main_arg1)
abbrev F2 : RowGate := f (Proc.devRef .tc main_arg2)

theorem whole_v86 : whole f (Proc.devRef .tc main_v86) = shapeCast S8x2048x1 (logSum (val_main_v34_0 (F := Ideal) (F0 f) (F1 f) (F2 f))) shapeCasts_S1x8x2048x1_S8x2048x1 := by
  have e31 : after hostOps0_1 (after hostOps0 f) (Proc.devRef .tc main_v31) = val_main_v34_0 (F := Ideal) (F0 f) (F1 f) (F2 f) := by
    refine (at_v31 _).trans ?_
    rw [at_v30 f, at_v23 f, at_cst f, scores_same, masked_same]
  refine (at_v86 _).trans (congrArg (fun x : FVec Ideal S1x8x2048x1 .f32 => shapeCast S8x2048x1 x shapeCasts_S1x8x2048x1_S8x2048x1) ?_)
  exact (keep_v40 _).trans ((at_v40 _).trans (congrArg logSum e31))

theorem whole_v85 : whole f (Proc.devRef .tc main_v85) = val_main_v66 (F := Ideal) (F0 f) (F1 f) (F2 f) := by
  have e2 := (keep_v2 (after hostOps0 f)).trans (at_v2 f)
  have e3 := (keep_v3 (after hostOps0 f)).trans (at_v3 f)
  have e4 := (keep_v4 (after hostOps0 f)).trans (at_v4 f)
  have g1 := (keep_arg1' (after hostOps0 f)).trans (keep_arg1 f)
  have g2 := (keep_arg2' (after hostOps0 f)).trans (keep_arg2 f)
  unfold whole
  revert e2 e3 e4 g1 g2
  generalize after hostOps0_1 (after hostOps0 f) = u
  intro e2 e3 e4 g1 g2
  have e62 : after hostOps0_2 u (Proc.devRef .tc main_v62) = val_main_v26 (F := Ideal) (F0 f) (F1 f) (F2 f) := by
    refine (at_v62 u).trans ?_
    rw [e2, e3, g1, g2, scores_same]
  have e69 := at_v69 u
  have ec := at_cst' u
  have e49 : after hostOps0_2 u (Proc.devRef .tc main_v49) = heads (val_main_v4 (F := Ideal) (F0 f)) := (at_v49 u).trans (congrArg heads e4)
  revert e62 e69 ec e49
  generalize after hostOps0_2 u = w
  intro e62 e69 ec e49
  have e70 : after hostOps0_3 w (Proc.devRef .tc main_v70) = val_main_v34_0 (F := Ideal) (F0 f) (F1 f) (F2 f) := by
    refine (at_v70 w).trans ?_
    rw [e62, e69, ec, masked_same]
  have e49' := (keep_v49 w).trans e49
  revert e70 e49'
  generalize after hostOps0_3 w = x
  intro e70 e49'
  refine (at_v85 x).trans ?_
  rw [e70, e49', top_same, top_again, attend_same]
end

variable (m : (ℓ : Loc nD τ sig) → Buf (Elt Ideal) ℓ) (c : Dev nD)

variable (a : Arg) (ha : m ((c : Thread nD τ).loc main_arg0) = a) (b1 : ColGate) (hb1 : m ((c : Thread nD τ).loc main_arg1) = b1)
  (b2 : RowGate) (hb2 : m ((c : Thread nD τ).loc main_arg2) = b2)
include ha hb1 hb2

/-- The saved output at the region's entry is the reference's. -/
theorem V_out : V m c main_v85 = val_main_v66 (F := Ideal) a b1 b2 := by
  unfold V
  simp only [List.flatten_cons, List.flatten_nil, List.append_nil, StableHlo.after_append]
  refine (whole_v85 _).trans ?_
  subst ha hb1 hb2
  rfl

/-- The saved logarithms. -/
theorem V_log : V m c main_v86 = shapeCast S8x2048x1 (logSum (val_main_v34_0 (F := Ideal) a b1 b2)) shapeCasts_S1x8x2048x1_S8x2048x1 := by
  unfold V
  simp only [List.flatten_cons, List.flatten_nil, List.append_nil, StableHlo.after_append]
  refine (whole_v86 _).trans ?_
  subst ha hb1 hb2
  rfl

end Cert.Kernel19Ideal.Fox
-- ==== Proof.Fox.Tile.lean ====
/-
  One key tile of the kernel's body, read at an index: what each named value of the region computes, over the reals, from
  blocks whose elements are the reals of one head (`Fox`), query tile `I` and key tile `J`. The tiles below the diagonal (the
  counted loop's region) and the diagonal tile differ in the weights only: what follows the weights is stated once.
-/
module

public import proofs.«01_k».proof.Proof.Gen.Kernel19Ideal.Skeleton
public import proofs.«01_k».proof.Proof.Fox.Spec
public import proofs.«01_k».proof.Proof.Sb.Tile

@[expose] public section

noncomputable section

namespace Cert.Kernel19Ideal.Tile

open Cert.Kernel19Ideal Cert.Kernel19Ideal.Gen Cert.Fox
open Cert.Stick (coe_sum coe_sum_mul sum_tile)
open Cert.KernelIdeal.Tile (sc ofBits_sc ite_ofBool bcol_eq matmul_lhsT matmul_zero_plain)
open Idealize.ShloMosaic Idealize.ShloMosaic.ValueIdx Idealize.SL.Sem

variable {q k v o : ℕ → ℕ → ℝ} {a b l δ : ℕ → ℝ} {I J : ℕ}

/-- The blocks' elements: the query tile's rows … -/
structure Rows (q o : ℕ → ℕ → ℝ) (a l δ : ℕ → ℝ) (I : ℕ) (v6 v7 : Vec Ideal S512x128 .bf16) (v9 v11 v17 : FVec Ideal S512x1 .f32) : Prop where
  q : ∀ (r : Fin 512) (d : Fin 128), v6 (ix2 r d) = ((q (512 * I + r.val) d.val : ℝ) : EReal)
  o : ∀ (r : Fin 512) (d : Fin 128), v7 (ix2 r d) = ((o (512 * I + r.val) d.val : ℝ) : EReal)
  a : ∀ r : Fin 512, v9 (ix2 r 0) = ((a (512 * I + r.val) : ℝ) : EReal)
  l : ∀ r : Fin 512, v11 (ix2 r 0) = ((l (512 * I + r.val) : ℝ) : EReal)
  δ : ∀ r : Fin 512, v17 (ix2 r 0) = ((δ (512 * I + r.val) : ℝ) : EReal)

/-- … and the key tile's. -/
structure Cols (k v : ℕ → ℕ → ℝ) (b : ℕ → ℝ) (J : ℕ) (v107 v109 : Vec Ideal S512x128 .bf16) (v111 : Vec Ideal S1x1x512 .f32) : Prop where
  k : ∀ (r : Fin 512) (d : Fin 128), v107 (ix2 r d) = ((k (512 * J + r.val) d.val : ℝ) : EReal)
  v : ∀ (r : Fin 512) (d : Fin 128), v109 (ix2 r d) = ((v (512 * J + r.val) d.val : ℝ) : EReal)
  b : ∀ r : Fin 512, v111 (ix3 0 0 r) = ((b (512 * J + r.val) : ℝ) : EReal)

/-! ## Reads of re-laid arrays -/

theorem brow_eq (x : FVec Ideal S1x512 .f32) (r c : Fin 512) :
    broadcastTo S512x512 x broadcasts_S1x512_S512x512 (ix2 r c) = x (ix2 0 c) := by
  refine broadcastTo_apply _ _ _ _ fun a => ?_
  match a with
  | ⟨0, _⟩ => rfl
  | ⟨1, _⟩ => rfl

theorem row_eq (x : Vec Ideal S1x1x512 .f32) (c : Fin 512) : shapeCast S1x512 x shapeCasts_S1x1x512_S1x512 (ix2 0 c) = x (ix3 0 0 c) := by
  refine shapeCast_apply _ _ _ _ ?_
  rw [Shape.rowMajor_val_three, Shape.rowMajor_val_two]
  rfl

theorem col_eq (x : Vec Ideal S1x512x1 .f32) (r : Fin 512) : shapeCast S512x1 x shapeCasts_S1x512x1_S512x1 (ix2 r 0) = x (ix3 0 r 0) := by
  refine shapeCast_apply _ _ _ _ ?_
  rw [Shape.rowMajor_val_three, Shape.rowMajor_val_two]
  show (0 * 512 + r.val) * 1 + 0 = r.val * 1 + 0
  omega

theorem lines_eq (x : FVec Ideal S512 .f32) (r : Fin 512) : shapeCast S512x1 x shapeCasts_S512_S512x1 (ix2 r 0) = x (ix1 r) := by
  refine shapeCast_apply _ _ _ _ ?_
  rw [Shape.rowMajor_val_one, Shape.rowMajor_val_two]
  show r.val = r.val * 1 + 0
  omega

theorem line_eq (x : FVec Ideal S512 .f32) (c : Fin 512) : shapeCast S1x512 x shapeCasts_S512_S1x512 (ix2 0 c) = x (ix1 c) := by
  refine shapeCast_apply _ _ _ _ ?_
  rw [Shape.rowMajor_val_one, Shape.rowMajor_val_two]
  show c.val = 0 * 512 + c.val
  omega

theorem add_rows (x : FVec Ideal S512x512 .f32) (f : Fin 512 → Fin 512 → ℝ) (hx : ∀ r c, x (ix2 r c) = (f r c : EReal)) (r : Fin 512) :
    multiReduction .add [1] S512 x 0x00000000#32 reduces_S512x512_S512_2 (.inl rfl) rfl (ix1 r) = ((∑ c, f r c : ℝ) : EReal) := by
  refine (Ideal.multiReduction_add_single (a := (1 : Fin S512x512.rank)) x 0x00000000#32 reduces_S512x512_S512_2 (.inl rfl) rfl (ix1 r)).trans ?_
  rw [← coe_sum]
  refine Finset.sum_congr rfl fun c _ => Eq.trans (congrArg x (funext fun a => ?_)) (hx r c)
  match a with
  | ⟨0, _⟩ => rfl
  | ⟨1, _⟩ => rfl

theorem add_cols (x : FVec Ideal S512x512 .f32) (f : Fin 512 → Fin 512 → ℝ) (hx : ∀ r c, x (ix2 r c) = (f r c : EReal)) (c : Fin 512) :
    multiReduction .add [0] S512 x 0x00000000#32 reduces_S512x512_S512 (.inl rfl) rfl (ix1 c) = ((∑ r, f r c : ℝ) : EReal) := by
  refine (Ideal.multiReduction_add_single (a := (0 : Fin S512x512.rank)) x 0x00000000#32 reduces_S512x512_S512 (.inl rfl) rfl (ix1 c)).trans ?_
  rw [← coe_sum]
  refine Finset.sum_congr rfl fun r _ => Eq.trans (congrArg x (funext fun a => ?_)) (hx r c)
  match a with
  | ⟨0, _⟩ => rfl
  | ⟨1, _⟩ => rfl

/-- Row by row inner products of two blocks. -/
theorem pay31_eq (v7 : Vec Ideal S512x128 .bf16) (v13 : Vec Ideal S512x128 .f32) (f g : Fin 512 → Fin 128 → ℝ)
    (h7 : ∀ r d, v7 (ix2 r d) = (f r d : EReal)) (h13 : ∀ r d, v13 (ix2 r d) = (g r d : EReal)) (r : Fin 512) :
    k0_pay31 v7 v13 (ix2 r 0) = ((∑ d, f r d * g r d : ℝ) : EReal) := by
  unfold k0_pay31
  rw [lines_eq]
  refine (Ideal.multiReduction_add_single (a := (1 : Fin S512x128.rank)) _ 0x00000000#32 reduces_S512x128_S512 (.inl rfl) rfl (ix1 r)).trans ?_
  rw [← coe_sum]
  refine Finset.sum_congr rfl fun d _ => ?_
  have h : reduces_S512x128_S512.lift (ix1 r) d = ix2 r d := funext fun a => match a with
    | ⟨0, _⟩ => rfl
    | ⟨1, _⟩ => rfl
  rw [h, shapeCast_self]
  exact (congrArg₂ (fun x y : EReal => x * y) (h7 r d) (h13 r d)).trans (EReal.coe_mul _ _).symm

/-! ## The weights -/

section Weights
variable {v6 v7 : Vec Ideal S512x128 .bf16} {v9 v11 v17 : FVec Ideal S512x1 .f32} (R : Rows q o a l δ I v6 v7 v9 v11 v17)
  {v107 v109 : Vec Ideal S512x128 .bf16} {v111 : Vec Ideal S1x1x512 .f32} (C : Cols k v b J v107 v109 v111)

include R C

/-- The score before the logarithm of the normaliser is taken off. -/
theorem score_eq (r c : Fin 512) :
    FloatOps.matmul (φ₁ := .bf16) (φ₂ := .bf16) (DotDims.transposedRhs 512 128 512) none v6 v107 (constant (F := Ideal) S512x512 .f32 0x00000000#32) (ix2 r c) * Ideal.ofBits .f32 0x3DB504F3#32
      + broadcastTo S512x512 v9 broadcasts_S512x1_S512x512 (ix2 r c)
      - broadcastTo S512x512 (shapeCast S1x512 v111 shapeCasts_S1x1x512_S1x512) broadcasts_S1x512_S512x512 (ix2 r c)
      = ((z sc q k a b (512 * I + r.val) (512 * J + c.val) : ℝ) : EReal) := by
  rw [Ideal.matmul_transposedRhs_apply, ofBits_sc, brow_eq, row_eq, C.b]
  have h9 : broadcastTo S512x512 v9 broadcasts_S512x1_S512x512 (ix2 r c) = v9 (ix2 r 0) := bcol_eq v9 r c
  rw [h9, R.a]
  show (Ideal.ofBits .f32 0x00000000#32 + _) * _ + _ - _ = _
  rw [Ideal.ofBits_zero_f32, zero_add, coe_sum_mul _ _ _ _ (fun x => R.q r x) (fun x => C.k c x), ← EReal.coe_mul, ← EReal.coe_add, ← EReal.coe_sub,
    Fin.sum_univ_eq_sum_range (fun x => q (512 * I + r.val) x * k (512 * J + c.val) x) 128]
  rfl

theorem pay9_eq (hJ : J < I) (r c : Fin 512) :
    k0_pay9 v6 v9 v11 v107 v111 (ix2 r c) = ((p sc q k a b l (512 * I + r.val) (512 * J + c.val) : ℝ) : EReal) := by
  have h : k0_pay9 v6 v9 v11 v107 v111 (ix2 r c) = Ideal.exp (FloatOps.matmul (φ₁ := .bf16) (φ₂ := .bf16) (DotDims.transposedRhs 512 128 512) none v6 v107 (constant (F := Ideal) S512x512 .f32 0x00000000#32) (ix2 r c) * Ideal.ofBits .f32 0x3DB504F3#32
      + broadcastTo S512x512 v9 broadcasts_S512x1_S512x512 (ix2 r c)
      - broadcastTo S512x512 (shapeCast S1x512 v111 shapeCasts_S1x1x512_S1x512) broadcasts_S1x512_S512x512 (ix2 r c)
      - broadcastTo S512x512 v11 broadcasts_S512x1_S512x512 (ix2 r c)) := rfl
  have h11 : broadcastTo S512x512 v11 broadcasts_S512x1_S512x512 (ix2 r c) = v11 (ix2 r 0) := bcol_eq v11 r c
  rw [h, score_eq R C, h11, R.l, ← EReal.coe_sub, Ideal.exp_coe, p, if_pos (by have := c.isLt; omega)]

theorem mask_eq (r c : Fin 512) : IntOp.cmpi .slt (k0_pay28 (ix2 r c)) 1#32 = BitVec.ofBool (decide (c.val ≤ r.val)) := by
  have hr := r.isLt
  have hc := c.isLt
  have h : k0_pay28 (ix2 r c) = (iota .tc S512x512 32 [1] iota_S512x512_d1_w32 (ix2 r c)) - (iota .tc S512x512 32 [0] iota_S512x512_d0_w32 (ix2 r c)) := rfl
  rw [h, iota_single_apply, iota_single_apply, WordCmp.cmpi_slt_eq]
  show BitVec.ofBool (decide ((BitVec.ofNat 32 c.val - BitVec.ofNat 32 r.val).toInt < (1#32).toInt)) = _
  congr 2
  rw [BitVec.toInt_eq_toNat_cond, BitVec.toNat_sub]
  have h1 : (1#32).toInt = 1 := by decide
  simp only [BitVec.toNat_ofNat, h1, eq_iff_iff]
  rw [Nat.mod_eq_of_lt (by omega : c.val < 2 ^ 32), Nat.mod_eq_of_lt (by omega : r.val < 2 ^ 32)]
  split <;> omega

theorem pay40_eq (hJ : J = I) (r c : Fin 512) :
    k0_pay40 k0_pay28 v6 v9 v11 v107 v111 (ix2 r c) = ((p sc q k a b l (512 * I + r.val) (512 * J + c.val) : ℝ) : EReal) := by
  have h : k0_pay40 k0_pay28 v6 v9 v11 v107 v111 (ix2 r c) = Scalar.select (IntOp.cmpi .slt (k0_pay28 (ix2 r c)) 1#32)
      (Ideal.exp (Scalar.select (IntOp.cmpi .slt (k0_pay28 (ix2 r c)) 1#32)
        (FloatOps.matmul (φ₁ := .bf16) (φ₂ := .bf16) (DotDims.transposedRhs 512 128 512) none v6 v107 (constant (F := Ideal) S512x512 .f32 0x00000000#32) (ix2 r c) * Ideal.ofBits .f32 0x3DB504F3#32
          + broadcastTo S512x512 v9 broadcasts_S512x1_S512x512 (ix2 r c)
          - broadcastTo S512x512 (shapeCast S1x512 v111 shapeCasts_S1x1x512_S1x512) broadcasts_S1x512_S512x512 (ix2 r c)) (Ideal.ofBits .f32 0xF149F2CA#32)
        - broadcastTo S512x512 v11 broadcasts_S512x1_S512x512 (ix2 r c))) (Ideal.ofBits .f32 0x00000000#32) := rfl
  have h11 : broadcastTo S512x512 v11 broadcasts_S512x1_S512x512 (ix2 r c) = v11 (ix2 r 0) := bcol_eq v11 r c
  rw [h, mask_eq R C, score_eq R C, h11, R.l, ite_ofBool, ite_ofBool, p]
  by_cases hrc : c.val ≤ r.val
  · rw [if_pos hrc, if_pos hrc, if_pos (by omega), ← EReal.coe_sub, Ideal.exp_coe]
  · rw [if_neg hrc, if_neg (by omega), Ideal.ofBits_zero_f32, EReal.coe_zero]

/-! ## From the weights to the gradients -/

variable (P : FVec Ideal S512x512 .f32) (hP : ∀ r c, P (ix2 r c) = ((p sc q k a b l (512 * I + r.val) (512 * J + c.val) : ℝ) : EReal))

/-- The scores' cotangents. -/
abbrev dsOf (P : FVec Ideal S512x512 .f32) (v7 v109 : Vec Ideal S512x128 .bf16) (v17 : FVec Ideal S512x1 .f32) : FVec Ideal S512x512 .f32 :=
  mulf P (subf (matmul (φ₁ := .bf16) (φ₂ := .bf16) dot_S512x128_S512x128_S512x512_1_1_0_0_n_n none v7 v109 (constant S512x512 .f32 0x00000000#32)) (broadcastTo S512x512 v17 broadcasts_S512x1_S512x512))

/-- And scaled, as the products read them. -/
abbrev scaled (D : FVec Ideal S512x512 .f32) : FVec Ideal S512x512 .bf16 :=
  truncf .bf16 (mulf D (broadcast S512x512 (Scalar.ofBits (F := Ideal) .f32 0x3DB504F3#32))) bitsLt_bf16_f32

include hP in
theorem dsOf_eq (r c : Fin 512) : dsOf P v7 v109 v17 (ix2 r c) = ((ds sc q k v o a b l δ (512 * I + r.val) (512 * J + c.val) : ℝ) : EReal) := by
  have h : dsOf P v7 v109 v17 (ix2 r c) = P (ix2 r c) * (FloatOps.matmul (φ₁ := .bf16) (φ₂ := .bf16) (DotDims.transposedRhs 512 128 512) none v7 v109 (constant (F := Ideal) S512x512 .f32 0x00000000#32) (ix2 r c)
      - broadcastTo S512x512 v17 broadcasts_S512x1_S512x512 (ix2 r c)) := rfl
  have h17 : broadcastTo S512x512 v17 broadcasts_S512x1_S512x512 (ix2 r c) = v17 (ix2 r 0) := bcol_eq v17 r c
  rw [h, h17, R.δ, hP, Ideal.matmul_transposedRhs_apply]
  show _ * ((Ideal.ofBits .f32 0x00000000#32 + _) - _) = _
  rw [Ideal.ofBits_zero_f32, zero_add, coe_sum_mul _ _ _ _ (fun x => R.o r x) (fun x => C.v c x), ← EReal.coe_sub, ← EReal.coe_mul,
    Fin.sum_univ_eq_sum_range (fun x => o (512 * I + r.val) x * v (512 * J + c.val) x) 128]
  rfl

omit R C in
theorem scaled_eq (D : FVec Ideal S512x512 .f32) (f : Fin 512 → Fin 512 → ℝ) (hD : ∀ r c, D (ix2 r c) = (f r c : EReal)) (r c : Fin 512) :
    scaled D (ix2 r c) = ((f r c * sc : ℝ) : EReal) := by
  show D (ix2 r c) * Ideal.ofBits .f32 0x3DB504F3#32 = _
  rw [hD, ofBits_sc, EReal.coe_mul]

include hP

/-- The query gradient with this tile's keys. -/
theorem dq_step (acc : FVec Ideal S512x128 .f32) (r : Fin 512) (d : Fin 128)
    (hacc : acc (ix2 r d) = ((dq sc q k v o a b l δ (512 * J) (512 * I + r.val) d.val : ℝ) : EReal)) :
    addf acc (matmul (φ₁ := .bf16) (φ₂ := .bf16) dot_S512x512_S512x128_S512x128_1_0_0_1_n_n none (scaled (dsOf P v7 v109 v17)) v107 (constant S512x128 .f32 0x00000000#32)) (ix2 r d)
      = ((dq sc q k v o a b l δ (512 * (J + 1)) (512 * I + r.val) d.val : ℝ) : EReal) := by
  have h : addf acc (matmul (φ₁ := .bf16) (φ₂ := .bf16) dot_S512x512_S512x128_S512x128_1_0_0_1_n_n none (scaled (dsOf P v7 v109 v17)) v107 (constant S512x128 .f32 0x00000000#32)) (ix2 r d)
      = acc (ix2 r d) + FloatOps.matmul (φ₁ := .bf16) (φ₂ := .bf16) (DotDims.plain 512 512 128) none (scaled (dsOf P v7 v109 v17)) v107 (constant (F := Ideal) ⟨2, ![512, 128]⟩ .f32 0x00000000#32) (ix2 r d) := rfl
  rw [h, hacc, matmul_zero_plain _ _ _ _ (scaled_eq _ _ (dsOf_eq R C P hP)) C.k, ← EReal.coe_add]
  unfold dq
  rw [sum_tile]

/-- This tile's query rows' part of the key gradient. -/
theorem dk_part (c : Fin 512) (d : Fin 128) :
    addf (broadcast S512x128 (Scalar.ofBits (F := Ideal) .f32 0x00000000#32)) (matmul (φ₁ := .bf16) (φ₂ := .bf16) dot_S512x512_S512x128_S512x128_0_0_1_1_n_n none (scaled (dsOf P v7 v109 v17)) v6 (constant S512x128 .f32 0x00000000#32)) (ix2 c d)
      = ((∑ r : Fin 512, ds sc q k v o a b l δ (512 * I + r.val) (512 * J + c.val) * sc * q (512 * I + r.val) d.val : ℝ) : EReal) := by
  have h := matmul_lhsT (scaled (dsOf P v7 v109 v17)) v6 (constant S512x128 .f32 0x00000000#32) c d
  refine (congrArg (Ideal.ofBits .f32 0x00000000#32 + ·) h).trans ?_
  show Ideal.ofBits .f32 0x00000000#32 + (Ideal.ofBits .f32 0x00000000#32 + _) = _
  rw [Ideal.ofBits_zero_f32, zero_add, zero_add, coe_sum_mul _ _ _ _ (fun x => scaled_eq _ _ (dsOf_eq R C P hP) x c) (fun x => R.q x d)]

/-- And of the value gradient. -/
theorem dv_part (c : Fin 512) (d : Fin 128) :
    addf (broadcast S512x128 (Scalar.ofBits (F := Ideal) .f32 0x00000000#32)) (matmul (φ₁ := .bf16) (φ₂ := .bf16) dot_S512x512_S512x128_S512x128_0_0_1_1_n_n none (truncf .bf16 P bitsLt_bf16_f32) v7 (constant S512x128 .f32 0x00000000#32)) (ix2 c d)
      = ((∑ r : Fin 512, p sc q k a b l (512 * I + r.val) (512 * J + c.val) * o (512 * I + r.val) d.val : ℝ) : EReal) := by
  have h := matmul_lhsT (truncf .bf16 P bitsLt_bf16_f32) v7 (constant S512x128 .f32 0x00000000#32) c d
  refine (congrArg (Ideal.ofBits .f32 0x00000000#32 + ·) h).trans ?_
  show Ideal.ofBits .f32 0x00000000#32 + (Ideal.ofBits .f32 0x00000000#32 + _) = _
  rw [Ideal.ofBits_zero_f32, zero_add, zero_add]
  exact coe_sum_mul _ _ _ _ (fun x => hP x c) (fun x => R.o x d)

/-- The column sums of the scores' cotangents … -/
theorem db_part (c : Fin 512) :
    addf (broadcast S1x512 (Scalar.ofBits (F := Ideal) .f32 0x00000000#32)) (shapeCast S1x512 (multiReduction .add [0] S512 (dsOf P v7 v109 v17) 0x00000000#32 reduces_S512x512_S512 (.inl rfl) rfl) shapeCasts_S512_S1x512) (ix2 0 c)
      = ((∑ r : Fin 512, ds sc q k v o a b l δ (512 * I + r.val) (512 * J + c.val) : ℝ) : EReal) := by
  refine (congrArg (Ideal.ofBits .f32 0x00000000#32 + ·) ((line_eq _ c).trans (add_cols _ _ (dsOf_eq R C P hP) c))).trans ?_
  rw [Ideal.ofBits_zero_f32, zero_add]

/-- … and the row sums with this tile's keys. -/
theorem da_step (acc : FVec Ideal S512x1 .f32) (r : Fin 512) (hacc : acc (ix2 r 0) = ((da sc q k v o a b l δ (512 * J) (512 * I + r.val) : ℝ) : EReal)) :
    addf acc (shapeCast S512x1 (multiReduction .add [1] S512 (dsOf P v7 v109 v17) 0x00000000#32 reduces_S512x512_S512_2 (.inl rfl) rfl) shapeCasts_S512_S512x1) (ix2 r 0)
      = ((da sc q k v o a b l δ (512 * (J + 1)) (512 * I + r.val) : ℝ) : EReal) := by
  refine (congrArg₂ (fun x y : EReal => x + y) hacc ((lines_eq _ r).trans (add_rows _ _ (dsOf_eq R C P hP) r))).trans ?_
  rw [← EReal.coe_add]
  unfold da
  rw [sum_tile]

end Weights

end Cert.Kernel19Ideal.Tile

end
-- ==== Proof.Fox.Loop.lean ====
/-
  The counted loop over the key tiles below the diagonal, and the places it reads and writes: before trip `n` the carried
  pair is the query gradient and its row sums over the keys before `512 n`, and the three accumulators hold, at the keys before
  `512 n`, the gradients of the query rows up to this tile's last, at the other keys those up to the tile's first.
-/
module

public import proofs.«01_k».proof.Proof.Gen.Kernel19Ideal.Loops
public import proofs.«01_k».proof.Proof.Fox.Tile
public import Idealize.ShloMosaic.Lib.WritesUnit
public import Idealize.ShloMosaic.Lib.Pipeline.ValueKit.Tiles

@[expose] public section

noncomputable section

namespace Cert.Kernel19Ideal.Tile

open Cert.Kernel19Ideal Cert.Kernel19Ideal.Gen Cert.Fox
open Cert.KernelIdeal.Tile (sc)
open Cert.Stick (sum_tile)
open Idealize.ShloMosaic Idealize.ShloMosaic.ValueIdx Idealize.SL.Sem

/-! ## Words -/

theorem t1_trips (i : grid0.Coords) : (k0_t1_loop i).trips = (i 1).val := by
  have h : ∀ j : Fin 4, Scf.trips (0#32) (Scalar.addi (0#32) (Scalar.muli (Scalar.divsi (Scalar.subi (BitVec.ofNat 32 j.val) 0#32) 1#32) 1#32)) 1#32 = j.val := by
    decide
  exact h (i 1)

theorem t2_trips (i : grid0.Coords) : (k0_t2_loop i).trips = 0 := by
  have h : ∀ j : Fin 4, Scf.trips (Scalar.addi (0#32) (Scalar.muli (Scalar.divsi (Scalar.subi (BitVec.ofNat 32 j.val) 0#32) 1#32) 1#32)) (Scalar.addi (0#32) (Scalar.subi (BitVec.ofNat 32 j.val) 0#32)) 1#32 = 0 := by
    decide
  exact h (i 1)

theorem lt_four (i : grid0.Coords) (n : Fin (k0_t1_loop i).trips) : n.val < 4 := by
  have h := n.isLt.trans_eq (t1_trips i)
  have : (i 1).val < 4 := (i 1).isLt
  omega

theorem row_word : ∀ j : Fin 4, (Scalar.indexCast (Scalar.muli (Scf.iv 0#32 1#32 j.val) 512#32)).toNat = 512 * j.val := by decide

theorem off1_eq (i : grid0.Coords) (n : Fin (k0_t1_loop i).trips) : k0_off1 i n = ![512 * n.val, 0] :=
  congrArg (fun x : ℕ => (![x, 0] : Fin 2 → ℕ)) (row_word ⟨n.val, lt_four i n⟩)
theorem off2_eq (i : grid0.Coords) (n : Fin (k0_t1_loop i).trips) : k0_off2 i n = ![0, 0, 512 * n.val] :=
  congrArg (fun x : ℕ => (![0, 0, x] : Fin 3 → ℕ)) (row_word ⟨n.val, lt_four i n⟩)
theorem off3_eq (i : grid0.Coords) (n : Fin (k0_t1_loop i).trips) : k0_off3 i n = ![0, 512 * n.val] :=
  congrArg (fun x : ℕ => (![0, x] : Fin 2 → ℕ)) (row_word ⟨n.val, lt_four i n⟩)

/-! ## Reads and stores of a tile of a whole buffer -/

theorem block_read {e : EltTy} (M : Memref sig .tc .vmem S2048x128 e) (off : Fin 2 → ℕ) (inb : ∀ a, off a + S512x128.size a ≤ S2048x128.size a)
    (n : ℕ) (hn : n < 4) (hoff : off = ![512 * n, 0]) (X : BufTy.Contents (Elt Ideal) M.view.ty) (r : Fin 512) (d : Fin 128) :
    View.readAt (Elt Ideal) M.view (Rect.unit (s := S2048x128) off S512x128.size inb).toLoadRect X (ix2 r d)
      = M.view.read (Elt Ideal) X (ix2 ⟨512 * n + r.val, by omega⟩ d) := by
  subst hoff
  refine View.ld_unit_apply_of (M.view.read (Elt Ideal) X) _ _ inb (ix2 r d) _ fun a => ?_
  match a with
  | ⟨0, _⟩ => rfl
  | ⟨1, _⟩ => exact (Nat.zero_add _).symm

theorem line_read (M : Memref sig .tc .vmem S1x2048 .f32) (off : Fin 2 → ℕ) (inb : ∀ a, off a + S1x512.size a ≤ S1x2048.size a)
    (n : ℕ) (hn : n < 4) (hoff : off = ![0, 512 * n]) (X : BufTy.Contents (Elt Ideal) M.view.ty) (r : Fin 512) :
    View.readAt (Elt Ideal) M.view (Rect.unit (s := S1x2048) off S1x512.size inb).toLoadRect X (ix2 0 r)
      = M.view.read (Elt Ideal) X (ix2 0 ⟨512 * n + r.val, by omega⟩) := by
  subst hoff
  refine View.ld_unit_apply_of (M.view.read (Elt Ideal) X) _ _ inb (ix2 0 r) _ fun a => ?_
  match a with
  | ⟨0, _⟩ => rfl
  | ⟨1, _⟩ => rfl

theorem gate_read (M : Memref sig .tc .vmem S1x1x2048 .f32) (off : Fin 3 → ℕ) (inb : ∀ a, off a + S1x1x512.size a ≤ S1x1x2048.size a)
    (n : ℕ) (hn : n < 4) (hoff : off = ![0, 0, 512 * n]) (X : BufTy.Contents (Elt Ideal) M.view.ty) (r : Fin 512) :
    View.readAt (Elt Ideal) M.view (Rect.unit (s := S1x1x2048) off S1x1x512.size inb).toLoadRect X (ix3 0 0 r)
      = M.view.read (Elt Ideal) X (ix3 0 0 ⟨512 * n + r.val, by omega⟩) := by
  subst hoff
  refine View.ld_unit_apply_of (M.view.read (Elt Ideal) X) _ _ inb (ix3 0 0 r) _ fun a => ?_
  match a with
  | ⟨0, _⟩ => rfl
  | ⟨1, _⟩ => rfl
  | ⟨2, _⟩ => rfl

/-- What is added to a tile of an accumulator, read back: the sum inside the tile, what was there outside. -/
theorem acc_put (M : Memref sig .tc .vmem S2048x128 .f32) (off : Fin 2 → ℕ) (inb : ∀ a, off a + S512x128.size a ≤ S2048x128.size a)
    (n : ℕ) (hn : n < 4) (hoff : off = ![512 * n, 0]) (G : BufTy.Contents (Elt Ideal) M.view.ty) (L : List (View.Piece (Elt Ideal) S2048x128 .f32))
    (Q P : FVec Ideal S512x128 .f32)
    (hQ : Q = shapeCast S512x128 (addf (View.readAt (Elt Ideal) M.view (Rect.unit (s := S2048x128) off S512x128.size inb).toLoadRect (M.view.writes (Elt Ideal) G L)) P) shapeCasts_S512x128_S512x128)
    (f g : ℕ → ℕ → ℝ) (hf : ∀ (s : Fin 2048) (d : Fin 128), M.view.read (Elt Ideal) (M.view.writes (Elt Ideal) G L) (ix2 s d) = ((f s.val d.val : ℝ) : EReal))
    (hP : ∀ (c : Fin 512) (d : Fin 128), P (ix2 c d) = ((g (512 * n + c.val) d.val : ℝ) : EReal)) (s : Fin 2048) (d : Fin 128) :
    M.view.read (Elt Ideal) (M.view.writes (Elt Ideal) G ((⟨Rect.unit (s := S2048x128) off S512x128.size inb, Q⟩ : View.Piece (Elt Ideal) S2048x128 .f32) :: L)) (ix2 s d)
      = (((if 512 * n ≤ s.val ∧ s.val < 512 * n + 512 then f s.val d.val + g s.val d.val else f s.val d.val) : ℝ) : EReal) := by
  by_cases hs : 512 * n ≤ s.val ∧ s.val < 512 * n + 512
  · have hc : s.val = 512 * n + (s.val - 512 * n) := by omega
    rw [if_pos hs]
    refine (View.read_writes_cons_rows_of_mem (d := ![2048, 128]) M.view G inb Q L (ix2 s d) (ix2 ⟨s.val - 512 * n, by omega⟩ d) hoff hc rfl).trans ?_
    rw [hQ, shapeCast_self]
    refine (congrArg₂ (fun x y : EReal => x + y) ((block_read M off inb n hn hoff _ _ _).trans (hf _ _)) (hP _ _)).trans ?_
    rw [← EReal.coe_add]
    show ((f (512 * n + (s.val - 512 * n)) d.val + g (512 * n + (s.val - 512 * n)) d.val : ℝ) : EReal) = _
    rw [← hc]
  · rw [if_neg hs, ← hf]
    exact View.read_writes_cons_rows_of_not_mem (d := ![2048, 128]) M.view G inb Q L (ix2 s d) hoff rfl (by show s.val < 512 * n ∨ 512 * n + 512 ≤ s.val; omega)

/-- What is taken off a tile of the row accumulator, read back. -/
theorem line_put (M : Memref sig .tc .vmem S1x2048 .f32) (off : Fin 2 → ℕ) (inb : ∀ a, off a + S1x512.size a ≤ S1x2048.size a)
    (n : ℕ) (hn : n < 4) (hoff : off = ![0, 512 * n]) (G : BufTy.Contents (Elt Ideal) M.view.ty) (L : List (View.Piece (Elt Ideal) S1x2048 .f32))
    (Q P : FVec Ideal S1x512 .f32)
    (hQ : Q = shapeCast S1x512 (subf (View.readAt (Elt Ideal) M.view (Rect.unit (s := S1x2048) off S1x512.size inb).toLoadRect (M.view.writes (Elt Ideal) G L)) P) shapeCasts_S1x512_S1x512)
    (f g : ℕ → ℝ) (hf : ∀ s : Fin 2048, M.view.read (Elt Ideal) (M.view.writes (Elt Ideal) G L) (ix2 0 s) = ((f s.val : ℝ) : EReal))
    (hP : ∀ c : Fin 512, P (ix2 0 c) = ((g (512 * n + c.val) : ℝ) : EReal)) (s : Fin 2048) :
    M.view.read (Elt Ideal) (M.view.writes (Elt Ideal) G ((⟨Rect.unit (s := S1x2048) off S1x512.size inb, Q⟩ : View.Piece (Elt Ideal) S1x2048 .f32) :: L)) (ix2 0 s)
      = (((if 512 * n ≤ s.val ∧ s.val < 512 * n + 512 then f s.val + -g s.val else f s.val) : ℝ) : EReal) := by
  by_cases hs : 512 * n ≤ s.val ∧ s.val < 512 * n + 512
  · have hc : s.val = 512 * n + (s.val - 512 * n) := by omega
    rw [if_pos hs]
    refine (View.read_writes_cons_unit_of_mem M.view G inb Q L (ix2 0 s) (ix2 0 ⟨s.val - 512 * n, by omega⟩) hoff (Fin.forall_fin_two.mpr ⟨rfl, hc⟩)).trans ?_
    rw [hQ, shapeCast_self]
    refine (congrArg₂ (fun x y : EReal => x - y) ((line_read M off inb n hn hoff _ _).trans (hf _)) (hP _)).trans ?_
    rw [← EReal.coe_sub, sub_eq_add_neg]
    show ((f (512 * n + (s.val - 512 * n)) + -g (512 * n + (s.val - 512 * n)) : ℝ) : EReal) = _
    rw [← hc]
  · rw [if_neg hs, ← hf]
    exact View.read_writes_cons_unit_of_not_mem M.view G inb Q L (ix2 0 s) hoff 1 (by show s.val < 512 * n ∨ 512 * n + 512 ≤ s.val; omega)

/-- The tile after `512 n` joins those whose gradients are up to date. -/
theorem joins {f₀ f₁ g : ℝ} (h : f₁ = f₀ + g) (n s : ℕ) :
    (if 512 * n ≤ s ∧ s < 512 * n + 512 then (if s < 512 * n then f₁ else f₀) + g else if s < 512 * n then f₁ else f₀) = if s < 512 * (n + 1) then f₁ else f₀ := by
  split_ifs <;> first | rfl | omega | exact h.symm

/-- And with the diagonal's tile all are: nothing comes to the later ones. -/
theorem joins_last {f₀ f₁ g : ℝ} (h : f₁ = f₀ + g) (n s : ℕ) (hg : 512 * (n + 1) ≤ s → g = 0) :
    (if 512 * n ≤ s ∧ s < 512 * n + 512 then (if s < 512 * n then f₁ else f₀) + g else if s < 512 * n then f₁ else f₀) = f₁ := by
  split_ifs <;> first | rfl | omega | exact h.symm | (rw [h, hg (by omega), add_zero])

/-! ## The loop -/

section Loop
variable {q k v o : ℕ → ℕ → ℝ} {a b l δ : ℕ → ℝ}

theorem dk_next (I s d : ℕ) : dk sc q k v o a b l δ (512 * (I + 1)) s d = dk sc q k v o a b l δ (512 * I) s d + ∑ r : Fin 512, ds sc q k v o a b l δ (512 * I + r.val) s * sc * q (512 * I + r.val) d := by
  unfold dk
  rw [sum_tile]
theorem dv_next (I s d : ℕ) : dv sc q k o a b l (512 * (I + 1)) s d = dv sc q k o a b l (512 * I) s d + ∑ r : Fin 512, p sc q k a b l (512 * I + r.val) s * o (512 * I + r.val) d := by
  unfold dv
  rw [sum_tile]
theorem db_next (I s : ℕ) : db sc q k v o a b l δ (512 * (I + 1)) s = db sc q k v o a b l δ (512 * I) s + -∑ r : Fin 512, ds sc q k v o a b l δ (512 * I + r.val) s := by
  unfold db
  rw [sum_tile, neg_add]

variable (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x512x1 .f32) (harg5 : arg5.IsWhole) (arg6 : Memref sig .tc .vmem S1x1x2048 .f32) (harg6 : arg6.IsWhole) (arg7 : Memref sig .tc .vmem S512x128 .f32) (harg7 : arg7.IsWhole) (arg8 : Memref sig .tc .vmem S512x128 .bf16) (harg8 : arg8.IsWhole) (arg9 : Memref sig .tc .vmem S1x512x1 .f32) (harg9 : arg9.IsWhole) (arg10 : Memref sig .tc .vmem S512x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x512x1 .f32) (harg13 : arg13.IsWhole) (arg14 : Memref sig .tc .vmem S1x1x2048 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S1x2048 .f32) (harg17 : arg17.IsWhole)
  (v6 v7 : Vec Ideal S512x128 .bf16) (v8 v10 : Vec Ideal S1x512x1 .f32) (v13 : Vec Ideal S512x128 .f32)
  (X3 : BufTy.Contents (Elt Ideal) arg3.view.ty) (X4 : BufTy.Contents (Elt Ideal) arg4.view.ty) (X6 : BufTy.Contents (Elt Ideal) arg6.view.ty)
  (G15 : BufTy.Contents (Elt Ideal) arg15.view.ty) (G16 : BufTy.Contents (Elt Ideal) arg16.view.ty) (G17 : BufTy.Contents (Elt Ideal) arg17.view.ty)

/-- The invariant before trip `n`. -/
structure LoopInv (n : ℕ) (S : (FVec Ideal S512x128 .f32 × FVec Ideal S512x1 .f32) × List (View.Piece (Elt Ideal) S2048x128 .f32) × List (View.Piece (Elt Ideal) S2048x128 .f32) × List (View.Piece (Elt Ideal) S1x2048 .f32)) : Prop where
  dq : ∀ (r : Fin 512) (d : Fin 128), S.1.1 (ix2 r d) = ((dq sc q k v o a b l δ (512 * n) (512 * (i 1).val + r.val) d.val : ℝ) : EReal)
  da : ∀ r : Fin 512, S.1.2 (ix2 r 0) = ((da sc q k v o a b l δ (512 * n) (512 * (i 1).val + r.val) : ℝ) : EReal)
  dk : ∀ (s : Fin 2048) (d : Fin 128), arg15.view.read (Elt Ideal) (arg15.view.writes (Elt Ideal) G15 S.2.1) (ix2 s d)
    = (((if s.val < 512 * n then dk sc q k v o a b l δ (512 * ((i 1).val + 1)) s.val d.val else dk sc q k v o a b l δ (512 * (i 1).val) s.val d.val) : ℝ) : EReal)
  dv : ∀ (s : Fin 2048) (d : Fin 128), arg16.view.read (Elt Ideal) (arg16.view.writes (Elt Ideal) G16 S.2.2.1) (ix2 s d)
    = (((if s.val < 512 * n then dv sc q k o a b l (512 * ((i 1).val + 1)) s.val d.val else dv sc q k o a b l (512 * (i 1).val) s.val d.val) : ℝ) : EReal)
  db : ∀ s : Fin 2048, arg17.view.read (Elt Ideal) (arg17.view.writes (Elt Ideal) G17 S.2.2.2) (ix2 0 s)
    = (((if s.val < 512 * n then db sc q k v o a b l δ (512 * ((i 1).val + 1)) s.val else db sc q k v o a b l δ (512 * (i 1).val) s.val) : ℝ) : EReal)

/-- What the buffers that the body only reads hold. -/
structure Keys (k v : ℕ → ℕ → ℝ) (b : ℕ → ℝ) (arg3 arg4 : Memref sig .tc .vmem S2048x128 .bf16) (arg6 : Memref sig .tc .vmem S1x1x2048 .f32)
    (X3 : BufTy.Contents (Elt Ideal) arg3.view.ty) (X4 : BufTy.Contents (Elt Ideal) arg4.view.ty) (X6 : BufTy.Contents (Elt Ideal) arg6.view.ty) : Prop where
  k : ∀ (s : Fin 2048) (d : Fin 128), arg3.view.read (Elt Ideal) X3 (ix2 s d) = ((k s.val d.val : ℝ) : EReal)
  v : ∀ (s : Fin 2048) (d : Fin 128), arg4.view.read (Elt Ideal) X4 (ix2 s d) = ((v s.val d.val : ℝ) : EReal)
  b : ∀ s : Fin 2048, arg6.view.read (Elt Ideal) X6 (ix3 0 0 s) = ((b s.val : ℝ) : EReal)

variable {arg3 arg4 arg6 X3 X4 X6} in
theorem Keys.cols (h : Keys k v b arg3 arg4 arg6 X3 X4 X6) (n : ℕ) (hn : n < 4) (off₁ : Fin 2 → ℕ) (inb₁ : ∀ a, off₁ a + S512x128.size a ≤ S2048x128.size a)
    (hoff₁ : off₁ = ![512 * n, 0]) (off₂ : Fin 3 → ℕ) (inb₂ : ∀ a, off₂ a + S1x1x512.size a ≤ S1x1x2048.size a) (hoff₂ : off₂ = ![0, 0, 512 * n]) :
    Cols k v b n (View.readAt (Elt Ideal) arg3.view (Rect.unit (s := S2048x128) off₁ S512x128.size inb₁).toLoadRect X3)
      (View.readAt (Elt Ideal) arg4.view (Rect.unit (s := S2048x128) off₁ S512x128.size inb₁).toLoadRect X4)
      (View.readAt (Elt Ideal) arg6.view (Rect.unit (s := S1x1x2048) off₂ S1x1x512.size inb₂).toLoadRect X6) :=
  ⟨fun r d => (block_read arg3 off₁ inb₁ n hn hoff₁ X3 r d).trans (h.k _ d), fun r d => (block_read arg4 off₁ inb₁ n hn hoff₁ X4 r d).trans (h.v _ d),
    fun r => (gate_read arg6 off₂ inb₂ n hn hoff₂ X6 r).trans (h.b _)⟩

variable (R : Rows q o a l δ (i 1).val v6 v7 (k0_pay29 v8) (k0_pay30 v10) (k0_pay31 v7 v13)) (K : Keys k v b arg3 arg4 arg6 X3 X4 X6)

set_option maxRecDepth 16384 in
include R K in
theorem loop_step (n : Fin (k0_t1_loop i).trips) (S : (FVec Ideal S512x128 .f32 × FVec Ideal S512x1 .f32) × List (View.Piece (Elt Ideal) S2048x128 .f32) × List (View.Piece (Elt Ideal) S2048x128 .f32) × List (View.Piece (Elt Ideal) S1x2048 .f32))
    (h : LoopInv (q := q) (k := k) (v := v) (o := o) (a := a) (b := b) (l := l) (δ := δ) i arg15 arg16 arg17 G15 G16 G17 n.val S) :
    LoopInv (q := q) (k := k) (v := v) (o := o) (a := a) (b := b) (l := l) (δ := δ) i arg15 arg16 arg17 G15 G16 G17 (n.val + 1)
      (tripR_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v7 v8 v10 v13 X3 X4 X6 n S.1 (arg15.view.writes (Elt Ideal) G15 S.2.1) (arg16.view.writes (Elt Ideal) G16 S.2.2.1) (arg17.view.writes (Elt Ideal) G17 S.2.2.2),
       (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v7 v8 v10 v13 X3 X4 X6 n S.1 (arg15.view.writes (Elt Ideal) G15 S.2.1) (arg16.view.writes (Elt Ideal) G16 S.2.2.1) (arg17.view.writes (Elt Ideal) G17 S.2.2.2)).1 ++ S.2.1,
       (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v7 v8 v10 v13 X3 X4 X6 n S.1 (arg15.view.writes (Elt Ideal) G15 S.2.1) (arg16.view.writes (Elt Ideal) G16 S.2.2.1) (arg17.view.writes (Elt Ideal) G17 S.2.2.2)).2.1 ++ S.2.2.1,
       (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v7 v8 v10 v13 X3 X4 X6 n S.1 (arg15.view.writes (Elt Ideal) G15 S.2.1) (arg16.view.writes (Elt Ideal) G16 S.2.2.1) (arg17.view.writes (Elt Ideal) G17 S.2.2.2)).2.2 ++ S.2.2.2) := by
  have hn4 := lt_four i n
  have hnI : n.val < (i 1).val := n.isLt.trans_eq (t1_trips i)
  have C := K.cols n.val hn4 (k0_off1 i n) (k0_off1_inb i n) (off1_eq i n) (k0_off2 i n) (k0_off2_inb i n) (off2_eq i n)
  have hP := pay9_eq R C hnI
  constructor
  · intro r d
    have := dq_step R C _ hP S.1.1 r d (h.dq r d)
    delta tripR_k0_t1 trip_k0_t1
    exact this
  · intro r
    have := da_step R C _ hP S.1.2 r (h.da r)
    delta tripR_k0_t1 trip_k0_t1
    exact this
  · intro s d
    delta tripL_k0_t1 trip_k0_t1
    refine (acc_put arg15 (k0_off1 i n) (k0_off1_inb i n) n.val hn4 (off1_eq i n) G15 S.2.1 (k0_pay34 (k0_pay13 v6 v7 (k0_pay29 v8) (k0_pay30 v10) (k0_pay31 v7 v13) (View.readAt (Elt Ideal) arg3.view (Rect.unit (s := S2048x128) (k0_off1 i n) S512x128.size (k0_off1_inb i n)).toLoadRect X3) (View.readAt (Elt Ideal) arg4.view (Rect.unit (s := S2048x128) (k0_off1 i n) S512x128.size (k0_off1_inb i n)).toLoadRect X4) (View.readAt (Elt Ideal) arg6.view (Rect.unit (s := S1x1x2048) (k0_off2 i n) S1x1x512.size (k0_off2_inb i n)).toLoadRect X6)) _)
      (k0_pay13 v6 v7 (k0_pay29 v8) (k0_pay30 v10) (k0_pay31 v7 v13) (View.readAt (Elt Ideal) arg3.view (Rect.unit (s := S2048x128) (k0_off1 i n) S512x128.size (k0_off1_inb i n)).toLoadRect X3) (View.readAt (Elt Ideal) arg4.view (Rect.unit (s := S2048x128) (k0_off1 i n) S512x128.size (k0_off1_inb i n)).toLoadRect X4) (View.readAt (Elt Ideal) arg6.view (Rect.unit (s := S1x1x2048) (k0_off2 i n) S1x1x512.size (k0_off2_inb i n)).toLoadRect X6)) rfl
      (fun s d => if s < 512 * n.val then dk sc q k v o a b l δ (512 * ((i 1).val + 1)) s d else dk sc q k v o a b l δ (512 * (i 1).val) s d)
      (fun s d => ∑ r : Fin 512, ds sc q k v o a b l δ (512 * (i 1).val + r.val) s * sc * q (512 * (i 1).val + r.val) d) h.dk (fun c d => dk_part R C _ hP c d) s d).trans ?_
    try dsimp only
    rw [joins (dk_next (i 1).val s.val d.val)]
  · intro s d
    delta tripL_k0_t1 trip_k0_t1
    refine (acc_put arg16 (k0_off1 i n) (k0_off1_inb i n) n.val hn4 (off1_eq i n) G16 S.2.2.1 (k0_pay35 (k0_pay14 v6 v7 (k0_pay29 v8) (k0_pay30 v10) (View.readAt (Elt Ideal) arg3.view (Rect.unit (s := S2048x128) (k0_off1 i n) S512x128.size (k0_off1_inb i n)).toLoadRect X3) (View.readAt (Elt Ideal) arg6.view (Rect.unit (s := S1x1x2048) (k0_off2 i n) S1x1x512.size (k0_off2_inb i n)).toLoadRect X6)) _)
      (k0_pay14 v6 v7 (k0_pay29 v8) (k0_pay30 v10) (View.readAt (Elt Ideal) arg3.view (Rect.unit (s := S2048x128) (k0_off1 i n) S512x128.size (k0_off1_inb i n)).toLoadRect X3) (View.readAt (Elt Ideal) arg6.view (Rect.unit (s := S1x1x2048) (k0_off2 i n) S1x1x512.size (k0_off2_inb i n)).toLoadRect X6)) rfl
      (fun s d => if s < 512 * n.val then dv sc q k o a b l (512 * ((i 1).val + 1)) s d else dv sc q k o a b l (512 * (i 1).val) s d)
      (fun s d => ∑ r : Fin 512, p sc q k a b l (512 * (i 1).val + r.val) s * o (512 * (i 1).val + r.val) d) h.dv (fun c d => dv_part R C _ hP c d) s d).trans ?_
    try dsimp only
    rw [joins (dv_next (i 1).val s.val d.val)]
  · intro s
    delta tripL_k0_t1 trip_k0_t1
    refine (line_put arg17 (k0_off3 i n) (k0_off3_inb i n) n.val hn4 (off3_eq i n) G17 S.2.2.2 (k0_pay36 (k0_pay15 v6 v7 (k0_pay29 v8) (k0_pay30 v10) (k0_pay31 v7 v13) (View.readAt (Elt Ideal) arg3.view (Rect.unit (s := S2048x128) (k0_off1 i n) S512x128.size (k0_off1_inb i n)).toLoadRect X3) (View.readAt (Elt Ideal) arg4.view (Rect.unit (s := S2048x128) (k0_off1 i n) S512x128.size (k0_off1_inb i n)).toLoadRect X4) (View.readAt (Elt Ideal) arg6.view (Rect.unit (s := S1x1x2048) (k0_off2 i n) S1x1x512.size (k0_off2_inb i n)).toLoadRect X6)) _)
      (k0_pay15 v6 v7 (k0_pay29 v8) (k0_pay30 v10) (k0_pay31 v7 v13) (View.readAt (Elt Ideal) arg3.view (Rect.unit (s := S2048x128) (k0_off1 i n) S512x128.size (k0_off1_inb i n)).toLoadRect X3) (View.readAt (Elt Ideal) arg4.view (Rect.unit (s := S2048x128) (k0_off1 i n) S512x128.size (k0_off1_inb i n)).toLoadRect X4) (View.readAt (Elt Ideal) arg6.view (Rect.unit (s := S1x1x2048) (k0_off2 i n) S1x1x512.size (k0_off2_inb i n)).toLoadRect X6)) rfl
      (fun s => if s < 512 * n.val then db sc q k v o a b l δ (512 * ((i 1).val + 1)) s else db sc q k v o a b l δ (512 * (i 1).val) s)
      (fun s => ∑ r : Fin 512, ds sc q k v o a b l δ (512 * (i 1).val + r.val) s) h.db (fun c => db_part R C _ hP c) s).trans ?_
    try dsimp only
    rw [joins (db_next (i 1).val s.val)]

include R K in
theorem loop_inv
    (h15 : ∀ (s : Fin 2048) (d : Fin 128), arg15.view.read (Elt Ideal) G15 (ix2 s d) = ((dk sc q k v o a b l δ (512 * (i 1).val) s.val d.val : ℝ) : EReal))
    (h16 : ∀ (s : Fin 2048) (d : Fin 128), arg16.view.read (Elt Ideal) G16 (ix2 s d) = ((dv sc q k o a b l (512 * (i 1).val) s.val d.val : ℝ) : EReal))
    (h17 : ∀ s : Fin 2048, arg17.view.read (Elt Ideal) G17 (ix2 0 s) = ((db sc q k v o a b l δ (512 * (i 1).val) s.val : ℝ) : EReal))
    (n : ℕ) (hn : n ≤ (i 1).val) :
    LoopInv (q := q) (k := k) (v := v) (o := o) (a := a) (b := b) (l := l) (δ := δ) i arg15 arg16 arg17 G15 G16 G17 n
      (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v7 v8 v10 v13 X3 X4 X6 G15 G16 G17 (k0_pay32, k0_pay33) n) := by
  induction n with
  | zero =>
    constructor
    · intro r d
      show Ideal.ofBits .f32 0x00000000#32 = _
      rw [Ideal.ofBits_zero_f32]; simp [dq]
    · intro r
      show Ideal.ofBits .f32 0x00000000#32 = _
      rw [Ideal.ofBits_zero_f32]; simp [da]
    · intro s d
      exact (h15 s d).trans (by simp)
    · intro s d
      exact (h16 s d).trans (by simp)
    · intro s
      exact (h17 s).trans (by simp)
  | succ n ih =>
    have hlt : n < (k0_t1_loop i).trips := by rw [t1_trips]; omega
    have := loop_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v7 v8 v10 v13 X3 X4 X6 G15 G16 G17 R K ⟨n, hlt⟩ _ (ih (by omega))
    have e := st_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v7 v8 v10 v13 X3 X4 X6 G15 G16 G17 (k0_pay32, k0_pay33) ⟨n, hlt⟩
    exact e ▸ this
end Loop

end Cert.Kernel19Ideal.Tile

end
-- ==== Proof.Fox.Case.lean ====
/-
  A grid point's body: the counted loop, then the diagonal tile, in the three cases of the grid (a head's first query tile,
  which zeroes the accumulators; a middle one; the last, which also stores the gradients of the keys, the values and the key
  side's cumulative gates). Each leaves the query gradient of its own rows and, in the accumulators, the other gradients over
  the query rows so far.
-/
module

public import proofs.«01_k».proof.Proof.Gen.Kernel19Ideal.Frame
public import proofs.«01_k».proof.Proof.Fox.Loop

@[expose] public section

noncomputable section

namespace Cert.Kernel19Ideal.Tile

open Cert.Kernel19Ideal Cert.Kernel19Ideal.Gen Cert.Fox
open Cert.KernelIdeal.Tile (sc)
open Cert.Stick (sum_tile)
open Idealize.ShloMosaic Idealize.ShloMosaic.ValueIdx Idealize.ShloMosaic.Tactic Idealize.SL.Sem

theorem hz2 : (![0, 0] : Fin 2 → ℕ) = fun _ => 0 := funext fun a => by fin_cases a <;> rfl
theorem hz3 : (![0, 0, 0] : Fin 3 → ℕ) = fun _ => 0 := funext fun a => by fin_cases a <;> rfl

theorem diag_word : ∀ j : Fin 4, (Scalar.indexCast (Scalar.muli (BitVec.ofNat 32 j.val) 512#32)).toNat = 512 * j.val := by decide
theorem off7_eq (i : grid0.Coords) : k0_off7 i = ![512 * (i 1).val, 0] := congrArg (fun x : ℕ => (![x, 0] : Fin 2 → ℕ)) (diag_word (i 1))
theorem off8_eq (i : grid0.Coords) : k0_off8 i = ![0, 0, 512 * (i 1).val] := congrArg (fun x : ℕ => (![0, 0, x] : Fin 3 → ℕ)) (diag_word (i 1))
theorem off9_eq (i : grid0.Coords) : k0_off9 i = ![0, 512 * (i 1).val] := congrArg (fun x : ℕ => (![0, x] : Fin 2 → ℕ)) (diag_word (i 1))

/-- A read of everything. -/
theorem whole_read {κ : Kind} {sp : Space} {S : Shape} {e : EltTy} (M : View sig κ sp S e) (off : Fin S.rank → ℕ) (inb : ∀ a, off a + S.size a ≤ S.size a)
    (hoff : off = fun _ => 0) (X : BufTy.Contents (Elt Ideal) M.ty) :
    View.readAt (Elt Ideal) M (Rect.unit (s := S) off S.size inb).toLoadRect X = M.read (Elt Ideal) X := by
  rw [View.readAt_eq_ld, View.ld_unit_zero (S := S) hoff]

/-- A whole store, read back. -/
theorem store_read {s : Shape} {e : EltTy} {κ : Kind} {sp : Space} (M : View sig κ sp s e) (off : Fin s.rank → ℕ) (inb : ∀ a, off a + s.size a ≤ s.size a)
    (hoff : off = fun _ => 0) (f : BufTy.Contents (Elt Ideal) M.ty) (L : List (View.Piece (Elt Ideal) s e)) (P : s.Idx → Elt Ideal e) (y : s.Idx) :
    M.read (Elt Ideal) (M.writes (Elt Ideal) f ((⟨Rect.unit (s := s) off s.size inb, P⟩ : View.Piece (Elt Ideal) s e) :: L)) y = P y :=
  View.read_writes_cons_unit_of_mem M f inb P L y y hoff fun a => (Nat.zero_add _).symm

theorem k0_pay5_eq (x : FVec Ideal S512x1 .f32) (r : Fin 512) : k0_pay5 x (ix3 0 r 0) = x (ix2 r 0) := by
  unfold k0_pay5
  refine shapeCast_apply _ _ (ix3 (0 : Fin 1) r (0 : Fin 1)) (ix2 r (0 : Fin 1)) ?_
  rw [Shape.rowMajor_val_three, Shape.rowMajor_val_two]
  show r.val * 1 + 0 = (0 * 512 + r.val) * 1 + 0
  omega

theorem k0_pay8_eq (x : Vec Ideal S1x2048 .f32) (s : Fin 2048) : k0_pay8 x (ix3 0 0 s) = x (ix2 0 s) := by
  unfold k0_pay8
  refine shapeCast_apply _ _ (ix3 (0 : Fin 1) (0 : Fin 1) s) (ix2 (0 : Fin 1) s) ?_
  rw [Shape.rowMajor_val_three, Shape.rowMajor_val_two]
  show 0 * 2048 + s.val = (0 * 1 + 0) * 2048 + s.val
  omega

/-- The accumulators over the query rows before `n`. -/
structure Sums (q k v o : ℕ → ℕ → ℝ) (a b l δ : ℕ → ℝ) (n : ℕ) (y0 y1 : Vec Ideal S2048x128 .f32) (y2 : Vec Ideal S1x2048 .f32) : Prop where
  dk : ∀ (s : Fin 2048) (d : Fin 128), y0 (ix2 s d) = ((dk sc q k v o a b l δ n s.val d.val : ℝ) : EReal)
  dv : ∀ (s : Fin 2048) (d : Fin 128), y1 (ix2 s d) = ((dv sc q k o a b l n s.val d.val : ℝ) : EReal)
  db : ∀ s : Fin 2048, y2 (ix2 0 s) = ((db sc q k v o a b l δ n s.val : ℝ) : EReal)

/-- The inner products of the saved output's rows and the cotangent's. -/
def dot (w o : ℕ → ℕ → ℝ) (t : ℕ) : ℝ := ∑ d : Fin 128, o t d.val * w t d.val

/-- What the windows hold at a point of query tile `I`. -/
structure Ins (q k v o w : ℕ → ℕ → ℝ) (a b l : ℕ → ℝ) (I : ℕ) (x0 : Vec Ideal S512x128 .bf16) (x1 x2 : Vec Ideal S2048x128 .bf16)
    (x3 : Vec Ideal S1x512x1 .f32) (x4 : Vec Ideal S1x1x2048 .f32) (x5 : Vec Ideal S512x128 .f32) (x6 : Vec Ideal S512x128 .bf16) (x7 : Vec Ideal S1x512x1 .f32) : Prop where
  q : ∀ (r : Fin 512) (d : Fin 128), x0 (ix2 r d) = ((q (512 * I + r.val) d.val : ℝ) : EReal)
  k : ∀ (s : Fin 2048) (d : Fin 128), x1 (ix2 s d) = ((k s.val d.val : ℝ) : EReal)
  v : ∀ (s : Fin 2048) (d : Fin 128), x2 (ix2 s d) = ((v s.val d.val : ℝ) : EReal)
  a : ∀ r : Fin 512, x3 (ix3 0 r 0) = ((a (512 * I + r.val) : ℝ) : EReal)
  b : ∀ s : Fin 2048, x4 (ix3 0 0 s) = ((b s.val : ℝ) : EReal)
  w : ∀ (r : Fin 512) (d : Fin 128), x5 (ix2 r d) = ((w (512 * I + r.val) d.val : ℝ) : EReal)
  o : ∀ (r : Fin 512) (d : Fin 128), x6 (ix2 r d) = ((o (512 * I + r.val) d.val : ℝ) : EReal)
  l : ∀ r : Fin 512, x7 (ix3 0 r 0) = ((l (512 * I + r.val) : ℝ) : EReal)

section Body
variable {q k v o w : ℕ → ℕ → ℝ} {a b l δ : ℕ → ℝ}

section Ins
variable {I : ℕ} {x0 : Vec Ideal S512x128 .bf16} {x1 x2 : Vec Ideal S2048x128 .bf16} {x3 : Vec Ideal S1x512x1 .f32} {x4 : Vec Ideal S1x1x2048 .f32}
  {x5 : Vec Ideal S512x128 .f32} {x6 : Vec Ideal S512x128 .bf16} {x7 : Vec Ideal S1x512x1 .f32} (H : Ins q k v o w a b l I x0 x1 x2 x3 x4 x5 x6 x7)
include H

theorem Ins.rows (arg2 : Memref sig .tc .vmem S512x128 .bf16) (harg2 : arg2.IsWhole) (arg5 : Memref sig .tc .vmem S1x512x1 .f32) (harg5 : arg5.IsWhole)
    (arg7 : Memref sig .tc .vmem S512x128 .f32) (harg7 : arg7.IsWhole) (arg8 : Memref sig .tc .vmem S512x128 .bf16) (harg8 : arg8.IsWhole)
    (arg9 : Memref sig .tc .vmem S1x512x1 .f32) (harg9 : arg9.IsWhole) :
    Rows q o a l (dot w o) I (View.readAt (Elt Ideal) arg2.view (Rect.unit (s := S512x128) ![0, 0] S512x128.size inb_S512x128_S512x128_0_0).toLoadRect (harg2.unread x0)) (View.readAt (Elt Ideal) arg8.view (Rect.unit (s := S512x128) ![0, 0] S512x128.size inb_S512x128_S512x128_0_0).toLoadRect (harg8.unread x6)) (k0_pay29 (View.readAt (Elt Ideal) arg5.view (Rect.unit (s := S1x512x1) ![0, 0, 0] S1x512x1.size inb_S1x512x1_S1x512x1_0_0_0).toLoadRect (harg5.unread x3))) (k0_pay30 (View.readAt (Elt Ideal) arg9.view (Rect.unit (s := S1x512x1) ![0, 0, 0] S1x512x1.size inb_S1x512x1_S1x512x1_0_0_0).toLoadRect (harg9.unread x7))) (k0_pay31 (View.readAt (Elt Ideal) arg8.view (Rect.unit (s := S512x128) ![0, 0] S512x128.size inb_S512x128_S512x128_0_0).toLoadRect (harg8.unread x6)) (View.readAt (Elt Ideal) arg7.view (Rect.unit (s := S512x128) ![0, 0] S512x128.size inb_S512x128_S512x128_0_0).toLoadRect (harg7.unread x5))) := by
  rw [whole_read arg2.view _ _ hz2, whole_read arg8.view _ _ hz2, whole_read arg5.view _ _ hz3, whole_read arg9.view _ _ hz3, whole_read arg7.view _ _ hz2, harg2.read_unread, harg5.read_unread, harg7.read_unread, harg8.read_unread, harg9.read_unread]
  exact ⟨H.q, H.o, fun r => (col_eq _ r).trans (H.a r), fun r => (col_eq _ r).trans (H.l r), fun r => pay31_eq _ _ _ _ H.o H.w r⟩

theorem Ins.keys (arg3 : Memref sig .tc .vmem S2048x128 .bf16) (harg3 : arg3.IsWhole) (arg4 : Memref sig .tc .vmem S2048x128 .bf16) (harg4 : arg4.IsWhole)
    (arg6 : Memref sig .tc .vmem S1x1x2048 .f32) (harg6 : arg6.IsWhole) : Keys k v b arg3 arg4 arg6 (harg3.unread x1) (harg4.unread x2) (harg6.unread x4) := by
  constructor
  · rw [harg3.read_unread]; exact H.k
  · rw [harg4.read_unread]; exact H.v
  · rw [harg6.read_unread]; exact H.b
end Ins

section Diagonal
variable (i : grid0.Coords) (arg3 arg4 : Memref sig .tc .vmem S2048x128 .bf16) (arg6 : Memref sig .tc .vmem S1x1x2048 .f32)
  (arg15 arg16 : Memref sig .tc .vmem S2048x128 .f32) (arg17 : Memref sig .tc .vmem S1x2048 .f32)
  (v6 v7 : Vec Ideal S512x128 .bf16) (v8 v10 : Vec Ideal S1x512x1 .f32) (v13 : Vec Ideal S512x128 .f32)
  (X3 : BufTy.Contents (Elt Ideal) arg3.view.ty) (X4 : BufTy.Contents (Elt Ideal) arg4.view.ty) (X6 : BufTy.Contents (Elt Ideal) arg6.view.ty)
  (G15 : BufTy.Contents (Elt Ideal) arg15.view.ty) (G16 : BufTy.Contents (Elt Ideal) arg16.view.ty) (G17 : BufTy.Contents (Elt Ideal) arg17.view.ty)
  (R : Rows q o a l δ (i 1).val v6 v7 (k0_pay29 v8) (k0_pay30 v10) (k0_pay31 v7 v13)) (K : Keys k v b arg3 arg4 arg6 X3 X4 X6)
  (S : (FVec Ideal S512x128 .f32 × FVec Ideal S512x1 .f32) × List (View.Piece (Elt Ideal) S2048x128 .f32) × List (View.Piece (Elt Ideal) S2048x128 .f32) × List (View.Piece (Elt Ideal) S1x2048 .f32))
  (hS : LoopInv (q := q) (k := k) (v := v) (o := o) (a := a) (b := b) (l := l) (δ := δ) i arg15 arg16 arg17 G15 G16 G17 (i 1).val S)

include R K hS

/-- The diagonal tile, after the loop: what the body stores. -/
theorem body :
    (∀ (r : Fin 512) (d : Fin 128), k0_pay4 (k0_pay43 k0_pay28 v6 v7 (k0_pay29 v8) (k0_pay30 v10) (k0_pay31 v7 v13) S.1.1 (View.readAt (Elt Ideal) arg3.view (Rect.unit (s := S2048x128) (k0_off7 i) S512x128.size (k0_off7_inb i)).toLoadRect X3) (View.readAt (Elt Ideal) arg4.view (Rect.unit (s := S2048x128) (k0_off7 i) S512x128.size (k0_off7_inb i)).toLoadRect X4) (View.readAt (Elt Ideal) arg6.view (Rect.unit (s := S1x1x2048) (k0_off8 i) S1x1x512.size (k0_off8_inb i)).toLoadRect X6)) (ix2 r d) = ((dq sc q k v o a b l δ (512 * ((i 1).val + 1)) (512 * (i 1).val + r.val) d.val : ℝ) : EReal))
    ∧ (∀ r : Fin 512, k0_pay5 (k0_pay47 k0_pay28 v6 v7 (k0_pay29 v8) (k0_pay30 v10) (k0_pay31 v7 v13) S.1.2 (View.readAt (Elt Ideal) arg3.view (Rect.unit (s := S2048x128) (k0_off7 i) S512x128.size (k0_off7_inb i)).toLoadRect X3) (View.readAt (Elt Ideal) arg4.view (Rect.unit (s := S2048x128) (k0_off7 i) S512x128.size (k0_off7_inb i)).toLoadRect X4) (View.readAt (Elt Ideal) arg6.view (Rect.unit (s := S1x1x2048) (k0_off8 i) S1x1x512.size (k0_off8_inb i)).toLoadRect X6)) (ix3 0 r 0) = ((da sc q k v o a b l δ (512 * ((i 1).val + 1)) (512 * (i 1).val + r.val) : ℝ) : EReal))
    ∧ (∀ (s : Fin 2048) (d : Fin 128), arg15.view.read (Elt Ideal) (arg15.view.writes (Elt Ideal) G15 ((⟨Rect.unit (s := S2048x128) (k0_off7 i) S512x128.size (k0_off7_inb i), k0_pay1 (k0_pay44 k0_pay28 v6 v7 (k0_pay29 v8) (k0_pay30 v10) (k0_pay31 v7 v13) (View.readAt (Elt Ideal) arg3.view (Rect.unit (s := S2048x128) (k0_off7 i) S512x128.size (k0_off7_inb i)).toLoadRect X3) (View.readAt (Elt Ideal) arg4.view (Rect.unit (s := S2048x128) (k0_off7 i) S512x128.size (k0_off7_inb i)).toLoadRect X4) (View.readAt (Elt Ideal) arg6.view (Rect.unit (s := S1x1x2048) (k0_off8 i) S1x1x512.size (k0_off8_inb i)).toLoadRect X6)) (View.readAt (Elt Ideal) arg15.view (Rect.unit (s := S2048x128) (k0_off7 i) S512x128.size (k0_off7_inb i)).toLoadRect (arg15.view.writes (Elt Ideal) G15 S.2.1))⟩ : View.Piece (Elt Ideal) S2048x128 .f32) :: S.2.1)) (ix2 s d) = ((dk sc q k v o a b l δ (512 * ((i 1).val + 1)) s.val d.val : ℝ) : EReal))
    ∧ (∀ (s : Fin 2048) (d : Fin 128), arg16.view.read (Elt Ideal) (arg16.view.writes (Elt Ideal) G16 ((⟨Rect.unit (s := S2048x128) (k0_off7 i) S512x128.size (k0_off7_inb i), k0_pay2 (k0_pay45 k0_pay28 v6 v7 (k0_pay29 v8) (k0_pay30 v10) (View.readAt (Elt Ideal) arg3.view (Rect.unit (s := S2048x128) (k0_off7 i) S512x128.size (k0_off7_inb i)).toLoadRect X3) (View.readAt (Elt Ideal) arg6.view (Rect.unit (s := S1x1x2048) (k0_off8 i) S1x1x512.size (k0_off8_inb i)).toLoadRect X6)) (View.readAt (Elt Ideal) arg16.view (Rect.unit (s := S2048x128) (k0_off7 i) S512x128.size (k0_off7_inb i)).toLoadRect (arg16.view.writes (Elt Ideal) G16 S.2.2.1))⟩ : View.Piece (Elt Ideal) S2048x128 .f32) :: S.2.2.1)) (ix2 s d) = ((dv sc q k o a b l (512 * ((i 1).val + 1)) s.val d.val : ℝ) : EReal))
    ∧ (∀ s : Fin 2048, arg17.view.read (Elt Ideal) (arg17.view.writes (Elt Ideal) G17 ((⟨Rect.unit (s := S1x2048) (k0_off9 i) S1x512.size (k0_off9_inb i), k0_pay3 (k0_pay46 k0_pay28 v6 v7 (k0_pay29 v8) (k0_pay30 v10) (k0_pay31 v7 v13) (View.readAt (Elt Ideal) arg3.view (Rect.unit (s := S2048x128) (k0_off7 i) S512x128.size (k0_off7_inb i)).toLoadRect X3) (View.readAt (Elt Ideal) arg4.view (Rect.unit (s := S2048x128) (k0_off7 i) S512x128.size (k0_off7_inb i)).toLoadRect X4) (View.readAt (Elt Ideal) arg6.view (Rect.unit (s := S1x1x2048) (k0_off8 i) S1x1x512.size (k0_off8_inb i)).toLoadRect X6)) (View.readAt (Elt Ideal) arg17.view (Rect.unit (s := S1x2048) (k0_off9 i) S1x512.size (k0_off9_inb i)).toLoadRect (arg17.view.writes (Elt Ideal) G17 S.2.2.2))⟩ : View.Piece (Elt Ideal) S1x2048 .f32) :: S.2.2.2)) (ix2 0 s) = ((db sc q k v o a b l δ (512 * ((i 1).val + 1)) s.val : ℝ) : EReal)) := by
  have hI : (i 1).val < 4 := (i 1).isLt
  have C := K.cols (i 1).val hI (k0_off7 i) (k0_off7_inb i) (off7_eq i) (k0_off8 i) (k0_off8_inb i) (off8_eq i)
  have hP := pay40_eq R C rfl
  refine ⟨fun r d => dq_step R C _ hP S.1.1 r d (hS.dq r d), fun r => (k0_pay5_eq _ r).trans (da_step R C _ hP S.1.2 r (hS.da r)), fun s d => ?_, fun s d => ?_, fun s => ?_⟩
  · refine (acc_put arg15 (k0_off7 i) (k0_off7_inb i) (i 1).val hI (off7_eq i) G15 S.2.1 _ (k0_pay44 k0_pay28 v6 v7 (k0_pay29 v8) (k0_pay30 v10) (k0_pay31 v7 v13) (View.readAt (Elt Ideal) arg3.view (Rect.unit (s := S2048x128) (k0_off7 i) S512x128.size (k0_off7_inb i)).toLoadRect X3) (View.readAt (Elt Ideal) arg4.view (Rect.unit (s := S2048x128) (k0_off7 i) S512x128.size (k0_off7_inb i)).toLoadRect X4) (View.readAt (Elt Ideal) arg6.view (Rect.unit (s := S1x1x2048) (k0_off8 i) S1x1x512.size (k0_off8_inb i)).toLoadRect X6)) rfl
      (fun s d => if s < 512 * (i 1).val then dk sc q k v o a b l δ (512 * ((i 1).val + 1)) s d else dk sc q k v o a b l δ (512 * (i 1).val) s d)
      (fun s d => ∑ r : Fin 512, ds sc q k v o a b l δ (512 * (i 1).val + r.val) s * sc * q (512 * (i 1).val + r.val) d) hS.dk (fun c d => dk_part R C _ hP c d) s d).trans ?_
    dsimp only
    rw [joins_last (dk_next (i 1).val s.val d.val) (i 1).val s.val fun h => Finset.sum_eq_zero fun r _ => by rw [ds_of_lt (by omega), zero_mul, zero_mul]]
  · refine (acc_put arg16 (k0_off7 i) (k0_off7_inb i) (i 1).val hI (off7_eq i) G16 S.2.2.1 _ (k0_pay45 k0_pay28 v6 v7 (k0_pay29 v8) (k0_pay30 v10) (View.readAt (Elt Ideal) arg3.view (Rect.unit (s := S2048x128) (k0_off7 i) S512x128.size (k0_off7_inb i)).toLoadRect X3) (View.readAt (Elt Ideal) arg6.view (Rect.unit (s := S1x1x2048) (k0_off8 i) S1x1x512.size (k0_off8_inb i)).toLoadRect X6)) rfl
      (fun s d => if s < 512 * (i 1).val then dv sc q k o a b l (512 * ((i 1).val + 1)) s d else dv sc q k o a b l (512 * (i 1).val) s d)
      (fun s d => ∑ r : Fin 512, p sc q k a b l (512 * (i 1).val + r.val) s * o (512 * (i 1).val + r.val) d) hS.dv (fun c d => dv_part R C _ hP c d) s d).trans ?_
    dsimp only
    rw [joins_last (dv_next (i 1).val s.val d.val) (i 1).val s.val fun h => Finset.sum_eq_zero fun r _ => by rw [p_of_lt (by omega), zero_mul]]
  · refine (line_put arg17 (k0_off9 i) (k0_off9_inb i) (i 1).val hI (off9_eq i) G17 S.2.2.2 _ (k0_pay46 k0_pay28 v6 v7 (k0_pay29 v8) (k0_pay30 v10) (k0_pay31 v7 v13) (View.readAt (Elt Ideal) arg3.view (Rect.unit (s := S2048x128) (k0_off7 i) S512x128.size (k0_off7_inb i)).toLoadRect X3) (View.readAt (Elt Ideal) arg4.view (Rect.unit (s := S2048x128) (k0_off7 i) S512x128.size (k0_off7_inb i)).toLoadRect X4) (View.readAt (Elt Ideal) arg6.view (Rect.unit (s := S1x1x2048) (k0_off8 i) S1x1x512.size (k0_off8_inb i)).toLoadRect X6)) rfl
      (fun s => if s < 512 * (i 1).val then db sc q k v o a b l δ (512 * ((i 1).val + 1)) s else db sc q k v o a b l δ (512 * (i 1).val) s)
      (fun s => ∑ r : Fin 512, ds sc q k v o a b l δ (512 * (i 1).val + r.val) s) hS.db (fun c => db_part R C _ hP c) s).trans ?_
    dsimp only
    rw [joins_last (db_next (i 1).val s.val) (i 1).val s.val fun h => neg_eq_zero.mpr (Finset.sum_eq_zero fun r _ => ds_of_lt (by omega))]
end Diagonal

theorem trips1 (i : grid0.Coords) : (Scf.trips (0#32) (Scalar.addi (0#32) (Scalar.muli (Scalar.divsi (Scalar.subi (BitVec.ofNat 32 (i 1).val) 0#32) 1#32) 1#32)) 1#32) = (i 1).val := t1_trips i
theorem trips2 (i : grid0.Coords) : (Scf.trips (Scalar.addi (0#32) (Scalar.muli (Scalar.divsi (Scalar.subi (BitVec.ofNat 32 (i 1).val) 0#32) 1#32) 1#32)) (Scalar.addi (0#32) (Scalar.subi (BitVec.ofNat 32 (i 1).val) 0#32)) 1#32) = 0 := t2_trips i

variable (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x512x1 .f32) (harg5 : arg5.IsWhole) (arg6 : Memref sig .tc .vmem S1x1x2048 .f32) (harg6 : arg6.IsWhole) (arg7 : Memref sig .tc .vmem S512x128 .f32) (harg7 : arg7.IsWhole) (arg8 : Memref sig .tc .vmem S512x128 .bf16) (harg8 : arg8.IsWhole) (arg9 : Memref sig .tc .vmem S1x512x1 .f32) (harg9 : arg9.IsWhole) (arg10 : Memref sig .tc .vmem S512x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x512x1 .f32) (harg13 : arg13.IsWhole) (arg14 : Memref sig .tc .vmem S1x1x2048 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S1x2048 .f32) (harg17 : arg17.IsWhole)
  (x0 : Vec Ideal S512x128 .bf16) (x1 x2 : Vec Ideal S2048x128 .bf16) (x3 : Vec Ideal S1x512x1 .f32) (x4 : Vec Ideal S1x1x2048 .f32)
  (x5 : Vec Ideal S512x128 .f32) (x6 : Vec Ideal S512x128 .bf16) (x7 : Vec Ideal S1x512x1 .f32)
  (H : Ins q k v o w a b l (i 1).val x0 x1 x2 x3 x4 x5 x6 x7)
include H

set_option maxRecDepth 16384
set_option maxHeartbeats 400000

theorem caseA (hc0 : cond0_0 i) (hc1 : ¬cond0_1 i) (h0 : (i 1).val = 0) :
    (∀ (r : Fin 512) (d : Fin 128), out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 (ix2 r d) = ((dq sc q k v o a b l (dot w o) (512 * ((i 1).val + 1)) (512 * (i 1).val + r.val) d.val : ℝ) : EReal))
    ∧ (∀ r : Fin 512, out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 (ix3 0 r 0) = ((da sc q k v o a b l (dot w o) (512 * ((i 1).val + 1)) (512 * (i 1).val + r.val) : ℝ) : EReal))
    ∧ Sums q k v o a b l (dot w o) (512 * ((i 1).val + 1)) (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7) (sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7) (sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7) := by
  have R := H.rows arg2 harg2 arg5 harg5 arg7 harg7 arg8 harg8 arg9 harg9
  have K := H.keys arg3 harg3 arg4 harg4 arg6 harg6
  have h15 : ∀ (s : Fin 2048) (d : Fin 128), arg15.view.read (Elt Ideal) (arg15.view.writes (Elt Ideal) arg15.view.junk [⟨Rect.unit ![0, 0] S2048x128.size inb_S2048x128_S2048x128_0_0, k0_pay25 (F := Ideal)⟩]) (ix2 s d) = ((dk sc q k v o a b l (dot w o) (512 * (i 1).val) s.val d.val : ℝ) : EReal) := fun s d => by
    refine (store_read arg15.view _ _ hz2 _ _ _ _).trans ?_
    show Ideal.ofBits .f32 0x00000000#32 = _
    rw [Ideal.ofBits_zero_f32, h0]; simp [dk, dv]
  have h16 : ∀ (s : Fin 2048) (d : Fin 128), arg16.view.read (Elt Ideal) (arg16.view.writes (Elt Ideal) arg16.view.junk [⟨Rect.unit ![0, 0] S2048x128.size inb_S2048x128_S2048x128_0_0, k0_pay26 (F := Ideal)⟩]) (ix2 s d) = ((dv sc q k o a b l (512 * (i 1).val) s.val d.val : ℝ) : EReal) := fun s d => by
    refine (store_read arg16.view _ _ hz2 _ _ _ _).trans ?_
    show Ideal.ofBits .f32 0x00000000#32 = _
    rw [Ideal.ofBits_zero_f32, h0]; simp [dk, dv]
  have h17 : ∀ s : Fin 2048, arg17.view.read (Elt Ideal) (arg17.view.writes (Elt Ideal) arg17.view.junk [⟨Rect.unit ![0, 0] S1x2048.size inb_S1x2048_S1x2048_0_0, k0_pay27 (F := Ideal)⟩]) (ix2 0 s) = ((db sc q k v o a b l (dot w o) (512 * (i 1).val) s.val : ℝ) : EReal) := fun s => by
    refine (store_read arg17.view _ _ hz2 _ _ _ _).trans ?_
    show Ideal.ofBits .f32 0x00000000#32 = _
    rw [Ideal.ofBits_zero_f32, h0]; simp [db]
  have hS := loop_inv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ R K h15 h16 h17 (i 1).val le_rfl
  obtain ⟨hdq, hda, hdk, hdv, hdb⟩ := body i arg3 arg4 arg6 arg15 arg16 arg17 _ _ _ _ _ _ _ _ _ _ _ R K _ hS
  refine ⟨fun r d => ?_, fun r => ?_, ⟨fun s d => ?_, fun s d => ?_, fun s => ?_⟩⟩
  · unfold out0_A_8
    unfold kernelRun0_A; dsimp only; sl_unfold_words; rw [trips1, trips2]; simp only [st_k0_t2, List.nil_append]
    refine (store_read VO0_8 _ _ hz2 _ _ _ _).trans ?_
    exact hdq r d
  · unfold out0_A_11
    unfold kernelRun0_A; dsimp only; sl_unfold_words; rw [trips1, trips2]; simp only [st_k0_t2, List.nil_append]
    refine (store_read VO0_11 _ _ hz3 _ _ _ _).trans ?_
    exact hda r
  · unfold sout0_A_0
    rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7), ← View.read_writes_eq_canon arg15.view arg15.view.junk _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7)]
    unfold kernelRun0_A; dsimp only; sl_unfold_words; rw [trips1, trips2]; simp only [st_k0_t2, List.nil_append]
    simp only [← List.cons_append, View.writes_append]
    exact hdk s d
  · unfold sout0_A_1
    rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7), ← View.read_writes_eq_canon arg16.view arg16.view.junk _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7)]
    unfold kernelRun0_A; dsimp only; sl_unfold_words; rw [trips1, trips2]; simp only [st_k0_t2, List.nil_append]
    simp only [← List.cons_append, View.writes_append]
    exact hdv s d
  · unfold sout0_A_2
    rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7), ← View.read_writes_eq_canon arg17.view arg17.view.junk _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7)]
    unfold kernelRun0_A; dsimp only; sl_unfold_words; rw [trips1, trips2]; simp only [st_k0_t2, List.nil_append]
    simp only [← List.cons_append, View.writes_append]
    exact hdb s

theorem caseB (hc0 : ¬cond0_0 i) (hc1 : ¬cond0_1 i) (xs0 xs1 : Vec Ideal S2048x128 .f32) (xs2 : Vec Ideal S1x2048 .f32) (hs : Sums q k v o a b l (dot w o) (512 * (i 1).val) xs0 xs1 xs2) :
    (∀ (r : Fin 512) (d : Fin 128), out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 (ix2 r d) = ((dq sc q k v o a b l (dot w o) (512 * ((i 1).val + 1)) (512 * (i 1).val + r.val) d.val : ℝ) : EReal))
    ∧ (∀ r : Fin 512, out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 (ix3 0 r 0) = ((da sc q k v o a b l (dot w o) (512 * ((i 1).val + 1)) (512 * (i 1).val + r.val) : ℝ) : EReal))
    ∧ Sums q k v o a b l (dot w o) (512 * ((i 1).val + 1)) (sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2) (sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2) (sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2) := by
  have R := H.rows arg2 harg2 arg5 harg5 arg7 harg7 arg8 harg8 arg9 harg9
  have K := H.keys arg3 harg3 arg4 harg4 arg6 harg6
  have h15 : ∀ (s : Fin 2048) (d : Fin 128), arg15.view.read (Elt Ideal) (harg15.unread xs0) (ix2 s d) = ((dk sc q k v o a b l (dot w o) (512 * (i 1).val) s.val d.val : ℝ) : EReal) := fun s d => by
    rw [harg15.read_unread]; exact hs.dk s d
  have h16 : ∀ (s : Fin 2048) (d : Fin 128), arg16.view.read (Elt Ideal) (harg16.unread xs1) (ix2 s d) = ((dv sc q k o a b l (512 * (i 1).val) s.val d.val : ℝ) : EReal) := fun s d => by
    rw [harg16.read_unread]; exact hs.dv s d
  have h17 : ∀ s : Fin 2048, arg17.view.read (Elt Ideal) (harg17.unread xs2) (ix2 0 s) = ((db sc q k v o a b l (dot w o) (512 * (i 1).val) s.val : ℝ) : EReal) := fun s => by
    rw [harg17.read_unread]; exact hs.db s
  have hS := loop_inv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ R K h15 h16 h17 (i 1).val le_rfl
  obtain ⟨hdq, hda, hdk, hdv, hdb⟩ := body i arg3 arg4 arg6 arg15 arg16 arg17 _ _ _ _ _ _ _ _ _ _ _ R K _ hS
  refine ⟨fun r d => ?_, fun r => ?_, ⟨fun s d => ?_, fun s d => ?_, fun s => ?_⟩⟩
  · unfold out0_B_8
    unfold kernelRun0_B; dsimp only; sl_unfold_words; rw [trips1, trips2]; simp only [st_k0_t2, List.nil_append]
    refine (store_read VO0_8 _ _ hz2 _ _ _ _).trans ?_
    exact hdq r d
  · unfold out0_B_11
    unfold kernelRun0_B; dsimp only; sl_unfold_words; rw [trips1, trips2]; simp only [st_k0_t2, List.nil_append]
    refine (store_read VO0_11 _ _ hz3 _ _ _ _).trans ?_
    exact hda r
  · unfold sout0_B_0
    unfold kernelRun0_B; dsimp only; sl_unfold_words; rw [trips1, trips2]; simp only [st_k0_t2, List.nil_append]
    exact hdk s d
  · unfold sout0_B_1
    unfold kernelRun0_B; dsimp only; sl_unfold_words; rw [trips1, trips2]; simp only [st_k0_t2, List.nil_append]
    exact hdv s d
  · unfold sout0_B_2
    unfold kernelRun0_B; dsimp only; sl_unfold_words; rw [trips1, trips2]; simp only [st_k0_t2, List.nil_append]
    exact hdb s

theorem caseC (hc0 : ¬cond0_0 i) (hc1 : cond0_1 i) (xs0 xs1 : Vec Ideal S2048x128 .f32) (xs2 : Vec Ideal S1x2048 .f32) (hs : Sums q k v o a b l (dot w o) (512 * (i 1).val) xs0 xs1 xs2) :
    (∀ (r : Fin 512) (d : Fin 128), out0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 (ix2 r d) = ((dq sc q k v o a b l (dot w o) (512 * ((i 1).val + 1)) (512 * (i 1).val + r.val) d.val : ℝ) : EReal))
    ∧ (∀ r : Fin 512, out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 (ix3 0 r 0) = ((da sc q k v o a b l (dot w o) (512 * ((i 1).val + 1)) (512 * (i 1).val + r.val) : ℝ) : EReal))
    ∧ Sums q k v o a b l (dot w o) (512 * ((i 1).val + 1)) (sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2) (sout0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2) (sout0_C_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2)
    ∧ (∀ (s : Fin 2048) (d : Fin 128), out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 (ix2 s d) = ((dk sc q k v o a b l (dot w o) (512 * ((i 1).val + 1)) s.val d.val : ℝ) : EReal))
    ∧ (∀ (s : Fin 2048) (d : Fin 128), out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 (ix2 s d) = ((dv sc q k o a b l (512 * ((i 1).val + 1)) s.val d.val : ℝ) : EReal))
    ∧ (∀ s : Fin 2048, out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 (ix3 0 0 s) = ((db sc q k v o a b l (dot w o) (512 * ((i 1).val + 1)) s.val : ℝ) : EReal)) := by
  have R := H.rows arg2 harg2 arg5 harg5 arg7 harg7 arg8 harg8 arg9 harg9
  have K := H.keys arg3 harg3 arg4 harg4 arg6 harg6
  have h15 : ∀ (s : Fin 2048) (d : Fin 128), arg15.view.read (Elt Ideal) (harg15.unread xs0) (ix2 s d) = ((dk sc q k v o a b l (dot w o) (512 * (i 1).val) s.val d.val : ℝ) : EReal) := fun s d => by
    rw [harg15.read_unread]; exact hs.dk s d
  have h16 : ∀ (s : Fin 2048) (d : Fin 128), arg16.view.read (Elt Ideal) (harg16.unread xs1) (ix2 s d) = ((dv sc q k o a b l (512 * (i 1).val) s.val d.val : ℝ) : EReal) := fun s d => by
    rw [harg16.read_unread]; exact hs.dv s d
  have h17 : ∀ s : Fin 2048, arg17.view.read (Elt Ideal) (harg17.unread xs2) (ix2 0 s) = ((db sc q k v o a b l (dot w o) (512 * (i 1).val) s.val : ℝ) : EReal) := fun s => by
    rw [harg17.read_unread]; exact hs.db s
  have hS := loop_inv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ R K h15 h16 h17 (i 1).val le_rfl
  obtain ⟨hdq, hda, hdk, hdv, hdb⟩ := body i arg3 arg4 arg6 arg15 arg16 arg17 _ _ _ _ _ _ _ _ _ _ _ R K _ hS
  refine ⟨fun r d => ?_, fun r => ?_, ⟨fun s d => ?_, fun s d => ?_, fun s => ?_⟩, fun s d => ?_, fun s d => ?_, fun s => ?_⟩
  · unfold out0_C_8
    unfold kernelRun0_C; dsimp only; sl_unfold_words; rw [trips1, trips2]; simp only [st_k0_t2, List.nil_append]
    refine (store_read VO0_8 _ _ hz2 _ _ _ _).trans ?_
    exact hdq r d
  · unfold out0_C_11
    unfold kernelRun0_C; dsimp only; sl_unfold_words; rw [trips1, trips2]; simp only [st_k0_t2, List.nil_append]
    refine (store_read VO0_11 _ _ hz3 _ _ _ _).trans ?_
    exact hda r
  · unfold sout0_C_0
    unfold kernelRun0_C; dsimp only; sl_unfold_words; rw [trips1, trips2]; simp only [st_k0_t2, List.nil_append]
    exact hdk s d
  · unfold sout0_C_1
    unfold kernelRun0_C; dsimp only; sl_unfold_words; rw [trips1, trips2]; simp only [st_k0_t2, List.nil_append]
    exact hdv s d
  · unfold sout0_C_2
    unfold kernelRun0_C; dsimp only; sl_unfold_words; rw [trips1, trips2]; simp only [st_k0_t2, List.nil_append]
    exact hdb s
  · unfold out0_C_9
    unfold kernelRun0_C; dsimp only; sl_unfold_words; rw [trips1, trips2]; simp only [st_k0_t2, List.nil_append]
    refine (store_read VO0_9 _ _ hz2 _ _ _ _).trans ?_
    refine (congrFun (whole_read arg15.view _ inb_S2048x128_S2048x128_0_0 hz2 _) (ix2 s d)).trans ?_
    exact hdk s d
  · unfold out0_C_10
    unfold kernelRun0_C; dsimp only; sl_unfold_words; rw [trips1, trips2]; simp only [st_k0_t2, List.nil_append]
    refine (store_read VO0_10 _ _ hz2 _ _ _ _).trans ?_
    refine (congrFun (whole_read arg16.view _ inb_S2048x128_S2048x128_0_0 hz2 _) (ix2 s d)).trans ?_
    exact hdv s d
  · unfold out0_C_12
    unfold kernelRun0_C; dsimp only; sl_unfold_words; rw [trips1, trips2]; simp only [st_k0_t2, List.nil_append]
    refine (store_read VO0_12 _ _ hz3 _ _ _ _).trans ?_
    refine (k0_pay8_eq _ s).trans ?_
    refine (congrFun (whole_read arg17.view _ inb_S1x2048_S1x2048_0_0 hz2 _) (ix2 0 s)).trans ?_
    exact hdb s

end Body

end Cert.Kernel19Ideal.Tile

end
-- ==== Proof.Fox.Blocks.lean ====
/-
  The blocks the kernel reads at a grid point, as arrays of one head: 512 queries, saved outputs, output cotangents, gate values and
  logarithms of the query tile, and all the head's keys, values and gate values.
-/
module

public import proofs.«01_k».proof.Proof.Fox.Host
public import proofs.«01_k».proof.Proof.Fox.Case

@[expose] public section

set_option maxRecDepth 16384

noncomputable section

namespace Cert.Kernel19Ideal.Fox

open Cert.Kernel19Ideal Cert.Kernel19Ideal.Gen Cert.Fox
open Cert.Stick (head_eq)
open Idealize.ShloMosaic Idealize.ShloMosaic.TcCoe Idealize.ShloMosaic.ValueIdx Idealize.SL.Sem Idealize.ShloMosaic.StableHlo
open Cert.Reference19Ideal.Fox (Q K W O A B L out_eq)
open Cert.KernelIdeal.Tile (sc)
open Cert.Kernel19Ideal.Tile (Ins)

theorem idx0 : ∀ t : Fin grid0.N, win0_0.index t (0 : Fin 2) = t.val % 4 ∧ win0_0.index t (1 : Fin 2) = 24 + t.val / 4 := by decide +kernel
theorem idx1 : ∀ t : Fin grid0.N, win0_1.index t (0 : Fin 2) = 0 ∧ win0_1.index t (1 : Fin 2) = 32 + t.val / 4 := by decide +kernel
theorem idx2 : ∀ t : Fin grid0.N, win0_2.index t (0 : Fin 2) = 0 ∧ win0_2.index t (1 : Fin 2) = 40 + t.val / 4 := by decide +kernel
theorem idx3 : ∀ t : Fin grid0.N, win0_3.index t (0 : Fin 3) = t.val / 4 ∧ win0_3.index t (1 : Fin 3) = t.val % 4 ∧ win0_3.index t (2 : Fin 3) = 0 := by decide +kernel
theorem idx4 : ∀ t : Fin grid0.N, win0_4.index t (0 : Fin 3) = t.val / 4 ∧ win0_4.index t (1 : Fin 3) = 0 ∧ win0_4.index t (2 : Fin 3) = 0 := by decide +kernel
theorem idx5 : ∀ t : Fin grid0.N, win0_5.index t (0 : Fin 2) = t.val % 4 ∧ win0_5.index t (1 : Fin 2) = t.val / 4 := by decide +kernel
theorem idx6 : ∀ t : Fin grid0.N, win0_6.index t (0 : Fin 2) = t.val % 4 ∧ win0_6.index t (1 : Fin 2) = t.val / 4 := by decide +kernel
theorem idx7 : ∀ t : Fin grid0.N, win0_7.index t (0 : Fin 3) = t.val / 4 ∧ win0_7.index t (1 : Fin 3) = t.val % 4 ∧ win0_7.index t (2 : Fin 3) = 0 := by decide +kernel
theorem coord1 (t : Fin cfg0.N) : (grid0.coords t 1).val = t.val % 4 := by
  have e1 : (grid0.coords t 1).val = t.val / 1 % 4 := Pipeline.Grid.coords_val t 1 (by decide) rfl
  omega

variable (m : (ℓ : Loc nD τ sig) → Buf (Elt Ideal) ℓ) (c : Dev nD)
variable (a : Arg) (b1 : ColGate) (b2 : RowGate) (b3 : FVec Ideal S2048x1024 .bf16)

/-- The arguments hold these arrays of reals. -/
structure Holds : Prop where
  a0 : m ((c : Thread nD τ).loc main_arg0) = a
  a1 : m ((c : Thread nD τ).loc main_arg1) = b1
  a2 : m ((c : Thread nD τ).loc main_arg2) = b2
  a3 : m ((c : Thread nD τ).loc main_arg3) = b3
  r0 : ∀ i, a i = ((EReal.toReal (a i) : ℝ) : EReal)
  r1 : ∀ i, b1 i = ((EReal.toReal (b1 i) : ℝ) : EReal)
  r2 : ∀ i, b2 i = ((EReal.toReal (b2 i) : ℝ) : EReal)
  r3 : ∀ i, b3 i = ((EReal.toReal (b3 i) : ℝ) : EReal)

/-- The head's output. -/
abbrev Out (h : ℕ) : ℕ → ℕ → ℝ := out sc (Q a h) (K a h) (W a h) (A b1 h) (B b2 h)

variable (H : Holds m c a b1 b2 b3) (t : Fin cfg0.N)
include H

theorem block0 (r : Fin 512) (d : Fin 128) :
    (iblk m c 0 t : S512x128.Idx → EReal) (ix2 r d) = ((Q a (t.val / 4) (512 * (grid0.coords t 1).val + r.val) d.val : ℝ) : EReal) := by
  unfold iblk
  rw [View.read_apply]
  show V m c main_arg0 _ = _
  rw [V_main_arg0, H.a0, coord1]
  refine head_eq (n := 6144) a H.r0 _ ?_ ?_
  · show win0_0.index t (0 : Fin 2) * 512 + 1 * r.val = _
    rw [(idx0 t).1]; omega
  · show win0_0.index t (1 : Fin 2) * 128 + 1 * d.val = _
    rw [(idx0 t).2]; omega

theorem block1 (s : Fin 2048) (d : Fin 128) :
    (iblk m c 1 t : S2048x128.Idx → EReal) (ix2 s d) = ((K a (t.val / 4) s.val d.val : ℝ) : EReal) := by
  unfold iblk
  rw [View.read_apply]
  show V m c main_arg0 _ = _
  rw [V_main_arg0, H.a0]
  refine head_eq (n := 6144) a H.r0 _ ?_ ?_
  · show win0_1.index t (0 : Fin 2) * 2048 + 1 * s.val = _
    rw [(idx1 t).1]; omega
  · show win0_1.index t (1 : Fin 2) * 128 + 1 * d.val = _
    rw [(idx1 t).2]; omega

theorem block2 (s : Fin 2048) (d : Fin 128) :
    (iblk m c 2 t : S2048x128.Idx → EReal) (ix2 s d) = ((W a (t.val / 4) s.val d.val : ℝ) : EReal) := by
  unfold iblk
  rw [View.read_apply]
  show V m c main_arg0 _ = _
  rw [V_main_arg0, H.a0]
  refine head_eq (n := 6144) a H.r0 _ ?_ ?_
  · show win0_2.index t (0 : Fin 2) * 2048 + 1 * s.val = _
    rw [(idx2 t).1]; omega
  · show win0_2.index t (1 : Fin 2) * 128 + 1 * d.val = _
    rw [(idx2 t).2]; omega

theorem block3 (r : Fin 512) :
    (iblk m c 3 t : S1x512x1.Idx → EReal) (ix3 0 r 0) = ((A b1 (t.val / 4) (512 * (grid0.coords t 1).val + r.val) : ℝ) : EReal) := by
  unfold iblk
  rw [View.read_apply]
  show V m c main_arg1 _ = _
  rw [V_main_arg1, H.a1, coord1]
  refine colGate_eq b1 H.r1 _ ?_ ?_
  · show win0_3.index t (0 : Fin 3) * 1 + 1 * 0 = _
    rw [(idx3 t).1]; omega
  · show win0_3.index t (1 : Fin 3) * 512 + 1 * r.val = _
    rw [(idx3 t).2.1]; omega

theorem block4 (s : Fin 2048) :
    (iblk m c 4 t : S1x1x2048.Idx → EReal) (ix3 0 0 s) = ((B b2 (t.val / 4) s.val : ℝ) : EReal) := by
  unfold iblk
  rw [View.read_apply]
  show V m c main_arg2 _ = _
  rw [V_main_arg2, H.a2]
  refine rowGate_eq b2 H.r2 _ ?_ ?_
  · show win0_4.index t (0 : Fin 3) * 1 + 1 * 0 = _
    rw [(idx4 t).1]; omega
  · show win0_4.index t (2 : Fin 3) * 2048 + 1 * s.val = _
    rw [(idx4 t).2.2]; omega

theorem block5 (r : Fin 512) (d : Fin 128) :
    (iblk m c 5 t : S512x128.Idx → EReal) (ix2 r d) = ((Out a b1 b2 (t.val / 4) (512 * (grid0.coords t 1).val + r.val) d.val : ℝ) : EReal) := by
  have ht : t.val < 32 := Nat.lt_of_lt_of_eq t.isLt N_0
  have hr := r.isLt
  have hV := V_out m c a H.a0 b1 H.a1 b2 H.a2
  unfold iblk
  revert hV
  generalize V m c = g
  intro hV
  rw [View.read_apply]
  refine (cast_eq _ _).trans ((congrFun hV _).trans ?_)
  rw [coord1]
  refine out_eq a b1 b2 H.r0 H.r1 H.r2 ⟨t.val / 4, by omega⟩ ⟨512 * (t.val % 4) + r.val, by omega⟩ d _ ?_ ?_
  · show win0_5.index t (0 : Fin 2) * 512 + 1 * r.val = 512 * (t.val % 4) + r.val
    rw [(idx5 t).1]; omega
  · show win0_5.index t (1 : Fin 2) * 128 + 1 * d.val = 128 * (t.val / 4) + d.val
    rw [(idx5 t).2]; omega

theorem block6 (r : Fin 512) (d : Fin 128) :
    (iblk m c 6 t : S512x128.Idx → EReal) (ix2 r d) = ((O b3 (t.val / 4) (512 * (grid0.coords t 1).val + r.val) d.val : ℝ) : EReal) := by
  unfold iblk
  rw [View.read_apply]
  show V m c main_arg3 _ = _
  rw [V_main_arg3, H.a3, coord1]
  refine head_eq (n := 1024) b3 H.r3 _ ?_ ?_
  · show win0_6.index t (0 : Fin 2) * 512 + 1 * r.val = _
    rw [(idx6 t).1]; omega
  · show win0_6.index t (1 : Fin 2) * 128 + 1 * d.val = _
    rw [(idx6 t).2]; omega

theorem block7 (r : Fin 512) :
    (iblk m c 7 t : S1x512x1.Idx → EReal) (ix3 0 r 0) = ((L a b1 b2 (t.val / 4) (512 * (grid0.coords t 1).val + r.val) : ℝ) : EReal) := by
  have ht : t.val < 32 := Nat.lt_of_lt_of_eq t.isLt N_0
  have hr := r.isLt
  have hV := V_log m c a H.a0 b1 H.a1 b2 H.a2
  unfold iblk
  revert hV
  generalize V m c = g
  intro hV
  rw [View.read_apply]
  refine (cast_eq _ _).trans ((congrFun hV _).trans ?_)
  rw [coord1]
  refine Eq.trans (congrArg _ (funext fun x => Fin.ext ?_)) (log_at a b1 b2 H.r0 H.r1 H.r2 ⟨t.val / 4, by omega⟩ ⟨512 * (t.val % 4) + r.val, by omega⟩)
  match x with
  | ⟨0, _⟩ => show win0_7.index t (0 : Fin 3) * 1 + 1 * 0 = t.val / 4; rw [(idx7 t).1]; omega
  | ⟨1, _⟩ => show win0_7.index t (1 : Fin 3) * 512 + 1 * r.val = 512 * (t.val % 4) + r.val; rw [(idx7 t).2.1]; omega
  | ⟨2, _⟩ => show win0_7.index t (2 : Fin 3) * 1 + 1 * 0 = 0; rw [(idx7 t).2.2]

/-- All eight. -/
theorem blocks : Ins (Q a (t.val / 4)) (K a (t.val / 4)) (W a (t.val / 4)) (O b3 (t.val / 4)) (Out a b1 b2 (t.val / 4)) (A b1 (t.val / 4)) (B b2 (t.val / 4))
    (L a b1 b2 (t.val / 4)) (grid0.coords t 1).val (iblk m c 0 t) (iblk m c 1 t) (iblk m c 2 t) (iblk m c 3 t) (iblk m c 4 t) (iblk m c 5 t) (iblk m c 6 t) (iblk m c 7 t) :=
  ⟨block0 m c a b1 b2 b3 H t, block1 m c a b1 b2 b3 H t, block2 m c a b1 b2 b3 H t, block3 m c a b1 b2 b3 H t, block4 m c a b1 b2 b3 H t,
    block5 m c a b1 b2 b3 H t, block6 m c a b1 b2 b3 H t, block7 m c a b1 b2 b3 H t⟩

end Cert.Kernel19Ideal.Fox
-- ==== Proof.Fox.Point.lean ====
/-
  Point by point over the grid: what the blocks and the accumulators hold after each point, by induction along a head's four query
  tiles.
-/
module

public import proofs.«01_k».proof.Proof.Fox.Blocks

@[expose] public section

set_option maxRecDepth 16384

noncomputable section

namespace Cert.Kernel19Ideal.Fox

open Cert.Kernel19Ideal Cert.Kernel19Ideal.Gen Cert.Fox
open Idealize.ShloMosaic Idealize.ShloMosaic.TcCoe Idealize.ShloMosaic.ValueIdx Idealize.SL.Sem Idealize.ShloMosaic.StableHlo
open Cert.Reference19Ideal.Fox (Q K W O A B L)
open Cert.KernelIdeal.Tile (sc)
open Cert.Kernel19Ideal.Tile (Sums dot caseA caseB caseC)

section
variable {q k v o : ℕ → ℕ → ℝ} {a b l δ : ℕ → ℝ} {I J : ℕ} {y0 y1 : Vec Ideal S2048x128 .f32} {y2 : Vec Ideal S1x2048 .f32}

theorem moved (e : I = J) (S : Sums q k v o a b l δ (512 * (I + 1)) y0 y1 y2) : Sums q k v o a b l δ (512 * (J + 1)) y0 y1 y2 := e ▸ S
theorem moved' (e : I = J) (S : Sums q k v o a b l δ (512 * I) y0 y1 y2) : Sums q k v o a b l δ (512 * J) y0 y1 y2 := e ▸ S
end

variable (m : (ℓ : Loc nD τ sig) → Buf (Elt Ideal) ℓ) (c : Dev nD)
variable (a : Arg) (b1 : ColGate) (b2 : RowGate) (b3 : FVec Ideal S2048x1024 .bf16)

/-- Each row's inner product of the head's output and its cotangent. -/
abbrev Δ (h : ℕ) : ℕ → ℝ := dot (Out a b1 b2 h) (O b3 h)

/-- The gradients of head `h`, over the first `n` keys or query rows. -/
abbrev DQ (h n : ℕ) : ℕ → ℕ → ℝ := dq sc (Q a h) (K a h) (W a h) (O b3 h) (A b1 h) (B b2 h) (L a b1 b2 h) (Δ a b1 b2 b3 h) n
abbrev DK (h n : ℕ) : ℕ → ℕ → ℝ := dk sc (Q a h) (K a h) (W a h) (O b3 h) (A b1 h) (B b2 h) (L a b1 b2 h) (Δ a b1 b2 b3 h) n
abbrev DV (h n : ℕ) : ℕ → ℕ → ℝ := dv sc (Q a h) (K a h) (O b3 h) (A b1 h) (B b2 h) (L a b1 b2 h) n
abbrev DA (h n : ℕ) : ℕ → ℝ := da sc (Q a h) (K a h) (W a h) (O b3 h) (A b1 h) (B b2 h) (L a b1 b2 h) (Δ a b1 b2 b3 h) n
abbrev DB (h n : ℕ) : ℕ → ℝ := db sc (Q a h) (K a h) (W a h) (O b3 h) (A b1 h) (B b2 h) (L a b1 b2 h) (Δ a b1 b2 b3 h) n

/-- After point `n`. -/
def After (n : ℕ) (hn : n < cfg0.N) : Prop :=
  (∀ (r : Fin 512) (d : Fin 128), (outsAt0 m c n hn).1 (ix2 r d) = ((DQ a b1 b2 b3 (n / 4) (512 * (n % 4 + 1)) (512 * (n % 4) + r.val) d.val : ℝ) : EReal))
  ∧ (∀ r : Fin 512, (outsAt0 m c n hn).2.2.2.1 (ix3 0 r 0) = ((DA a b1 b2 b3 (n / 4) (512 * (n % 4 + 1)) (512 * (n % 4) + r.val) : ℝ) : EReal))
  ∧ Sums (Q a (n / 4)) (K a (n / 4)) (W a (n / 4)) (O b3 (n / 4)) (A b1 (n / 4)) (B b2 (n / 4)) (L a b1 b2 (n / 4)) (Δ a b1 b2 b3 (n / 4)) (512 * (n % 4 + 1))
      (outsAt0 m c n hn).2.2.2.2.2.1 (outsAt0 m c n hn).2.2.2.2.2.2.1 (outsAt0 m c n hn).2.2.2.2.2.2.2
  ∧ (n % 4 = 3 → (∀ (s : Fin 2048) (d : Fin 128), (outsAt0 m c n hn).2.1 (ix2 s d) = ((DK a b1 b2 b3 (n / 4) (512 * (n % 4 + 1)) s.val d.val : ℝ) : EReal))
    ∧ (∀ (s : Fin 2048) (d : Fin 128), (outsAt0 m c n hn).2.2.1 (ix2 s d) = ((DV a b1 b2 b3 (n / 4) (512 * (n % 4 + 1)) s.val d.val : ℝ) : EReal))
    ∧ ∀ s : Fin 2048, (outsAt0 m c n hn).2.2.2.2.1 (ix3 0 0 s) = ((DB a b1 b2 b3 (n / 4) (512 * (n % 4 + 1)) s.val : ℝ) : EReal))

variable (H : Holds m c a b1 b2 b3)
include H

theorem after_first (t : Fin cfg0.N) (e0 : t.val % 4 = 0) : After m c a b1 b2 b3 t.val t.isLt := by
  have e1 : ¬t.val % 4 = 3 := by omega
  unfold After
  rw [outsAt0_A m c t e0 e1]
  dsimp only
  have hc := caseA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (blocks m c a b1 b2 b3 H t) ((hcond0_0 t).mpr e0) (fun h => e1 ((hcond0_1 t).mp h)) ((coord1 t).trans e0)
  refine ⟨fun r d => Eq.trans ?_ ((hc.1 r d).trans (congrArg (fun n : ℕ => ((DQ a b1 b2 b3 (t.val / 4) (512 * (n + 1)) (512 * n + r.val) d.val : ℝ) : EReal)) (coord1 t))),
    fun r => Eq.trans ?_ ((hc.2.1 r).trans (congrArg (fun n : ℕ => ((DA a b1 b2 b3 (t.val / 4) (512 * (n + 1)) (512 * n + r.val) : ℝ) : EReal)) (coord1 t))),
    moved (coord1 t) hc.2.2,
    fun h => absurd h e1⟩ <;> with_reducible rfl

/-- The accumulators a point finds are those the one before it left. -/
theorem left (t : Fin cfg0.N) (e0 : ¬t.val % 4 = 0) (ih : After m c a b1 b2 b3 (t.val - 1) (Nat.lt_of_le_of_lt (Nat.sub_le _ _) t.isLt)) :
    Sums (Q a (t.val / 4)) (K a (t.val / 4)) (W a (t.val / 4)) (O b3 (t.val / 4)) (A b1 (t.val / 4)) (B b2 (t.val / 4)) (L a b1 b2 (t.val / 4)) (Δ a b1 b2 b3 (t.val / 4)) (512 * (grid0.coords t 1).val)
      (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  have q4 : (t.val - 1) / 4 = t.val / 4 := by omega
  have r4 : (t.val - 1) % 4 + 1 = t.val % 4 := by omega
  have h := ih.2.2.1
  rw [q4, r4] at h
  exact moved' (coord1 t).symm h

theorem after_middle (t : Fin cfg0.N) (e0 : ¬t.val % 4 = 0) (e1 : ¬t.val % 4 = 3)
    (ih : After m c a b1 b2 b3 (t.val - 1) (Nat.lt_of_le_of_lt (Nat.sub_le _ _) t.isLt)) : After m c a b1 b2 b3 t.val t.isLt := by
  have hs := left m c a b1 b2 b3 H t e0 ih
  unfold After
  rw [outsAt0_B m c t e0 e1]
  dsimp only
  have hc := caseB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (blocks m c a b1 b2 b3 H t) (fun h => e0 ((hcond0_0 t).mp h)) (fun h => e1 ((hcond0_1 t).mp h)) _ _ _ hs
  refine ⟨fun r d => Eq.trans ?_ ((hc.1 r d).trans (congrArg (fun n : ℕ => ((DQ a b1 b2 b3 (t.val / 4) (512 * (n + 1)) (512 * n + r.val) d.val : ℝ) : EReal)) (coord1 t))),
    fun r => Eq.trans ?_ ((hc.2.1 r).trans (congrArg (fun n : ℕ => ((DA a b1 b2 b3 (t.val / 4) (512 * (n + 1)) (512 * n + r.val) : ℝ) : EReal)) (coord1 t))),
    moved (coord1 t) hc.2.2,
    fun h => absurd h e1⟩ <;> with_reducible rfl

theorem after_last (t : Fin cfg0.N) (e1 : t.val % 4 = 3)
    (ih : After m c a b1 b2 b3 (t.val - 1) (Nat.lt_of_le_of_lt (Nat.sub_le _ _) t.isLt)) : After m c a b1 b2 b3 t.val t.isLt := by
  have e0 : ¬t.val % 4 = 0 := by omega
  have hs := left m c a b1 b2 b3 H t e0 ih
  unfold After
  rw [outsAt0_C m c t e0 e1]
  dsimp only
  have hc := caseC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (blocks m c a b1 b2 b3 H t) (fun h => e0 ((hcond0_0 t).mp h)) ((hcond0_1 t).mpr e1) _ _ _ hs
  refine ⟨fun r d => Eq.trans ?_ ((hc.1 r d).trans (congrArg (fun n : ℕ => ((DQ a b1 b2 b3 (t.val / 4) (512 * (n + 1)) (512 * n + r.val) d.val : ℝ) : EReal)) (coord1 t))),
    fun r => Eq.trans ?_ ((hc.2.1 r).trans (congrArg (fun n : ℕ => ((DA a b1 b2 b3 (t.val / 4) (512 * (n + 1)) (512 * n + r.val) : ℝ) : EReal)) (coord1 t))),
    moved (coord1 t) hc.2.2.1,
    fun _ => ⟨fun s d => Eq.trans ?_ ((hc.2.2.2.1 s d).trans (congrArg (fun n : ℕ => ((DK a b1 b2 b3 (t.val / 4) (512 * (n + 1)) s.val d.val : ℝ) : EReal)) (coord1 t))), fun s d => Eq.trans ?_ ((hc.2.2.2.2.1 s d).trans (congrArg (fun n : ℕ => ((DV a b1 b2 b3 (t.val / 4) (512 * (n + 1)) s.val d.val : ℝ) : EReal)) (coord1 t))),
      fun s => Eq.trans ?_ ((hc.2.2.2.2.2 s).trans (congrArg (fun n : ℕ => ((DB a b1 b2 b3 (t.val / 4) (512 * (n + 1)) s.val : ℝ) : EReal)) (coord1 t)))⟩⟩ <;> with_reducible rfl

theorem after_all : ∀ (n : ℕ) (hn : n < cfg0.N), After m c a b1 b2 b3 n hn
  | 0, hn => after_first m c a b1 b2 b3 H ⟨0, hn⟩ rfl
  | n + 1, hn => by
    by_cases e0 : (n + 1) % 4 = 0
    · exact after_first m c a b1 b2 b3 H ⟨n + 1, hn⟩ e0
    · by_cases e1 : (n + 1) % 4 = 3
      · exact after_last m c a b1 b2 b3 H ⟨n + 1, hn⟩ e1 (after_all n (Nat.lt_of_succ_lt hn))
      · exact after_middle m c a b1 b2 b3 H ⟨n + 1, hn⟩ e0 e1 (after_all n (Nat.lt_of_succ_lt hn))

end Cert.Kernel19Ideal.Fox
-- ==== Proof.Fox.Arrays.lean ====
/-
  The five gradient arrays the kernel leaves, at an index.
-/
module

public import proofs.«01_k».proof.Proof.Fox.Point

@[expose] public section

noncomputable section

namespace Cert.Kernel19Ideal.Fox

open Cert.Kernel19Ideal Cert.Kernel19Ideal.Gen Cert.Kernel19Ideal.Value Cert.Fox
open Idealize.ShloMosaic Idealize.ShloMosaic.TcCoe Idealize.ShloMosaic.ValueIdx Idealize.SL.Sem Idealize.ShloMosaic.StableHlo
open Cert.Reference19Ideal.Fox (Q K W O A B L D)
open Cert.KernelIdeal.Tile (sc)
open Cert.Kernel19Ideal.Tile (dot)

section
variable (a : Arg) (b1 : ColGate) (b2 : RowGate) (b3 : FVec Ideal S2048x1024 .bf16)

/-- A query takes no part of a key after it, so the sums over the keys of the tiles up to its own are the whole sums. -/
theorem DQ_whole (h n t d : ℕ) (ht : t < n) (hn : n ≤ 2048) : DQ a b1 b2 b3 h n t d = DQ a b1 b2 b3 h 2048 t d := by
  refine Finset.sum_subset (fun x hx => Finset.mem_range.mpr ((Finset.mem_range.mp hx).trans_le hn)) fun s _ hs => ?_
  rw [ds_of_lt (by have := mt Finset.mem_range.mpr hs; omega), zero_mul, zero_mul]

theorem DA_whole (h n t : ℕ) (ht : t < n) (hn : n ≤ 2048) : DA a b1 b2 b3 h n t = DA a b1 b2 b3 h 2048 t := by
  refine Finset.sum_subset (fun x hx => Finset.mem_range.mpr ((Finset.mem_range.mp hx).trans_le hn)) fun s _ hs => ?_
  exact ds_of_lt (by have := mt Finset.mem_range.mpr hs; omega)

/-- The rows' inner products are the averages the reference takes. -/
theorem Δ_eq (h : ℕ) : Δ a b1 b2 b3 h = D a b1 b2 b3 h := funext fun t =>
  (Fin.sum_univ_eq_sum_range (fun d => O b3 h t d * Out a b1 b2 h t d) 128).trans (dl_eq t)
end

variable (m : (ℓ : Loc nD τ sig) → Buf (Elt Ideal) ℓ) (c : Dev nD)
variable (a : Arg) (b1 : ColGate) (b2 : RowGate) (b3 : FVec Ideal S2048x1024 .bf16)
variable (H : Holds m c a b1 b2 b3)
include H

theorem G8_at (i : S2048x1024.Idx) :
    (G8 m c : S2048x1024.Idx → EReal) i = ((DQ a b1 b2 b3 ((i 1).val / 128) 2048 (i 0).val ((i 1).val % 128) : ℝ) : EReal) := by
  have b0 : (i 0).val < 2048 := (i 0).isLt
  have b1' : (i 1).val < 1024 := (i 1).isLt
  have hp : pt8Of i < cfg0.N := Nat.lt_of_lt_of_eq (show 1 * ((i 0).val / 512 - 0) + 4 * ((i 1).val / 128 - 0) < 32 by omega) N_0.symm
  have q4 : pt8Of i / 4 = (i 1).val / 128 := by show (1 * ((i 0).val / 512 - 0) + 4 * ((i 1).val / 128 - 0)) / 4 = _; omega
  have r4 : pt8Of i % 4 = (i 0).val / 512 := by show (1 * ((i 0).val / 512 - 0) + 4 * ((i 1).val / 128 - 0)) % 4 = _; omega
  have hA := (after_all m c a b1 b2 b3 H (pt8Of i) hp).1 ⟨(i 0).val % 512, Nat.mod_lt _ (by decide)⟩ ⟨(i 1).val % 128, Nat.mod_lt _ (by decide)⟩
  rw [q4, r4, outsAt0_sweep] at hA
  unfold G8
  rw [dif_pos hp]
  refine Eq.trans ?_ (hA.trans ?_)
  · exact congrArg _ (funext fun x => match x with | ⟨0, _⟩ => rfl | ⟨1, _⟩ => rfl)
  · show ((DQ a b1 b2 b3 ((i 1).val / 128) (512 * ((i 0).val / 512 + 1)) (512 * ((i 0).val / 512) + (i 0).val % 512) ((i 1).val % 128) : ℝ) : EReal) = _
    rw [Nat.div_add_mod, DQ_whole a b1 b2 b3 _ _ _ _ (by omega) (by omega)]

theorem G9_at (i : S2048x1024.Idx) :
    (G9 m c : S2048x1024.Idx → EReal) i = ((DK a b1 b2 b3 ((i 1).val / 128) 2048 (i 0).val ((i 1).val % 128) : ℝ) : EReal) := by
  have b0 : (i 0).val < 2048 := (i 0).isLt
  have b1' : (i 1).val < 1024 := (i 1).isLt
  have hp : pt9Of i < cfg0.N := Nat.lt_of_lt_of_eq (show 4 * (8 * ((i 0).val / 2048 - 0) + 1 * ((i 1).val / 128 - 0)) + 3 < 32 by omega) N_0.symm
  have q4 : pt9Of i / 4 = (i 1).val / 128 := by show (4 * (8 * ((i 0).val / 2048 - 0) + 1 * ((i 1).val / 128 - 0)) + 3) / 4 = _; omega
  have r4 : pt9Of i % 4 = 3 := by show (4 * (8 * ((i 0).val / 2048 - 0) + 1 * ((i 1).val / 128 - 0)) + 3) % 4 = _; omega
  have hA := ((after_all m c a b1 b2 b3 H (pt9Of i) hp).2.2.2 r4).1 ⟨(i 0).val % 2048, Nat.mod_lt _ (by decide)⟩ ⟨(i 1).val % 128, Nat.mod_lt _ (by decide)⟩
  rw [q4, r4, outsAt0_sweep] at hA
  unfold G9
  rw [dif_pos hp]
  refine Eq.trans ?_ (hA.trans ?_)
  · exact congrArg _ (funext fun x => match x with | ⟨0, _⟩ => rfl | ⟨1, _⟩ => rfl)
  · show ((DK a b1 b2 b3 ((i 1).val / 128) 2048 ((i 0).val % 2048) ((i 1).val % 128) : ℝ) : EReal) = _
    rw [Nat.mod_eq_of_lt b0]

theorem G10_at (i : S2048x1024.Idx) :
    (G10 m c : S2048x1024.Idx → EReal) i = ((DV a b1 b2 b3 ((i 1).val / 128) 2048 (i 0).val ((i 1).val % 128) : ℝ) : EReal) := by
  have b0 : (i 0).val < 2048 := (i 0).isLt
  have b1' : (i 1).val < 1024 := (i 1).isLt
  have hp : pt10Of i < cfg0.N := Nat.lt_of_lt_of_eq (show 4 * (8 * ((i 0).val / 2048 - 0) + 1 * ((i 1).val / 128 - 0)) + 3 < 32 by omega) N_0.symm
  have q4 : pt10Of i / 4 = (i 1).val / 128 := by show (4 * (8 * ((i 0).val / 2048 - 0) + 1 * ((i 1).val / 128 - 0)) + 3) / 4 = _; omega
  have r4 : pt10Of i % 4 = 3 := by show (4 * (8 * ((i 0).val / 2048 - 0) + 1 * ((i 1).val / 128 - 0)) + 3) % 4 = _; omega
  have hA := ((after_all m c a b1 b2 b3 H (pt10Of i) hp).2.2.2 r4).2.1 ⟨(i 0).val % 2048, Nat.mod_lt _ (by decide)⟩ ⟨(i 1).val % 128, Nat.mod_lt _ (by decide)⟩
  rw [q4, r4, outsAt0_sweep] at hA
  unfold G10
  rw [dif_pos hp]
  refine Eq.trans ?_ (hA.trans ?_)
  · exact congrArg _ (funext fun x => match x with | ⟨0, _⟩ => rfl | ⟨1, _⟩ => rfl)
  · show ((DV a b1 b2 b3 ((i 1).val / 128) 2048 ((i 0).val % 2048) ((i 1).val % 128) : ℝ) : EReal) = _
    rw [Nat.mod_eq_of_lt b0]

theorem G11_at (i : S8x2048x1.Idx) :
    (G11 m c : S8x2048x1.Idx → EReal) i = ((DA a b1 b2 b3 (i 0).val 2048 (i 1).val : ℝ) : EReal) := by
  have b0 : (i 0).val < 8 := (i 0).isLt
  have b1' : (i 1).val < 2048 := (i 1).isLt
  have b2' : (i 2).val < 1 := (i 2).isLt
  have hp : pt11Of i < cfg0.N := Nat.lt_of_lt_of_eq (show 4 * ((i 0).val / 1 - 0) + 1 * ((i 1).val / 512 - 0) + 1 * ((i 2).val / 1 - 0) < 32 by omega) N_0.symm
  have q4 : pt11Of i / 4 = (i 0).val := by show (4 * ((i 0).val / 1 - 0) + 1 * ((i 1).val / 512 - 0) + 1 * ((i 2).val / 1 - 0)) / 4 = _; omega
  have r4 : pt11Of i % 4 = (i 1).val / 512 := by show (4 * ((i 0).val / 1 - 0) + 1 * ((i 1).val / 512 - 0) + 1 * ((i 2).val / 1 - 0)) % 4 = _; omega
  have hA := (after_all m c a b1 b2 b3 H (pt11Of i) hp).2.1 ⟨(i 1).val % 512, Nat.mod_lt _ (by decide)⟩
  rw [q4, r4, outsAt0_sweep] at hA
  unfold G11
  rw [dif_pos hp]
  refine Eq.trans ?_ (hA.trans ?_)
  · exact congrArg _ (funext fun x => match x with | ⟨0, _⟩ => Fin.ext (Nat.mod_one _) | ⟨1, _⟩ => rfl | ⟨2, _⟩ => Fin.ext (Nat.mod_one _))
  · show ((DA a b1 b2 b3 (i 0).val (512 * ((i 1).val / 512 + 1)) (512 * ((i 1).val / 512) + (i 1).val % 512) : ℝ) : EReal) = _
    rw [Nat.div_add_mod, DA_whole a b1 b2 b3 _ _ _ (by omega) (by omega)]

theorem G12_at (i : S8x1x2048.Idx) :
    (G12 m c : S8x1x2048.Idx → EReal) i = ((DB a b1 b2 b3 (i 0).val 2048 (i 2).val : ℝ) : EReal) := by
  have b0 : (i 0).val < 8 := (i 0).isLt
  have b1' : (i 1).val < 1 := (i 1).isLt
  have b2' : (i 2).val < 2048 := (i 2).isLt
  have hp : pt12Of i < cfg0.N := Nat.lt_of_lt_of_eq (show 4 * (1 * ((i 0).val / 1 - 0) + 1 * ((i 1).val / 1 - 0) + 1 * ((i 2).val / 2048 - 0)) + 3 < 32 by omega) N_0.symm
  have q4 : pt12Of i / 4 = (i 0).val := by show (4 * (1 * ((i 0).val / 1 - 0) + 1 * ((i 1).val / 1 - 0) + 1 * ((i 2).val / 2048 - 0)) + 3) / 4 = _; omega
  have r4 : pt12Of i % 4 = 3 := by show (4 * (1 * ((i 0).val / 1 - 0) + 1 * ((i 1).val / 1 - 0) + 1 * ((i 2).val / 2048 - 0)) + 3) % 4 = _; omega
  have hA := ((after_all m c a b1 b2 b3 H (pt12Of i) hp).2.2.2 r4).2.2 ⟨(i 2).val % 2048, Nat.mod_lt _ (by decide)⟩
  rw [q4, r4, outsAt0_sweep] at hA
  unfold G12
  rw [dif_pos hp]
  refine Eq.trans ?_ (hA.trans ?_)
  · exact congrArg _ (funext fun x => match x with | ⟨0, _⟩ => Fin.ext (Nat.mod_one _) | ⟨1, _⟩ => Fin.ext (Nat.mod_one _) | ⟨2, _⟩ => rfl)
  · show ((DB a b1 b2 b3 (i 0).val 2048 ((i 2).val % 2048) : ℝ) : EReal) = _
    rw [Nat.mod_eq_of_lt b2']

end Cert.Kernel19Ideal.Fox
-- ==== Proof.Fox.Final.lean ====
/-
  The claims of the forgetting attention's gradient: the three runs and the equality of their results.
-/
module

public import proofs.«01_k».proof.Proof.Mm.Sums
public import proofs.«01_k».proof.Defs
public import proofs.«01_k».proof.Proof.Fox.Arrays
public import proofs.«01_k».proof.Proof.Gen.Kernel19
public import proofs.«01_k».proof.Proof.Gen.Kernel19.Frame
public import proofs.«01_k».proof.Proof.Gen.Pre_finite19
public import Idealize.ShloMosaic.Lib.Quiescent

@[expose] public section

noncomputable section

namespace Cert.Proof.Fox

open Idealize.ShloMosaic Idealize.SL.Sem

instance facts : Cert.Pre_finite19.Facts where
  bcast_S_S2048x6144 := by decide
  bcast_S_S8x2048x1 := by decide
  bcast_S_S8x1x2048 := by decide
  bcast_S_S2048x1024 := by decide

theorem frame_kernel : Cert.quiescent_Kernel19 := fun m ρ _ => Cert.Kernel19.Gen.frame m ρ

theorem frame_ideal : Cert.quiescent_Kernel19Ideal := fun m ρ _ => Cert.Kernel19Ideal.Gen.frame m ρ

theorem frame_ideal_finite : Cert.quiescent_Kernel19Ideal_pre_finite19 := fun m ρ _ => Cert.Kernel19Ideal.Gen.frame m ρ

/-- The reference has no counters. -/
theorem frame_reference : Cert.quiescent_Reference19Ideal := fun m ρ _ =>
  (θ_run Cert.Reference19Ideal.defs _ _).mono
    (fun _ h => ⟨fun c => (h c).2.2.2.2.2, sem_eq_zero_of_no_sems (by decide) _⟩) (Cert.Reference19Ideal.Value.run m ρ)

theorem frame_reference_finite : Cert.quiescent_Reference19Ideal_pre_finite19 := fun m ρ _ => frame_reference m ρ trivial

/-- A finite memory's arguments hold reals. -/
theorem holds (m : (ℓ : Loc Cert.Kernel19Ideal.nD Cert.Kernel19Ideal.τ Cert.Kernel19Ideal.sig) → Buf (Elt Ideal) ℓ) (h : Cert.Pre_Kernel19Ideal_finite19 m)
    (c : Dev Cert.Kernel19Ideal.nD) (a : FVec Ideal Cert.Kernel19Ideal.S2048x6144 .bf16) (ha : m ((c.tc : Thread Cert.Kernel19Ideal.nD Cert.Kernel19Ideal.τ).loc Cert.Kernel19Ideal.main_arg0) = a)
    (b1 : FVec Ideal Cert.Kernel19Ideal.S8x2048x1 .f32) (h1 : m ((c.tc : Thread Cert.Kernel19Ideal.nD Cert.Kernel19Ideal.τ).loc Cert.Kernel19Ideal.main_arg1) = b1)
    (b2 : FVec Ideal Cert.Kernel19Ideal.S8x1x2048 .f32) (h2 : m ((c.tc : Thread Cert.Kernel19Ideal.nD Cert.Kernel19Ideal.τ).loc Cert.Kernel19Ideal.main_arg2) = b2)
    (b3 : FVec Ideal Cert.Kernel19Ideal.S2048x1024 .bf16) (h3 : m ((c.tc : Thread Cert.Kernel19Ideal.nD Cert.Kernel19Ideal.τ).loc Cert.Kernel19Ideal.main_arg3) = b3) :
    Cert.Kernel19Ideal.Fox.Holds m c a b1 b2 b3 := by
  have hc := h c
  rw [ha, h1, h2, h3] at hc
  exact ⟨ha, h1, h2, h3, fun i => Cert.Mm.real_of_lt a _ (fun _ => Cert.Mm.inf_bf16) hc.1 i, fun i => Cert.Mm.real_of_lt b1 _ (fun _ => Cert.Mm.inf_f32) hc.2.1 i,
    fun i => Cert.Mm.real_of_lt b2 _ (fun _ => Cert.Mm.inf_f32) hc.2.2.1 i, fun i => Cert.Mm.real_of_lt b3 _ (fun _ => Cert.Mm.inf_bf16) hc.2.2.2 i⟩

section
open Cert.Kernel19Ideal.Value Cert.Kernel19Ideal.Fox Cert.Reference19Ideal.Read Cert.Reference19Ideal.Fox
variable (m : (ℓ : Loc Cert.Kernel19Ideal.nD Cert.Kernel19Ideal.τ Cert.Kernel19Ideal.sig) → Buf (Elt Ideal) ℓ) (c : Dev Cert.Kernel19Ideal.nD)
variable (a : FVec Ideal Cert.Kernel19Ideal.S2048x6144 .bf16) (b1 : FVec Ideal Cert.Kernel19Ideal.S8x2048x1 .f32)
  (b2 : FVec Ideal Cert.Kernel19Ideal.S8x1x2048 .f32) (b3 : FVec Ideal Cert.Kernel19Ideal.S2048x1024 .bf16) (H : Holds m c a b1 b2 b3)
include H

theorem same_dq (i : Cert.Kernel19Ideal.S2048x1024.Idx) : val_main_v114 (F := Ideal) a b1 b2 b3 i = G8 m c i := by
  have l0 : (i 0).val < 2048 := (i 0).isLt
  have l1 : (i 1).val < 1024 := (i 1).isLt
  refine (res_dq a b1 b2 b3 H.r0 H.r1 H.r2 H.r3 ⟨(i 1).val / 128, by omega⟩ ⟨(i 0).val, l0⟩ ⟨(i 1).val % 128, Nat.mod_lt _ (by decide)⟩ i rfl (Nat.div_add_mod _ _).symm).trans ?_
  rw [← Δ_eq]
  exact (G8_at m c a b1 b2 b3 H i).symm

theorem same_dk (i : Cert.Kernel19Ideal.S2048x1024.Idx) : val_main_v115 (F := Ideal) a b1 b2 b3 i = G9 m c i := by
  have l0 : (i 0).val < 2048 := (i 0).isLt
  have l1 : (i 1).val < 1024 := (i 1).isLt
  refine (res_dk a b1 b2 b3 H.r0 H.r1 H.r2 H.r3 ⟨(i 1).val / 128, by omega⟩ ⟨(i 0).val, l0⟩ ⟨(i 1).val % 128, Nat.mod_lt _ (by decide)⟩ i rfl (Nat.div_add_mod _ _).symm).trans ?_
  rw [← Δ_eq]
  exact (G9_at m c a b1 b2 b3 H i).symm

theorem same_dv (i : Cert.Kernel19Ideal.S2048x1024.Idx) : val_main_v116 (F := Ideal) a b1 b2 b3 i = G10 m c i := by
  have l0 : (i 0).val < 2048 := (i 0).isLt
  have l1 : (i 1).val < 1024 := (i 1).isLt
  exact (res_dv a b1 b2 b3 H.r0 H.r1 H.r2 H.r3 ⟨(i 1).val / 128, by omega⟩ ⟨(i 0).val, l0⟩ ⟨(i 1).val % 128, Nat.mod_lt _ (by decide)⟩ i rfl (Nat.div_add_mod _ _).symm).trans
    (G10_at m c a b1 b2 b3 H i).symm

theorem same_da (i : Cert.Kernel19Ideal.S8x2048x1.Idx) : val_main_v104 (F := Ideal) a b1 b2 b3 i = G11 m c i := by
  have l0 : (i 0).val < 8 := (i 0).isLt
  have l1 : (i 1).val < 2048 := (i 1).isLt
  refine (res_da a b1 b2 b3 H.r0 H.r1 H.r2 H.r3 ⟨(i 0).val, l0⟩ ⟨(i 1).val, l1⟩ i rfl rfl).trans ?_
  rw [← Δ_eq]
  exact (G11_at m c a b1 b2 b3 H i).symm

theorem same_db (i : Cert.Kernel19Ideal.S8x1x2048.Idx) : val_main_v102 (F := Ideal) a b1 b2 b3 i = G12 m c i := by
  have l0 : (i 0).val < 8 := (i 0).isLt
  have l2 : (i 2).val < 2048 := (i 2).isLt
  refine (res_db a b1 b2 b3 H.r0 H.r1 H.r2 H.r3 ⟨(i 0).val, l0⟩ ⟨(i 2).val, l2⟩ i rfl rfl).trans ?_
  rw [← Δ_eq]
  exact (G12_at m c a b1 b2 b3 H i).symm
end

open Cert.Kernel19Ideal.Value in
/-- Over finite arguments kernel and reference return the same five gradients. -/
theorem algebraic : Cert.algebraic_Kernel19Ideal_Reference19Ideal_pre_finite19 := by
  intro m g m' g' hpre harg
  refine ⟨fun c => G8 m c, fun c => G9 m c, fun c => G10 m c, fun c => G11 m c, fun c => G12 m c, Cert.Kernel19Ideal.Value.run m g, ?_⟩
  refine (θ_run Cert.Reference19Ideal.defs _ _).mono (fun r h c => ?_) (Cert.Reference19Ideal.Value.run m' g')
  obtain ⟨e0, e1, e2, e3, e4, k⟩ := h c
  have H := holds m hpre c _ rfl _ rfl _ rfl _ rfl
  rw [Cert.Reference19Ideal.Read.val_main_v114_eq] at e0
  rw [Cert.Reference19Ideal.Read.val_main_v115_eq] at e1
  rw [Cert.Reference19Ideal.Read.val_main_v116_eq] at e2
  rw [Cert.Reference19Ideal.Read.val_main_v104_eq] at e3
  rw [Cert.Reference19Ideal.Read.val_main_v102_eq] at e4
  rw [(harg c).1, (harg c).2.1, (harg c).2.2.1, (harg c).2.2.2] at e0 e1 e2 e3 e4
  exact ⟨e0.trans (funext (same_dq m c _ _ _ _ H)), e1.trans (funext (same_dk m c _ _ _ _ H)), e2.trans (funext (same_dv m c _ _ _ _ H)),
    e3.trans (funext (same_da m c _ _ _ _ H)), e4.trans (funext (same_db m c _ _ _ _ H)), k⟩

end Cert.Proof.Fox

end
-- ==== Proof.Mm.P20.lean ====
/-
  The gradient of the gated merge of the two attention branches: every grid point computes one block of each of the four
  gradients from the same blocks of its arguments.
-/
module

public import proofs.«01_k».proof.Defs
public import proofs.«01_k».proof.Proof.Mm.Sums
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import Idealize.ShloMosaic.Lib.Quiescent
public import Idealize.ShloMosaic.Lib.Pipeline.ReadBack
public import Idealize.ShloMosaic.Lib.Pipeline.ValueKit.Partial

@[expose] public section

noncomputable section

namespace Cert.Kernel20Ideal.Mm

open Cert.Kernel20Ideal Cert.Kernel20Ideal.Gen Cert.Kernel20Ideal.Value Cert.Mm
open Idealize.ShloMosaic Idealize.ShloMosaic.TcCoe Idealize.ShloMosaic.ValueIdx Idealize.SL.Sem

/-- The gradient of a branch, and that of its gate: `d` the cotangent, `b` the branch, `g` the gate before its logistic. -/
def dbranch (d g : EReal) : EReal := d * Cert.Mm.sig g
def dlogit (d b g : EReal) : EReal := d * b * (Cert.Mm.sig g * (1 - Cert.Mm.sig g))

theorem branch0_at (d g : Vec Ideal S256x512 .f32) (y : S256x512.Idx) : (k0_pay4 d g : S256x512.Idx → EReal) y = dbranch ((d : S256x512.Idx → EReal) y) ((g : S256x512.Idx → EReal) y) :=
  Eq.trans rfl (congrArg (fun s : EReal => (d : S256x512.Idx → EReal) y * s) (sig_kernel ((g : S256x512.Idx → EReal) y)))

theorem branch1_at (d g : Vec Ideal S256x512 .f32) (y : S256x512.Idx) : (k0_pay5 d g : S256x512.Idx → EReal) y = dbranch ((d : S256x512.Idx → EReal) y) ((g : S256x512.Idx → EReal) y) :=
  Eq.trans rfl (congrArg (fun s : EReal => (d : S256x512.Idx → EReal) y * s) (sig_kernel ((g : S256x512.Idx → EReal) y)))

theorem gate0_at (d g b : Vec Ideal S256x512 .f32) (y : S256x512.Idx) :
    (k0_pay6 d g b : S256x512.Idx → EReal) y = dlogit ((d : S256x512.Idx → EReal) y) ((b : S256x512.Idx → EReal) y) ((g : S256x512.Idx → EReal) y) :=
  Eq.trans rfl ((congrArg₂ (fun s o : EReal => (d : S256x512.Idx → EReal) y * (b : S256x512.Idx → EReal) y * s * (o - s)) (sig_kernel ((g : S256x512.Idx → EReal) y)) Ideal.ofBits_one_f32).trans (mul_assoc _ _ _))

theorem gate1_at (d g b : Vec Ideal S256x512 .f32) (y : S256x512.Idx) :
    (k0_pay1 d (k0_pay3 g) b : S256x512.Idx → EReal) y = dlogit ((d : S256x512.Idx → EReal) y) ((b : S256x512.Idx → EReal) y) ((g : S256x512.Idx → EReal) y) :=
  Eq.trans rfl ((congrArg₂ (fun s o : EReal => (d : S256x512.Idx → EReal) y * (b : S256x512.Idx → EReal) y * s * (o - s)) (sig_kernel ((g : S256x512.Idx → EReal) y)) Ideal.ofBits_one_f32).trans (mul_assoc _ _ _))

theorem hz2 : (![0, 0] : Fin 2 → ℕ) = fun _ => 0 := funext fun a => by fin_cases a <;> rfl

/-- A whole store of values of whole loads, read back. -/
theorem whole (p : S256x512.Idx → EReal) (y : S256x512.Idx) : View.canon (Val := Elt Ideal) (e := .bf16) [⟨r0_0, p⟩] y = p y := by
  refine Eq.trans (congrArg _ (funext fun a => Fin.ext ?_)) (View.canon_cons_emb (Val := Elt Ideal) (e := .bf16) r0_0 p [] y)
  match a with
  | ⟨0, _⟩ => show (y 0).val = 0 + 1 * (y 0).val; omega
  | ⟨1, _⟩ => show (y 1).val = 0 + 1 * (y 1).val; omega

theorem load (x : Vec Ideal S256x512 .f32) : View.ld x r0_0 = x := View.ld_unit_zero (S := S256x512) hz2 _ x

/-! ## The blocks -/

theorem idx0 : ∀ t : Fin grid0.N, win0_0.index t (0 : Fin 2) = t.val / 4 ∧ win0_0.index t (1 : Fin 2) = t.val % 4 := by decide +kernel
theorem idx1 : ∀ t : Fin grid0.N, win0_1.index t (0 : Fin 2) = t.val / 4 ∧ win0_1.index t (1 : Fin 2) = t.val % 4 := by decide +kernel
theorem idx2 : ∀ t : Fin grid0.N, win0_2.index t (0 : Fin 2) = t.val / 4 ∧ win0_2.index t (1 : Fin 2) = t.val % 4 := by decide +kernel
theorem idx3 : ∀ t : Fin grid0.N, win0_3.index t (0 : Fin 2) = t.val / 4 ∧ win0_3.index t (1 : Fin 2) = t.val % 4 := by decide +kernel
theorem idx4 : ∀ t : Fin grid0.N, win0_4.index t (0 : Fin 2) = t.val / 4 ∧ win0_4.index t (1 : Fin 2) = 4 + t.val % 4 := by decide +kernel
theorem idx5 : ∀ t : Fin grid0.N, win0_5.index t (0 : Fin 2) = t.val / 4 ∧ win0_5.index t (1 : Fin 2) = t.val % 4 := by decide +kernel
theorem idx6 : ∀ t : Fin grid0.N, win0_6.index t (0 : Fin 2) = t.val / 4 ∧ win0_6.index t (1 : Fin 2) = t.val % 4 := by decide +kernel
theorem idx7 : ∀ t : Fin grid0.N, win0_7.index t (0 : Fin 2) = t.val / 4 ∧ win0_7.index t (1 : Fin 2) = t.val % 4 := by decide +kernel
theorem idx8 : ∀ t : Fin grid0.N, win0_8.index t (0 : Fin 2) = t.val / 4 ∧ win0_8.index t (1 : Fin 2) = t.val % 4 := by decide +kernel

theorem lt_points (t : Fin cfg0.N) : t.val < 32 := lt_of_lt_of_eq t.isLt (show cfg0.N = 32 from N_0)

variable (m : (ℓ : Loc nD τ sig) → Buf (Elt Ideal) ℓ) (c : Dev nD) (D X Y Z : ℕ → ℕ → EReal)
  (hD : ∀ i, (m ((c : Thread nD τ).loc main_arg0) : S2048x2048.Idx → EReal) i = D (i 0).val (i 1).val)
  (hX : ∀ i, (m ((c : Thread nD τ).loc main_arg1) : S2048x2048.Idx → EReal) i = X (i 0).val (i 1).val)
  (hY : ∀ i, (m ((c : Thread nD τ).loc main_arg2) : S2048x2048.Idx → EReal) i = Y (i 0).val (i 1).val)
  (hZ : ∀ i, (m ((c : Thread nD τ).loc main_arg3) : S2048x4608.Idx → EReal) i = Z (i 0).val (i 1).val)

include hD in
theorem block0 (t : Fin cfg0.N) (y : S256x512.Idx) : (iblk m c 0 t : S256x512.Idx → EReal) y = D (256 * (t.val / 4) + (y 0).val) (512 * (t.val % 4) + (y 1).val) := by
  unfold iblk
  rw [View.read_apply]
  show V m c main_arg0 _ = _
  rw [V_main_arg0]
  refine (hD _).trans (congrArg₂ D ?_ ?_)
  · show win0_0.index t (0 : Fin 2) * 256 + 1 * (y 0).val = _
    rw [(idx0 t).1]; omega
  · show win0_0.index t (1 : Fin 2) * 512 + 1 * (y 1).val = _
    rw [(idx0 t).2]; omega

include hX in
theorem block1 (t : Fin cfg0.N) (y : S256x512.Idx) : (iblk m c 1 t : S256x512.Idx → EReal) y = X (256 * (t.val / 4) + (y 0).val) (512 * (t.val % 4) + (y 1).val) := by
  unfold iblk
  rw [View.read_apply]
  show V m c main_arg1 _ = _
  rw [V_main_arg1]
  refine (hX _).trans (congrArg₂ X ?_ ?_)
  · show win0_1.index t (0 : Fin 2) * 256 + 1 * (y 0).val = _
    rw [(idx1 t).1]; omega
  · show win0_1.index t (1 : Fin 2) * 512 + 1 * (y 1).val = _
    rw [(idx1 t).2]; omega

include hY in
theorem block2 (t : Fin cfg0.N) (y : S256x512.Idx) : (iblk m c 2 t : S256x512.Idx → EReal) y = Y (256 * (t.val / 4) + (y 0).val) (512 * (t.val % 4) + (y 1).val) := by
  unfold iblk
  rw [View.read_apply]
  show V m c main_arg2 _ = _
  rw [V_main_arg2]
  refine (hY _).trans (congrArg₂ Y ?_ ?_)
  · show win0_2.index t (0 : Fin 2) * 256 + 1 * (y 0).val = _
    rw [(idx2 t).1]; omega
  · show win0_2.index t (1 : Fin 2) * 512 + 1 * (y 1).val = _
    rw [(idx2 t).2]; omega

include hZ in
theorem block3 (t : Fin cfg0.N) (y : S256x512.Idx) : (iblk m c 3 t : S256x512.Idx → EReal) y = Z (256 * (t.val / 4) + (y 0).val) (512 * (t.val % 4) + (y 1).val) := by
  unfold iblk
  rw [View.read_apply]
  show V m c main_arg3 _ = _
  rw [V_main_arg3]
  refine (hZ _).trans (congrArg₂ Z ?_ ?_)
  · show win0_3.index t (0 : Fin 2) * 256 + 1 * (y 0).val = _
    rw [(idx3 t).1]; omega
  · show win0_3.index t (1 : Fin 2) * 512 + 1 * (y 1).val = _
    rw [(idx3 t).2]; omega

include hZ in
theorem block4 (t : Fin cfg0.N) (y : S256x512.Idx) : (iblk m c 4 t : S256x512.Idx → EReal) y = Z (256 * (t.val / 4) + (y 0).val) (2048 + (512 * (t.val % 4) + (y 1).val)) := by
  unfold iblk
  rw [View.read_apply]
  show V m c main_arg3 _ = _
  rw [V_main_arg3]
  refine (hZ _).trans (congrArg₂ Z ?_ ?_)
  · show win0_4.index t (0 : Fin 2) * 256 + 1 * (y 0).val = _
    rw [(idx4 t).1]; omega
  · show win0_4.index t (1 : Fin 2) * 512 + 1 * (y 1).val = _
    rw [(idx4 t).2]; omega

/-! ## The four arrays -/

include hD hZ in
theorem final5 : (dats m 0 c).arrAt 5 cfg0.N = fun i : S2048x2048.Idx => dbranch (D (i 0).val (i 1).val) (Z (i 0).val (i 1).val) := by
  refine (dats m 0 c).arrAt_eq_of_covers 5 _ (by decide +kernel) fun t hf y => ?_
  show ((dats m 0 c).after 5 t : S256x512.Idx → EReal) _ = _
  rw [after0_5, out0_5, load, load, whole, branch0_at, block0 m c D hD, block3 m c Z hZ]
  have h0 : 256 * (t.val / 4) + (y 0).val = ((((cfg0.win 5).blk t).view.emb y : S2048x2048.Idx) 0).val := by
    show _ = win0_5.index t (0 : Fin 2) * 256 + 1 * (y 0).val
    rw [(idx5 t).1]; omega
  have h1 : 512 * (t.val % 4) + (y 1).val = ((((cfg0.win 5).blk t).view.emb y : S2048x2048.Idx) 1).val := by
    show _ = win0_5.index t (1 : Fin 2) * 512 + 1 * (y 1).val
    rw [(idx5 t).2]; omega
  exact congrArg₂ (fun a b => dbranch (D a b) (Z a b)) h0 h1

include hD hZ in
theorem final6 : (dats m 0 c).arrAt 6 cfg0.N = fun i : S2048x2048.Idx => dbranch (D (i 0).val (i 1).val) (Z (i 0).val (2048 + (i 1).val)) := by
  refine (dats m 0 c).arrAt_eq_of_covers 6 _ (by decide +kernel) fun t hf y => ?_
  show ((dats m 0 c).after 6 t : S256x512.Idx → EReal) _ = _
  rw [after0_6, out0_6, load, load, whole, branch1_at, block0 m c D hD, block4 m c Z hZ]
  have h0 : 256 * (t.val / 4) + (y 0).val = ((((cfg0.win 6).blk t).view.emb y : S2048x2048.Idx) 0).val := by
    show _ = win0_6.index t (0 : Fin 2) * 256 + 1 * (y 0).val
    rw [(idx6 t).1]; omega
  have h1 : 512 * (t.val % 4) + (y 1).val = ((((cfg0.win 6).blk t).view.emb y : S2048x2048.Idx) 1).val := by
    show _ = win0_6.index t (1 : Fin 2) * 512 + 1 * (y 1).val
    rw [(idx6 t).2]; omega
  exact congrArg₂ (fun a b => dbranch (D a b) (Z a (2048 + b))) h0 h1

include hD hX hZ in
theorem final7 : (dats m 0 c).arrAt 7 cfg0.N = fun i : S2048x2048.Idx => dlogit (D (i 0).val (i 1).val) (X (i 0).val (i 1).val) (Z (i 0).val (i 1).val) := by
  refine (dats m 0 c).arrAt_eq_of_covers 7 _ (by decide +kernel) fun t hf y => ?_
  show ((dats m 0 c).after 7 t : S256x512.Idx → EReal) _ = _
  rw [after0_7, out0_7, load, load, load, whole, gate0_at, block0 m c D hD, block1 m c X hX, block3 m c Z hZ]
  have h0 : 256 * (t.val / 4) + (y 0).val = ((((cfg0.win 7).blk t).view.emb y : S2048x2048.Idx) 0).val := by
    show _ = win0_7.index t (0 : Fin 2) * 256 + 1 * (y 0).val
    rw [(idx7 t).1]; omega
  have h1 : 512 * (t.val % 4) + (y 1).val = ((((cfg0.win 7).blk t).view.emb y : S2048x2048.Idx) 1).val := by
    show _ = win0_7.index t (1 : Fin 2) * 512 + 1 * (y 1).val
    rw [(idx7 t).2]; omega
  exact congrArg₂ (fun a b => dlogit (D a b) (X a b) (Z a b)) h0 h1

include hD hY hZ in
theorem final8 : (dats m 0 c).arrAt 8 cfg0.N = fun i : S2048x2048.Idx => dlogit (D (i 0).val (i 1).val) (Y (i 0).val (i 1).val) (Z (i 0).val (2048 + (i 1).val)) := by
  refine (dats m 0 c).arrAt_eq_of_covers 8 _ (by decide +kernel) fun t hf y => ?_
  show ((dats m 0 c).after 8 t : S256x512.Idx → EReal) _ = _
  rw [after0_8, out0_8, load, load, load, whole, gate1_at, block0 m c D hD, block2 m c Y hY, block4 m c Z hZ]
  have h0 : 256 * (t.val / 4) + (y 0).val = ((((cfg0.win 8).blk t).view.emb y : S2048x2048.Idx) 0).val := by
    show _ = win0_8.index t (0 : Fin 2) * 256 + 1 * (y 0).val
    rw [(idx8 t).1]; omega
  have h1 : 512 * (t.val % 4) + (y 1).val = ((((cfg0.win 8).blk t).view.emb y : S2048x2048.Idx) 1).val := by
    show _ = win0_8.index t (1 : Fin 2) * 512 + 1 * (y 1).val
    rw [(idx8 t).2]; omega
  exact congrArg₂ (fun a b => dlogit (D a b) (Y a b) (Z a (2048 + b))) h0 h1

end Cert.Kernel20Ideal.Mm

namespace Cert.Reference20Ideal.Mm

open Cert.Reference20Ideal Cert.Reference20Ideal.Gen Cert.Reference20Ideal.Read Cert.Mm Cert.Kernel20Ideal.Mm
open Idealize.ShloMosaic Idealize.ShloMosaic.TcCoe Idealize.ShloMosaic.ValueIdx Idealize.SL.Sem

variable (d x y : FVec Ideal S2048x2048 .f32) (z : FVec Ideal S2048x4608 .f32) (D X Y Z : ℕ → ℕ → EReal)
  (hD : ∀ i, d i = D (i 0).val (i 1).val) (hX : ∀ i, x i = X (i 0).val (i 1).val) (hY : ∀ i, y i = Y (i 0).val (i 1).val)
  (hZ : ∀ i, z i = Z (i 0).val (i 1).val) (i : S2048x2048.Idx)

include hZ in
theorem sig0 : val_main_v7 (F := Ideal) z i = Cert.Mm.sig (Z (i 0).val (i 1).val) := by
  rw [val_main_v7_apply, val_main_v6_apply, val_main_v5_apply, val_main_v4_apply, val_main_v3_apply, val_main_v2_apply, val_main_v0_apply, hZ]
  exact sig_host _

include hZ in
theorem sig1 : val_main_v17 (F := Ideal) z i = Cert.Mm.sig (Z (i 0).val (2048 + (i 1).val)) := by
  rw [val_main_v17_apply, val_main_v16_apply, val_main_v15_apply, val_main_v14_apply, val_main_v13_apply, val_main_v12_apply, val_main_v1_apply, hZ]
  exact sig_host _

include hD in
theorem cot0 : val_main_v23 (F := Ideal) d i = D (i 0).val (i 1).val := by
  unfold val_main_v23
  rw [shapeCast_self]
  exact hD i

include hD in
theorem cot1 : val_main_v24 (F := Ideal) d i = D (i 0).val (i 1).val := by
  unfold val_main_v24
  rw [shapeCast_self]
  exact hD i

include hD hZ in
theorem out0 : val_main_v31 (F := Ideal) d z i = dbranch (D (i 0).val (i 1).val) (Z (i 0).val (i 1).val) := by
  rw [val_main_v31_apply, val_main_v28_apply, sig0 z Z hZ, cot0 d D hD]
  exact mul_comm _ _

include hD hZ in
theorem out1 : val_main_v32 (F := Ideal) d z i = dbranch (D (i 0).val (i 1).val) (Z (i 0).val (2048 + (i 1).val)) := by
  rw [val_main_v32_apply, val_main_v25_apply, sig1 z Z hZ, cot1 d D hD]
  exact mul_comm _ _

include hD hX hZ in
theorem out2 : val_main_v33 (F := Ideal) d x z i = dlogit (D (i 0).val (i 1).val) (X (i 0).val (i 1).val) (Z (i 0).val (i 1).val) := by
  rw [val_main_v33_apply, val_main_v30_apply, val_main_v29_apply, val_main_v10_apply, val_main_v9_apply, val_main_v8_apply, sig0 z Z hZ, cot0 d D hD, hX]
  exact congrArg (fun o : EReal => D (i 0).val (i 1).val * X (i 0).val (i 1).val * (Cert.Mm.sig (Z (i 0).val (i 1).val) * (o - Cert.Mm.sig (Z (i 0).val (i 1).val)))) Ideal.ofBits_one_f32

include hD hY hZ in
theorem out3 : val_main_v34 (F := Ideal) d y z i = dlogit (D (i 0).val (i 1).val) (Y (i 0).val (i 1).val) (Z (i 0).val (2048 + (i 1).val)) := by
  rw [val_main_v34_apply, val_main_v27_apply, val_main_v26_apply, val_main_v20_apply, val_main_v19_apply, val_main_v18_apply, sig1 z Z hZ, cot1 d D hD, hY]
  exact congrArg (fun o : EReal => D (i 0).val (i 1).val * Y (i 0).val (i 1).val * (Cert.Mm.sig (Z (i 0).val (2048 + (i 1).val)) * (o - Cert.Mm.sig (Z (i 0).val (2048 + (i 1).val))))) Ideal.ofBits_one_f32

end Cert.Reference20Ideal.Mm

namespace Cert.Proof.P20

open Idealize.ShloMosaic Idealize.SL.Sem

theorem frame_kernel : Cert.quiescent_Kernel20 := fun m ρ _ => Cert.Kernel20.Gen.frame m ρ

theorem frame_ideal : Cert.quiescent_Kernel20Ideal := fun m ρ _ => Cert.Kernel20Ideal.Gen.frame m ρ

theorem frame_reference : Cert.quiescent_Reference20Ideal := fun m ρ _ =>
  (θ_run Cert.Reference20Ideal.defs _ _).mono
    (fun _ h => ⟨fun c => (h c).2.2.2.2, sem_eq_zero_of_no_sems (by decide) _⟩) (Cert.Reference20Ideal.Value.run m ρ)

open Cert.Kernel20Ideal Cert.Kernel20Ideal.Gen in
theorem algebraic : Cert.algebraic_Kernel20Ideal_Reference20Ideal := by
  intro m g m' g' _ harg
  refine ⟨fun c => (dats m 0 c).arrAt 5 cfg0.N, fun c => (dats m 0 c).arrAt 6 cfg0.N, fun c => (dats m 0 c).arrAt 7 cfg0.N,
    fun c => (dats m 0 c).arrAt 8 cfg0.N, Cert.Kernel20Ideal.Value.run_blocks m g, ?_⟩
  refine (θ_run Cert.Reference20Ideal.defs _ _).mono (fun r h c => ?_) (Cert.Reference20Ideal.Value.run m' g')
  obtain ⟨e0, e1, e2, e3, k⟩ := h c
  rw [Cert.Reference20Ideal.Read.val_main_v31_eq] at e0
  rw [Cert.Reference20Ideal.Read.val_main_v32_eq] at e1
  rw [Cert.Reference20Ideal.Read.val_main_v33_eq] at e2
  rw [Cert.Reference20Ideal.Read.val_main_v34_eq] at e3
  obtain ⟨D, hD⟩ := Cert.Mm.exists_nat2 (m ((c.tc : Thread nD τ).loc main_arg0) : S2048x2048.Idx → EReal)
  obtain ⟨X, hX⟩ := Cert.Mm.exists_nat2 (m ((c.tc : Thread nD τ).loc main_arg1) : S2048x2048.Idx → EReal)
  obtain ⟨Y, hY⟩ := Cert.Mm.exists_nat2 (m ((c.tc : Thread nD τ).loc main_arg2) : S2048x2048.Idx → EReal)
  obtain ⟨Z, hZ⟩ := Cert.Mm.exists_nat2 (m ((c.tc : Thread nD τ).loc main_arg3) : S2048x4608.Idx → EReal)
  rw [(harg c).1, (harg c).2.2.2] at e0 e1
  rw [(harg c).1, (harg c).2.1, (harg c).2.2.2] at e2
  rw [(harg c).1, (harg c).2.2.1, (harg c).2.2.2] at e3
  exact ⟨(e0.trans (funext fun i => Cert.Reference20Ideal.Mm.out0 _ _ D Z hD hZ i)).trans (Cert.Kernel20Ideal.Mm.final5 m c D Z hD hZ).symm,
    (e1.trans (funext fun i => Cert.Reference20Ideal.Mm.out1 _ _ D Z hD hZ i)).trans (Cert.Kernel20Ideal.Mm.final6 m c D Z hD hZ).symm,
    (e2.trans (funext fun i => Cert.Reference20Ideal.Mm.out2 _ _ _ D X Z hD hX hZ i)).trans (Cert.Kernel20Ideal.Mm.final7 m c D X Z hD hX hZ).symm,
    (e3.trans (funext fun i => Cert.Reference20Ideal.Mm.out3 _ _ _ D Y Z hD hY hZ i)).trans (Cert.Kernel20Ideal.Mm.final8 m c D Y Z hD hY hZ).symm, k⟩

end Cert.Proof.P20

end
-- ==== Proof.Mm.P21.lean ====
/-
  The gradient of the first branch's weights, written over the first half of each chunk of a stack: each run of 4 grid points adds up one block of the product.
-/
module

public import proofs.«01_k».proof.Defs
public import proofs.«01_k».proof.Proof.Mm.Sums
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import Idealize.ShloMosaic.Lib.Quiescent
public import Idealize.ShloMosaic.Lib.Pipeline.ValueKit.Partial
public import Idealize.ShloMosaic.Lib.Pipeline.ReadBack

@[expose] public section

noncomputable section

namespace Cert.Kernel21Ideal.Mm

open Cert.Kernel21Ideal Cert.Kernel21Ideal.Gen Cert.Kernel21Ideal.Value Cert.Mm
open Idealize.ShloMosaic Idealize.ShloMosaic.TcCoe Idealize.ShloMosaic.ValueIdx Idealize.SL.Sem
open Finset (range)

theorem step (acc : Vec Ideal S1024x512 .f32) (x : Vec Ideal S512x1024 .bf16) (y : Vec Ideal S512x512 .bf16) (r : Fin 1024) (c : Fin 512) :
    k0_pay2 acc x y (ix2 r c) = acc (ix2 r c) + ∑ k : Fin 512, x (ix2 k r) * y (ix2 k c) := by
  unfold k0_pay2
  simp only [shapeCast_self]
  exact congrArg (fun v : EReal => acc (ix2 r c) + v) (entry_tn x y r c)

theorem start (r : Fin 1024) (c : Fin 512) : k0_pay1 (F := Ideal) (ix2 r c) = 0 := by
  unfold k0_pay1
  simp only [shapeCast_self]
  exact Ideal.ofBits_zero_f32

theorem idx0 : ∀ t : Fin grid0.N, win0_0.index t (0 : Fin 2) = t.val % 4 ∧ win0_0.index t (1 : Fin 2) = t.val / 4 / 4 := by decide +kernel
theorem idx1 : ∀ t : Fin grid0.N, win0_1.index t (0 : Fin 2) = t.val % 4 ∧ win0_1.index t (1 : Fin 2) = t.val / 4 % 4 := by decide +kernel

variable (m : (ℓ : Loc nD τ sig) → Buf (Elt Ideal) ℓ) (c : Dev nD) (A : ℕ → ℕ → EReal) (B : ℕ → ℕ → EReal)
  (hA : ∀ i, (m ((c : Thread nD τ).loc main_arg0) : S2048x1024.Idx → EReal) i = A (i 0).val (i 1).val)
  (hB : ∀ i, (m ((c : Thread nD τ).loc main_arg1) : S2048x2048.Idx → EReal) i = B (i 0).val (i 1).val)

/-- The block of the left operand at point `t`. -/
abbrev left (t : Fin cfg0.N) : S512x1024.Idx → EReal := iblk m c 0 t

/-- The block of the right operand at point `t`. -/
abbrev right (t : Fin cfg0.N) : S512x512.Idx → EReal := iblk m c 1 t

include hA in
theorem block0 (t : Fin cfg0.N) (r : Fin 1024) (k : Fin 512) :
    left m c t (ix2 k r) = A (t.val % 4 * 512 + k.val) (1024 * (t.val / 4 / 4) + r.val) := by
  unfold left iblk
  rw [View.read_apply]
  show V m c main_arg0 _ = _
  rw [V_main_arg0]
  refine (hA _).trans (congrArg₂ A ?_ ?_)
  · show win0_0.index t (0 : Fin 2) * 512 + 1 * k.val = _
    rw [(idx0 t).1]; omega
  · show win0_0.index t (1 : Fin 2) * 1024 + 1 * r.val = _
    rw [(idx0 t).2]; omega

include hB in
theorem block1 (t : Fin cfg0.N) (j : Fin 512) (k : Fin 512) :
    right m c t (ix2 k j) = B (t.val % 4 * 512 + k.val) (512 * (t.val / 4 % 4) + j.val) := by
  unfold right iblk
  rw [View.read_apply]
  show V m c main_arg1 _ = _
  rw [V_main_arg1]
  refine (hB _).trans (congrArg₂ B ?_ ?_)
  · show win0_1.index t (0 : Fin 2) * 512 + 1 * k.val = _
    rw [(idx1 t).1]; omega
  · show win0_1.index t (1 : Fin 2) * 512 + 1 * j.val = _
    rw [(idx1 t).2]; omega

theorem first (t : Fin cfg0.N) (h0 : t.val % 4 = 0) (r : Fin 1024) (j : Fin 512) :
    (outsAt0 m c t.val t.isLt).2 (ix2 r j) = ∑ k : Fin 512, left m c t (ix2 k r) * right m c t (ix2 k j) := by
  rw [outsAt0_A m c t h0 (by omega)]
  frame_out
  rw [step, start, zero_add]

theorem next (t : Fin cfg0.N) (h0 : ¬t.val % 4 = 0) (r : Fin 1024) (j : Fin 512) :
    (outsAt0 m c t.val t.isLt).2 (ix2 r j) = (outsAt0 m c (t.val - 1) (Nat.lt_of_le_of_lt (Nat.sub_le _ _) t.isLt)).2 (ix2 r j)
      + ∑ k : Fin 512, left m c t (ix2 k r) * right m c t (ix2 k j) := by
  by_cases h1 : t.val % 4 = 3
  · rw [outsAt0_C m c t h0 h1]
    frame_out
    rw [read_unread_whole, step]
  · rw [outsAt0_B m c t h0 h1]
    frame_out
    rw [read_unread_whole, step]

include hA hB in
theorem acc_sum (q n : ℕ) (hq : n = 4 * q + (4 - 1)) (h : n < cfg0.N) (r : Fin 1024) (j : Fin 512) :
    (outsAt0 m c n h).2 (ix2 r j) = ∑ k ∈ range (4 * 512), A k (1024 * (q / 4) + r.val) * B k (512 * (q % 4) + j.val) :=
  tiled 4 4 (by decide) (fun i k => A k i) (fun j k => B k j) (fun t r k => left m c t (ix2 k r)) (fun t j k => right m c t (ix2 k j))
    (fun n h r j => (outsAt0 m c n h).2 (ix2 r j)) (block0 m c A hA) (block1 m c B hB) (first m c) (next m c) q n hq h r j

theorem stack (v : Vec Ideal S1024x512 .f32) (r : Fin 1024) (j : Fin 512) :
    (k0_pay3 v : S1x1024x512.Idx → EReal) (ix3 0 r j) = (v : S1024x512.Idx → EReal) (ix2 r j) := by
  unfold k0_pay3
  exact stacked (truncf .bf16 (v : FVec Ideal S1024x512 .f32) bitsLt_bf16_f32 : FVec Ideal S1024x512 .bf16) _ r j

/-- At the last point of a run the output is the scratch. -/
theorem out_C (t : Fin cfg0.N) (h1 : t.val % 4 = 3) (r : Fin 1024) (j : Fin 512) :
    (outsAt0 m c t.val t.isLt).1 (ix3 0 r j) = (outsAt0 m c t.val t.isLt).2 (ix2 r j) := by
  rw [outsAt0_C m c t (by omega) h1]
  frame_out
  rw [stack]

/-- The gradient at an index of the stack of chunks. -/
abbrev G (A : ℕ → ℕ → EReal) (B : ℕ → ℕ → EReal) : S4x1024x1024.Idx → EReal := fun i =>
  ∑ k ∈ range 2048, A k (i 1).val * B k (512 * (i 0).val + (i 2).val % 512)

theorem idx2 : ∀ t : Fin grid0.N, win0_2.index t (0 : Fin 3) = t.val / 4 ∧ win0_2.index t (1 : Fin 3) = 0 ∧ win0_2.index t (2 : Fin 3) = 0 := by decide +kernel

include hA hB in
theorem at_flush (t : Fin cfg0.N) (hf : (cfg0.win 2).flush t = true) (y : S1x1024x512.Idx) :
    (outsAt0 m c t.val t.isLt).1 ((cfg0.win 2).xinj (grid0.coords t) y) = G A B (((cfg0.win 2).blk t).view.emb y) := by
  have h1 : t.val % 4 = 3 := (flush0_2 t).mp hf
  have hN : t.val < 16 := lt_of_lt_of_eq t.isLt (show cfg0.N = 16 from N_0)
  obtain ⟨e0, e1, e2⟩ := idx2 t
  have hy0 : (y 0).val < 1 := (y 0).isLt
  have hy1 : (y 1).val < 1024 := (y 1).isLt
  have hy2 : (y 2).val < 512 := (y 2).isLt
  have hx : (cfg0.win 2).xinj (grid0.coords t) y = ix3 0 ⟨(y 1).val, hy1⟩ ⟨(y 2).val, hy2⟩ := by
    funext a
    apply Fin.ext
    match a with
    | ⟨0, _⟩ => show (y 0).val = 0; omega
    | ⟨1, _⟩ => rfl
    | ⟨2, _⟩ => rfl
  have hb0 : (((cfg0.win 2).blk t).view.emb y 0).val = win0_2.index t (0 : Fin 3) * 1 + 1 * (y 0).val := rfl
  have hb1 : (((cfg0.win 2).blk t).view.emb y 1).val = win0_2.index t (1 : Fin 3) * 1024 + 1 * (y 1).val := rfl
  have hb2 : (((cfg0.win 2).blk t).view.emb y 2).val = win0_2.index t (2 : Fin 3) * 512 + 1 * (y 2).val := rfl
  rw [hx, out_C m c t h1]
  refine (acc_sum m c A B hA hB (t.val / 4) t.val (by omega) t.isLt _ _).trans (Finset.sum_congr rfl fun k _ => congrArg₂ (fun u v : EReal => u * v) (congrArg (A k) ?_) (congrArg (B k) ?_))
  · show 1024 * (t.val / 4 / 4) + (y 1).val = (((cfg0.win 2).blk t).view.emb y 1).val
    rw [hb1, e1]; omega
  · show 512 * (t.val / 4 % 4) + (y 2).val = 512 * (((cfg0.win 2).blk t).view.emb y 0).val + (((cfg0.win 2).blk t).view.emb y 2).val % 512
    rw [hb0, hb2, e0, e2]; omega

theorem buffer (c : Dev nD) : V m c main_v0 = m ((c : Thread nD τ).loc main_arg2) := by
  show StableHlo.after hostOps0 (fun b => m (c, b)) (Proc.devRef .tc main_v0) = _
  after_results
  rfl

include hA hB in
theorem final_G : (dats m 0 c).arrAt 2 cfg0.N
    = fun i : S4x1024x1024.Idx => if (i 2).val / 512 = 0 then G A B i else (m ((c : Thread nD τ).loc main_arg2) : S4x1024x1024.Idx → EReal) i := by
  refine ((dats m 0 c).arrAt_eq_of_coversWhere (P := fun i : S4x1024x1024.Idx => (i 2).val / 512 = 0) 2 _ (fun β => β (2 : Fin 3) = 0) (by decide +kernel)
    (fun t hf y => at_flush m c A B hA hB t hf y) (fun j => by
      have h : (((cfg0.win 2).arr.view.emb j : S4x1024x1024.Idx) 2).val = (j (2 : Fin 3)).val := rfl
      exact iff_of_eq (congrArg (fun x => x / 512 = 0) h))).trans (funext fun i => ?_)
  exact congrArg (fun v : S4x1024x1024.Idx → EReal => if (i 2).val / 512 = 0 then G A B i else v i) (((A_eq m c 2).trans (buffer m c)))

end Cert.Kernel21Ideal.Mm

namespace Cert.Reference21Ideal.Mm

open Cert.Reference21Ideal Cert.Reference21Ideal.Gen Cert.Reference21Ideal.Read Cert.Mm
open Idealize.ShloMosaic Idealize.ShloMosaic.TcCoe Idealize.ShloMosaic.ValueIdx Idealize.SL.Sem
open Finset (range)

/-- The gradient in chunks. -/
theorem grad_at (x : FVec Ideal S2048x1024 .bf16) (y : FVec Ideal S2048x2048 .bf16) (A B : ℕ → ℕ → EReal)
    (hA : ∀ i, x i = A (i 0).val (i 1).val) (hB : ∀ i, y i = B (i 0).val (i 1).val) (i : S4x1024x512.Idx) :
    val_main_v10 (F := Ideal) x y i = ∑ k ∈ range 2048, A k (i 1).val * B k (512 * (i 0).val + (i 2).val) := by
  show val_main_v9 (F := Ideal) x y i = _
  have h0 : (i 0).val < 4 := (i 0).isLt
  have h1 : (i 1).val < 1024 := (i 1).isLt
  have h2 : (i 2).val < 512 := (i 2).isLt
  rw [val_main_v9_apply, val_main_v8_apply, val_main_v7_apply, val_main_v6_apply]
  refine Eq.trans ?_ (Finset.sum_range _).symm
  refine Finset.sum_congr rfl fun k _ => (mul_comm _ _).trans ?_
  refine congrArg₂ (fun u v : EReal => u * v) ((hA _).trans (congrArg (A k) ?_)) ((hB _).trans (congrArg (B k) ?_))
  · show (((i 1).val * 4 + (i 0).val) * 512 + (i 2).val) / 2048 = (i 1).val
    omega
  · show (((i 1).val * 4 + (i 0).val) * 512 + (i 2).val) % 2048 = 512 * (i 0).val + (i 2).val
    omega

theorem out_at (x : FVec Ideal S2048x1024 .bf16) (y : FVec Ideal S2048x2048 .bf16) (z : FVec Ideal S4x1024x1024 .bf16) (A B : ℕ → ℕ → EReal)
    (hA : ∀ i, x i = A (i 0).val (i 1).val) (hB : ∀ i, y i = B (i 0).val (i 1).val) (i : S4x1024x1024.Idx) :
    val_main_v12 (F := Ideal) x y z i = if (i 2).val / 512 = 0 then Cert.Kernel21Ideal.Mm.G A B i else z i := by
  have h0 : (i 0).val < 4 := (i 0).isLt
  have h1 : (i 1).val < 1024 := (i 1).isLt
  have h2 : (i 2).val < 1024 := (i 2).isLt
  unfold val_main_v12
  by_cases h : (i 2).val < 512
  · rw [if_pos (by omega)]
    refine (concatenate_pair_apply_left (t := S4x1024x1024) (s₁ := S4x1024x512) (s₂ := S4x1024x512) 2 _ _ _ i rfl (ix3 ⟨(i 0).val, h0⟩ ⟨(i 1).val, h1⟩ ⟨(i 2).val, by omega⟩) (fun b => by match b with | ⟨0, _⟩ => rfl | ⟨1, _⟩ => rfl | ⟨2, _⟩ => rfl)).trans ?_
    refine (grad_at x y A B hA hB _).trans (Finset.sum_congr rfl fun k _ => congrArg (fun l => A k (i 1).val * B k (512 * (i 0).val + l)) ?_)
    show (i 2).val = (i 2).val % 512
    omega
  · rw [if_neg (by omega)]
    refine (concatenate_pair_apply_right (t := S4x1024x1024) (s₁ := S4x1024x512) (s₂ := S4x1024x512) 2 _ _ _ i rfl rfl (ix3 ⟨(i 0).val, h0⟩ ⟨(i 1).val, h1⟩ ⟨(i 2).val - 512, by omega⟩) (fun b hb => by match b, hb with | ⟨0, _⟩, _ => rfl | ⟨1, _⟩, _ => rfl | ⟨2, _⟩, hb => exact absurd rfl hb) (by show (i 2).val - 512 + 512 = (i 2).val; omega)).trans ?_
    refine (val_main_v11_apply (F := Ideal) z _).trans (congrArg z (funext fun a => Fin.ext ?_))
    match a with
    | ⟨0, _⟩ => rfl
    | ⟨1, _⟩ => rfl
    | ⟨2, _⟩ => show 512 + ((i 2).val - 512) = (i 2).val; omega

end Cert.Reference21Ideal.Mm

namespace Cert.Proof.P21

open Idealize.ShloMosaic Idealize.SL.Sem

theorem frame_kernel : Cert.quiescent_Kernel21 := fun m ρ _ => Cert.Kernel21.Gen.frame m ρ

theorem frame_ideal : Cert.quiescent_Kernel21Ideal := fun m ρ _ => Cert.Kernel21Ideal.Gen.frame m ρ

theorem frame_reference : Cert.quiescent_Reference21Ideal := fun m ρ _ =>
  (θ_run Cert.Reference21Ideal.defs _ _).mono
    (fun _ h => ⟨fun c => (h c).2, sem_eq_zero_of_no_sems (by decide) _⟩) (Cert.Reference21Ideal.Value.run m ρ)

theorem algebraic : Cert.algebraic_Kernel21Ideal_Reference21Ideal := by
  intro m g m' g' _ harg
  refine ⟨fun c => (Cert.Kernel21Ideal.Gen.dats m 0 c).arrAt 2 Cert.Kernel21Ideal.cfg0.N, Cert.Kernel21Ideal.Value.run_blocks m g, ?_⟩
  refine (θ_run Cert.Reference21Ideal.defs _ _).mono (fun r h c => ?_) (Cert.Reference21Ideal.Value.run m' g')
  obtain ⟨e, k⟩ := h c
  rw [Cert.Reference21Ideal.Read.val_main_v12_eq, (harg c).1, (harg c).2.1, (harg c).2.2] at e
  obtain ⟨A, hA⟩ := Cert.Mm.exists_nat2 (m ((c.tc : Thread Cert.Kernel21Ideal.nD Cert.Kernel21Ideal.τ).loc Cert.Kernel21Ideal.main_arg0) : Cert.Kernel21Ideal.S2048x1024.Idx → EReal)
  obtain ⟨B, hB⟩ := Cert.Mm.exists_nat2 (m ((c.tc : Thread Cert.Kernel21Ideal.nD Cert.Kernel21Ideal.τ).loc Cert.Kernel21Ideal.main_arg1) : Cert.Kernel21Ideal.S2048x2048.Idx → EReal)
  exact ⟨e.trans ((funext fun i => Cert.Reference21Ideal.Mm.out_at _ _ _ A B hA hB i).trans (Cert.Kernel21Ideal.Mm.final_G m c A B hA hB).symm), k⟩

end Cert.Proof.P21

end
-- ==== Proof.Mm.P22.lean ====
/-
  The gradient of the second branch's weights, written over the second half of each chunk of a stack: each run of 4 grid points adds up one block of the product.
-/
module

public import proofs.«01_k».proof.Defs
public import proofs.«01_k».proof.Proof.Mm.Sums
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import Idealize.ShloMosaic.Lib.Quiescent
public import Idealize.ShloMosaic.Lib.Pipeline.ValueKit.Partial
public import Idealize.ShloMosaic.Lib.Pipeline.ReadBack

@[expose] public section

noncomputable section

namespace Cert.Kernel22Ideal.Mm

open Cert.Kernel22Ideal Cert.Kernel22Ideal.Gen Cert.Kernel22Ideal.Value Cert.Mm
open Idealize.ShloMosaic Idealize.ShloMosaic.TcCoe Idealize.ShloMosaic.ValueIdx Idealize.SL.Sem
open Finset (range)

theorem step (acc : Vec Ideal S1024x512 .f32) (x : Vec Ideal S512x1024 .f32) (y : Vec Ideal S512x512 .bf16) (r : Fin 1024) (c : Fin 512) :
    k0_pay2 acc x y (ix2 r c) = acc (ix2 r c) + ∑ k : Fin 512, x (ix2 k r) * y (ix2 k c) := by
  unfold k0_pay2
  simp only [shapeCast_self]
  exact congrArg (fun v : EReal => acc (ix2 r c) + v) (entry_tn x y r c)

theorem start (r : Fin 1024) (c : Fin 512) : k0_pay1 (F := Ideal) (ix2 r c) = 0 := by
  unfold k0_pay1
  simp only [shapeCast_self]
  exact Ideal.ofBits_zero_f32

theorem idx0 : ∀ t : Fin grid0.N, win0_0.index t (0 : Fin 2) = t.val % 4 ∧ win0_0.index t (1 : Fin 2) = t.val / 4 / 4 := by decide +kernel
theorem idx1 : ∀ t : Fin grid0.N, win0_1.index t (0 : Fin 2) = t.val % 4 ∧ win0_1.index t (1 : Fin 2) = t.val / 4 % 4 := by decide +kernel

variable (m : (ℓ : Loc nD τ sig) → Buf (Elt Ideal) ℓ) (c : Dev nD) (A : ℕ → ℕ → EReal) (B : ℕ → ℕ → EReal)
  (hA : ∀ i, (m ((c : Thread nD τ).loc main_arg0) : S2048x1024.Idx → EReal) i = A (i 0).val (i 1).val)
  (hB : ∀ i, (m ((c : Thread nD τ).loc main_arg1) : S2048x2048.Idx → EReal) i = B (i 0).val (i 1).val)

/-- The block of the left operand at point `t`. -/
abbrev left (t : Fin cfg0.N) : S512x1024.Idx → EReal := iblk m c 0 t

/-- The block of the right operand at point `t`. -/
abbrev right (t : Fin cfg0.N) : S512x512.Idx → EReal := iblk m c 1 t

include hA in
theorem block0 (t : Fin cfg0.N) (r : Fin 1024) (k : Fin 512) :
    left m c t (ix2 k r) = A (t.val % 4 * 512 + k.val) (1024 * (t.val / 4 / 4) + r.val) := by
  unfold left iblk
  rw [View.read_apply]
  show V m c main_arg0 _ = _
  rw [V_main_arg0]
  refine (hA _).trans (congrArg₂ A ?_ ?_)
  · show win0_0.index t (0 : Fin 2) * 512 + 1 * k.val = _
    rw [(idx0 t).1]; omega
  · show win0_0.index t (1 : Fin 2) * 1024 + 1 * r.val = _
    rw [(idx0 t).2]; omega

include hB in
theorem block1 (t : Fin cfg0.N) (j : Fin 512) (k : Fin 512) :
    right m c t (ix2 k j) = B (t.val % 4 * 512 + k.val) (512 * (t.val / 4 % 4) + j.val) := by
  unfold right iblk
  rw [View.read_apply]
  show V m c main_arg1 _ = _
  rw [V_main_arg1]
  refine (hB _).trans (congrArg₂ B ?_ ?_)
  · show win0_1.index t (0 : Fin 2) * 512 + 1 * k.val = _
    rw [(idx1 t).1]; omega
  · show win0_1.index t (1 : Fin 2) * 512 + 1 * j.val = _
    rw [(idx1 t).2]; omega

theorem first (t : Fin cfg0.N) (h0 : t.val % 4 = 0) (r : Fin 1024) (j : Fin 512) :
    (outsAt0 m c t.val t.isLt).2 (ix2 r j) = ∑ k : Fin 512, left m c t (ix2 k r) * right m c t (ix2 k j) := by
  rw [outsAt0_A m c t h0 (by omega)]
  frame_out
  rw [step, start, zero_add]

theorem next (t : Fin cfg0.N) (h0 : ¬t.val % 4 = 0) (r : Fin 1024) (j : Fin 512) :
    (outsAt0 m c t.val t.isLt).2 (ix2 r j) = (outsAt0 m c (t.val - 1) (Nat.lt_of_le_of_lt (Nat.sub_le _ _) t.isLt)).2 (ix2 r j)
      + ∑ k : Fin 512, left m c t (ix2 k r) * right m c t (ix2 k j) := by
  by_cases h1 : t.val % 4 = 3
  · rw [outsAt0_C m c t h0 h1]
    frame_out
    rw [read_unread_whole, step]
  · rw [outsAt0_B m c t h0 h1]
    frame_out
    rw [read_unread_whole, step]

include hA hB in
theorem acc_sum (q n : ℕ) (hq : n = 4 * q + (4 - 1)) (h : n < cfg0.N) (r : Fin 1024) (j : Fin 512) :
    (outsAt0 m c n h).2 (ix2 r j) = ∑ k ∈ range (4 * 512), A k (1024 * (q / 4) + r.val) * B k (512 * (q % 4) + j.val) :=
  tiled 4 4 (by decide) (fun i k => A k i) (fun j k => B k j) (fun t r k => left m c t (ix2 k r)) (fun t j k => right m c t (ix2 k j))
    (fun n h r j => (outsAt0 m c n h).2 (ix2 r j)) (block0 m c A hA) (block1 m c B hB) (first m c) (next m c) q n hq h r j

theorem stack (v : Vec Ideal S1024x512 .f32) (r : Fin 1024) (j : Fin 512) :
    (k0_pay3 v : S1x1024x512.Idx → EReal) (ix3 0 r j) = (v : S1024x512.Idx → EReal) (ix2 r j) := by
  unfold k0_pay3
  exact stacked (truncf .bf16 (v : FVec Ideal S1024x512 .f32) bitsLt_bf16_f32 : FVec Ideal S1024x512 .bf16) _ r j

/-- At the last point of a run the output is the scratch. -/
theorem out_C (t : Fin cfg0.N) (h1 : t.val % 4 = 3) (r : Fin 1024) (j : Fin 512) :
    (outsAt0 m c t.val t.isLt).1 (ix3 0 r j) = (outsAt0 m c t.val t.isLt).2 (ix2 r j) := by
  rw [outsAt0_C m c t (by omega) h1]
  frame_out
  rw [stack]

/-- The gradient at an index of the stack of chunks. -/
abbrev G (A : ℕ → ℕ → EReal) (B : ℕ → ℕ → EReal) : S4x1024x1024.Idx → EReal := fun i =>
  ∑ k ∈ range 2048, A k (i 1).val * B k (512 * (i 0).val + (i 2).val % 512)

theorem idx2 : ∀ t : Fin grid0.N, win0_2.index t (0 : Fin 3) = t.val / 4 ∧ win0_2.index t (1 : Fin 3) = 0 ∧ win0_2.index t (2 : Fin 3) = 1 := by decide +kernel

include hA hB in
theorem at_flush (t : Fin cfg0.N) (hf : (cfg0.win 2).flush t = true) (y : S1x1024x512.Idx) :
    (outsAt0 m c t.val t.isLt).1 ((cfg0.win 2).xinj (grid0.coords t) y) = G A B (((cfg0.win 2).blk t).view.emb y) := by
  have h1 : t.val % 4 = 3 := (flush0_2 t).mp hf
  have hN : t.val < 16 := lt_of_lt_of_eq t.isLt (show cfg0.N = 16 from N_0)
  obtain ⟨e0, e1, e2⟩ := idx2 t
  have hy0 : (y 0).val < 1 := (y 0).isLt
  have hy1 : (y 1).val < 1024 := (y 1).isLt
  have hy2 : (y 2).val < 512 := (y 2).isLt
  have hx : (cfg0.win 2).xinj (grid0.coords t) y = ix3 0 ⟨(y 1).val, hy1⟩ ⟨(y 2).val, hy2⟩ := by
    funext a
    apply Fin.ext
    match a with
    | ⟨0, _⟩ => show (y 0).val = 0; omega
    | ⟨1, _⟩ => rfl
    | ⟨2, _⟩ => rfl
  have hb0 : (((cfg0.win 2).blk t).view.emb y 0).val = win0_2.index t (0 : Fin 3) * 1 + 1 * (y 0).val := rfl
  have hb1 : (((cfg0.win 2).blk t).view.emb y 1).val = win0_2.index t (1 : Fin 3) * 1024 + 1 * (y 1).val := rfl
  have hb2 : (((cfg0.win 2).blk t).view.emb y 2).val = win0_2.index t (2 : Fin 3) * 512 + 1 * (y 2).val := rfl
  rw [hx, out_C m c t h1]
  refine (acc_sum m c A B hA hB (t.val / 4) t.val (by omega) t.isLt _ _).trans (Finset.sum_congr rfl fun k _ => congrArg₂ (fun u v : EReal => u * v) (congrArg (A k) ?_) (congrArg (B k) ?_))
  · show 1024 * (t.val / 4 / 4) + (y 1).val = (((cfg0.win 2).blk t).view.emb y 1).val
    rw [hb1, e1]; omega
  · show 512 * (t.val / 4 % 4) + (y 2).val = 512 * (((cfg0.win 2).blk t).view.emb y 0).val + (((cfg0.win 2).blk t).view.emb y 2).val % 512
    rw [hb0, hb2, e0, e2]; omega

theorem buffer (c : Dev nD) : V m c main_v0 = m ((c : Thread nD τ).loc main_arg2) := by
  show StableHlo.after hostOps0 (fun b => m (c, b)) (Proc.devRef .tc main_v0) = _
  after_results
  rfl

include hA hB in
theorem final_G : (dats m 0 c).arrAt 2 cfg0.N
    = fun i : S4x1024x1024.Idx => if (i 2).val / 512 = 1 then G A B i else (m ((c : Thread nD τ).loc main_arg2) : S4x1024x1024.Idx → EReal) i := by
  refine ((dats m 0 c).arrAt_eq_of_coversWhere (P := fun i : S4x1024x1024.Idx => (i 2).val / 512 = 1) 2 _ (fun β => β (2 : Fin 3) = 1) (by decide +kernel)
    (fun t hf y => at_flush m c A B hA hB t hf y) (fun j => by
      have h : (((cfg0.win 2).arr.view.emb j : S4x1024x1024.Idx) 2).val = (j (2 : Fin 3)).val := rfl
      exact iff_of_eq (congrArg (fun x => x / 512 = 1) h))).trans (funext fun i => ?_)
  exact congrArg (fun v : S4x1024x1024.Idx → EReal => if (i 2).val / 512 = 1 then G A B i else v i) (((A_eq m c 2).trans (buffer m c)))

end Cert.Kernel22Ideal.Mm

namespace Cert.Reference22Ideal.Mm

open Cert.Reference22Ideal Cert.Reference22Ideal.Gen Cert.Reference22Ideal.Read Cert.Mm
open Idealize.ShloMosaic Idealize.ShloMosaic.TcCoe Idealize.ShloMosaic.ValueIdx Idealize.SL.Sem
open Finset (range)

/-- The gradient in chunks. -/
theorem grad_at (x : FVec Ideal S2048x1024 .f32) (y : FVec Ideal S2048x2048 .bf16) (A B : ℕ → ℕ → EReal)
    (hA : ∀ i, x i = A (i 0).val (i 1).val) (hB : ∀ i, y i = B (i 0).val (i 1).val) (i : S4x1024x512.Idx) :
    val_main_v10 (F := Ideal) x y i = ∑ k ∈ range 2048, A k (i 1).val * B k (512 * (i 0).val + (i 2).val) := by
  show val_main_v9 (F := Ideal) x y i = _
  have h0 : (i 0).val < 4 := (i 0).isLt
  have h1 : (i 1).val < 1024 := (i 1).isLt
  have h2 : (i 2).val < 512 := (i 2).isLt
  rw [val_main_v9_apply, val_main_v8_apply, val_main_v7_apply, val_main_v6_apply]
  refine Eq.trans ?_ (Finset.sum_range _).symm
  refine Finset.sum_congr rfl fun k _ => (mul_comm _ _).trans ?_
  refine congrArg₂ (fun u v : EReal => u * v) ((hA _).trans (congrArg (A k) ?_)) ((hB _).trans (congrArg (B k) ?_))
  · show (((i 1).val * 4 + (i 0).val) * 512 + (i 2).val) / 2048 = (i 1).val
    omega
  · show (((i 1).val * 4 + (i 0).val) * 512 + (i 2).val) % 2048 = 512 * (i 0).val + (i 2).val
    omega

theorem out_at (x : FVec Ideal S2048x1024 .f32) (y : FVec Ideal S2048x2048 .bf16) (z : FVec Ideal S4x1024x1024 .bf16) (A B : ℕ → ℕ → EReal)
    (hA : ∀ i, x i = A (i 0).val (i 1).val) (hB : ∀ i, y i = B (i 0).val (i 1).val) (i : S4x1024x1024.Idx) :
    val_main_v11 (F := Ideal) x y z i = if (i 2).val / 512 = 1 then Cert.Kernel22Ideal.Mm.G A B i else z i := by
  have h0 : (i 0).val < 4 := (i 0).isLt
  have h1 : (i 1).val < 1024 := (i 1).isLt
  have h2 : (i 2).val < 1024 := (i 2).isLt
  unfold val_main_v11
  by_cases h : (i 2).val < 512
  · rw [if_neg (by omega)]
    refine (concatenate_pair_apply_left (t := S4x1024x1024) (s₁ := S4x1024x512) (s₂ := S4x1024x512) 2 _ _ _ i rfl (ix3 ⟨(i 0).val, h0⟩ ⟨(i 1).val, h1⟩ ⟨(i 2).val, by omega⟩) (fun b => by match b with | ⟨0, _⟩ => rfl | ⟨1, _⟩ => rfl | ⟨2, _⟩ => rfl)).trans ?_
    refine (val_main_v0_apply (F := Ideal) z _).trans (congrArg z (funext fun a => Fin.ext ?_))
    match a with
    | ⟨0, _⟩ => rfl
    | ⟨1, _⟩ => rfl
    | ⟨2, _⟩ => rfl
  · rw [if_pos (by omega)]
    refine (concatenate_pair_apply_right (t := S4x1024x1024) (s₁ := S4x1024x512) (s₂ := S4x1024x512) 2 _ _ _ i rfl rfl (ix3 ⟨(i 0).val, h0⟩ ⟨(i 1).val, h1⟩ ⟨(i 2).val - 512, by omega⟩) (fun b hb => by match b, hb with | ⟨0, _⟩, _ => rfl | ⟨1, _⟩, _ => rfl | ⟨2, _⟩, hb => exact absurd rfl hb) (by show (i 2).val - 512 + 512 = (i 2).val; omega)).trans ?_
    refine (grad_at x y A B hA hB _).trans (Finset.sum_congr rfl fun k _ => congrArg (fun l => A k (i 1).val * B k (512 * (i 0).val + l)) ?_)
    show (i 2).val - 512 = (i 2).val % 512
    omega

end Cert.Reference22Ideal.Mm

namespace Cert.Proof.P22

open Idealize.ShloMosaic Idealize.SL.Sem

theorem frame_kernel : Cert.quiescent_Kernel22 := fun m ρ _ => Cert.Kernel22.Gen.frame m ρ

theorem frame_ideal : Cert.quiescent_Kernel22Ideal := fun m ρ _ => Cert.Kernel22Ideal.Gen.frame m ρ

theorem frame_reference : Cert.quiescent_Reference22Ideal := fun m ρ _ =>
  (θ_run Cert.Reference22Ideal.defs _ _).mono
    (fun _ h => ⟨fun c => (h c).2, sem_eq_zero_of_no_sems (by decide) _⟩) (Cert.Reference22Ideal.Value.run m ρ)

theorem algebraic : Cert.algebraic_Kernel22Ideal_Reference22Ideal := by
  intro m g m' g' _ harg
  refine ⟨fun c => (Cert.Kernel22Ideal.Gen.dats m 0 c).arrAt 2 Cert.Kernel22Ideal.cfg0.N, Cert.Kernel22Ideal.Value.run_blocks m g, ?_⟩
  refine (θ_run Cert.Reference22Ideal.defs _ _).mono (fun r h c => ?_) (Cert.Reference22Ideal.Value.run m' g')
  obtain ⟨e, k⟩ := h c
  rw [Cert.Reference22Ideal.Read.val_main_v11_eq, (harg c).1, (harg c).2.1, (harg c).2.2] at e
  obtain ⟨A, hA⟩ := Cert.Mm.exists_nat2 (m ((c.tc : Thread Cert.Kernel22Ideal.nD Cert.Kernel22Ideal.τ).loc Cert.Kernel22Ideal.main_arg0) : Cert.Kernel22Ideal.S2048x1024.Idx → EReal)
  obtain ⟨B, hB⟩ := Cert.Mm.exists_nat2 (m ((c.tc : Thread Cert.Kernel22Ideal.nD Cert.Kernel22Ideal.τ).loc Cert.Kernel22Ideal.main_arg1) : Cert.Kernel22Ideal.S2048x2048.Idx → EReal)
  exact ⟨e.trans ((funext fun i => Cert.Reference22Ideal.Mm.out_at _ _ _ A B hA hB i).trans (Cert.Kernel22Ideal.Mm.final_G m c A B hA hB).symm), k⟩

end Cert.Proof.P22

end
-- ==== Proof.lean ====
/-
  The certificate from its parts: the backward passes of the two attentions, the gates and the products
  of the projection and feed-forward layers.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Sb.Final
public import proofs.«01_k».proof.Proof.Mm.P2
public import proofs.«01_k».proof.Proof.Mm.P3
public import proofs.«01_k».proof.Proof.Mm.P4
public import proofs.«01_k».proof.Proof.Mm.P5
public import proofs.«01_k».proof.Proof.Mm.P6
public import proofs.«01_k».proof.Proof.Mm.P7
public import proofs.«01_k».proof.Proof.Mm.P8
public import proofs.«01_k».proof.Proof.Mm.P9
public import proofs.«01_k».proof.Proof.Mm.P10
public import proofs.«01_k».proof.Proof.Mm.P11
public import proofs.«01_k».proof.Proof.Mm.P12
public import proofs.«01_k».proof.Proof.Mm.P13
public import proofs.«01_k».proof.Proof.Mm.P14
public import proofs.«01_k».proof.Proof.Mm.P15
public import proofs.«01_k».proof.Proof.Mm.P16
public import proofs.«01_k».proof.Proof.Mm.P17
public import proofs.«01_k».proof.Proof.Mm.P18
public import proofs.«01_k».proof.Proof.Fox.Final
public import proofs.«01_k».proof.Proof.Mm.P20
public import proofs.«01_k».proof.Proof.Mm.P21
public import proofs.«01_k».proof.Proof.Mm.P22

@[expose] public section

noncomputable section

namespace Cert.Proof

/-- Every program keeps its frame, and every kernel computes what its reference computes. -/
theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Pre_finite.Gen.facts, P7.facts, Fox.facts,
  Sb.frame_kernel, Sb.frame_ideal, Sb.frame_ideal_finite, Sb.frame_reference,
  Sb.frame_reference_finite, P2.frame_kernel, P2.frame_ideal, P2.frame_reference, P3.frame_kernel,
  P3.frame_ideal, P3.frame_reference, P4.frame_kernel, P4.frame_ideal, P4.frame_reference,
  P5.frame_kernel, P5.frame_ideal, P5.frame_reference, P6.frame_kernel, P6.frame_ideal,
  P6.frame_reference, P7.frame_kernel, P7.frame_ideal, P7.frame_ideal_finite, P7.frame_reference,
  P7.frame_reference_finite, P8.frame_kernel, P8.frame_ideal, P8.frame_reference, P9.frame_kernel,
  P9.frame_ideal, P9.frame_reference, P10.frame_kernel, P10.frame_ideal, P10.frame_reference,
  P11.frame_kernel, P11.frame_ideal, P11.frame_reference, P12.frame_kernel, P12.frame_ideal,
  P12.frame_reference, P13.frame_kernel, P13.frame_ideal, P13.frame_reference, P14.frame_kernel,
  P14.frame_ideal, P14.frame_reference, P15.frame_kernel, P15.frame_ideal, P15.frame_reference,
  P16.frame_kernel, P16.frame_ideal, P16.frame_reference, P17.frame_kernel, P17.frame_ideal,
  P17.frame_reference, P18.frame_kernel, P18.frame_ideal, P18.frame_reference, Fox.frame_kernel,
  Fox.frame_ideal, Fox.frame_ideal_finite, Fox.frame_reference, Fox.frame_reference_finite,
  P20.frame_kernel, P20.frame_ideal, P20.frame_reference, P21.frame_kernel, P21.frame_ideal,
  P21.frame_reference, P22.frame_kernel, P22.frame_ideal, P22.frame_reference,
  trivial, Sb.algebraic, trivial, P2.algebraic, trivial, P3.algebraic, trivial, P4.algebraic,
  trivial, P5.algebraic, trivial, P6.algebraic, trivial, P7.algebraic, trivial, P8.algebraic,
  trivial, P9.algebraic, trivial, P10.algebraic, trivial, P11.algebraic, trivial, P12.algebraic,
  trivial, P13.algebraic, trivial, P14.algebraic, trivial, P15.algebraic, trivial, P16.algebraic,
  trivial, P17.algebraic, trivial, P18.algebraic, trivial, Fox.algebraic, trivial, P20.algebraic,
  trivial, P21.algebraic, trivial, P22.algebraic⟩

end Cert.Proof

end
